-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_FfnW (m : (ℓ : Loc Cert.FfnW.nD Cert.FfnW.τ Cert.FfnW.sig) → Buf (Elt Bits) ℓ) : Prop :=
  True

def Pre_FfnWIdeal (m : (ℓ : Loc Cert.FfnWIdeal.nD Cert.FfnWIdeal.τ Cert.FfnWIdeal.sig) → Buf (Elt Ideal) ℓ) : Prop :=
  True

def Pre_FfnWRefIdeal (m : (ℓ : Loc Cert.FfnWRefIdeal.nD Cert.FfnWRefIdeal.τ Cert.FfnWRefIdeal.sig) → Buf (Elt Ideal) ℓ) : Prop :=
  True

def Pre_Bounds (m : (ℓ : Loc Cert.Bounds.nD Cert.Bounds.τ Cert.Bounds.sig) → Buf (Elt Bits) ℓ) : Prop :=
  True

def Pre_BoundsIdeal (m : (ℓ : Loc Cert.BoundsIdeal.nD Cert.BoundsIdeal.τ Cert.BoundsIdeal.sig) → Buf (Elt Ideal) ℓ) : Prop :=
  True

def Pre_BoundsIdeal_bounds_finite [hPre_bounds_finite : Cert.Pre_bounds_finite.Facts] (m : (ℓ : Loc Cert.BoundsIdeal.nD Cert.BoundsIdeal.τ Cert.BoundsIdeal.sig) → Buf (Elt Ideal) ℓ) : Prop :=
  ∀ c : Dev Cert.BoundsIdeal.nD,
    (Cert.Pre_bounds_finite.fn (F := Ideal) (m ((c.tc : Thread Cert.BoundsIdeal.nD Cert.BoundsIdeal.τ).loc Cert.BoundsIdeal.main_arg0)) (m ((c.tc : Thread Cert.BoundsIdeal.nD Cert.BoundsIdeal.τ).loc Cert.BoundsIdeal.main_arg1))) = (fun _ => 1#1)

def Pre_BoundsRefIdeal (m : (ℓ : Loc Cert.BoundsRefIdeal.nD Cert.BoundsRefIdeal.τ Cert.BoundsRefIdeal.sig) → Buf (Elt Ideal) ℓ) : Prop :=
  True

def Pre_BoundsRefIdeal_bounds_finite [hPre_bounds_finite : Cert.Pre_bounds_finite.Facts] (m : (ℓ : Loc Cert.BoundsRefIdeal.nD Cert.BoundsRefIdeal.τ Cert.BoundsRefIdeal.sig) → Buf (Elt Ideal) ℓ) : Prop :=
  ∀ c : Dev Cert.BoundsRefIdeal.nD,
    (Cert.Pre_bounds_finite.fn (F := Ideal) (m ((c.tc : Thread Cert.BoundsRefIdeal.nD Cert.BoundsRefIdeal.τ).loc Cert.BoundsRefIdeal.main_arg0)) (m ((c.tc : Thread Cert.BoundsRefIdeal.nD Cert.BoundsRefIdeal.τ).loc Cert.BoundsRefIdeal.main_arg1))) = (fun _ => 1#1)

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguIdeal_sgu_finite [hPre_sgu_finite : Cert.Pre_sgu_finite.Facts] (m : (ℓ : Loc Cert.SguIdeal.nD Cert.SguIdeal.τ Cert.SguIdeal.sig) → Buf (Elt Ideal) ℓ) : Prop :=
  ∀ c : Dev Cert.SguIdeal.nD,
    (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5))) = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_sgu_finite [hPre_sgu_finite : Cert.Pre_sgu_finite.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))) = (fun _ => 1#1)

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruIdeal_lru_domain [hPre_lru_domain : Cert.Pre_lru_domain.Facts] (m : (ℓ : Loc Cert.LruIdeal.nD Cert.LruIdeal.τ Cert.LruIdeal.sig) → Buf (Elt Ideal) ℓ) : Prop :=
  ∀ c : Dev Cert.LruIdeal.nD,
    (Cert.Pre_lru_domain.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))) = (fun _ => 1#1)

def Pre_LruRefIdeal (m : (ℓ : Loc Cert.LruRefIdeal.nD Cert.LruRefIdeal.τ Cert.LruRefIdeal.sig) → Buf (Elt Ideal) ℓ) : Prop :=
  True

def Pre_LruRefIdeal_lru_domain [hPre_lru_domain : Cert.Pre_lru_domain.Facts] (m : (ℓ : Loc Cert.LruRefIdeal.nD Cert.LruRefIdeal.τ Cert.LruRefIdeal.sig) → Buf (Elt Ideal) ℓ) : Prop :=
  ∀ c : Dev Cert.LruRefIdeal.nD,
    (Cert.Pre_lru_domain.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8)) (m ((c.tc : Thread Cert.LruRefIdeal.nD Cert.LruRefIdeal.τ).loc Cert.LruRefIdeal.main_arg9)) (m ((c.tc : Thread Cert.LruRefIdeal.nD Cert.LruRefIdeal.τ).loc Cert.LruRefIdeal.main_arg10))) = (fun _ => 1#1)

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdIdeal_sgu_fwd_finite [hPre_sgu_fwd_finite : Cert.Pre_sgu_fwd_finite.Facts] (m : (ℓ : Loc Cert.SguFwdIdeal.nD Cert.SguFwdIdeal.τ Cert.SguFwdIdeal.sig) → Buf (Elt Ideal) ℓ) : Prop :=
  ∀ c : Dev Cert.SguFwdIdeal.nD,
    (Cert.Pre_sgu_fwd_finite.fn (F := Ideal) (m ((c.tc : Thread Cert.SguFwdIdeal.nD Cert.SguFwdIdeal.τ).loc Cert.SguFwdIdeal.main_arg0)) (m ((c.tc : Thread Cert.SguFwdIdeal.nD Cert.SguFwdIdeal.τ).loc Cert.SguFwdIdeal.main_arg1)) (m ((c.tc : Thread Cert.SguFwdIdeal.nD Cert.SguFwdIdeal.τ).loc Cert.SguFwdIdeal.main_arg2)) (m ((c.tc : Thread Cert.SguFwdIdeal.nD Cert.SguFwdIdeal.τ).loc Cert.SguFwdIdeal.main_arg3))) = (fun _ => 1#1)

def Pre_SguFwdRefIdeal (m : (ℓ : Loc Cert.SguFwdRefIdeal.nD Cert.SguFwdRefIdeal.τ Cert.SguFwdRefIdeal.sig) → Buf (Elt Ideal) ℓ) : Prop :=
  True

def Pre_SguFwdRefIdeal_sgu_fwd_finite [hPre_sgu_fwd_finite : Cert.Pre_sgu_fwd_finite.Facts] (m : (ℓ : Loc Cert.SguFwdRefIdeal.nD Cert.SguFwdRefIdeal.τ Cert.SguFwdRefIdeal.sig) → Buf (Elt Ideal) ℓ) : Prop :=
  ∀ c : Dev Cert.SguFwdRefIdeal.nD,
    (Cert.Pre_sgu_fwd_finite.fn (F := Ideal) (m ((c.tc : Thread Cert.SguFwdRefIdeal.nD Cert.SguFwdRefIdeal.τ).loc Cert.SguFwdRefIdeal.main_arg0)) (m ((c.tc : Thread Cert.SguFwdRefIdeal.nD Cert.SguFwdRefIdeal.τ).loc Cert.SguFwdRefIdeal.main_arg1)) (m ((c.tc : Thread Cert.SguFwdRefIdeal.nD Cert.SguFwdRefIdeal.τ).loc Cert.SguFwdRefIdeal.main_arg2)) (m ((c.tc : Thread Cert.SguFwdRefIdeal.nD Cert.SguFwdRefIdeal.τ).loc Cert.SguFwdRefIdeal.main_arg3))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnW [hFfnW : Cert.FfnW.Facts] : Prop :=
  ∀ (m : (ℓ : Loc Cert.FfnW.nD Cert.FfnW.τ Cert.FfnW.sig) → Buf (Elt Bits) ℓ) (g : Dev Cert.FfnW.nD → PrngReg), Pre_FfnW m →
    θ_run (Cert.FfnW.defs (F := Bits)) (onTc (τ := Cert.FfnW.τ) (Cert.FfnW.main (F := Bits))) ⟨m, fun _ => 0, g⟩ (fun r => (∀ c : Dev Cert.FfnW.nD,
      r.2.mem ((c.tc : Thread Cert.FfnW.nD Cert.FfnW.τ).loc Cert.FfnW.main_arg0) = m ((c.tc : Thread Cert.FfnW.nD Cert.FfnW.τ).loc Cert.FfnW.main_arg0)
      ∧ r.2.mem ((c.tc : Thread Cert.FfnW.nD Cert.FfnW.τ).loc Cert.FfnW.main_arg1) = m ((c.tc : Thread Cert.FfnW.nD Cert.FfnW.τ).loc Cert.FfnW.main_arg1)
      ∧ r.2.mem ((c.tc : Thread Cert.FfnW.nD Cert.FfnW.τ).loc Cert.FfnW.main_arg2) = m ((c.tc : Thread Cert.FfnW.nD Cert.FfnW.τ).loc Cert.FfnW.main_arg2)
      ∧ r.2.mem ((c.tc : Thread Cert.FfnW.nD Cert.FfnW.τ).loc Cert.FfnW.main_arg3) = m ((c.tc : Thread Cert.FfnW.nD Cert.FfnW.τ).loc Cert.FfnW.main_arg3)
      ∧ r.2.mem ((c.tc : Thread Cert.FfnW.nD Cert.FfnW.τ).loc Cert.FfnW.main_arg4) = m ((c.tc : Thread Cert.FfnW.nD Cert.FfnW.τ).loc Cert.FfnW.main_arg4)
      ∧ r.2.mem ((c.tc : Thread Cert.FfnW.nD Cert.FfnW.τ).loc Cert.FfnW.main_arg5) = m ((c.tc : Thread Cert.FfnW.nD Cert.FfnW.τ).loc Cert.FfnW.main_arg5))
      ∧ r.2.sem = fun _ => 0)

def quiescent_FfnWIdeal [hFfnWIdeal : Cert.FfnWIdeal.Facts] : Prop :=
  ∀ (m : (ℓ : Loc Cert.FfnWIdeal.nD Cert.FfnWIdeal.τ Cert.FfnWIdeal.sig) → Buf (Elt Ideal) ℓ) (g : Dev Cert.FfnWIdeal.nD → PrngReg), Pre_FfnWIdeal m →
    θ_run (Cert.FfnWIdeal.defs (F := Ideal)) (onTc (τ := Cert.FfnWIdeal.τ) (Cert.FfnWIdeal.main (F := Ideal))) ⟨m, fun _ => 0, g⟩ (fun r => (∀ c : Dev Cert.FfnWIdeal.nD,
      r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
      ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
      ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
      ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3)
      ∧ r.2.mem ((c.tc : Thread Cert.FfnWIdeal.nD Cert.FfnWIdeal.τ).loc Cert.FfnWIdeal.main_arg4) = m ((c.tc : Thread Cert.FfnWIdeal.nD Cert.FfnWIdeal.τ).loc Cert.FfnWIdeal.main_arg4)
      ∧ r.2.mem ((c.tc : Thread Cert.FfnWIdeal.nD Cert.FfnWIdeal.τ).loc Cert.FfnWIdeal.main_arg5) = m ((c.tc : Thread Cert.FfnWIdeal.nD Cert.FfnWIdeal.τ).loc Cert.FfnWIdeal.main_arg5))
      ∧ r.2.sem = fun _ => 0)

def quiescent_FfnWRefIdeal [hFfnWRefIdeal : Cert.FfnWRefIdeal.Facts] : Prop :=
  ∀ (m : (ℓ : Loc Cert.FfnWRefIdeal.nD Cert.FfnWRefIdeal.τ Cert.FfnWRefIdeal.sig) → Buf (Elt Ideal) ℓ) (g : Dev Cert.FfnWRefIdeal.nD → PrngReg), Pre_FfnWRefIdeal m →
    θ_run (Cert.FfnWRefIdeal.defs (F := Ideal)) (onTc (τ := Cert.FfnWRefIdeal.τ) (Cert.FfnWRefIdeal.main (F := Ideal))) ⟨m, fun _ => 0, g⟩ (fun r => (∀ c : Dev Cert.FfnWRefIdeal.nD,
      r.2.mem ((c.tc : Thread Cert.FfnWRefIdeal.nD Cert.FfnWRefIdeal.τ).loc Cert.FfnWRefIdeal.main_arg0) = m ((c.tc : Thread Cert.FfnWRefIdeal.nD Cert.FfnWRefIdeal.τ).loc Cert.FfnWRefIdeal.main_arg0)
      ∧ r.2.mem ((c.tc : Thread Cert.FfnWRefIdeal.nD Cert.FfnWRefIdeal.τ).loc Cert.FfnWRefIdeal.main_arg1) = m ((c.tc : Thread Cert.FfnWRefIdeal.nD Cert.FfnWRefIdeal.τ).loc Cert.FfnWRefIdeal.main_arg1)
      ∧ r.2.mem ((c.tc : Thread Cert.FfnWRefIdeal.nD Cert.FfnWRefIdeal.τ).loc Cert.FfnWRefIdeal.main_arg2) = m ((c.tc : Thread Cert.FfnWRefIdeal.nD Cert.FfnWRefIdeal.τ).loc Cert.FfnWRefIdeal.main_arg2)
      ∧ r.2.mem ((c.tc : Thread Cert.FfnWRefIdeal.nD Cert.FfnWRefIdeal.τ).loc Cert.FfnWRefIdeal.main_arg3) = m ((c.tc : Thread Cert.FfnWRefIdeal.nD Cert.FfnWRefIdeal.τ).loc Cert.FfnWRefIdeal.main_arg3)
      ∧ r.2.mem ((c.tc : Thread Cert.FfnWRefIdeal.nD Cert.FfnWRefIdeal.τ).loc Cert.FfnWRefIdeal.main_arg4) = m ((c.tc : Thread Cert.FfnWRefIdeal.nD Cert.FfnWRefIdeal.τ).loc Cert.FfnWRefIdeal.main_arg4)
      ∧ r.2.mem ((c.tc : Thread Cert.FfnWRefIdeal.nD Cert.FfnWRefIdeal.τ).loc Cert.FfnWRefIdeal.main_arg5) = m ((c.tc : Thread Cert.FfnWRefIdeal.nD Cert.FfnWRefIdeal.τ).loc Cert.FfnWRefIdeal.main_arg5))
      ∧ r.2.sem = fun _ => 0)

def quiescent_Bounds [hBounds : Cert.Bounds.Facts] : Prop :=
  ∀ (m : (ℓ : Loc Cert.Bounds.nD Cert.Bounds.τ Cert.Bounds.sig) → Buf (Elt Bits) ℓ) (g : Dev Cert.Bounds.nD → PrngReg), Pre_Bounds m →
    θ_run (Cert.Bounds.defs (F := Bits)) (onTc (τ := Cert.Bounds.τ) (Cert.Bounds.main (F := Bits))) ⟨m, fun _ => 0, g⟩ (fun r => (∀ c : Dev Cert.Bounds.nD,
      r.2.mem ((c.tc : Thread Cert.Bounds.nD Cert.Bounds.τ).loc Cert.Bounds.main_arg0) = m ((c.tc : Thread Cert.Bounds.nD Cert.Bounds.τ).loc Cert.Bounds.main_arg0)
      ∧ r.2.mem ((c.tc : Thread Cert.Bounds.nD Cert.Bounds.τ).loc Cert.Bounds.main_arg1) = m ((c.tc : Thread Cert.Bounds.nD Cert.Bounds.τ).loc Cert.Bounds.main_arg1))
      ∧ r.2.sem = fun _ => 0)

def quiescent_BoundsIdeal [hBoundsIdeal : Cert.BoundsIdeal.Facts] : Prop :=
  ∀ (m : (ℓ : Loc Cert.BoundsIdeal.nD Cert.BoundsIdeal.τ Cert.BoundsIdeal.sig) → Buf (Elt Ideal) ℓ) (g : Dev Cert.BoundsIdeal.nD → PrngReg), Pre_BoundsIdeal m →
    θ_run (Cert.BoundsIdeal.defs (F := Ideal)) (onTc (τ := Cert.BoundsIdeal.τ) (Cert.BoundsIdeal.main (F := Ideal))) ⟨m, fun _ => 0, g⟩ (fun r => (∀ c : Dev Cert.BoundsIdeal.nD,
      r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0)
      ∧ r.2.mem ((c.tc : Thread Cert.BoundsIdeal.nD Cert.BoundsIdeal.τ).loc Cert.BoundsIdeal.main_arg1) = m ((c.tc : Thread Cert.BoundsIdeal.nD Cert.BoundsIdeal.τ).loc Cert.BoundsIdeal.main_arg1))
      ∧ r.2.sem = fun _ => 0)

def quiescent_BoundsIdeal_pre_bounds_finite [hBoundsIdeal : Cert.BoundsIdeal.Facts] [hPre_bounds_finite : Cert.Pre_bounds_finite.Facts] : Prop :=
  ∀ (m : (ℓ : Loc Cert.BoundsIdeal.nD Cert.BoundsIdeal.τ Cert.BoundsIdeal.sig) → Buf (Elt Ideal) ℓ) (g : Dev Cert.BoundsIdeal.nD → PrngReg), Pre_BoundsIdeal_bounds_finite m →
    θ_run (Cert.BoundsIdeal.defs (F := Ideal)) (onTc (τ := Cert.BoundsIdeal.τ) (Cert.BoundsIdeal.main (F := Ideal))) ⟨m, fun _ => 0, g⟩ (fun r => (∀ c : Dev Cert.BoundsIdeal.nD,
      r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0)
      ∧ r.2.mem ((c.tc : Thread Cert.BoundsIdeal.nD Cert.BoundsIdeal.τ).loc Cert.BoundsIdeal.main_arg1) = m ((c.tc : Thread Cert.BoundsIdeal.nD Cert.BoundsIdeal.τ).loc Cert.BoundsIdeal.main_arg1))
      ∧ r.2.sem = fun _ => 0)

def quiescent_BoundsRefIdeal [hBoundsRefIdeal : Cert.BoundsRefIdeal.Facts] : Prop :=
  ∀ (m : (ℓ : Loc Cert.BoundsRefIdeal.nD Cert.BoundsRefIdeal.τ Cert.BoundsRefIdeal.sig) → Buf (Elt Ideal) ℓ) (g : Dev Cert.BoundsRefIdeal.nD → PrngReg), Pre_BoundsRefIdeal m →
    θ_run (Cert.BoundsRefIdeal.defs (F := Ideal)) (onTc (τ := Cert.BoundsRefIdeal.τ) (Cert.BoundsRefIdeal.main (F := Ideal))) ⟨m, fun _ => 0, g⟩ (fun r => (∀ c : Dev Cert.BoundsRefIdeal.nD,
      r.2.mem ((c.tc : Thread Cert.BoundsRefIdeal.nD Cert.BoundsRefIdeal.τ).loc Cert.BoundsRefIdeal.main_arg0) = m ((c.tc : Thread Cert.BoundsRefIdeal.nD Cert.BoundsRefIdeal.τ).loc Cert.BoundsRefIdeal.main_arg0)
      ∧ r.2.mem ((c.tc : Thread Cert.BoundsRefIdeal.nD Cert.BoundsRefIdeal.τ).loc Cert.BoundsRefIdeal.main_arg1) = m ((c.tc : Thread Cert.BoundsRefIdeal.nD Cert.BoundsRefIdeal.τ).loc Cert.BoundsRefIdeal.main_arg1))
      ∧ r.2.sem = fun _ => 0)

def quiescent_BoundsRefIdeal_pre_bounds_finite [hBoundsRefIdeal : Cert.BoundsRefIdeal.Facts] [hPre_bounds_finite : Cert.Pre_bounds_finite.Facts] : Prop :=
  ∀ (m : (ℓ : Loc Cert.BoundsRefIdeal.nD Cert.BoundsRefIdeal.τ Cert.BoundsRefIdeal.sig) → Buf (Elt Ideal) ℓ) (g : Dev Cert.BoundsRefIdeal.nD → PrngReg), Pre_BoundsRefIdeal_bounds_finite m →
    θ_run (Cert.BoundsRefIdeal.defs (F := Ideal)) (onTc (τ := Cert.BoundsRefIdeal.τ) (Cert.BoundsRefIdeal.main (F := Ideal))) ⟨m, fun _ => 0, g⟩ (fun r => (∀ c : Dev Cert.BoundsRefIdeal.nD,
      r.2.mem ((c.tc : Thread Cert.BoundsRefIdeal.nD Cert.BoundsRefIdeal.τ).loc Cert.BoundsRefIdeal.main_arg0) = m ((c.tc : Thread Cert.BoundsRefIdeal.nD Cert.BoundsRefIdeal.τ).loc Cert.BoundsRefIdeal.main_arg0)
      ∧ r.2.mem ((c.tc : Thread Cert.BoundsRefIdeal.nD Cert.BoundsRefIdeal.τ).loc Cert.BoundsRefIdeal.main_arg1) = m ((c.tc : Thread Cert.BoundsRefIdeal.nD Cert.BoundsRefIdeal.τ).loc Cert.BoundsRefIdeal.main_arg1))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguIdeal_pre_sgu_finite [hSguIdeal : Cert.SguIdeal.Facts] [hPre_sgu_finite : Cert.Pre_sgu_finite.Facts] : Prop :=
  ∀ (m : (ℓ : Loc Cert.SguIdeal.nD Cert.SguIdeal.τ Cert.SguIdeal.sig) → Buf (Elt Ideal) ℓ) (g : Dev Cert.SguIdeal.nD → PrngReg), Pre_SguIdeal_sgu_finite m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_SguRefIdeal_pre_sgu_finite [hSguRefIdeal : Cert.SguRefIdeal.Facts] [hPre_sgu_finite : Cert.Pre_sgu_finite.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_sgu_finite m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8)
      ∧ r.2.mem ((c.tc : Thread Cert.Lru.nD Cert.Lru.τ).loc Cert.Lru.main_arg9) = m ((c.tc : Thread Cert.Lru.nD Cert.Lru.τ).loc Cert.Lru.main_arg9)
      ∧ r.2.mem ((c.tc : Thread Cert.Lru.nD Cert.Lru.τ).loc Cert.Lru.main_arg10) = m ((c.tc : Thread Cert.Lru.nD Cert.Lru.τ).loc Cert.Lru.main_arg10))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
      ∧ r.2.mem ((c.tc : Thread Cert.LruIdeal.nD Cert.LruIdeal.τ).loc Cert.LruIdeal.main_arg10) = m ((c.tc : Thread Cert.LruIdeal.nD Cert.LruIdeal.τ).loc Cert.LruIdeal.main_arg10))
      ∧ r.2.sem = fun _ => 0)

def quiescent_LruIdeal_pre_lru_domain [hLruIdeal : Cert.LruIdeal.Facts] [hPre_lru_domain : Cert.Pre_lru_domain.Facts] : Prop :=
  ∀ (m : (ℓ : Loc Cert.LruIdeal.nD Cert.LruIdeal.τ Cert.LruIdeal.sig) → Buf (Elt Ideal) ℓ) (g : Dev Cert.LruIdeal.nD → PrngReg), Pre_LruIdeal_lru_domain m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
      ∧ r.2.mem ((c.tc : Thread Cert.LruIdeal.nD Cert.LruIdeal.τ).loc Cert.LruIdeal.main_arg10) = m ((c.tc : Thread Cert.LruIdeal.nD Cert.LruIdeal.τ).loc Cert.LruIdeal.main_arg10))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8)
      ∧ r.2.mem ((c.tc : Thread Cert.LruRefIdeal.nD Cert.LruRefIdeal.τ).loc Cert.LruRefIdeal.main_arg9) = m ((c.tc : Thread Cert.LruRefIdeal.nD Cert.LruRefIdeal.τ).loc Cert.LruRefIdeal.main_arg9)
      ∧ r.2.mem ((c.tc : Thread Cert.LruRefIdeal.nD Cert.LruRefIdeal.τ).loc Cert.LruRefIdeal.main_arg10) = m ((c.tc : Thread Cert.LruRefIdeal.nD Cert.LruRefIdeal.τ).loc Cert.LruRefIdeal.main_arg10))
      ∧ r.2.sem = fun _ => 0)

def quiescent_LruRefIdeal_pre_lru_domain [hLruRefIdeal : Cert.LruRefIdeal.Facts] [hPre_lru_domain : Cert.Pre_lru_domain.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal_lru_domain m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8)
      ∧ r.2.mem ((c.tc : Thread Cert.LruRefIdeal.nD Cert.LruRefIdeal.τ).loc Cert.LruRefIdeal.main_arg9) = m ((c.tc : Thread Cert.LruRefIdeal.nD Cert.LruRefIdeal.τ).loc Cert.LruRefIdeal.main_arg9)
      ∧ r.2.mem ((c.tc : Thread Cert.LruRefIdeal.nD Cert.LruRefIdeal.τ).loc Cert.LruRefIdeal.main_arg10) = m ((c.tc : Thread Cert.LruRefIdeal.nD Cert.LruRefIdeal.τ).loc Cert.LruRefIdeal.main_arg10))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3))
      ∧ r.2.sem = fun _ => 0)

def quiescent_SguFwdIdeal_pre_sgu_fwd_finite [hSguFwdIdeal : Cert.SguFwdIdeal.Facts] [hPre_sgu_fwd_finite : Cert.Pre_sgu_fwd_finite.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal_sgu_fwd_finite m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3))
      ∧ r.2.sem = fun _ => 0)

def quiescent_SguFwdRefIdeal_pre_sgu_fwd_finite [hSguFwdRefIdeal : Cert.SguFwdRefIdeal.Facts] [hPre_sgu_fwd_finite : Cert.Pre_sgu_fwd_finite.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal_sgu_fwd_finite m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1)
      ∧ r.2.mem ((c.tc : Thread Cert.ProjFwdRefIdeal.nD Cert.ProjFwdRefIdeal.τ).loc Cert.ProjFwdRefIdeal.main_arg2) = m ((c.tc : Thread Cert.ProjFwdRefIdeal.nD Cert.ProjFwdRefIdeal.τ).loc Cert.ProjFwdRefIdeal.main_arg2))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v5_0)) (v1 : (c : Dev Cert.ProjIdeal.nD) → Buf (Elt Ideal) ((c.tc : Thread Cert.ProjIdeal.nD Cert.ProjIdeal.τ).loc Cert.ProjIdeal.main_v5_1)) (v2 : (c : Dev Cert.ProjIdeal.nD) → Buf (Elt Ideal) ((c.tc : Thread Cert.ProjIdeal.nD Cert.ProjIdeal.τ).loc Cert.ProjIdeal.main_v5_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5_0) = v0 c
          ∧ r.2.mem ((c.tc : Thread Cert.ProjIdeal.nD Cert.ProjIdeal.τ).loc Cert.ProjIdeal.main_v5_1) = v1 c
          ∧ r.2.mem ((c.tc : Thread Cert.ProjIdeal.nD Cert.ProjIdeal.τ).loc Cert.ProjIdeal.main_v5_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v38) = v0 c
          ∧ r.2.mem ((c.tc : Thread Cert.ProjRefIdeal.nD Cert.ProjRefIdeal.τ).loc Cert.ProjRefIdeal.main_v39) = v1 c
          ∧ r.2.mem ((c.tc : Thread Cert.ProjRefIdeal.nD Cert.ProjRefIdeal.τ).loc Cert.ProjRefIdeal.main_v53) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v30_0)) (v1 : (c : Dev Cert.FfnIdeal.nD) → Buf (Elt Ideal) ((c.tc : Thread Cert.FfnIdeal.nD Cert.FfnIdeal.τ).loc Cert.FfnIdeal.main_v30_1)) (v2 : (c : Dev Cert.FfnIdeal.nD) → Buf (Elt Ideal) ((c.tc : Thread Cert.FfnIdeal.nD Cert.FfnIdeal.τ).loc Cert.FfnIdeal.main_v30_2)) (v3 : (c : Dev Cert.FfnIdeal.nD) → Buf (Elt Ideal) ((c.tc : Thread Cert.FfnIdeal.nD Cert.FfnIdeal.τ).loc Cert.FfnIdeal.main_v30_3)) (v4 : (c : Dev Cert.FfnIdeal.nD) → Buf (Elt Ideal) ((c.tc : Thread Cert.FfnIdeal.nD Cert.FfnIdeal.τ).loc Cert.FfnIdeal.main_v30_4)) (v5 : (c : Dev Cert.FfnIdeal.nD) → Buf (Elt Ideal) ((c.tc : Thread Cert.FfnIdeal.nD Cert.FfnIdeal.τ).loc Cert.FfnIdeal.main_v30_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v30_0) = v0 c
          ∧ r.2.mem ((c.tc : Thread Cert.FfnIdeal.nD Cert.FfnIdeal.τ).loc Cert.FfnIdeal.main_v30_1) = v1 c
          ∧ r.2.mem ((c.tc : Thread Cert.FfnIdeal.nD Cert.FfnIdeal.τ).loc Cert.FfnIdeal.main_v30_2) = v2 c
          ∧ r.2.mem ((c.tc : Thread Cert.FfnIdeal.nD Cert.FfnIdeal.τ).loc Cert.FfnIdeal.main_v30_3) = v3 c
          ∧ r.2.mem ((c.tc : Thread Cert.FfnIdeal.nD Cert.FfnIdeal.τ).loc Cert.FfnIdeal.main_v30_4) = v4 c
          ∧ r.2.mem ((c.tc : Thread Cert.FfnIdeal.nD Cert.FfnIdeal.τ).loc Cert.FfnIdeal.main_v30_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v54) = v0 c
          ∧ r.2.mem ((c.tc : Thread Cert.FfnRefIdeal.nD Cert.FfnRefIdeal.τ).loc Cert.FfnRefIdeal.main_v81) = v1 c
          ∧ r.2.mem ((c.tc : Thread Cert.FfnRefIdeal.nD Cert.FfnRefIdeal.τ).loc Cert.FfnRefIdeal.main_v84) = v2 c
          ∧ r.2.mem ((c.tc : Thread Cert.FfnRefIdeal.nD Cert.FfnRefIdeal.τ).loc Cert.FfnRefIdeal.main_v87) = v3 c
          ∧ r.2.mem ((c.tc : Thread Cert.FfnRefIdeal.nD Cert.FfnRefIdeal.τ).loc Cert.FfnRefIdeal.main_v88) = v4 c
          ∧ r.2.mem ((c.tc : Thread Cert.FfnRefIdeal.nD Cert.FfnRefIdeal.τ).loc Cert.FfnRefIdeal.main_v91) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnW_FfnWIdeal : Prop :=
  True

def algebraic_FfnWIdeal_FfnWRefIdeal [hFfnWIdeal : Cert.FfnWIdeal.Facts] [hFfnWRefIdeal : Cert.FfnWRefIdeal.Facts] : Prop :=
  ∀ (m : (ℓ : Loc Cert.FfnWIdeal.nD Cert.FfnWIdeal.τ Cert.FfnWIdeal.sig) → Buf (Elt Ideal) ℓ) (g : Dev Cert.FfnWIdeal.nD → PrngReg)
    (m' : (ℓ : Loc Cert.FfnWRefIdeal.nD Cert.FfnWRefIdeal.τ Cert.FfnWRefIdeal.sig) → Buf (Elt Ideal) ℓ) (g' : Dev Cert.FfnWRefIdeal.nD → PrngReg), Pre_FfnWIdeal m →
    (∀ c : Dev Cert.FfnWIdeal.nD,
      m' ((c.tc : Thread Cert.FfnWRefIdeal.nD Cert.FfnWRefIdeal.τ).loc Cert.FfnWRefIdeal.main_arg0) = m ((c.tc : Thread Cert.FfnWIdeal.nD Cert.FfnWIdeal.τ).loc Cert.FfnWIdeal.main_arg0)
      ∧ m' ((c.tc : Thread Cert.FfnWRefIdeal.nD Cert.FfnWRefIdeal.τ).loc Cert.FfnWRefIdeal.main_arg1) = m ((c.tc : Thread Cert.FfnWIdeal.nD Cert.FfnWIdeal.τ).loc Cert.FfnWIdeal.main_arg1)
      ∧ m' ((c.tc : Thread Cert.FfnWRefIdeal.nD Cert.FfnWRefIdeal.τ).loc Cert.FfnWRefIdeal.main_arg2) = m ((c.tc : Thread Cert.FfnWIdeal.nD Cert.FfnWIdeal.τ).loc Cert.FfnWIdeal.main_arg2)
      ∧ m' ((c.tc : Thread Cert.FfnWRefIdeal.nD Cert.FfnWRefIdeal.τ).loc Cert.FfnWRefIdeal.main_arg3) = m ((c.tc : Thread Cert.FfnWIdeal.nD Cert.FfnWIdeal.τ).loc Cert.FfnWIdeal.main_arg3)
      ∧ m' ((c.tc : Thread Cert.FfnWRefIdeal.nD Cert.FfnWRefIdeal.τ).loc Cert.FfnWRefIdeal.main_arg4) = m ((c.tc : Thread Cert.FfnWIdeal.nD Cert.FfnWIdeal.τ).loc Cert.FfnWIdeal.main_arg4)
      ∧ m' ((c.tc : Thread Cert.FfnWRefIdeal.nD Cert.FfnWRefIdeal.τ).loc Cert.FfnWRefIdeal.main_arg5) = m ((c.tc : Thread Cert.FfnWIdeal.nD Cert.FfnWIdeal.τ).loc Cert.FfnWIdeal.main_arg5)) →
    ∃ (v0 : (c : Dev Cert.FfnWIdeal.nD) → Buf (Elt Ideal) ((c.tc : Thread Cert.FfnWIdeal.nD Cert.FfnWIdeal.τ).loc Cert.FfnWIdeal.main_v16_0)) (v1 : (c : Dev Cert.FfnWIdeal.nD) → Buf (Elt Ideal) ((c.tc : Thread Cert.FfnWIdeal.nD Cert.FfnWIdeal.τ).loc Cert.FfnWIdeal.main_v16_1)) (v2 : (c : Dev Cert.FfnWIdeal.nD) → Buf (Elt Ideal) ((c.tc : Thread Cert.FfnWIdeal.nD Cert.FfnWIdeal.τ).loc Cert.FfnWIdeal.main_v16_2)),
      θ_run (Cert.FfnWIdeal.defs (F := Ideal)) (onTc (τ := Cert.FfnWIdeal.τ) (Cert.FfnWIdeal.main (F := Ideal))) ⟨m, fun _ => 0, g⟩ (fun r => ∀ c : Dev Cert.FfnWIdeal.nD,
          r.2.mem ((c.tc : Thread Cert.FfnWIdeal.nD Cert.FfnWIdeal.τ).loc Cert.FfnWIdeal.main_v16_0) = v0 c
          ∧ r.2.mem ((c.tc : Thread Cert.FfnWIdeal.nD Cert.FfnWIdeal.τ).loc Cert.FfnWIdeal.main_v16_1) = v1 c
          ∧ r.2.mem ((c.tc : Thread Cert.FfnWIdeal.nD Cert.FfnWIdeal.τ).loc Cert.FfnWIdeal.main_v16_2) = v2 c
          ∧ r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
          ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
          ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
          ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3)
          ∧ r.2.mem ((c.tc : Thread Cert.FfnWIdeal.nD Cert.FfnWIdeal.τ).loc Cert.FfnWIdeal.main_arg4) = m ((c.tc : Thread Cert.FfnWIdeal.nD Cert.FfnWIdeal.τ).loc Cert.FfnWIdeal.main_arg4)
          ∧ r.2.mem ((c.tc : Thread Cert.FfnWIdeal.nD Cert.FfnWIdeal.τ).loc Cert.FfnWIdeal.main_arg5) = m ((c.tc : Thread Cert.FfnWIdeal.nD Cert.FfnWIdeal.τ).loc Cert.FfnWIdeal.main_arg5))
      ∧ θ_run (Cert.FfnWRefIdeal.defs (F := Ideal)) (onTc (τ := Cert.FfnWRefIdeal.τ) (Cert.FfnWRefIdeal.main (F := Ideal))) ⟨m', fun _ => 0, g'⟩ (fun r => ∀ c : Dev Cert.FfnWRefIdeal.nD,
          r.2.mem ((c.tc : Thread Cert.FfnWRefIdeal.nD Cert.FfnWRefIdeal.τ).loc Cert.FfnWRefIdeal.main_v17) = v0 c
          ∧ r.2.mem ((c.tc : Thread Cert.FfnWRefIdeal.nD Cert.FfnWRefIdeal.τ).loc Cert.FfnWRefIdeal.main_v19) = v1 c
          ∧ r.2.mem ((c.tc : Thread Cert.FfnWRefIdeal.nD Cert.FfnWRefIdeal.τ).loc Cert.FfnWRefIdeal.main_v21) = v2 c
          ∧ r.2.mem ((c.tc : Thread Cert.FfnWRefIdeal.nD Cert.FfnWRefIdeal.τ).loc Cert.FfnWRefIdeal.main_arg0) = m' ((c.tc : Thread Cert.FfnWRefIdeal.nD Cert.FfnWRefIdeal.τ).loc Cert.FfnWRefIdeal.main_arg0)
          ∧ r.2.mem ((c.tc : Thread Cert.FfnWRefIdeal.nD Cert.FfnWRefIdeal.τ).loc Cert.FfnWRefIdeal.main_arg1) = m' ((c.tc : Thread Cert.FfnWRefIdeal.nD Cert.FfnWRefIdeal.τ).loc Cert.FfnWRefIdeal.main_arg1)
          ∧ r.2.mem ((c.tc : Thread Cert.FfnWRefIdeal.nD Cert.FfnWRefIdeal.τ).loc Cert.FfnWRefIdeal.main_arg2) = m' ((c.tc : Thread Cert.FfnWRefIdeal.nD Cert.FfnWRefIdeal.τ).loc Cert.FfnWRefIdeal.main_arg2)
          ∧ r.2.mem ((c.tc : Thread Cert.FfnWRefIdeal.nD Cert.FfnWRefIdeal.τ).loc Cert.FfnWRefIdeal.main_arg3) = m' ((c.tc : Thread Cert.FfnWRefIdeal.nD Cert.FfnWRefIdeal.τ).loc Cert.FfnWRefIdeal.main_arg3)
          ∧ r.2.mem ((c.tc : Thread Cert.FfnWRefIdeal.nD Cert.FfnWRefIdeal.τ).loc Cert.FfnWRefIdeal.main_arg4) = m' ((c.tc : Thread Cert.FfnWRefIdeal.nD Cert.FfnWRefIdeal.τ).loc Cert.FfnWRefIdeal.main_arg4)
          ∧ r.2.mem ((c.tc : Thread Cert.FfnWRefIdeal.nD Cert.FfnWRefIdeal.τ).loc Cert.FfnWRefIdeal.main_arg5) = m' ((c.tc : Thread Cert.FfnWRefIdeal.nD Cert.FfnWRefIdeal.τ).loc Cert.FfnWRefIdeal.main_arg5))

def preserves_Bounds_BoundsIdeal : Prop :=
  True

def algebraic_BoundsIdeal_BoundsRefIdeal_pre_bounds_finite [hBoundsIdeal : Cert.BoundsIdeal.Facts] [hBoundsRefIdeal : Cert.BoundsRefIdeal.Facts] [hPre_bounds_finite : Cert.Pre_bounds_finite.Facts] : Prop :=
  ∀ (m : (ℓ : Loc Cert.BoundsIdeal.nD Cert.BoundsIdeal.τ Cert.BoundsIdeal.sig) → Buf (Elt Ideal) ℓ) (g : Dev Cert.BoundsIdeal.nD → PrngReg)
    (m' : (ℓ : Loc Cert.BoundsRefIdeal.nD Cert.BoundsRefIdeal.τ Cert.BoundsRefIdeal.sig) → Buf (Elt Ideal) ℓ) (g' : Dev Cert.BoundsRefIdeal.nD → PrngReg), Pre_BoundsIdeal_bounds_finite m →
    (∀ c : Dev Cert.BoundsIdeal.nD,
      m' ((c.tc : Thread Cert.BoundsRefIdeal.nD Cert.BoundsRefIdeal.τ).loc Cert.BoundsRefIdeal.main_arg0) = m ((c.tc : Thread Cert.BoundsIdeal.nD Cert.BoundsIdeal.τ).loc Cert.BoundsIdeal.main_arg0)
      ∧ m' ((c.tc : Thread Cert.BoundsRefIdeal.nD Cert.BoundsRefIdeal.τ).loc Cert.BoundsRefIdeal.main_arg1) = m ((c.tc : Thread Cert.BoundsIdeal.nD Cert.BoundsIdeal.τ).loc Cert.BoundsIdeal.main_arg1)) →
    ∃ (v0 : (c : Dev Cert.BoundsIdeal.nD) → Buf (Elt Ideal) ((c.tc : Thread Cert.BoundsIdeal.nD Cert.BoundsIdeal.τ).loc Cert.BoundsIdeal.main_v0)),
      θ_run (Cert.BoundsIdeal.defs (F := Ideal)) (onTc (τ := Cert.BoundsIdeal.τ) (Cert.BoundsIdeal.main (F := Ideal))) ⟨m, fun _ => 0, g⟩ (fun r => ∀ c : Dev Cert.BoundsIdeal.nD,
          r.2.mem ((c.tc : Thread Cert.BoundsIdeal.nD Cert.BoundsIdeal.τ).loc Cert.BoundsIdeal.main_v0) = v0 c
          ∧ r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0)
          ∧ r.2.mem ((c.tc : Thread Cert.BoundsIdeal.nD Cert.BoundsIdeal.τ).loc Cert.BoundsIdeal.main_arg1) = m ((c.tc : Thread Cert.BoundsIdeal.nD Cert.BoundsIdeal.τ).loc Cert.BoundsIdeal.main_arg1))
      ∧ θ_run (Cert.BoundsRefIdeal.defs (F := Ideal)) (onTc (τ := Cert.BoundsRefIdeal.τ) (Cert.BoundsRefIdeal.main (F := Ideal))) ⟨m', fun _ => 0, g'⟩ (fun r => ∀ c : Dev Cert.BoundsRefIdeal.nD,
          r.2.mem ((c.tc : Thread Cert.BoundsRefIdeal.nD Cert.BoundsRefIdeal.τ).loc Cert.BoundsRefIdeal.main_v54) = v0 c
          ∧ r.2.mem ((c.tc : Thread Cert.BoundsRefIdeal.nD Cert.BoundsRefIdeal.τ).loc Cert.BoundsRefIdeal.main_arg0) = m' ((c.tc : Thread Cert.BoundsRefIdeal.nD Cert.BoundsRefIdeal.τ).loc Cert.BoundsRefIdeal.main_arg0)
          ∧ r.2.mem ((c.tc : Thread Cert.BoundsRefIdeal.nD Cert.BoundsRefIdeal.τ).loc Cert.BoundsRefIdeal.main_arg1) = m' ((c.tc : Thread Cert.BoundsRefIdeal.nD Cert.BoundsRefIdeal.τ).loc Cert.BoundsRefIdeal.main_arg1))

def preserves_Sgu_SguIdeal : Prop :=
  True

def algebraic_SguIdeal_SguRefIdeal_pre_sgu_finite [hSguIdeal : Cert.SguIdeal.Facts] [hSguRefIdeal : Cert.SguRefIdeal.Facts] [hPre_sgu_finite : Cert.Pre_sgu_finite.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal_sgu_finite m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)) →
    ∃ (v0 : (c : Dev Cert.SguIdeal.nD) → Buf (Elt Ideal) ((c.tc : Thread Cert.SguIdeal.nD Cert.SguIdeal.τ).loc Cert.SguIdeal.main_v15_0)) (v1 : (c : Dev Cert.SguIdeal.nD) → Buf (Elt Ideal) ((c.tc : Thread Cert.SguIdeal.nD Cert.SguIdeal.τ).loc Cert.SguIdeal.main_v15_1)) (v2 : (c : Dev Cert.SguIdeal.nD) → Buf (Elt Ideal) ((c.tc : Thread Cert.SguIdeal.nD Cert.SguIdeal.τ).loc Cert.SguIdeal.main_v15_2)) (v3 : (c : Dev Cert.SguIdeal.nD) → Buf (Elt Ideal) ((c.tc : Thread Cert.SguIdeal.nD Cert.SguIdeal.τ).loc Cert.SguIdeal.main_v15_3)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v15_0) = v0 c
          ∧ r.2.mem ((c.tc : Thread Cert.SguIdeal.nD Cert.SguIdeal.τ).loc Cert.SguIdeal.main_v15_1) = v1 c
          ∧ r.2.mem ((c.tc : Thread Cert.SguIdeal.nD Cert.SguIdeal.τ).loc Cert.SguIdeal.main_v15_2) = v2 c
          ∧ r.2.mem ((c.tc : Thread Cert.SguIdeal.nD Cert.SguIdeal.τ).loc Cert.SguIdeal.main_v15_3) = v3 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v188) = v0 c
          ∧ r.2.mem ((c.tc : Thread Cert.SguRefIdeal.nD Cert.SguRefIdeal.τ).loc Cert.SguRefIdeal.main_v136) = v1 c
          ∧ r.2.mem ((c.tc : Thread Cert.SguRefIdeal.nD Cert.SguRefIdeal.τ).loc Cert.SguRefIdeal.main_v189) = v2 c
          ∧ r.2.mem ((c.tc : Thread Cert.SguRefIdeal.nD Cert.SguRefIdeal.τ).loc Cert.SguRefIdeal.main_v190) = v3 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5))

def preserves_Lru_LruIdeal : Prop :=
  True

def algebraic_LruIdeal_LruRefIdeal_on_lru_blocks_pre_lru_domain [hLruIdeal : Cert.LruIdeal.Facts] [hLruRefIdeal : Cert.LruRefIdeal.Facts] [hPre_lru_domain : Cert.Pre_lru_domain.Facts] [hOn_lru_blocks : Cert.On_lru_blocks.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal_lru_domain m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)
      ∧ m' ((c.tc : Thread Cert.LruRefIdeal.nD Cert.LruRefIdeal.τ).loc Cert.LruRefIdeal.main_arg9) = m ((c.tc : Thread Cert.LruIdeal.nD Cert.LruIdeal.τ).loc Cert.LruIdeal.main_arg9)
      ∧ m' ((c.tc : Thread Cert.LruRefIdeal.nD Cert.LruRefIdeal.τ).loc Cert.LruRefIdeal.main_arg10) = m ((c.tc : Thread Cert.LruIdeal.nD Cert.LruIdeal.τ).loc Cert.LruIdeal.main_arg10)) →
    ∃ (v0 : (c : Dev Cert.LruIdeal.nD) → Buf (Elt Ideal) ((c.tc : Thread Cert.LruIdeal.nD Cert.LruIdeal.τ).loc Cert.LruIdeal.main_v378_0)) (v1 : (c : Dev Cert.LruIdeal.nD) → Buf (Elt Ideal) ((c.tc : Thread Cert.LruIdeal.nD Cert.LruIdeal.τ).loc Cert.LruIdeal.main_v378_1)) (v2 : (c : Dev Cert.LruIdeal.nD) → Buf (Elt Ideal) ((c.tc : Thread Cert.LruIdeal.nD Cert.LruIdeal.τ).loc Cert.LruIdeal.main_v378_2)) (v3 : (c : Dev Cert.LruIdeal.nD) → Buf (Elt Ideal) ((c.tc : Thread Cert.LruIdeal.nD Cert.LruIdeal.τ).loc Cert.LruIdeal.main_v378_3)) (v4 : (c : Dev Cert.LruIdeal.nD) → Buf (Elt Ideal) ((c.tc : Thread Cert.LruIdeal.nD Cert.LruIdeal.τ).loc Cert.LruIdeal.main_v378_4)) (v5 : (c : Dev Cert.LruIdeal.nD) → Buf (Elt Ideal) ((c.tc : Thread Cert.LruIdeal.nD Cert.LruIdeal.τ).loc Cert.LruIdeal.main_v378_5)) (v6 : (c : Dev Cert.LruIdeal.nD) → Buf (Elt Ideal) ((c.tc : Thread Cert.LruIdeal.nD Cert.LruIdeal.τ).loc Cert.LruIdeal.main_v378_6)) (v7 : (c : Dev Cert.LruIdeal.nD) → Buf (Elt Ideal) ((c.tc : Thread Cert.LruIdeal.nD Cert.LruIdeal.τ).loc Cert.LruIdeal.main_v378_7)) (v8 : (c : Dev Cert.LruIdeal.nD) → Buf (Elt Ideal) ((c.tc : Thread Cert.LruIdeal.nD Cert.LruIdeal.τ).loc Cert.LruIdeal.main_v378_8)),
      θ_run (Cert.LruIdeal.defs (F := Ideal)) (onTc (τ := Cert.LruIdeal.τ) (Cert.LruIdeal.main (F := Ideal))) ⟨m, fun _ => 0, g⟩ (fun r => ∀ c : Dev Cert.LruIdeal.nD,
          (∀ i : (⟨2, ![4096, 3072]⟩ : Shape).Idx, (Cert.On_lru_blocks.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).1 i = 1#1 → r.2.mem ((c.tc : Thread Cert.LruIdeal.nD Cert.LruIdeal.τ).loc Cert.LruIdeal.main_v378_0) i = v0 c i)
          ∧ (∀ i : (⟨2, ![4, 256]⟩ : Shape).Idx, (Cert.On_lru_blocks.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.1 i = 1#1 → r.2.mem ((c.tc : Thread Cert.LruIdeal.nD Cert.LruIdeal.τ).loc Cert.LruIdeal.main_v378_1) i = v1 c i)
          ∧ (∀ i : (⟨2, ![1, 256]⟩ : Shape).Idx, (Cert.On_lru_blocks.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.1 i = 1#1 → r.2.mem ((c.tc : Thread Cert.LruIdeal.nD Cert.LruIdeal.τ).loc Cert.LruIdeal.main_v378_2) i = v2 c i)
          ∧ (∀ i : (⟨2, ![256, 256]⟩ : Shape).Idx, (Cert.On_lru_blocks.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.1 i = 1#1 → r.2.mem ((c.tc : Thread Cert.LruIdeal.nD Cert.LruIdeal.τ).loc Cert.LruIdeal.main_v378_3) i = v3 c i)
          ∧ (∀ i : (⟨2, ![1, 256]⟩ : Shape).Idx, (Cert.On_lru_blocks.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.2.1 i = 1#1 → r.2.mem ((c.tc : Thread Cert.LruIdeal.nD Cert.LruIdeal.τ).loc Cert.LruIdeal.main_v378_4) i = v4 c i)
          ∧ (∀ i : (⟨2, ![256, 256]⟩ : Shape).Idx, (Cert.On_lru_blocks.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.2.2.1 i = 1#1 → r.2.mem ((c.tc : Thread Cert.LruIdeal.nD Cert.LruIdeal.τ).loc Cert.LruIdeal.main_v378_5) i = v5 c i)
          ∧ (∀ i : (⟨2, ![1, 256]⟩ : Shape).Idx, (Cert.On_lru_blocks.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.2.2.2.1 i = 1#1 → r.2.mem ((c.tc : Thread Cert.LruIdeal.nD Cert.LruIdeal.τ).loc Cert.LruIdeal.main_v378_6) i = v6 c i)
          ∧ (∀ i : (⟨2, ![1, 256]⟩ : Shape).Idx, (Cert.On_lru_blocks.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.2.2.2.2.1 i = 1#1 → r.2.mem ((c.tc : Thread Cert.LruIdeal.nD Cert.LruIdeal.τ).loc Cert.LruIdeal.main_v378_7) i = v7 c i)
          ∧ (∀ i : (⟨2, ![1, 256]⟩ : Shape).Idx, (Cert.On_lru_blocks.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.2.2.2.2.2 i = 1#1 → r.2.mem ((c.tc : Thread Cert.LruIdeal.nD Cert.LruIdeal.τ).loc Cert.LruIdeal.main_v378_8) i = v8 c i)
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
          ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
          ∧ r.2.mem ((c.tc : Thread Cert.LruIdeal.nD Cert.LruIdeal.τ).loc Cert.LruIdeal.main_arg10) = m ((c.tc : Thread Cert.LruIdeal.nD Cert.LruIdeal.τ).loc Cert.LruIdeal.main_arg10))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          (∀ i : (⟨2, ![4096, 3072]⟩ : Shape).Idx, (Cert.On_lru_blocks.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).1 i = 1#1 → r.2.mem ((c.tc : Thread Cert.LruRefIdeal.nD Cert.LruRefIdeal.τ).loc Cert.LruRefIdeal.main_v888) i = v0 c i)
          ∧ (∀ i : (⟨2, ![4, 256]⟩ : Shape).Idx, (Cert.On_lru_blocks.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.1 i = 1#1 → r.2.mem ((c.tc : Thread Cert.LruRefIdeal.nD Cert.LruRefIdeal.τ).loc Cert.LruRefIdeal.main_v880) i = v1 c i)
          ∧ (∀ i : (⟨2, ![1, 256]⟩ : Shape).Idx, (Cert.On_lru_blocks.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.1 i = 1#1 → r.2.mem ((c.tc : Thread Cert.LruRefIdeal.nD Cert.LruRefIdeal.τ).loc Cert.LruRefIdeal.main_v889) i = v2 c i)
          ∧ (∀ i : (⟨2, ![256, 256]⟩ : Shape).Idx, (Cert.On_lru_blocks.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.1 i = 1#1 → r.2.mem ((c.tc : Thread Cert.LruRefIdeal.nD Cert.LruRefIdeal.τ).loc Cert.LruRefIdeal.main_v892) i = v3 c i)
          ∧ (∀ i : (⟨2, ![1, 256]⟩ : Shape).Idx, (Cert.On_lru_blocks.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.2.1 i = 1#1 → r.2.mem ((c.tc : Thread Cert.LruRefIdeal.nD Cert.LruRefIdeal.τ).loc Cert.LruRefIdeal.main_v893) i = v4 c i)
          ∧ (∀ i : (⟨2, ![256, 256]⟩ : Shape).Idx, (Cert.On_lru_blocks.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.2.2.1 i = 1#1 → r.2.mem ((c.tc : Thread Cert.LruRefIdeal.nD Cert.LruRefIdeal.τ).loc Cert.LruRefIdeal.main_v896) i = v5 c i)
          ∧ (∀ i : (⟨2, ![1, 256]⟩ : Shape).Idx, (Cert.On_lru_blocks.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.2.2.2.1 i = 1#1 → r.2.mem ((c.tc : Thread Cert.LruRefIdeal.nD Cert.LruRefIdeal.τ).loc Cert.LruRefIdeal.main_v897) i = v6 c i)
          ∧ (∀ i : (⟨2, ![1, 256]⟩ : Shape).Idx, (Cert.On_lru_blocks.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.2.2.2.2.1 i = 1#1 → r.2.mem ((c.tc : Thread Cert.LruRefIdeal.nD Cert.LruRefIdeal.τ).loc Cert.LruRefIdeal.main_v898) i = v7 c i)
          ∧ (∀ i : (⟨2, ![1, 256]⟩ : Shape).Idx, (Cert.On_lru_blocks.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.2.2.2.2.2 i = 1#1 → r.2.mem ((c.tc : Thread Cert.LruRefIdeal.nD Cert.LruRefIdeal.τ).loc Cert.LruRefIdeal.main_v899) i = v8 c i)
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7)
          ∧ r.2.mem ((c.tc : Thread Cert.LruRefIdeal.nD Cert.LruRefIdeal.τ).loc Cert.LruRefIdeal.main_arg8) = m' ((c.tc : Thread Cert.LruRefIdeal.nD Cert.LruRefIdeal.τ).loc Cert.LruRefIdeal.main_arg8)
          ∧ r.2.mem ((c.tc : Thread Cert.LruRefIdeal.nD Cert.LruRefIdeal.τ).loc Cert.LruRefIdeal.main_arg9) = m' ((c.tc : Thread Cert.LruRefIdeal.nD Cert.LruRefIdeal.τ).loc Cert.LruRefIdeal.main_arg9)
          ∧ r.2.mem ((c.tc : Thread Cert.LruRefIdeal.nD Cert.LruRefIdeal.τ).loc Cert.LruRefIdeal.main_arg10) = m' ((c.tc : Thread Cert.LruRefIdeal.nD Cert.LruRefIdeal.τ).loc Cert.LruRefIdeal.main_arg10))

def preserves_SguFwd_SguFwdIdeal : Prop :=
  True

def algebraic_SguFwdIdeal_SguFwdRefIdeal_pre_sgu_fwd_finite [hSguFwdIdeal : Cert.SguFwdIdeal.Facts] [hSguFwdRefIdeal : Cert.SguFwdRefIdeal.Facts] [hPre_sgu_fwd_finite : Cert.Pre_sgu_fwd_finite.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal_sgu_fwd_finite m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)) →
    ∃ (v0 : (c : Dev Cert.SguFwdIdeal.nD) → Buf (Elt Ideal) ((c.tc : Thread Cert.SguFwdIdeal.nD Cert.SguFwdIdeal.τ).loc Cert.SguFwdIdeal.main_v14)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v14) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v76) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v9_0)) (v1 : (c : Dev Cert.FfnFwdIdeal.nD) → Buf (Elt Ideal) ((c.tc : Thread Cert.FfnFwdIdeal.nD Cert.FfnFwdIdeal.τ).loc Cert.FfnFwdIdeal.main_v9_1)) (v2 : (c : Dev Cert.FfnFwdIdeal.nD) → Buf (Elt Ideal) ((c.tc : Thread Cert.FfnFwdIdeal.nD Cert.FfnFwdIdeal.τ).loc Cert.FfnFwdIdeal.main_v9_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v9_0) = v0 c
          ∧ r.2.mem ((c.tc : Thread Cert.FfnFwdIdeal.nD Cert.FfnFwdIdeal.τ).loc Cert.FfnFwdIdeal.main_v9_1) = v1 c
          ∧ r.2.mem ((c.tc : Thread Cert.FfnFwdIdeal.nD Cert.FfnFwdIdeal.τ).loc Cert.FfnFwdIdeal.main_v9_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v33) = v0 c
          ∧ r.2.mem ((c.tc : Thread Cert.FfnFwdRefIdeal.nD Cert.FfnFwdRefIdeal.τ).loc Cert.FfnFwdRefIdeal.main_v37) = v1 c
          ∧ r.2.mem ((c.tc : Thread Cert.FfnFwdRefIdeal.nD Cert.FfnFwdRefIdeal.τ).loc Cert.FfnFwdRefIdeal.main_v41) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)
      ∧ m' ((c.tc : Thread Cert.ProjFwdRefIdeal.nD Cert.ProjFwdRefIdeal.τ).loc Cert.ProjFwdRefIdeal.main_arg2) = m ((c.tc : Thread Cert.ProjFwdIdeal.nD Cert.ProjFwdIdeal.τ).loc Cert.ProjFwdIdeal.main_arg2)) →
    ∃ (v0 : (c : Dev Cert.ProjFwdIdeal.nD) → Buf (Elt Ideal) ((c.tc : Thread Cert.ProjFwdIdeal.nD Cert.ProjFwdIdeal.τ).loc Cert.ProjFwdIdeal.main_v4)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v4) = v0 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v13) = v0 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1)
          ∧ r.2.mem ((c.tc : Thread Cert.ProjFwdRefIdeal.nD Cert.ProjFwdRefIdeal.τ).loc Cert.ProjFwdRefIdeal.main_arg2) = m' ((c.tc : Thread Cert.ProjFwdRefIdeal.nD Cert.ProjFwdRefIdeal.τ).loc Cert.ProjFwdRefIdeal.main_arg2))

def Claim : Prop :=
  ∃ (hLoss : Cert.Loss.Facts) (hLossIdeal : Cert.LossIdeal.Facts) (hLossRefIdeal : Cert.LossRefIdeal.Facts) (hProj : Cert.Proj.Facts) (hProjIdeal : Cert.ProjIdeal.Facts) (hProjRefIdeal : Cert.ProjRefIdeal.Facts) (hFfn : Cert.Ffn.Facts) (hFfnIdeal : Cert.FfnIdeal.Facts) (hFfnRefIdeal : Cert.FfnRefIdeal.Facts) (hFfnW : Cert.FfnW.Facts) (hFfnWIdeal : Cert.FfnWIdeal.Facts) (hFfnWRefIdeal : Cert.FfnWRefIdeal.Facts) (hBounds : Cert.Bounds.Facts) (hBoundsIdeal : Cert.BoundsIdeal.Facts) (hBoundsRefIdeal : Cert.BoundsRefIdeal.Facts) (hSgu : Cert.Sgu.Facts) (hSguIdeal : Cert.SguIdeal.Facts) (hSguRefIdeal : Cert.SguRefIdeal.Facts) (hLru : Cert.Lru.Facts) (hLruIdeal : Cert.LruIdeal.Facts) (hLruRefIdeal : Cert.LruRefIdeal.Facts) (hSguFwd : Cert.SguFwd.Facts) (hSguFwdIdeal : Cert.SguFwdIdeal.Facts) (hSguFwdRefIdeal : Cert.SguFwdRefIdeal.Facts) (hFfnFwd : Cert.FfnFwd.Facts) (hFfnFwdIdeal : Cert.FfnFwdIdeal.Facts) (hFfnFwdRefIdeal : Cert.FfnFwdRefIdeal.Facts) (hProjFwd : Cert.ProjFwd.Facts) (hProjFwdIdeal : Cert.ProjFwdIdeal.Facts) (hProjFwdRefIdeal : Cert.ProjFwdRefIdeal.Facts) (hPre_ffn_finite : Cert.Pre_ffn_finite.Facts) (hPre_bounds_finite : Cert.Pre_bounds_finite.Facts) (hPre_sgu_finite : Cert.Pre_sgu_finite.Facts) (hPre_lru_domain : Cert.Pre_lru_domain.Facts) (hPre_sgu_fwd_finite : Cert.Pre_sgu_fwd_finite.Facts) (hOn_lru_blocks : Cert.On_lru_blocks.Facts),
    quiescent_Loss (hLoss := hLoss)
    ∧ quiescent_LossIdeal (hLossIdeal := hLossIdeal)
    ∧ quiescent_LossRefIdeal (hLossRefIdeal := hLossRefIdeal)
    ∧ quiescent_Proj (hProj := hProj)
    ∧ quiescent_ProjIdeal (hProjIdeal := hProjIdeal)
    ∧ quiescent_ProjRefIdeal (hProjRefIdeal := hProjRefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_FfnW (hFfnW := hFfnW)
    ∧ quiescent_FfnWIdeal (hFfnWIdeal := hFfnWIdeal)
    ∧ quiescent_FfnWRefIdeal (hFfnWRefIdeal := hFfnWRefIdeal)
    ∧ quiescent_Bounds (hBounds := hBounds)
    ∧ quiescent_BoundsIdeal (hBoundsIdeal := hBoundsIdeal)
    ∧ quiescent_BoundsIdeal_pre_bounds_finite (hBoundsIdeal := hBoundsIdeal) (hPre_bounds_finite := hPre_bounds_finite)
    ∧ quiescent_BoundsRefIdeal (hBoundsRefIdeal := hBoundsRefIdeal)
    ∧ quiescent_BoundsRefIdeal_pre_bounds_finite (hBoundsRefIdeal := hBoundsRefIdeal) (hPre_bounds_finite := hPre_bounds_finite)
    ∧ quiescent_Sgu (hSgu := hSgu)
    ∧ quiescent_SguIdeal (hSguIdeal := hSguIdeal)
    ∧ quiescent_SguIdeal_pre_sgu_finite (hSguIdeal := hSguIdeal) (hPre_sgu_finite := hPre_sgu_finite)
    ∧ quiescent_SguRefIdeal (hSguRefIdeal := hSguRefIdeal)
    ∧ quiescent_SguRefIdeal_pre_sgu_finite (hSguRefIdeal := hSguRefIdeal) (hPre_sgu_finite := hPre_sgu_finite)
    ∧ quiescent_Lru (hLru := hLru)
    ∧ quiescent_LruIdeal (hLruIdeal := hLruIdeal)
    ∧ quiescent_LruIdeal_pre_lru_domain (hLruIdeal := hLruIdeal) (hPre_lru_domain := hPre_lru_domain)
    ∧ quiescent_LruRefIdeal (hLruRefIdeal := hLruRefIdeal)
    ∧ quiescent_LruRefIdeal_pre_lru_domain (hLruRefIdeal := hLruRefIdeal) (hPre_lru_domain := hPre_lru_domain)
    ∧ quiescent_SguFwd (hSguFwd := hSguFwd)
    ∧ quiescent_SguFwdIdeal (hSguFwdIdeal := hSguFwdIdeal)
    ∧ quiescent_SguFwdIdeal_pre_sgu_fwd_finite (hSguFwdIdeal := hSguFwdIdeal) (hPre_sgu_fwd_finite := hPre_sgu_fwd_finite)
    ∧ quiescent_SguFwdRefIdeal (hSguFwdRefIdeal := hSguFwdRefIdeal)
    ∧ quiescent_SguFwdRefIdeal_pre_sgu_fwd_finite (hSguFwdRefIdeal := hSguFwdRefIdeal) (hPre_sgu_fwd_finite := hPre_sgu_fwd_finite)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ preserves_Loss_LossIdeal
    ∧ algebraic_LossIdeal_LossRefIdeal (hLossIdeal := hLossIdeal) (hLossRefIdeal := hLossRefIdeal)
    ∧ preserves_Proj_ProjIdeal
    ∧ algebraic_ProjIdeal_ProjRefIdeal (hProjIdeal := hProjIdeal) (hProjRefIdeal := hProjRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_FfnW_FfnWIdeal
    ∧ algebraic_FfnWIdeal_FfnWRefIdeal (hFfnWIdeal := hFfnWIdeal) (hFfnWRefIdeal := hFfnWRefIdeal)
    ∧ preserves_Bounds_BoundsIdeal
    ∧ algebraic_BoundsIdeal_BoundsRefIdeal_pre_bounds_finite (hBoundsIdeal := hBoundsIdeal) (hBoundsRefIdeal := hBoundsRefIdeal) (hPre_bounds_finite := hPre_bounds_finite)
    ∧ preserves_Sgu_SguIdeal
    ∧ algebraic_SguIdeal_SguRefIdeal_pre_sgu_finite (hSguIdeal := hSguIdeal) (hSguRefIdeal := hSguRefIdeal) (hPre_sgu_finite := hPre_sgu_finite)
    ∧ preserves_Lru_LruIdeal
    ∧ algebraic_LruIdeal_LruRefIdeal_on_lru_blocks_pre_lru_domain (hLruIdeal := hLruIdeal) (hLruRefIdeal := hLruRefIdeal) (hPre_lru_domain := hPre_lru_domain) (hOn_lru_blocks := hOn_lru_blocks)
    ∧ preserves_SguFwd_SguFwdIdeal
    ∧ algebraic_SguFwdIdeal_SguFwdRefIdeal_pre_sgu_fwd_finite (hSguFwdIdeal := hSguFwdIdeal) (hSguFwdRefIdeal := hSguFwdRefIdeal) (hPre_sgu_fwd_finite := hPre_sgu_fwd_finite)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_ProjFwd_ProjFwdIdeal
    ∧ algebraic_ProjFwdIdeal_ProjFwdRefIdeal (hProjFwdIdeal := hProjFwdIdeal) (hProjFwdRefIdeal := hProjFwdRefIdeal)
-- ==== On_lru_blocks.lean ====
abbrev S4096x3072 : Shape := ⟨2, ![4096, 3072]⟩
abbrev S4x256 : Shape := ⟨2, ![4, 256]⟩
abbrev S256 : Shape := ⟨1, ![256]⟩
abbrev S4x64x64 : Shape := ⟨3, ![4, 64, 64]⟩
abbrev S4x64 : Shape := ⟨2, ![4, 64]⟩
abbrev S4096x256 : Shape := ⟨2, ![4096, 256]⟩
abbrev S_ : Shape := ⟨0, ![]⟩
abbrev S1x256 : Shape := ⟨2, ![1, 256]⟩
abbrev S256x1 : Shape := ⟨2, ![256, 1]⟩
abbrev S256x256 : Shape := ⟨2, ![256, 256]⟩

class Facts : Prop where
  bcast_S_S1x256 : S_.BroadcastsInDim S1x256 (![] : Fin 0 → Fin S1x256.rank)
  bcast_S_S256 : S_.BroadcastsInDim S256 (![] : Fin 0 → Fin S256.rank)
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S4096x3072 : S_.BroadcastsInDim S4096x3072 (![] : Fin 0 → Fin S4096x3072.rank)
  bcast_S_S4x256 : S_.BroadcastsInDim S4x256 (![] : Fin 0 → Fin S4x256.rank)

variable [Facts]

def fn_where {F : FTy → Type} [FloatOps F] (arg0 : IVec S256 1) (arg1 : IVec S256 32) (arg2 : IVec S256 32) : IVec S256 32 :=
  let v0 : IVec S256 32 := select arg0 arg1 arg2
  v0

def fn_floor_divide {F : FTy → Type} [FloatOps F] (arg0 : IVec S256 32) (arg1 : IVec S_ 32) : IVec S256 32 :=
  let v0 : IVec S_ 32 := id arg1
  let v1 : IVec S256 32 := broadcastInDim S256 ![] bcast_S_S256 v0
  let v2 : IVec S256 32 := Host.divsi arg0 v1
  let v3 : IVec S256 32 := signi arg0
  let v4 : IVec S_ 32 := signi v0
  let v5 : IVec S256 32 := broadcastInDim S256 ![] bcast_S_S256 v4
  let v6 : IVec S256 1 := cmpi .ne v3 v5
  let v7 : IVec S256 32 := broadcastInDim S256 ![] bcast_S_S256 v0
  let v8 : IVec S256 32 := Host.remsi arg0 v7
  let c : IVec S_ 32 := constantI S_ 32 0#32
  let v9 : IVec S256 32 := broadcastInDim S256 ![] bcast_S_S256 c
  let v10 : IVec S256 1 := cmpi .ne v8 v9
  let v11 : IVec S256 1 := andi v6 v10
  let c_0 : IVec S_ 32 := constantI S_ 32 1#32
  let v12 : IVec S256 32 := broadcastInDim S256 ![] bcast_S_S256 c_0
  let v13 : IVec S256 32 := subi v2 v12
  let v14 : IVec S256 32 := fn_where (F := F) v11 v13 v2
  v14

def fn {F : FTy → Type} [FloatOps F] (main_arg0 : FVec F S4096x3072 .f32) (main_arg1 : FVec F S4x256 .f32) (main_arg2 : FVec F S256 .f32) (main_arg3 : FVec F S4x64x64 .f32) (main_arg4 : FVec F S4x64 .f32) (main_arg5 : FVec F S4x64x64 .f32) (main_arg6 : FVec F S4x64 .f32) (main_arg7 : FVec F S256 .f32) (main_arg8 : FVec F S256 .f32) (main_arg9 : FVec F S4096x256 .f32) (main_arg10 : FVec F S4096x3072 .f32) : IVec S4096x3072 1 × IVec S4x256 1 × IVec S1x256 1 × IVec S256x256 1 × IVec S1x256 1 × IVec S256x256 1 × IVec S1x256 1 × IVec S1x256 1 × IVec S1x256 1 :=
  let main_c : IVec S_ 1 := constantI S_ 1 1#1
  let main_v0 : IVec S1x256 1 := broadcastInDim S1x256 ![] bcast_S_S1x256 main_c
  let main_v1 : IVec S256 32 := iotaInDim S256 32 0
  let main_c_0 : IVec S_ 32 := constantI S_ 32 64#32
  let main_v2 : IVec S256 32 := fn_floor_divide (F := F) main_v1 main_c_0
  let main_v3 : IVec S256x1 32 := broadcastInDim S256x1 ![0] bcast_S256_S256x1_0 main_v2
  let main_v4 : IVec S1x256 32 := broadcastInDim S1x256 ![1] bcast_S256_S1x256_1 main_v2
  let main_v5 : IVec S256x256 32 := broadcastInDim S256x256 ![0, 1] bcast_S256x1_S256x256_0_1 main_v3
  let main_v6 : IVec S256x256 32 := broadcastInDim S256x256 ![0, 1] bcast_S1x256_S256x256_0_1 main_v4
  let main_v7 : IVec S256x256 1 := cmpi .eq main_v5 main_v6
  let main_c_1 : IVec S_ 1 := constantI S_ 1 1#1
  let main_v8 : IVec S4096x3072 1 := broadcastInDim S4096x3072 ![] bcast_S_S4096x3072 main_c_1
  let main_c_2 : IVec S_ 1 := constantI S_ 1 1#1
  let main_v9 : IVec S4x256 1 := broadcastInDim S4x256 ![] bcast_S_S4x256 main_c_2
  (main_v8, main_v9, main_v0, main_v7, main_v0, main_v7, main_v0, main_v0, main_v0)
-- ==== Pre_bounds_finite.lean ====
abbrev S4x512 : Shape := ⟨2, ![4, 512]⟩
abbrev S_ : Shape := ⟨0, ![]⟩

class Facts : Prop where
  bcast_S_S4x512 : S_.BroadcastsInDim S4x512 (![] : Fin 0 → Fin S4x512.rank)
  reducesTo_S4x512_S_d0_1 : S4x512.ReducesTo [0, 1] S_
  h_S_ : 0 < S_.numel

variable [Facts]

def fn {F : FTy → Type} [FloatOps F] (main_arg0 : FVec F S4x512 .f32) (main_arg1 : FVec F S4x512 .f32) : IVec S_ 1 :=
  let main_v0 : FVec F S4x512 .f32 := Host.absf main_arg0
  let main_cst : FVec F S_ .f32 := constant S_ .f32 0x7F800000#32
  let main_v1 : FVec F S4x512 .f32 := broadcastInDim S4x512 ![] bcast_S_S4x512 main_cst
  let main_v2 : IVec S4x512 1 := cmpf .olt main_v0 main_v1
  let main_c : IVec S_ 1 := constantI S_ 1 1#1
  let main_v3 : IVec S_ 1 := (fun x v => Host.reduce IntOp.andi x v reducesTo_S4x512_S_d0_1 h_S_) main_v2 main_c
  let main_v4 : FVec F S4x512 .f32 := Host.absf main_arg1
  let main_cst_0 : FVec F S_ .f32 := constant S_ .f32 0x7F800000#32
  let main_v5 : FVec F S4x512 .f32 := broadcastInDim S4x512 ![] bcast_S_S4x512 main_cst_0
  let main_v6 : IVec S4x512 1 := cmpf .olt main_v4 main_v5
  let main_c_1 : IVec S_ 1 := constantI S_ 1 1#1
  let main_v7 : IVec S_ 1 := (fun x v => Host.reduce IntOp.andi x v reducesTo_S4x512_S_d0_1 h_S_) main_v6 main_c_1
  let main_v8 : IVec S_ 1 := andi main_v3 main_v7
  main_v8
-- ==== Pre_ffn_finite.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1024 .f32) (main_arg2 : FVec F S1024x2816 .f32) (main_arg3 : FVec F S1024x2816 .f32) (main_arg4 : FVec F S2816x1024 .f32) (main_arg5 : FVec F S4096x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2816 .f32 := Host.absf main_arg3
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816x1024 .f32 := Host.absf main_arg4
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg5
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_lru_domain.lean ====
abbrev S4096x3072 : Shape := ⟨2, ![4096, 3072]⟩
abbrev S4x256 : Shape := ⟨2, ![4, 256]⟩
abbrev S256 : Shape := ⟨1, ![256]⟩
abbrev S4x64x64 : Shape := ⟨3, ![4, 64, 64]⟩
abbrev S4x64 : Shape := ⟨2, ![4, 64]⟩
abbrev S4096x256 : Shape := ⟨2, ![4096, 256]⟩
abbrev S_ : Shape := ⟨0, ![]⟩
abbrev S3x256 : Shape := ⟨2, ![3, 256]⟩
abbrev S4099x256 : Shape := ⟨2, ![4099, 256]⟩
abbrev S1x256 : Shape := ⟨2, ![1, 256]⟩
abbrev S4096x4x64 : Shape := ⟨3, ![4096, 4, 64]⟩
abbrev S4x64x4096 : Shape := ⟨3, ![4, 64, 4096]⟩
abbrev S1x4x64 : Shape := ⟨3, ![1, 4, 64]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4x256 : S_.BroadcastsInDim S4x256 (![] : Fin 0 → Fin S4x256.rank)
  reducesTo_S4x256_S_d0_1 : S4x256.ReducesTo [0, 1] S_
  bcast_S_S256 : S_.BroadcastsInDim S256 (![] : Fin 0 → Fin S256.rank)
  reducesTo_S256_S_d0 : S256.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S4096x256 : S_.BroadcastsInDim S4096x256 (![] : Fin 0 → Fin S4096x256.rank)
  reducesTo_S4096x256_S_d0_1 : S4096x256.ReducesTo [0, 1] S_
  slices_S4096x3072_S4096x256_0_2048 : S4096x3072.Slices ![0, 2048] S4096x256
  bcast_S_S3x256 : S_.BroadcastsInDim S3x256 (![] : Fin 0 → Fin S3x256.rank)
  concatenates_S3x256_S4096x256_S4099x256_d0 : Shape.Concatenates [S3x256, S4096x256] S4099x256 0
  slices_S4099x256_S4096x256_0_0 : S4099x256.Slices ![0, 0] S4096x256
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  slices_S4099x256_S4096x256_1_0 : S4099x256.Slices ![1, 0] S4096x256
  slices_S4x256_S1x256_1_0 : S4x256.Slices ![1, 0] S1x256
  slices_S4099x256_S4096x256_2_0 : S4099x256.Slices ![2, 0] S4096x256
  slices_S4x256_S1x256_2_0 : S4x256.Slices ![2, 0] S1x256
  slices_S4099x256_S4096x256_3_0 : S4099x256.Slices ![3, 0] S4096x256
  slices_S4x256_S1x256_3_0 : S4x256.Slices ![3, 0] S1x256
  shapeCasts_S4096x256_S4096x4x64 : S4096x256.ShapeCasts S4096x4x64
  transposes_S4x64x4096_S4096x4x64_2_0_1 : S4x64x4096.Transposes [2, 0, 1] S4096x4x64
  bcast_S4x64_S1x4x64_1_2 : S4x64.BroadcastsInDim S1x4x64 (![1, 2] : Fin 2 → Fin S1x4x64.rank)
  bcast_S1x4x64_S4096x4x64_0_1_2 : S1x4x64.BroadcastsInDim S4096x4x64 (![0, 1, 2] : Fin 3 → Fin S4096x4x64.rank)
  bcast_S_S4096x4x64 : S_.BroadcastsInDim S4096x4x64 (![] : Fin 0 → Fin S4096x4x64.rank)
  shapeCasts_S4096x4x64_S4096x256 : S4096x4x64.ShapeCasts S4096x256
  dot_S4x64x64_S4096x4x64_S4x64x4096_1_2_2_0_0_1_wf : DotDims.WF S4x64x64 S4096x4x64 S4x64x4096 [1] [2] [2] [0] [0] [1]

variable [Facts]

def dot_S4x64x64_S4096x4x64_S4x64x4096_1_2_2_0_0_1 : DotDims S4x64x64 S4096x4x64 S4x64x4096 where
  lhsContracting := [1]
  rhsContracting := [2]
  lhsNonContracting := [2]
  rhsNonContracting := [0]
  lhsBatch := [0]
  rhsBatch := [1]
  wf := dot_S4x64x64_S4096x4x64_S4x64x4096_1_2_2_0_0_1_wf
def fn_softplus {F : FTy → Type} [FloatOps F] (arg0 : FVec F S256 .f32) : FVec F S256 .f32 :=
  let cst : FVec F S_ .f32 := constant S_ .f32 0x00000000#32
  let v0 : FVec F S256 .f32 := broadcastInDim S256 ![] bcast_S_S256 cst
  let v1 : FVec F S256 .f32 := maximumf arg0 v0
  let v2 : FVec F S256 .f32 := broadcastInDim S256 ![] bcast_S_S256 cst
  let v3 : FVec F S256 .f32 := subf arg0 v2
  let v4 : IVec S256 1 := cmpf .une v3 v3
  let v5 : FVec F S256 .f32 := broadcastInDim S256 ![] bcast_S_S256 cst
  let v6 : FVec F S256 .f32 := addf arg0 v5
  let v7 : FVec F S256 .f32 := Host.absf v3
  let v8 : FVec F S256 .f32 := Host.negf v7
  let v9 : FVec F S256 .f32 := Host.exp v8
  let v10 : FVec F S256 .f32 := Host.log1p v9
  let v11 : FVec F S256 .f32 := addf v1 v10
  let v12 : FVec F S256 .f32 := select v4 v6 v11
  v12

def fn_part5 {F : FTy → Type} [FloatOps F] (main_arg7 : FVec F S256 .f32) (main_v49 : IVec S_ 1) (main_v95 : FVec F S4096x256 .f32) : IVec S_ 1 :=
  let main_cst_22 : FVec F S_ .f32 := constant S_ .f32 0xC1000000#32
  let main_v96 : FVec F S4096x256 .f32 := broadcastInDim S4096x256 ![] bcast_S_S4096x256 main_cst_22
  let main_v97 : FVec F S4096x256 .f32 := mulf main_v96 main_v95
  let main_v98 : FVec F S256 .f32 := Host.negf main_arg7
  let main_v99 : FVec F S256 .f32 := fn_softplus (F := F) main_v98
  let main_v100 : FVec F S1x256 .f32 := broadcastInDim S1x256 ![1] bcast_S256_S1x256_1 main_v99
  let main_v101 : FVec F S4096x256 .f32 := broadcastInDim S4096x256 ![0, 1] bcast_S1x256_S4096x256_0_1 main_v100
  let main_v102 : FVec F S4096x256 .f32 := mulf main_v97 main_v101
  let main_cst_23 : FVec F S_ .f32 := constant S_ .f32 0x40000000#32
  let main_v103 : FVec F S4096x256 .f32 := broadcastInDim S4096x256 ![] bcast_S_S4096x256 main_cst_23
  let main_v104 : FVec F S4096x256 .f32 := mulf main_v103 main_v102
  let main_cst_24 : FVec F S_ .f32 := constant S_ .f32 0xBCF5C28F#32
  let main_v105 : FVec F S4096x256 .f32 := broadcastInDim S4096x256 ![] bcast_S_S4096x256 main_cst_24
  let main_v106 : IVec S4096x256 1 := cmpf .ole main_v104 main_v105
  let main_c_25 : IVec S_ 1 := constantI S_ 1 1#1
  let main_v107 : IVec S_ 1 := (fun x v => Host.reduce IntOp.andi x v reducesTo_S4096x256_S_d0_1 h_S_) main_v106 main_c_25
  let main_v108 : IVec S_ 1 := andi main_v49 main_v107
  main_v108

def fn_part4 {F : FTy → Type} [FloatOps F] (main_arg1 : FVec F S4x256 .f32) (main_arg3 : FVec F S4x64x64 .f32) (main_arg4 : FVec F S4x64 .f32) (main_arg7 : FVec F S256 .f32) (main_v49 : IVec S_ 1) (main_v52 : FVec F S4099x256 .f32) (main_v68 : FVec F S4096x256 .f32) (main_v69 : FVec F S4096x256 .f32) (main_v73 : FVec F S4096x256 .f32) : IVec S_ 1 :=
  let main_v74 : FVec F S4096x256 .f32 := mulf main_v69 main_v73
  let main_v75 : FVec F S4096x256 .f32 := addf main_v68 main_v74
  let main_v76 : FVec F S4096x256 .f32 := (extractStridedSlice S4096x256 ![3, 0] · slices_S4099x256_S4096x256_3_0) main_v52
  let main_v77 : FVec F S1x256 .f32 := (extractStridedSlice S1x256 ![3, 0] · slices_S4x256_S1x256_3_0) main_arg1
  let main_v78 : FVec F S256 .f32 := shapeCast S256 main_v77 shapeCasts_S1x256_S256
  let main_v79 : FVec F S1x256 .f32 := broadcastInDim S1x256 ![1] bcast_S256_S1x256_1 main_v78
  let main_v80 : FVec F S4096x256 .f32 := broadcastInDim S4096x256 ![0, 1] bcast_S1x256_S4096x256_0_1 main_v79
  let main_v81 : FVec F S4096x256 .f32 := mulf main_v76 main_v80
  let main_v82 : FVec F S4096x256 .f32 := addf main_v75 main_v81
  let main_v83 : FVec F S4096x4x64 .f32 := shapeCast S4096x4x64 main_v82 shapeCasts_S4096x256_S4096x4x64
  let main_v84 : FVec F S4x64x4096 .f32 := (fun l r => Host.dotGeneral dot_S4x64x64_S4096x4x64_S4x64x4096_1_2_2_0_0_1 none l r) main_arg3 main_v83
  let main_v85 : FVec F S4096x4x64 .f32 := (transpose S4096x4x64 [2, 0, 1] · transposes_S4x64x4096_S4096x4x64_2_0_1) main_v84
  let main_v86 : FVec F S1x4x64 .f32 := broadcastInDim S1x4x64 ![1, 2] bcast_S4x64_S1x4x64_1_2 main_arg4
  let main_v87 : FVec F S4096x4x64 .f32 := broadcastInDim S4096x4x64 ![0, 1, 2] bcast_S1x4x64_S4096x4x64_0_1_2 main_v86
  let main_v88 : FVec F S4096x4x64 .f32 := addf main_v85 main_v87
  let main_v89 : FVec F S4096x4x64 .f32 := Host.negf main_v88
  let main_v90 : FVec F S4096x4x64 .f32 := Host.exp main_v89
  let main_cst_20 : FVec F S_ .f32 := constant S_ .f32 0x3F800000#32
  let main_v91 : FVec F S4096x4x64 .f32 := broadcastInDim S4096x4x64 ![] bcast_S_S4096x4x64 main_cst_20
  let main_v92 : FVec F S4096x4x64 .f32 := addf main_v91 main_v90
  let main_cst_21 : FVec F S_ .f32 := constant S_ .f32 0x3F800000#32
  let main_v93 : FVec F S4096x4x64 .f32 := broadcastInDim S4096x4x64 ![] bcast_S_S4096x4x64 main_cst_21
  let main_v94 : FVec F S4096x4x64 .f32 := Host.divf main_v93 main_v92
  let main_v95 : FVec F S4096x256 .f32 := shapeCast S4096x256 main_v94 shapeCasts_S4096x4x64_S4096x256
  fn_part5 (F := F) main_arg7 main_v49 main_v95

def fn_part3 {F : FTy → Type} [FloatOps F] (main_arg1 : FVec F S4x256 .f32) (main_arg2 : FVec F S256 .f32) (main_arg3 : FVec F S4x64x64 .f32) (main_arg4 : FVec F S4x64 .f32) (main_arg7 : FVec F S256 .f32) (main_v49 : IVec S_ 1) (main_v50 : FVec F S4096x256 .f32) : IVec S_ 1 :=
  let main_cst_19 : FVec F S_ .f32 := constant S_ .f32 0x00000000#32
  let main_v51 : FVec F S3x256 .f32 := broadcastInDim S3x256 ![] bcast_S_S3x256 main_cst_19
  let main_v52 : FVec F S4099x256 .f32 := (fun a b => concatenate S4099x256 0 [⟨S3x256, a⟩, ⟨S4096x256, b⟩] concatenates_S3x256_S4096x256_S4099x256_d0) main_v51 main_v50
  let main_v53 : FVec F S4096x256 .f32 := (extractStridedSlice S4096x256 ![0, 0] · slices_S4099x256_S4096x256_0_0) main_v52
  let main_v54 : FVec F S1x256 .f32 := (extractStridedSlice S1x256 ![0, 0] · slices_S4x256_S1x256_0_0) main_arg1
  let main_v55 : FVec F S256 .f32 := shapeCast S256 main_v54 shapeCasts_S1x256_S256
  let main_v56 : FVec F S1x256 .f32 := broadcastInDim S1x256 ![1] bcast_S256_S1x256_1 main_v55
  let main_v57 : FVec F S4096x256 .f32 := broadcastInDim S4096x256 ![0, 1] bcast_S1x256_S4096x256_0_1 main_v56
  let main_v58 : FVec F S4096x256 .f32 := mulf main_v53 main_v57
  let main_v59 : FVec F S1x256 .f32 := broadcastInDim S1x256 ![1] bcast_S256_S1x256_1 main_arg2
  let main_v60 : FVec F S4096x256 .f32 := broadcastInDim S4096x256 ![0, 1] bcast_S1x256_S4096x256_0_1 main_v59
  let main_v61 : FVec F S4096x256 .f32 := addf main_v60 main_v58
  let main_v62 : FVec F S4096x256 .f32 := (extractStridedSlice S4096x256 ![1, 0] · slices_S4099x256_S4096x256_1_0) main_v52
  let main_v63 : FVec F S1x256 .f32 := (extractStridedSlice S1x256 ![1, 0] · slices_S4x256_S1x256_1_0) main_arg1
  let main_v64 : FVec F S256 .f32 := shapeCast S256 main_v63 shapeCasts_S1x256_S256
  let main_v65 : FVec F S1x256 .f32 := broadcastInDim S1x256 ![1] bcast_S256_S1x256_1 main_v64
  let main_v66 : FVec F S4096x256 .f32 := broadcastInDim S4096x256 ![0, 1] bcast_S1x256_S4096x256_0_1 main_v65
  let main_v67 : FVec F S4096x256 .f32 := mulf main_v62 main_v66
  let main_v68 : FVec F S4096x256 .f32 := addf main_v61 main_v67
  let main_v69 : FVec F S4096x256 .f32 := (extractStridedSlice S4096x256 ![2, 0] · slices_S4099x256_S4096x256_2_0) main_v52
  let main_v70 : FVec F S1x256 .f32 := (extractStridedSlice S1x256 ![2, 0] · slices_S4x256_S1x256_2_0) main_arg1
  let main_v71 : FVec F S256 .f32 := shapeCast S256 main_v70 shapeCasts_S1x256_S256
  let main_v72 : FVec F S1x256 .f32 := broadcastInDim S1x256 ![1] bcast_S256_S1x256_1 main_v71
  let main_v73 : FVec F S4096x256 .f32 := broadcastInDim S4096x256 ![0, 1] bcast_S1x256_S4096x256_0_1 main_v72
  fn_part4 (F := F) main_arg1 main_arg3 main_arg4 main_arg7 main_v49 main_v52 main_v68 main_v69 main_v73

def fn_part2 {F : FTy → Type} [FloatOps F] (main_arg0 : FVec F S4096x3072 .f32) (main_arg1 : FVec F S4x256 .f32) (main_arg2 : FVec F S256 .f32) (main_arg3 : FVec F S4x64x64 .f32) (main_arg4 : FVec F S4x64 .f32) (main_arg7 : FVec F S256 .f32) (main_arg8 : FVec F S256 .f32) (main_arg9 : FVec F S4096x256 .f32) (main_v29 : IVec S_ 1) (main_v32 : IVec S4x64 1) (main_c_12 : IVec S_ 1) : IVec S_ 1 :=
  let main_v33 : IVec S_ 1 := (fun x v => Host.reduce IntOp.andi x v reducesTo_S4x64_S_d0_1 h_S_) main_v32 main_c_12
  let main_v34 : IVec S_ 1 := andi main_v29 main_v33
  let main_v35 : FVec F S256 .f32 := Host.absf main_arg7
  let main_cst_13 : FVec F S_ .f32 := constant S_ .f32 0x7F800000#32
  let main_v36 : FVec F S256 .f32 := broadcastInDim S256 ![] bcast_S_S256 main_cst_13
  let main_v37 : IVec S256 1 := cmpf .olt main_v35 main_v36
  let main_c_14 : IVec S_ 1 := constantI S_ 1 1#1
  let main_v38 : IVec S_ 1 := (fun x v => Host.reduce IntOp.andi x v reducesTo_S256_S_d0 h_S_) main_v37 main_c_14
  let main_v39 : IVec S_ 1 := andi main_v34 main_v38
  let main_v40 : FVec F S256 .f32 := Host.absf main_arg8
  let main_cst_15 : FVec F S_ .f32 := constant S_ .f32 0x7F800000#32
  let main_v41 : FVec F S256 .f32 := broadcastInDim S256 ![] bcast_S_S256 main_cst_15
  let main_v42 : IVec S256 1 := cmpf .olt main_v40 main_v41
  let main_c_16 : IVec S_ 1 := constantI S_ 1 1#1
  let main_v43 : IVec S_ 1 := (fun x v => Host.reduce IntOp.andi x v reducesTo_S256_S_d0 h_S_) main_v42 main_c_16
  let main_v44 : IVec S_ 1 := andi main_v39 main_v43
  let main_v45 : FVec F S4096x256 .f32 := Host.absf main_arg9
  let main_cst_17 : FVec F S_ .f32 := constant S_ .f32 0x7F800000#32
  let main_v46 : FVec F S4096x256 .f32 := broadcastInDim S4096x256 ![] bcast_S_S4096x256 main_cst_17
  let main_v47 : IVec S4096x256 1 := cmpf .olt main_v45 main_v46
  let main_c_18 : IVec S_ 1 := constantI S_ 1 1#1
  let main_v48 : IVec S_ 1 := (fun x v => Host.reduce IntOp.andi x v reducesTo_S4096x256_S_d0_1 h_S_) main_v47 main_c_18
  let main_v49 : IVec S_ 1 := andi main_v44 main_v48
  let main_v50 : FVec F S4096x256 .f32 := (extractStridedSlice S4096x256 ![0, 2048] · slices_S4096x3072_S4096x256_0_2048) main_arg0
  fn_part3 (F := F) main_arg1 main_arg2 main_arg3 main_arg4 main_arg7 main_v49 main_v50

def fn_part1 {F : FTy → Type} [FloatOps F] (main_arg0 : FVec F S4096x3072 .f32) (main_arg1 : FVec F S4x256 .f32) (main_arg2 : FVec F S256 .f32) (main_arg3 : FVec F S4x64x64 .f32) (main_arg4 : FVec F S4x64 .f32) (main_arg5 : FVec F S4x64x64 .f32) (main_arg6 : FVec F S4x64 .f32) (main_arg7 : FVec F S256 .f32) (main_arg8 : FVec F S256 .f32) (main_arg9 : FVec F S4096x256 .f32) (main_v14 : IVec S_ 1) (main_v15 : FVec F S4x64x64 .f32) (main_cst_5 : FVec F S_ .f32) : IVec S_ 1 :=
  let main_v16 : FVec F S4x64x64 .f32 := broadcastInDim S4x64x64 ![] bcast_S_S4x64x64 main_cst_5
  let main_v17 : IVec S4x64x64 1 := cmpf .olt main_v15 main_v16
  let main_c_6 : IVec S_ 1 := constantI S_ 1 1#1
  let main_v18 : IVec S_ 1 := (fun x v => Host.reduce IntOp.andi x v reducesTo_S4x64x64_S_d0_1_2 h_S_) main_v17 main_c_6
  let main_v19 : IVec S_ 1 := andi main_v14 main_v18
  let main_v20 : FVec F S4x64 .f32 := Host.absf main_arg4
  let main_cst_7 : FVec F S_ .f32 := constant S_ .f32 0x7F800000#32
  let main_v21 : FVec F S4x64 .f32 := broadcastInDim S4x64 ![] bcast_S_S4x64 main_cst_7
  let main_v22 : IVec S4x64 1 := cmpf .olt main_v20 main_v21
  let main_c_8 : IVec S_ 1 := constantI S_ 1 1#1
  let main_v23 : IVec S_ 1 := (fun x v => Host.reduce IntOp.andi x v reducesTo_S4x64_S_d0_1 h_S_) main_v22 main_c_8
  let main_v24 : IVec S_ 1 := andi main_v19 main_v23
  let main_v25 : FVec F S4x64x64 .f32 := Host.absf main_arg5
  let main_cst_9 : FVec F S_ .f32 := constant S_ .f32 0x7F800000#32
  let main_v26 : FVec F S4x64x64 .f32 := broadcastInDim S4x64x64 ![] bcast_S_S4x64x64 main_cst_9
  let main_v27 : IVec S4x64x64 1 := cmpf .olt main_v25 main_v26
  let main_c_10 : IVec S_ 1 := constantI S_ 1 1#1
  let main_v28 : IVec S_ 1 := (fun x v => Host.reduce IntOp.andi x v reducesTo_S4x64x64_S_d0_1_2 h_S_) main_v27 main_c_10
  let main_v29 : IVec S_ 1 := andi main_v24 main_v28
  let main_v30 : FVec F S4x64 .f32 := Host.absf main_arg6
  let main_cst_11 : FVec F S_ .f32 := constant S_ .f32 0x7F800000#32
  let main_v31 : FVec F S4x64 .f32 := broadcastInDim S4x64 ![] bcast_S_S4x64 main_cst_11
  let main_v32 : IVec S4x64 1 := cmpf .olt main_v30 main_v31
  let main_c_12 : IVec S_ 1 := constantI S_ 1 1#1
  fn_part2 (F := F) main_arg0 main_arg1 main_arg2 main_arg3 main_arg4 main_arg7 main_arg8 main_arg9 main_v29 main_v32 main_c_12

def fn {F : FTy → Type} [FloatOps F] (main_arg0 : FVec F S4096x3072 .f32) (main_arg1 : FVec F S4x256 .f32) (main_arg2 : FVec F S256 .f32) (main_arg3 : FVec F S4x64x64 .f32) (main_arg4 : FVec F S4x64 .f32) (main_arg5 : FVec F S4x64x64 .f32) (main_arg6 : FVec F S4x64 .f32) (main_arg7 : FVec F S256 .f32) (main_arg8 : FVec F S256 .f32) (main_arg9 : FVec F S4096x256 .f32) (main_arg10 : FVec F S4096x3072 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_c_0 : IVec S_ 1 := constantI S_ 1 1#1
  let main_v4 : IVec S_ 1 := andi main_c_0 main_v3
  let main_v5 : FVec F S4x256 .f32 := Host.absf main_arg1
  let main_cst_1 : FVec F S_ .f32 := constant S_ .f32 0x7F800000#32
  let main_v6 : FVec F S4x256 .f32 := broadcastInDim S4x256 ![] bcast_S_S4x256 main_cst_1
  let main_v7 : IVec S4x256 1 := cmpf .olt main_v5 main_v6
  let main_c_2 : IVec S_ 1 := constantI S_ 1 1#1
  let main_v8 : IVec S_ 1 := (fun x v => Host.reduce IntOp.andi x v reducesTo_S4x256_S_d0_1 h_S_) main_v7 main_c_2
  let main_v9 : IVec S_ 1 := andi main_v4 main_v8
  let main_v10 : FVec F S256 .f32 := Host.absf main_arg2
  let main_cst_3 : FVec F S_ .f32 := constant S_ .f32 0x7F800000#32
  let main_v11 : FVec F S256 .f32 := broadcastInDim S256 ![] bcast_S_S256 main_cst_3
  let main_v12 : IVec S256 1 := cmpf .olt main_v10 main_v11
  let main_c_4 : IVec S_ 1 := constantI S_ 1 1#1
  let main_v13 : IVec S_ 1 := (fun x v => Host.reduce IntOp.andi x v reducesTo_S256_S_d0 h_S_) main_v12 main_c_4
  let main_v14 : IVec S_ 1 := andi main_v9 main_v13
  let main_v15 : FVec F S4x64x64 .f32 := Host.absf main_arg3
  let main_cst_5 : FVec F S_ .f32 := constant S_ .f32 0x7F800000#32
  fn_part1 (F := F) main_arg0 main_arg1 main_arg2 main_arg3 main_arg4 main_arg5 main_arg6 main_arg7 main_arg8 main_arg9 main_v14 main_v15 main_cst_5
-- ==== Pre_sgu_finite.lean ====
abbrev S4096x3072 : Shape := ⟨2, ![4096, 3072]⟩
abbrev S4x128x128 : Shape := ⟨3, ![4, 128, 128]⟩
abbrev S4x128 : Shape := ⟨2, ![4, 128]⟩
abbrev S256 : Shape := ⟨1, ![256]⟩
abbrev S4096x256 : Shape := ⟨2, ![4096, 256]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S256 : S_.BroadcastsInDim S256 (![] : Fin 0 → Fin S256.rank)
  reducesTo_S256_S_d0 : S256.ReducesTo [0] S_
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_arg4 : FVec F S4096x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S4096x256 .f32 := Host.absf main_arg4
  let main_cst_6 : FVec F S_ .f32 := constant S_ .f32 0x7F800000#32
  let main_v20 : FVec F S4096x256 .f32 := broadcastInDim S4096x256 ![] bcast_S_S4096x256 main_cst_6
  let main_v21 : IVec S4096x256 1 := cmpf .olt main_v19 main_v20
  let main_c_7 : IVec S_ 1 := constantI S_ 1 1#1
  let main_v22 : IVec S_ 1 := (fun x v => Host.reduce IntOp.andi x v reducesTo_S4096x256_S_d0_1 h_S_) main_v21 main_c_7
  let main_v23 : IVec S_ 1 := andi main_v18 main_v22
  main_v23

def fn {F : FTy → Type} [FloatOps F] (main_arg0 : FVec F S4096x3072 .f32) (main_arg1 : FVec F S4x128x128 .f32) (main_arg2 : FVec F S4x128 .f32) (main_arg3 : FVec F S256 .f32) (main_arg4 : FVec F S4096x256 .f32) (main_arg5 : FVec F S4096x3072 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Pre_sgu_fwd_finite.lean ====
abbrev S4096x3072 : Shape := ⟨2, ![4096, 3072]⟩
abbrev S4x128x128 : Shape := ⟨3, ![4, 128, 128]⟩
abbrev S4x128 : Shape := ⟨2, ![4, 128]⟩
abbrev S256 : Shape := ⟨1, ![256]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn {F : FTy → Type} [FloatOps F] (main_arg0 : FVec F S4096x3072 .f32) (main_arg1 : FVec F S4x128x128 .f32) (main_arg2 : FVec F S4x128 .f32) (main_arg3 : FVec F S256 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  main_v13
-- ==== Loss.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x128, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x128, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Proj.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S1024x4x768 : Shape := ⟨3, ![1024, 4, 768]⟩
abbrev S4x1024x768 : Shape := ⟨3, ![4, 1024, 768]⟩
abbrev S1x1024 : Shape := ⟨2, ![1, 1024]⟩
abbrev S512x1024 : Shape := ⟨2, ![512, 1024]⟩
abbrev S512x3072 : Shape := ⟨2, ![512, 3072]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S4096x3072, .f32⟩
  | .hbm, ⟨5, _⟩ => ⟨S1024x4x768, .f32⟩
  | .hbm, ⟨6, _⟩ => ⟨S4x1024x768, .f32⟩
  | .hbm, ⟨7, _⟩ => ⟨S4x1024x768, .bf16⟩
  | .hbm, ⟨8, _⟩ => ⟨S1x1024, .f32⟩
  | .hbm, ⟨9, _⟩ => ⟨S4096x3072, .bf16⟩
  | .hbm, ⟨10, _⟩ => ⟨S4096x1024, .f32⟩
  | .hbm, ⟨11, _⟩ => ⟨S1x1024, .f32⟩
  | .hbm, ⟨12, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x3072, .bf16⟩
  | .local _ .vmem, ⟨6, _⟩ => ⟨S512x3072, .bf16⟩
  | .local _ .vmem, ⟨7, _⟩ => ⟨S4x1024x768, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjRefIdeal.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S4096x3072, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3072, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Ffn.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S4x704x1024 : Shape := ⟨3, ![4, 704, 1024]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 45
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x4x704, .f32⟩
  | .hbm, ⟨24, _⟩ => ⟨S4x4096x704, .f32⟩
  | .hbm, ⟨25, _⟩ => ⟨S4x4096x704, .bf16⟩
  | .hbm, ⟨26, _⟩ => ⟨S4096x2816, .f32⟩
  | .hbm, ⟨27, _⟩ => ⟨S4096x4x704, .f32⟩
  | .hbm, ⟨28, _⟩ => ⟨S4x4096x704, .f32⟩
  | .hbm, ⟨29, _⟩ => ⟨S4x4096x704, .bf16⟩
  | .hbm, ⟨30, _⟩ => ⟨S2816x1024, .f32⟩
  | .hbm, ⟨31, _⟩ => ⟨S2816x1024, .f32⟩
  | .hbm, ⟨32, _⟩ => ⟨S4x704x1024, .f32⟩
  | .hbm, ⟨33, _⟩ => ⟨S4x704x1024, .bf16⟩
  | .hbm, ⟨34, _⟩ => ⟨S4x704x1024, .f32⟩
  | .hbm, ⟨35, _⟩ => ⟨S4x704x1024, .bf16⟩
  | .hbm, ⟨36, _⟩ => ⟨S4x704x1024, .f32⟩
  | .hbm, ⟨37, _⟩ => ⟨S4x704x1024, .bf16⟩
  | .hbm, ⟨38, _⟩ => ⟨S1x1024, .f32⟩
  | .hbm, ⟨39, _⟩ => ⟨S4096x1024, .f32⟩
  | .hbm, ⟨40, _⟩ => ⟨S1x1024, .f32⟩
  | .hbm, ⟨41, _⟩ => ⟨S4x4096x704, .bf16⟩
  | .hbm, ⟨42, _⟩ => ⟨S4x4096x704, .bf16⟩
  | .hbm, ⟨43, _⟩ => ⟨S4096x1024, .bf16⟩
  | .hbm, ⟨44, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S4x256x704, .bf16⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x704x1024, .bf16⟩
  | .local _ .vmem, ⟨10, _⟩ => ⟨S4x704x1024, .bf16⟩
  | .local _ .vmem, ⟨11, _⟩ => ⟨S4x704x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S4x256x704, .bf16⟩
  | .local _ .vmem, ⟨16, _⟩ => ⟨S4x256x704, .bf16⟩
  | .local _ .vmem, ⟨17, _⟩ => ⟨S4x256x704, .bf16⟩
  | .local _ .vmem, ⟨18, _⟩ => ⟨S4x256x704, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev main_v30_4 : Ref sig .tc := ⟨.hbm, 43, rfl⟩
abbrev main_v30_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfnRefIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 145
  | .vmem => 0
  | .smem => 0
  | _ => 0

abbrev hbmTy0_0 (i : Nat) : BufTy := match i % 128 with
  | 0 => ⟨S4096x1024, .f32⟩
  | 1 => ⟨S1024, .f32⟩
  | 2 => ⟨S1024x2816, .f32⟩
  | 3 => ⟨S1024x2816, .f32⟩
  | 4 => ⟨S2816x1024, .f32⟩
  | 5 => ⟨S4096x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x2816, .f32⟩
  | 27 => ⟨S4096x2816, .f32⟩
  | 28 => ⟨S4096x2816, .f32⟩
  | 29 => ⟨S_, .f32⟩
  | 30 => ⟨S4096x2816, .f32⟩
  | 31 => ⟨S4096x2816, .f32⟩
  | 32 => ⟨S_, .f32⟩
  | 33 => ⟨S4096x2816, .f32⟩
  | 34 => ⟨S4096x2816, .f32⟩
  | 35 => ⟨S_, .f32⟩
  | 36 => ⟨S4096x2816, .f32⟩
  | 37 => ⟨S4096x2816, .f32⟩
  | 38 => ⟨S4096x2816, .f32⟩
  | 39 => ⟨S4096x2816, .f32⟩
  | 40 => ⟨S4096x2816, .f32⟩
  | 41 => ⟨S4096x2816, .f32⟩
  | 42 => ⟨S4096x1024, .f32⟩
  | 43 => ⟨S_, .f32⟩
  | 44 => ⟨S4096x1024, .f32⟩
  | 45 => ⟨S4096x1024, .f32⟩
  | 46 => ⟨S4096x1024, .f32⟩
  | 47 => ⟨S4096x1024, .f32⟩
  | 48 => ⟨S_, .f32⟩
  | 49 => ⟨S4096x1024, .f32⟩
  | 50 => ⟨S4096x1024, .f32⟩
  | 51 => ⟨S4096x2816, .f32⟩
  | 52 => ⟨S4096x2816, .f32⟩
  | 53 => ⟨S4096x2816, .f32⟩
  | 54 => ⟨S4096x1024, .f32⟩
  | 55 => ⟨S4096x2816, .f32⟩
  | 56 => ⟨S4096x2816, .f32⟩
  | 57 => ⟨S4096x2816, .f32⟩
  | 58 => ⟨S4096x2816, .f32⟩
  | 59 => ⟨S4096x1024, .f32⟩
  | 60 => ⟨S4096x1024, .f32⟩
  | 61 => ⟨S4096x1024, .f32⟩
  | 62 => ⟨S_, .f32⟩
  | 63 => ⟨S1024, .f32⟩
  | 64 => ⟨S1x1024, .f32⟩
  | 65 => ⟨S4096x1024, .f32⟩
  | 66 => ⟨S4096x1024, .f32⟩
  | 67 => ⟨S_, .f32⟩
  | 68 => ⟨S1024, .f32⟩
  | 69 => ⟨S4096x1024, .f32⟩
  | 70 => ⟨S_, .f32⟩
  | 71 => ⟨S4096, .f32⟩
  | 72 => ⟨S4096x1, .f32⟩
  | 73 => ⟨S4096x1024, .f32⟩
  | 74 => ⟨S4096x1024, .f32⟩
  | 75 => ⟨S4096x1024, .f32⟩
  | 76 => ⟨S4096x1, .f32⟩
  | 77 => ⟨S_, .f32⟩
  | 78 => ⟨S4096x1, .f32⟩
  | 79 => ⟨S4096x1, .f32⟩
  | 80 => ⟨S_, .f32⟩
  | 81 => ⟨S4096, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S4096x1024, .f32⟩
  | 88 => ⟨S_, .f32⟩
  | 89 => ⟨S4096, .f32⟩
  | 90 => ⟨S4096x1, .f32⟩
  | 91 => ⟨S_, .f32⟩
  | 92 => ⟨S4096x1, .f32⟩
  | 93 => ⟨S4096x1, .f32⟩
  | 94 => ⟨S_, .f32⟩
  | 95 => ⟨S4096x1, .f32⟩
  | 96 => ⟨S4096x1, .f32⟩
  | 97 => ⟨S4096x1, .f32⟩
  | 98 => ⟨S4096x1024, .f32⟩
  | 99 => ⟨S4096x1024, .f32⟩
  | 100 => ⟨S1x1024, .f32⟩
  | 101 => ⟨S4096x1024, .f32⟩
  | 102 => ⟨S4096x1024, .f32⟩
  | 103 => ⟨S4096x2816, .f32⟩
  | 104 => ⟨S4096x2816, .f32⟩
  | 105 => ⟨S4096x2816, .f32⟩
  | 106 => ⟨S4096x2816, .f32⟩
  | 107 => ⟨S_, .f32⟩
  | 108 => ⟨S4096x2816, .f32⟩
  | 109 => ⟨S4096x2816, .f32⟩
  | 110 => ⟨S_, .f32⟩
  | 111 => ⟨S4096x2816, .f32⟩
  | 112 => ⟨S4096x2816, .f32⟩
  | 113 => ⟨S_, .f32⟩
  | 114 => ⟨S4096x2816, .f32⟩
  | 115 => ⟨S4096x2816, .f32⟩
  | 116 => ⟨S4096x2816, .f32⟩
  | 117 => ⟨S4096x2816, .f32⟩
  | 118 => ⟨S4096x2816, .f32⟩
  | 119 => ⟨S4096x1024, .f32⟩
  | 120 => ⟨S_, .f32⟩
  | 121 => ⟨S4096x1024, .f32⟩
  | 122 => ⟨S4096x1024, .f32⟩
  | 123 => ⟨S_, .f32⟩
  | 124 => ⟨S4096x1024, .f32⟩
  | 125 => ⟨S4096x1024, .f32⟩
  | 126 => ⟨S4096x2816, .f32⟩
  | 127 => ⟨S4096x2816, .f32⟩
  | _ => ⟨S4096x1024, .f32⟩

abbrev hbmTy0_1 (i : Nat) : BufTy := match i % 128 with
  | 0 => ⟨S4096x2816, .f32⟩
  | 1 => ⟨S4096x2816, .f32⟩
  | 2 => ⟨S4096x2816, .f32⟩
  | 3 => ⟨S4096x2816, .f32⟩
  | 4 => ⟨S4096x2816, .f32⟩
  | 5 => ⟨S1x1024, .f32⟩
  | 6 => ⟨S4096x4x704, .f32⟩
  | 7 => ⟨S4x4096x704, .f32⟩
  | 8 => ⟨S4x4096x704, .bf16⟩
  | 9 => ⟨S4096x4x704, .f32⟩
  | 10 => ⟨S4x4096x704, .f32⟩
  | 11 => ⟨S4x4096x704, .bf16⟩
  | 12 => ⟨S4096x1024, .bf16⟩
  | 13 => ⟨S_, .f32⟩
  | 14 => ⟨S4096x1024, .f32⟩
  | 15 => ⟨S4096x1024, .f32⟩
  | 16 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_v70_2 : Ref sig .tc := ⟨.hbm, 112, rfl⟩
abbrev main_call2_cst_1 : Ref sig .tc := ⟨.hbm, 113, rfl⟩
abbrev main_call2_v6 : Ref sig .tc := ⟨.hbm, 114, rfl⟩
abbrev main_call2_v7 : Ref sig .tc := ⟨.hbm, 115, rfl⟩
abbrev main_v70_1 : Ref sig .tc := ⟨.hbm, 116, rfl⟩
abbrev main_v70_0 : Ref sig .tc := ⟨.hbm, 117, rfl⟩
abbrev main_v71 : Ref sig .tc := ⟨.hbm, 118, rfl⟩
abbrev main_v72 : Ref sig .tc := ⟨.hbm, 119, rfl⟩
abbrev main_cst_13 : Ref sig .tc := ⟨.hbm, 120, rfl⟩
abbrev main_v73 : Ref sig .tc := ⟨.hbm, 121, rfl⟩
abbrev main_v74 : Ref sig .tc := ⟨.hbm, 122, rfl⟩
abbrev main_cst_14 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_15 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩

abbrev nD : Nat := 1
abbrev τ : Topo := Topo.v7x

variable {F : FTy → Type} [FloatOps F]
-- ==== FfnW.lean ====
abbrev S4096x1024 : Shape := ⟨2, ![4096, 1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 25
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x1024, .f32⟩
  | .hbm, ⟨6, _⟩ => ⟨S4096x2816, .f32⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S4096x2816, .f32⟩
  | .hbm, ⟨11, _⟩ => ⟨S4096x4x704, .f32⟩
  | .hbm, ⟨12, _⟩ => ⟨S4x4096x704, .f32⟩
  | .hbm, ⟨13, _⟩ => ⟨S4x4096x704, .bf16⟩
  | .hbm, ⟨14, _⟩ => ⟨S4096x1024, .bf16⟩
  | .hbm, ⟨15, _⟩ => ⟨S4096x1024, .bf16⟩
  | .hbm, ⟨16, _⟩ => ⟨S4096x4x704, .f32⟩
  | .hbm, ⟨17, _⟩ => ⟨S4x4096x704, .f32⟩
  | .hbm, ⟨18, _⟩ => ⟨S4x4096x704, .bf16⟩
  | .hbm, ⟨19, _⟩ => ⟨S4096x4x704, .f32⟩
  | .hbm, ⟨20, _⟩ => ⟨S4x4096x704, .f32⟩
  | .hbm, ⟨21, _⟩ => ⟨S4x4096x704, .bf16⟩
  | .hbm, ⟨22, _⟩ => ⟨S4x704x1024, .bf16⟩
  | .hbm, ⟨23, _⟩ => ⟨S4x704x1024, .bf16⟩
  | .hbm, ⟨24, _⟩ => ⟨S4x704x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x704x1024, .bf16⟩
  | .local _ .vmem, ⟨17, _⟩ => ⟨S1x704x1024, .bf16⟩
  | .local _ .vmem, ⟨18, _⟩ => ⟨S704x1024, .f32⟩
  | .local _ .vmem, ⟨19, _⟩ => ⟨S704x1024, .f32⟩
  | .local _ .vmem, ⟨20, _⟩ => ⟨S704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_30 : BitVec 32 := 0#32
  let v41 : BitVec 1 := Scalar.cmpi .ne v40 c0_i32_30
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnWRefIdeal.lean ====
abbrev S4096x1024 : Shape := ⟨2, ![4096, 1024]⟩
abbrev S1024x2816 : Shape := ⟨2, ![1024, 2816]⟩
abbrev S4096x2816 : Shape := ⟨2, ![4096, 2816]⟩
abbrev S2816x1024 : Shape := ⟨2, ![2816, 1024]⟩
abbrev S_ : Shape := ⟨0, ![]⟩
abbrev S4x704x1024 : Shape := ⟨3, ![4, 704, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S1024x2816, .f32⟩
  | .hbm, ⟨12, _⟩ => ⟨S_, .f32⟩
  | .hbm, ⟨13, _⟩ => ⟨S2816x1024, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x1024, .f32⟩
  | .hbm, ⟨27, _⟩ => ⟨S1024x2816, .f32⟩
  | .hbm, ⟨28, _⟩ => ⟨S2816x1024, .f32⟩
  | .hbm, ⟨29, _⟩ => ⟨S2816x1024, .f32⟩
  | .hbm, ⟨30, _⟩ => ⟨S2816x1024, .f32⟩
  | .hbm, ⟨31, _⟩ => ⟨S4x704x1024, .f32⟩
  | .hbm, ⟨32, _⟩ => ⟨S4x704x1024, .bf16⟩
  | .hbm, ⟨33, _⟩ => ⟨S4x704x1024, .f32⟩
  | .hbm, ⟨34, _⟩ => ⟨S4x704x1024, .bf16⟩
  | .hbm, ⟨35, _⟩ => ⟨S4x704x1024, .f32⟩
  | .hbm, ⟨36, _⟩ => ⟨S4x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Bounds.lean ====
abbrev S4x512 : Shape := ⟨2, ![4, 512]⟩
abbrev S512 : Shape := ⟨1, ![512]⟩
abbrev S1x512 : Shape := ⟨2, ![1, 512]⟩
abbrev S3x512 : Shape := ⟨2, ![3, 512]⟩
abbrev S2x512 : Shape := ⟨2, ![2, 512]⟩

abbrev nBuf : Space → Nat
  | .hbm => 3
  | .vmem => 3
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BoundsRefIdeal.lean ====
abbrev S4x512 : Shape := ⟨2, ![4, 512]⟩
abbrev S_ : Shape := ⟨0, ![]⟩
abbrev S512 : Shape := ⟨1, ![512]⟩
abbrev S1x512 : Shape := ⟨2, ![1, 512]⟩

abbrev nBuf : Space → Nat
  | .hbm => 76
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S_, .f32⟩
  | .hbm, ⟨3, _⟩ => ⟨S512, .f32⟩
  | .hbm, ⟨4, _⟩ => ⟨S1x512, .f32⟩
  | .hbm, ⟨5, _⟩ => ⟨S4x512, .f32⟩
  | .hbm, ⟨6, _⟩ => ⟨S4x512, .i1⟩
  | .hbm, ⟨7, _⟩ => ⟨S4x512, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .i1⟩
  | .hbm, ⟨16, _⟩ => ⟨S_, .f32⟩
  | .hbm, ⟨17, _⟩ => ⟨S512, .f32⟩
  | .hbm, ⟨18, _⟩ => ⟨S512, .i1⟩
  | .hbm, ⟨19, _⟩ => ⟨S_, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S4x512, .f32⟩
  | .hbm, ⟨29, _⟩ => ⟨S4x512, .f32⟩
  | .hbm, ⟨30, _⟩ => ⟨S4x512, .f32⟩
  | .hbm, ⟨31, _⟩ => ⟨S_, .f32⟩
  | .hbm, ⟨32, _⟩ => ⟨S512, .f32⟩
  | .hbm, ⟨33, _⟩ => ⟨S1x512, .f32⟩
  | .hbm, ⟨34, _⟩ => ⟨S4x512, .f32⟩
  | .hbm, ⟨35, _⟩ => ⟨S4x512, .f32⟩
  | .hbm, ⟨36, _⟩ => ⟨S1x512, .f32⟩
  | .hbm, ⟨37, _⟩ => ⟨S_, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S_, .f32⟩
  | .hbm, ⟨42, _⟩ => ⟨S4x512, .f32⟩
  | .hbm, ⟨43, _⟩ => ⟨S1x512, .f32⟩
  | .hbm, ⟨44, _⟩ => ⟨S512, .f32⟩
  | .hbm, ⟨45, _⟩ => ⟨S1x512, .f32⟩
  | .hbm, ⟨46, _⟩ => ⟨S4x512, .f32⟩
  | .hbm, ⟨47, _⟩ => ⟨S4x512, .f32⟩
  | .hbm, ⟨48, _⟩ => ⟨S4x512, .f32⟩
  | .hbm, ⟨49, _⟩ => ⟨S4x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S_, .f32⟩
  | .hbm, ⟨57, _⟩ => ⟨S4x512, .f32⟩
  | .hbm, ⟨58, _⟩ => ⟨S_, .f32⟩
  | .hbm, ⟨59, _⟩ => ⟨S_, .f32⟩
  | .hbm, ⟨60, _⟩ => ⟨S4x512, .f32⟩
  | .hbm, ⟨61, _⟩ => ⟨S4x512, .f32⟩
  | .hbm, ⟨62, _⟩ => ⟨S4x512, .f32⟩
  | .hbm, ⟨63, _⟩ => ⟨S4x512, .f32⟩
  | .hbm, ⟨64, _⟩ => ⟨S4x512, .f32⟩
  | .hbm, ⟨65, _⟩ => ⟨S_, .f32⟩
  | .hbm, ⟨66, _⟩ => ⟨S512, .f32⟩
  | .hbm, ⟨67, _⟩ => ⟨S1x512, .f32⟩
  | .hbm, ⟨68, _⟩ => ⟨S1x512, .f32⟩
  | .hbm, ⟨69, _⟩ => ⟨S4x512, .f32⟩
  | .hbm, ⟨70, _⟩ => ⟨S4x512, .f32⟩
  | .hbm, ⟨71, _⟩ => ⟨S_, .f32⟩
  | .hbm, ⟨72, _⟩ => ⟨S512, .f32⟩
  | .hbm, ⟨73, _⟩ => ⟨S4x512, .f32⟩
  | .hbm, ⟨74, _⟩ => ⟨S4x512, .f32⟩
  | .hbm, ⟨75, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_call1_call0_cst : Ref sig .tc := ⟨.hbm, 58, rfl⟩
abbrev main_call1_call0_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Sgu.lean ====
abbrev S4096x3072 : Shape := ⟨2, ![4096, 3072]⟩
abbrev S4x128x128 : Shape := ⟨3, ![4, 128, 128]⟩
abbrev S4x128 : Shape := ⟨2, ![4, 128]⟩
abbrev S256 : Shape := ⟨1, ![256]⟩
abbrev S4096x256 : Shape := ⟨2, ![4096, 256]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S_ : Shape := ⟨0, ![]⟩
abbrev S256x1 : Shape := ⟨2, ![256, 1]⟩
abbrev S256x256 : Shape := ⟨2, ![256, 256]⟩
abbrev S1024x256 : Shape := ⟨2, ![1024, 256]⟩
abbrev S1024x512 : Shape := ⟨2, ![1024, 512]⟩
abbrev S128x128 : Shape := ⟨2, ![128, 128]⟩
abbrev S1x128x128 : Shape := ⟨3, ![1, 128, 128]⟩
abbrev S256x128 : Shape := ⟨2, ![256, 128]⟩
abbrev S3x128x128 : Shape := ⟨3, ![3, 128, 128]⟩
abbrev S2x128x128 : Shape := ⟨3, ![2, 128, 128]⟩
abbrev S128 : Shape := ⟨1, ![128]⟩
abbrev S128x1 : Shape := ⟨2, ![128, 1]⟩

abbrev nBuf : Space → Nat
  | .hbm => 43
  | .vmem => 16
  | .smem => 0
  | _ => 0

abbrev bufTy : (tb : Table) → Fin (tcTables nBuf tb) → BufTy
  | .hbm, ⟨0, _⟩ => ⟨S4096x3072, .f32⟩
  | .hbm, ⟨1, _⟩ => ⟨S4x128x128, .f32⟩
  | .hbm, ⟨2, _⟩ => ⟨S4x128, .f32⟩
  | .hbm, ⟨3, _⟩ => ⟨S256, .f32⟩
  | .hbm, ⟨4, _⟩ => ⟨S4096x256, .f32⟩
  | .hbm, ⟨5, _⟩ => ⟨S4096x3072, .f32⟩
  | .hbm, ⟨6, _⟩ => ⟨S4096x3072, .bf16⟩
  | .hbm, ⟨7, _⟩ => ⟨S128x4, .f32⟩
  | .hbm, ⟨8, _⟩ => ⟨S128x4x64, .f32⟩
  | .hbm, ⟨9, _⟩ => ⟨S128x256, .f32⟩
  | .hbm, ⟨10, _⟩ => ⟨S1x256, .f32⟩
  | .hbm, ⟨11, _⟩ => ⟨S256, .i32⟩
  | .hbm, ⟨12, _⟩ => ⟨S_, .i32⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S256, .i32⟩
  | .hbm, ⟨21, _⟩ => ⟨S256, .i32⟩
  | .hbm, ⟨22, _⟩ => ⟨S_, .i32⟩
  | .hbm, ⟨23, _⟩ => ⟨S256, .i32⟩
  | .hbm, ⟨24, _⟩ => ⟨S256, .i1⟩
  | .hbm, ⟨25, _⟩ => ⟨S256, .i1⟩
  | .hbm, ⟨26, _⟩ => ⟨S_, .i32⟩
  | .hbm, ⟨27, _⟩ => ⟨S256, .i32⟩
  | .hbm, ⟨28, _⟩ => ⟨S256, .i32⟩
  | .hbm, ⟨29, _⟩ => ⟨S256, .i32⟩
  | .hbm, ⟨30, _⟩ => ⟨S256x1, .i32⟩
  | .hbm, ⟨31, _⟩ => ⟨S1x256, .i32⟩
  | .hbm, ⟨32, _⟩ => ⟨S256x256, .i32⟩
  | .hbm, ⟨33, _⟩ => ⟨S256x256, .i32⟩
  | .hbm, ⟨34, _⟩ => ⟨S256x256, .i1⟩
  | .hbm, ⟨35, _⟩ => ⟨S256x256, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S4096x3072, .bf16⟩
  | .hbm, ⟨40, _⟩ => ⟨S4x128x128, .f32⟩
  | .hbm, ⟨41, _⟩ => ⟨S128x4, .f32⟩
  | .hbm, ⟨42, _⟩ => ⟨S1x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S4x128x128, .f32⟩
  | .local _ .vmem, ⟨7, _⟩ => ⟨S128x256, .f32⟩
  | .local _ .vmem, ⟨8, _⟩ => ⟨S1x256, .f32⟩
  | .local _ .vmem, ⟨9, _⟩ => ⟨S256x256, .f32⟩
  | .local _ .vmem, ⟨10, _⟩ => ⟨S1024x512, .bf16⟩
  | .local _ .vmem, ⟨11, _⟩ => ⟨S1024x512, .bf16⟩
  | .local _ .vmem, ⟨12, _⟩ => ⟨S4x128x128, .f32⟩
  | .local _ .vmem, ⟨13, _⟩ => ⟨S128x4, .f32⟩
  | .local _ .vmem, ⟨14, _⟩ => ⟨S1x256, .f32⟩
  | .local _ .vmem, ⟨15, _⟩ => ⟨S128x256, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_v14 : Ref sig .tc := ⟨.hbm, 38, rfl⟩
abbrev main_v15_0 : Ref sig .tc := ⟨.hbm, 39, rfl⟩
abbrev main_v15_1 : Ref sig .tc := ⟨.hbm, 40, rfl⟩
abbrev main_v15_2 : Ref sig .tc := ⟨.hbm, 41, rfl⟩
abbrev main_v15_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v2404 : BitVec 1 := Scalar.cmpi .eq arg0 c3_i32
  let v2405 : BitVec 32 := Scalar.extui v2404
  let c0_i32_715 : BitVec 32 := 0#32
  let v2406 : BitVec 1 := Scalar.cmpi .ne v2405 c0_i32_715
  v2406

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SguRefIdeal.lean ====
abbrev S4096x3072 : Shape := ⟨2, ![4096, 3072]⟩
abbrev S4x128x128 : Shape := ⟨3, ![4, 128, 128]⟩
abbrev S4x128 : Shape := ⟨2, ![4, 128]⟩
abbrev S256 : Shape := ⟨1, ![256]⟩
abbrev S4096x256 : Shape := ⟨2, ![4096, 256]⟩
abbrev S_ : Shape := ⟨0, ![]⟩
abbrev S32x128x4x64 : Shape := ⟨4, ![32, 128, 4, 64]⟩
abbrev S32x128x4 : Shape := ⟨3, ![32, 128, 4]⟩
abbrev S32x128x4x1 : Shape := ⟨4, ![32, 128, 4, 1]⟩
abbrev S128x128 : Shape := ⟨2, ![128, 128]⟩
abbrev S1x128x128 : Shape := ⟨3, ![1, 128, 128]⟩
abbrev S4x32x64x128 : Shape := ⟨4, ![4, 32, 64, 128]⟩
abbrev S128x4 : Shape := ⟨2, ![128, 4]⟩
abbrev S128x4x1 : Shape := ⟨3, ![128, 4, 1]⟩
abbrev S1x128x4x1 : Shape := ⟨4, ![1, 128, 4, 1]⟩
abbrev S4096x4x64 : Shape := ⟨3, ![4096, 4, 64]⟩
abbrev S4096x4 : Shape := ⟨2, ![4096, 4]⟩
abbrev S4096x4x1 : Shape := ⟨3, ![4096, 4, 1]⟩
abbrev S1x256 : Shape := ⟨2, ![1, 256]⟩
abbrev S4096x2560 : Shape := ⟨2, ![4096, 2560]⟩

abbrev nBuf : Space → Nat
  | .hbm => 252
  | .vmem => 0
  | .smem => 0
  | _ => 0

abbrev hbmTy0_0 (i : Nat) : BufTy := match i % 128 with
  | 0 => ⟨S4096x3072, .f32⟩
  | 1 => ⟨S4x128x128, .f32⟩
  | 2 => ⟨S4x128, .f32⟩
  | 3 => ⟨S256, .f32⟩
  | 4 => ⟨S4096x256, .f32⟩
  | 5 => ⟨S4096x3072, .f32⟩
  | 6 => ⟨S4096x256, .f32⟩
  | 7 => ⟨S4096x256, .f32⟩
  | 8 => ⟨S4096x256, .f32⟩
  | 9 => ⟨S4096x256, .f32⟩
  | 10 => ⟨S4096x256, .f32⟩
  | 11 => ⟨S_, .f32⟩
  | 12 => ⟨S4096x256, .f32⟩
  | 13 => ⟨S4096x256, .f32⟩
  | 14 => ⟨S_, .f32⟩
  | 15 => ⟨S4096x256, .f32⟩
  | 16 => ⟨S4096x256, .f32⟩
  | 17 => ⟨S4096x256, .f32⟩
  | 18 => ⟨S_, .f32⟩
  | 19 => ⟨S4096x256, .f32⟩
  | 20 => ⟨S4096x256, .f32⟩
  | 21 => ⟨S4096x256, .f32⟩
  | 22 => ⟨S_, .f32⟩
  | 23 => ⟨S4096x256, .f32⟩
  | 24 => ⟨S4096x256, .f32⟩
  | 25 => ⟨S_, .f32⟩
  | 26 => ⟨S4096x256, .f32⟩
  | 27 => ⟨S4096x256, .f32⟩
  | 28 => ⟨S4096x256, .f32⟩
  | 29 => ⟨S_, .f32⟩
  | 30 => ⟨S4096x256, .f32⟩
  | 31 => ⟨S4096x256, .f32⟩
  | 32 => ⟨S_, .f32⟩
  | 33 => ⟨S4096x256, .f32⟩
  | 34 => ⟨S4096x256, .f32⟩
  | 35 => ⟨S4096x256, .f32⟩
  | 36 => ⟨S4096x256, .f32⟩
  | 37 => ⟨S4096x256, .f32⟩
  | 38 => ⟨S4096x256, .f32⟩
  | 39 => ⟨S_, .f32⟩
  | 40 => ⟨S4096x256, .f32⟩
  | 41 => ⟨S4096x256, .f32⟩
  | 42 => ⟨S_, .f32⟩
  | 43 => ⟨S4096x256, .f32⟩
  | 44 => ⟨S4096x256, .f32⟩
  | 45 => ⟨S4096x256, .f32⟩
  | 46 => ⟨S_, .f32⟩
  | 47 => ⟨S4096x256, .f32⟩
  | 48 => ⟨S4096x256, .f32⟩
  | 49 => ⟨S4096x256, .f32⟩
  | 50 => ⟨S_, .f32⟩
  | 51 => ⟨S4096x256, .f32⟩
  | 52 => ⟨S4096x256, .f32⟩
  | 53 => ⟨S_, .f32⟩
  | 54 => ⟨S4096x256, .f32⟩
  | 55 => ⟨S4096x256, .f32⟩
  | 56 => ⟨S4096x256, .f32⟩
  | 57 => ⟨S_, .f32⟩
  | 58 => ⟨S4096x256, .f32⟩
  | 59 => ⟨S4096x256, .f32⟩
  | 60 => ⟨S_, .f32⟩
  | 61 => ⟨S4096x256, .f32⟩
  | 62 => ⟨S4096x256, .f32⟩
  | 63 => ⟨S4096x256, .f32⟩
  | 64 => ⟨S32x128x4x64, .f32⟩
  | 65 => ⟨S_, .f32⟩
  | 66 => ⟨S32x128x4, .f32⟩
  | 67 => ⟨S32x128x4x1, .f32⟩
  | 68 => ⟨S_, .f32⟩
  | 69 => ⟨S32x128x4x1, .f32⟩
  | 70 => ⟨S32x128x4x1, .f32⟩
  | 71 => ⟨S32x128x4x64, .f32⟩
  | 72 => ⟨S32x128x4x64, .f32⟩
  | 73 => ⟨S32x128x4x64, .f32⟩
  | 74 => ⟨S_, .f32⟩
  | 75 => ⟨S32x128x4x64, .f32⟩
  | 76 => ⟨S32x128x4x64, .f32⟩
  | 77 => ⟨S_, .f32⟩
  | 78 => ⟨S32x128x4, .f32⟩
  | 79 => ⟨S32x128x4x1, .f32⟩
  | 80 => ⟨S_, .f32⟩
  | 81 => ⟨S32x128x4x1, .f32⟩
  | 82 => ⟨S32x128x4x1, .f32⟩
  | 83 => ⟨S32x128x4x64, .f32⟩
  | 84 => ⟨S32x128x4x64, .f32⟩
  | 85 => ⟨S_, .f32⟩
  | 86 => ⟨S32x128x4x1, .f32⟩
  | 87 => ⟨S32x128x4x1, .f32⟩
  | 88 => ⟨S32x128x4x1, .f32⟩
  | 89 => ⟨S32x128x4x1, .f32⟩
  | 90 => ⟨S_, .f32⟩
  | 91 => ⟨S32x128x4x1, .f32⟩
  | 92 => ⟨S32x128x4x1, .f32⟩
  | 93 => ⟨S32x128x4x64, .f32⟩
  | 94 => ⟨S32x128x4x64, .f32⟩
  | 95 => ⟨S_, .f32⟩
  | 96 => ⟨S128x128, .f32⟩
  | 97 => ⟨S128x128, .i32⟩
  | 98 => ⟨S_, .i32⟩
  | 99 => ⟨S128x128, .i32⟩
  | 100 => ⟨S128x128, .i32⟩
  | 101 => ⟨S128x128, .i32⟩
  | 102 => ⟨S128x128, .i1⟩
  | 103 => ⟨S_, .f32⟩
  | 104 => ⟨S128x128, .f32⟩
  | 105 => ⟨S128x128, .f32⟩
  | 106 => ⟨S1x128x128, .f32⟩
  | 107 => ⟨S4x128x128, .f32⟩
  | 108 => ⟨S4x128x128, .f32⟩
  | 109 => ⟨S4x32x64x128, .f32⟩
  | 110 => ⟨S32x128x4x64, .f32⟩
  | 111 => ⟨S128x4, .f32⟩
  | 112 => ⟨S128x4x1, .f32⟩
  | 113 => ⟨S1x128x4x1, .f32⟩
  | 114 => ⟨S32x128x4x64, .f32⟩
  | 115 => ⟨S32x128x4x64, .f32⟩
  | 116 => ⟨S4096x256, .f32⟩
  | 117 => ⟨S4096x256, .f32⟩
  | 118 => ⟨S4096x4x64, .f32⟩
  | 119 => ⟨S4096x4x64, .f32⟩
  | 120 => ⟨S_, .f32⟩
  | 121 => ⟨S4096x4, .f32⟩
  | 122 => ⟨S4096x4x1, .f32⟩
  | 123 => ⟨S_, .f32⟩
  | 124 => ⟨S4096x4x1, .f32⟩
  | 125 => ⟨S4096x4x1, .f32⟩
  | 126 => ⟨S_, .f32⟩
  | 127 => ⟨S4096x4x1, .f32⟩
  | _ => ⟨S4096x3072, .f32⟩

abbrev hbmTy0_1 (i : Nat) : BufTy := match i % 128 with
  | 0 => ⟨S4096x4x1, .f32⟩
  | 1 => ⟨S4096x4x1, .f32⟩
  | 2 => ⟨S4096x4x1, .f32⟩
  | 3 => ⟨S_, .f32⟩
  | 4 => ⟨S4096x4x1, .f32⟩
  | 5 => ⟨S4096x4x1, .f32⟩
  | 6 => ⟨S4096x4x64, .f32⟩
  | 7 => ⟨S4096x4x64, .f32⟩
  | 8 => ⟨S4096x256, .f32⟩
  | 9 => ⟨S1x256, .f32⟩
  | 10 => ⟨S4096x256, .f32⟩
  | 11 => ⟨S4096x256, .f32⟩
  | 12 => ⟨S4096x256, .f32⟩
  | 13 => ⟨S_, .f32⟩
  | 14 => ⟨S256, .f32⟩
  | 15 => ⟨S1x256, .f32⟩
  | 16 => ⟨S4096x256, .f32⟩
  | 17 => ⟨S4096x256, .f32⟩
  | 18 => ⟨S_, .f32⟩
  | 19 => ⟨S256, .f32⟩
  | 20 => ⟨S4096x4x64, .f32⟩
  | 21 => ⟨S4096x4x64, .f32⟩
  | 22 => ⟨S_, .f32⟩
  | 23 => ⟨S4096x4, .f32⟩
  | 24 => ⟨S4096x4x1, .f32⟩
  | 25 => ⟨S4096x4x64, .f32⟩
  | 26 => ⟨S4096x4x64, .f32⟩
  | 27 => ⟨S4096x4x1, .f32⟩
  | 28 => ⟨S_, .f32⟩
  | 29 => ⟨S4096x4x1, .f32⟩
  | 30 => ⟨S4096x4x1, .f32⟩
  | 31 => ⟨S_, .f32⟩
  | 32 => ⟨S4096x4, .f32⟩
  | 33 => ⟨S4096x4x64, .f32⟩
  | 34 => ⟨S4096x4x64, .f32⟩
  | 35 => ⟨S4096x4x64, .f32⟩
  | 36 => ⟨S4096x4x64, .f32⟩
  | 37 => ⟨S4096x4x64, .f32⟩
  | 38 => ⟨S4096x256, .f32⟩
  | 39 => ⟨S4096x256, .f32⟩
  | 40 => ⟨S4096x256, .f32⟩
  | 41 => ⟨S32x128x4x64, .f32⟩
  | 42 => ⟨S_, .f32⟩
  | 43 => ⟨S128x4, .f32⟩
  | 44 => ⟨S1x128x4x1, .f32⟩
  | 45 => ⟨S_, .f32⟩
  | 46 => ⟨S128x4, .f32⟩
  | 47 => ⟨S128x4x1, .f32⟩
  | 48 => ⟨S_, .f32⟩
  | 49 => ⟨S128x4, .f32⟩
  | 50 => ⟨S4x128, .f32⟩
  | 51 => ⟨S4x32x64x128, .f32⟩
  | 52 => ⟨S4x128x128, .f32⟩
  | 53 => ⟨S4x32x64x128, .f32⟩
  | 54 => ⟨S32x128x4x64, .f32⟩
  | 55 => ⟨S4x128x128, .f32⟩
  | 56 => ⟨S4x128x128, .f32⟩
  | 57 => ⟨S32x128x4x64, .f32⟩
  | 58 => ⟨S_, .f32⟩
  | 59 => ⟨S32x128x4, .f32⟩
  | 60 => ⟨S32x128x4x1, .f32⟩
  | 61 => ⟨S32x128x4x64, .f32⟩
  | 62 => ⟨S32x128x4x64, .f32⟩
  | 63 => ⟨S32x128x4x1, .f32⟩
  | 64 => ⟨S32x128x4x64, .f32⟩
  | 65 => ⟨S_, .f32⟩
  | 66 => ⟨S32x128x4, .f32⟩
  | 67 => ⟨S32x128x4x1, .f32⟩
  | 68 => ⟨S_, .f32⟩
  | 69 => ⟨S32x128x4x1, .f32⟩
  | 70 => ⟨S32x128x4x1, .f32⟩
  | 71 => ⟨S_, .f32⟩
  | 72 => ⟨S32x128x4, .f32⟩
  | 73 => ⟨S32x128x4x64, .f32⟩
  | 74 => ⟨S32x128x4x64, .f32⟩
  | 75 => ⟨S32x128x4x64, .f32⟩
  | 76 => ⟨S_, .f32⟩
  | 77 => ⟨S32x128x4, .f32⟩
  | 78 => ⟨S32x128x4x1, .f32⟩
  | 79 => ⟨S32x128x4x64, .f32⟩
  | 80 => ⟨S32x128x4x1, .f32⟩
  | 81 => ⟨S_, .f32⟩
  | 82 => ⟨S32x128x4x1, .f32⟩
  | 83 => ⟨S32x128x4x1, .f32⟩
  | 84 => ⟨S_, .f32⟩
  | 85 => ⟨S32x128x4, .f32⟩
  | 86 => ⟨S32x128x4x64, .f32⟩
  | 87 => ⟨S32x128x4x64, .f32⟩
  | 88 => ⟨S4096x256, .f32⟩
  | 89 => ⟨S4096x256, .f32⟩
  | 90 => ⟨S4096x256, .f32⟩
  | 91 => ⟨S_, .f32⟩
  | 92 => ⟨S4096x256, .f32⟩
  | 93 => ⟨S4096x256, .f32⟩
  | 94 => ⟨S4096x256, .f32⟩
  | 95 => ⟨S_, .f32⟩
  | 96 => ⟨S4096x256, .f32⟩
  | 97 => ⟨S4096x256, .f32⟩
  | 98 => ⟨S4096x256, .f32⟩
  | 99 => ⟨S_, .f32⟩
  | 100 => ⟨S4096x256, .f32⟩
  | 101 => ⟨S4096x256, .f32⟩
  | 102 => ⟨S4096x256, .f32⟩
  | 103 => ⟨S4096x256, .f32⟩
  | 104 => ⟨S4096x256, .f32⟩
  | 105 => ⟨S4096x256, .f32⟩
  | 106 => ⟨S_, .f32⟩
  | 107 => ⟨S4096x256, .f32⟩
  | 108 => ⟨S4096x256, .f32⟩
  | 109 => ⟨S4096x256, .f32⟩
  | 110 => ⟨S_, .f32⟩
  | 111 => ⟨S4096x256, .f32⟩
  | 112 => ⟨S4096x256, .f32⟩
  | 113 => ⟨S4096x256, .f32⟩
  | 114 => ⟨S_, .f32⟩
  | 115 => ⟨S4096x256, .f32⟩
  | 116 => ⟨S4096x256, .f32⟩
  | 117 => ⟨S4096x256, .f32⟩
  | 118 => ⟨S4096x256, .f32⟩
  | 119 => ⟨S4096x2560, .f32⟩
  | 120 => ⟨S4096x3072, .f32⟩
  | 121 => ⟨S4096x3072, .bf16⟩
  | 122 => ⟨S128x4, .f32⟩
  | 123 => ⟨S1x256, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_18 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_19 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_20 : Ref sig .tc := ⟨.hbm, 95, rfl⟩
abbrev main_v68 : Ref sig .tc := ⟨.hbm, 96, rfl⟩
abbrev main_call0_v0 : Ref sig .tc := ⟨.hbm, 97, rfl⟩
abbrev main_call0_c : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_call0_cst : Ref sig .tc := ⟨.hbm, 103, rfl⟩
abbrev main_call0_v5 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_21 : Ref sig .tc := ⟨.hbm, 120, rfl⟩
abbrev main_v84 : Ref sig .tc := ⟨.hbm, 121, rfl⟩
abbrev main_v85 : Ref sig .tc := ⟨.hbm, 122, rfl⟩
abbrev main_cst_22 : Ref sig .tc := ⟨.hbm, 123, rfl⟩
abbrev main_v86 : Ref sig .tc := ⟨.hbm, 124, rfl⟩
abbrev main_v87 : Ref sig .tc := ⟨.hbm, 125, rfl⟩
abbrev main_cst_23 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_24 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_25 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_26 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_27 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_28 : Ref sig .tc := ⟨.hbm, 156, rfl⟩
abbrev main_v113 : Ref sig .tc := ⟨.hbm, 157, rfl⟩
abbrev main_v114 : Ref sig .tc := ⟨.hbm, 158, rfl⟩
abbrev main_cst_29 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_30 : Ref sig .tc := ⟨.hbm, 170, rfl⟩
abbrev main_v125 : Ref sig .tc := ⟨.hbm, 171, rfl⟩
abbrev main_v126 : Ref sig .tc := ⟨.hbm, 172, rfl⟩
abbrev main_cst_31 : Ref sig .tc := ⟨.hbm, 173, rfl⟩
abbrev main_v127 : Ref sig .tc := ⟨.hbm, 174, rfl⟩
abbrev main_v128 : Ref sig .tc := ⟨.hbm, 175, rfl⟩
abbrev main_cst_32 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_cst_33 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_34 : Ref sig .tc := ⟨.hbm, 193, rfl⟩
abbrev main_v144 : Ref sig .tc := ⟨.hbm, 194, rfl⟩
abbrev main_v145 : Ref sig .tc := ⟨.hbm, 195, rfl⟩
abbrev main_cst_35 : Ref sig .tc := ⟨.hbm, 196, rfl⟩
abbrev main_v146 : Ref sig .tc := ⟨.hbm, 197, rfl⟩
abbrev main_v147 : Ref sig .tc := ⟨.hbm, 198, rfl⟩
abbrev main_cst_36 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_cst_37 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_cst_38 : Ref sig .tc := ⟨.hbm, 209, rfl⟩
abbrev main_v156 : Ref sig .tc := ⟨.hbm, 210, rfl⟩
abbrev main_v157 : Ref sig .tc := ⟨.hbm, 211, rfl⟩
abbrev main_cst_39 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_cst_40 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_cst_41 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_cst_42 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_cst_43 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_cst_44 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_cst_45 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩

abbrev nD : Nat := 1
abbrev τ : Topo := Topo.v7x

variable {F : FTy → Type} [FloatOps F]
-- ==== Lru.lean ====
abbrev S4096x3072 : Shape := ⟨2, ![4096, 3072]⟩
abbrev S4x256 : Shape := ⟨2, ![4, 256]⟩
abbrev S256 : Shape := ⟨1, ![256]⟩
abbrev S4x64x64 : Shape := ⟨3, ![4, 64, 64]⟩
abbrev S4x64 : Shape := ⟨2, ![4, 64]⟩
abbrev S4096x256 : Shape := ⟨2, ![4096, 256]⟩
abbrev S_ : Shape := ⟨0, ![]⟩
abbrev S3x256 : Shape := ⟨2, ![3, 256]⟩
abbrev S4099x256 : Shape := ⟨2, ![4099, 256]⟩
abbrev S1x256 : Shape := ⟨2, ![1, 256]⟩
abbrev S4096x4x64 : Shape := ⟨3, ![4096, 4, 64]⟩
abbrev S4x64x4096 : Shape := ⟨3, ![4, 64, 4096]⟩
abbrev S1x4x64 : Shape := ⟨3, ![1, 4, 64]⟩
abbrev S2048x2x256 : Shape := ⟨3, ![2048, 2, 256]⟩
abbrev S2048x1x256 : Shape := ⟨3, ![2048, 1, 256]⟩
abbrev S2048x256 : Shape := ⟨2, ![2048, 256]⟩
abbrev S1024x2x256 : Shape := ⟨3, ![1024, 2, 256]⟩
abbrev S1024x1x256 : Shape := ⟨3, ![1024, 1, 256]⟩
abbrev S1024x256 : Shape := ⟨2, ![1024, 256]⟩
abbrev S512x2x256 : Shape := ⟨3, ![512, 2, 256]⟩
abbrev S512x1x256 : Shape := ⟨3, ![512, 1, 256]⟩
abbrev S512x256 : Shape := ⟨2, ![512, 256]⟩
abbrev S256x2x256 : Shape := ⟨3, ![256, 2, 256]⟩
abbrev S256x1x256 : Shape := ⟨3, ![256, 1, 256]⟩
abbrev S256x256 : Shape := ⟨2, ![256, 256]⟩
abbrev S128x2x256 : Shape := ⟨3, ![128, 2, 256]⟩
abbrev S128x1x256 : Shape := ⟨3, ![128, 1, 256]⟩
abbrev S128x256 : Shape := ⟨2, ![128, 256]⟩
abbrev S64x2x256 : Shape := ⟨3, ![64, 2, 256]⟩
abbrev S64x1x256 : Shape := ⟨3, ![64, 1, 256]⟩
abbrev S64x256 : Shape := ⟨2, ![64, 256]⟩
abbrev S32x2x256 : Shape := ⟨3, ![32, 2, 256]⟩
abbrev S32x1x256 : Shape := ⟨3, ![32, 1, 256]⟩
abbrev S32x256 : Shape := ⟨2, ![32, 256]⟩
abbrev S16x2x256 : Shape := ⟨3, ![16, 2, 256]⟩
abbrev S16x1x256 : Shape := ⟨3, ![16, 1, 256]⟩
abbrev S16x256 : Shape := ⟨2, ![16, 256]⟩
abbrev S8x2x256 : Shape := ⟨3, ![8, 2, 256]⟩
abbrev S8x1x256 : Shape := ⟨3, ![8, 1, 256]⟩
abbrev S8x256 : Shape := ⟨2, ![8, 256]⟩
abbrev S4x2x256 : Shape := ⟨3, ![4, 2, 256]⟩
abbrev S4x1x256 : Shape := ⟨3, ![4, 1, 256]⟩
abbrev S2x2x256 : Shape := ⟨3, ![2, 2, 256]⟩
abbrev S2x1x256 : Shape := ⟨3, ![2, 1, 256]⟩
abbrev S2x256 : Shape := ⟨2, ![2, 256]⟩
abbrev S1x2x256 : Shape := ⟨3, ![1, 2, 256]⟩
abbrev S1x1x256 : Shape := ⟨3, ![1, 1, 256]⟩
abbrev S0x256 : Shape := ⟨2, ![0, 256]⟩
abbrev S7x256 : Shape := ⟨2, ![7, 256]⟩
abbrev S15x256 : Shape := ⟨2, ![15, 256]⟩
abbrev S31x256 : Shape := ⟨2, ![31, 256]⟩
abbrev S63x256 : Shape := ⟨2, ![63, 256]⟩
abbrev S127x256 : Shape := ⟨2, ![127, 256]⟩
abbrev S255x256 : Shape := ⟨2, ![255, 256]⟩
abbrev S511x256 : Shape := ⟨2, ![511, 256]⟩
abbrev S1023x256 : Shape := ⟨2, ![1023, 256]⟩
abbrev S2047x256 : Shape := ⟨2, ![2047, 256]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x1 : Shape := ⟨2, ![256, 1]⟩
abbrev S512x512 : Shape := ⟨2, ![512, 512]⟩

abbrev nBuf : Space → Nat
  | .hbm => 450
  | .vmem => 34
  | .smem => 0
  | _ => 0

abbrev hbmTy0_0 (i : Nat) : BufTy := match i % 128 with
  | 0 => ⟨S4096x3072, .f32⟩
  | 1 => ⟨S4x256, .f32⟩
  | 2 => ⟨S256, .f32⟩
  | 3 => ⟨S4x64x64, .f32⟩
  | 4 => ⟨S4x64, .f32⟩
  | 5 => ⟨S4x64x64, .f32⟩
  | 6 => ⟨S4x64, .f32⟩
  | 7 => ⟨S256, .f32⟩
  | 8 => ⟨S256, .f32⟩
  | 9 => ⟨S4096x256, .f32⟩
  | 10 => ⟨S4096x3072, .f32⟩
  | 11 => ⟨S4096x256, .f32⟩
  | 12 => ⟨S_, .f32⟩
  | 13 => ⟨S3x256, .f32⟩
  | 14 => ⟨S4099x256, .f32⟩
  | 15 => ⟨S4096x256, .f32⟩
  | 16 => ⟨S1x256, .f32⟩
  | 17 => ⟨S256, .f32⟩
  | 18 => ⟨S1x256, .f32⟩
  | 19 => ⟨S4096x256, .f32⟩
  | 20 => ⟨S4096x256, .f32⟩
  | 21 => ⟨S1x256, .f32⟩
  | 22 => ⟨S4096x256, .f32⟩
  | 23 => ⟨S4096x256, .f32⟩
  | 24 => ⟨S4096x256, .f32⟩
  | 25 => ⟨S1x256, .f32⟩
  | 26 => ⟨S256, .f32⟩
  | 27 => ⟨S1x256, .f32⟩
  | 28 => ⟨S4096x256, .f32⟩
  | 29 => ⟨S4096x256, .f32⟩
  | 30 => ⟨S4096x256, .f32⟩
  | 31 => ⟨S4096x256, .f32⟩
  | 32 => ⟨S1x256, .f32⟩
  | 33 => ⟨S256, .f32⟩
  | 34 => ⟨S1x256, .f32⟩
  | 35 => ⟨S4096x256, .f32⟩
  | 36 => ⟨S4096x256, .f32⟩
  | 37 => ⟨S4096x256, .f32⟩
  | 38 => ⟨S4096x256, .f32⟩
  | 39 => ⟨S1x256, .f32⟩
  | 40 => ⟨S256, .f32⟩
  | 41 => ⟨S1x256, .f32⟩
  | 42 => ⟨S4096x256, .f32⟩
  | 43 => ⟨S4096x256, .f32⟩
  | 44 => ⟨S4096x256, .f32⟩
  | 45 => ⟨S4096x4x64, .f32⟩
  | 46 => ⟨S4x64x4096, .f32⟩
  | 47 => ⟨S4096x4x64, .f32⟩
  | 48 => ⟨S1x4x64, .f32⟩
  | 49 => ⟨S4096x4x64, .f32⟩
  | 50 => ⟨S4096x4x64, .f32⟩
  | 51 => ⟨S4096x4x64, .f32⟩
  | 52 => ⟨S4096x4x64, .f32⟩
  | 53 => ⟨S_, .f32⟩
  | 54 => ⟨S4096x4x64, .f32⟩
  | 55 => ⟨S4096x4x64, .f32⟩
  | 56 => ⟨S_, .f32⟩
  | 57 => ⟨S4096x4x64, .f32⟩
  | 58 => ⟨S4096x4x64, .f32⟩
  | 59 => ⟨S4096x256, .f32⟩
  | 60 => ⟨S_, .f32⟩
  | 61 => ⟨S4096x256, .f32⟩
  | 62 => ⟨S4096x256, .f32⟩
  | 63 => ⟨S256, .f32⟩
  | 64 => ⟨S_, .f32⟩
  | 65 => ⟨S256, .f32⟩
  | 66 => ⟨S256, .f32⟩
  | 67 => ⟨S256, .f32⟩
  | 68 => ⟨S256, .f32⟩
  | 69 => ⟨S256, .i1⟩
  | 70 => ⟨S256, .f32⟩
  | 71 => ⟨S256, .f32⟩
  | 72 => ⟨S256, .f32⟩
  | 73 => ⟨S256, .f32⟩
  | 74 => ⟨S256, .f32⟩
  | 75 => ⟨S256, .f32⟩
  | 76 => ⟨S256, .f32⟩
  | 77 => ⟨S256, .f32⟩
  | 78 => ⟨S1x256, .f32⟩
  | 79 => ⟨S4096x256, .f32⟩
  | 80 => ⟨S4096x256, .f32⟩
  | 81 => ⟨S4096x4x64, .f32⟩
  | 82 => ⟨S4x64x4096, .f32⟩
  | 83 => ⟨S4096x4x64, .f32⟩
  | 84 => ⟨S1x4x64, .f32⟩
  | 85 => ⟨S4096x4x64, .f32⟩
  | 86 => ⟨S4096x4x64, .f32⟩
  | 87 => ⟨S4096x4x64, .f32⟩
  | 88 => ⟨S4096x4x64, .f32⟩
  | 89 => ⟨S_, .f32⟩
  | 90 => ⟨S4096x4x64, .f32⟩
  | 91 => ⟨S4096x4x64, .f32⟩
  | 92 => ⟨S_, .f32⟩
  | 93 => ⟨S4096x4x64, .f32⟩
  | 94 => ⟨S4096x4x64, .f32⟩
  | 95 => ⟨S4096x256, .f32⟩
  | 96 => ⟨S4096x256, .f32⟩
  | 97 => ⟨S_, .f32⟩
  | 98 => ⟨S4096x256, .f32⟩
  | 99 => ⟨S4096x256, .f32⟩
  | 100 => ⟨S4096x256, .f32⟩
  | 101 => ⟨S4096x256, .f32⟩
  | 102 => ⟨S4096x256, .f32⟩
  | 103 => ⟨S4096x256, .f32⟩
  | 104 => ⟨S4096x256, .f32⟩
  | 105 => ⟨S2048x2x256, .f32⟩
  | 106 => ⟨S2048x2x256, .f32⟩
  | 107 => ⟨S2048x1x256, .f32⟩
  | 108 => ⟨S2048x256, .f32⟩
  | 109 => ⟨S2048x1x256, .f32⟩
  | 110 => ⟨S2048x256, .f32⟩
  | 111 => ⟨S2048x1x256, .f32⟩
  | 112 => ⟨S2048x256, .f32⟩
  | 113 => ⟨S2048x1x256, .f32⟩
  | 114 => ⟨S2048x256, .f32⟩
  | 115 => ⟨S2048x256, .f32⟩
  | 116 => ⟨S2048x256, .f32⟩
  | 117 => ⟨S2048x256, .f32⟩
  | 118 => ⟨S1024x2x256, .f32⟩
  | 119 => ⟨S1024x2x256, .f32⟩
  | 120 => ⟨S1024x1x256, .f32⟩
  | 121 => ⟨S1024x256, .f32⟩
  | 122 => ⟨S1024x1x256, .f32⟩
  | 123 => ⟨S1024x256, .f32⟩
  | 124 => ⟨S1024x1x256, .f32⟩
  | 125 => ⟨S1024x256, .f32⟩
  | 126 => ⟨S1024x1x256, .f32⟩
  | 127 => ⟨S1024x256, .f32⟩
  | _ => ⟨S4096x3072, .f32⟩

abbrev hbmTy0_1 (i : Nat) : BufTy := match i % 128 with
  | 0 => ⟨S1024x256, .f32⟩
  | 1 => ⟨S1024x256, .f32⟩
  | 2 => ⟨S1024x256, .f32⟩
  | 3 => ⟨S512x2x256, .f32⟩
  | 4 => ⟨S512x2x256, .f32⟩
  | 5 => ⟨S512x1x256, .f32⟩
  | 6 => ⟨S512x256, .f32⟩
  | 7 => ⟨S512x1x256, .f32⟩
  | 8 => ⟨S512x256, .f32⟩
  | 9 => ⟨S512x1x256, .f32⟩
  | 10 => ⟨S512x256, .f32⟩
  | 11 => ⟨S512x1x256, .f32⟩
  | 12 => ⟨S512x256, .f32⟩
  | 13 => ⟨S512x256, .f32⟩
  | 14 => ⟨S512x256, .f32⟩
  | 15 => ⟨S512x256, .f32⟩
  | 16 => ⟨S256x2x256, .f32⟩
  | 17 => ⟨S256x2x256, .f32⟩
  | 18 => ⟨S256x1x256, .f32⟩
  | 19 => ⟨S256x256, .f32⟩
  | 20 => ⟨S256x1x256, .f32⟩
  | 21 => ⟨S256x256, .f32⟩
  | 22 => ⟨S256x1x256, .f32⟩
  | 23 => ⟨S256x256, .f32⟩
  | 24 => ⟨S256x1x256, .f32⟩
  | 25 => ⟨S256x256, .f32⟩
  | 26 => ⟨S256x256, .f32⟩
  | 27 => ⟨S256x256, .f32⟩
  | 28 => ⟨S256x256, .f32⟩
  | 29 => ⟨S128x2x256, .f32⟩
  | 30 => ⟨S128x2x256, .f32⟩
  | 31 => ⟨S128x1x256, .f32⟩
  | 32 => ⟨S128x256, .f32⟩
  | 33 => ⟨S128x1x256, .f32⟩
  | 34 => ⟨S128x256, .f32⟩
  | 35 => ⟨S128x1x256, .f32⟩
  | 36 => ⟨S128x256, .f32⟩
  | 37 => ⟨S128x1x256, .f32⟩
  | 38 => ⟨S128x256, .f32⟩
  | 39 => ⟨S128x256, .f32⟩
  | 40 => ⟨S128x256, .f32⟩
  | 41 => ⟨S128x256, .f32⟩
  | 42 => ⟨S64x2x256, .f32⟩
  | 43 => ⟨S64x2x256, .f32⟩
  | 44 => ⟨S64x1x256, .f32⟩
  | 45 => ⟨S64x256, .f32⟩
  | 46 => ⟨S64x1x256, .f32⟩
  | 47 => ⟨S64x256, .f32⟩
  | 48 => ⟨S64x1x256, .f32⟩
  | 49 => ⟨S64x256, .f32⟩
  | 50 => ⟨S64x1x256, .f32⟩
  | 51 => ⟨S64x256, .f32⟩
  | 52 => ⟨S64x256, .f32⟩
  | 53 => ⟨S64x256, .f32⟩
  | 54 => ⟨S64x256, .f32⟩
  | 55 => ⟨S32x2x256, .f32⟩
  | 56 => ⟨S32x2x256, .f32⟩
  | 57 => ⟨S32x1x256, .f32⟩
  | 58 => ⟨S32x256, .f32⟩
  | 59 => ⟨S32x1x256, .f32⟩
  | 60 => ⟨S32x256, .f32⟩
  | 61 => ⟨S32x1x256, .f32⟩
  | 62 => ⟨S32x256, .f32⟩
  | 63 => ⟨S32x1x256, .f32⟩
  | 64 => ⟨S32x256, .f32⟩
  | 65 => ⟨S32x256, .f32⟩
  | 66 => ⟨S32x256, .f32⟩
  | 67 => ⟨S32x256, .f32⟩
  | 68 => ⟨S16x2x256, .f32⟩
  | 69 => ⟨S16x2x256, .f32⟩
  | 70 => ⟨S16x1x256, .f32⟩
  | 71 => ⟨S16x256, .f32⟩
  | 72 => ⟨S16x1x256, .f32⟩
  | 73 => ⟨S16x256, .f32⟩
  | 74 => ⟨S16x1x256, .f32⟩
  | 75 => ⟨S16x256, .f32⟩
  | 76 => ⟨S16x1x256, .f32⟩
  | 77 => ⟨S16x256, .f32⟩
  | 78 => ⟨S16x256, .f32⟩
  | 79 => ⟨S16x256, .f32⟩
  | 80 => ⟨S16x256, .f32⟩
  | 81 => ⟨S8x2x256, .f32⟩
  | 82 => ⟨S8x2x256, .f32⟩
  | 83 => ⟨S8x1x256, .f32⟩
  | 84 => ⟨S8x256, .f32⟩
  | 85 => ⟨S8x1x256, .f32⟩
  | 86 => ⟨S8x256, .f32⟩
  | 87 => ⟨S8x1x256, .f32⟩
  | 88 => ⟨S8x256, .f32⟩
  | 89 => ⟨S8x1x256, .f32⟩
  | 90 => ⟨S8x256, .f32⟩
  | 91 => ⟨S8x256, .f32⟩
  | 92 => ⟨S8x256, .f32⟩
  | 93 => ⟨S8x256, .f32⟩
  | 94 => ⟨S4x2x256, .f32⟩
  | 95 => ⟨S4x2x256, .f32⟩
  | 96 => ⟨S4x1x256, .f32⟩
  | 97 => ⟨S4x256, .f32⟩
  | 98 => ⟨S4x1x256, .f32⟩
  | 99 => ⟨S4x256, .f32⟩
  | 100 => ⟨S4x1x256, .f32⟩
  | 101 => ⟨S4x256, .f32⟩
  | 102 => ⟨S4x1x256, .f32⟩
  | 103 => ⟨S4x256, .f32⟩
  | 104 => ⟨S4x256, .f32⟩
  | 105 => ⟨S4x256, .f32⟩
  | 106 => ⟨S4x256, .f32⟩
  | 107 => ⟨S2x2x256, .f32⟩
  | 108 => ⟨S2x2x256, .f32⟩
  | 109 => ⟨S2x1x256, .f32⟩
  | 110 => ⟨S2x256, .f32⟩
  | 111 => ⟨S2x1x256, .f32⟩
  | 112 => ⟨S2x256, .f32⟩
  | 113 => ⟨S2x1x256, .f32⟩
  | 114 => ⟨S2x256, .f32⟩
  | 115 => ⟨S2x1x256, .f32⟩
  | 116 => ⟨S2x256, .f32⟩
  | 117 => ⟨S2x256, .f32⟩
  | 118 => ⟨S2x256, .f32⟩
  | 119 => ⟨S2x256, .f32⟩
  | 120 => ⟨S1x2x256, .f32⟩
  | 121 => ⟨S1x2x256, .f32⟩
  | 122 => ⟨S1x1x256, .f32⟩
  | 123 => ⟨S1x256, .f32⟩
  | 124 => ⟨S1x1x256, .f32⟩
  | 125 => ⟨S1x256, .f32⟩
  | 126 => ⟨S1x1x256, .f32⟩
  | 127 => ⟨S1x256, .f32⟩
  | _ => ⟨S4096x3072, .f32⟩

abbrev hbmTy0_2 (i : Nat) : BufTy := match i % 128 with
  | 0 => ⟨S1x1x256, .f32⟩
  | 1 => ⟨S1x256, .f32⟩
  | 2 => ⟨S1x256, .f32⟩
  | 3 => ⟨S1x256, .f32⟩
  | 4 => ⟨S1x256, .f32⟩
  | 5 => ⟨S_, .f32⟩
  | 6 => ⟨S1x256, .f32⟩
  | 7 => ⟨S0x256, .f32⟩
  | 8 => ⟨S1x256, .f32⟩
  | 9 => ⟨S1x256, .f32⟩
  | 10 => ⟨S1x256, .f32⟩
  | 11 => ⟨S1x1x256, .f32⟩
  | 12 => ⟨S1x1x256, .f32⟩
  | 13 => ⟨S1x2x256, .f32⟩
  | 14 => ⟨S2x256, .f32⟩
  | 15 => ⟨S_, .f32⟩
  | 16 => ⟨S1x256, .f32⟩
  | 17 => ⟨S1x256, .f32⟩
  | 18 => ⟨S2x256, .f32⟩
  | 19 => ⟨S2x256, .f32⟩
  | 20 => ⟨S2x256, .f32⟩
  | 21 => ⟨S2x1x256, .f32⟩
  | 22 => ⟨S2x1x256, .f32⟩
  | 23 => ⟨S2x2x256, .f32⟩
  | 24 => ⟨S4x256, .f32⟩
  | 25 => ⟨S_, .f32⟩
  | 26 => ⟨S1x256, .f32⟩
  | 27 => ⟨S3x256, .f32⟩
  | 28 => ⟨S4x256, .f32⟩
  | 29 => ⟨S4x256, .f32⟩
  | 30 => ⟨S4x256, .f32⟩
  | 31 => ⟨S4x1x256, .f32⟩
  | 32 => ⟨S4x1x256, .f32⟩
  | 33 => ⟨S4x2x256, .f32⟩
  | 34 => ⟨S8x256, .f32⟩
  | 35 => ⟨S_, .f32⟩
  | 36 => ⟨S1x256, .f32⟩
  | 37 => ⟨S7x256, .f32⟩
  | 38 => ⟨S8x256, .f32⟩
  | 39 => ⟨S8x256, .f32⟩
  | 40 => ⟨S8x256, .f32⟩
  | 41 => ⟨S8x1x256, .f32⟩
  | 42 => ⟨S8x1x256, .f32⟩
  | 43 => ⟨S8x2x256, .f32⟩
  | 44 => ⟨S16x256, .f32⟩
  | 45 => ⟨S_, .f32⟩
  | 46 => ⟨S1x256, .f32⟩
  | 47 => ⟨S15x256, .f32⟩
  | 48 => ⟨S16x256, .f32⟩
  | 49 => ⟨S16x256, .f32⟩
  | 50 => ⟨S16x256, .f32⟩
  | 51 => ⟨S16x1x256, .f32⟩
  | 52 => ⟨S16x1x256, .f32⟩
  | 53 => ⟨S16x2x256, .f32⟩
  | 54 => ⟨S32x256, .f32⟩
  | 55 => ⟨S_, .f32⟩
  | 56 => ⟨S1x256, .f32⟩
  | 57 => ⟨S31x256, .f32⟩
  | 58 => ⟨S32x256, .f32⟩
  | 59 => ⟨S32x256, .f32⟩
  | 60 => ⟨S32x256, .f32⟩
  | 61 => ⟨S32x1x256, .f32⟩
  | 62 => ⟨S32x1x256, .f32⟩
  | 63 => ⟨S32x2x256, .f32⟩
  | 64 => ⟨S64x256, .f32⟩
  | 65 => ⟨S_, .f32⟩
  | 66 => ⟨S1x256, .f32⟩
  | 67 => ⟨S63x256, .f32⟩
  | 68 => ⟨S64x256, .f32⟩
  | 69 => ⟨S64x256, .f32⟩
  | 70 => ⟨S64x256, .f32⟩
  | 71 => ⟨S64x1x256, .f32⟩
  | 72 => ⟨S64x1x256, .f32⟩
  | 73 => ⟨S64x2x256, .f32⟩
  | 74 => ⟨S128x256, .f32⟩
  | 75 => ⟨S_, .f32⟩
  | 76 => ⟨S1x256, .f32⟩
  | 77 => ⟨S127x256, .f32⟩
  | 78 => ⟨S128x256, .f32⟩
  | 79 => ⟨S128x256, .f32⟩
  | 80 => ⟨S128x256, .f32⟩
  | 81 => ⟨S128x1x256, .f32⟩
  | 82 => ⟨S128x1x256, .f32⟩
  | 83 => ⟨S128x2x256, .f32⟩
  | 84 => ⟨S256x256, .f32⟩
  | 85 => ⟨S_, .f32⟩
  | 86 => ⟨S1x256, .f32⟩
  | 87 => ⟨S255x256, .f32⟩
  | 88 => ⟨S256x256, .f32⟩
  | 89 => ⟨S256x256, .f32⟩
  | 90 => ⟨S256x256, .f32⟩
  | 91 => ⟨S256x1x256, .f32⟩
  | 92 => ⟨S256x1x256, .f32⟩
  | 93 => ⟨S256x2x256, .f32⟩
  | 94 => ⟨S512x256, .f32⟩
  | 95 => ⟨S_, .f32⟩
  | 96 => ⟨S1x256, .f32⟩
  | 97 => ⟨S511x256, .f32⟩
  | 98 => ⟨S512x256, .f32⟩
  | 99 => ⟨S512x256, .f32⟩
  | 100 => ⟨S512x256, .f32⟩
  | 101 => ⟨S512x1x256, .f32⟩
  | 102 => ⟨S512x1x256, .f32⟩
  | 103 => ⟨S512x2x256, .f32⟩
  | 104 => ⟨S1024x256, .f32⟩
  | 105 => ⟨S_, .f32⟩
  | 106 => ⟨S1x256, .f32⟩
  | 107 => ⟨S1023x256, .f32⟩
  | 108 => ⟨S1024x256, .f32⟩
  | 109 => ⟨S1024x256, .f32⟩
  | 110 => ⟨S1024x256, .f32⟩
  | 111 => ⟨S1024x1x256, .f32⟩
  | 112 => ⟨S1024x1x256, .f32⟩
  | 113 => ⟨S1024x2x256, .f32⟩
  | 114 => ⟨S2048x256, .f32⟩
  | 115 => ⟨S_, .f32⟩
  | 116 => ⟨S1x256, .f32⟩
  | 117 => ⟨S2047x256, .f32⟩
  | 118 => ⟨S2048x256, .f32⟩
  | 119 => ⟨S2048x256, .f32⟩
  | 120 => ⟨S2048x256, .f32⟩
  | 121 => ⟨S2048x1x256, .f32⟩
  | 122 => ⟨S2048x1x256, .f32⟩
  | 123 => ⟨S2048x2x256, .f32⟩
  | 124 => ⟨S4096x256, .f32⟩
  | 125 => ⟨S4096x3072, .bf16⟩
  | 126 => ⟨S1x256, .f32⟩
  | 127 => ⟨S4x4, .i32⟩
  | _ => ⟨S4096x3072, .f32⟩

abbrev hbmTy0_3 (i : Nat) : BufTy := match i % 128 with
  | 0 => ⟨S4x4, .i32⟩
  | 1 => ⟨S_, .i32⟩
  | 2 => ⟨S4x4, .i32⟩
  | 3 => ⟨S4x4, .i32⟩
  | 4 => ⟨S4x4, .i1⟩
  | 5 => ⟨S4x4, .f32⟩
  | 6 => ⟨S4x1x4x1, .f32⟩
  | 7 => ⟨S4x64x1x64, .f32⟩
  | 8 => ⟨S4x64x4x64, .f32⟩
  | 9 => ⟨S4x64x4x64, .f32⟩
  | 10 => ⟨S4x64x4x64, .f32⟩
  | 11 => ⟨S256x256, .f32⟩
  | 12 => ⟨S1x256, .f32⟩
  | 13 => ⟨S4x4, .i32⟩
  | 14 => ⟨S4x4, .i32⟩
  | 15 => ⟨S_, .i32⟩
  | 16 => ⟨S4x4, .i32⟩
  | 17 => ⟨S4x4, .i32⟩
  | 18 => ⟨S4x4, .i1⟩
  | 19 => ⟨S4x4, .f32⟩
  | 20 => ⟨S4x1x4x1, .f32⟩
  | 21 => ⟨S4x64x1x64, .f32⟩
  | 22 => ⟨S4x64x4x64, .f32⟩
  | 23 => ⟨S4x64x4x64, .f32⟩
  | 24 => ⟨S4x64x4x64, .f32⟩
  | 25 => ⟨S256x256, .f32⟩
  | 26 => ⟨S1x256, .f32⟩
  | 27 => ⟨S1x256, .f32⟩
  | 28 => ⟨S1x256, .f32⟩
  | 29 => ⟨S256, .i32⟩
  | 30 => ⟨S_, .i32⟩
  | 31 => ⟨S_, .i32⟩
  | 32 => ⟨S256, .i32⟩
  | 33 => ⟨S256, .i32⟩
  | 34 => ⟨S256, .i32⟩
  | 35 => ⟨S_, .i32⟩
  | 36 => ⟨S256, .i32⟩
  | 37 => ⟨S256, .i1⟩
  | 38 => ⟨S256, .i32⟩
  | 39 => ⟨S256, .i32⟩
  | 40 => ⟨S_, .i32⟩
  | 41 => ⟨S256, .i32⟩
  | 42 => ⟨S256, .i1⟩
  | 43 => ⟨S256, .i1⟩
  | 44 => ⟨S_, .i32⟩
  | 45 => ⟨S256, .i32⟩
  | 46 => ⟨S256, .i32⟩
  | 47 => ⟨S256, .i32⟩
  | 48 => ⟨S256x1, .i32⟩
  | 49 => ⟨S1x256, .i32⟩
  | 50 => ⟨S256x256, .i32⟩
  | 51 => ⟨S256x256, .i32⟩
  | 52 => ⟨S256x256, .i1⟩
  | 53 => ⟨S256x256, .f32⟩
  | 54 => ⟨S_, .f32⟩
  | 55 => ⟨S256x256, .f32⟩
  | 56 => ⟨S256x256, .f32⟩
  | 57 => ⟨S4096x3072, .bf16⟩
  | 58 => ⟨S4x256, .f32⟩
  | 59 => ⟨S1x256, .f32⟩
  | 60 => ⟨S256x256, .f32⟩
  | 61 => ⟨S1x256, .f32⟩
  | 62 => ⟨S256x256, .f32⟩
  | 63 => ⟨S1x256, .f32⟩
  | 64 => ⟨S1x256, .f32⟩
  | 65 => ⟨S1x256, .f32⟩
  | _ => ⟨S4096x3072, .f32⟩

abbrev hbmTy (i : Nat) : BufTy := match i / 128 with
  | 0 => hbmTy0_0 i
  | 1 => hbmTy0_1 i
  | 2 => hbmTy0_2 i
  | 3 => hbmTy0_3 i
  | _ => ⟨S4096x3072, .f32⟩

abbrev bufTy : (tb : Table) → Fin (tcTables nBuf tb) → BufTy
  | .hbm, ⟨i, _⟩ => hbmTy i
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S4x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S256x256, .f32⟩
  | .local _ .vmem, ⟨21, _⟩ => ⟨S512x512, .bf16⟩
  | .local _ .vmem, ⟨22, _⟩ => ⟨S512x512, .bf16⟩
  | .local _ .vmem, ⟨23, _⟩ => ⟨S4x256, .f32⟩
  | .local _ .vmem, ⟨24, _⟩ => ⟨S1x256, .f32⟩
  | .local _ .vmem, ⟨25, _⟩ => ⟨S256x256, .f32⟩
  | .local _ .vmem, ⟨26, _⟩ => ⟨S1x256, .f32⟩
  | .local _ .vmem, ⟨27, _⟩ => ⟨S256x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S8x256, .f32⟩
  | .local _ .vmem, ⟨32, _⟩ => ⟨S8x256, .f32⟩
  | .local _ .vmem, ⟨33, _⟩ => ⟨S512x256, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_0 : Ref sig .tc := ⟨.hbm, 53, rfl⟩
abbrev main_v41 : Ref sig .tc := ⟨.hbm, 54, rfl⟩
abbrev main_v42 : Ref sig .tc := ⟨.hbm, 55, rfl⟩
abbrev main_cst_1 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_2 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_v6 : Ref sig .tc := ⟨.hbm, 71, rfl⟩
abbrev main_call0_v7 : Ref sig .tc := ⟨.hbm, 72, rfl⟩
abbrev main_call0_v8 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_3 : Ref sig .tc := ⟨.hbm, 89, rfl⟩
abbrev main_v61 : Ref sig .tc := ⟨.hbm, 90, rfl⟩
abbrev main_v62 : Ref sig .tc := ⟨.hbm, 91, rfl⟩
abbrev main_cst_4 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_5 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_cst_6 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩
abbrev main_v233 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_cst_7 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_v246 : Ref sig .tc := ⟨.hbm, 279, rfl⟩
abbrev main_v247 : Ref sig .tc := ⟨.hbm, 280, rfl⟩
abbrev main_cst_8 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_cst_9 : Ref sig .tc := ⟨.hbm, 291, rfl⟩
abbrev main_v257 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_cst_10 : Ref sig .tc := ⟨.hbm, 301, rfl⟩
abbrev main_v266 : Ref sig .tc := ⟨.hbm, 302, rfl⟩
abbrev main_v267 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_v273 : Ref sig .tc := ⟨.hbm, 309, rfl⟩
abbrev main_v274 : Ref sig .tc := ⟨.hbm, 310, rfl⟩
abbrev main_cst_11 : Ref sig .tc := ⟨.hbm, 311, rfl⟩
abbrev main_v275 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_v279 : Ref sig .tc := ⟨.hbm, 316, rfl⟩
abbrev main_v280 : Ref sig .tc := ⟨.hbm, 317, rfl⟩
abbrev main_v281 : Ref sig .tc := ⟨.hbm, 318, rfl⟩
abbrev main_v282 : Ref sig .tc := ⟨.hbm, 319, rfl⟩
abbrev main_v283 : Ref sig .tc := ⟨.hbm, 320, rfl⟩
abbrev main_cst_12 : Ref sig .tc := ⟨.hbm, 321, rfl⟩
abbrev main_v284 : Ref sig .tc := ⟨.hbm, 322, rfl⟩
abbrev main_v285 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_v290 : Ref sig .tc := ⟨.hbm, 328, rfl⟩
abbrev main_v291 : Ref sig .tc := ⟨.hbm, 329, rfl⟩
abbrev main_v292 : Ref sig .tc := ⟨.hbm, 330, rfl⟩
abbrev main_cst_13 : Ref sig .tc := ⟨.hbm, 331, rfl⟩
abbrev main_v293 : Ref sig .tc := ⟨.hbm, 332, rfl⟩
abbrev main_v294 : Ref sig .tc := ⟨.hbm, 333, rfl⟩
abbrev main_v295 : Ref sig .tc := ⟨.hbm, 334, rfl⟩
abbrev main_v296 : Ref sig .tc := ⟨.hbm, 335, rfl⟩
abbrev main_v297 : Ref sig .tc := ⟨.hbm, 336, rfl⟩
abbrev main_v298 : Ref sig .tc := ⟨.hbm, 337, rfl⟩
abbrev main_v299 : Ref sig .tc := ⟨.hbm, 338, rfl⟩
abbrev main_v300 : Ref sig .tc := ⟨.hbm, 339, rfl⟩
abbrev main_v301 : Ref sig .tc := ⟨.hbm, 340, rfl⟩
abbrev main_cst_14 : Ref sig .tc := ⟨.hbm, 341, rfl⟩
abbrev main_v302 : Ref sig .tc := ⟨.hbm, 342, rfl⟩
abbrev main_v303 : Ref sig .tc := ⟨.hbm, 343, rfl⟩
abbrev main_v304 : Ref sig .tc := ⟨.hbm, 344, rfl⟩
abbrev main_v305 : Ref sig .tc := ⟨.hbm, 345, rfl⟩
abbrev main_v306 : Ref sig .tc := ⟨.hbm, 346, rfl⟩
abbrev main_v307 : Ref sig .tc := ⟨.hbm, 347, rfl⟩
abbrev main_v308 : Ref sig .tc := ⟨.hbm, 348, rfl⟩
abbrev main_v309 : Ref sig .tc := ⟨.hbm, 349, rfl⟩
abbrev main_v310 : Ref sig .tc := ⟨.hbm, 350, rfl⟩
abbrev main_cst_15 : Ref sig .tc := ⟨.hbm, 351, rfl⟩
abbrev main_v311 : Ref sig .tc := ⟨.hbm, 352, rfl⟩
abbrev main_v312 : Ref sig .tc := ⟨.hbm, 353, rfl⟩
abbrev main_v313 : Ref sig .tc := ⟨.hbm, 354, rfl⟩
abbrev main_v314 : Ref sig .tc := ⟨.hbm, 355, rfl⟩
abbrev main_v315 : Ref sig .tc := ⟨.hbm, 356, rfl⟩
abbrev main_v316 : Ref sig .tc := ⟨.hbm, 357, rfl⟩
abbrev main_v317 : Ref sig .tc := ⟨.hbm, 358, rfl⟩
abbrev main_v318 : Ref sig .tc := ⟨.hbm, 359, rfl⟩
abbrev main_v319 : Ref sig .tc := ⟨.hbm, 360, rfl⟩
abbrev main_cst_16 : Ref sig .tc := ⟨.hbm, 361, rfl⟩
abbrev main_v320 : Ref sig .tc := ⟨.hbm, 362, rfl⟩
abbrev main_v321 : Ref sig .tc := ⟨.hbm, 363, rfl⟩
abbrev main_v322 : Ref sig .tc := ⟨.hbm, 364, rfl⟩
abbrev main_v323 : Ref sig .tc := ⟨.hbm, 365, rfl⟩
abbrev main_v324 : Ref sig .tc := ⟨.hbm, 366, rfl⟩
abbrev main_v325 : Ref sig .tc := ⟨.hbm, 367, rfl⟩
abbrev main_v326 : Ref sig .tc := ⟨.hbm, 368, rfl⟩
abbrev main_v327 : Ref sig .tc := ⟨.hbm, 369, rfl⟩
abbrev main_v328 : Ref sig .tc := ⟨.hbm, 370, rfl⟩
abbrev main_cst_17 : Ref sig .tc := ⟨.hbm, 371, rfl⟩
abbrev main_v329 : Ref sig .tc := ⟨.hbm, 372, rfl⟩
abbrev main_v330 : Ref sig .tc := ⟨.hbm, 373, rfl⟩
abbrev main_v331 : Ref sig .tc := ⟨.hbm, 374, rfl⟩
abbrev main_v332 : Ref sig .tc := ⟨.hbm, 375, rfl⟩
abbrev main_v333 : Ref sig .tc := ⟨.hbm, 376, rfl⟩
abbrev main_v334 : Ref sig .tc := ⟨.hbm, 377, rfl⟩
abbrev main_v335 : Ref sig .tc := ⟨.hbm, 378, rfl⟩
abbrev main_v336 : Ref sig .tc := ⟨.hbm, 379, rfl⟩
abbrev main_v337 : Ref sig .tc := ⟨.hbm, 380, rfl⟩
abbrev main_v338 : Ref sig .tc := ⟨.hbm, 381, rfl⟩
abbrev main_v339 : Ref sig .tc := ⟨.hbm, 382, rfl⟩
abbrev main_v340 : Ref sig .tc := ⟨.hbm, 383, rfl⟩
abbrev main_v341 : Ref sig .tc := ⟨.hbm, 384, rfl⟩
abbrev main_c : Ref sig .tc := ⟨.hbm, 385, rfl⟩
abbrev main_v342 : Ref sig .tc := ⟨.hbm, 386, rfl⟩
abbrev main_v343 : Ref sig .tc := ⟨.hbm, 387, rfl⟩
abbrev main_v344 : Ref sig .tc := ⟨.hbm, 388, rfl⟩
abbrev main_v345 : Ref sig .tc := ⟨.hbm, 389, rfl⟩
abbrev main_v346 : Ref sig .tc := ⟨.hbm, 390, rfl⟩
abbrev main_v347 : Ref sig .tc := ⟨.hbm, 391, rfl⟩
abbrev main_v348 : Ref sig .tc := ⟨.hbm, 392, rfl⟩
abbrev main_v349 : Ref sig .tc := ⟨.hbm, 393, rfl⟩
abbrev main_v350 : Ref sig .tc := ⟨.hbm, 394, rfl⟩
abbrev main_v351 : Ref sig .tc := ⟨.hbm, 395, rfl⟩
abbrev main_v352 : Ref sig .tc := ⟨.hbm, 396, rfl⟩
abbrev main_v353 : Ref sig .tc := ⟨.hbm, 397, rfl⟩
abbrev main_v354 : Ref sig .tc := ⟨.hbm, 398, rfl⟩
abbrev main_c_18 : Ref sig .tc := ⟨.hbm, 399, rfl⟩
abbrev main_v355 : Ref sig .tc := ⟨.hbm, 400, rfl⟩
abbrev main_v356 : Ref sig .tc := ⟨.hbm, 401, rfl⟩
abbrev main_v357 : Ref sig .tc := ⟨.hbm, 402, rfl⟩
abbrev main_v358 : Ref sig .tc := ⟨.hbm, 403, rfl⟩
abbrev main_v359 : Ref sig .tc := ⟨.hbm, 404, rfl⟩
abbrev main_v360 : Ref sig .tc := ⟨.hbm, 405, rfl⟩
abbrev main_v361 : Ref sig .tc := ⟨.hbm, 406, rfl⟩
abbrev main_v362 : Ref sig .tc := ⟨.hbm, 407, rfl⟩
abbrev main_v363 : Ref sig .tc := ⟨.hbm, 408, rfl⟩
abbrev main_v364 : Ref sig .tc := ⟨.hbm, 409, rfl⟩
abbrev main_v365 : Ref sig .tc := ⟨.hbm, 410, rfl⟩
abbrev main_v366 : Ref sig .tc := ⟨.hbm, 411, rfl⟩
abbrev main_v367 : Ref sig .tc := ⟨.hbm, 412, rfl⟩
abbrev main_v368 : Ref sig .tc := ⟨.hbm, 413, rfl⟩
abbrev main_c_19 : Ref sig .tc := ⟨.hbm, 414, rfl⟩
abbrev main_call1_v0 : Ref sig .tc := ⟨.hbm, 415, rfl⟩
abbrev main_call1_v1 : Ref sig .tc := ⟨.hbm, 416, rfl⟩
abbrev main_call1_v2 : Ref sig .tc := ⟨.hbm, 417, rfl⟩
abbrev main_call1_v3 : Ref sig .tc := ⟨.hbm, 418, rfl⟩
abbrev main_call1_v4 : Ref sig .tc := ⟨.hbm, 419, rfl⟩
abbrev main_call1_v5 : Ref sig .tc := ⟨.hbm, 420, rfl⟩
abbrev main_call1_v6 : Ref sig .tc := ⟨.hbm, 421, rfl⟩
abbrev main_call1_v7 : Ref sig .tc := ⟨.hbm, 422, rfl⟩
abbrev main_call1_v8 : Ref sig .tc := ⟨.hbm, 423, rfl⟩
abbrev main_call1_c : Ref sig .tc := ⟨.hbm, 424, rfl⟩
abbrev main_call1_v9 : Ref sig .tc := ⟨.hbm, 425, rfl⟩
abbrev main_call1_v10 : Ref sig .tc := ⟨.hbm, 426, rfl⟩
abbrev main_call1_v11 : Ref sig .tc := ⟨.hbm, 427, rfl⟩
abbrev main_call1_c_0 : Ref sig .tc := ⟨.hbm, 428, rfl⟩
abbrev main_call1_v12 : Ref sig .tc := ⟨.hbm, 429, rfl⟩
abbrev main_call1_v13 : Ref sig .tc := ⟨.hbm, 430, rfl⟩
abbrev main_v369 : Ref sig .tc := ⟨.hbm, 431, rfl⟩
abbrev main_v370 : Ref sig .tc := ⟨.hbm, 432, rfl⟩
abbrev main_v371 : Ref sig .tc := ⟨.hbm, 433, rfl⟩
abbrev main_v372 : Ref sig .tc := ⟨.hbm, 434, rfl⟩
abbrev main_v373 : Ref sig .tc := ⟨.hbm, 435, rfl⟩
abbrev main_v374 : Ref sig .tc := ⟨.hbm, 436, rfl⟩
abbrev main_v375 : Ref sig .tc := ⟨.hbm, 437, rfl⟩
abbrev main_cst_20 : Ref sig .tc := ⟨.hbm, 438, rfl⟩
abbrev main_v376 : Ref sig .tc := ⟨.hbm, 439, rfl⟩
abbrev main_v377 : Ref sig .tc := ⟨.hbm, 440, rfl⟩
abbrev main_v378_0 : Ref sig .tc := ⟨.hbm, 441, rfl⟩
abbrev main_v378_1 : Ref sig .tc := ⟨.hbm, 442, rfl⟩
abbrev main_v378_2 : Ref sig .tc := ⟨.hbm, 443, rfl⟩
abbrev main_v378_3 : Ref sig .tc := ⟨.hbm, 444, rfl⟩
abbrev main_v378_4 : Ref sig .tc := ⟨.hbm, 445, rfl⟩
abbrev main_v378_5 : Ref sig .tc := ⟨.hbm, 446, rfl⟩
abbrev main_v378_6 : Ref sig .tc := ⟨.hbm, 447, rfl⟩
abbrev main_v378_7 : Ref sig .tc := ⟨.hbm, 448, rfl⟩
abbrev main_v378_8 : Ref sig .tc := ⟨.hbm, 449, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg21_0 : Ref sig .tc := ⟨.vmem, 28, rfl⟩
abbrev cc0_stg22_0 : Ref sig .tc := ⟨.vmem, 29, rfl⟩
abbrev cc0_stg23_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27
abbrev cc0_sem21_0 : DmaSem sig := 28
abbrev cc0_sem22_0 : DmaSem sig := 29
abbrev cc0_sem23_0 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let c0_i32 : BitVec 32 := 0#32
  ![v0.toNat, c8_i32.toNat]

def cc0_transform_1 (i : grid0.Coords) : Fin 2 → Nat :=
  let arg0 : BitVec 32 := BitVec.ofNat 32 (i 0).val
  let c6_i32 : BitVec 32 := 6#32
  let v0 : BitVec 32 := Scalar.subi c6_i32 arg0
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c9_i32 : BitVec 32 := 9#32
  let c0_i32 : BitVec 32 := 0#32
  ![v0.toNat, c9_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c6_i32 : BitVec 32 := 6#32
  let v0 : BitVec 32 := Scalar.subi c6_i32 arg0
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c7_i32 : BitVec 32 := 7#32
  let v0 : BitVec 32 := Scalar.subi c7_i32 arg0
  let c4_i32 : BitVec 32 := 4#32
  let c0_i32 : BitVec 32 := 0#32
  ![v0.toNat, c4_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S4x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== LruRefIdeal.lean ====
abbrev S4096x3072 : Shape := ⟨2, ![4096, 3072]⟩
abbrev S4x256 : Shape := ⟨2, ![4, 256]⟩
abbrev S256 : Shape := ⟨1, ![256]⟩
abbrev S4x64x64 : Shape := ⟨3, ![4, 64, 64]⟩
abbrev S4x64 : Shape := ⟨2, ![4, 64]⟩
abbrev S4096x256 : Shape := ⟨2, ![4096, 256]⟩
abbrev S_ : Shape := ⟨0, ![]⟩
abbrev S3x256 : Shape := ⟨2, ![3, 256]⟩
abbrev S4099x256 : Shape := ⟨2, ![4099, 256]⟩
abbrev S1x256 : Shape := ⟨2, ![1, 256]⟩
abbrev S4096x4x64 : Shape := ⟨3, ![4096, 4, 64]⟩
abbrev S4x64x4096 : Shape := ⟨3, ![4, 64, 4096]⟩
abbrev S1x4x64 : Shape := ⟨3, ![1, 4, 64]⟩
abbrev S2048x2x256 : Shape := ⟨3, ![2048, 2, 256]⟩
abbrev S2048x1x256 : Shape := ⟨3, ![2048, 1, 256]⟩
abbrev S2048x256 : Shape := ⟨2, ![2048, 256]⟩
abbrev S1024x2x256 : Shape := ⟨3, ![1024, 2, 256]⟩
abbrev S1024x1x256 : Shape := ⟨3, ![1024, 1, 256]⟩
abbrev S1024x256 : Shape := ⟨2, ![1024, 256]⟩
abbrev S512x2x256 : Shape := ⟨3, ![512, 2, 256]⟩
abbrev S512x1x256 : Shape := ⟨3, ![512, 1, 256]⟩
abbrev S512x256 : Shape := ⟨2, ![512, 256]⟩
abbrev S256x2x256 : Shape := ⟨3, ![256, 2, 256]⟩
abbrev S256x1x256 : Shape := ⟨3, ![256, 1, 256]⟩
abbrev S256x256 : Shape := ⟨2, ![256, 256]⟩
abbrev S128x2x256 : Shape := ⟨3, ![128, 2, 256]⟩
abbrev S128x1x256 : Shape := ⟨3, ![128, 1, 256]⟩
abbrev S128x256 : Shape := ⟨2, ![128, 256]⟩
abbrev S64x2x256 : Shape := ⟨3, ![64, 2, 256]⟩
abbrev S64x1x256 : Shape := ⟨3, ![64, 1, 256]⟩
abbrev S64x256 : Shape := ⟨2, ![64, 256]⟩
abbrev S32x2x256 : Shape := ⟨3, ![32, 2, 256]⟩
abbrev S32x1x256 : Shape := ⟨3, ![32, 1, 256]⟩
abbrev S32x256 : Shape := ⟨2, ![32, 256]⟩
abbrev S16x2x256 : Shape := ⟨3, ![16, 2, 256]⟩
abbrev S16x1x256 : Shape := ⟨3, ![16, 1, 256]⟩
abbrev S16x256 : Shape := ⟨2, ![16, 256]⟩
abbrev S8x2x256 : Shape := ⟨3, ![8, 2, 256]⟩
abbrev S8x1x256 : Shape := ⟨3, ![8, 1, 256]⟩
abbrev S8x256 : Shape := ⟨2, ![8, 256]⟩
abbrev S4x2x256 : Shape := ⟨3, ![4, 2, 256]⟩
abbrev S4x1x256 : Shape := ⟨3, ![4, 1, 256]⟩
abbrev S2x2x256 : Shape := ⟨3, ![2, 2, 256]⟩
abbrev S2x1x256 : Shape := ⟨3, ![2, 1, 256]⟩
abbrev S2x256 : Shape := ⟨2, ![2, 256]⟩
abbrev S1x2x256 : Shape := ⟨3, ![1, 2, 256]⟩
abbrev S1x1x256 : Shape := ⟨3, ![1, 1, 256]⟩
abbrev S0x256 : Shape := ⟨2, ![0, 256]⟩
abbrev S7x256 : Shape := ⟨2, ![7, 256]⟩
abbrev S15x256 : Shape := ⟨2, ![15, 256]⟩
abbrev S31x256 : Shape := ⟨2, ![31, 256]⟩
abbrev S63x256 : Shape := ⟨2, ![63, 256]⟩
abbrev S127x256 : Shape := ⟨2, ![127, 256]⟩
abbrev S255x256 : Shape := ⟨2, ![255, 256]⟩
abbrev S511x256 : Shape := ⟨2, ![511, 256]⟩
abbrev S1023x256 : Shape := ⟨2, ![1023, 256]⟩
abbrev S2047x256 : Shape := ⟨2, ![2047, 256]⟩
abbrev S4096x4 : Shape := ⟨2, ![4096, 4]⟩
abbrev S4096x4x1 : Shape := ⟨3, ![4096, 4, 1]⟩
abbrev S4x4096x64 : Shape := ⟨3, ![4, 4096, 64]⟩
abbrev S4096x2048 : Shape := ⟨2, ![4096, 2048]⟩
abbrev S4096x512 : Shape := ⟨2, ![4096, 512]⟩
abbrev S4x64x1x64 : Shape := ⟨4, ![4, 64, 1, 64]⟩
abbrev S4x64x4x64 : Shape := ⟨4, ![4, 64, 4, 64]⟩

abbrev nBuf : Space → Nat
  | .hbm => 1096
  | .vmem => 0
  | .smem => 0
  | _ => 0

abbrev hbmTy0_0 (i : Nat) : BufTy := match i % 128 with
  | 0 => ⟨S4096x3072, .f32⟩
  | 1 => ⟨S4x256, .f32⟩
  | 2 => ⟨S256, .f32⟩
  | 3 => ⟨S4x64x64, .f32⟩
  | 4 => ⟨S4x64, .f32⟩
  | 5 => ⟨S4x64x64, .f32⟩
  | 6 => ⟨S4x64, .f32⟩
  | 7 => ⟨S256, .f32⟩
  | 8 => ⟨S256, .f32⟩
  | 9 => ⟨S4096x256, .f32⟩
  | 10 => ⟨S4096x3072, .f32⟩
  | 11 => ⟨S4096x256, .f32⟩
  | 12 => ⟨S4096x256, .f32⟩
  | 13 => ⟨S_, .f32⟩
  | 14 => ⟨S3x256, .f32⟩
  | 15 => ⟨S4099x256, .f32⟩
  | 16 => ⟨S_, .f32⟩
  | 17 => ⟨S3x256, .f32⟩
  | 18 => ⟨S4096x256, .f32⟩
  | 19 => ⟨S1x256, .f32⟩
  | 20 => ⟨S256, .f32⟩
  | 21 => ⟨S1x256, .f32⟩
  | 22 => ⟨S4096x256, .f32⟩
  | 23 => ⟨S4096x256, .f32⟩
  | 24 => ⟨S1x256, .f32⟩
  | 25 => ⟨S4096x256, .f32⟩
  | 26 => ⟨S4096x256, .f32⟩
  | 27 => ⟨S4096x256, .f32⟩
  | 28 => ⟨S1x256, .f32⟩
  | 29 => ⟨S256, .f32⟩
  | 30 => ⟨S1x256, .f32⟩
  | 31 => ⟨S4096x256, .f32⟩
  | 32 => ⟨S4096x256, .f32⟩
  | 33 => ⟨S4096x256, .f32⟩
  | 34 => ⟨S4096x256, .f32⟩
  | 35 => ⟨S1x256, .f32⟩
  | 36 => ⟨S256, .f32⟩
  | 37 => ⟨S1x256, .f32⟩
  | 38 => ⟨S4096x256, .f32⟩
  | 39 => ⟨S4096x256, .f32⟩
  | 40 => ⟨S4096x256, .f32⟩
  | 41 => ⟨S4096x256, .f32⟩
  | 42 => ⟨S1x256, .f32⟩
  | 43 => ⟨S256, .f32⟩
  | 44 => ⟨S1x256, .f32⟩
  | 45 => ⟨S4096x256, .f32⟩
  | 46 => ⟨S4096x256, .f32⟩
  | 47 => ⟨S4096x256, .f32⟩
  | 48 => ⟨S4096x4x64, .f32⟩
  | 49 => ⟨S4x64x4096, .f32⟩
  | 50 => ⟨S4096x4x64, .f32⟩
  | 51 => ⟨S1x4x64, .f32⟩
  | 52 => ⟨S4096x4x64, .f32⟩
  | 53 => ⟨S4096x4x64, .f32⟩
  | 54 => ⟨S4096x4x64, .f32⟩
  | 55 => ⟨S4096x4x64, .f32⟩
  | 56 => ⟨S_, .f32⟩
  | 57 => ⟨S4096x4x64, .f32⟩
  | 58 => ⟨S4096x4x64, .f32⟩
  | 59 => ⟨S_, .f32⟩
  | 60 => ⟨S4096x4x64, .f32⟩
  | 61 => ⟨S4096x4x64, .f32⟩
  | 62 => ⟨S_, .f32⟩
  | 63 => ⟨S4096x4x64, .f32⟩
  | 64 => ⟨S4096x4x64, .f32⟩
  | 65 => ⟨S4096x4x64, .f32⟩
  | 66 => ⟨S4096x256, .f32⟩
  | 67 => ⟨S_, .f32⟩
  | 68 => ⟨S4096x256, .f32⟩
  | 69 => ⟨S4096x256, .f32⟩
  | 70 => ⟨S256, .f32⟩
  | 71 => ⟨S_, .f32⟩
  | 72 => ⟨S256, .f32⟩
  | 73 => ⟨S256, .f32⟩
  | 74 => ⟨S256, .f32⟩
  | 75 => ⟨S256, .f32⟩
  | 76 => ⟨S256, .i1⟩
  | 77 => ⟨S256, .f32⟩
  | 78 => ⟨S256, .f32⟩
  | 79 => ⟨S256, .f32⟩
  | 80 => ⟨S256, .f32⟩
  | 81 => ⟨S256, .f32⟩
  | 82 => ⟨S256, .f32⟩
  | 83 => ⟨S256, .f32⟩
  | 84 => ⟨S256, .f32⟩
  | 85 => ⟨S_, .f32⟩
  | 86 => ⟨S256, .f32⟩
  | 87 => ⟨S256, .i1⟩
  | 88 => ⟨S_, .f32⟩
  | 89 => ⟨S256, .f32⟩
  | 90 => ⟨S256, .f32⟩
  | 91 => ⟨S_, .f32⟩
  | 92 => ⟨S256, .f32⟩
  | 93 => ⟨S256, .i1⟩
  | 94 => ⟨S_, .f32⟩
  | 95 => ⟨S256, .f32⟩
  | 96 => ⟨S256, .f32⟩
  | 97 => ⟨S256, .f32⟩
  | 98 => ⟨S256, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S256, .f32⟩
  | 107 => ⟨S256, .i1⟩
  | 108 => ⟨S_, .f32⟩
  | 109 => ⟨S256, .f32⟩
  | 110 => ⟨S256, .f32⟩
  | 111 => ⟨S256, .f32⟩
  | 112 => ⟨S256, .f32⟩
  | 113 => ⟨S256, .f32⟩
  | 114 => ⟨S_, .f32⟩
  | 115 => ⟨S256, .f32⟩
  | 116 => ⟨S256, .f32⟩
  | 117 => ⟨S1x256, .f32⟩
  | 118 => ⟨S4096x256, .f32⟩
  | 119 => ⟨S4096x256, .f32⟩
  | 120 => ⟨S4096x4x64, .f32⟩
  | 121 => ⟨S4x64x4096, .f32⟩
  | 122 => ⟨S4096x4x64, .f32⟩
  | 123 => ⟨S1x4x64, .f32⟩
  | 124 => ⟨S4096x4x64, .f32⟩
  | 125 => ⟨S4096x4x64, .f32⟩
  | 126 => ⟨S4096x4x64, .f32⟩
  | 127 => ⟨S4096x4x64, .f32⟩
  | _ => ⟨S4096x3072, .f32⟩

abbrev hbmTy0_1 (i : Nat) : BufTy := match i % 128 with
  | 0 => ⟨S_, .f32⟩
  | 1 => ⟨S4096x4x64, .f32⟩
  | 2 => ⟨S4096x4x64, .f32⟩
  | 3 => ⟨S_, .f32⟩
  | 4 => ⟨S4096x4x64, .f32⟩
  | 5 => ⟨S4096x4x64, .f32⟩
  | 6 => ⟨S_, .f32⟩
  | 7 => ⟨S4096x4x64, .f32⟩
  | 8 => ⟨S4096x4x64, .f32⟩
  | 9 => ⟨S4096x4x64, .f32⟩
  | 10 => ⟨S4096x256, .f32⟩
  | 11 => ⟨S4096x256, .f32⟩
  | 12 => ⟨S_, .f32⟩
  | 13 => ⟨S4096x256, .f32⟩
  | 14 => ⟨S4096x256, .f32⟩
  | 15 => ⟨S4096x256, .f32⟩
  | 16 => ⟨S4096x256, .f32⟩
  | 17 => ⟨S4096x256, .f32⟩
  | 18 => ⟨S4096x256, .f32⟩
  | 19 => ⟨S_, .f32⟩
  | 20 => ⟨S4096x256, .f32⟩
  | 21 => ⟨S4096x256, .f32⟩
  | 22 => ⟨S4096x256, .f32⟩
  | 23 => ⟨S4096x256, .f32⟩
  | 24 => ⟨S2048x2x256, .f32⟩
  | 25 => ⟨S2048x2x256, .f32⟩
  | 26 => ⟨S2048x1x256, .f32⟩
  | 27 => ⟨S2048x256, .f32⟩
  | 28 => ⟨S2048x1x256, .f32⟩
  | 29 => ⟨S2048x256, .f32⟩
  | 30 => ⟨S2048x1x256, .f32⟩
  | 31 => ⟨S2048x256, .f32⟩
  | 32 => ⟨S2048x1x256, .f32⟩
  | 33 => ⟨S2048x256, .f32⟩
  | 34 => ⟨S2048x256, .f32⟩
  | 35 => ⟨S2048x256, .f32⟩
  | 36 => ⟨S2048x256, .f32⟩
  | 37 => ⟨S1024x2x256, .f32⟩
  | 38 => ⟨S1024x2x256, .f32⟩
  | 39 => ⟨S1024x1x256, .f32⟩
  | 40 => ⟨S1024x256, .f32⟩
  | 41 => ⟨S1024x1x256, .f32⟩
  | 42 => ⟨S1024x256, .f32⟩
  | 43 => ⟨S1024x1x256, .f32⟩
  | 44 => ⟨S1024x256, .f32⟩
  | 45 => ⟨S1024x1x256, .f32⟩
  | 46 => ⟨S1024x256, .f32⟩
  | 47 => ⟨S1024x256, .f32⟩
  | 48 => ⟨S1024x256, .f32⟩
  | 49 => ⟨S1024x256, .f32⟩
  | 50 => ⟨S512x2x256, .f32⟩
  | 51 => ⟨S512x2x256, .f32⟩
  | 52 => ⟨S512x1x256, .f32⟩
  | 53 => ⟨S512x256, .f32⟩
  | 54 => ⟨S512x1x256, .f32⟩
  | 55 => ⟨S512x256, .f32⟩
  | 56 => ⟨S512x1x256, .f32⟩
  | 57 => ⟨S512x256, .f32⟩
  | 58 => ⟨S512x1x256, .f32⟩
  | 59 => ⟨S512x256, .f32⟩
  | 60 => ⟨S512x256, .f32⟩
  | 61 => ⟨S512x256, .f32⟩
  | 62 => ⟨S512x256, .f32⟩
  | 63 => ⟨S256x2x256, .f32⟩
  | 64 => ⟨S256x2x256, .f32⟩
  | 65 => ⟨S256x1x256, .f32⟩
  | 66 => ⟨S256x256, .f32⟩
  | 67 => ⟨S256x1x256, .f32⟩
  | 68 => ⟨S256x256, .f32⟩
  | 69 => ⟨S256x1x256, .f32⟩
  | 70 => ⟨S256x256, .f32⟩
  | 71 => ⟨S256x1x256, .f32⟩
  | 72 => ⟨S256x256, .f32⟩
  | 73 => ⟨S256x256, .f32⟩
  | 74 => ⟨S256x256, .f32⟩
  | 75 => ⟨S256x256, .f32⟩
  | 76 => ⟨S128x2x256, .f32⟩
  | 77 => ⟨S128x2x256, .f32⟩
  | 78 => ⟨S128x1x256, .f32⟩
  | 79 => ⟨S128x256, .f32⟩
  | 80 => ⟨S128x1x256, .f32⟩
  | 81 => ⟨S128x256, .f32⟩
  | 82 => ⟨S128x1x256, .f32⟩
  | 83 => ⟨S128x256, .f32⟩
  | 84 => ⟨S128x1x256, .f32⟩
  | 85 => ⟨S128x256, .f32⟩
  | 86 => ⟨S128x256, .f32⟩
  | 87 => ⟨S128x256, .f32⟩
  | 88 => ⟨S128x256, .f32⟩
  | 89 => ⟨S64x2x256, .f32⟩
  | 90 => ⟨S64x2x256, .f32⟩
  | 91 => ⟨S64x1x256, .f32⟩
  | 92 => ⟨S64x256, .f32⟩
  | 93 => ⟨S64x1x256, .f32⟩
  | 94 => ⟨S64x256, .f32⟩
  | 95 => ⟨S64x1x256, .f32⟩
  | 96 => ⟨S64x256, .f32⟩
  | 97 => ⟨S64x1x256, .f32⟩
  | 98 => ⟨S64x256, .f32⟩
  | 99 => ⟨S64x256, .f32⟩
  | 100 => ⟨S64x256, .f32⟩
  | 101 => ⟨S64x256, .f32⟩
  | 102 => ⟨S32x2x256, .f32⟩
  | 103 => ⟨S32x2x256, .f32⟩
  | 104 => ⟨S32x1x256, .f32⟩
  | 105 => ⟨S32x256, .f32⟩
  | 106 => ⟨S32x1x256, .f32⟩
  | 107 => ⟨S32x256, .f32⟩
  | 108 => ⟨S32x1x256, .f32⟩
  | 109 => ⟨S32x256, .f32⟩
  | 110 => ⟨S32x1x256, .f32⟩
  | 111 => ⟨S32x256, .f32⟩
  | 112 => ⟨S32x256, .f32⟩
  | 113 => ⟨S32x256, .f32⟩
  | 114 => ⟨S32x256, .f32⟩
  | 115 => ⟨S16x2x256, .f32⟩
  | 116 => ⟨S16x2x256, .f32⟩
  | 117 => ⟨S16x1x256, .f32⟩
  | 118 => ⟨S16x256, .f32⟩
  | 119 => ⟨S16x1x256, .f32⟩
  | 120 => ⟨S16x256, .f32⟩
  | 121 => ⟨S16x1x256, .f32⟩
  | 122 => ⟨S16x256, .f32⟩
  | 123 => ⟨S16x1x256, .f32⟩
  | 124 => ⟨S16x256, .f32⟩
  | 125 => ⟨S16x256, .f32⟩
  | 126 => ⟨S16x256, .f32⟩
  | 127 => ⟨S16x256, .f32⟩
  | _ => ⟨S4096x3072, .f32⟩

abbrev hbmTy0_2 (i : Nat) : BufTy := match i % 128 with
  | 0 => ⟨S8x2x256, .f32⟩
  | 1 => ⟨S8x2x256, .f32⟩
  | 2 => ⟨S8x1x256, .f32⟩
  | 3 => ⟨S8x256, .f32⟩
  | 4 => ⟨S8x1x256, .f32⟩
  | 5 => ⟨S8x256, .f32⟩
  | 6 => ⟨S8x1x256, .f32⟩
  | 7 => ⟨S8x256, .f32⟩
  | 8 => ⟨S8x1x256, .f32⟩
  | 9 => ⟨S8x256, .f32⟩
  | 10 => ⟨S8x256, .f32⟩
  | 11 => ⟨S8x256, .f32⟩
  | 12 => ⟨S8x256, .f32⟩
  | 13 => ⟨S4x2x256, .f32⟩
  | 14 => ⟨S4x2x256, .f32⟩
  | 15 => ⟨S4x1x256, .f32⟩
  | 16 => ⟨S4x256, .f32⟩
  | 17 => ⟨S4x1x256, .f32⟩
  | 18 => ⟨S4x256, .f32⟩
  | 19 => ⟨S4x1x256, .f32⟩
  | 20 => ⟨S4x256, .f32⟩
  | 21 => ⟨S4x1x256, .f32⟩
  | 22 => ⟨S4x256, .f32⟩
  | 23 => ⟨S4x256, .f32⟩
  | 24 => ⟨S4x256, .f32⟩
  | 25 => ⟨S4x256, .f32⟩
  | 26 => ⟨S2x2x256, .f32⟩
  | 27 => ⟨S2x2x256, .f32⟩
  | 28 => ⟨S2x1x256, .f32⟩
  | 29 => ⟨S2x256, .f32⟩
  | 30 => ⟨S2x1x256, .f32⟩
  | 31 => ⟨S2x256, .f32⟩
  | 32 => ⟨S2x1x256, .f32⟩
  | 33 => ⟨S2x256, .f32⟩
  | 34 => ⟨S2x1x256, .f32⟩
  | 35 => ⟨S2x256, .f32⟩
  | 36 => ⟨S2x256, .f32⟩
  | 37 => ⟨S2x256, .f32⟩
  | 38 => ⟨S2x256, .f32⟩
  | 39 => ⟨S1x2x256, .f32⟩
  | 40 => ⟨S1x2x256, .f32⟩
  | 41 => ⟨S1x1x256, .f32⟩
  | 42 => ⟨S1x256, .f32⟩
  | 43 => ⟨S1x1x256, .f32⟩
  | 44 => ⟨S1x256, .f32⟩
  | 45 => ⟨S1x1x256, .f32⟩
  | 46 => ⟨S1x256, .f32⟩
  | 47 => ⟨S1x1x256, .f32⟩
  | 48 => ⟨S1x256, .f32⟩
  | 49 => ⟨S1x256, .f32⟩
  | 50 => ⟨S1x256, .f32⟩
  | 51 => ⟨S1x256, .f32⟩
  | 52 => ⟨S_, .f32⟩
  | 53 => ⟨S1x256, .f32⟩
  | 54 => ⟨S0x256, .f32⟩
  | 55 => ⟨S1x256, .f32⟩
  | 56 => ⟨S_, .f32⟩
  | 57 => ⟨S1x256, .f32⟩
  | 58 => ⟨S1x256, .f32⟩
  | 59 => ⟨S1x256, .f32⟩
  | 60 => ⟨S1x1x256, .f32⟩
  | 61 => ⟨S1x1x256, .f32⟩
  | 62 => ⟨S1x2x256, .f32⟩
  | 63 => ⟨S2x256, .f32⟩
  | 64 => ⟨S_, .f32⟩
  | 65 => ⟨S1x256, .f32⟩
  | 66 => ⟨S1x256, .f32⟩
  | 67 => ⟨S2x256, .f32⟩
  | 68 => ⟨S_, .f32⟩
  | 69 => ⟨S1x256, .f32⟩
  | 70 => ⟨S2x256, .f32⟩
  | 71 => ⟨S2x256, .f32⟩
  | 72 => ⟨S2x1x256, .f32⟩
  | 73 => ⟨S2x1x256, .f32⟩
  | 74 => ⟨S2x2x256, .f32⟩
  | 75 => ⟨S4x256, .f32⟩
  | 76 => ⟨S_, .f32⟩
  | 77 => ⟨S1x256, .f32⟩
  | 78 => ⟨S3x256, .f32⟩
  | 79 => ⟨S4x256, .f32⟩
  | 80 => ⟨S_, .f32⟩
  | 81 => ⟨S1x256, .f32⟩
  | 82 => ⟨S4x256, .f32⟩
  | 83 => ⟨S4x256, .f32⟩
  | 84 => ⟨S4x1x256, .f32⟩
  | 85 => ⟨S4x1x256, .f32⟩
  | 86 => ⟨S4x2x256, .f32⟩
  | 87 => ⟨S8x256, .f32⟩
  | 88 => ⟨S_, .f32⟩
  | 89 => ⟨S1x256, .f32⟩
  | 90 => ⟨S7x256, .f32⟩
  | 91 => ⟨S8x256, .f32⟩
  | 92 => ⟨S_, .f32⟩
  | 93 => ⟨S1x256, .f32⟩
  | 94 => ⟨S8x256, .f32⟩
  | 95 => ⟨S8x256, .f32⟩
  | 96 => ⟨S8x1x256, .f32⟩
  | 97 => ⟨S8x1x256, .f32⟩
  | 98 => ⟨S8x2x256, .f32⟩
  | 99 => ⟨S16x256, .f32⟩
  | 100 => ⟨S_, .f32⟩
  | 101 => ⟨S1x256, .f32⟩
  | 102 => ⟨S15x256, .f32⟩
  | 103 => ⟨S16x256, .f32⟩
  | 104 => ⟨S_, .f32⟩
  | 105 => ⟨S1x256, .f32⟩
  | 106 => ⟨S16x256, .f32⟩
  | 107 => ⟨S16x256, .f32⟩
  | 108 => ⟨S16x1x256, .f32⟩
  | 109 => ⟨S16x1x256, .f32⟩
  | 110 => ⟨S16x2x256, .f32⟩
  | 111 => ⟨S32x256, .f32⟩
  | 112 => ⟨S_, .f32⟩
  | 113 => ⟨S1x256, .f32⟩
  | 114 => ⟨S31x256, .f32⟩
  | 115 => ⟨S32x256, .f32⟩
  | 116 => ⟨S_, .f32⟩
  | 117 => ⟨S1x256, .f32⟩
  | 118 => ⟨S32x256, .f32⟩
  | 119 => ⟨S32x256, .f32⟩
  | 120 => ⟨S32x1x256, .f32⟩
  | 121 => ⟨S32x1x256, .f32⟩
  | 122 => ⟨S32x2x256, .f32⟩
  | 123 => ⟨S64x256, .f32⟩
  | 124 => ⟨S_, .f32⟩
  | 125 => ⟨S1x256, .f32⟩
  | 126 => ⟨S63x256, .f32⟩
  | 127 => ⟨S64x256, .f32⟩
  | _ => ⟨S4096x3072, .f32⟩

abbrev hbmTy0_3 (i : Nat) : BufTy := match i % 128 with
  | 0 => ⟨S_, .f32⟩
  | 1 => ⟨S1x256, .f32⟩
  | 2 => ⟨S64x256, .f32⟩
  | 3 => ⟨S64x256, .f32⟩
  | 4 => ⟨S64x1x256, .f32⟩
  | 5 => ⟨S64x1x256, .f32⟩
  | 6 => ⟨S64x2x256, .f32⟩
  | 7 => ⟨S128x256, .f32⟩
  | 8 => ⟨S_, .f32⟩
  | 9 => ⟨S1x256, .f32⟩
  | 10 => ⟨S127x256, .f32⟩
  | 11 => ⟨S128x256, .f32⟩
  | 12 => ⟨S_, .f32⟩
  | 13 => ⟨S1x256, .f32⟩
  | 14 => ⟨S128x256, .f32⟩
  | 15 => ⟨S128x256, .f32⟩
  | 16 => ⟨S128x1x256, .f32⟩
  | 17 => ⟨S128x1x256, .f32⟩
  | 18 => ⟨S128x2x256, .f32⟩
  | 19 => ⟨S256x256, .f32⟩
  | 20 => ⟨S_, .f32⟩
  | 21 => ⟨S1x256, .f32⟩
  | 22 => ⟨S255x256, .f32⟩
  | 23 => ⟨S256x256, .f32⟩
  | 24 => ⟨S_, .f32⟩
  | 25 => ⟨S1x256, .f32⟩
  | 26 => ⟨S256x256, .f32⟩
  | 27 => ⟨S256x256, .f32⟩
  | 28 => ⟨S256x1x256, .f32⟩
  | 29 => ⟨S256x1x256, .f32⟩
  | 30 => ⟨S256x2x256, .f32⟩
  | 31 => ⟨S512x256, .f32⟩
  | 32 => ⟨S_, .f32⟩
  | 33 => ⟨S1x256, .f32⟩
  | 34 => ⟨S511x256, .f32⟩
  | 35 => ⟨S512x256, .f32⟩
  | 36 => ⟨S_, .f32⟩
  | 37 => ⟨S1x256, .f32⟩
  | 38 => ⟨S512x256, .f32⟩
  | 39 => ⟨S512x256, .f32⟩
  | 40 => ⟨S512x1x256, .f32⟩
  | 41 => ⟨S512x1x256, .f32⟩
  | 42 => ⟨S512x2x256, .f32⟩
  | 43 => ⟨S1024x256, .f32⟩
  | 44 => ⟨S_, .f32⟩
  | 45 => ⟨S1x256, .f32⟩
  | 46 => ⟨S1023x256, .f32⟩
  | 47 => ⟨S1024x256, .f32⟩
  | 48 => ⟨S_, .f32⟩
  | 49 => ⟨S1x256, .f32⟩
  | 50 => ⟨S1024x256, .f32⟩
  | 51 => ⟨S1024x256, .f32⟩
  | 52 => ⟨S1024x1x256, .f32⟩
  | 53 => ⟨S1024x1x256, .f32⟩
  | 54 => ⟨S1024x2x256, .f32⟩
  | 55 => ⟨S2048x256, .f32⟩
  | 56 => ⟨S_, .f32⟩
  | 57 => ⟨S1x256, .f32⟩
  | 58 => ⟨S2047x256, .f32⟩
  | 59 => ⟨S2048x256, .f32⟩
  | 60 => ⟨S_, .f32⟩
  | 61 => ⟨S1x256, .f32⟩
  | 62 => ⟨S2048x256, .f32⟩
  | 63 => ⟨S2048x256, .f32⟩
  | 64 => ⟨S2048x1x256, .f32⟩
  | 65 => ⟨S2048x1x256, .f32⟩
  | 66 => ⟨S2048x2x256, .f32⟩
  | 67 => ⟨S4096x256, .f32⟩
  | 68 => ⟨S4096x256, .f32⟩
  | 69 => ⟨S4096x256, .f32⟩
  | 70 => ⟨S4096x256, .f32⟩
  | 71 => ⟨S_, .f32⟩
  | 72 => ⟨S4096x256, .f32⟩
  | 73 => ⟨S4096x256, .f32⟩
  | 74 => ⟨S_, .f32⟩
  | 75 => ⟨S4096x256, .f32⟩
  | 76 => ⟨S4096x256, .f32⟩
  | 77 => ⟨S4096x256, .f32⟩
  | 78 => ⟨S_, .f32⟩
  | 79 => ⟨S4096x256, .f32⟩
  | 80 => ⟨S4096x256, .f32⟩
  | 81 => ⟨S4096x256, .f32⟩
  | 82 => ⟨S_, .f32⟩
  | 83 => ⟨S4096x256, .f32⟩
  | 84 => ⟨S4096x256, .f32⟩
  | 85 => ⟨S_, .f32⟩
  | 86 => ⟨S4096x256, .f32⟩
  | 87 => ⟨S4096x256, .f32⟩
  | 88 => ⟨S4096x256, .f32⟩
  | 89 => ⟨S_, .f32⟩
  | 90 => ⟨S4096x256, .f32⟩
  | 91 => ⟨S4096x256, .f32⟩
  | 92 => ⟨S_, .f32⟩
  | 93 => ⟨S4096x256, .f32⟩
  | 94 => ⟨S4096x256, .f32⟩
  | 95 => ⟨S4096x256, .f32⟩
  | 96 => ⟨S4096x256, .f32⟩
  | 97 => ⟨S4096x4x64, .f32⟩
  | 98 => ⟨S4096x4x64, .f32⟩
  | 99 => ⟨S_, .f32⟩
  | 100 => ⟨S4096x4, .f32⟩
  | 101 => ⟨S4096x4x1, .f32⟩
  | 102 => ⟨S_, .f32⟩
  | 103 => ⟨S4096x4x1, .f32⟩
  | 104 => ⟨S4096x4x1, .f32⟩
  | 105 => ⟨S_, .f32⟩
  | 106 => ⟨S4096x4x1, .f32⟩
  | 107 => ⟨S4096x4x1, .f32⟩
  | 108 => ⟨S4096x4x1, .f32⟩
  | 109 => ⟨S4096x4x1, .f32⟩
  | 110 => ⟨S_, .f32⟩
  | 111 => ⟨S4096x4x1, .f32⟩
  | 112 => ⟨S4096x4x1, .f32⟩
  | 113 => ⟨S4096x4x64, .f32⟩
  | 114 => ⟨S4096x4x64, .f32⟩
  | 115 => ⟨S4096x256, .f32⟩
  | 116 => ⟨S1x256, .f32⟩
  | 117 => ⟨S4096x256, .f32⟩
  | 118 => ⟨S4096x256, .f32⟩
  | 119 => ⟨S4096x256, .f32⟩
  | 120 => ⟨S_, .f32⟩
  | 121 => ⟨S256, .f32⟩
  | 122 => ⟨S1x256, .f32⟩
  | 123 => ⟨S4096x256, .f32⟩
  | 124 => ⟨S4096x256, .f32⟩
  | 125 => ⟨S_, .f32⟩
  | 126 => ⟨S256, .f32⟩
  | 127 => ⟨S4096x4x64, .f32⟩
  | _ => ⟨S4096x3072, .f32⟩

abbrev hbmTy0_4 (i : Nat) : BufTy := match i % 128 with
  | 0 => ⟨S4096x4x64, .f32⟩
  | 1 => ⟨S_, .f32⟩
  | 2 => ⟨S4096x4, .f32⟩
  | 3 => ⟨S4096x4x1, .f32⟩
  | 4 => ⟨S4096x4x64, .f32⟩
  | 5 => ⟨S4096x4x64, .f32⟩
  | 6 => ⟨S4096x4x1, .f32⟩
  | 7 => ⟨S_, .f32⟩
  | 8 => ⟨S4096x4x1, .f32⟩
  | 9 => ⟨S4096x4x1, .f32⟩
  | 10 => ⟨S_, .f32⟩
  | 11 => ⟨S4096x4, .f32⟩
  | 12 => ⟨S4096x4x64, .f32⟩
  | 13 => ⟨S4096x4x64, .f32⟩
  | 14 => ⟨S4096x4x64, .f32⟩
  | 15 => ⟨S4096x4x64, .f32⟩
  | 16 => ⟨S4096x4x64, .f32⟩
  | 17 => ⟨S4096x256, .f32⟩
  | 18 => ⟨S4096x256, .f32⟩
  | 19 => ⟨S4096x256, .f32⟩
  | 20 => ⟨S4096x256, .f32⟩
  | 21 => ⟨S4096x256, .f32⟩
  | 22 => ⟨S_, .f32⟩
  | 23 => ⟨S4096x256, .f32⟩
  | 24 => ⟨S4096x256, .f32⟩
  | 25 => ⟨S4096x256, .f32⟩
  | 26 => ⟨S_, .f32⟩
  | 27 => ⟨S4096x256, .f32⟩
  | 28 => ⟨S4096x256, .f32⟩
  | 29 => ⟨S4096x256, .f32⟩
  | 30 => ⟨S_, .f32⟩
  | 31 => ⟨S4096x256, .f32⟩
  | 32 => ⟨S4096x256, .f32⟩
  | 33 => ⟨S4096x256, .f32⟩
  | 34 => ⟨S4096x256, .f32⟩
  | 35 => ⟨S2048x2x256, .f32⟩
  | 36 => ⟨S2048x1x256, .f32⟩
  | 37 => ⟨S2048x256, .f32⟩
  | 38 => ⟨S2048x1x256, .f32⟩
  | 39 => ⟨S2048x256, .f32⟩
  | 40 => ⟨S2048x256, .f32⟩
  | 41 => ⟨S2048x256, .f32⟩
  | 42 => ⟨S1x256, .f32⟩
  | 43 => ⟨S2047x256, .f32⟩
  | 44 => ⟨S_, .f32⟩
  | 45 => ⟨S2048x256, .f32⟩
  | 46 => ⟨S2048x256, .f32⟩
  | 47 => ⟨S1024x2x256, .f32⟩
  | 48 => ⟨S1024x1x256, .f32⟩
  | 49 => ⟨S1024x256, .f32⟩
  | 50 => ⟨S1024x1x256, .f32⟩
  | 51 => ⟨S1024x256, .f32⟩
  | 52 => ⟨S1024x256, .f32⟩
  | 53 => ⟨S1024x256, .f32⟩
  | 54 => ⟨S1x256, .f32⟩
  | 55 => ⟨S1023x256, .f32⟩
  | 56 => ⟨S_, .f32⟩
  | 57 => ⟨S1024x256, .f32⟩
  | 58 => ⟨S1024x256, .f32⟩
  | 59 => ⟨S512x2x256, .f32⟩
  | 60 => ⟨S512x1x256, .f32⟩
  | 61 => ⟨S512x256, .f32⟩
  | 62 => ⟨S512x1x256, .f32⟩
  | 63 => ⟨S512x256, .f32⟩
  | 64 => ⟨S512x256, .f32⟩
  | 65 => ⟨S512x256, .f32⟩
  | 66 => ⟨S1x256, .f32⟩
  | 67 => ⟨S511x256, .f32⟩
  | 68 => ⟨S_, .f32⟩
  | 69 => ⟨S512x256, .f32⟩
  | 70 => ⟨S512x256, .f32⟩
  | 71 => ⟨S256x2x256, .f32⟩
  | 72 => ⟨S256x1x256, .f32⟩
  | 73 => ⟨S256x256, .f32⟩
  | 74 => ⟨S256x1x256, .f32⟩
  | 75 => ⟨S256x256, .f32⟩
  | 76 => ⟨S256x256, .f32⟩
  | 77 => ⟨S256x256, .f32⟩
  | 78 => ⟨S1x256, .f32⟩
  | 79 => ⟨S255x256, .f32⟩
  | 80 => ⟨S_, .f32⟩
  | 81 => ⟨S256x256, .f32⟩
  | 82 => ⟨S256x256, .f32⟩
  | 83 => ⟨S128x2x256, .f32⟩
  | 84 => ⟨S128x1x256, .f32⟩
  | 85 => ⟨S128x256, .f32⟩
  | 86 => ⟨S128x1x256, .f32⟩
  | 87 => ⟨S128x256, .f32⟩
  | 88 => ⟨S128x256, .f32⟩
  | 89 => ⟨S128x256, .f32⟩
  | 90 => ⟨S1x256, .f32⟩
  | 91 => ⟨S127x256, .f32⟩
  | 92 => ⟨S_, .f32⟩
  | 93 => ⟨S128x256, .f32⟩
  | 94 => ⟨S128x256, .f32⟩
  | 95 => ⟨S64x2x256, .f32⟩
  | 96 => ⟨S64x1x256, .f32⟩
  | 97 => ⟨S64x256, .f32⟩
  | 98 => ⟨S64x1x256, .f32⟩
  | 99 => ⟨S64x256, .f32⟩
  | 100 => ⟨S64x256, .f32⟩
  | 101 => ⟨S64x256, .f32⟩
  | 102 => ⟨S1x256, .f32⟩
  | 103 => ⟨S63x256, .f32⟩
  | 104 => ⟨S_, .f32⟩
  | 105 => ⟨S64x256, .f32⟩
  | 106 => ⟨S64x256, .f32⟩
  | 107 => ⟨S32x2x256, .f32⟩
  | 108 => ⟨S32x1x256, .f32⟩
  | 109 => ⟨S32x256, .f32⟩
  | 110 => ⟨S32x1x256, .f32⟩
  | 111 => ⟨S32x256, .f32⟩
  | 112 => ⟨S32x256, .f32⟩
  | 113 => ⟨S32x256, .f32⟩
  | 114 => ⟨S1x256, .f32⟩
  | 115 => ⟨S31x256, .f32⟩
  | 116 => ⟨S_, .f32⟩
  | 117 => ⟨S32x256, .f32⟩
  | 118 => ⟨S32x256, .f32⟩
  | 119 => ⟨S16x2x256, .f32⟩
  | 120 => ⟨S16x1x256, .f32⟩
  | 121 => ⟨S16x256, .f32⟩
  | 122 => ⟨S16x1x256, .f32⟩
  | 123 => ⟨S16x256, .f32⟩
  | 124 => ⟨S16x256, .f32⟩
  | 125 => ⟨S16x256, .f32⟩
  | 126 => ⟨S1x256, .f32⟩
  | 127 => ⟨S15x256, .f32⟩
  | _ => ⟨S4096x3072, .f32⟩

abbrev hbmTy0_5 (i : Nat) : BufTy := match i % 128 with
  | 0 => ⟨S_, .f32⟩
  | 1 => ⟨S16x256, .f32⟩
  | 2 => ⟨S16x256, .f32⟩
  | 3 => ⟨S8x2x256, .f32⟩
  | 4 => ⟨S8x1x256, .f32⟩
  | 5 => ⟨S8x256, .f32⟩
  | 6 => ⟨S8x1x256, .f32⟩
  | 7 => ⟨S8x256, .f32⟩
  | 8 => ⟨S8x256, .f32⟩
  | 9 => ⟨S8x256, .f32⟩
  | 10 => ⟨S1x256, .f32⟩
  | 11 => ⟨S7x256, .f32⟩
  | 12 => ⟨S_, .f32⟩
  | 13 => ⟨S8x256, .f32⟩
  | 14 => ⟨S8x256, .f32⟩
  | 15 => ⟨S4x2x256, .f32⟩
  | 16 => ⟨S4x1x256, .f32⟩
  | 17 => ⟨S4x256, .f32⟩
  | 18 => ⟨S4x1x256, .f32⟩
  | 19 => ⟨S4x256, .f32⟩
  | 20 => ⟨S4x256, .f32⟩
  | 21 => ⟨S4x256, .f32⟩
  | 22 => ⟨S1x256, .f32⟩
  | 23 => ⟨S3x256, .f32⟩
  | 24 => ⟨S_, .f32⟩
  | 25 => ⟨S4x256, .f32⟩
  | 26 => ⟨S4x256, .f32⟩
  | 27 => ⟨S2x2x256, .f32⟩
  | 28 => ⟨S2x1x256, .f32⟩
  | 29 => ⟨S2x256, .f32⟩
  | 30 => ⟨S2x1x256, .f32⟩
  | 31 => ⟨S2x256, .f32⟩
  | 32 => ⟨S2x256, .f32⟩
  | 33 => ⟨S2x256, .f32⟩
  | 34 => ⟨S1x256, .f32⟩
  | 35 => ⟨S1x256, .f32⟩
  | 36 => ⟨S_, .f32⟩
  | 37 => ⟨S2x256, .f32⟩
  | 38 => ⟨S2x256, .f32⟩
  | 39 => ⟨S1x2x256, .f32⟩
  | 40 => ⟨S1x1x256, .f32⟩
  | 41 => ⟨S1x256, .f32⟩
  | 42 => ⟨S1x1x256, .f32⟩
  | 43 => ⟨S1x256, .f32⟩
  | 44 => ⟨S1x256, .f32⟩
  | 45 => ⟨S1x256, .f32⟩
  | 46 => ⟨S1x256, .f32⟩
  | 47 => ⟨S0x256, .f32⟩
  | 48 => ⟨S_, .f32⟩
  | 49 => ⟨S1x256, .f32⟩
  | 50 => ⟨S1x256, .f32⟩
  | 51 => ⟨S1x256, .f32⟩
  | 52 => ⟨S1x256, .f32⟩
  | 53 => ⟨S1x256, .f32⟩
  | 54 => ⟨S1x1x256, .f32⟩
  | 55 => ⟨S_, .f32⟩
  | 56 => ⟨S1x2x256, .f32⟩
  | 57 => ⟨S1x1x256, .f32⟩
  | 58 => ⟨S_, .f32⟩
  | 59 => ⟨S1x2x256, .f32⟩
  | 60 => ⟨S1x2x256, .f32⟩
  | 61 => ⟨S1x1x256, .f32⟩
  | 62 => ⟨S_, .f32⟩
  | 63 => ⟨S1x2x256, .f32⟩
  | 64 => ⟨S1x1x256, .f32⟩
  | 65 => ⟨S_, .f32⟩
  | 66 => ⟨S1x2x256, .f32⟩
  | 67 => ⟨S1x2x256, .f32⟩
  | 68 => ⟨S2x256, .f32⟩
  | 69 => ⟨S2x256, .f32⟩
  | 70 => ⟨S2x256, .f32⟩
  | 71 => ⟨S2x256, .f32⟩
  | 72 => ⟨S2x256, .f32⟩
  | 73 => ⟨S2x256, .f32⟩
  | 74 => ⟨S2x256, .f32⟩
  | 75 => ⟨S2x256, .f32⟩
  | 76 => ⟨S2x256, .f32⟩
  | 77 => ⟨S2x1x256, .f32⟩
  | 78 => ⟨S_, .f32⟩
  | 79 => ⟨S2x2x256, .f32⟩
  | 80 => ⟨S2x1x256, .f32⟩
  | 81 => ⟨S_, .f32⟩
  | 82 => ⟨S2x2x256, .f32⟩
  | 83 => ⟨S2x2x256, .f32⟩
  | 84 => ⟨S2x1x256, .f32⟩
  | 85 => ⟨S_, .f32⟩
  | 86 => ⟨S2x2x256, .f32⟩
  | 87 => ⟨S2x1x256, .f32⟩
  | 88 => ⟨S_, .f32⟩
  | 89 => ⟨S2x2x256, .f32⟩
  | 90 => ⟨S2x2x256, .f32⟩
  | 91 => ⟨S4x256, .f32⟩
  | 92 => ⟨S4x256, .f32⟩
  | 93 => ⟨S4x256, .f32⟩
  | 94 => ⟨S4x256, .f32⟩
  | 95 => ⟨S4x256, .f32⟩
  | 96 => ⟨S4x256, .f32⟩
  | 97 => ⟨S4x256, .f32⟩
  | 98 => ⟨S4x256, .f32⟩
  | 99 => ⟨S4x256, .f32⟩
  | 100 => ⟨S4x1x256, .f32⟩
  | 101 => ⟨S_, .f32⟩
  | 102 => ⟨S4x2x256, .f32⟩
  | 103 => ⟨S4x1x256, .f32⟩
  | 104 => ⟨S_, .f32⟩
  | 105 => ⟨S4x2x256, .f32⟩
  | 106 => ⟨S4x2x256, .f32⟩
  | 107 => ⟨S4x1x256, .f32⟩
  | 108 => ⟨S_, .f32⟩
  | 109 => ⟨S4x2x256, .f32⟩
  | 110 => ⟨S4x1x256, .f32⟩
  | 111 => ⟨S_, .f32⟩
  | 112 => ⟨S4x2x256, .f32⟩
  | 113 => ⟨S4x2x256, .f32⟩
  | 114 => ⟨S8x256, .f32⟩
  | 115 => ⟨S8x256, .f32⟩
  | 116 => ⟨S8x256, .f32⟩
  | 117 => ⟨S8x256, .f32⟩
  | 118 => ⟨S8x256, .f32⟩
  | 119 => ⟨S8x256, .f32⟩
  | 120 => ⟨S8x256, .f32⟩
  | 121 => ⟨S8x256, .f32⟩
  | 122 => ⟨S8x256, .f32⟩
  | 123 => ⟨S8x1x256, .f32⟩
  | 124 => ⟨S_, .f32⟩
  | 125 => ⟨S8x2x256, .f32⟩
  | 126 => ⟨S8x1x256, .f32⟩
  | 127 => ⟨S_, .f32⟩
  | _ => ⟨S4096x3072, .f32⟩

abbrev hbmTy0_6 (i : Nat) : BufTy := match i % 128 with
  | 0 => ⟨S8x2x256, .f32⟩
  | 1 => ⟨S8x2x256, .f32⟩
  | 2 => ⟨S8x1x256, .f32⟩
  | 3 => ⟨S_, .f32⟩
  | 4 => ⟨S8x2x256, .f32⟩
  | 5 => ⟨S8x1x256, .f32⟩
  | 6 => ⟨S_, .f32⟩
  | 7 => ⟨S8x2x256, .f32⟩
  | 8 => ⟨S8x2x256, .f32⟩
  | 9 => ⟨S16x256, .f32⟩
  | 10 => ⟨S16x256, .f32⟩
  | 11 => ⟨S16x256, .f32⟩
  | 12 => ⟨S16x256, .f32⟩
  | 13 => ⟨S16x256, .f32⟩
  | 14 => ⟨S16x256, .f32⟩
  | 15 => ⟨S16x256, .f32⟩
  | 16 => ⟨S16x256, .f32⟩
  | 17 => ⟨S16x256, .f32⟩
  | 18 => ⟨S16x1x256, .f32⟩
  | 19 => ⟨S_, .f32⟩
  | 20 => ⟨S16x2x256, .f32⟩
  | 21 => ⟨S16x1x256, .f32⟩
  | 22 => ⟨S_, .f32⟩
  | 23 => ⟨S16x2x256, .f32⟩
  | 24 => ⟨S16x2x256, .f32⟩
  | 25 => ⟨S16x1x256, .f32⟩
  | 26 => ⟨S_, .f32⟩
  | 27 => ⟨S16x2x256, .f32⟩
  | 28 => ⟨S16x1x256, .f32⟩
  | 29 => ⟨S_, .f32⟩
  | 30 => ⟨S16x2x256, .f32⟩
  | 31 => ⟨S16x2x256, .f32⟩
  | 32 => ⟨S32x256, .f32⟩
  | 33 => ⟨S32x256, .f32⟩
  | 34 => ⟨S32x256, .f32⟩
  | 35 => ⟨S32x256, .f32⟩
  | 36 => ⟨S32x256, .f32⟩
  | 37 => ⟨S32x256, .f32⟩
  | 38 => ⟨S32x256, .f32⟩
  | 39 => ⟨S32x256, .f32⟩
  | 40 => ⟨S32x256, .f32⟩
  | 41 => ⟨S32x1x256, .f32⟩
  | 42 => ⟨S_, .f32⟩
  | 43 => ⟨S32x2x256, .f32⟩
  | 44 => ⟨S32x1x256, .f32⟩
  | 45 => ⟨S_, .f32⟩
  | 46 => ⟨S32x2x256, .f32⟩
  | 47 => ⟨S32x2x256, .f32⟩
  | 48 => ⟨S32x1x256, .f32⟩
  | 49 => ⟨S_, .f32⟩
  | 50 => ⟨S32x2x256, .f32⟩
  | 51 => ⟨S32x1x256, .f32⟩
  | 52 => ⟨S_, .f32⟩
  | 53 => ⟨S32x2x256, .f32⟩
  | 54 => ⟨S32x2x256, .f32⟩
  | 55 => ⟨S64x256, .f32⟩
  | 56 => ⟨S64x256, .f32⟩
  | 57 => ⟨S64x256, .f32⟩
  | 58 => ⟨S64x256, .f32⟩
  | 59 => ⟨S64x256, .f32⟩
  | 60 => ⟨S64x256, .f32⟩
  | 61 => ⟨S64x256, .f32⟩
  | 62 => ⟨S64x256, .f32⟩
  | 63 => ⟨S64x256, .f32⟩
  | 64 => ⟨S64x1x256, .f32⟩
  | 65 => ⟨S_, .f32⟩
  | 66 => ⟨S64x2x256, .f32⟩
  | 67 => ⟨S64x1x256, .f32⟩
  | 68 => ⟨S_, .f32⟩
  | 69 => ⟨S64x2x256, .f32⟩
  | 70 => ⟨S64x2x256, .f32⟩
  | 71 => ⟨S64x1x256, .f32⟩
  | 72 => ⟨S_, .f32⟩
  | 73 => ⟨S64x2x256, .f32⟩
  | 74 => ⟨S64x1x256, .f32⟩
  | 75 => ⟨S_, .f32⟩
  | 76 => ⟨S64x2x256, .f32⟩
  | 77 => ⟨S64x2x256, .f32⟩
  | 78 => ⟨S128x256, .f32⟩
  | 79 => ⟨S128x256, .f32⟩
  | 80 => ⟨S128x256, .f32⟩
  | 81 => ⟨S128x256, .f32⟩
  | 82 => ⟨S128x256, .f32⟩
  | 83 => ⟨S128x256, .f32⟩
  | 84 => ⟨S128x256, .f32⟩
  | 85 => ⟨S128x256, .f32⟩
  | 86 => ⟨S128x256, .f32⟩
  | 87 => ⟨S128x1x256, .f32⟩
  | 88 => ⟨S_, .f32⟩
  | 89 => ⟨S128x2x256, .f32⟩
  | 90 => ⟨S128x1x256, .f32⟩
  | 91 => ⟨S_, .f32⟩
  | 92 => ⟨S128x2x256, .f32⟩
  | 93 => ⟨S128x2x256, .f32⟩
  | 94 => ⟨S128x1x256, .f32⟩
  | 95 => ⟨S_, .f32⟩
  | 96 => ⟨S128x2x256, .f32⟩
  | 97 => ⟨S128x1x256, .f32⟩
  | 98 => ⟨S_, .f32⟩
  | 99 => ⟨S128x2x256, .f32⟩
  | 100 => ⟨S128x2x256, .f32⟩
  | 101 => ⟨S256x256, .f32⟩
  | 102 => ⟨S256x256, .f32⟩
  | 103 => ⟨S256x256, .f32⟩
  | 104 => ⟨S256x256, .f32⟩
  | 105 => ⟨S256x256, .f32⟩
  | 106 => ⟨S256x256, .f32⟩
  | 107 => ⟨S256x256, .f32⟩
  | 108 => ⟨S256x256, .f32⟩
  | 109 => ⟨S256x256, .f32⟩
  | 110 => ⟨S256x1x256, .f32⟩
  | 111 => ⟨S_, .f32⟩
  | 112 => ⟨S256x2x256, .f32⟩
  | 113 => ⟨S256x1x256, .f32⟩
  | 114 => ⟨S_, .f32⟩
  | 115 => ⟨S256x2x256, .f32⟩
  | 116 => ⟨S256x2x256, .f32⟩
  | 117 => ⟨S256x1x256, .f32⟩
  | 118 => ⟨S_, .f32⟩
  | 119 => ⟨S256x2x256, .f32⟩
  | 120 => ⟨S256x1x256, .f32⟩
  | 121 => ⟨S_, .f32⟩
  | 122 => ⟨S256x2x256, .f32⟩
  | 123 => ⟨S256x2x256, .f32⟩
  | 124 => ⟨S512x256, .f32⟩
  | 125 => ⟨S512x256, .f32⟩
  | 126 => ⟨S512x256, .f32⟩
  | 127 => ⟨S512x256, .f32⟩
  | _ => ⟨S4096x3072, .f32⟩

abbrev hbmTy0_7 (i : Nat) : BufTy := match i % 128 with
  | 0 => ⟨S512x256, .f32⟩
  | 1 => ⟨S512x256, .f32⟩
  | 2 => ⟨S512x256, .f32⟩
  | 3 => ⟨S512x256, .f32⟩
  | 4 => ⟨S512x256, .f32⟩
  | 5 => ⟨S512x1x256, .f32⟩
  | 6 => ⟨S_, .f32⟩
  | 7 => ⟨S512x2x256, .f32⟩
  | 8 => ⟨S512x1x256, .f32⟩
  | 9 => ⟨S_, .f32⟩
  | 10 => ⟨S512x2x256, .f32⟩
  | 11 => ⟨S512x2x256, .f32⟩
  | 12 => ⟨S512x1x256, .f32⟩
  | 13 => ⟨S_, .f32⟩
  | 14 => ⟨S512x2x256, .f32⟩
  | 15 => ⟨S512x1x256, .f32⟩
  | 16 => ⟨S_, .f32⟩
  | 17 => ⟨S512x2x256, .f32⟩
  | 18 => ⟨S512x2x256, .f32⟩
  | 19 => ⟨S1024x256, .f32⟩
  | 20 => ⟨S1024x256, .f32⟩
  | 21 => ⟨S1024x256, .f32⟩
  | 22 => ⟨S1024x256, .f32⟩
  | 23 => ⟨S1024x256, .f32⟩
  | 24 => ⟨S1024x256, .f32⟩
  | 25 => ⟨S1024x256, .f32⟩
  | 26 => ⟨S1024x256, .f32⟩
  | 27 => ⟨S1024x256, .f32⟩
  | 28 => ⟨S1024x1x256, .f32⟩
  | 29 => ⟨S_, .f32⟩
  | 30 => ⟨S1024x2x256, .f32⟩
  | 31 => ⟨S1024x1x256, .f32⟩
  | 32 => ⟨S_, .f32⟩
  | 33 => ⟨S1024x2x256, .f32⟩
  | 34 => ⟨S1024x2x256, .f32⟩
  | 35 => ⟨S1024x1x256, .f32⟩
  | 36 => ⟨S_, .f32⟩
  | 37 => ⟨S1024x2x256, .f32⟩
  | 38 => ⟨S1024x1x256, .f32⟩
  | 39 => ⟨S_, .f32⟩
  | 40 => ⟨S1024x2x256, .f32⟩
  | 41 => ⟨S1024x2x256, .f32⟩
  | 42 => ⟨S2048x256, .f32⟩
  | 43 => ⟨S2048x256, .f32⟩
  | 44 => ⟨S2048x256, .f32⟩
  | 45 => ⟨S2048x256, .f32⟩
  | 46 => ⟨S2048x256, .f32⟩
  | 47 => ⟨S2048x256, .f32⟩
  | 48 => ⟨S2048x256, .f32⟩
  | 49 => ⟨S2048x256, .f32⟩
  | 50 => ⟨S2048x256, .f32⟩
  | 51 => ⟨S2048x1x256, .f32⟩
  | 52 => ⟨S_, .f32⟩
  | 53 => ⟨S2048x2x256, .f32⟩
  | 54 => ⟨S2048x1x256, .f32⟩
  | 55 => ⟨S_, .f32⟩
  | 56 => ⟨S2048x2x256, .f32⟩
  | 57 => ⟨S2048x2x256, .f32⟩
  | 58 => ⟨S2048x1x256, .f32⟩
  | 59 => ⟨S_, .f32⟩
  | 60 => ⟨S2048x2x256, .f32⟩
  | 61 => ⟨S2048x1x256, .f32⟩
  | 62 => ⟨S_, .f32⟩
  | 63 => ⟨S2048x2x256, .f32⟩
  | 64 => ⟨S2048x2x256, .f32⟩
  | 65 => ⟨S4096x256, .f32⟩
  | 66 => ⟨S4096x256, .f32⟩
  | 67 => ⟨S4096x256, .f32⟩
  | 68 => ⟨S4096x256, .f32⟩
  | 69 => ⟨S4096x256, .f32⟩
  | 70 => ⟨S4096x256, .f32⟩
  | 71 => ⟨S4096x256, .f32⟩
  | 72 => ⟨S4096x256, .f32⟩
  | 73 => ⟨S4096x256, .f32⟩
  | 74 => ⟨S_, .f32⟩
  | 75 => ⟨S4096x256, .f32⟩
  | 76 => ⟨S4096x256, .f32⟩
  | 77 => ⟨S4096x256, .f32⟩
  | 78 => ⟨S4096x256, .f32⟩
  | 79 => ⟨S4096x4x64, .f32⟩
  | 80 => ⟨S4096x4x64, .f32⟩
  | 81 => ⟨S_, .f32⟩
  | 82 => ⟨S4x64, .f32⟩
  | 83 => ⟨S1x4x64, .f32⟩
  | 84 => ⟨S_, .f32⟩
  | 85 => ⟨S4x64, .f32⟩
  | 86 => ⟨S4x64x4096, .f32⟩
  | 87 => ⟨S4x4096x64, .f32⟩
  | 88 => ⟨S4096x4x64, .f32⟩
  | 89 => ⟨S4x64x64, .f32⟩
  | 90 => ⟨S4x64x64, .f32⟩
  | 91 => ⟨S4096x256, .f32⟩
  | 92 => ⟨S4096x256, .f32⟩
  | 93 => ⟨S4096x256, .f32⟩
  | 94 => ⟨S_, .f32⟩
  | 95 => ⟨S256, .f32⟩
  | 96 => ⟨S1x256, .f32⟩
  | 97 => ⟨S4096x256, .f32⟩
  | 98 => ⟨S4096x256, .f32⟩
  | 99 => ⟨S_, .f32⟩
  | 100 => ⟨S256, .f32⟩
  | 101 => ⟨S256, .f32⟩
  | 102 => ⟨S256, .f32⟩
  | 103 => ⟨S_, .f32⟩
  | 104 => ⟨S4096x256, .f32⟩
  | 105 => ⟨S4096x256, .f32⟩
  | 106 => ⟨S4096x4x64, .f32⟩
  | 107 => ⟨S4096x4x64, .f32⟩
  | 108 => ⟨S_, .f32⟩
  | 109 => ⟨S4x64, .f32⟩
  | 110 => ⟨S1x4x64, .f32⟩
  | 111 => ⟨S_, .f32⟩
  | 112 => ⟨S4x64, .f32⟩
  | 113 => ⟨S4x64x4096, .f32⟩
  | 114 => ⟨S4x4096x64, .f32⟩
  | 115 => ⟨S4096x4x64, .f32⟩
  | 116 => ⟨S4x64x64, .f32⟩
  | 117 => ⟨S4x64x64, .f32⟩
  | 118 => ⟨S4096x256, .f32⟩
  | 119 => ⟨S4096x256, .f32⟩
  | 120 => ⟨S4096x256, .f32⟩
  | 121 => ⟨S_, .f32⟩
  | 122 => ⟨S256, .f32⟩
  | 123 => ⟨S1x256, .f32⟩
  | 124 => ⟨S4096x256, .f32⟩
  | 125 => ⟨S4096x256, .f32⟩
  | 126 => ⟨S_, .f32⟩
  | 127 => ⟨S256, .f32⟩
  | _ => ⟨S4096x3072, .f32⟩

abbrev hbmTy0_8 (i : Nat) : BufTy := match i % 128 with
  | 0 => ⟨S1x256, .f32⟩
  | 1 => ⟨S_, .f32⟩
  | 2 => ⟨S4x256, .f32⟩
  | 3 => ⟨S_, .f32⟩
  | 4 => ⟨S4099x256, .f32⟩
  | 5 => ⟨S4096x256, .f32⟩
  | 6 => ⟨S_, .f32⟩
  | 7 => ⟨S256, .f32⟩
  | 8 => ⟨S1x256, .f32⟩
  | 9 => ⟨S4096x256, .f32⟩
  | 10 => ⟨S4096x256, .f32⟩
  | 11 => ⟨S_, .f32⟩
  | 12 => ⟨S256, .f32⟩
  | 13 => ⟨S1x256, .f32⟩
  | 14 => ⟨S_, .f32⟩
  | 15 => ⟨S4x256, .f32⟩
  | 16 => ⟨S4x256, .f32⟩
  | 17 => ⟨S_, .f32⟩
  | 18 => ⟨S4099x256, .f32⟩
  | 19 => ⟨S4099x256, .f32⟩
  | 20 => ⟨S4096x256, .f32⟩
  | 21 => ⟨S_, .f32⟩
  | 22 => ⟨S256, .f32⟩
  | 23 => ⟨S1x256, .f32⟩
  | 24 => ⟨S4096x256, .f32⟩
  | 25 => ⟨S4096x256, .f32⟩
  | 26 => ⟨S_, .f32⟩
  | 27 => ⟨S256, .f32⟩
  | 28 => ⟨S1x256, .f32⟩
  | 29 => ⟨S_, .f32⟩
  | 30 => ⟨S4x256, .f32⟩
  | 31 => ⟨S4x256, .f32⟩
  | 32 => ⟨S_, .f32⟩
  | 33 => ⟨S4099x256, .f32⟩
  | 34 => ⟨S4099x256, .f32⟩
  | 35 => ⟨S_, .f32⟩
  | 36 => ⟨S256, .f32⟩
  | 37 => ⟨S1x256, .f32⟩
  | 38 => ⟨S_, .f32⟩
  | 39 => ⟨S256, .f32⟩
  | 40 => ⟨S4096x256, .f32⟩
  | 41 => ⟨S_, .f32⟩
  | 42 => ⟨S256, .f32⟩
  | 43 => ⟨S1x256, .f32⟩
  | 44 => ⟨S4096x256, .f32⟩
  | 45 => ⟨S4096x256, .f32⟩
  | 46 => ⟨S_, .f32⟩
  | 47 => ⟨S256, .f32⟩
  | 48 => ⟨S1x256, .f32⟩
  | 49 => ⟨S_, .f32⟩
  | 50 => ⟨S4x256, .f32⟩
  | 51 => ⟨S4x256, .f32⟩
  | 52 => ⟨S_, .f32⟩
  | 53 => ⟨S4099x256, .f32⟩
  | 54 => ⟨S4099x256, .f32⟩
  | 55 => ⟨S3x256, .f32⟩
  | 56 => ⟨S4096x256, .f32⟩
  | 57 => ⟨S4096x2048, .f32⟩
  | 58 => ⟨S4096x512, .f32⟩
  | 59 => ⟨S4096x3072, .f32⟩
  | 60 => ⟨S4096x3072, .bf16⟩
  | 61 => ⟨S1x256, .f32⟩
  | 62 => ⟨S4x64x1x64, .f32⟩
  | 63 => ⟨S4x64x4x64, .f32⟩
  | 64 => ⟨S256x256, .f32⟩
  | 65 => ⟨S1x256, .f32⟩
  | 66 => ⟨S4x64x1x64, .f32⟩
  | 67 => ⟨S4x64x4x64, .f32⟩
  | 68 => ⟨S256x256, .f32⟩
  | 69 => ⟨S1x256, .f32⟩
  | 70 => ⟨S1x256, .f32⟩
  | 71 => ⟨S1x256, .f32⟩
  | _ => ⟨S4096x3072, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_1 : Ref sig .tc := ⟨.hbm, 56, rfl⟩
abbrev main_v43 : Ref sig .tc := ⟨.hbm, 57, rfl⟩
abbrev main_v44 : Ref sig .tc := ⟨.hbm, 58, rfl⟩
abbrev main_cst_2 : Ref sig .tc := ⟨.hbm, 59, rfl⟩
abbrev main_v45 : Ref sig .tc := ⟨.hbm, 60, rfl⟩
abbrev main_v46 : Ref sig .tc := ⟨.hbm, 61, rfl⟩
abbrev main_cst_3 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_4 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_call0_cst : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_v7 : Ref sig .tc := ⟨.hbm, 79, rfl⟩
abbrev main_call0_v8 : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_v54_0 : Ref sig .tc := ⟨.hbm, 84, rfl⟩
abbrev main_call0_cst_0 : Ref sig .tc := ⟨.hbm, 85, rfl⟩
abbrev main_call0_v13 : Ref sig .tc := ⟨.hbm, 86, rfl⟩
abbrev main_call0_v14 : Ref sig .tc := ⟨.hbm, 87, rfl⟩
abbrev main_call0_cst_1 : Ref sig .tc := ⟨.hbm, 88, rfl⟩
abbrev main_call0_v15 : Ref sig .tc := ⟨.hbm, 89, rfl⟩
abbrev main_call0_v16 : Ref sig .tc := ⟨.hbm, 90, rfl⟩
abbrev main_call0_cst_2 : Ref sig .tc := ⟨.hbm, 91, rfl⟩
abbrev main_call0_v17 : Ref sig .tc := ⟨.hbm, 92, rfl⟩
abbrev main_call0_v18 : Ref sig .tc := ⟨.hbm, 93, rfl⟩
abbrev main_call0_cst_3 : Ref sig .tc := ⟨.hbm, 94, rfl⟩
abbrev main_call0_v19 : Ref sig .tc := ⟨.hbm, 95, rfl⟩
abbrev main_call0_v20 : Ref sig .tc := ⟨.hbm, 96, rfl⟩
abbrev main_call0_v21 : Ref sig .tc := ⟨.hbm, 97, rfl⟩
abbrev main_v54_1 : Ref sig .tc := ⟨.hbm, 98, rfl⟩
abbrev main_call0_cst_4 : Ref sig .tc := ⟨.hbm, 99, rfl⟩
abbrev main_call0_cst_5 : Ref sig .tc := ⟨.hbm, 100, rfl⟩
abbrev main_call0_v23 : Ref sig .tc := ⟨.hbm, 101, rfl⟩
abbrev main_call0_cst_6 : Ref sig .tc := ⟨.hbm, 102, rfl⟩
abbrev main_call0_cst_7 : Ref sig .tc := ⟨.hbm, 103, rfl⟩
abbrev main_call0_v24 : Ref sig .tc := ⟨.hbm, 104, rfl⟩
abbrev main_call0_cst_8 : Ref sig .tc := ⟨.hbm, 105, rfl⟩
abbrev main_call0_v25 : Ref sig .tc := ⟨.hbm, 106, rfl⟩
abbrev main_call0_v26 : Ref sig .tc := ⟨.hbm, 107, rfl⟩
abbrev main_call0_cst_9 : Ref sig .tc := ⟨.hbm, 108, rfl⟩
abbrev main_call0_v27 : Ref sig .tc := ⟨.hbm, 109, rfl⟩
abbrev main_call0_v28 : Ref sig .tc := ⟨.hbm, 110, rfl⟩
abbrev main_call0_v29 : Ref sig .tc := ⟨.hbm, 111, rfl⟩
abbrev main_call0_v30 : Ref sig .tc := ⟨.hbm, 112, rfl⟩
abbrev main_call0_v31 : Ref sig .tc := ⟨.hbm, 113, rfl⟩
abbrev main_call0_cst_10 : Ref sig .tc := ⟨.hbm, 114, rfl⟩
abbrev main_call0_v32 : Ref sig .tc := ⟨.hbm, 115, rfl⟩
abbrev main_v54_2 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_cst_5 : Ref sig .tc := ⟨.hbm, 128, rfl⟩
abbrev main_v66 : Ref sig .tc := ⟨.hbm, 129, rfl⟩
abbrev main_v67 : Ref sig .tc := ⟨.hbm, 130, rfl⟩
abbrev main_cst_6 : Ref sig .tc := ⟨.hbm, 131, rfl⟩
abbrev main_v68 : Ref sig .tc := ⟨.hbm, 132, rfl⟩
abbrev main_v69 : Ref sig .tc := ⟨.hbm, 133, rfl⟩
abbrev main_cst_7 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_cst_8 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_cst_9 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_cst_10 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_cst_11 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_cst_12 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_cst_13 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_cst_14 : Ref sig .tc := ⟨.hbm, 332, rfl⟩
abbrev main_v261 : Ref sig .tc := ⟨.hbm, 333, rfl⟩
abbrev main_v262 : Ref sig .tc := ⟨.hbm, 334, rfl⟩
abbrev main_v263 : Ref sig .tc := ⟨.hbm, 335, rfl⟩
abbrev main_cst_15 : Ref sig .tc := ⟨.hbm, 336, rfl⟩
abbrev main_v264 : Ref sig .tc := ⟨.hbm, 337, rfl⟩
abbrev main_v265 : Ref sig .tc := ⟨.hbm, 338, rfl⟩
abbrev main_v266 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_cst_16 : Ref sig .tc := ⟨.hbm, 344, rfl⟩
abbrev main_v271 : Ref sig .tc := ⟨.hbm, 345, rfl⟩
abbrev main_v272 : Ref sig .tc := ⟨.hbm, 346, rfl⟩
abbrev main_v273 : Ref sig .tc := ⟨.hbm, 347, rfl⟩
abbrev main_cst_17 : Ref sig .tc := ⟨.hbm, 348, rfl⟩
abbrev main_v274 : Ref sig .tc := ⟨.hbm, 349, rfl⟩
abbrev main_v275 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_cst_18 : Ref sig .tc := ⟨.hbm, 356, rfl⟩
abbrev main_v281 : Ref sig .tc := ⟨.hbm, 357, rfl⟩
abbrev main_v282 : Ref sig .tc := ⟨.hbm, 358, rfl⟩
abbrev main_v283 : Ref sig .tc := ⟨.hbm, 359, rfl⟩
abbrev main_cst_19 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_v290 : Ref sig .tc := ⟨.hbm, 367, rfl⟩
abbrev main_cst_20 : Ref sig .tc := ⟨.hbm, 368, rfl⟩
abbrev main_v291 : Ref sig .tc := ⟨.hbm, 369, rfl⟩
abbrev main_v292 : Ref sig .tc := ⟨.hbm, 370, rfl⟩
abbrev main_v293 : Ref sig .tc := ⟨.hbm, 371, rfl⟩
abbrev main_cst_21 : Ref sig .tc := ⟨.hbm, 372, rfl⟩
abbrev main_v294 : Ref sig .tc := ⟨.hbm, 373, rfl⟩
abbrev main_v295 : Ref sig .tc := ⟨.hbm, 374, rfl⟩
abbrev main_v296 : Ref sig .tc := ⟨.hbm, 375, rfl⟩
abbrev main_v297 : Ref sig .tc := ⟨.hbm, 376, rfl⟩
abbrev main_v298 : Ref sig .tc := ⟨.hbm, 377, rfl⟩
abbrev main_v299 : Ref sig .tc := ⟨.hbm, 378, rfl⟩
abbrev main_v300 : Ref sig .tc := ⟨.hbm, 379, rfl⟩
abbrev main_cst_22 : Ref sig .tc := ⟨.hbm, 380, rfl⟩
abbrev main_v301 : Ref sig .tc := ⟨.hbm, 381, rfl⟩
abbrev main_v302 : Ref sig .tc := ⟨.hbm, 382, rfl⟩
abbrev main_v303 : Ref sig .tc := ⟨.hbm, 383, rfl⟩
abbrev main_cst_23 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_v309 : Ref sig .tc := ⟨.hbm, 390, rfl⟩
abbrev main_v310 : Ref sig .tc := ⟨.hbm, 391, rfl⟩
abbrev main_cst_24 : Ref sig .tc := ⟨.hbm, 392, rfl⟩
abbrev main_v311 : Ref sig .tc := ⟨.hbm, 393, rfl⟩
abbrev main_v312 : Ref sig .tc := ⟨.hbm, 394, rfl⟩
abbrev main_v313 : Ref sig .tc := ⟨.hbm, 395, rfl⟩
abbrev main_cst_25 : Ref sig .tc := ⟨.hbm, 396, rfl⟩
abbrev main_v314 : Ref sig .tc := ⟨.hbm, 397, rfl⟩
abbrev main_v315 : Ref sig .tc := ⟨.hbm, 398, rfl⟩
abbrev main_v316 : Ref sig .tc := ⟨.hbm, 399, rfl⟩
abbrev main_v317 : Ref sig .tc := ⟨.hbm, 400, rfl⟩
abbrev main_v318 : Ref sig .tc := ⟨.hbm, 401, rfl⟩
abbrev main_v319 : Ref sig .tc := ⟨.hbm, 402, rfl⟩
abbrev main_v320 : Ref sig .tc := ⟨.hbm, 403, rfl⟩
abbrev main_cst_26 : Ref sig .tc := ⟨.hbm, 404, rfl⟩
abbrev main_v321 : Ref sig .tc := ⟨.hbm, 405, rfl⟩
abbrev main_v322 : Ref sig .tc := ⟨.hbm, 406, rfl⟩
abbrev main_v323 : Ref sig .tc := ⟨.hbm, 407, rfl⟩
abbrev main_cst_27 : Ref sig .tc := ⟨.hbm, 408, rfl⟩
abbrev main_v324 : Ref sig .tc := ⟨.hbm, 409, rfl⟩
abbrev main_v325 : Ref sig .tc := ⟨.hbm, 410, rfl⟩
abbrev main_v326 : Ref sig .tc := ⟨.hbm, 411, rfl⟩
abbrev main_v327 : Ref sig .tc := ⟨.hbm, 412, rfl⟩
abbrev main_v328 : Ref sig .tc := ⟨.hbm, 413, rfl⟩
abbrev main_v329 : Ref sig .tc := ⟨.hbm, 414, rfl⟩
abbrev main_v330 : Ref sig .tc := ⟨.hbm, 415, rfl⟩
abbrev main_cst_28 : Ref sig .tc := ⟨.hbm, 416, rfl⟩
abbrev main_v331 : Ref sig .tc := ⟨.hbm, 417, rfl⟩
abbrev main_v332 : Ref sig .tc := ⟨.hbm, 418, rfl⟩
abbrev main_v333 : Ref sig .tc := ⟨.hbm, 419, rfl⟩
abbrev main_cst_29 : Ref sig .tc := ⟨.hbm, 420, rfl⟩
abbrev main_v334 : Ref sig .tc := ⟨.hbm, 421, rfl⟩
abbrev main_v335 : Ref sig .tc := ⟨.hbm, 422, rfl⟩
abbrev main_v336 : Ref sig .tc := ⟨.hbm, 423, rfl⟩
abbrev main_v337 : Ref sig .tc := ⟨.hbm, 424, rfl⟩
abbrev main_v338 : Ref sig .tc := ⟨.hbm, 425, rfl⟩
abbrev main_v339 : Ref sig .tc := ⟨.hbm, 426, rfl⟩
abbrev main_v340 : Ref sig .tc := ⟨.hbm, 427, rfl⟩
abbrev main_cst_30 : Ref sig .tc := ⟨.hbm, 428, rfl⟩
abbrev main_v341 : Ref sig .tc := ⟨.hbm, 429, rfl⟩
abbrev main_v342 : Ref sig .tc := ⟨.hbm, 430, rfl⟩
abbrev main_v343 : Ref sig .tc := ⟨.hbm, 431, rfl⟩
abbrev main_cst_31 : Ref sig .tc := ⟨.hbm, 432, rfl⟩
abbrev main_v344 : Ref sig .tc := ⟨.hbm, 433, rfl⟩
abbrev main_v345 : Ref sig .tc := ⟨.hbm, 434, rfl⟩
abbrev main_v346 : Ref sig .tc := ⟨.hbm, 435, rfl⟩
abbrev main_v347 : Ref sig .tc := ⟨.hbm, 436, rfl⟩
abbrev main_v348 : Ref sig .tc := ⟨.hbm, 437, rfl⟩
abbrev main_v349 : Ref sig .tc := ⟨.hbm, 438, rfl⟩
abbrev main_v350 : Ref sig .tc := ⟨.hbm, 439, rfl⟩
abbrev main_cst_32 : Ref sig .tc := ⟨.hbm, 440, rfl⟩
abbrev main_v351 : Ref sig .tc := ⟨.hbm, 441, rfl⟩
abbrev main_v352 : Ref sig .tc := ⟨.hbm, 442, rfl⟩
abbrev main_v353 : Ref sig .tc := ⟨.hbm, 443, rfl⟩
abbrev main_cst_33 : Ref sig .tc := ⟨.hbm, 444, rfl⟩
abbrev main_v354 : Ref sig .tc := ⟨.hbm, 445, rfl⟩
abbrev main_v355 : Ref sig .tc := ⟨.hbm, 446, rfl⟩
abbrev main_v356 : Ref sig .tc := ⟨.hbm, 447, rfl⟩
abbrev main_v357 : Ref sig .tc := ⟨.hbm, 448, rfl⟩
abbrev main_v358 : Ref sig .tc := ⟨.hbm, 449, rfl⟩
abbrev main_v359 : Ref sig .tc := ⟨.hbm, 450, rfl⟩
abbrev main_v360 : Ref sig .tc := ⟨.hbm, 451, rfl⟩
abbrev main_v361 : Ref sig .tc := ⟨.hbm, 452, rfl⟩
abbrev main_v362 : Ref sig .tc := ⟨.hbm, 453, rfl⟩
abbrev main_v363 : Ref sig .tc := ⟨.hbm, 454, rfl⟩
abbrev main_cst_34 : Ref sig .tc := ⟨.hbm, 455, rfl⟩
abbrev main_v364 : Ref sig .tc := ⟨.hbm, 456, rfl⟩
abbrev main_v365 : Ref sig .tc := ⟨.hbm, 457, rfl⟩
abbrev main_cst_35 : Ref sig .tc := ⟨.hbm, 458, rfl⟩
abbrev main_v366 : Ref sig .tc := ⟨.hbm, 459, rfl⟩
abbrev main_v367 : Ref sig .tc := ⟨.hbm, 460, rfl⟩
abbrev main_v368 : Ref sig .tc := ⟨.hbm, 461, rfl⟩
abbrev main_cst_36 : Ref sig .tc := ⟨.hbm, 462, rfl⟩
abbrev main_v369 : Ref sig .tc := ⟨.hbm, 463, rfl⟩
abbrev main_v370 : Ref sig .tc := ⟨.hbm, 464, rfl⟩
abbrev main_v371 : Ref sig .tc := ⟨.hbm, 465, rfl⟩
abbrev main_cst_37 : Ref sig .tc := ⟨.hbm, 466, rfl⟩
abbrev main_v372 : Ref sig .tc := ⟨.hbm, 467, rfl⟩
abbrev main_v373 : Ref sig .tc := ⟨.hbm, 468, rfl⟩
abbrev main_cst_38 : Ref sig .tc := ⟨.hbm, 469, rfl⟩
abbrev main_v374 : Ref sig .tc := ⟨.hbm, 470, rfl⟩
abbrev main_v375 : Ref sig .tc := ⟨.hbm, 471, rfl⟩
abbrev main_v376 : Ref sig .tc := ⟨.hbm, 472, rfl⟩
abbrev main_cst_39 : Ref sig .tc := ⟨.hbm, 473, rfl⟩
abbrev main_v377 : Ref sig .tc := ⟨.hbm, 474, rfl⟩
abbrev main_v378 : Ref sig .tc := ⟨.hbm, 475, rfl⟩
abbrev main_cst_40 : Ref sig .tc := ⟨.hbm, 476, rfl⟩
abbrev main_v379 : Ref sig .tc := ⟨.hbm, 477, rfl⟩
abbrev main_v380 : Ref sig .tc := ⟨.hbm, 478, rfl⟩
abbrev main_v381 : Ref sig .tc := ⟨.hbm, 479, rfl⟩
abbrev main_v382 : Ref sig .tc := ⟨.hbm, 480, rfl⟩
abbrev main_v383 : Ref sig .tc := ⟨.hbm, 481, rfl⟩
abbrev main_v384 : Ref sig .tc := ⟨.hbm, 482, rfl⟩
abbrev main_cst_41 : Ref sig .tc := ⟨.hbm, 483, rfl⟩
abbrev main_v385 : Ref sig .tc := ⟨.hbm, 484, rfl⟩
abbrev main_v386 : Ref sig .tc := ⟨.hbm, 485, rfl⟩
abbrev main_cst_42 : Ref sig .tc := ⟨.hbm, 486, rfl⟩
abbrev main_v387 : Ref sig .tc := ⟨.hbm, 487, rfl⟩
abbrev main_v388 : Ref sig .tc := ⟨.hbm, 488, rfl⟩
abbrev main_cst_43 : Ref sig .tc := ⟨.hbm, 489, rfl⟩
abbrev main_v389 : Ref sig .tc := ⟨.hbm, 490, rfl⟩
abbrev main_v390 : Ref sig .tc := ⟨.hbm, 491, rfl⟩
abbrev main_v391 : Ref sig .tc := ⟨.hbm, 492, rfl⟩
abbrev main_v392 : Ref sig .tc := ⟨.hbm, 493, rfl⟩
abbrev main_cst_44 : Ref sig .tc := ⟨.hbm, 494, rfl⟩
abbrev main_v393 : Ref sig .tc := ⟨.hbm, 495, rfl⟩
abbrev main_v394 : Ref sig .tc := ⟨.hbm, 496, rfl⟩
abbrev main_v395 : Ref sig .tc := ⟨.hbm, 497, rfl⟩
abbrev main_v396 : Ref sig .tc := ⟨.hbm, 498, rfl⟩
abbrev main_v397 : Ref sig .tc := ⟨.hbm, 499, rfl⟩
abbrev main_v398 : Ref sig .tc := ⟨.hbm, 500, rfl⟩
abbrev main_v399 : Ref sig .tc := ⟨.hbm, 501, rfl⟩
abbrev main_v400 : Ref sig .tc := ⟨.hbm, 502, rfl⟩
abbrev main_v401 : Ref sig .tc := ⟨.hbm, 503, rfl⟩
abbrev main_cst_45 : Ref sig .tc := ⟨.hbm, 504, rfl⟩
abbrev main_v402 : Ref sig .tc := ⟨.hbm, 505, rfl⟩
abbrev main_v403 : Ref sig .tc := ⟨.hbm, 506, rfl⟩
abbrev main_v404 : Ref sig .tc := ⟨.hbm, 507, rfl⟩
abbrev main_v405 : Ref sig .tc := ⟨.hbm, 508, rfl⟩
abbrev main_cst_46 : Ref sig .tc := ⟨.hbm, 509, rfl⟩
abbrev main_v406 : Ref sig .tc := ⟨.hbm, 510, rfl⟩
abbrev main_v407 : Ref sig .tc := ⟨.hbm, 511, rfl⟩
abbrev main_v408 : Ref sig .tc := ⟨.hbm, 512, rfl⟩
abbrev main_cst_47 : Ref sig .tc := ⟨.hbm, 513, rfl⟩
abbrev main_v409 : Ref sig .tc := ⟨.hbm, 514, rfl⟩
abbrev main_v410 : Ref sig .tc := ⟨.hbm, 515, rfl⟩
abbrev main_v411 : Ref sig .tc := ⟨.hbm, 516, rfl⟩
abbrev main_v412 : Ref sig .tc := ⟨.hbm, 517, rfl⟩
abbrev main_v413 : Ref sig .tc := ⟨.hbm, 518, rfl⟩
abbrev main_cst_48 : Ref sig .tc := ⟨.hbm, 519, rfl⟩
abbrev main_v414 : Ref sig .tc := ⟨.hbm, 520, rfl⟩
abbrev main_v415 : Ref sig .tc := ⟨.hbm, 521, rfl⟩
abbrev main_cst_49 : Ref sig .tc := ⟨.hbm, 522, rfl⟩
abbrev main_v416 : Ref sig .tc := ⟨.hbm, 523, rfl⟩
abbrev main_v417 : Ref sig .tc := ⟨.hbm, 524, rfl⟩
abbrev main_v418 : Ref sig .tc := ⟨.hbm, 525, rfl⟩
abbrev main_v419 : Ref sig .tc := ⟨.hbm, 526, rfl⟩
abbrev main_v420 : Ref sig .tc := ⟨.hbm, 527, rfl⟩
abbrev main_v421 : Ref sig .tc := ⟨.hbm, 528, rfl⟩
abbrev main_v422 : Ref sig .tc := ⟨.hbm, 529, rfl⟩
abbrev main_v423 : Ref sig .tc := ⟨.hbm, 530, rfl⟩
abbrev main_v424 : Ref sig .tc := ⟨.hbm, 531, rfl⟩
abbrev main_v425 : Ref sig .tc := ⟨.hbm, 532, rfl⟩
abbrev main_v426 : Ref sig .tc := ⟨.hbm, 533, rfl⟩
abbrev main_cst_50 : Ref sig .tc := ⟨.hbm, 534, rfl⟩
abbrev main_v427 : Ref sig .tc := ⟨.hbm, 535, rfl⟩
abbrev main_v428 : Ref sig .tc := ⟨.hbm, 536, rfl⟩
abbrev main_v429 : Ref sig .tc := ⟨.hbm, 537, rfl⟩
abbrev main_cst_51 : Ref sig .tc := ⟨.hbm, 538, rfl⟩
abbrev main_v430 : Ref sig .tc := ⟨.hbm, 539, rfl⟩
abbrev main_v431 : Ref sig .tc := ⟨.hbm, 540, rfl⟩
abbrev main_v432 : Ref sig .tc := ⟨.hbm, 541, rfl⟩
abbrev main_cst_52 : Ref sig .tc := ⟨.hbm, 542, rfl⟩
abbrev main_v433 : Ref sig .tc := ⟨.hbm, 543, rfl⟩
abbrev main_v434 : Ref sig .tc := ⟨.hbm, 544, rfl⟩
abbrev main_v435 : Ref sig .tc := ⟨.hbm, 545, rfl⟩
abbrev main_v436 : Ref sig .tc := ⟨.hbm, 546, rfl⟩
abbrev main_v437 : Ref sig .tc := ⟨.hbm, 547, rfl⟩
abbrev main_v438 : Ref sig .tc := ⟨.hbm, 548, rfl⟩
abbrev main_v439 : Ref sig .tc := ⟨.hbm, 549, rfl⟩
abbrev main_v440 : Ref sig .tc := ⟨.hbm, 550, rfl⟩
abbrev main_v441 : Ref sig .tc := ⟨.hbm, 551, rfl⟩
abbrev main_v442 : Ref sig .tc := ⟨.hbm, 552, rfl⟩
abbrev main_v443 : Ref sig .tc := ⟨.hbm, 553, rfl⟩
abbrev main_v444 : Ref sig .tc := ⟨.hbm, 554, rfl⟩
abbrev main_v445 : Ref sig .tc := ⟨.hbm, 555, rfl⟩
abbrev main_cst_53 : Ref sig .tc := ⟨.hbm, 556, rfl⟩
abbrev main_v446 : Ref sig .tc := ⟨.hbm, 557, rfl⟩
abbrev main_v447 : Ref sig .tc := ⟨.hbm, 558, rfl⟩
abbrev main_v448 : Ref sig .tc := ⟨.hbm, 559, rfl⟩
abbrev main_v449 : Ref sig .tc := ⟨.hbm, 560, rfl⟩
abbrev main_v450 : Ref sig .tc := ⟨.hbm, 561, rfl⟩
abbrev main_v451 : Ref sig .tc := ⟨.hbm, 562, rfl⟩
abbrev main_v452 : Ref sig .tc := ⟨.hbm, 563, rfl⟩
abbrev main_v453 : Ref sig .tc := ⟨.hbm, 564, rfl⟩
abbrev main_v454 : Ref sig .tc := ⟨.hbm, 565, rfl⟩
abbrev main_v455 : Ref sig .tc := ⟨.hbm, 566, rfl⟩
abbrev main_v456 : Ref sig .tc := ⟨.hbm, 567, rfl⟩
abbrev main_cst_54 : Ref sig .tc := ⟨.hbm, 568, rfl⟩
abbrev main_v457 : Ref sig .tc := ⟨.hbm, 569, rfl⟩
abbrev main_v458 : Ref sig .tc := ⟨.hbm, 570, rfl⟩
abbrev main_v459 : Ref sig .tc := ⟨.hbm, 571, rfl⟩
abbrev main_v460 : Ref sig .tc := ⟨.hbm, 572, rfl⟩
abbrev main_v461 : Ref sig .tc := ⟨.hbm, 573, rfl⟩
abbrev main_v462 : Ref sig .tc := ⟨.hbm, 574, rfl⟩
abbrev main_v463 : Ref sig .tc := ⟨.hbm, 575, rfl⟩
abbrev main_v464 : Ref sig .tc := ⟨.hbm, 576, rfl⟩
abbrev main_v465 : Ref sig .tc := ⟨.hbm, 577, rfl⟩
abbrev main_v466 : Ref sig .tc := ⟨.hbm, 578, rfl⟩
abbrev main_v467 : Ref sig .tc := ⟨.hbm, 579, rfl⟩
abbrev main_cst_55 : Ref sig .tc := ⟨.hbm, 580, rfl⟩
abbrev main_v468 : Ref sig .tc := ⟨.hbm, 581, rfl⟩
abbrev main_v469 : Ref sig .tc := ⟨.hbm, 582, rfl⟩
abbrev main_v470 : Ref sig .tc := ⟨.hbm, 583, rfl⟩
abbrev main_v471 : Ref sig .tc := ⟨.hbm, 584, rfl⟩
abbrev main_v472 : Ref sig .tc := ⟨.hbm, 585, rfl⟩
abbrev main_v473 : Ref sig .tc := ⟨.hbm, 586, rfl⟩
abbrev main_v474 : Ref sig .tc := ⟨.hbm, 587, rfl⟩
abbrev main_v475 : Ref sig .tc := ⟨.hbm, 588, rfl⟩
abbrev main_v476 : Ref sig .tc := ⟨.hbm, 589, rfl⟩
abbrev main_v477 : Ref sig .tc := ⟨.hbm, 590, rfl⟩
abbrev main_v478 : Ref sig .tc := ⟨.hbm, 591, rfl⟩
abbrev main_cst_56 : Ref sig .tc := ⟨.hbm, 592, rfl⟩
abbrev main_v479 : Ref sig .tc := ⟨.hbm, 593, rfl⟩
abbrev main_v480 : Ref sig .tc := ⟨.hbm, 594, rfl⟩
abbrev main_v481 : Ref sig .tc := ⟨.hbm, 595, rfl⟩
abbrev main_v482 : Ref sig .tc := ⟨.hbm, 596, rfl⟩
abbrev main_v483 : Ref sig .tc := ⟨.hbm, 597, rfl⟩
abbrev main_v484 : Ref sig .tc := ⟨.hbm, 598, rfl⟩
abbrev main_v485 : Ref sig .tc := ⟨.hbm, 599, rfl⟩
abbrev main_v486 : Ref sig .tc := ⟨.hbm, 600, rfl⟩
abbrev main_v487 : Ref sig .tc := ⟨.hbm, 601, rfl⟩
abbrev main_v488 : Ref sig .tc := ⟨.hbm, 602, rfl⟩
abbrev main_v489 : Ref sig .tc := ⟨.hbm, 603, rfl⟩
abbrev main_cst_57 : Ref sig .tc := ⟨.hbm, 604, rfl⟩
abbrev main_v490 : Ref sig .tc := ⟨.hbm, 605, rfl⟩
abbrev main_v491 : Ref sig .tc := ⟨.hbm, 606, rfl⟩
abbrev main_v492 : Ref sig .tc := ⟨.hbm, 607, rfl⟩
abbrev main_v493 : Ref sig .tc := ⟨.hbm, 608, rfl⟩
abbrev main_v494 : Ref sig .tc := ⟨.hbm, 609, rfl⟩
abbrev main_v495 : Ref sig .tc := ⟨.hbm, 610, rfl⟩
abbrev main_v496 : Ref sig .tc := ⟨.hbm, 611, rfl⟩
abbrev main_v497 : Ref sig .tc := ⟨.hbm, 612, rfl⟩
abbrev main_v498 : Ref sig .tc := ⟨.hbm, 613, rfl⟩
abbrev main_v499 : Ref sig .tc := ⟨.hbm, 614, rfl⟩
abbrev main_v500 : Ref sig .tc := ⟨.hbm, 615, rfl⟩
abbrev main_cst_58 : Ref sig .tc := ⟨.hbm, 616, rfl⟩
abbrev main_v501 : Ref sig .tc := ⟨.hbm, 617, rfl⟩
abbrev main_v502 : Ref sig .tc := ⟨.hbm, 618, rfl⟩
abbrev main_v503 : Ref sig .tc := ⟨.hbm, 619, rfl⟩
abbrev main_v504 : Ref sig .tc := ⟨.hbm, 620, rfl⟩
abbrev main_v505 : Ref sig .tc := ⟨.hbm, 621, rfl⟩
abbrev main_v506 : Ref sig .tc := ⟨.hbm, 622, rfl⟩
abbrev main_v507 : Ref sig .tc := ⟨.hbm, 623, rfl⟩
abbrev main_v508 : Ref sig .tc := ⟨.hbm, 624, rfl⟩
abbrev main_v509 : Ref sig .tc := ⟨.hbm, 625, rfl⟩
abbrev main_v510 : Ref sig .tc := ⟨.hbm, 626, rfl⟩
abbrev main_v511 : Ref sig .tc := ⟨.hbm, 627, rfl⟩
abbrev main_cst_59 : Ref sig .tc := ⟨.hbm, 628, rfl⟩
abbrev main_v512 : Ref sig .tc := ⟨.hbm, 629, rfl⟩
abbrev main_v513 : Ref sig .tc := ⟨.hbm, 630, rfl⟩
abbrev main_v514 : Ref sig .tc := ⟨.hbm, 631, rfl⟩
abbrev main_v515 : Ref sig .tc := ⟨.hbm, 632, rfl⟩
abbrev main_v516 : Ref sig .tc := ⟨.hbm, 633, rfl⟩
abbrev main_v517 : Ref sig .tc := ⟨.hbm, 634, rfl⟩
abbrev main_v518 : Ref sig .tc := ⟨.hbm, 635, rfl⟩
abbrev main_v519 : Ref sig .tc := ⟨.hbm, 636, rfl⟩
abbrev main_v520 : Ref sig .tc := ⟨.hbm, 637, rfl⟩
abbrev main_v521 : Ref sig .tc := ⟨.hbm, 638, rfl⟩
abbrev main_v522 : Ref sig .tc := ⟨.hbm, 639, rfl⟩
abbrev main_cst_60 : Ref sig .tc := ⟨.hbm, 640, rfl⟩
abbrev main_v523 : Ref sig .tc := ⟨.hbm, 641, rfl⟩
abbrev main_v524 : Ref sig .tc := ⟨.hbm, 642, rfl⟩
abbrev main_v525 : Ref sig .tc := ⟨.hbm, 643, rfl⟩
abbrev main_v526 : Ref sig .tc := ⟨.hbm, 644, rfl⟩
abbrev main_v527 : Ref sig .tc := ⟨.hbm, 645, rfl⟩
abbrev main_v528 : Ref sig .tc := ⟨.hbm, 646, rfl⟩
abbrev main_v529 : Ref sig .tc := ⟨.hbm, 647, rfl⟩
abbrev main_v530 : Ref sig .tc := ⟨.hbm, 648, rfl⟩
abbrev main_v531 : Ref sig .tc := ⟨.hbm, 649, rfl⟩
abbrev main_v532 : Ref sig .tc := ⟨.hbm, 650, rfl⟩
abbrev main_v533 : Ref sig .tc := ⟨.hbm, 651, rfl⟩
abbrev main_cst_61 : Ref sig .tc := ⟨.hbm, 652, rfl⟩
abbrev main_v534 : Ref sig .tc := ⟨.hbm, 653, rfl⟩
abbrev main_v535 : Ref sig .tc := ⟨.hbm, 654, rfl⟩
abbrev main_v536 : Ref sig .tc := ⟨.hbm, 655, rfl⟩
abbrev main_v537 : Ref sig .tc := ⟨.hbm, 656, rfl⟩
abbrev main_v538 : Ref sig .tc := ⟨.hbm, 657, rfl⟩
abbrev main_v539 : Ref sig .tc := ⟨.hbm, 658, rfl⟩
abbrev main_v540 : Ref sig .tc := ⟨.hbm, 659, rfl⟩
abbrev main_v541 : Ref sig .tc := ⟨.hbm, 660, rfl⟩
abbrev main_v542 : Ref sig .tc := ⟨.hbm, 661, rfl⟩
abbrev main_v543 : Ref sig .tc := ⟨.hbm, 662, rfl⟩
abbrev main_v544 : Ref sig .tc := ⟨.hbm, 663, rfl⟩
abbrev main_cst_62 : Ref sig .tc := ⟨.hbm, 664, rfl⟩
abbrev main_v545 : Ref sig .tc := ⟨.hbm, 665, rfl⟩
abbrev main_v546 : Ref sig .tc := ⟨.hbm, 666, rfl⟩
abbrev main_v547 : Ref sig .tc := ⟨.hbm, 667, rfl⟩
abbrev main_v548 : Ref sig .tc := ⟨.hbm, 668, rfl⟩
abbrev main_v549 : Ref sig .tc := ⟨.hbm, 669, rfl⟩
abbrev main_v550 : Ref sig .tc := ⟨.hbm, 670, rfl⟩
abbrev main_v551 : Ref sig .tc := ⟨.hbm, 671, rfl⟩
abbrev main_v552 : Ref sig .tc := ⟨.hbm, 672, rfl⟩
abbrev main_v553 : Ref sig .tc := ⟨.hbm, 673, rfl⟩
abbrev main_v554 : Ref sig .tc := ⟨.hbm, 674, rfl⟩
abbrev main_v555 : Ref sig .tc := ⟨.hbm, 675, rfl⟩
abbrev main_cst_63 : Ref sig .tc := ⟨.hbm, 676, rfl⟩
abbrev main_v556 : Ref sig .tc := ⟨.hbm, 677, rfl⟩
abbrev main_v557 : Ref sig .tc := ⟨.hbm, 678, rfl⟩
abbrev main_v558 : Ref sig .tc := ⟨.hbm, 679, rfl⟩
abbrev main_v559 : Ref sig .tc := ⟨.hbm, 680, rfl⟩
abbrev main_v560 : Ref sig .tc := ⟨.hbm, 681, rfl⟩
abbrev main_v561 : Ref sig .tc := ⟨.hbm, 682, rfl⟩
abbrev main_v562 : Ref sig .tc := ⟨.hbm, 683, rfl⟩
abbrev main_v563 : Ref sig .tc := ⟨.hbm, 684, rfl⟩
abbrev main_v564 : Ref sig .tc := ⟨.hbm, 685, rfl⟩
abbrev main_v565 : Ref sig .tc := ⟨.hbm, 686, rfl⟩
abbrev main_v566 : Ref sig .tc := ⟨.hbm, 687, rfl⟩
abbrev main_cst_64 : Ref sig .tc := ⟨.hbm, 688, rfl⟩
abbrev main_v567 : Ref sig .tc := ⟨.hbm, 689, rfl⟩
abbrev main_v568 : Ref sig .tc := ⟨.hbm, 690, rfl⟩
abbrev main_v569 : Ref sig .tc := ⟨.hbm, 691, rfl⟩
abbrev main_v570 : Ref sig .tc := ⟨.hbm, 692, rfl⟩
abbrev main_v571 : Ref sig .tc := ⟨.hbm, 693, rfl⟩
abbrev main_v572 : Ref sig .tc := ⟨.hbm, 694, rfl⟩
abbrev main_cst_65 : Ref sig .tc := ⟨.hbm, 695, rfl⟩
abbrev main_v573 : Ref sig .tc := ⟨.hbm, 696, rfl⟩
abbrev main_v574 : Ref sig .tc := ⟨.hbm, 697, rfl⟩
abbrev main_cst_66 : Ref sig .tc := ⟨.hbm, 698, rfl⟩
abbrev main_v575 : Ref sig .tc := ⟨.hbm, 699, rfl⟩
abbrev main_v576 : Ref sig .tc := ⟨.hbm, 700, rfl⟩
abbrev main_v577 : Ref sig .tc := ⟨.hbm, 701, rfl⟩
abbrev main_cst_67 : Ref sig .tc := ⟨.hbm, 702, rfl⟩
abbrev main_v578 : Ref sig .tc := ⟨.hbm, 703, rfl⟩
abbrev main_v579 : Ref sig .tc := ⟨.hbm, 704, rfl⟩
abbrev main_cst_68 : Ref sig .tc := ⟨.hbm, 705, rfl⟩
abbrev main_v580 : Ref sig .tc := ⟨.hbm, 706, rfl⟩
abbrev main_v581 : Ref sig .tc := ⟨.hbm, 707, rfl⟩
abbrev main_v582 : Ref sig .tc := ⟨.hbm, 708, rfl⟩
abbrev main_v583 : Ref sig .tc := ⟨.hbm, 709, rfl⟩
abbrev main_v584 : Ref sig .tc := ⟨.hbm, 710, rfl⟩
abbrev main_v585 : Ref sig .tc := ⟨.hbm, 711, rfl⟩
abbrev main_v586 : Ref sig .tc := ⟨.hbm, 712, rfl⟩
abbrev main_v587 : Ref sig .tc := ⟨.hbm, 713, rfl⟩
abbrev main_v588 : Ref sig .tc := ⟨.hbm, 714, rfl⟩
abbrev main_v589 : Ref sig .tc := ⟨.hbm, 715, rfl⟩
abbrev main_v590 : Ref sig .tc := ⟨.hbm, 716, rfl⟩
abbrev main_v591 : Ref sig .tc := ⟨.hbm, 717, rfl⟩
abbrev main_cst_69 : Ref sig .tc := ⟨.hbm, 718, rfl⟩
abbrev main_v592 : Ref sig .tc := ⟨.hbm, 719, rfl⟩
abbrev main_v593 : Ref sig .tc := ⟨.hbm, 720, rfl⟩
abbrev main_cst_70 : Ref sig .tc := ⟨.hbm, 721, rfl⟩
abbrev main_v594 : Ref sig .tc := ⟨.hbm, 722, rfl⟩
abbrev main_v595 : Ref sig .tc := ⟨.hbm, 723, rfl⟩
abbrev main_v596 : Ref sig .tc := ⟨.hbm, 724, rfl⟩
abbrev main_cst_71 : Ref sig .tc := ⟨.hbm, 725, rfl⟩
abbrev main_v597 : Ref sig .tc := ⟨.hbm, 726, rfl⟩
abbrev main_v598 : Ref sig .tc := ⟨.hbm, 727, rfl⟩
abbrev main_cst_72 : Ref sig .tc := ⟨.hbm, 728, rfl⟩
abbrev main_v599 : Ref sig .tc := ⟨.hbm, 729, rfl⟩
abbrev main_v600 : Ref sig .tc := ⟨.hbm, 730, rfl⟩
abbrev main_v601 : Ref sig .tc := ⟨.hbm, 731, rfl⟩
abbrev main_v602 : Ref sig .tc := ⟨.hbm, 732, rfl⟩
abbrev main_v603 : Ref sig .tc := ⟨.hbm, 733, rfl⟩
abbrev main_v604 : Ref sig .tc := ⟨.hbm, 734, rfl⟩
abbrev main_v605 : Ref sig .tc := ⟨.hbm, 735, rfl⟩
abbrev main_v606 : Ref sig .tc := ⟨.hbm, 736, rfl⟩
abbrev main_v607 : Ref sig .tc := ⟨.hbm, 737, rfl⟩
abbrev main_v608 : Ref sig .tc := ⟨.hbm, 738, rfl⟩
abbrev main_v609 : Ref sig .tc := ⟨.hbm, 739, rfl⟩
abbrev main_v610 : Ref sig .tc := ⟨.hbm, 740, rfl⟩
abbrev main_cst_73 : Ref sig .tc := ⟨.hbm, 741, rfl⟩
abbrev main_v611 : Ref sig .tc := ⟨.hbm, 742, rfl⟩
abbrev main_v612 : Ref sig .tc := ⟨.hbm, 743, rfl⟩
abbrev main_cst_74 : Ref sig .tc := ⟨.hbm, 744, rfl⟩
abbrev main_v613 : Ref sig .tc := ⟨.hbm, 745, rfl⟩
abbrev main_v614 : Ref sig .tc := ⟨.hbm, 746, rfl⟩
abbrev main_v615 : Ref sig .tc := ⟨.hbm, 747, rfl⟩
abbrev main_cst_75 : Ref sig .tc := ⟨.hbm, 748, rfl⟩
abbrev main_v616 : Ref sig .tc := ⟨.hbm, 749, rfl⟩
abbrev main_v617 : Ref sig .tc := ⟨.hbm, 750, rfl⟩
abbrev main_cst_76 : Ref sig .tc := ⟨.hbm, 751, rfl⟩
abbrev main_v618 : Ref sig .tc := ⟨.hbm, 752, rfl⟩
abbrev main_v619 : Ref sig .tc := ⟨.hbm, 753, rfl⟩
abbrev main_v620 : Ref sig .tc := ⟨.hbm, 754, rfl⟩
abbrev main_v621 : Ref sig .tc := ⟨.hbm, 755, rfl⟩
abbrev main_v622 : Ref sig .tc := ⟨.hbm, 756, rfl⟩
abbrev main_v623 : Ref sig .tc := ⟨.hbm, 757, rfl⟩
abbrev main_v624 : Ref sig .tc := ⟨.hbm, 758, rfl⟩
abbrev main_v625 : Ref sig .tc := ⟨.hbm, 759, rfl⟩
abbrev main_v626 : Ref sig .tc := ⟨.hbm, 760, rfl⟩
abbrev main_v627 : Ref sig .tc := ⟨.hbm, 761, rfl⟩
abbrev main_v628 : Ref sig .tc := ⟨.hbm, 762, rfl⟩
abbrev main_v629 : Ref sig .tc := ⟨.hbm, 763, rfl⟩
abbrev main_cst_77 : Ref sig .tc := ⟨.hbm, 764, rfl⟩
abbrev main_v630 : Ref sig .tc := ⟨.hbm, 765, rfl⟩
abbrev main_v631 : Ref sig .tc := ⟨.hbm, 766, rfl⟩
abbrev main_cst_78 : Ref sig .tc := ⟨.hbm, 767, rfl⟩
abbrev main_v632 : Ref sig .tc := ⟨.hbm, 768, rfl⟩
abbrev main_v633 : Ref sig .tc := ⟨.hbm, 769, rfl⟩
abbrev main_v634 : Ref sig .tc := ⟨.hbm, 770, rfl⟩
abbrev main_cst_79 : Ref sig .tc := ⟨.hbm, 771, rfl⟩
abbrev main_v635 : Ref sig .tc := ⟨.hbm, 772, rfl⟩
abbrev main_v636 : Ref sig .tc := ⟨.hbm, 773, rfl⟩
abbrev main_cst_80 : Ref sig .tc := ⟨.hbm, 774, rfl⟩
abbrev main_v637 : Ref sig .tc := ⟨.hbm, 775, rfl⟩
abbrev main_v638 : Ref sig .tc := ⟨.hbm, 776, rfl⟩
abbrev main_v639 : Ref sig .tc := ⟨.hbm, 777, rfl⟩
abbrev main_v640 : Ref sig .tc := ⟨.hbm, 778, rfl⟩
abbrev main_v641 : Ref sig .tc := ⟨.hbm, 779, rfl⟩
abbrev main_v642 : Ref sig .tc := ⟨.hbm, 780, rfl⟩
abbrev main_v643 : Ref sig .tc := ⟨.hbm, 781, rfl⟩
abbrev main_v644 : Ref sig .tc := ⟨.hbm, 782, rfl⟩
abbrev main_v645 : Ref sig .tc := ⟨.hbm, 783, rfl⟩
abbrev main_v646 : Ref sig .tc := ⟨.hbm, 784, rfl⟩
abbrev main_v647 : Ref sig .tc := ⟨.hbm, 785, rfl⟩
abbrev main_v648 : Ref sig .tc := ⟨.hbm, 786, rfl⟩
abbrev main_cst_81 : Ref sig .tc := ⟨.hbm, 787, rfl⟩
abbrev main_v649 : Ref sig .tc := ⟨.hbm, 788, rfl⟩
abbrev main_v650 : Ref sig .tc := ⟨.hbm, 789, rfl⟩
abbrev main_cst_82 : Ref sig .tc := ⟨.hbm, 790, rfl⟩
abbrev main_v651 : Ref sig .tc := ⟨.hbm, 791, rfl⟩
abbrev main_v652 : Ref sig .tc := ⟨.hbm, 792, rfl⟩
abbrev main_v653 : Ref sig .tc := ⟨.hbm, 793, rfl⟩
abbrev main_cst_83 : Ref sig .tc := ⟨.hbm, 794, rfl⟩
abbrev main_v654 : Ref sig .tc := ⟨.hbm, 795, rfl⟩
abbrev main_v655 : Ref sig .tc := ⟨.hbm, 796, rfl⟩
abbrev main_cst_84 : Ref sig .tc := ⟨.hbm, 797, rfl⟩
abbrev main_v656 : Ref sig .tc := ⟨.hbm, 798, rfl⟩
abbrev main_v657 : Ref sig .tc := ⟨.hbm, 799, rfl⟩
abbrev main_v658 : Ref sig .tc := ⟨.hbm, 800, rfl⟩
abbrev main_v659 : Ref sig .tc := ⟨.hbm, 801, rfl⟩
abbrev main_v660 : Ref sig .tc := ⟨.hbm, 802, rfl⟩
abbrev main_v661 : Ref sig .tc := ⟨.hbm, 803, rfl⟩
abbrev main_v662 : Ref sig .tc := ⟨.hbm, 804, rfl⟩
abbrev main_v663 : Ref sig .tc := ⟨.hbm, 805, rfl⟩
abbrev main_v664 : Ref sig .tc := ⟨.hbm, 806, rfl⟩
abbrev main_v665 : Ref sig .tc := ⟨.hbm, 807, rfl⟩
abbrev main_v666 : Ref sig .tc := ⟨.hbm, 808, rfl⟩
abbrev main_v667 : Ref sig .tc := ⟨.hbm, 809, rfl⟩
abbrev main_cst_85 : Ref sig .tc := ⟨.hbm, 810, rfl⟩
abbrev main_v668 : Ref sig .tc := ⟨.hbm, 811, rfl⟩
abbrev main_v669 : Ref sig .tc := ⟨.hbm, 812, rfl⟩
abbrev main_cst_86 : Ref sig .tc := ⟨.hbm, 813, rfl⟩
abbrev main_v670 : Ref sig .tc := ⟨.hbm, 814, rfl⟩
abbrev main_v671 : Ref sig .tc := ⟨.hbm, 815, rfl⟩
abbrev main_v672 : Ref sig .tc := ⟨.hbm, 816, rfl⟩
abbrev main_cst_87 : Ref sig .tc := ⟨.hbm, 817, rfl⟩
abbrev main_v673 : Ref sig .tc := ⟨.hbm, 818, rfl⟩
abbrev main_v674 : Ref sig .tc := ⟨.hbm, 819, rfl⟩
abbrev main_cst_88 : Ref sig .tc := ⟨.hbm, 820, rfl⟩
abbrev main_v675 : Ref sig .tc := ⟨.hbm, 821, rfl⟩
abbrev main_v676 : Ref sig .tc := ⟨.hbm, 822, rfl⟩
abbrev main_v677 : Ref sig .tc := ⟨.hbm, 823, rfl⟩
abbrev main_v678 : Ref sig .tc := ⟨.hbm, 824, rfl⟩
abbrev main_v679 : Ref sig .tc := ⟨.hbm, 825, rfl⟩
abbrev main_v680 : Ref sig .tc := ⟨.hbm, 826, rfl⟩
abbrev main_v681 : Ref sig .tc := ⟨.hbm, 827, rfl⟩
abbrev main_v682 : Ref sig .tc := ⟨.hbm, 828, rfl⟩
abbrev main_v683 : Ref sig .tc := ⟨.hbm, 829, rfl⟩
abbrev main_v684 : Ref sig .tc := ⟨.hbm, 830, rfl⟩
abbrev main_v685 : Ref sig .tc := ⟨.hbm, 831, rfl⟩
abbrev main_v686 : Ref sig .tc := ⟨.hbm, 832, rfl⟩
abbrev main_cst_89 : Ref sig .tc := ⟨.hbm, 833, rfl⟩
abbrev main_v687 : Ref sig .tc := ⟨.hbm, 834, rfl⟩
abbrev main_v688 : Ref sig .tc := ⟨.hbm, 835, rfl⟩
abbrev main_cst_90 : Ref sig .tc := ⟨.hbm, 836, rfl⟩
abbrev main_v689 : Ref sig .tc := ⟨.hbm, 837, rfl⟩
abbrev main_v690 : Ref sig .tc := ⟨.hbm, 838, rfl⟩
abbrev main_v691 : Ref sig .tc := ⟨.hbm, 839, rfl⟩
abbrev main_cst_91 : Ref sig .tc := ⟨.hbm, 840, rfl⟩
abbrev main_v692 : Ref sig .tc := ⟨.hbm, 841, rfl⟩
abbrev main_v693 : Ref sig .tc := ⟨.hbm, 842, rfl⟩
abbrev main_cst_92 : Ref sig .tc := ⟨.hbm, 843, rfl⟩
abbrev main_v694 : Ref sig .tc := ⟨.hbm, 844, rfl⟩
abbrev main_v695 : Ref sig .tc := ⟨.hbm, 845, rfl⟩
abbrev main_v696 : Ref sig .tc := ⟨.hbm, 846, rfl⟩
abbrev main_v697 : Ref sig .tc := ⟨.hbm, 847, rfl⟩
abbrev main_v698 : Ref sig .tc := ⟨.hbm, 848, rfl⟩
abbrev main_v699 : Ref sig .tc := ⟨.hbm, 849, rfl⟩
abbrev main_v700 : Ref sig .tc := ⟨.hbm, 850, rfl⟩
abbrev main_v701 : Ref sig .tc := ⟨.hbm, 851, rfl⟩
abbrev main_v702 : Ref sig .tc := ⟨.hbm, 852, rfl⟩
abbrev main_v703 : Ref sig .tc := ⟨.hbm, 853, rfl⟩
abbrev main_v704 : Ref sig .tc := ⟨.hbm, 854, rfl⟩
abbrev main_v705 : Ref sig .tc := ⟨.hbm, 855, rfl⟩
abbrev main_cst_93 : Ref sig .tc := ⟨.hbm, 856, rfl⟩
abbrev main_v706 : Ref sig .tc := ⟨.hbm, 857, rfl⟩
abbrev main_v707 : Ref sig .tc := ⟨.hbm, 858, rfl⟩
abbrev main_cst_94 : Ref sig .tc := ⟨.hbm, 859, rfl⟩
abbrev main_v708 : Ref sig .tc := ⟨.hbm, 860, rfl⟩
abbrev main_v709 : Ref sig .tc := ⟨.hbm, 861, rfl⟩
abbrev main_v710 : Ref sig .tc := ⟨.hbm, 862, rfl⟩
abbrev main_cst_95 : Ref sig .tc := ⟨.hbm, 863, rfl⟩
abbrev main_v711 : Ref sig .tc := ⟨.hbm, 864, rfl⟩
abbrev main_v712 : Ref sig .tc := ⟨.hbm, 865, rfl⟩
abbrev main_cst_96 : Ref sig .tc := ⟨.hbm, 866, rfl⟩
abbrev main_v713 : Ref sig .tc := ⟨.hbm, 867, rfl⟩
abbrev main_v714 : Ref sig .tc := ⟨.hbm, 868, rfl⟩
abbrev main_v715 : Ref sig .tc := ⟨.hbm, 869, rfl⟩
abbrev main_v716 : Ref sig .tc := ⟨.hbm, 870, rfl⟩
abbrev main_v717 : Ref sig .tc := ⟨.hbm, 871, rfl⟩
abbrev main_v718 : Ref sig .tc := ⟨.hbm, 872, rfl⟩
abbrev main_v719 : Ref sig .tc := ⟨.hbm, 873, rfl⟩
abbrev main_v720 : Ref sig .tc := ⟨.hbm, 874, rfl⟩
abbrev main_v721 : Ref sig .tc := ⟨.hbm, 875, rfl⟩
abbrev main_v722 : Ref sig .tc := ⟨.hbm, 876, rfl⟩
abbrev main_v723 : Ref sig .tc := ⟨.hbm, 877, rfl⟩
abbrev main_v724 : Ref sig .tc := ⟨.hbm, 878, rfl⟩
abbrev main_cst_97 : Ref sig .tc := ⟨.hbm, 879, rfl⟩
abbrev main_v725 : Ref sig .tc := ⟨.hbm, 880, rfl⟩
abbrev main_v726 : Ref sig .tc := ⟨.hbm, 881, rfl⟩
abbrev main_cst_98 : Ref sig .tc := ⟨.hbm, 882, rfl⟩
abbrev main_v727 : Ref sig .tc := ⟨.hbm, 883, rfl⟩
abbrev main_v728 : Ref sig .tc := ⟨.hbm, 884, rfl⟩
abbrev main_v729 : Ref sig .tc := ⟨.hbm, 885, rfl⟩
abbrev main_cst_99 : Ref sig .tc := ⟨.hbm, 886, rfl⟩
abbrev main_v730 : Ref sig .tc := ⟨.hbm, 887, rfl⟩
abbrev main_v731 : Ref sig .tc := ⟨.hbm, 888, rfl⟩
abbrev main_cst_100 : Ref sig .tc := ⟨.hbm, 889, rfl⟩
abbrev main_v732 : Ref sig .tc := ⟨.hbm, 890, rfl⟩
abbrev main_v733 : Ref sig .tc := ⟨.hbm, 891, rfl⟩
abbrev main_v734 : Ref sig .tc := ⟨.hbm, 892, rfl⟩
abbrev main_v735 : Ref sig .tc := ⟨.hbm, 893, rfl⟩
abbrev main_v736 : Ref sig .tc := ⟨.hbm, 894, rfl⟩
abbrev main_v737 : Ref sig .tc := ⟨.hbm, 895, rfl⟩
abbrev main_v738 : Ref sig .tc := ⟨.hbm, 896, rfl⟩
abbrev main_v739 : Ref sig .tc := ⟨.hbm, 897, rfl⟩
abbrev main_v740 : Ref sig .tc := ⟨.hbm, 898, rfl⟩
abbrev main_v741 : Ref sig .tc := ⟨.hbm, 899, rfl⟩
abbrev main_v742 : Ref sig .tc := ⟨.hbm, 900, rfl⟩
abbrev main_v743 : Ref sig .tc := ⟨.hbm, 901, rfl⟩
abbrev main_cst_101 : Ref sig .tc := ⟨.hbm, 902, rfl⟩
abbrev main_v744 : Ref sig .tc := ⟨.hbm, 903, rfl⟩
abbrev main_v745 : Ref sig .tc := ⟨.hbm, 904, rfl⟩
abbrev main_cst_102 : Ref sig .tc := ⟨.hbm, 905, rfl⟩
abbrev main_v746 : Ref sig .tc := ⟨.hbm, 906, rfl⟩
abbrev main_v747 : Ref sig .tc := ⟨.hbm, 907, rfl⟩
abbrev main_v748 : Ref sig .tc := ⟨.hbm, 908, rfl⟩
abbrev main_cst_103 : Ref sig .tc := ⟨.hbm, 909, rfl⟩
abbrev main_v749 : Ref sig .tc := ⟨.hbm, 910, rfl⟩
abbrev main_v750 : Ref sig .tc := ⟨.hbm, 911, rfl⟩
abbrev main_cst_104 : Ref sig .tc := ⟨.hbm, 912, rfl⟩
abbrev main_v751 : Ref sig .tc := ⟨.hbm, 913, rfl⟩
abbrev main_v752 : Ref sig .tc := ⟨.hbm, 914, rfl⟩
abbrev main_v753 : Ref sig .tc := ⟨.hbm, 915, rfl⟩
abbrev main_v754 : Ref sig .tc := ⟨.hbm, 916, rfl⟩
abbrev main_v755 : Ref sig .tc := ⟨.hbm, 917, rfl⟩
abbrev main_v756 : Ref sig .tc := ⟨.hbm, 918, rfl⟩
abbrev main_v757 : Ref sig .tc := ⟨.hbm, 919, rfl⟩
abbrev main_v758 : Ref sig .tc := ⟨.hbm, 920, rfl⟩
abbrev main_v759 : Ref sig .tc := ⟨.hbm, 921, rfl⟩
abbrev main_v760 : Ref sig .tc := ⟨.hbm, 922, rfl⟩
abbrev main_v761 : Ref sig .tc := ⟨.hbm, 923, rfl⟩
abbrev main_v762 : Ref sig .tc := ⟨.hbm, 924, rfl⟩
abbrev main_cst_105 : Ref sig .tc := ⟨.hbm, 925, rfl⟩
abbrev main_v763 : Ref sig .tc := ⟨.hbm, 926, rfl⟩
abbrev main_v764 : Ref sig .tc := ⟨.hbm, 927, rfl⟩
abbrev main_cst_106 : Ref sig .tc := ⟨.hbm, 928, rfl⟩
abbrev main_v765 : Ref sig .tc := ⟨.hbm, 929, rfl⟩
abbrev main_v766 : Ref sig .tc := ⟨.hbm, 930, rfl⟩
abbrev main_v767 : Ref sig .tc := ⟨.hbm, 931, rfl⟩
abbrev main_cst_107 : Ref sig .tc := ⟨.hbm, 932, rfl⟩
abbrev main_v768 : Ref sig .tc := ⟨.hbm, 933, rfl⟩
abbrev main_v769 : Ref sig .tc := ⟨.hbm, 934, rfl⟩
abbrev main_cst_108 : Ref sig .tc := ⟨.hbm, 935, rfl⟩
abbrev main_v770 : Ref sig .tc := ⟨.hbm, 936, rfl⟩
abbrev main_v771 : Ref sig .tc := ⟨.hbm, 937, rfl⟩
abbrev main_v772 : Ref sig .tc := ⟨.hbm, 938, rfl⟩
abbrev main_v773 : Ref sig .tc := ⟨.hbm, 939, rfl⟩
abbrev main_v774 : Ref sig .tc := ⟨.hbm, 940, rfl⟩
abbrev main_v775 : Ref sig .tc := ⟨.hbm, 941, rfl⟩
abbrev main_v776 : Ref sig .tc := ⟨.hbm, 942, rfl⟩
abbrev main_v777 : Ref sig .tc := ⟨.hbm, 943, rfl⟩
abbrev main_v778 : Ref sig .tc := ⟨.hbm, 944, rfl⟩
abbrev main_v779 : Ref sig .tc := ⟨.hbm, 945, rfl⟩
abbrev main_v780 : Ref sig .tc := ⟨.hbm, 946, rfl⟩
abbrev main_v781 : Ref sig .tc := ⟨.hbm, 947, rfl⟩
abbrev main_cst_109 : Ref sig .tc := ⟨.hbm, 948, rfl⟩
abbrev main_v782 : Ref sig .tc := ⟨.hbm, 949, rfl⟩
abbrev main_v783 : Ref sig .tc := ⟨.hbm, 950, rfl⟩
abbrev main_cst_110 : Ref sig .tc := ⟨.hbm, 951, rfl⟩
abbrev main_v784 : Ref sig .tc := ⟨.hbm, 952, rfl⟩
abbrev main_v785 : Ref sig .tc := ⟨.hbm, 953, rfl⟩
abbrev main_v786 : Ref sig .tc := ⟨.hbm, 954, rfl⟩
abbrev main_cst_111 : Ref sig .tc := ⟨.hbm, 955, rfl⟩
abbrev main_v787 : Ref sig .tc := ⟨.hbm, 956, rfl⟩
abbrev main_v788 : Ref sig .tc := ⟨.hbm, 957, rfl⟩
abbrev main_cst_112 : Ref sig .tc := ⟨.hbm, 958, rfl⟩
abbrev main_v789 : Ref sig .tc := ⟨.hbm, 959, rfl⟩
abbrev main_v790 : Ref sig .tc := ⟨.hbm, 960, rfl⟩
abbrev main_v791 : Ref sig .tc := ⟨.hbm, 961, rfl⟩
abbrev main_v792 : Ref sig .tc := ⟨.hbm, 962, rfl⟩
abbrev main_v793 : Ref sig .tc := ⟨.hbm, 963, rfl⟩
abbrev main_v794 : Ref sig .tc := ⟨.hbm, 964, rfl⟩
abbrev main_v795 : Ref sig .tc := ⟨.hbm, 965, rfl⟩
abbrev main_v796 : Ref sig .tc := ⟨.hbm, 966, rfl⟩
abbrev main_v797 : Ref sig .tc := ⟨.hbm, 967, rfl⟩
abbrev main_v798 : Ref sig .tc := ⟨.hbm, 968, rfl⟩
abbrev main_v799 : Ref sig .tc := ⟨.hbm, 969, rfl⟩
abbrev main_cst_113 : Ref sig .tc := ⟨.hbm, 970, rfl⟩
abbrev main_v800 : Ref sig .tc := ⟨.hbm, 971, rfl⟩
abbrev main_v801 : Ref sig .tc := ⟨.hbm, 972, rfl⟩
abbrev main_v802 : Ref sig .tc := ⟨.hbm, 973, rfl⟩
abbrev main_v803 : Ref sig .tc := ⟨.hbm, 974, rfl⟩
abbrev main_v804 : Ref sig .tc := ⟨.hbm, 975, rfl⟩
abbrev main_v805 : Ref sig .tc := ⟨.hbm, 976, rfl⟩
abbrev main_cst_114 : Ref sig .tc := ⟨.hbm, 977, rfl⟩
abbrev main_v806 : Ref sig .tc := ⟨.hbm, 978, rfl⟩
abbrev main_v807 : Ref sig .tc := ⟨.hbm, 979, rfl⟩
abbrev main_cst_115 : Ref sig .tc := ⟨.hbm, 980, rfl⟩
abbrev main_v808 : Ref sig .tc := ⟨.hbm, 981, rfl⟩
abbrev main_v809 : Ref sig .tc := ⟨.hbm, 982, rfl⟩
abbrev main_v810 : Ref sig .tc := ⟨.hbm, 983, rfl⟩
abbrev main_v811 : Ref sig .tc := ⟨.hbm, 984, rfl⟩
abbrev main_v812 : Ref sig .tc := ⟨.hbm, 985, rfl⟩
abbrev main_v813 : Ref sig .tc := ⟨.hbm, 986, rfl⟩
abbrev main_v814 : Ref sig .tc := ⟨.hbm, 987, rfl⟩
abbrev main_v815 : Ref sig .tc := ⟨.hbm, 988, rfl⟩
abbrev main_v816 : Ref sig .tc := ⟨.hbm, 989, rfl⟩
abbrev main_cst_116 : Ref sig .tc := ⟨.hbm, 990, rfl⟩
abbrev main_v817 : Ref sig .tc := ⟨.hbm, 991, rfl⟩
abbrev main_v818 : Ref sig .tc := ⟨.hbm, 992, rfl⟩
abbrev main_v819 : Ref sig .tc := ⟨.hbm, 993, rfl⟩
abbrev main_v820 : Ref sig .tc := ⟨.hbm, 994, rfl⟩
abbrev main_cst_117 : Ref sig .tc := ⟨.hbm, 995, rfl⟩
abbrev main_v821 : Ref sig .tc := ⟨.hbm, 996, rfl⟩
abbrev main_v822 : Ref sig .tc := ⟨.hbm, 997, rfl⟩
abbrev main_v823 : Ref sig .tc := ⟨.hbm, 998, rfl⟩
abbrev main_cst_118 : Ref sig .tc := ⟨.hbm, 999, rfl⟩
abbrev main_v824 : Ref sig .tc := ⟨.hbm, 1000, rfl⟩
abbrev main_v825 : Ref sig .tc := ⟨.hbm, 1001, rfl⟩
abbrev main_v826 : Ref sig .tc := ⟨.hbm, 1002, rfl⟩
abbrev main_v827 : Ref sig .tc := ⟨.hbm, 1003, rfl⟩
abbrev main_cst_119 : Ref sig .tc := ⟨.hbm, 1004, rfl⟩
abbrev main_v828 : Ref sig .tc := ⟨.hbm, 1005, rfl⟩
abbrev main_v829 : Ref sig .tc := ⟨.hbm, 1006, rfl⟩
abbrev main_cst_120 : Ref sig .tc := ⟨.hbm, 1007, rfl⟩
abbrev main_v830 : Ref sig .tc := ⟨.hbm, 1008, rfl⟩
abbrev main_v831 : Ref sig .tc := ⟨.hbm, 1009, rfl⟩
abbrev main_v832 : Ref sig .tc := ⟨.hbm, 1010, rfl⟩
abbrev main_v833 : Ref sig .tc := ⟨.hbm, 1011, rfl⟩
abbrev main_v834 : Ref sig .tc := ⟨.hbm, 1012, rfl⟩
abbrev main_v835 : Ref sig .tc := ⟨.hbm, 1013, rfl⟩
abbrev main_v836 : Ref sig .tc := ⟨.hbm, 1014, rfl⟩
abbrev main_v837 : Ref sig .tc := ⟨.hbm, 1015, rfl⟩
abbrev main_v838 : Ref sig .tc := ⟨.hbm, 1016, rfl⟩
abbrev main_cst_121 : Ref sig .tc := ⟨.hbm, 1017, rfl⟩
abbrev main_v839 : Ref sig .tc := ⟨.hbm, 1018, rfl⟩
abbrev main_v840 : Ref sig .tc := ⟨.hbm, 1019, rfl⟩
abbrev main_v841 : Ref sig .tc := ⟨.hbm, 1020, rfl⟩
abbrev main_v842 : Ref sig .tc := ⟨.hbm, 1021, rfl⟩
abbrev main_cst_122 : Ref sig .tc := ⟨.hbm, 1022, rfl⟩
abbrev main_v843 : Ref sig .tc := ⟨.hbm, 1023, rfl⟩
abbrev main_v844 : Ref sig .tc := ⟨.hbm, 1024, rfl⟩
abbrev main_cst_123 : Ref sig .tc := ⟨.hbm, 1025, rfl⟩
abbrev main_v845 : Ref sig .tc := ⟨.hbm, 1026, rfl⟩
abbrev main_cst_124 : Ref sig .tc := ⟨.hbm, 1027, rfl⟩
abbrev main_v846 : Ref sig .tc := ⟨.hbm, 1028, rfl⟩
abbrev main_v847 : Ref sig .tc := ⟨.hbm, 1029, rfl⟩
abbrev main_cst_125 : Ref sig .tc := ⟨.hbm, 1030, rfl⟩
abbrev main_v848 : Ref sig .tc := ⟨.hbm, 1031, rfl⟩
abbrev main_v849 : Ref sig .tc := ⟨.hbm, 1032, rfl⟩
abbrev main_v850 : Ref sig .tc := ⟨.hbm, 1033, rfl⟩
abbrev main_v851 : Ref sig .tc := ⟨.hbm, 1034, rfl⟩
abbrev main_cst_126 : Ref sig .tc := ⟨.hbm, 1035, rfl⟩
abbrev main_v852 : Ref sig .tc := ⟨.hbm, 1036, rfl⟩
abbrev main_v853 : Ref sig .tc := ⟨.hbm, 1037, rfl⟩
abbrev main_cst_127 : Ref sig .tc := ⟨.hbm, 1038, rfl⟩
abbrev main_v854 : Ref sig .tc := ⟨.hbm, 1039, rfl⟩
abbrev main_v855 : Ref sig .tc := ⟨.hbm, 1040, rfl⟩
abbrev main_cst_128 : Ref sig .tc := ⟨.hbm, 1041, rfl⟩
abbrev main_v856 : Ref sig .tc := ⟨.hbm, 1042, rfl⟩
abbrev main_v857 : Ref sig .tc := ⟨.hbm, 1043, rfl⟩
abbrev main_v858 : Ref sig .tc := ⟨.hbm, 1044, rfl⟩
abbrev main_cst_129 : Ref sig .tc := ⟨.hbm, 1045, rfl⟩
abbrev main_v859 : Ref sig .tc := ⟨.hbm, 1046, rfl⟩
abbrev main_v860 : Ref sig .tc := ⟨.hbm, 1047, rfl⟩
abbrev main_v861 : Ref sig .tc := ⟨.hbm, 1048, rfl⟩
abbrev main_v862 : Ref sig .tc := ⟨.hbm, 1049, rfl⟩
abbrev main_cst_130 : Ref sig .tc := ⟨.hbm, 1050, rfl⟩
abbrev main_v863 : Ref sig .tc := ⟨.hbm, 1051, rfl⟩
abbrev main_v864 : Ref sig .tc := ⟨.hbm, 1052, rfl⟩
abbrev main_cst_131 : Ref sig .tc := ⟨.hbm, 1053, rfl⟩
abbrev main_v865 : Ref sig .tc := ⟨.hbm, 1054, rfl⟩
abbrev main_v866 : Ref sig .tc := ⟨.hbm, 1055, rfl⟩
abbrev main_cst_132 : Ref sig .tc := ⟨.hbm, 1056, rfl⟩
abbrev main_v867 : Ref sig .tc := ⟨.hbm, 1057, rfl⟩
abbrev main_v868 : Ref sig .tc := ⟨.hbm, 1058, rfl⟩
abbrev main_cst_133 : Ref sig .tc := ⟨.hbm, 1059, rfl⟩
abbrev main_v869 : Ref sig .tc := ⟨.hbm, 1060, rfl⟩
abbrev main_v870 : Ref sig .tc := ⟨.hbm, 1061, rfl⟩
abbrev main_cst_134 : Ref sig .tc := ⟨.hbm, 1062, rfl⟩
abbrev main_v871 : Ref sig .tc := ⟨.hbm, 1063, rfl⟩
abbrev main_v872 : Ref sig .tc := ⟨.hbm, 1064, rfl⟩
abbrev main_cst_135 : Ref sig .tc := ⟨.hbm, 1065, rfl⟩
abbrev main_v873 : Ref sig .tc := ⟨.hbm, 1066, rfl⟩
abbrev main_v874 : Ref sig .tc := ⟨.hbm, 1067, rfl⟩
abbrev main_v875 : Ref sig .tc := ⟨.hbm, 1068, rfl⟩
abbrev main_v876 : Ref sig .tc := ⟨.hbm, 1069, rfl⟩
abbrev main_cst_136 : Ref sig .tc := ⟨.hbm, 1070, rfl⟩
abbrev main_v877 : Ref sig .tc := ⟨.hbm, 1071, rfl⟩
abbrev main_v878 : Ref sig .tc := ⟨.hbm, 1072, rfl⟩
abbrev main_cst_137 : Ref sig .tc := ⟨.hbm, 1073, rfl⟩
abbrev main_v879 : Ref sig .tc := ⟨.hbm, 1074, rfl⟩
abbrev main_v880 : Ref sig .tc := ⟨.hbm, 1075, rfl⟩
abbrev main_cst_138 : Ref sig .tc := ⟨.hbm, 1076, rfl⟩
abbrev main_v881 : Ref sig .tc := ⟨.hbm, 1077, rfl⟩
abbrev main_v882 : Ref sig .tc := ⟨.hbm, 1078, rfl⟩
abbrev main_v883 : Ref sig .tc := ⟨.hbm, 1079, rfl⟩
abbrev main_v884 : Ref sig .tc := ⟨.hbm, 1080, rfl⟩
abbrev main_v885 : Ref sig .tc := ⟨.hbm, 1081, rfl⟩
abbrev main_v886 : Ref sig .tc := ⟨.hbm, 1082, rfl⟩
abbrev main_v887 : Ref sig .tc := ⟨.hbm, 1083, rfl⟩
abbrev main_v888 : Ref sig .tc := ⟨.hbm, 1084, rfl⟩
abbrev main_v889 : Ref sig .tc := ⟨.hbm, 1085, rfl⟩
abbrev main_v890 : Ref sig .tc := ⟨.hbm, 1086, rfl⟩
abbrev main_v891 : Ref sig .tc := ⟨.hbm, 1087, rfl⟩
abbrev main_v892 : Ref sig .tc := ⟨.hbm, 1088, rfl⟩
abbrev main_v893 : Ref sig .tc := ⟨.hbm, 1089, rfl⟩
abbrev main_v894 : Ref sig .tc := ⟨.hbm, 1090, rfl⟩
abbrev main_v895 : Ref sig .tc := ⟨.hbm, 1091, rfl⟩
abbrev main_v896 : Ref sig .tc := ⟨.hbm, 1092, rfl⟩
abbrev main_v897 : Ref sig .tc := ⟨.hbm, 1093, rfl⟩
abbrev main_v898 : Ref sig .tc := ⟨.hbm, 1094, rfl⟩
abbrev main_v899 : Ref sig .tc := ⟨.hbm, 1095, rfl⟩

abbrev nD : Nat := 1
abbrev τ : Topo := Topo.v7x

variable {F : FTy → Type} [FloatOps F]
-- ==== SguFwd.lean ====
abbrev S4096x3072 : Shape := ⟨2, ![4096, 3072]⟩
abbrev S4x128x128 : Shape := ⟨3, ![4, 128, 128]⟩
abbrev S4x128 : Shape := ⟨2, ![4, 128]⟩
abbrev S256 : Shape := ⟨1, ![256]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S_ : Shape := ⟨0, ![]⟩
abbrev S256x1 : Shape := ⟨2, ![256, 1]⟩
abbrev S256x256 : Shape := ⟨2, ![256, 256]⟩
abbrev S4096x256 : Shape := ⟨2, ![4096, 256]⟩
abbrev S1024x256 : Shape := ⟨2, ![1024, 256]⟩
abbrev S128x128 : Shape := ⟨2, ![128, 128]⟩
abbrev S1x128x128 : Shape := ⟨3, ![1, 128, 128]⟩

abbrev nBuf : Space → Nat
  | .hbm => 37
  | .vmem => 10
  | .smem => 0
  | _ => 0

abbrev bufTy : (tb : Table) → Fin (tcTables nBuf tb) → BufTy
  | .hbm, ⟨0, _⟩ => ⟨S4096x3072, .f32⟩
  | .hbm, ⟨1, _⟩ => ⟨S4x128x128, .f32⟩
  | .hbm, ⟨2, _⟩ => ⟨S4x128, .f32⟩
  | .hbm, ⟨3, _⟩ => ⟨S256, .f32⟩
  | .hbm, ⟨4, _⟩ => ⟨S128x4, .f32⟩
  | .hbm, ⟨5, _⟩ => ⟨S128x4x64, .f32⟩
  | .hbm, ⟨6, _⟩ => ⟨S128x256, .f32⟩
  | .hbm, ⟨7, _⟩ => ⟨S1x256, .f32⟩
  | .hbm, ⟨8, _⟩ => ⟨S256, .i32⟩
  | .hbm, ⟨9, _⟩ => ⟨S_, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256x1, .i32⟩
  | .hbm, ⟨28, _⟩ => ⟨S1x256, .i32⟩
  | .hbm, ⟨29, _⟩ => ⟨S256x256, .i32⟩
  | .hbm, ⟨30, _⟩ => ⟨S256x256, .i32⟩
  | .hbm, ⟨31, _⟩ => ⟨S256x256, .i1⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S4096x256, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S4x128x128, .f32⟩
  | .local _ .vmem, ⟨5, _⟩ => ⟨S128x256, .f32⟩
  | .local _ .vmem, ⟨6, _⟩ => ⟨S1x256, .f32⟩
  | .local _ .vmem, ⟨7, _⟩ => ⟨S256x256, .f32⟩
  | .local _ .vmem, ⟨8, _⟩ => ⟨S1024x256, .bf16⟩
  | .local _ .vmem, ⟨9, _⟩ => ⟨S1024x256, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguFwdRefIdeal.lean ====
abbrev S4096x3072 : Shape := ⟨2, ![4096, 3072]⟩
abbrev S4x128x128 : Shape := ⟨3, ![4, 128, 128]⟩
abbrev S4x128 : Shape := ⟨2, ![4, 128]⟩
abbrev S256 : Shape := ⟨1, ![256]⟩
abbrev S4096x256 : Shape := ⟨2, ![4096, 256]⟩
abbrev S_ : Shape := ⟨0, ![]⟩
abbrev S32x128x4x64 : Shape := ⟨4, ![32, 128, 4, 64]⟩
abbrev S32x128x4 : Shape := ⟨3, ![32, 128, 4]⟩
abbrev S32x128x4x1 : Shape := ⟨4, ![32, 128, 4, 1]⟩
abbrev S128x128 : Shape := ⟨2, ![128, 128]⟩
abbrev S1x128x128 : Shape := ⟨3, ![1, 128, 128]⟩
abbrev S4x32x64x128 : Shape := ⟨4, ![4, 32, 64, 128]⟩
abbrev S128x4 : Shape := ⟨2, ![128, 4]⟩
abbrev S128x4x1 : Shape := ⟨3, ![128, 4, 1]⟩
abbrev S1x128x4x1 : Shape := ⟨4, ![1, 128, 4, 1]⟩
abbrev S4096x4x64 : Shape := ⟨3, ![4096, 4, 64]⟩
abbrev S4096x4 : Shape := ⟨2, ![4096, 4]⟩
abbrev S4096x4x1 : Shape := ⟨3, ![4096, 4, 1]⟩
abbrev S1x256 : Shape := ⟨2, ![1, 256]⟩

abbrev nBuf : Space → Nat
  | .hbm => 106
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x128x128, .f32⟩
  | .hbm, ⟨2, _⟩ => ⟨S4x128, .f32⟩
  | .hbm, ⟨3, _⟩ => ⟨S256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S_, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S_, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S_, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S_, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S_, .f32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S_, .f32⟩
  | .hbm, ⟨34, _⟩ => ⟨S4096x256, .f32⟩
  | .hbm, ⟨35, _⟩ => ⟨S4096x256, .f32⟩
  | .hbm, ⟨36, _⟩ => ⟨S_, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S32x128x4x64, .f32⟩
  | .hbm, ⟨41, _⟩ => ⟨S_, .f32⟩
  | .hbm, ⟨42, _⟩ => ⟨S32x128x4, .f32⟩
  | .hbm, ⟨43, _⟩ => ⟨S32x128x4x1, .f32⟩
  | .hbm, ⟨44, _⟩ => ⟨S_, .f32⟩
  | .hbm, ⟨45, _⟩ => ⟨S32x128x4x1, .f32⟩
  | .hbm, ⟨46, _⟩ => ⟨S32x128x4x1, .f32⟩
  | .hbm, ⟨47, _⟩ => ⟨S32x128x4x64, .f32⟩
  | .hbm, ⟨48, _⟩ => ⟨S32x128x4x64, .f32⟩
  | .hbm, ⟨49, _⟩ => ⟨S32x128x4x64, .f32⟩
  | .hbm, ⟨50, _⟩ => ⟨S_, .f32⟩
  | .hbm, ⟨51, _⟩ => ⟨S32x128x4, .f32⟩
  | .hbm, ⟨52, _⟩ => ⟨S32x128x4x1, .f32⟩
  | .hbm, ⟨53, _⟩ => ⟨S_, .f32⟩
  | .hbm, ⟨54, _⟩ => ⟨S32x128x4x1, .f32⟩
  | .hbm, ⟨55, _⟩ => ⟨S32x128x4x1, .f32⟩
  | .hbm, ⟨56, _⟩ => ⟨S32x128x4x64, .f32⟩
  | .hbm, ⟨57, _⟩ => ⟨S32x128x4x64, .f32⟩
  | .hbm, ⟨58, _⟩ => ⟨S_, .f32⟩
  | .hbm, ⟨59, _⟩ => ⟨S32x128x4x1, .f32⟩
  | .hbm, ⟨60, _⟩ => ⟨S32x128x4x1, .f32⟩
  | .hbm, ⟨61, _⟩ => ⟨S32x128x4x1, .f32⟩
  | .hbm, ⟨62, _⟩ => ⟨S32x128x4x64, .f32⟩
  | .hbm, ⟨63, _⟩ => ⟨S32x128x4x64, .f32⟩
  | .hbm, ⟨64, _⟩ => ⟨S_, .f32⟩
  | .hbm, ⟨65, _⟩ => ⟨S128x128, .f32⟩
  | .hbm, ⟨66, _⟩ => ⟨S128x128, .i32⟩
  | .hbm, ⟨67, _⟩ => ⟨S_, .i32⟩
  | .hbm, ⟨68, _⟩ => ⟨S128x128, .i32⟩
  | .hbm, ⟨69, _⟩ => ⟨S128x128, .i32⟩
  | .hbm, ⟨70, _⟩ => ⟨S128x128, .i32⟩
  | .hbm, ⟨71, _⟩ => ⟨S128x128, .i1⟩
  | .hbm, ⟨72, _⟩ => ⟨S_, .f32⟩
  | .hbm, ⟨73, _⟩ => ⟨S128x128, .f32⟩
  | .hbm, ⟨74, _⟩ => ⟨S128x128, .f32⟩
  | .hbm, ⟨75, _⟩ => ⟨S1x128x128, .f32⟩
  | .hbm, ⟨76, _⟩ => ⟨S4x128x128, .f32⟩
  | .hbm, ⟨77, _⟩ => ⟨S4x128x128, .f32⟩
  | .hbm, ⟨78, _⟩ => ⟨S4x32x64x128, .f32⟩
  | .hbm, ⟨79, _⟩ => ⟨S32x128x4x64, .f32⟩
  | .hbm, ⟨80, _⟩ => ⟨S128x4, .f32⟩
  | .hbm, ⟨81, _⟩ => ⟨S128x4x1, .f32⟩
  | .hbm, ⟨82, _⟩ => ⟨S1x128x4x1, .f32⟩
  | .hbm, ⟨83, _⟩ => ⟨S32x128x4x64, .f32⟩
  | .hbm, ⟨84, _⟩ => ⟨S32x128x4x64, .f32⟩
  | .hbm, ⟨85, _⟩ => ⟨S4096x256, .f32⟩
  | .hbm, ⟨86, _⟩ => ⟨S4096x256, .f32⟩
  | .hbm, ⟨87, _⟩ => ⟨S4096x4x64, .f32⟩
  | .hbm, ⟨88, _⟩ => ⟨S4096x4x64, .f32⟩
  | .hbm, ⟨89, _⟩ => ⟨S_, .f32⟩
  | .hbm, ⟨90, _⟩ => ⟨S4096x4, .f32⟩
  | .hbm, ⟨91, _⟩ => ⟨S4096x4x1, .f32⟩
  | .hbm, ⟨92, _⟩ => ⟨S_, .f32⟩
  | .hbm, ⟨93, _⟩ => ⟨S4096x4x1, .f32⟩
  | .hbm, ⟨94, _⟩ => ⟨S4096x4x1, .f32⟩
  | .hbm, ⟨95, _⟩ => ⟨S_, .f32⟩
  | .hbm, ⟨96, _⟩ => ⟨S4096x4x1, .f32⟩
  | .hbm, ⟨97, _⟩ => ⟨S4096x4x1, .f32⟩
  | .hbm, ⟨98, _⟩ => ⟨S4096x4x1, .f32⟩
  | .hbm, ⟨99, _⟩ => ⟨S4096x4x64, .f32⟩
  | .hbm, ⟨100, _⟩ => ⟨S4096x4x64, .f32⟩
  | .hbm, ⟨101, _⟩ => ⟨S4096x256, .f32⟩
  | .hbm, ⟨102, _⟩ => ⟨S1x256, .f32⟩
  | .hbm, ⟨103, _⟩ => ⟨S4096x256, .f32⟩
  | .hbm, ⟨104, _⟩ => ⟨S4096x256, .f32⟩
  | .hbm, ⟨105, _⟩ => ⟨S4096x256, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_call0_v0 : Ref sig .tc := ⟨.hbm, 66, rfl⟩
abbrev main_call0_c : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_cst : Ref sig .tc := ⟨.hbm, 72, rfl⟩
abbrev main_call0_v5 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩

abbrev nD : Nat := 1
abbrev τ : Topo := Topo.v7x

variable {F : FTy → Type} [FloatOps F]
-- ==== FfnFwd.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S4x704x1024 : Shape := ⟨3, ![4, 704, 1024]⟩
abbrev S1x1024 : Shape := ⟨2, ![1, 1024]⟩
abbrev S4x4096x704 : Shape := ⟨3, ![4, 4096, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 17
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S4x704x1024, .f32⟩
  | .hbm, ⟨8, _⟩ => ⟨S4x704x1024, .bf16⟩
  | .hbm, ⟨9, _⟩ => ⟨S4x704x1024, .f32⟩
  | .hbm, ⟨10, _⟩ => ⟨S4x704x1024, .bf16⟩
  | .hbm, ⟨11, _⟩ => ⟨S4x704x1024, .f32⟩
  | .hbm, ⟨12, _⟩ => ⟨S4x704x1024, .bf16⟩
  | .hbm, ⟨13, _⟩ => ⟨S1x1024, .f32⟩
  | .hbm, ⟨14, _⟩ => ⟨S4096x1024, .f32⟩
  | .hbm, ⟨15, _⟩ => ⟨S4x4096x704, .bf16⟩
  | .hbm, ⟨16, _⟩ => ⟨S4x4096x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnFwdRefIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x2816, .f32⟩
  | .hbm, ⟨55, _⟩ => ⟨S4096x4x704, .f32⟩
  | .hbm, ⟨56, _⟩ => ⟨S4x4096x704, .f32⟩
  | .hbm, ⟨57, _⟩ => ⟨S4x4096x704, .bf16⟩
  | .hbm, ⟨58, _⟩ => ⟨S4096x2816, .f32⟩
  | .hbm, ⟨59, _⟩ => ⟨S4096x4x704, .f32⟩
  | .hbm, ⟨60, _⟩ => ⟨S4x4096x704, .f32⟩
  | .hbm, ⟨61, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== ProjFwd.lean ====
abbrev S4096x1024 : Shape := ⟨2, ![4096, 1024]⟩
abbrev S1024 : Shape := ⟨1, ![1024]⟩
abbrev S1024x3072 : Shape := ⟨2, ![1024, 3072]⟩
abbrev S1024x4x768 : Shape := ⟨3, ![1024, 4, 768]⟩
abbrev S4x1024x768 : Shape := ⟨3, ![4, 1024, 768]⟩
abbrev S1x1024 : Shape := ⟨2, ![1, 1024]⟩
abbrev S4096x3072 : Shape := ⟨2, ![4096, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S1024x4x768, .f32⟩
  | .hbm, ⟨4, _⟩ => ⟨S4x1024x768, .f32⟩
  | .hbm, ⟨5, _⟩ => ⟨S4x1024x768, .bf16⟩
  | .hbm, ⟨6, _⟩ => ⟨S1x1024, .f32⟩
  | .hbm, ⟨7, _⟩ => ⟨S4096x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x768, .bf16⟩
  | .local _ .vmem, ⟨4, _⟩ => ⟨S512x3072, .f32⟩
  | .local _ .vmem, ⟨5, _⟩ => ⟨S512x3072, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjFwdRefIdeal.lean ====
abbrev S4096x1024 : Shape := ⟨2, ![4096, 1024]⟩
abbrev S1024 : Shape := ⟨1, ![1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Common.lean ====
/-
  Arithmetic of the extended reals shared by the value proofs: the constants the programs name, a positive real factor
  taken through sums, and the root mean square of a row with its gradient.
-/
module

public import Idealize.ShloMosaic.Lib.Pointwise
public import Idealize.ShloMosaic.Lib.IdealHost

@[expose] public section

noncomputable section

namespace Cert.Common

open Idealize.ShloMosaic

/-! ## The constants -/

theorem bits_1024 : Ideal.ofBits .f32 0x44800000#32 = ((1024 : ℝ) : EReal) := by
  simp [Ideal.ofBits, Ideal.ieee, -EReal.coe_mul, -EReal.coe_neg]; norm_num
theorem bits_inv1024 : Ideal.ofBits .f32 0x3A800000#32 = ((1 / 1024 : ℝ) : EReal) := by
  simp [Ideal.ofBits, Ideal.ieee, -EReal.coe_mul, -EReal.coe_neg]; norm_num
theorem bits_half : Ideal.ofBits .f32 0x3F000000#32 = ((1 / 2 : ℝ) : EReal) := by
  simp [Ideal.ofBits, Ideal.ieee, -EReal.coe_mul, -EReal.coe_neg]; norm_num
theorem bits_neghalf : Ideal.ofBits .f32 0xBF000000#32 = ((-(1 / 2) : ℝ) : EReal) := by
  simp [Ideal.ofBits, Ideal.ieee, -EReal.coe_mul, -EReal.coe_neg]; norm_num
theorem bits_one : Ideal.ofBits .f32 0x3F800000#32 = ((1 : ℝ) : EReal) := by
  simp [Ideal.ofBits, Ideal.ieee, -EReal.coe_mul, -EReal.coe_neg]; norm_num
theorem bits_two : Ideal.ofBits .f32 0x40000000#32 = ((2 : ℝ) : EReal) := by
  simp [Ideal.ofBits, Ideal.ieee, -EReal.coe_mul, -EReal.coe_neg]; norm_num

/-- The programs' `EPS`, the f32 nearest to 1e-6. -/
def epsR : ℝ := 8796093 / 8796093022208
theorem epsR_pos : 0 < epsR := by unfold epsR; norm_num
theorem bits_eps : Ideal.ofBits .f32 0x358637BD#32 = ((epsR : ℝ) : EReal) := by
  unfold epsR; simp [Ideal.ofBits, Ideal.ieee, -EReal.coe_mul, -EReal.coe_neg]; norm_num

/-! ## Quotients by a real, real factors through sums -/

/-- A quotient by a real other than zero is a product with its inverse. -/
theorem div_real (x : EReal) {r : ℝ} (hr : r ≠ 0) : Ideal.div x ((r : ℝ) : EReal) = x * ((r⁻¹ : ℝ) : EReal) := by
  unfold Ideal.div
  rw [if_neg (by simpa using hr), EReal.coe_inv]

/-- A real factor that is not negative goes through a sum of two. -/
theorem nonneg_mul_add {r : ℝ} (hr : 0 ≤ r) (x y : EReal) : (r : EReal) * (x + y) = (r : EReal) * x + (r : EReal) * y :=
  EReal.left_distrib_of_nonneg_of_ne_top (by exact_mod_cast hr) (EReal.coe_ne_top r) x y

/-- A real factor that is not negative goes through a sum of extended reals. -/
theorem nonneg_mul_sum {ι : Type*} (s : Finset ι) {r : ℝ} (hr : 0 ≤ r) (f : ι → EReal) :
    (r : EReal) * ∑ k ∈ s, f k = ∑ k ∈ s, (r : EReal) * f k := by
  classical
  induction s using Finset.induction_on with
  | empty => simp
  | insert a s ha ih => rw [Finset.sum_insert ha, Finset.sum_insert ha, nonneg_mul_add hr, ih]

/-- The same from the right. -/
theorem nonneg_sum_mul {ι : Type*} (s : Finset ι) {r : ℝ} (hr : 0 ≤ r) (f : ι → EReal) :
    (∑ k ∈ s, f k) * (r : EReal) = ∑ k ∈ s, f k * (r : EReal) := by
  rw [mul_comm, nonneg_mul_sum s hr]
  exact Finset.sum_congr rfl fun k _ => mul_comm _ _

/-- A real factor that is not negative goes through a difference. -/
theorem nonneg_mul_sub {r : ℝ} (hr : 0 ≤ r) (x y : EReal) : (r : EReal) * (x - y) = (r : EReal) * x - (r : EReal) * y := by
  rw [sub_eq_add_neg, nonneg_mul_add hr, mul_neg, ← sub_eq_add_neg]

/-- Twice an extended real. -/
theorem add_self (x : EReal) : x + x = ((2 : ℝ) : EReal) * x := by
  have h := EReal.right_distrib_of_nonneg (a := (1 : EReal)) (b := 1) (c := x) zero_le_one zero_le_one
  rw [one_mul] at h
  rw [← h]
  congr 1
  rw [← EReal.coe_one, ← EReal.coe_add]; norm_num

/-- A sum of reals read in the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ## The root mean square of a row -/

variable {n : ℕ}

/-- The mean square of a row plus a constant: `c` is one over the row's length. -/
def msq (c e : ℝ) (x : Fin n → EReal) : EReal := (∑ k, x k * x k) * (c : EReal) + (e : EReal)

/-- Its reciprocal root, by which the norm scales the row. -/
def rms (c e : ℝ) (x : Fin n → EReal) : EReal := Ideal.rsqrt (msq c e x)

theorem sq_nonneg (a : EReal) : 0 ≤ a * a := by
  induction a using EReal.rec with
  | bot => simp
  | top => simp
  | coe r => rw [← EReal.coe_mul]; exact_mod_cast mul_self_nonneg r

/-- Either the mean square is infinite, or the whole row is real. -/
theorem msq_cases {c e : ℝ} (hc : 0 < c) (x : Fin n → EReal) :
    msq c e x = ⊤ ∨ ∃ y : Fin n → ℝ, (∀ k, x k = (y k : EReal)) ∧ msq c e x = (((∑ k, y k * y k) * c + e : ℝ) : EReal) := by
  by_cases h : ∃ k, x k = ⊤ ∨ x k = ⊥
  · obtain ⟨k, hk⟩ := h
    left
    have hs : ∑ k, x k * x k = ⊤ := by
      refine top_le_iff.mp ?_
      calc (⊤ : EReal) = x k * x k := by rcases hk with hk | hk <;> simp [hk]
        _ ≤ _ := Finset.single_le_sum (f := fun k => x k * x k) (fun k _ => sq_nonneg _) (Finset.mem_univ k)
    unfold msq
    rw [hs, EReal.top_mul_coe_of_pos hc, EReal.top_add_coe]
  · push Not at h
    right
    refine ⟨fun k => (x k).toReal, fun k => (EReal.coe_toReal (h k).1 (h k).2).symm, ?_⟩
    unfold msq
    rw [EReal.coe_add, EReal.coe_mul, coe_sum]
    congr 2
    exact Finset.sum_congr rfl fun k _ => by rw [EReal.coe_mul, EReal.coe_toReal (h k).1 (h k).2]

theorem rsqrt_pos {s : ℝ} (hs : 0 < s) : Ideal.rsqrt (s : EReal) = (((Real.sqrt s)⁻¹ : ℝ) : EReal) := by
  show (if s < 0 then (⊥ : EReal) else if s = 0 then ⊤ else ((Real.sqrt s)⁻¹ : ℝ)) = _
  rw [if_neg hs.le.not_gt, if_neg hs.ne']

/-- Either the reciprocal root is zero, with the mean square infinite, or the row is real and so are both. -/
theorem rms_cases {c e : ℝ} (hc : 0 < c) (he : 0 < e) (x : Fin n → EReal) :
    (msq c e x = ⊤ ∧ rms c e x = 0)
    ∨ ∃ (y : Fin n → ℝ) (s : ℝ), 0 < s ∧ (∀ k, x k = (y k : EReal)) ∧ msq c e x = (s : EReal) ∧ rms c e x = (((Real.sqrt s)⁻¹ : ℝ) : EReal) := by
  rcases msq_cases hc x with h | ⟨y, hy, hs⟩
  · exact .inl ⟨h, by unfold rms; rw [h]; rfl⟩
  · have hp : 0 < (∑ k, y k * y k) * c + e :=
      add_pos_of_nonneg_of_pos (mul_nonneg (Finset.sum_nonneg fun k _ => mul_self_nonneg _) hc.le) he
    exact .inr ⟨y, _, hp, hy, hs, by unfold rms; rw [hs, rsqrt_pos hp]⟩

/-- THE GRADIENT OF THE NORM, as a kernel writes it (left: the row's scale times the cotangent less its projection on the
    normed row) and as the derivative of the forward line gives it (right), for any cotangent `a`. -/
theorem rms_grad {c e : ℝ} (hc : 0 < c) (he : 0 < e) (x a : Fin n → EReal) (l : Fin n) :
    rms c e x * (a l - x l * rms c e x * ((∑ k, a k * (x k * rms c e x)) * (c : EReal)))
      = a l * rms c e x
        + x l * ((∑ k, x k * a k) * (((-(1 / 2) : ℝ) : EReal) * Ideal.div (rms c e x) (msq c e x)) * (c : EReal))
        + ((∑ k, x k * a k) * (((-(1 / 2) : ℝ) : EReal) * Ideal.div (rms c e x) (msq c e x)) * (c : EReal)) * x l := by
  rcases rms_cases hc he x with ⟨h, h0⟩ | ⟨y, s, hs, hy, hm, hr⟩
  · rw [h0]
    have hd : Ideal.div 0 (msq c e x) = 0 := by unfold Ideal.div; rw [h]; simp
    rw [hd]; simp
  · rw [hm, hr]
    have hsq : 0 < Real.sqrt s := Real.sqrt_pos.mpr hs
    have hr0 : (0 : ℝ) ≤ (Real.sqrt s)⁻¹ := (inv_pos.mpr hsq).le
    have hss : Real.sqrt s * Real.sqrt s = s := Real.mul_self_sqrt hs.le
    generalize Real.sqrt s = q at *
    subst hss
    have hq : q ≠ 0 := hsq.ne'
    rw [div_real _ hs.ne', nonneg_mul_sub hr0, mul_comm (a l), sub_eq_add_neg, add_assoc]
    congr 1
    have hsum : ∑ k, a k * (x k * ((q⁻¹ : ℝ) : EReal)) = ((q⁻¹ : ℝ) : EReal) * ∑ k, x k * a k := by
      rw [nonneg_mul_sum _ hr0]
      exact Finset.sum_congr rfl fun k _ => by ac_rfl
    rw [hsum, mul_comm _ (x l), add_self, hy l]
    generalize ∑ k, x k * a k = S
    have : ∀ u v : ℝ, u = v → (u : EReal) * S = (v : EReal) * S := fun u v h => by rw [h]
    calc -(((q⁻¹ : ℝ) : EReal) * ((y l : EReal) * ((q⁻¹ : ℝ) : EReal) * (((q⁻¹ : ℝ) : EReal) * S * (c : EReal))))
        = ((-(q⁻¹ * (y l * q⁻¹ * (q⁻¹ * c))) : ℝ) : EReal) * S := by
          simp only [EReal.coe_neg, EReal.coe_mul]; rw [EReal.neg_mul]; congr 1; ac_rfl
      _ = ((2 * (y l * ((-(1 / 2)) * (q⁻¹ * (q * q)⁻¹) * c)) : ℝ) : EReal) * S := by
          refine this _ _ ?_
          field_simp
      _ = _ := by simp only [EReal.coe_mul]; ac_rfl

/-! ## Rows of 1024 -/

theorem div_1024 (x : EReal) : Ideal.div x (Ideal.ofBits .f32 0x44800000#32) = x * ((1 / 1024 : ℝ) : EReal) := by
  rw [bits_1024, div_real _ (by norm_num)]; norm_num

/-- The reciprocal root mean square of a row of 1024. -/
abbrev R (x : Fin 1024 → EReal) : EReal := rms (1 / 1024) epsR x

theorem rms_of (x : Fin 1024 → EReal) :
    Ideal.rsqrt ((∑ k, x k * x k) * ((1 / 1024 : ℝ) : EReal) + Ideal.ofBits .f32 0x358637BD#32) = R x := by
  rw [bits_eps]; rfl

theorem msq_of (x : Fin 1024 → EReal) :
    (∑ k, x k * x k) * ((1 / 1024 : ℝ) : EReal) + Ideal.ofBits .f32 0x358637BD#32 = msq (1 / 1024) epsR x := by
  rw [bits_eps]; rfl

/-- The gradient of a row of 1024 through its norm, at cotangent `a` of the normed row, as the kernels write it. -/
def normGrad (x a : Fin 1024 → EReal) (l : Fin 1024) : EReal :=
  R x * (a l - x l * R x * ((∑ k, a k * (x k * R x)) * ((1 / 1024 : ℝ) : EReal)))

/-- … and as the derivative of the forward lines has it. -/
theorem normGrad_eq (x a : Fin 1024 → EReal) (l : Fin 1024) :
    normGrad x a l = a l * R x
      + x l * ((∑ k, x k * a k) * (((-(1 / 2) : ℝ) : EReal) * Ideal.div (R x) (msq (1 / 1024) epsR x)) * ((1 / 1024 : ℝ) : EReal))
      + ((∑ k, x k * a k) * (((-(1 / 2) : ℝ) : EReal) * Ideal.div (R x) (msq (1 / 1024) epsR x)) * ((1 / 1024 : ℝ) : EReal)) * x l :=
  rms_grad (by norm_num) epsR_pos x a l

/-- An index of a single row. -/
theorem eq_ix2_row {n : ℕ} (j : (⟨2, ![1, n]⟩ : Shape).Idx) : j = ix2 (0 : Fin 1) (j 1) := by
  funext a; match a with | ⟨0, _⟩ => exact Subsingleton.elim (α := Fin 1) _ _ | ⟨1, _⟩ => rfl

/-! ## Real values -/

/-- An extended real that is a real. -/
def IsReal (x : EReal) : Prop := ∃ y : ℝ, x = (y : EReal)

theorem IsReal.coe (y : ℝ) : IsReal (y : EReal) := ⟨y, rfl⟩
theorem IsReal.mul {x y : EReal} : IsReal x → IsReal y → IsReal (x * y) := by
  rintro ⟨a, rfl⟩ ⟨b, rfl⟩; exact ⟨a * b, (EReal.coe_mul a b).symm⟩
theorem IsReal.add {x y : EReal} : IsReal x → IsReal y → IsReal (x + y) := by
  rintro ⟨a, rfl⟩ ⟨b, rfl⟩; exact ⟨a + b, (EReal.coe_add a b).symm⟩
theorem IsReal.sum {ι : Type*} (s : Finset ι) {f : ι → EReal} (h : ∀ k, IsReal (f k)) : IsReal (∑ k ∈ s, f k) := by
  choose g hg using h
  exact ⟨∑ k ∈ s, g k, by rw [coe_sum]; exact Finset.sum_congr rfl fun k _ => hg k⟩

theorem IsReal.of_lt {x : EReal} (h : Ideal.cmp .olt (max x (-x)) (Ideal.ofBits .f32 0x7F800000#32) = 1#1) : IsReal x := by
  induction x using EReal.rec with
  | coe y => exact ⟨y, rfl⟩
  | top => exfalso; revert h; simp [Ideal.cmp, Ideal.ofBits, Ideal.ieee]
  | bot => exfalso; revert h; simp [Ideal.cmp, Ideal.ofBits, Ideal.ieee]

/-- A normed entry is a real whatever the row. -/
theorem IsReal.normed (x : Fin 1024 → EReal) (l : Fin 1024) : IsReal (x l * R x) := by
  rcases rms_cases (c := 1 / 1024) (by norm_num) epsR_pos x with ⟨_, h⟩ | ⟨y, s, _, hy, _, h⟩
  · exact ⟨0, by show x l * rms (1 / 1024) epsR x = _; rw [h, mul_zero]; rfl⟩
  · exact ⟨y l * (Real.sqrt s)⁻¹, by show x l * rms (1 / 1024) epsR x = _; rw [h, hy, EReal.coe_mul]⟩

/-! ## The logistic function -/

/-- The logistic function. -/
abbrev sgm (g : EReal) : EReal := Ideal.div 1 (1 + Ideal.exp (-g))

theorem sgm_top : sgm ⊤ = 1 := by
  show Ideal.div 1 (1 + 0) = 1
  simp [Ideal.div]
theorem sgm_bot : sgm ⊥ = 0 := by
  show Ideal.div 1 (1 + ⊤) = 0
  rw [show (1 : EReal) + ⊤ = ⊤ from EReal.add_top_of_ne_bot (EReal.coe_ne_bot 1)]
  simp [Ideal.div]
theorem sgm_coe (g : ℝ) : sgm (g : EReal) = (((1 + Real.exp (-g))⁻¹ : ℝ) : EReal) := by
  show Ideal.div 1 (1 + ((Real.exp (-g) : ℝ) : EReal)) = _
  rw [show (1 : EReal) + ((Real.exp (-g) : ℝ) : EReal) = ((1 + Real.exp (-g) : ℝ) : EReal) from by norm_cast,
    div_real _ (by positivity), one_mul]

/-- The derivative of the gate times a real, as the kernels write it and as the derivative of the forward lines has it. -/
theorem gate_grad {c : EReal} (hc : IsReal c) (g : EReal) :
    c * (sgm g * (1 + g * (1 - sgm g))) = c * sgm g + g * c * (sgm g * (1 - sgm g)) := by
  obtain ⟨c, rfl⟩ := hc
  induction g using EReal.rec with
  | top => rw [sgm_top, show (1 : EReal) - 1 = 0 from EReal.sub_self (EReal.coe_ne_top 1) (EReal.coe_ne_bot 1)]; simp
  | bot => rw [sgm_bot]; simp
  | coe g => rw [sgm_coe]; norm_cast; ring

end Cert.Common

end
-- ==== Proof.LossClaim.lean ====
module

public import proofs.«01_k».proof.Defs
public import proofs.«01_k».proof.Proof.Common
public import proofs.«01_k».proof.Proof.Gen.Loss.Frame
public import proofs.«01_k».proof.Proof.Gen.LossIdeal.Value
public import proofs.«01_k».proof.Proof.Gen.LossRefIdeal.Run
public import proofs.«01_k».proof.Proof.Gen.LossRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Common

namespace Cert.LossClaim

/-! ## One row of the loss head -/

variable {n : ℕ}

/-- The error of a row: the normed row times the gain, less the target. -/
def er (x g t : Fin 1024 → EReal) (k : Fin 1024) : EReal := x k * R x * g k - t k

/-- Its cotangent. -/
def dy (x g t : Fin 1024 → EReal) (k : Fin 1024) : EReal := er x g t k * ((1 / 1024 : ℝ) : EReal)

/-- The row's gradient, as the kernel writes it. -/
def dh (x g t : Fin 1024 → EReal) (l : Fin 1024) : EReal :=
  R x * (dy x g t l * g l - x l * R x * ((∑ k, dy x g t k * g k * (x k * R x)) * ((1 / 1024 : ℝ) : EReal)))

/-- The row's mean square error. -/
def mse (x g t : Fin 1024 → EReal) : EReal := (∑ k, er x g t k * er x g t k) * ((1 / 1024 : ℝ) : EReal)

end Cert.LossClaim
open Cert.LossClaim

/-! ## The kernel's payloads at an index -/

namespace Cert.LossIdeal.Payload

open Cert.LossIdeal Cert.LossIdeal.Gen

variable (x : FVec Ideal S512x1024 .f32) (g : FVec Ideal S1x1024 .f32) (t : FVec Ideal S512x1024 .f32)

theorem dh_at (r : Fin 512) (l : Fin 1024) :
    (k0_pay2 (F := Ideal) (k0_pay5 g) (k0_pay6 x) (k0_pay7 x) (k0_pay10 x g t) (ix2 r l) : EReal)
      = dh (fun k => x (ix2 r k)) (fun k => g (ix2 0 k)) (fun k => t (ix2 r k)) l := by
  pointwise [k0_pay2, k0_pay5, k0_pay6, k0_pay7, k0_pay8, k0_pay10]
  simp only [div_1024, rms_of, bits_inv1024]
  rfl

theorem loss_at (a : FVec Ideal S1x128 .f32) (l : Fin 128) :
    (k0_pay9 (F := Ideal) x g t a (ix2 0 l) : EReal)
      = a (ix2 0 l) + ((1 / 2 : ℝ) : EReal) * ∑ r, mse (fun k => x (ix2 r k)) (fun k => g (ix2 0 k)) (fun k => t (ix2 r k)) := by
  pointwise [k0_pay9, k0_pay5, k0_pay6, k0_pay7, k0_pay8]
  simp only [div_1024, rms_of, bits_half]
  rfl

theorem dgain_at (a : FVec Ideal S1x1024 .f32) (l : Fin 1024) :
    (k0_pay1 (F := Ideal) (k0_pay7 x) (k0_pay10 x g t) a (ix2 0 l) : EReal)
      = a (ix2 0 l) + ∑ r, dy (fun k => x (ix2 r k)) (fun k => g (ix2 0 k)) (fun k => t (ix2 r k)) l * (x (ix2 r l) * R fun k => x (ix2 r k)) := by
  pointwise [k0_pay1, k0_pay5, k0_pay6, k0_pay7, k0_pay8, k0_pay10]
  simp only [div_1024, rms_of, bits_inv1024]
  rfl

theorem zero_loss (l : Fin 128) : (k0_pay3 (F := Ideal) (ix2 0 l) : EReal) = 0 := by
  pointwise [k0_pay3]
theorem zero_dgain (l : Fin 1024) : (k0_pay4 (F := Ideal) (ix2 0 l) : EReal) = 0 := by
  pointwise [k0_pay4]
end Cert.LossIdeal.Payload

namespace Cert.LossRefIdeal.Payload
open Cert.LossRefIdeal Cert.LossRefIdeal.Gen Cert.LossRefIdeal.Read
variable (x : FVec Ideal S4096x1024 .f32) (g : FVec Ideal S1024 .f32) (t : FVec Ideal S4096x1024 .f32)

/-- The reference's cotangent of a square: half of twice the error over the row's length. -/
theorem half_two (z : EReal) : ((1 / 2 : ℝ) : EReal) * ((1 / 1024 : ℝ) : EReal) * (((2 : ℝ) : EReal) * z) = z * ((1 / 1024 : ℝ) : EReal) := by
  rw [← mul_assoc, ← EReal.coe_mul, ← EReal.coe_mul, mul_comm]; norm_num

/-- The reference's gradient in its argument, by rows. -/
theorem dh_at (r : Fin 4096) (l : Fin 1024) :
    (val_main_v50 (F := Ideal) x g t (ix2 r l) : EReal) = dh (fun k => x (ix2 r k)) (fun k => g (ix1 k)) (fun k => t (ix2 r k)) l := by
  refine Eq.trans ?_ (rms_grad (by norm_num) epsR_pos (fun k => x (ix2 r k))
    (fun k => dy (fun k => x (ix2 r k)) (fun k => g (ix1 k)) (fun k => t (ix2 r k)) k * g (ix1 k)) l).symm
  pointwise [val_main_v50,val_main_v49,val_main_v48,val_main_v47,val_main_v46,val_main_v45,val_main_v44,val_main_v43,val_main_v42,val_main_v41,val_main_v40,val_main_v39,val_main_v38,val_main_v37,val_main_v35,val_main_v34,val_main_v30,val_main_v29,val_main_v28,val_main_v27,val_main_v26,val_main_v25,val_main_v19,val_main_v18,val_main_v16,val_main_v15,val_main_v14,val_main_v13,val_main_v12,val_main_v11,val_main_v10,val_main_v9,val_main_v8,val_main_v7,val_main_v6,val_main_v5,val_main_v4,val_main_v3,val_main_v2,val_main_v1,val_main_v0,val_main_cst,val_main_cst_0,val_main_cst_1,val_main_cst_2,val_main_cst_3,val_main_cst_4,val_main_cst_5,val_main_cst_6,val_main_cst_7,val_main_cst_8,val_main_cst_9,val_main_cst_10,val_main_cst_11,val_main_cst_12,val_main_cst_13,val_main_cst_14,val_main_cst_15]
  simp only [div_1024, msq_of, bits_neghalf, bits_half, bits_two, half_two]
  rw [Fin.sum_univ_one]
  rfl

theorem loss_at (l : Fin 128) :
    (val_main_v51 (F := Ideal) x g t (ix2 0 l) : EReal) = ((1 / 2 : ℝ) : EReal) * ∑ r : Fin 4096, mse (fun k => x (ix2 r k)) (fun k => g (ix1 k)) (fun k => t (ix2 r k)) := by
  pointwise [val_main_v51,val_main_v24,val_main_v23,val_main_v22,val_main_v21,val_main_v20,val_main_v17,val_main_v16,val_main_v15,val_main_v14,val_main_v13,val_main_v12,val_main_v11,val_main_v7,val_main_v6,val_main_v5,val_main_v4,val_main_v3,val_main_v2,val_main_v1,val_main_v0,val_main_cst,val_main_cst_0,val_main_cst_1,val_main_cst_4,val_main_cst_5,val_main_cst_6,val_main_cst_7]
  simp only [div_1024, msq_of, bits_half]
  rfl

theorem dgain_at (l : Fin 1024) :
    (val_main_v52 (F := Ideal) x g t (ix2 0 l) : EReal)
      = ∑ r : Fin 4096, dy (fun k => x (ix2 r k)) (fun k => g (ix1 k)) (fun k => t (ix2 r k)) l * (x (ix2 r l) * R fun k => x (ix2 r k)) := by
  pointwise [val_main_v52,val_main_v36,val_main_v33,val_main_v32,val_main_v31,val_main_v30,val_main_v29,val_main_v28,val_main_v27,val_main_v26,val_main_v25,val_main_v19,val_main_v18,val_main_v16,val_main_v15,val_main_v14,val_main_v13,val_main_v12,val_main_v11,val_main_v7,val_main_v6,val_main_v5,val_main_v4,val_main_v3,val_main_v2,val_main_v1,val_main_v0,val_main_cst,val_main_cst_0,val_main_cst_1,val_main_cst_2,val_main_cst_3,val_main_cst_4,val_main_cst_5,val_main_cst_6,val_main_cst_7,val_main_cst_8,val_main_cst_9,val_main_cst_10,val_main_cst_11,val_main_cst_12,val_main_cst_13]
  simp only [div_1024, msq_of, bits_half, bits_two, half_two]
  rw [Fin.sum_univ_one]
  exact Finset.sum_congr rfl fun r _ => mul_comm _ _

end Cert.LossRefIdeal.Payload

/-! ## From the blocks of the run to the arrays -/

namespace Cert.LossIdeal.Value

open Cert.LossIdeal Cert.LossIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, _)

abbrev X0 (c : Dev nD) : FVec Ideal S4096x1024 .f32 := m ((c : Thread nD τ).loc main_arg0)
abbrev X1 (c : Dev nD) : FVec Ideal S1024 .f32 := m ((c : Thread nD τ).loc main_arg1)
abbrev X2 (c : Dev nD) : FVec Ideal S4096x1024 .f32 := m ((c : Thread nD τ).loc main_arg2)

/-- Row `r` of point `t`'s block is row `t * 512 + r` of the array. -/
def row (t : Fin cfg0.N) (r : Fin 512) : Fin 4096 := ⟨t.val * 512 + r.val, by have := lt_of_lt_of_eq t.isLt N_0; omega⟩

theorem read0 (c : Dev nD) (t : Fin cfg0.N) (r : Fin 512) (k : Fin 1024) : iblk m c 0 t (ix2 r k) = X0 m c (ix2 (row t r) k) := by
  blk_ext [iblk, V, idx t, row]
theorem read1 (c : Dev nD) (t : Fin cfg0.N) (k : Fin 1024) : iblk m c 1 t (ix2 (0 : Fin 1) k) = X1 m c (ix1 k) := by
  blk_simp [iblk, idx t]
  entry_read
  pointwise
  blk_ext [idx t]
theorem read2 (c : Dev nD) (t : Fin cfg0.N) (r : Fin 512) (k : Fin 1024) : iblk m c 2 t (ix2 r k) = X2 m c (ix2 (row t r) k) := by
  blk_ext [iblk, V, idx t, row]

theorem out3 (c : Dev nD) (t : Fin cfg0.N) (r : Fin 512) (l : Fin 1024) :
    (outsAt0 m c t.val t.isLt).1 (ix2 r l)
      = Cert.LossRefIdeal.Read.val_main_v50 (F := Ideal) (X0 m c) (X1 m c) (X2 m c) (ix2 (row t r) l) := by
  have key : (outsAt0 m c t.val t.isLt).1 (ix2 r l) = k0_pay2 (F := Ideal) (k0_pay5 (iblk m c 1 t)) (k0_pay6 (iblk m c 0 t)) (k0_pay7 (iblk m c 0 t)) (k0_pay10 (iblk m c 0 t) (iblk m c 1 t) (iblk m c 2 t)) (ix2 r l) := by
    by_cases h : t.val % 8 = 0
    · rw [outsAt0_A m c t h]; frame_out
    · rw [outsAt0_B m c t h]; frame_out
  refine key.trans ((Payload.dh_at _ _ _ r l).trans ?_)
  refine Eq.trans ?_ (Cert.LossRefIdeal.Payload.dh_at _ _ _ (row t r) l).symm
  simp only [read0, read1, read2]

theorem final3 (c : Dev nD) : (dats m 0 c).arrAt 3 (cfgs 0).N
    = Cert.LossRefIdeal.Read.val_main_v50 (F := Ideal) (X0 m c) (X1 m c) (X2 m c) := by
  refine (dats m 0 c).arrAt_eq_of_covers 3 _ (by decide +kernel) fun t hf y => ?_
  blk_simp
  rw [after0_3, eq_ix2 y]
  refine (out3 m c t (y 0) (y 1)).trans (congrArg _ ?_)
  blk_ext [idx t, row]

theorem final4 (c : Dev nD) : (dats m 0 c).arrAt 4 (cfgs 0).N
    = Cert.LossRefIdeal.Read.val_main_v51 (F := Ideal) (X0 m c) (X1 m c) (X2 m c) := by
  refine (dats m 0 c).arrAt_eq_of_after_last 4 t0_7 (by decide +kernel) _ fun j => ?_
  blk_simp
  rw [after0_4, Pipeline.eq_sum_fin_of_reset_step_apply_last (fun n h => (outsAt0 m c n h).2.1) 8 (fun _ => 0)
    (fun t j => ((1 / 2 : ℝ) : EReal) * ∑ r, mse (fun k => X0 m c (ix2 (row t r) k)) (fun k => X1 m c (ix1 k)) (fun k => X2 m c (ix2 (row t r) k)))
    (fun t h j => by
      rw [outsAt0_A m c t h]; frame_out; rw [eq_ix2_row j]
      refine (Payload.loss_at _ _ _ _ (j 1)).trans ?_
      simp only [read0, read1, read2]
      congr 1; exact Payload.zero_loss (j 1))
    (fun t h j => by
      rw [outsAt0_B m c t h]; frame_out; rw [eq_ix2_row j]
      refine (Payload.loss_at _ _ _ _ (j 1)).trans ?_
      simp only [read0, read1, read2]; rfl) (le_of_eq N_0) t0_7 rfl j, zero_add]
  rw [eq_ix2_row j]
  refine Eq.trans ?_ (Cert.LossRefIdeal.Payload.loss_at _ _ _ (j 1)).symm
  rw [← nonneg_mul_sum _ (by norm_num)]
  congr 1
  refine Fin.sum_mul_add_congr fun t r hl => ?_
  rfl

/-- What point `t` adds to the gain's gradient. -/
def part5 (c : Dev nD) (t : Fin cfg0.N) (l : Fin 1024) : EReal :=
  ∑ r, dy (fun k => X0 m c (ix2 (row t r) k)) (fun k => X1 m c (ix1 k)) (fun k => X2 m c (ix2 (row t r) k)) l
    * (X0 m c (ix2 (row t r) l) * R fun k => X0 m c (ix2 (row t r) k))

theorem step5 (c : Dev nD) (t : Fin cfg0.N) (a : FVec Ideal S1x1024 .f32) (j : S1x1024.Idx) :
    (k0_pay1 (F := Ideal) (k0_pay7 (iblk m c 0 t)) (k0_pay10 (iblk m c 0 t) (iblk m c 1 t) (iblk m c 2 t)) a j : EReal)
      = a j + part5 m c t (j 1) := by
  obtain ⟨l, rfl⟩ : ∃ l : Fin 1024, j = ix2 0 l := ⟨j 1, eq_ix2_row j⟩
  refine (Payload.dgain_at _ _ _ _ l).trans ?_
  simp only [read0, read1, read2]
  rfl

theorem zero5 (j : S1x1024.Idx) : (k0_pay4 (F := Ideal) j : EReal) = 0 := by
  rw [eq_ix2_row j]; exact Payload.zero_dgain (j 1)

theorem final5 (c : Dev nD) : (dats m 0 c).arrAt 5 (cfgs 0).N
    = Cert.LossRefIdeal.Read.val_main_v52 (F := Ideal) (X0 m c) (X1 m c) (X2 m c) := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => 0)
    (fun t j => part5 m c t (j 1))
    (fun t h j => by rw [outsAt0_A m c t h]; frame_out; rw [step5, zero5])
    (fun t h j => by rw [outsAt0_B m c t h]; frame_out; rw [step5]) (le_of_eq N_0) t0_7 rfl j, zero_add]
  rw [eq_ix2_row j]
  refine Eq.trans ?_ (Cert.LossRefIdeal.Payload.dgain_at _ _ _ (j 1)).symm
  exact Fin.sum_mul_add_congr fun t r hl => rfl

end Cert.LossIdeal.Value

/-! ## The claims -/

namespace Cert.Proof.Loss

theorem frame_ref : Cert.quiescent_LossRefIdeal := fun m ρ _ =>
  (θ_run Cert.LossRefIdeal.defs _ _).mono
    (fun r h => ⟨fun c => (h c).2.2.2, Idealize.ShloMosaic.sem_eq_zero_of_no_sems (by decide) r.2⟩)
    (Cert.LossRefIdeal.Value.run (F := Ideal) m ρ)

theorem algebraic : Cert.algebraic_LossIdeal_LossRefIdeal := by
  pair_intro
  · run_from Cert.LossIdeal.Value.run_blocks m g
  · run_from Cert.LossRefIdeal.Value.run m' g'
    · rw [Cert.LossRefIdeal.Read.val_main_v50_eq, (hagree c).1, (hagree c).2.1, (hagree c).2.2]
      exact (Cert.LossIdeal.Value.final3 m c).symm
    · exact (Cert.LossRefIdeal.Read.val_main_v51_eq _ _ _).trans (Cert.LossIdeal.Value.final4 m c).symm
    · exact (Cert.LossRefIdeal.Read.val_main_v52_eq _ _ _).trans (Cert.LossIdeal.Value.final5 m c).symm

end Cert.Proof.Loss

end
-- ==== Proof.ProjClaim.lean ====
module

public import proofs.«01_k».proof.Defs
public import proofs.«01_k».proof.Proof.Common
public import proofs.«01_k».proof.Proof.Gen.Proj.Frame
public import proofs.«01_k».proof.Proof.Gen.ProjIdeal.Value
public import proofs.«01_k».proof.Proof.Gen.ProjRefIdeal.Run
public import proofs.«01_k».proof.Proof.Gen.ProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Common

/-! ## The kernel's payloads at an index -/

namespace Cert.ProjIdeal.Payload

open Cert.ProjIdeal Cert.ProjIdeal.Gen

variable (d x res : FVec Ideal S512x1024 .f32) (g : FVec Ideal S1x1024 .f32)

theorem dh_at (r : Fin 512) (l : Fin 1024) :
    (k0_pay8 (F := Ideal) d x (k0_pay3 x) g res (ix2 r l) : EReal)
      = res (ix2 r l) + normGrad (fun k => x (ix2 r k)) (fun k => d (ix2 r k) * g (ix2 0 k)) l := by
  pointwise [k0_pay8, k0_pay3, k0_pay4, k0_pay5]
  simp only [div_1024, rms_of]
  rfl

theorem dgain_at (a : FVec Ideal S1x1024 .f32) (l : Fin 1024) :
    (k0_pay7 (F := Ideal) d x (k0_pay3 x) a (ix2 0 l) : EReal)
      = a (ix2 0 l) + ∑ r, d (ix2 r l) * (x (ix2 r l) * R fun k => x (ix2 r k)) := by
  pointwise [k0_pay7, k0_pay3, k0_pay4, k0_pay5]
  simp only [div_1024, rms_of]

theorem xn_at (r : Fin 512) (l : Fin 1024) :
    (k0_pay6 (F := Ideal) x (k0_pay3 x) g (ix2 r l) : EReal) = x (ix2 r l) * (R fun k => x (ix2 r k)) * g (ix2 0 l) := by
  pointwise [k0_pay6, k0_pay3, k0_pay4, k0_pay5]
  simp only [div_1024, rms_of]

theorem zero_at (l : Fin 1024) : (k0_pay1 (F := Ideal) (ix2 0 l) : EReal) = 0 := by
  pointwise [k0_pay1]

/-- The cotangent of the normed rows of a block: four shards of 768 columns each. -/
def dxOf (a : Vec Ideal S512x3072 .bf16) (b : Vec Ideal S4x1024x768 .bf16) : FVec Ideal S512x1024 .f32 :=
  k0_pay2 (F := Ideal)
    (View.ld (Val := Elt Ideal) (e' := .bf16) a (Rect.unit ![0, 0] ![512, 768] inb_S512x3072_S512x768_0_0)) (View.ld (Val := Elt Ideal) (e' := .bf16) b (Rect.unit ![0, 0, 0] ![1, 1024, 768] inb_S4x1024x768_S1x1024x768_0_0_0))
    (View.ld (Val := Elt Ideal) (e' := .bf16) a (Rect.unit ![0, 768] ![512, 768] inb_S512x3072_S512x768_0_768)) (View.ld (Val := Elt Ideal) (e' := .bf16) b (Rect.unit ![1, 0, 0] ![1, 1024, 768] inb_S4x1024x768_S1x1024x768_1_0_0))
    (View.ld (Val := Elt Ideal) (e' := .bf16) a (Rect.unit ![0, 1536] ![512, 768] inb_S512x3072_S512x768_0_1536)) (View.ld (Val := Elt Ideal) (e' := .bf16) b (Rect.unit ![2, 0, 0] ![1, 1024, 768] inb_S4x1024x768_S1x1024x768_2_0_0))
    (View.ld (Val := Elt Ideal) (e' := .bf16) a (Rect.unit ![0, 2304] ![512, 768] inb_S512x3072_S512x768_0_2304)) (View.ld (Val := Elt Ideal) (e' := .bf16) b (Rect.unit ![3, 0, 0] ![1, 1024, 768] inb_S4x1024x768_S1x1024x768_3_0_0))

theorem dx_at (a : Vec Ideal S512x3072 .bf16) (b : Vec Ideal S4x1024x768 .bf16) (r : Fin 512) (l : Fin 1024) :
    (dxOf a b (ix2 r l) : EReal)
      = ∑ s : Fin 4, ∑ k : Fin 768, (a (ix2 r ⟨s.val * 768 + k.val, by omega⟩) * b (ix3 s l k) : EReal) := by
  pointwise [dxOf, k0_pay2]
  rw [Fin.sum_univ_four]
  refine congrArg₂ (· + ·) (congrArg₂ (· + ·) (congrArg₂ (· + ·) ?_ ?_) ?_) ?_ <;> refine Finset.sum_congr rfl fun k _ => ?_ <;>
    exact congrArg (fun n : Fin 3072 => HMul.hMul (α := EReal) (a (ix2 r n)) _) (Fin.ext (by simp))

end Cert.ProjIdeal.Payload

/-! ## The reference's terms at an index -/

namespace Cert.ProjRefIdeal.Payload

open Cert.ProjRefIdeal Cert.ProjRefIdeal.Gen Cert.ProjRefIdeal.Read

variable (h : FVec Ideal S4096x1024 .f32) (g : FVec Ideal S1024 .f32) (w : FVec Ideal S1024x3072 .f32)
  (res : FVec Ideal S4096x1024 .f32) (dz : FVec Ideal S4096x3072 .f32)

/-- The cotangent of the normed row. -/
def dxn (r : Fin 4096) (l : Fin 1024) : EReal := ∑ n : Fin 3072, dz (ix2 r n) * w (ix2 l n)

theorem dh_at (r : Fin 4096) (l : Fin 1024) :
    (val_main_v38 (F := Ideal) h g w res dz (ix2 r l) : EReal)
      = res (ix2 r l) + normGrad (fun k => h (ix2 r k)) (fun k => dxn w dz r k * g (ix1 k)) l := by
  rw [normGrad_eq]
  pointwise [val_main_v38, val_main_v36, val_main_v29, val_main_v28, val_main_v22, val_main_v17, val_main_v21, val_main_v13, val_main_v27, val_main_v7, val_main_v6, val_main_v4, val_main_v2, val_main_v1, val_main_cst, val_main_v0, val_main_v3, val_main_cst_0, val_main_v5, val_main_cst_1, val_main_v35, val_main_v34, val_main_v33, val_main_cst_7, val_main_v32, val_main_v30, val_main_v10, val_main_v8, val_main_v9, val_main_cst_2, val_main_v26, val_main_v25, val_main_cst_5, val_main_v24, val_main_v31, val_main_cst_6, val_main_v37]
  simp only [div_1024, msq_of, bits_neghalf]
  rw [Fin.sum_univ_one, add_assoc, add_assoc, add_assoc]
  rfl

theorem dgain_at (l : Fin 1024) :
    (val_main_v39 (F := Ideal) h w dz (ix2 0 l) : EReal)
      = ∑ r : Fin 4096, dxn w dz r l * (h (ix2 r l) * R fun k => h (ix2 r k)) := by
  pointwise [val_main_v39, val_main_v23, val_main_cst_4, val_main_v20, val_main_v19, val_main_cst_3, val_main_v18, val_main_v12, val_main_v11, val_main_v7, val_main_v6, val_main_v4, val_main_v2, val_main_v1, val_main_cst, val_main_v0, val_main_v3, val_main_cst_0, val_main_v5, val_main_cst_1, val_main_v17]
  simp only [div_1024, msq_of]
  rw [Fin.sum_univ_one]
  exact Finset.sum_congr rfl fun r _ => mul_comm _ _

theorem xn_at (r : Fin 4096) (l : Fin 1024) :
    (val_main_v53 (F := Ideal) h g (ix2 r l) : EReal) = h (ix2 r l) * (R fun k => h (ix2 r k)) * g (ix1 l) := by
  pointwise [val_main_v53, val_main_v52, val_main_v49, val_main_v48, val_main_v47, val_main_v46, val_main_v44, val_main_v42, val_main_v41, val_main_cst_8, val_main_v40, val_main_v43, val_main_cst_9, val_main_v45, val_main_cst_10, val_main_v51, val_main_v50]
  simp only [div_1024, msq_of]
  rfl

end Cert.ProjRefIdeal.Payload

/-! ## From the blocks of the run to the arrays -/

namespace Cert.ProjIdeal.Value

open Cert.ProjIdeal Cert.ProjIdeal.Gen
open Cert.ProjRefIdeal.Payload (dxn)
open Cert.ProjRefIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0, 0] ∧ win0_5.index t = ![t.val, 0] ∧ win0_6.index t = ![0, 0]
    ∧ win0_7.index t = ![t.val, 0] :=
  (by decide +kernel : ∀ t : Fin grid0.N, _)

abbrev X0 (c : Dev nD) : FVec Ideal S4096x1024 .f32 := m ((c : Thread nD τ).loc main_arg0)
abbrev X1 (c : Dev nD) : FVec Ideal S1024 .f32 := m ((c : Thread nD τ).loc main_arg1)
abbrev X2 (c : Dev nD) : FVec Ideal S1024x3072 .f32 := m ((c : Thread nD τ).loc main_arg2)
abbrev X3 (c : Dev nD) : FVec Ideal S4096x1024 .f32 := m ((c : Thread nD τ).loc main_arg3)
abbrev X4 (c : Dev nD) : FVec Ideal S4096x3072 .f32 := m ((c : Thread nD τ).loc main_arg4)

/-- Row `r` of point `t`'s block is row `t * 512 + r` of the array. -/
def row (t : Fin cfg0.N) (r : Fin 512) : Fin 4096 := ⟨t.val * 512 + r.val, by have := lt_of_lt_of_eq t.isLt N_0; omega⟩

theorem read0 (c : Dev nD) (t : Fin cfg0.N) (r : Fin 512) (k : Fin 1024) : iblk m c 0 t (ix2 r k) = X0 m c (ix2 (row t r) k) := by
  blk_ext [iblk, V, idx t, row]
theorem read1 (c : Dev nD) (t : Fin cfg0.N) (k : Fin 1024) : iblk m c 1 t (ix2 (0 : Fin 1) k) = X1 m c (ix1 k) := by
  blk_simp [iblk, idx t]
  entry_read
  pointwise
  blk_ext [idx t]
theorem read2 (c : Dev nD) (t : Fin cfg0.N) (r : Fin 512) (k : Fin 1024) : iblk m c 2 t (ix2 r k) = X3 m c (ix2 (row t r) k) := by
  blk_ext [iblk, V, idx t, row]
theorem read3 (c : Dev nD) (t : Fin cfg0.N) (r : Fin 512) (k : Fin 3072) : iblk m c 3 t (ix2 r k) = X4 m c (ix2 (row t r) k) := by
  blk_simp [iblk, idx t]
  entry_read
  pointwise
  blk_ext [idx t, row]
theorem read4 (c : Dev nD) (t : Fin cfg0.N) (s : Fin 4) (l : Fin 1024) (k : Fin 768) (h : s.val * 768 + k.val < 3072) :
    iblk m c 4 t (ix3 s l k) = X2 m c (ix2 l ⟨s.val * 768 + k.val, h⟩) := by
  blk_simp [iblk, idx t]
  entry_read
  pointwise
  blk_ext [idx t]

/-- The cotangent of the normed rows of point `t`. -/
abbrev dx (c : Dev nD) (t : Fin cfg0.N) : FVec Ideal S512x1024 .f32 := Payload.dxOf (iblk m c 3 t) (iblk m c 4 t)

theorem dx_at (c : Dev nD) (t : Fin cfg0.N) (r : Fin 512) (l : Fin 1024) :
    (dx m c t (ix2 r l) : EReal) = dxn (X2 m c) (X4 m c) (row t r) l := by
  refine (Payload.dx_at _ _ r l).trans ?_
  exact Fin.sum_mul_add_congr fun s k h => by rw [read3, read4 m c t s l k h]

theorem out5 (c : Dev nD) (t : Fin cfg0.N) (r : Fin 512) (l : Fin 1024) :
    (outsAt0 m c t.val t.isLt).1 (ix2 r l)
      = val_main_v38 (F := Ideal) (X0 m c) (X1 m c) (X2 m c) (X3 m c) (X4 m c) (ix2 (row t r) l) := by
  have key : (outsAt0 m c t.val t.isLt).1 (ix2 r l)
      = k0_pay8 (F := Ideal) (dx m c t) (iblk m c 0 t) (k0_pay3 (iblk m c 0 t)) (iblk m c 1 t) (iblk m c 2 t) (ix2 r l) := by
    by_cases h : t.val % 8 = 0
    · rw [outsAt0_A m c t h]; frame_out; rfl
    · rw [outsAt0_B m c t h]; frame_out; rfl
  rw [key]
  refine (Payload.dh_at _ _ _ _ r l).trans (Eq.trans ?_ (Cert.ProjRefIdeal.Payload.dh_at _ _ _ _ _ (row t r) l).symm)
  simp only [read0, read1, read2, dx_at]

theorem final5 (c : Dev nD) :
    (dats m 0 c).arrAt 5 cfg0.N = val_main_v38 (F := Ideal) (X0 m c) (X1 m c) (X2 m c) (X3 m c) (X4 m c) := by
  refine (dats m 0 c).arrAt_eq_of_covers 5 _ (by decide +kernel) fun t hf y => ?_
  blk_simp
  rw [after0_5, eq_ix2 y]
  refine (out5 m c t (y 0) (y 1)).trans (congrArg _ ?_)
  blk_ext [idx t, row]

theorem out7 (c : Dev nD) (t : Fin cfg0.N) (r : Fin 512) (l : Fin 1024) :
    (outsAt0 m c t.val t.isLt).2.2 (ix2 r l) = val_main_v53 (F := Ideal) (X0 m c) (X1 m c) (ix2 (row t r) l) := by
  have key : (outsAt0 m c t.val t.isLt).2.2 (ix2 r l)
      = k0_pay6 (F := Ideal) (iblk m c 0 t) (k0_pay3 (iblk m c 0 t)) (iblk m c 1 t) (ix2 r l) := by
    by_cases h : t.val % 8 = 0
    · rw [outsAt0_A m c t h]; frame_out
    · rw [outsAt0_B m c t h]; frame_out
  rw [key]
  refine (Payload.xn_at _ _ r l).trans (Eq.trans ?_ (Cert.ProjRefIdeal.Payload.xn_at _ _ (row t r) l).symm)
  simp only [read0, read1]

theorem final7 (c : Dev nD) : (dats m 0 c).arrAt 7 cfg0.N = val_main_v53 (F := Ideal) (X0 m c) (X1 m c) := by
  refine (dats m 0 c).arrAt_eq_of_covers 7 _ (by decide +kernel) fun t hf y => ?_
  blk_simp
  rw [after0_7, eq_ix2 y]
  refine (out7 m c t (y 0) (y 1)).trans (congrArg _ ?_)
  blk_ext [idx t, row]

/-- What point `t` adds to the gradient of the gain. -/
def part6 (c : Dev nD) (t : Fin cfg0.N) (l : Fin 1024) : EReal :=
  ∑ r, dxn (X2 m c) (X4 m c) (row t r) l * (X0 m c (ix2 (row t r) l) * R fun k => X0 m c (ix2 (row t r) k))

theorem step6 (c : Dev nD) (t : Fin cfg0.N) (a : FVec Ideal S1x1024 .f32) (j : S1x1024.Idx) :
    (k0_pay7 (F := Ideal) (dx m c t) (iblk m c 0 t) (k0_pay3 (iblk m c 0 t)) a j : EReal) = a j + part6 m c t (j 1) := by
  obtain ⟨l, rfl⟩ : ∃ l : Fin 1024, j = ix2 0 l := ⟨j 1, eq_ix2_row j⟩
  refine (Payload.dgain_at _ _ _ l).trans ?_
  simp only [read0, dx_at]
  rfl

theorem zero6 (j : S1x1024.Idx) : (k0_pay1 (F := Ideal) j : EReal) = 0 := by
  rw [eq_ix2_row j]; exact Payload.zero_at _

theorem final6 (c : Dev nD) :
    (dats m 0 c).arrAt 6 cfg0.N = val_main_v39 (F := Ideal) (X0 m c) (X2 m c) (X4 m c) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0)
    (fun t j => part6 m c t (j 1))
    (fun t h j => by rw [outsAt0_A m c t h]; frame_out; exact (step6 m c t _ j).trans (congrArg (· + _) (zero6 j)))
    (fun t h j => by rw [outsAt0_B m c t h]; frame_out; exact step6 m c t _ j) (le_of_eq N_0) t0_7 rfl j, zero_add]
  rw [eq_ix2_row j]
  refine Eq.trans ?_ (Cert.ProjRefIdeal.Payload.dgain_at _ _ _ (j 1)).symm
  exact Fin.sum_mul_add_congr fun t r hl => rfl

end Cert.ProjIdeal.Value

/-! ## The claims -/

namespace Cert.Proof.Proj

theorem frame_ref : Cert.quiescent_ProjRefIdeal := fun m ρ _ =>
  (θ_run Cert.ProjRefIdeal.defs _ _).mono
    (fun r h => ⟨fun c => (h c).2.2.2, Idealize.ShloMosaic.sem_eq_zero_of_no_sems (by decide) r.2⟩)
    (Cert.ProjRefIdeal.Value.run (F := Ideal) m ρ)

open Cert.ProjIdeal.Value in
theorem algebraic : Cert.algebraic_ProjIdeal_ProjRefIdeal := by
  pair_intro
  · run_from Cert.ProjIdeal.Value.run_blocks m g
  · run_from Cert.ProjRefIdeal.Value.run m' g'
    · rw [Cert.ProjRefIdeal.Read.val_main_v38_eq, (hagree c).1, (hagree c).2.1, (hagree c).2.2.1, (hagree c).2.2.2.1,
        (hagree c).2.2.2.2]
      exact (final5 m c).symm
    · exact (Cert.ProjRefIdeal.Read.val_main_v39_eq _ _ _).trans (final6 m c).symm
    · exact (Cert.ProjRefIdeal.Read.val_main_v53_eq _ _).trans (final7 m c).symm

end Cert.Proof.Proj

end
-- ==== Proof.FfnClaim.lean ====
module

public import proofs.«01_k».proof.Defs
public import proofs.«01_k».proof.Proof.Common
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import Idealize.ShloMosaic.Lib.Pipeline.ValueKit
public import Idealize.ShloMosaic.Lib.ReduceAll

@[expose] public section

set_option maxRecDepth 16384

noncomputable section

open Idealize.ShloMosaic Idealize.ShloMosaic.TcCoe Idealize.SL.Sem
open Idealize.ShloMosaic.Pipeline (Dat)
open Cert.Common

/-! ## The kernel's payloads at an index -/

namespace Cert.FfnIdeal.Payload

open Cert.FfnIdeal Cert.FfnIdeal.Gen

variable (x d dv : FVec Ideal S256x1024 .f32) (g : FVec Ideal S1x1024 .f32)
  (gs us : Vec Ideal S4x256x704 .bf16) (wg wu wd : Vec Ideal S4x704x1024 .bf16)

/-- The cotangent of the gated product, at shard `s`. -/
def dav (s : Fin 4) (r : Fin 256) (f : Fin 704) : EReal := ∑ l : Fin 1024, ((1 / 2 : ℝ) : EReal) * dv (ix2 r l) * wd (ix3 s f l)

/-- The cotangent of the gate's product, at shard `s`. -/
def dgv (s : Fin 4) (r : Fin 256) (f : Fin 704) : EReal :=
  dav dv wd s r f * us (ix3 s r f) * (sgm (gs (ix3 s r f)) * (1 + gs (ix3 s r f) * (1 - sgm (gs (ix3 s r f)))))

/-- The cotangent of the other product, at shard `s`. -/
def duv (s : Fin 4) (r : Fin 256) (f : Fin 704) : EReal := dav dv wd s r f * HMul.hMul (α := EReal) (gs (ix3 s r f)) (sgm (gs (ix3 s r f)))

theorem dg_at0 (r : Fin 256) (f : Fin 704) :
    (k0_pay13 (F := Ideal) (k0_pay8 dv (View.ld (Val := Elt Ideal) (e' := .bf16) wd (Rect.unit ![0, 0, 0] ![1, 704, 1024] inb_S4x704x1024_S1x704x1024_0_0_0))) (k0_pay9 (View.ld (Val := Elt Ideal) (e' := .bf16) gs (Rect.unit ![0, 0, 0] ![1, 256, 704] inb_S4x256x704_S1x256x704_0_0_0))) (View.ld (Val := Elt Ideal) (e' := .bf16) us (Rect.unit ![0, 0, 0] ![1, 256, 704] inb_S4x256x704_S1x256x704_0_0_0)) (ix3 0 r f) : EReal)
      = dgv dv gs us wd 0 r f := by
  pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
  simp only [bits_half]
  rfl

theorem du_at0 (r : Fin 256) (f : Fin 704) :
    (k0_pay14 (F := Ideal) (k0_pay8 dv (View.ld (Val := Elt Ideal) (e' := .bf16) wd (Rect.unit ![0, 0, 0] ![1, 704, 1024] inb_S4x704x1024_S1x704x1024_0_0_0))) (k0_pay9 (View.ld (Val := Elt Ideal) (e' := .bf16) gs (Rect.unit ![0, 0, 0] ![1, 256, 704] inb_S4x256x704_S1x256x704_0_0_0))) (ix3 0 r f) : EReal)
      = duv dv gs wd 0 r f := by
  pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
  simp only [bits_half]
  rfl

theorem dg_at1 (r : Fin 256) (f : Fin 704) :
    (k0_pay22 (F := Ideal) (k0_pay16 (k0_pay7 dv) (View.ld (Val := Elt Ideal) (e' := .bf16) wd (Rect.unit ![1, 0, 0] ![1, 704, 1024] inb_S4x704x1024_S1x704x1024_1_0_0))) (k0_pay17 (View.ld (Val := Elt Ideal) (e' := .bf16) gs (Rect.unit ![1, 0, 0] ![1, 256, 704] inb_S4x256x704_S1x256x704_1_0_0))) (View.ld (Val := Elt Ideal) (e' := .bf16) us (Rect.unit ![1, 0, 0] ![1, 256, 704] inb_S4x256x704_S1x256x704_1_0_0)) (ix3 0 r f) : EReal)
      = dgv dv gs us wd 1 r f := by
  pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
  simp only [bits_half]
  rfl

theorem du_at1 (r : Fin 256) (f : Fin 704) :
    (k0_pay23 (F := Ideal) (k0_pay16 (k0_pay7 dv) (View.ld (Val := Elt Ideal) (e' := .bf16) wd (Rect.unit ![1, 0, 0] ![1, 704, 1024] inb_S4x704x1024_S1x704x1024_1_0_0))) (k0_pay17 (View.ld (Val := Elt Ideal) (e' := .bf16) gs (Rect.unit ![1, 0, 0] ![1, 256, 704] inb_S4x256x704_S1x256x704_1_0_0))) (ix3 0 r f) : EReal)
      = duv dv gs wd 1 r f := by
  pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
  simp only [bits_half]
  rfl

theorem dg_at2 (r : Fin 256) (f : Fin 704) :
    (k0_pay30 (F := Ideal) (k0_pay25 (k0_pay7 dv) (View.ld (Val := Elt Ideal) (e' := .bf16) wd (Rect.unit ![2, 0, 0] ![1, 704, 1024] inb_S4x704x1024_S1x704x1024_2_0_0))) (View.ld (Val := Elt Ideal) (e' := .bf16) gs (Rect.unit ![2, 0, 0] ![1, 256, 704] inb_S4x256x704_S1x256x704_2_0_0)) (View.ld (Val := Elt Ideal) (e' := .bf16) us (Rect.unit ![2, 0, 0] ![1, 256, 704] inb_S4x256x704_S1x256x704_2_0_0)) (ix3 0 r f) : EReal)
      = dgv dv gs us wd 2 r f := by
  pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
  simp only [bits_half]
  rfl

theorem du_at2 (r : Fin 256) (f : Fin 704) :
    (k0_pay31 (F := Ideal) (k0_pay25 (k0_pay7 dv) (View.ld (Val := Elt Ideal) (e' := .bf16) wd (Rect.unit ![2, 0, 0] ![1, 704, 1024] inb_S4x704x1024_S1x704x1024_2_0_0))) (View.ld (Val := Elt Ideal) (e' := .bf16) gs (Rect.unit ![2, 0, 0] ![1, 256, 704] inb_S4x256x704_S1x256x704_2_0_0)) (ix3 0 r f) : EReal)
      = duv dv gs wd 2 r f := by
  pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
  simp only [bits_half]
  rfl

theorem dg_at3 (r : Fin 256) (f : Fin 704) :
    (k0_pay38 (F := Ideal) (k0_pay7 dv) (View.ld (Val := Elt Ideal) (e' := .bf16) wd (Rect.unit ![3, 0, 0] ![1, 704, 1024] inb_S4x704x1024_S1x704x1024_3_0_0)) (View.ld (Val := Elt Ideal) (e' := .bf16) gs (Rect.unit ![3, 0, 0] ![1, 256, 704] inb_S4x256x704_S1x256x704_3_0_0)) (View.ld (Val := Elt Ideal) (e' := .bf16) us (Rect.unit ![3, 0, 0] ![1, 256, 704] inb_S4x256x704_S1x256x704_3_0_0)) (ix3 0 r f) : EReal)
      = dgv dv gs us wd 3 r f := by
  pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
  simp only [bits_half]
  rfl

theorem du_at3 (r : Fin 256) (f : Fin 704) :
    (k0_pay39 (F := Ideal) (k0_pay7 dv) (View.ld (Val := Elt Ideal) (e' := .bf16) wd (Rect.unit ![3, 0, 0] ![1, 704, 1024] inb_S4x704x1024_S1x704x1024_3_0_0)) (View.ld (Val := Elt Ideal) (e' := .bf16) gs (Rect.unit ![3, 0, 0] ![1, 256, 704] inb_S4x256x704_S1x256x704_3_0_0)) (ix3 0 r f) : EReal)
      = duv dv gs wd 3 r f := by
  pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
  simp only [bits_half]
  rfl

/-- The cotangent of the normed rows of a block. -/
def dxOf : FVec Ideal S256x1024 .f32 :=
  k0_pay40 (F := Ideal) (k0_pay7 dv)
    (k0_pay32 (F := Ideal)
      (k0_pay24 (F := Ideal)
        (k0_pay15 (F := Ideal) (k0_pay8 dv (View.ld (Val := Elt Ideal) (e' := .bf16) wd (Rect.unit ![0, 0, 0] ![1, 704, 1024] inb_S4x704x1024_S1x704x1024_0_0_0))) (k0_pay9 (View.ld (Val := Elt Ideal) (e' := .bf16) gs (Rect.unit ![0, 0, 0] ![1, 256, 704] inb_S4x256x704_S1x256x704_0_0_0)))
          (View.ld (Val := Elt Ideal) (e' := .bf16) us (Rect.unit ![0, 0, 0] ![1, 256, 704] inb_S4x256x704_S1x256x704_0_0_0)) (View.ld (Val := Elt Ideal) (e' := .bf16) wg (Rect.unit ![0, 0, 0] ![1, 704, 1024] inb_S4x704x1024_S1x704x1024_0_0_0)) (View.ld (Val := Elt Ideal) (e' := .bf16) wu (Rect.unit ![0, 0, 0] ![1, 704, 1024] inb_S4x704x1024_S1x704x1024_0_0_0)))
        (k0_pay16 (k0_pay7 dv) (View.ld (Val := Elt Ideal) (e' := .bf16) wd (Rect.unit ![1, 0, 0] ![1, 704, 1024] inb_S4x704x1024_S1x704x1024_1_0_0))) (k0_pay17 (View.ld (Val := Elt Ideal) (e' := .bf16) gs (Rect.unit ![1, 0, 0] ![1, 256, 704] inb_S4x256x704_S1x256x704_1_0_0)))
        (View.ld (Val := Elt Ideal) (e' := .bf16) us (Rect.unit ![1, 0, 0] ![1, 256, 704] inb_S4x256x704_S1x256x704_1_0_0)) (View.ld (Val := Elt Ideal) (e' := .bf16) wg (Rect.unit ![1, 0, 0] ![1, 704, 1024] inb_S4x704x1024_S1x704x1024_1_0_0)) (View.ld (Val := Elt Ideal) (e' := .bf16) wu (Rect.unit ![1, 0, 0] ![1, 704, 1024] inb_S4x704x1024_S1x704x1024_1_0_0)))
      (k0_pay25 (k0_pay7 dv) (View.ld (Val := Elt Ideal) (e' := .bf16) wd (Rect.unit ![2, 0, 0] ![1, 704, 1024] inb_S4x704x1024_S1x704x1024_2_0_0))) (View.ld (Val := Elt Ideal) (e' := .bf16) gs (Rect.unit ![2, 0, 0] ![1, 256, 704] inb_S4x256x704_S1x256x704_2_0_0))
      (View.ld (Val := Elt Ideal) (e' := .bf16) us (Rect.unit ![2, 0, 0] ![1, 256, 704] inb_S4x256x704_S1x256x704_2_0_0)) (View.ld (Val := Elt Ideal) (e' := .bf16) wg (Rect.unit ![2, 0, 0] ![1, 704, 1024] inb_S4x704x1024_S1x704x1024_2_0_0)) (View.ld (Val := Elt Ideal) (e' := .bf16) wu (Rect.unit ![2, 0, 0] ![1, 704, 1024] inb_S4x704x1024_S1x704x1024_2_0_0)))
    (View.ld (Val := Elt Ideal) (e' := .bf16) wd (Rect.unit ![3, 0, 0] ![1, 704, 1024] inb_S4x704x1024_S1x704x1024_3_0_0)) (View.ld (Val := Elt Ideal) (e' := .bf16) gs (Rect.unit ![3, 0, 0] ![1, 256, 704] inb_S4x256x704_S1x256x704_3_0_0))
    (View.ld (Val := Elt Ideal) (e' := .bf16) us (Rect.unit ![3, 0, 0] ![1, 256, 704] inb_S4x256x704_S1x256x704_3_0_0)) (View.ld (Val := Elt Ideal) (e' := .bf16) wg (Rect.unit ![3, 0, 0] ![1, 704, 1024] inb_S4x704x1024_S1x704x1024_3_0_0)) (View.ld (Val := Elt Ideal) (e' := .bf16) wu (Rect.unit ![3, 0, 0] ![1, 704, 1024] inb_S4x704x1024_S1x704x1024_3_0_0))

theorem dx_at (r : Fin 256) (l : Fin 1024) :
    (dxOf dv gs us wg wu wd (ix2 r l) : EReal)
      = ∑ s : Fin 4, (∑ f : Fin 704, dgv dv gs us wd s r f * wg (ix3 s f l) + ∑ f : Fin 704, duv dv gs wd s r f * wu (ix3 s f l)) := by
  pointwise [dxOf, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
  simp only [bits_half]
  rw [Fin.sum_univ_four]
  rfl

theorem dh_at (r : Fin 256) (l : Fin 1024) :
    (k0_pay2 (F := Ideal) (k0_pay4 x) (k0_pay5 x) dv d g (ix2 r l) : EReal)
      = dv (ix2 r l) + normGrad (fun k => x (ix2 r k)) (fun k => d (ix2 r k) * g (ix2 0 k)) l := by
  pointwise [k0_pay2, k0_pay4, k0_pay5]
  simp only [div_1024, rms_of]
  rfl

theorem dgain_at (a : FVec Ideal S1x1024 .f32) (l : Fin 1024) :
    (k0_pay1 (F := Ideal) (k0_pay5 x) d a (ix2 0 l) : EReal)
      = a (ix2 0 l) + ∑ r, d (ix2 r l) * (x (ix2 r l) * R fun k => x (ix2 r k)) := by
  pointwise [k0_pay1, k0_pay4, k0_pay5]
  simp only [div_1024, rms_of]

theorem xn_at (r : Fin 256) (l : Fin 1024) :
    (k0_pay6 (F := Ideal) x g (ix2 r l) : EReal) = x (ix2 r l) * (R fun k => x (ix2 r k)) * g (ix2 0 l) := by
  pointwise [k0_pay6, k0_pay4, k0_pay5]
  simp only [div_1024, rms_of]

theorem do_at (r : Fin 256) (l : Fin 1024) :
    (k0_pay7 (F := Ideal) dv (ix2 r l) : EReal) = ((1 / 2 : ℝ) : EReal) * dv (ix2 r l) := by
  pointwise [k0_pay7]
  rw [bits_half]

theorem zero_at (l : Fin 1024) : (k0_pay3 (F := Ideal) (ix2 0 l) : EReal) = 0 := by
  pointwise [k0_pay3]

end Cert.FfnIdeal.Payload

/-! ## The reference's terms at an index -/

namespace Cert.FfnRefIdeal.Payload

open Cert.FfnRefIdeal Cert.FfnRefIdeal.Gen Cert.FfnRefIdeal.Read

variable (h : FVec Ideal S4096x1024 .f32) (gain : FVec Ideal S1024 .f32) (wg wu : FVec Ideal S1024x2816 .f32)
  (wd : FVec Ideal S2816x1024 .f32) (dout : FVec Ideal S4096x1024 .f32)

/-- The normed rows. -/
def xnR (r : Fin 4096) (l : Fin 1024) : EReal := h (ix2 r l) * (R fun k => h (ix2 r k)) * gain (ix1 l)

/-- A product of the normed rows. -/
def prod (w : FVec Ideal S1024x2816 .f32) (r : Fin 4096) (n : Fin 2816) : EReal := ∑ l : Fin 1024, xnR h gain r l * w (ix2 l n)

/-- The cotangent of the gated product. -/
def daR (r : Fin 4096) (n : Fin 2816) : EReal := ∑ l : Fin 1024, ((1 / 2 : ℝ) : EReal) * dout (ix2 r l) * wd (ix2 n l)

/-- The cotangent of the gate's product. -/
def dgR (r : Fin 4096) (n : Fin 2816) : EReal :=
  daR wd dout r n * prod h gain wu r n * sgm (prod h gain wg r n)
    + prod h gain wg r n * (daR wd dout r n * prod h gain wu r n)
      * (sgm (prod h gain wg r n) * (1 - sgm (prod h gain wg r n)))

/-- The cotangent of the other product. -/
def duR (r : Fin 4096) (n : Fin 2816) : EReal := prod h gain wg r n * sgm (prod h gain wg r n) * daR wd dout r n

theorem dg_at (r : Fin 4096) (s : Fin 4) (f : Fin 704) :
    (val_main_v84 (F := Ideal) h gain wg wu wd dout (ix3 s r f) : EReal) = dgR h gain wg wu wd dout r ⟨s.val * 704 + f.val, by omega⟩ := by
  pointwise [val_main_v84, val_main_v83, val_main_v82, val_main_v80, val_main_call3_v1, val_main_v70_2, val_main_call2_v3, val_main_call2_v1, val_main_call2_v0, val_main_v68, val_main_v67, val_main_v64, val_main_v63, val_main_v62, val_main_v61, val_main_v59, val_main_v57, val_main_v56, val_main_cst_10, val_main_v55, val_main_v58, val_main_cst_11, val_main_v60, val_main_cst_12, val_main_v66, val_main_v65, val_main_call2_v2, val_main_call2_cst, val_main_call2_v4, val_main_call2_cst_0, val_main_v79, val_main_v69, val_main_v77, val_main_v76, val_main_v75, val_main_cst_14, val_main_call3_v2, val_main_call3_v0, val_main_v70_1, val_main_call2_v7, val_main_call2_v6, val_main_call2_cst_1]
  simp only [div_1024, rms_of, bits_half]
  rfl

/-- The cotangent of the normed rows. -/
def dxR (r : Fin 4096) (l : Fin 1024) : EReal :=
  ∑ n, duR h gain wg wd dout r n * wu (ix2 l n) + ∑ n, dgR h gain wg wu wd dout r n * wg (ix2 l n)

theorem du_at (r : Fin 4096) (s : Fin 4) (f : Fin 704) :
    (val_main_v87 (F := Ideal) h gain wg wd dout (ix3 s r f) : EReal) = duR h gain wg wd dout r ⟨s.val * 704 + f.val, by omega⟩ := by
  pointwise [val_main_v87, val_main_v86, val_main_v85, val_main_v78, val_main_v70_0, val_main_v68, val_main_v67, val_main_v64, val_main_v63, val_main_v62, val_main_v61, val_main_v59, val_main_v57, val_main_v56, val_main_cst_10, val_main_v55, val_main_v58, val_main_cst_11, val_main_v60, val_main_cst_12, val_main_v66, val_main_v65, val_main_v70_2, val_main_call2_v3, val_main_call2_v1, val_main_call2_v0, val_main_call2_v2, val_main_call2_cst, val_main_call2_v4, val_main_call2_cst_0, val_main_v77, val_main_v76, val_main_v75, val_main_cst_14]
  simp only [div_1024, rms_of, bits_half]
  rfl

theorem dh_at (r : Fin 4096) (l : Fin 1024) :
    (val_main_v54 (F := Ideal) h gain wg wu wd dout (ix2 r l) : EReal)
      = dout (ix2 r l) + normGrad (fun k => h (ix2 r k)) (fun k => dxR h gain wg wu wd dout r k * gain (ix1 k)) l := by
  rw [normGrad_eq]
  pointwise [val_main_v54, val_main_v52, val_main_v45, val_main_v44, val_main_v38, val_main_v33, val_main_v30, val_main_v28, val_main_v17_0, val_main_v16, val_main_v15, val_main_v12, val_main_v11, val_main_v7, val_main_v6, val_main_v4, val_main_v2, val_main_v1, val_main_cst, val_main_v0, val_main_v3, val_main_cst_0, val_main_v5, val_main_cst_1, val_main_v14, val_main_v13, val_main_v17_2, val_main_call0_v3, val_main_call0_v1, val_main_call0_v0, val_main_call0_v2, val_main_call0_cst, val_main_call0_v4, val_main_call0_cst_0, val_main_v27, val_main_v26, val_main_v24, val_main_v25, val_main_cst_4, val_main_v32, val_main_v31, val_main_call1_v1, val_main_v29, val_main_v18, val_main_call1_v2, val_main_call1_v0, val_main_v17_1, val_main_call0_v7, val_main_call0_v6, val_main_call0_cst_1, val_main_v37, val_main_v43, val_main_v51, val_main_v50, val_main_v49, val_main_cst_9, val_main_v48, val_main_v46, val_main_v10, val_main_v8, val_main_v9, val_main_cst_2, val_main_v42, val_main_v41, val_main_cst_7, val_main_v40, val_main_v47, val_main_cst_8, val_main_v53]
  simp only [div_1024, msq_of, bits_neghalf, bits_half]
  rw [Fin.sum_univ_one, add_assoc, add_assoc, add_assoc]
  rfl

theorem dgain_at (l : Fin 1024) :
    (val_main_v81 (F := Ideal) h gain wg wu wd dout (ix2 0 l) : EReal)
      = ∑ r : Fin 4096, dxR h gain wg wu wd dout r l * (h (ix2 r l) * R fun k => h (ix2 r k)) := by
  pointwise [val_main_v81, val_main_v39, val_main_cst_6, val_main_v36, val_main_v35, val_main_cst_5, val_main_v34, val_main_v12, val_main_v11, val_main_v7, val_main_v6, val_main_v4, val_main_v2, val_main_v1, val_main_cst, val_main_v0, val_main_v3, val_main_cst_0, val_main_v5, val_main_cst_1, val_main_v33, val_main_v30, val_main_v28, val_main_v17_0, val_main_v16, val_main_v15, val_main_v14, val_main_v13, val_main_v17_2, val_main_call0_v3, val_main_call0_v1, val_main_call0_v0, val_main_call0_v2, val_main_call0_cst, val_main_call0_v4, val_main_call0_cst_0, val_main_v27, val_main_v26, val_main_v24, val_main_v25, val_main_cst_4, val_main_v32, val_main_v31, val_main_call1_v1, val_main_v29, val_main_v18, val_main_call1_v2, val_main_call1_v0, val_main_v17_1, val_main_call0_v7, val_main_call0_v6, val_main_call0_cst_1]
  simp only [div_1024, msq_of, bits_half]
  rw [Fin.sum_univ_one]
  exact Finset.sum_congr rfl fun r _ => mul_comm _ _

theorem xn_at (r : Fin 4096) (l : Fin 1024) :
    (val_main_v88 (F := Ideal) h gain (ix2 r l) : EReal) = xnR h gain r l := by
  pointwise [val_main_v88, val_main_v67, val_main_v64, val_main_v63, val_main_v62, val_main_v61, val_main_v59, val_main_v57, val_main_v56, val_main_cst_10, val_main_v55, val_main_v58, val_main_cst_11, val_main_v60, val_main_cst_12, val_main_v66, val_main_v65]
  simp only [div_1024, msq_of]
  rfl

theorem do_at (r : Fin 4096) (l : Fin 1024) :
    (val_main_v91 (F := Ideal) dout (ix2 r l) : EReal) = ((1 / 2 : ℝ) : EReal) * dout (ix2 r l) := by
  pointwise [val_main_v91, val_main_v90, val_main_v89, val_main_cst_15]
  rw [bits_half]

end Cert.FfnRefIdeal.Payload

namespace Cert.FfnIdeal.Value

open Cert.FfnIdeal Cert.FfnIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, t.val, 0] ∧ win0_4.index t = ![0, t.val, 0] ∧ win0_5.index t = ![0, 0, 0] ∧ win0_6.index t = ![0, 0, 0]
    ∧ win0_7.index t = ![0, 0, 0] ∧ win0_8.index t = ![t.val, 0] ∧ win0_9.index t = ![0, 0] ∧ win0_10.index t = ![0, t.val, 0]
    ∧ win0_11.index t = ![0, t.val, 0] ∧ win0_12.index t = ![t.val, 0] ∧ win0_13.index t = ![t.val, 0] :=
  (by decide +kernel : ∀ t : Fin grid0.N, _)

abbrev X0 (c : Dev nD) : FVec Ideal S4096x1024 .f32 := m ((c : Thread nD τ).loc main_arg0)
abbrev X1 (c : Dev nD) : FVec Ideal S1024 .f32 := m ((c : Thread nD τ).loc main_arg1)
abbrev X2 (c : Dev nD) : FVec Ideal S1024x2816 .f32 := m ((c : Thread nD τ).loc main_arg2)
abbrev X3 (c : Dev nD) : FVec Ideal S1024x2816 .f32 := m ((c : Thread nD τ).loc main_arg3)
abbrev X4 (c : Dev nD) : FVec Ideal S2816x1024 .f32 := m ((c : Thread nD τ).loc main_arg4)
abbrev X5 (c : Dev nD) : FVec Ideal S4096x1024 .f32 := m ((c : Thread nD τ).loc main_arg5)

/-- Row `r` of point `t`'s block is row `t * 256 + r` of the array. -/
def row (t : Fin cfg0.N) (r : Fin 256) : Fin 4096 := ⟨t.val * 256 + r.val, by have := lt_of_lt_of_eq t.isLt N_0; omega⟩

/-- Column `f` of shard `s`. -/
def col (s : Fin 4) (f : Fin 704) : Fin 2816 := ⟨s.val * 704 + f.val, by omega⟩

theorem read0 (c : Dev nD) (t : Fin cfg0.N) (r : Fin 256) (k : Fin 1024) : iblk m c 0 t (ix2 r k) = X0 m c (ix2 (row t r) k) := by
  blk_ext [iblk, V, idx t, row]
theorem read1 (c : Dev nD) (t : Fin cfg0.N) (k : Fin 1024) : iblk m c 1 t (ix2 (0 : Fin 1) k) = X1 m c (ix1 k) := by
  blk_simp [iblk, idx t]
  entry_read
  pointwise
  blk_ext [idx t]
theorem read2 (c : Dev nD) (t : Fin cfg0.N) (r : Fin 256) (k : Fin 1024) : iblk m c 2 t (ix2 r k) = X5 m c (ix2 (row t r) k) := by
  blk_ext [iblk, V, idx t, row]
open Cert.FfnRefIdeal.Payload in
theorem saved3 (c : Dev nD) (s : Fin 4) (r : Fin 4096) (f : Fin 704) :
    (V m c main_v16 (ix3 s r f) : EReal) = prod (X0 m c) (X1 m c) (X2 m c) r (col s f) := by
  entry_read
  pointwise
  simp only [div_1024, rms_of]
  rfl
open Cert.FfnRefIdeal.Payload in
theorem saved4 (c : Dev nD) (s : Fin 4) (r : Fin 4096) (f : Fin 704) :
    (V m c main_v20 (ix3 s r f) : EReal) = prod (X0 m c) (X1 m c) (X3 m c) r (col s f) := by
  entry_read
  pointwise
  simp only [div_1024, rms_of]
  rfl
open Cert.FfnRefIdeal.Payload in
theorem read3 (c : Dev nD) (t : Fin cfg0.N) (s : Fin 4) (r : Fin 256) (f : Fin 704) :
    (iblk m c 3 t (ix3 s r f) : EReal) = prod (X0 m c) (X1 m c) (X2 m c) (row t r) (col s f) := by
  refine Eq.trans ?_ (saved3 m c s (row t r) f)
  blk_ext [iblk, idx t, row]
open Cert.FfnRefIdeal.Payload in
theorem read4 (c : Dev nD) (t : Fin cfg0.N) (s : Fin 4) (r : Fin 256) (f : Fin 704) :
    (iblk m c 4 t (ix3 s r f) : EReal) = prod (X0 m c) (X1 m c) (X3 m c) (row t r) (col s f) := by
  refine Eq.trans ?_ (saved4 m c s (row t r) f)
  blk_ext [iblk, idx t, row]
theorem read5 (c : Dev nD) (t : Fin cfg0.N) (s : Fin 4) (f : Fin 704) (l : Fin 1024) :
    iblk m c 5 t (ix3 s f l) = X2 m c (ix2 l (col s f)) := by
  blk_simp [iblk, idx t]
  entry_read
  pointwise
  blk_ext [idx t, col]
theorem read6 (c : Dev nD) (t : Fin cfg0.N) (s : Fin 4) (f : Fin 704) (l : Fin 1024) :
    iblk m c 6 t (ix3 s f l) = X3 m c (ix2 l (col s f)) := by
  blk_simp [iblk, idx t]
  entry_read
  pointwise
  blk_ext [idx t, col]
theorem read7 (c : Dev nD) (t : Fin cfg0.N) (s : Fin 4) (f : Fin 704) (l : Fin 1024) :
    iblk m c 7 t (ix3 s f l) = X4 m c (ix2 (col s f) l) := by
  blk_simp [iblk, idx t]
  entry_read
  pointwise
  blk_ext [idx t, col]

open Cert.FfnRefIdeal.Payload
open Cert.FfnRefIdeal.Read

/-- What the precondition says of the arguments: the gain, `wu`, `wd` and the cotangent are finite. -/
structure Fin' (c : Dev nD) : Prop where
  gain : ∀ i, IsReal (X1 m c i)
  wu : ∀ i, IsReal (X3 m c i)
  wd : ∀ i, IsReal (X4 m c i)
  dout : ∀ i, IsReal (X5 m c i)

instance pre_facts : Cert.Pre_ffn_finite.Facts where
  bcast_S_S1024 := by decide
  reducesTo_S1024_S_d0 := by decide
  h_S_ := by decide
  bcast_S_S1024x2816 := by decide
  reducesTo_S1024x2816_S_d0_1 := by decide
  bcast_S_S2816x1024 := by decide
  reducesTo_S2816x1024_S_d0_1 := by decide
  bcast_S_S4096x1024 := by decide
  reducesTo_S4096x1024_S_d0_1 := by decide

theorem fin_of (hpre : Cert.Pre_FfnIdeal_ffn_finite m) (c : Dev nD) : Fin' m c := by
  have : Subsingleton Cert.Pre_ffn_finite.S_.Idx := ⟨fun a b => funext fun k => Fin.elim0 k⟩
  have h := congrFun (hpre c) (fun a => Fin.elim0 a)
  dsimp only [Cert.Pre_ffn_finite.fn, Cert.Pre_ffn_finite.fn_part1] at h
  obtain ⟨h, h5⟩ := IntOp.andi_eq_one.1 h
  obtain ⟨h, h4⟩ := IntOp.andi_eq_one.1 h
  obtain ⟨h1, h3⟩ := IntOp.andi_eq_one.1 h
  exact ⟨fun i => IsReal.of_lt (Host.reduce_andi_all _ _ _ _ _ h1 i), fun i => IsReal.of_lt (Host.reduce_andi_all _ _ _ _ _ h3 i),
    fun i => IsReal.of_lt (Host.reduce_andi_all _ _ _ _ _ h4 i), fun i => IsReal.of_lt (Host.reduce_andi_all _ _ _ _ _ h5 i)⟩

theorem real_da {c : Dev nD} (hf : Fin' m c) (r : Fin 4096) (n : Fin 2816) : IsReal (daR (X4 m c) (X5 m c) r n) :=
  IsReal.sum _ fun _ => ((IsReal.coe _).mul (hf.dout _)).mul (hf.wd _)

theorem real_u {c : Dev nD} (hf : Fin' m c) (r : Fin 4096) (n : Fin 2816) : IsReal (prod (X0 m c) (X1 m c) (X3 m c) r n) :=
  IsReal.sum _ fun l => ((IsReal.normed (fun k => X0 m c (ix2 r k)) l).mul (hf.gain (ix1 l))).mul (hf.wu (ix2 l n))

theorem da_eq (c : Dev nD) (t : Fin cfg0.N) (s : Fin 4) (r : Fin 256) (f : Fin 704) :
    Payload.dav (iblk m c 2 t) (iblk m c 7 t) s r f = daR (X4 m c) (X5 m c) (row t r) (col s f) := by
  simp only [Payload.dav, daR, read2, read7]

theorem dg_eq {c : Dev nD} (hf : Fin' m c) (t : Fin cfg0.N) (s : Fin 4) (r : Fin 256) (f : Fin 704) :
    Payload.dgv (iblk m c 2 t) (iblk m c 3 t) (iblk m c 4 t) (iblk m c 7 t) s r f
      = dgR (X0 m c) (X1 m c) (X2 m c) (X3 m c) (X4 m c) (X5 m c) (row t r) (col s f) := by
  unfold Payload.dgv dgR
  rw [da_eq, read3, read4]
  exact gate_grad ((real_da m hf _ _).mul (real_u m hf _ _)) _

theorem du_eq (c : Dev nD) (t : Fin cfg0.N) (s : Fin 4) (r : Fin 256) (f : Fin 704) :
    Payload.duv (iblk m c 2 t) (iblk m c 3 t) (iblk m c 7 t) s r f
      = duR (X0 m c) (X1 m c) (X2 m c) (X4 m c) (X5 m c) (row t r) (col s f) := by
  unfold Payload.duv duR
  rw [da_eq, read3, mul_comm]

/-- The cotangent of the normed rows of point `t`. -/
abbrev dx (c : Dev nD) (t : Fin cfg0.N) : FVec Ideal S256x1024 .f32 :=
  Payload.dxOf (iblk m c 2 t) (iblk m c 3 t) (iblk m c 4 t) (iblk m c 5 t) (iblk m c 6 t) (iblk m c 7 t)

theorem dx_at {c : Dev nD} (hf : Fin' m c) (t : Fin cfg0.N) (r : Fin 256) (l : Fin 1024) :
    (dx m c t (ix2 r l) : EReal) = dxR (X0 m c) (X1 m c) (X2 m c) (X3 m c) (X4 m c) (X5 m c) (row t r) l := by
  refine (Payload.dx_at _ _ _ _ _ _ r l).trans ?_
  rw [Finset.sum_add_distrib, add_comm]
  refine congrArg₂ (· + ·) ?_ ?_
  · exact Fin.sum_mul_add_congr fun s k h => by rw [du_eq, read6]; rfl
  · exact Fin.sum_mul_add_congr fun s k h => by rw [dg_eq m hf, read5]; rfl

theorem out8 {c : Dev nD} (hf : Fin' m c) (t : Fin cfg0.N) (r : Fin 256) (l : Fin 1024) :
    (outsAt0 m c t.val t.isLt).1 (ix2 r l) = val_main_v54 (F := Ideal) (X0 m c) (X1 m c) (X2 m c) (X3 m c) (X4 m c) (X5 m c) (ix2 (row t r) l) := by
  have key : (outsAt0 m c t.val t.isLt).1 (ix2 r l)
      = k0_pay2 (F := Ideal) (k0_pay4 (iblk m c 0 t)) (k0_pay5 (iblk m c 0 t)) (iblk m c 2 t) (dx m c t) (iblk m c 1 t) (ix2 r l) := by
    by_cases h : t.val % 16 = 0
    · rw [outsAt0_A m c t h]; frame_out; rfl
    · rw [outsAt0_B m c t h]; frame_out; rfl
  rw [key]
  refine (Payload.dh_at _ _ _ _ r l).trans (Eq.trans ?_ (Cert.FfnRefIdeal.Payload.dh_at _ _ _ _ _ _ (row t r) l).symm)
  simp only [read0, read1, read2, dx_at m hf]

theorem final8 {c : Dev nD} (hf : Fin' m c) : (dats m 0 c).arrAt 8 cfg0.N = val_main_v54 (F := Ideal) (X0 m c) (X1 m c) (X2 m c) (X3 m c) (X4 m c) (X5 m c) := by
  refine (dats m 0 c).arrAt_eq_of_covers 8 _ (by decide +kernel) fun t _ y => ?_
  blk_simp
  rw [after0_8, eq_ix2 y]
  refine (out8 m hf t (y 0) (y 1)).trans (congrArg _ ?_)
  blk_ext [idx t, row]

/-- What point `t` adds to the gradient of the gain. -/
def part9 (c : Dev nD) (t : Fin cfg0.N) (l : Fin 1024) : EReal :=
  ∑ r, dxR (X0 m c) (X1 m c) (X2 m c) (X3 m c) (X4 m c) (X5 m c) (row t r) l * (X0 m c (ix2 (row t r) l) * R fun k => X0 m c (ix2 (row t r) k))

theorem step9 {c : Dev nD} (hf : Fin' m c) (t : Fin cfg0.N) (a : FVec Ideal S1x1024 .f32) (j : S1x1024.Idx) :
    (k0_pay1 (F := Ideal) (k0_pay5 (iblk m c 0 t)) (dx m c t) a j : EReal) = a j + part9 m c t (j 1) := by
  obtain ⟨l, rfl⟩ : ∃ l : Fin 1024, j = ix2 0 l := ⟨j 1, eq_ix2_row j⟩
  refine (Payload.dgain_at _ _ _ l).trans ?_
  simp only [read0, dx_at m hf]
  rfl

theorem zero9 (j : S1x1024.Idx) : (k0_pay3 (F := Ideal) j : EReal) = 0 := by
  rw [eq_ix2_row j]; exact Payload.zero_at _

theorem final9 {c : Dev nD} (hf : Fin' m c) : (dats m 0 c).arrAt 9 cfg0.N = val_main_v81 (F := Ideal) (X0 m c) (X1 m c) (X2 m c) (X3 m c) (X4 m c) (X5 m c) := by
  refine (dats m 0 c).arrAt_eq_of_after_last 9 t0_15 (by decide +kernel) _ fun j => ?_
  blk_simp
  rw [after0_9, Pipeline.eq_sum_fin_of_reset_step_apply_last (fun n h => (outsAt0 m c n h).2.1) 16 (fun _ => 0)
    (fun t j => part9 m c t (j 1))
    (fun t h j => by rw [outsAt0_A m c t h]; frame_out; exact (step9 m hf t _ j).trans (congrArg (· + _) (zero9 j)))
    (fun t h j => by rw [outsAt0_B m c t h]; frame_out; exact step9 m hf t _ j) (le_of_eq N_0) t0_15 rfl j, zero_add]
  rw [eq_ix2_row j]
  refine Eq.trans ?_ (Cert.FfnRefIdeal.Payload.dgain_at _ _ _ _ _ _ (j 1)).symm
  exact Fin.sum_mul_add_congr fun t r hl => rfl

theorem ix_piece {x : S1x256x704.Idx} {r : Fin 256} {f : Fin 704} (h1 : r.val = (x 1).val) (h2 : f.val = (x 2).val) :
    x = ix3 (0 : Fin 1) r f := by
  funext a
  match a with
  | ⟨0, _⟩ => exact Subsingleton.elim (α := Fin 1) _ _
  | ⟨1, _⟩ => exact Fin.ext h1.symm
  | ⟨2, _⟩ => exact Fin.ext h2.symm

theorem out10 (c : Dev nD) (t : Fin cfg0.N) (s : Fin 4) (r : Fin 256) (f : Fin 704) :
    ((outsAt0 m c t.val t.isLt).2.2.1 (ix3 s r f) : EReal) = Payload.dgv (iblk m c 2 t) (iblk m c 3 t) (iblk m c 4 t) (iblk m c 7 t) s r f := by
  by_cases hc : t.val % 16 = 0
  · rw [outsAt0_A m c t hc]; frame_out; clear hc
    canon_tiles x h
    case piece0 =>
      obtain rfl : s = 3 := Fin.ext (by have : s.val = 3 + (x 0).val := h0; show s.val = 3; omega)
      obtain rfl := ix_piece h1 h2
      exact Payload.dg_at3 _ _ _ _ r f
    case piece1 =>
      obtain rfl : s = 2 := Fin.ext (by have : s.val = 2 + (x 0).val := h0; show s.val = 2; omega)
      obtain rfl := ix_piece h1 h2
      exact Payload.dg_at2 _ _ _ _ r f
    case piece2 =>
      obtain rfl : s = 1 := Fin.ext (by have : s.val = 1 + (x 0).val := h0; show s.val = 1; omega)
      obtain rfl := ix_piece h1 h2
      exact Payload.dg_at1 _ _ _ _ r f
    case piece3 =>
      obtain rfl : s = 0 := Fin.ext (by have : s.val = (x 0).val := h0; show s.val = 0; omega)
      obtain rfl := ix_piece h1 h2
      exact Payload.dg_at0 _ _ _ _ r f
  · rw [outsAt0_B m c t hc]; frame_out; clear hc
    canon_tiles x h
    case piece0 =>
      obtain rfl : s = 3 := Fin.ext (by have : s.val = 3 + (x 0).val := h0; show s.val = 3; omega)
      obtain rfl := ix_piece h1 h2
      exact Payload.dg_at3 _ _ _ _ r f
    case piece1 =>
      obtain rfl : s = 2 := Fin.ext (by have : s.val = 2 + (x 0).val := h0; show s.val = 2; omega)
      obtain rfl := ix_piece h1 h2
      exact Payload.dg_at2 _ _ _ _ r f
    case piece2 =>
      obtain rfl : s = 1 := Fin.ext (by have : s.val = 1 + (x 0).val := h0; show s.val = 1; omega)
      obtain rfl := ix_piece h1 h2
      exact Payload.dg_at1 _ _ _ _ r f
    case piece3 =>
      obtain rfl : s = 0 := Fin.ext (by have : s.val = (x 0).val := h0; show s.val = 0; omega)
      obtain rfl := ix_piece h1 h2
      exact Payload.dg_at0 _ _ _ _ r f

theorem out11 (c : Dev nD) (t : Fin cfg0.N) (s : Fin 4) (r : Fin 256) (f : Fin 704) :
    ((outsAt0 m c t.val t.isLt).2.2.2.1 (ix3 s r f) : EReal) = Payload.duv (iblk m c 2 t) (iblk m c 3 t) (iblk m c 7 t) s r f := by
  by_cases hc : t.val % 16 = 0
  · rw [outsAt0_A m c t hc]; frame_out; clear hc
    canon_tiles x h
    case piece0 =>
      obtain rfl : s = 3 := Fin.ext (by have : s.val = 3 + (x 0).val := h0; show s.val = 3; omega)
      obtain rfl := ix_piece h1 h2
      exact Payload.du_at3 _ _ _ r f
    case piece1 =>
      obtain rfl : s = 2 := Fin.ext (by have : s.val = 2 + (x 0).val := h0; show s.val = 2; omega)
      obtain rfl := ix_piece h1 h2
      exact Payload.du_at2 _ _ _ r f
    case piece2 =>
      obtain rfl : s = 1 := Fin.ext (by have : s.val = 1 + (x 0).val := h0; show s.val = 1; omega)
      obtain rfl := ix_piece h1 h2
      exact Payload.du_at1 _ _ _ r f
    case piece3 =>
      obtain rfl : s = 0 := Fin.ext (by have : s.val = (x 0).val := h0; show s.val = 0; omega)
      obtain rfl := ix_piece h1 h2
      exact Payload.du_at0 _ _ _ r f
  · rw [outsAt0_B m c t hc]; frame_out; clear hc
    canon_tiles x h
    case piece0 =>
      obtain rfl : s = 3 := Fin.ext (by have : s.val = 3 + (x 0).val := h0; show s.val = 3; omega)
      obtain rfl := ix_piece h1 h2
      exact Payload.du_at3 _ _ _ r f
    case piece1 =>
      obtain rfl : s = 2 := Fin.ext (by have : s.val = 2 + (x 0).val := h0; show s.val = 2; omega)
      obtain rfl := ix_piece h1 h2
      exact Payload.du_at2 _ _ _ r f
    case piece2 =>
      obtain rfl : s = 1 := Fin.ext (by have : s.val = 1 + (x 0).val := h0; show s.val = 1; omega)
      obtain rfl := ix_piece h1 h2
      exact Payload.du_at1 _ _ _ r f
    case piece3 =>
      obtain rfl : s = 0 := Fin.ext (by have : s.val = (x 0).val := h0; show s.val = 0; omega)
      obtain rfl := ix_piece h1 h2
      exact Payload.du_at0 _ _ _ r f

theorem final10 {c : Dev nD} (hf : Fin' m c) : (dats m 0 c).arrAt 10 cfg0.N = val_main_v84 (F := Ideal) (X0 m c) (X1 m c) (X2 m c) (X3 m c) (X4 m c) (X5 m c) := by
  refine (dats m 0 c).arrAt_eq_of_covers 10 _ (by decide +kernel) fun t _ y => ?_
  blk_simp
  rw [after0_10, eq_ix3 y]
  refine ((out10 m c t (y 0) (y 1) (y 2)).trans (dg_eq m hf t (y 0) (y 1) (y 2))).trans
    (((Cert.FfnRefIdeal.Payload.dg_at _ _ _ _ _ _ (row t (y 1)) (y 0) (y 2)).symm).trans (congrArg _ ?_))
  blk_ext [idx t, row]

theorem final11 (c : Dev nD) : (dats m 0 c).arrAt 11 cfg0.N = val_main_v87 (F := Ideal) (X0 m c) (X1 m c) (X2 m c) (X4 m c) (X5 m c) := by
  refine (dats m 0 c).arrAt_eq_of_covers 11 _ (by decide +kernel) fun t _ y => ?_
  blk_simp
  rw [after0_11, eq_ix3 y]
  refine ((out11 m c t (y 0) (y 1) (y 2)).trans (du_eq m c t (y 0) (y 1) (y 2))).trans
    (((Cert.FfnRefIdeal.Payload.du_at _ _ _ _ _ (row t (y 1)) (y 0) (y 2)).symm).trans (congrArg _ ?_))
  blk_ext [idx t, row]

theorem out12 (c : Dev nD) (t : Fin cfg0.N) (r : Fin 256) (l : Fin 1024) :
    (outsAt0 m c t.val t.isLt).2.2.2.2.1 (ix2 r l) = val_main_v88 (F := Ideal) (X0 m c) (X1 m c) (ix2 (row t r) l) := by
  have key : (outsAt0 m c t.val t.isLt).2.2.2.2.1 (ix2 r l) = k0_pay6 (F := Ideal) (iblk m c 0 t) (iblk m c 1 t) (ix2 r l) := by
    by_cases h : t.val % 16 = 0
    · rw [outsAt0_A m c t h]; frame_out
    · rw [outsAt0_B m c t h]; frame_out
  rw [key]
  refine (Payload.xn_at _ _ r l).trans (Eq.trans ?_ (Cert.FfnRefIdeal.Payload.xn_at _ _ (row t r) l).symm)
  simp only [read0, read1, xnR]

theorem final12 (c : Dev nD) : (dats m 0 c).arrAt 12 cfg0.N = val_main_v88 (F := Ideal) (X0 m c) (X1 m c) := by
  refine (dats m 0 c).arrAt_eq_of_covers 12 _ (by decide +kernel) fun t _ y => ?_
  blk_simp
  rw [after0_12, eq_ix2 y]
  refine (out12 m c t (y 0) (y 1)).trans (congrArg _ ?_)
  blk_ext [idx t, row]

theorem out13 (c : Dev nD) (t : Fin cfg0.N) (r : Fin 256) (l : Fin 1024) :
    (outsAt0 m c t.val t.isLt).2.2.2.2.2 (ix2 r l) = val_main_v91 (F := Ideal) (X5 m c) (ix2 (row t r) l) := by
  have key : (outsAt0 m c t.val t.isLt).2.2.2.2.2 (ix2 r l) = k0_pay7 (F := Ideal) (iblk m c 2 t) (ix2 r l) := by
    by_cases h : t.val % 16 = 0
    · rw [outsAt0_A m c t h]; frame_out
    · rw [outsAt0_B m c t h]; frame_out
  rw [key]
  refine (Payload.do_at _ r l).trans (Eq.trans ?_ (Cert.FfnRefIdeal.Payload.do_at _ (row t r) l).symm)
  rw [read2]

theorem final13 (c : Dev nD) : (dats m 0 c).arrAt 13 cfg0.N = val_main_v91 (F := Ideal) (X5 m c) := by
  refine (dats m 0 c).arrAt_eq_of_covers 13 _ (by decide +kernel) fun t _ y => ?_
  blk_simp
  rw [after0_13, eq_ix2 y]
  refine (out13 m c t (y 0) (y 1)).trans (congrArg _ ?_)
  blk_ext [idx t, row]

end Cert.FfnIdeal.Value

/-! ## The claims -/

namespace Cert.Proof.Ffn

theorem frame_ref : Cert.quiescent_FfnRefIdeal := fun m ρ _ =>
  (θ_run Cert.FfnRefIdeal.defs _ _).mono
    (fun r h => ⟨fun c => (h c).2.2.2.2.2.2, Idealize.ShloMosaic.sem_eq_zero_of_no_sems (by decide) r.2⟩)
    (Cert.FfnRefIdeal.Value.run (F := Ideal) m ρ)

open Cert.FfnIdeal.Value in
theorem algebraic : Cert.algebraic_FfnIdeal_FfnRefIdeal_pre_ffn_finite := by
  pair_intro
  · run_from Cert.FfnIdeal.Value.run_blocks m g
  · run_from Cert.FfnRefIdeal.Value.run m' g'
    · rw [Cert.FfnRefIdeal.Read.val_main_v54_eq, (hagree c).1, (hagree c).2.1, (hagree c).2.2.1, (hagree c).2.2.2.1,
        (hagree c).2.2.2.2.1, (hagree c).2.2.2.2.2]
      exact (final8 m (fin_of m hpre c)).symm
    · rw [Cert.FfnRefIdeal.Read.val_main_v81_eq, (hagree c).1, (hagree c).2.1, (hagree c).2.2.1, (hagree c).2.2.2.1,
        (hagree c).2.2.2.2.1, (hagree c).2.2.2.2.2]
      exact (final9 m (fin_of m hpre c)).symm
    · rw [Cert.FfnRefIdeal.Read.val_main_v84_eq, (hagree c).1, (hagree c).2.1, (hagree c).2.2.1, (hagree c).2.2.2.1,
        (hagree c).2.2.2.2.1, (hagree c).2.2.2.2.2]
      exact (final10 m (fin_of m hpre c)).symm
    · exact (Cert.FfnRefIdeal.Read.val_main_v87_eq _ _ _ _ _).trans (final11 m c).symm
    · exact (Cert.FfnRefIdeal.Read.val_main_v88_eq _ _).trans (final12 m c).symm
    · exact (Cert.FfnRefIdeal.Read.val_main_v91_eq _).trans (final13 m c).symm

end Cert.Proof.Ffn

end
-- ==== Proof.FfnWClaim.lean ====
module

public import proofs.«01_k».proof.Defs
public import proofs.«01_k».proof.Proof.Common
public import proofs.«01_k».proof.Proof.Gen.FfnW.Frame
public import proofs.«01_k».proof.Proof.Gen.FfnWIdeal.Value
public import proofs.«01_k».proof.Proof.Gen.FfnWRefIdeal.Run
public import proofs.«01_k».proof.Proof.Gen.FfnWRefIdeal.Read
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Common

/-! ## The kernel's payloads at an index -/

namespace Cert.FfnWIdeal.Payload

open Cert.FfnWIdeal Cert.FfnWIdeal.Gen

variable (x : Vec Ideal S1024x1024 .bf16) (a : FVec Ideal S704x1024 .f32) (d u : Vec Ideal S1x1024x704 .bf16)

theorem dg_at (f : Fin 704) (l : Fin 1024) :
    (k0_pay9 (F := Ideal) x a d (ix2 f l) : EReal) = a (ix2 f l) + ∑ r : Fin 1024, (d (ix3 0 r f) * x (ix2 r l) : EReal) := by
  pointwise [k0_pay9, k0_pay8]

theorem du_at (f : Fin 704) (l : Fin 1024) :
    (k0_pay10 (F := Ideal) x a d (ix2 f l) : EReal) = a (ix2 f l) + ∑ r : Fin 1024, (d (ix3 0 r f) * x (ix2 r l) : EReal) := by
  pointwise [k0_pay10, k0_pay8]

theorem dd_at (f : Fin 704) (l : Fin 1024) :
    (k0_pay1 (F := Ideal) (k0_pay11 d) (k0_pay12 u) a x (ix2 f l) : EReal)
      = a (ix2 f l) + ∑ r : Fin 1024, (d (ix3 0 r f) * sgm (d (ix3 0 r f)) * u (ix3 0 r f) * x (ix2 r l) : EReal) := by
  pointwise [k0_pay1, k0_pay11, k0_pay12]
  rfl

theorem zero_at5 (j : S704x1024.Idx) : (k0_pay5 (F := Ideal) j : EReal) = 0 := by pointwise [k0_pay5]
theorem zero_at6 (j : S704x1024.Idx) : (k0_pay6 (F := Ideal) j : EReal) = 0 := by pointwise [k0_pay6]
theorem zero_at7 (j : S704x1024.Idx) : (k0_pay7 (F := Ideal) j : EReal) = 0 := by pointwise [k0_pay7]

theorem cast_at2 (f : Fin 704) (l : Fin 1024) : (k0_pay2 (F := Ideal) a (ix3 (0 : Fin 1) f l) : EReal) = a (ix2 f l) := by
  pointwise [k0_pay2]

theorem cast_at3 (f : Fin 704) (l : Fin 1024) : (k0_pay3 (F := Ideal) a (ix3 (0 : Fin 1) f l) : EReal) = a (ix2 f l) := by
  pointwise [k0_pay3]

theorem cast_at4 (f : Fin 704) (l : Fin 1024) : (k0_pay4 (F := Ideal) a (ix3 (0 : Fin 1) f l) : EReal) = a (ix2 f l) := by
  pointwise [k0_pay4]

end Cert.FfnWIdeal.Payload

/-! ## The reference's terms at an index -/

namespace Cert.FfnWRefIdeal.Payload

open Cert.FfnWRefIdeal Cert.FfnWRefIdeal.Gen Cert.FfnWRefIdeal.Read

variable (xn : FVec Ideal S4096x1024 .f32) (wg wu : FVec Ideal S1024x2816 .f32) (dg du : FVec Ideal S4096x2816 .f32)
  (dob : FVec Ideal S4096x1024 .f32)

/-- A product of the normed rows. -/
def prod (w : FVec Ideal S1024x2816 .f32) (r : Fin 4096) (n : Fin 2816) : EReal := ∑ l : Fin 1024, xn (ix2 r l) * w (ix2 l n)

/-- The gated product. -/
def act (r : Fin 4096) (n : Fin 2816) : EReal := prod xn wg r n * sgm (prod xn wg r n) * prod xn wu r n

theorem dg_at (s : Fin 4) (f : Fin 704) (l : Fin 1024) :
    (val_main_v17 (F := Ideal) xn dg (ix3 s f l) : EReal) = ∑ r : Fin 4096, dg (ix2 r ⟨s.val * 704 + f.val, by omega⟩) * xn (ix2 r l) := by
  pointwise [val_main_v17, val_main_v16, val_main_v14, val_main_v5, val_main_v4]

theorem du_at (s : Fin 4) (f : Fin 704) (l : Fin 1024) :
    (val_main_v19 (F := Ideal) xn du (ix3 s f l) : EReal) = ∑ r : Fin 4096, du (ix2 r ⟨s.val * 704 + f.val, by omega⟩) * xn (ix2 r l) := by
  pointwise [val_main_v19, val_main_v18, val_main_v15, val_main_v3, val_main_v2]

theorem dd_at (s : Fin 4) (f : Fin 704) (l : Fin 1024) :
    (val_main_v21 (F := Ideal) xn wg wu dob (ix3 s f l) : EReal)
      = ∑ r : Fin 4096, act xn wg wu r ⟨s.val * 704 + f.val, by omega⟩ * dob (ix2 r l) := by
  pointwise [val_main_v21, val_main_v20, val_main_v13, val_main_v12, val_main_v10, val_main_v8, val_main_call0_v5, val_main_call0_v3, val_main_call0_v1, val_main_call0_v0, val_main_v7, val_main_call0_v2, val_main_call0_cst, val_main_call0_v4, val_main_call0_cst_0, val_main_v9]
  exact Finset.sum_congr rfl fun r _ => mul_comm _ _

end Cert.FfnWRefIdeal.Payload

/-! ## From the blocks of the run to the arrays -/

namespace Cert.FfnWIdeal.Value

open Cert.FfnWIdeal Cert.FfnWIdeal.Gen
open Cert.FfnWRefIdeal.Payload (prod act)
open Cert.FfnWRefIdeal.Read

variable (m : (ℓ : Loc nD τ sig) → Buf (Elt Ideal) ℓ)

theorem idx : ∀ t : Fin cfg0.N, win0_0.index t = ![t.val % 4, 0] ∧ win0_1.index t = ![t.val % 4, 0]
    ∧ win0_2.index t = ![t.val / 4, t.val % 4, 0] ∧ win0_3.index t = ![t.val / 4, t.val % 4, 0]
    ∧ win0_4.index t = ![t.val / 4, t.val % 4, 0] ∧ win0_5.index t = ![t.val / 4, t.val % 4, 0]
    ∧ win0_6.index t = ![t.val / 4, 0, 0] ∧ win0_7.index t = ![t.val / 4, 0, 0] ∧ win0_8.index t = ![t.val / 4, 0, 0] :=
  (by decide +kernel : ∀ t : Fin grid0.N, _)

abbrev X0 (c : Dev nD) : FVec Ideal S4096x1024 .f32 := m ((c : Thread nD τ).loc main_arg0)
abbrev X1 (c : Dev nD) : FVec Ideal S1024x2816 .f32 := m ((c : Thread nD τ).loc main_arg1)
abbrev X2 (c : Dev nD) : FVec Ideal S1024x2816 .f32 := m ((c : Thread nD τ).loc main_arg2)
abbrev X3 (c : Dev nD) : FVec Ideal S4096x2816 .f32 := m ((c : Thread nD τ).loc main_arg3)
abbrev X4 (c : Dev nD) : FVec Ideal S4096x2816 .f32 := m ((c : Thread nD τ).loc main_arg4)
abbrev X5 (c : Dev nD) : FVec Ideal S4096x1024 .f32 := m ((c : Thread nD τ).loc main_arg5)

/-- Row `r` of point `t`'s block is row `t % 4 * 1024 + r` of the array. -/
def row (t : Fin cfg0.N) (r : Fin 1024) : Fin 4096 := ⟨t.val % 4 * 1024 + r.val, by omega⟩

/-- The shard of point `t`. -/
def blk (t : Fin cfg0.N) : Fin 4 := ⟨t.val / 4, by have := lt_of_lt_of_eq t.isLt N_0; omega⟩

/-- Column `f` of point `t`'s shard. -/
def col (t : Fin cfg0.N) (f : Fin 704) : Fin 2816 := ⟨t.val / 4 * 704 + f.val, by have := lt_of_lt_of_eq t.isLt N_0; omega⟩

theorem read0 (c : Dev nD) (t : Fin cfg0.N) (r : Fin 1024) (k : Fin 1024) : (iblk m c 0 t (ix2 r k) : EReal) = X0 m c (ix2 (row t r) k) := by
  blk_simp [iblk, idx t]
  entry_read
  pointwise
  blk_ext [idx t, row]
theorem read1 (c : Dev nD) (t : Fin cfg0.N) (r : Fin 1024) (k : Fin 1024) : (iblk m c 1 t (ix2 r k) : EReal) = X5 m c (ix2 (row t r) k) := by
  blk_simp [iblk, idx t]
  entry_read
  pointwise
  blk_ext [idx t, row]
theorem read4 (c : Dev nD) (t : Fin cfg0.N) (r : Fin 1024) (f : Fin 704) :
    (iblk m c 4 t (ix3 (0 : Fin 1) r f) : EReal) = X3 m c (ix2 (row t r) (col t f)) := by
  blk_simp [iblk, idx t]
  entry_read
  pointwise
  blk_ext [idx t, row, col]
theorem read5 (c : Dev nD) (t : Fin cfg0.N) (r : Fin 1024) (f : Fin 704) :
    (iblk m c 5 t (ix3 (0 : Fin 1) r f) : EReal) = X4 m c (ix2 (row t r) (col t f)) := by
  blk_simp [iblk, idx t]
  entry_read
  pointwise
  blk_ext [idx t, row, col]
theorem saved2 (c : Dev nD) (s : Fin 4) (r : Fin 4096) (f : Fin 704) :
    (V m c main_v3 (ix3 s r f) : EReal) = prod (X0 m c) (X1 m c) r ⟨s.val * 704 + f.val, by omega⟩ := by
  entry_read
  pointwise
  rfl
theorem read2 (c : Dev nD) (t : Fin cfg0.N) (r : Fin 1024) (f : Fin 704) :
    (iblk m c 2 t (ix3 (0 : Fin 1) r f) : EReal) = prod (X0 m c) (X1 m c) (row t r) (col t f) := by
  refine Eq.trans ?_ (saved2 m c (blk t) (row t r) f)
  blk_ext [iblk, idx t, row, blk]
theorem saved3 (c : Dev nD) (s : Fin 4) (r : Fin 4096) (f : Fin 704) :
    (V m c main_v7 (ix3 s r f) : EReal) = prod (X0 m c) (X2 m c) r ⟨s.val * 704 + f.val, by omega⟩ := by
  entry_read
  pointwise
  rfl
theorem read3 (c : Dev nD) (t : Fin cfg0.N) (r : Fin 1024) (f : Fin 704) :
    (iblk m c 3 t (ix3 (0 : Fin 1) r f) : EReal) = prod (X0 m c) (X2 m c) (row t r) (col t f) := by
  refine Eq.trans ?_ (saved3 m c (blk t) (row t r) f)
  blk_ext [iblk, idx t, row, blk]

/-- What point `t` adds to the accumulator of result 0. -/
def part6 (c : Dev nD) (t : Fin cfg0.N) (j : S704x1024.Idx) : EReal := ∑ r : Fin 1024, (X3 m c (ix2 (row t r) (col t (j 0))) * X0 m c (ix2 (row t r) (j 1)) : EReal)

theorem step6 (c : Dev nD) (t : Fin cfg0.N) (a : FVec Ideal S704x1024 .f32) (j : S704x1024.Idx) :
    (k0_pay9 (F := Ideal) (iblk m c 0 t) a (iblk m c 4 t) j : EReal) = a j + part6 m c t j := by
  obtain ⟨f, l, rfl⟩ : ∃ f l, j = ix2 f l := ⟨j 0, j 1, eq_ix2 j⟩
  rw [Payload.dg_at]
  exact congrArg (a (ix2 f l) + ·) (Finset.sum_congr rfl fun r _ => by rw [read0, read4]; rfl)

theorem acc6 (c : Dev nD) (t : Fin cfg0.N) (h : t.val % 4 = 3) (j : S704x1024.Idx) :
    ((outsAt0 m c t.val t.isLt).2.2.2.1 j : EReal)
      = ∑ s : Fin 4, part6 m c ⟨4 * (t.val / 4) + s.val, Pipeline.run_point_lt_of_flush t h s⟩ j := by
  rw [Pipeline.eq_sum_fin_of_reset_step_apply_of_flush (fun n h => (outsAt0 m c n h).2.2.2.1) 4 (fun _ => 0) (part6 m c)
    (fun t h j => by
      rw [outsAt0_A m c t h (by omega)]; frame_out
      exact (step6 m c t _ j).trans (congrArg (· + _) (Payload.zero_at5 j)))
    (fun t h j => by
      by_cases h' : t.val % 4 = 3
      · rw [outsAt0_C m c t h h']; frame_out; simp only [Idealize.ShloMosaic.read_unread_whole]; exact step6 m c t _ j
      · rw [outsAt0_B m c t h h']; frame_out; simp only [Idealize.ShloMosaic.read_unread_whole]; exact step6 m c t _ j)
    t h j]
  exact zero_add _

theorem out6 (c : Dev nD) (t : Fin cfg0.N) (h : t.val % 4 = 3) (f : Fin 704) (l : Fin 1024) :
    ((outsAt0 m c t.val t.isLt).1 (ix3 (0 : Fin 1) f l) : EReal) = (outsAt0 m c t.val t.isLt).2.2.2.1 (ix2 f l) := by
  rw [outsAt0_C m c t (by omega) h]
  frame_out
  exact Payload.cast_at2 _ f l

/-- Result 0 of the launch. -/
theorem res6 (c : Dev nD) : (dats m 0 c).arrAt 6 cfg0.N = val_main_v17 (F := Ideal) (X0 m c) (X3 m c) := by
  refine (dats m 0 c).arrAt_eq_of_covers 6 _ (by decide +kernel) fun t hf y => ?_
  have h := (flush0_6 t).mp hf
  blk_simp
  rw [after0_6]
  obtain ⟨z, f, l, rfl⟩ : ∃ z f l, y = ix3 z f l := ⟨y 0, y 1, y 2, eq_ix3 y⟩
  obtain rfl : z = 0 := Subsingleton.elim _ _
  refine (out6 m c t h f l).trans ((acc6 m c t h _).trans ?_)
  refine Eq.trans ?_ (Cert.FfnWRefIdeal.Payload.dg_at (X0 m c) (X3 m c) (blk t) f l).symm |>.trans ?_
  · refine Fin.sum_mul_add_congr fun s k hl => ?_
    have h1 : row ⟨4 * (t.val / 4) + s.val, Pipeline.run_point_lt_of_flush t h s⟩ k = ⟨s.val * 1024 + k.val, hl⟩ :=
      Fin.ext (by simp only [row]; omega)
    have h2 : col ⟨4 * (t.val / 4) + s.val, Pipeline.run_point_lt_of_flush t h s⟩ f = ⟨(blk t).val * 704 + f.val, by omega⟩ :=
      Fin.ext (by simp only [col, blk]; omega)
    dsimp only
    rw [show (ix2 f l : S704x1024.Idx) 0 = f from rfl, show (ix2 f l : S704x1024.Idx) 1 = l from rfl, h1, h2]
  · blk_ext [idx t, blk]

/-- What point `t` adds to the accumulator of result 1. -/
def part7 (c : Dev nD) (t : Fin cfg0.N) (j : S704x1024.Idx) : EReal := ∑ r : Fin 1024, (X4 m c (ix2 (row t r) (col t (j 0))) * X0 m c (ix2 (row t r) (j 1)) : EReal)

theorem step7 (c : Dev nD) (t : Fin cfg0.N) (a : FVec Ideal S704x1024 .f32) (j : S704x1024.Idx) :
    (k0_pay10 (F := Ideal) (iblk m c 0 t) a (iblk m c 5 t) j : EReal) = a j + part7 m c t j := by
  obtain ⟨f, l, rfl⟩ : ∃ f l, j = ix2 f l := ⟨j 0, j 1, eq_ix2 j⟩
  rw [Payload.du_at]
  exact congrArg (a (ix2 f l) + ·) (Finset.sum_congr rfl fun r _ => by rw [read0, read5]; rfl)

theorem acc7 (c : Dev nD) (t : Fin cfg0.N) (h : t.val % 4 = 3) (j : S704x1024.Idx) :
    ((outsAt0 m c t.val t.isLt).2.2.2.2.1 j : EReal)
      = ∑ s : Fin 4, part7 m c ⟨4 * (t.val / 4) + s.val, Pipeline.run_point_lt_of_flush t h s⟩ j := by
  rw [Pipeline.eq_sum_fin_of_reset_step_apply_of_flush (fun n h => (outsAt0 m c n h).2.2.2.2.1) 4 (fun _ => 0) (part7 m c)
    (fun t h j => by
      rw [outsAt0_A m c t h (by omega)]; frame_out
      exact (step7 m c t _ j).trans (congrArg (· + _) (Payload.zero_at6 j)))
    (fun t h j => by
      by_cases h' : t.val % 4 = 3
      · rw [outsAt0_C m c t h h']; frame_out; simp only [Idealize.ShloMosaic.read_unread_whole]; exact step7 m c t _ j
      · rw [outsAt0_B m c t h h']; frame_out; simp only [Idealize.ShloMosaic.read_unread_whole]; exact step7 m c t _ j)
    t h j]
  exact zero_add _

theorem out7 (c : Dev nD) (t : Fin cfg0.N) (h : t.val % 4 = 3) (f : Fin 704) (l : Fin 1024) :
    ((outsAt0 m c t.val t.isLt).2.1 (ix3 (0 : Fin 1) f l) : EReal) = (outsAt0 m c t.val t.isLt).2.2.2.2.1 (ix2 f l) := by
  rw [outsAt0_C m c t (by omega) h]
  frame_out
  exact Payload.cast_at3 _ f l

/-- Result 1 of the launch. -/
theorem res7 (c : Dev nD) : (dats m 0 c).arrAt 7 cfg0.N = val_main_v19 (F := Ideal) (X0 m c) (X4 m c) := by
  refine (dats m 0 c).arrAt_eq_of_covers 7 _ (by decide +kernel) fun t hf y => ?_
  have h := (flush0_7 t).mp hf
  blk_simp
  rw [after0_7]
  obtain ⟨z, f, l, rfl⟩ : ∃ z f l, y = ix3 z f l := ⟨y 0, y 1, y 2, eq_ix3 y⟩
  obtain rfl : z = 0 := Subsingleton.elim _ _
  refine (out7 m c t h f l).trans ((acc7 m c t h _).trans ?_)
  refine Eq.trans ?_ (Cert.FfnWRefIdeal.Payload.du_at (X0 m c) (X4 m c) (blk t) f l).symm |>.trans ?_
  · refine Fin.sum_mul_add_congr fun s k hl => ?_
    have h1 : row ⟨4 * (t.val / 4) + s.val, Pipeline.run_point_lt_of_flush t h s⟩ k = ⟨s.val * 1024 + k.val, hl⟩ :=
      Fin.ext (by simp only [row]; omega)
    have h2 : col ⟨4 * (t.val / 4) + s.val, Pipeline.run_point_lt_of_flush t h s⟩ f = ⟨(blk t).val * 704 + f.val, by omega⟩ :=
      Fin.ext (by simp only [col, blk]; omega)
    dsimp only
    rw [show (ix2 f l : S704x1024.Idx) 0 = f from rfl, show (ix2 f l : S704x1024.Idx) 1 = l from rfl, h1, h2]
  · blk_ext [idx t, blk]

/-- What point `t` adds to the accumulator of result 2. -/
def part8 (c : Dev nD) (t : Fin cfg0.N) (j : S704x1024.Idx) : EReal := ∑ r : Fin 1024, (act (X0 m c) (X1 m c) (X2 m c) (row t r) (col t (j 0)) * X5 m c (ix2 (row t r) (j 1)) : EReal)

theorem step8 (c : Dev nD) (t : Fin cfg0.N) (a : FVec Ideal S704x1024 .f32) (j : S704x1024.Idx) :
    (k0_pay1 (F := Ideal) (k0_pay11 (iblk m c 2 t)) (k0_pay12 (iblk m c 3 t)) a (iblk m c 1 t) j : EReal) = a j + part8 m c t j := by
  obtain ⟨f, l, rfl⟩ : ∃ f l, j = ix2 f l := ⟨j 0, j 1, eq_ix2 j⟩
  rw [Payload.dd_at]
  exact congrArg (a (ix2 f l) + ·) (Finset.sum_congr rfl fun r _ => by rw [read1, read2, read3]; rfl)

theorem acc8 (c : Dev nD) (t : Fin cfg0.N) (h : t.val % 4 = 3) (j : S704x1024.Idx) :
    ((outsAt0 m c t.val t.isLt).2.2.2.2.2 j : EReal)
      = ∑ s : Fin 4, part8 m c ⟨4 * (t.val / 4) + s.val, Pipeline.run_point_lt_of_flush t h s⟩ j := by
  rw [Pipeline.eq_sum_fin_of_reset_step_apply_of_flush (fun n h => (outsAt0 m c n h).2.2.2.2.2) 4 (fun _ => 0) (part8 m c)
    (fun t h j => by
      rw [outsAt0_A m c t h (by omega)]; frame_out
      exact (step8 m c t _ j).trans (congrArg (· + _) (Payload.zero_at7 j)))
    (fun t h j => by
      by_cases h' : t.val % 4 = 3
      · rw [outsAt0_C m c t h h']; frame_out; simp only [Idealize.ShloMosaic.read_unread_whole]; exact step8 m c t _ j
      · rw [outsAt0_B m c t h h']; frame_out; simp only [Idealize.ShloMosaic.read_unread_whole]; exact step8 m c t _ j)
    t h j]
  exact zero_add _

theorem out8 (c : Dev nD) (t : Fin cfg0.N) (h : t.val % 4 = 3) (f : Fin 704) (l : Fin 1024) :
    ((outsAt0 m c t.val t.isLt).2.2.1 (ix3 (0 : Fin 1) f l) : EReal) = (outsAt0 m c t.val t.isLt).2.2.2.2.2 (ix2 f l) := by
  rw [outsAt0_C m c t (by omega) h]
  frame_out
  exact Payload.cast_at4 _ f l

/-- Result 2 of the launch. -/
theorem res8 (c : Dev nD) : (dats m 0 c).arrAt 8 cfg0.N = val_main_v21 (F := Ideal) (X0 m c) (X1 m c) (X2 m c) (X5 m c) := by
  refine (dats m 0 c).arrAt_eq_of_covers 8 _ (by decide +kernel) fun t hf y => ?_
  have h := (flush0_8 t).mp hf
  blk_simp
  rw [after0_8]
  obtain ⟨z, f, l, rfl⟩ : ∃ z f l, y = ix3 z f l := ⟨y 0, y 1, y 2, eq_ix3 y⟩
  obtain rfl : z = 0 := Subsingleton.elim _ _
  refine (out8 m c t h f l).trans ((acc8 m c t h _).trans ?_)
  refine Eq.trans ?_ (Cert.FfnWRefIdeal.Payload.dd_at (X0 m c) (X1 m c) (X2 m c) (X5 m c) (blk t) f l).symm |>.trans ?_
  · refine Fin.sum_mul_add_congr fun s k hl => ?_
    have h1 : row ⟨4 * (t.val / 4) + s.val, Pipeline.run_point_lt_of_flush t h s⟩ k = ⟨s.val * 1024 + k.val, hl⟩ :=
      Fin.ext (by simp only [row]; omega)
    have h2 : col ⟨4 * (t.val / 4) + s.val, Pipeline.run_point_lt_of_flush t h s⟩ f = ⟨(blk t).val * 704 + f.val, by omega⟩ :=
      Fin.ext (by simp only [col, blk]; omega)
    dsimp only
    rw [show (ix2 f l : S704x1024.Idx) 0 = f from rfl, show (ix2 f l : S704x1024.Idx) 1 = l from rfl, h1, h2]
  · blk_ext [idx t, blk]

end Cert.FfnWIdeal.Value

/-! ## The claims -/

namespace Cert.Proof.FfnW

theorem frame_ref : Cert.quiescent_FfnWRefIdeal := fun m ρ _ =>
  (θ_run Cert.FfnWRefIdeal.defs _ _).mono
    (fun r h => ⟨fun c => (h c).2.2.2, Idealize.ShloMosaic.sem_eq_zero_of_no_sems (by decide) r.2⟩)
    (Cert.FfnWRefIdeal.Value.run (F := Ideal) m ρ)

open Cert.FfnWIdeal.Value in
theorem algebraic : Cert.algebraic_FfnWIdeal_FfnWRefIdeal := by
  pair_intro
  · run_from Cert.FfnWIdeal.Value.run_blocks m g
  · run_from Cert.FfnWRefIdeal.Value.run m' g'
    · exact (Cert.FfnWRefIdeal.Read.val_main_v17_eq _ _).trans (res6 m c).symm
    · exact (Cert.FfnWRefIdeal.Read.val_main_v19_eq _ _).trans (res7 m c).symm
    · exact (Cert.FfnWRefIdeal.Read.val_main_v21_eq _ _ _ _).trans (res8 m c).symm

end Cert.Proof.FfnW

end
-- ==== Proof.BoundsClaim.lean ====
module

public import proofs.«01_k».proof.Defs
public import proofs.«01_k».proof.Proof.Common
public import proofs.«01_k».proof.Proof.Gen.Bounds.Frame
public import proofs.«01_k».proof.Proof.Gen.BoundsIdeal.Frame
public import proofs.«01_k».proof.Proof.Gen.BoundsRefIdeal.Run
public import proofs.«01_k».proof.Proof.Gen.BoundsRefIdeal.Read
public import Idealize.ShloMosaic.Lib.Pipeline.ValueKit
public import Idealize.ShloMosaic.Lib.ReduceAll

@[expose] public section

set_option maxRecDepth 16384

noncomputable section

open Idealize.ShloMosaic Idealize.ShloMosaic.TcCoe Idealize.SL.Sem
open Idealize.ShloMosaic.Pipeline (Dat)
open Cert.Common

/-! ## The gradient at one column -/

namespace Cert.Bounds.Math

/-- The largest of a column's four entries. -/
def top (X : Fin 4 → EReal) : EReal := Finset.univ.fold max ⊥ X

/-- The softmax's numerator. -/
def e (X : Fin 4 → EReal) (k : Fin 4) : EReal := Ideal.exp (X k - top X)

/-- The cotangent of the logits, the part that goes through the numerators. -/
def w (X P : Fin 4 → EReal) (k : Fin 4) : EReal :=
  (Ideal.div (P k) (∑ i, e X i) + -∑ i, P i * Ideal.div 1 ((∑ i, e X i) * ∑ i, e X i) * e X i) * e X k

/-- One where an entry is the largest, zero elsewhere. -/
def hit (X : Fin 4 → EReal) (k : Fin 4) : EReal :=
  FloatOps.sitofp (F := Ideal) (w := 32) .f32 (BitVec.setWidth 32 (BitVec.ofBool (decide (X k = top X))))

/-- The cotangent of the softmax: the running sum backwards, less the first row's share. -/
def p (D : Fin 4 → EReal) (k : Fin 4) : EReal :=
  if k = 0 then 0 else ∑ i : Fin 4, if h : k.val + i.val < 4 then D ⟨k.val + i.val, h⟩ else 0

theorem top_mem (X : Fin 4 → EReal) : ∃ i, top X = X i := by
  obtain ⟨i, -, h⟩ := Finset.exists_mem_eq_sup Finset.univ ⟨(0 : Fin 4), Finset.mem_univ _⟩ X
  exact ⟨i, h⟩

theorem hit_eq (X : Fin 4 → EReal) (k : Fin 4) : hit X k = ((if X k = top X then (1 : ℝ) else 0 : ℝ) : EReal) := by
  unfold hit
  by_cases h : X k = top X
  · rw [decide_eq_true h, if_pos h]
    show (((BitVec.setWidth 32 (BitVec.ofBool true)).toInt : ℝ) : EReal) = _
    rw [show (BitVec.setWidth 32 (BitVec.ofBool true)).toInt = 1 by decide, Int.cast_one]
  · rw [decide_eq_false h, if_neg h]
    show (((BitVec.setWidth 32 (BitVec.ofBool false)).toInt : ℝ) : EReal) = _
    rw [show (BitVec.setWidth 32 (BitVec.ofBool false)).toInt = 0 by decide, Int.cast_zero]

/-- Over finite entries the part that goes through the largest entry is zero. -/
theorem tie (X P : Fin 4 → EReal) (hX : ∀ i, IsReal (X i)) (hP : ∀ i, IsReal (P i)) (k : Fin 4) :
    w X P k + Ideal.div (∑ i, -w X P i) (∑ i, hit X i) * hit X k = w X P k := by
  choose x hx using hX
  choose q hq using hP
  obtain ⟨m, hm⟩ := top_mem X
  have he : ∀ i, e X i = ((Real.exp (x i - x m) : ℝ) : EReal) := fun i => by
    unfold e; rw [hm, hx, hx, ← EReal.coe_sub]; rfl
  have hS : (∑ i, e X i) = ((∑ i, Real.exp (x i - x m) : ℝ) : EReal) := by simp only [he]; exact (coe_sum _ _).symm
  have hpos : (0 : ℝ) < ∑ i, Real.exp (x i - x m) := Finset.sum_pos (fun i _ => Real.exp_pos _) ⟨0, Finset.mem_univ _⟩
  generalize hE : (fun i => Real.exp (x i - x m)) = E at *
  have he : ∀ i, e X i = ((E i : ℝ) : EReal) := fun i => (he i).trans (by rw [← hE])
  have hS : (∑ i, e X i) = ((∑ i, E i : ℝ) : EReal) := by simp only [he]; exact (coe_sum _ _).symm
  have hpos : (0 : ℝ) < ∑ i, E i := by rw [← hE]; exact Finset.sum_pos (fun i _ => Real.exp_pos _) ⟨0, Finset.mem_univ _⟩
  have hw : ∀ i, w X P i = (((q i * (∑ i, E i)⁻¹ - ∑ j, q j * (1 * ((∑ i, E i) * ∑ i, E i)⁻¹) * E j) * E i : ℝ) : EReal) := fun i => by
    unfold w
    rw [hS, ← EReal.coe_mul, div_real _ (mul_pos hpos hpos).ne', div_real _ hpos.ne', hq i]
    simp only [hq, he]
    rw [sub_eq_add_neg]
    norm_cast
  have hsum : (∑ i, -w X P i) = 0 := by
    simp only [hw]
    norm_cast
    rw [← coe_sum, ← EReal.coe_zero]
    congr 1
    have h1 : ∀ i, -((q i * (∑ i, E i)⁻¹ - ∑ j, q j * (1 * ((∑ i, E i) * ∑ i, E i)⁻¹) * E j) * E i)
        = (∑ j, q j * (1 * ((∑ i, E i) * ∑ i, E i)⁻¹) * E j) * E i - q i * E i * (∑ i, E i)⁻¹ := fun i => by ring
    have h2 : (∑ j, q j * (1 * ((∑ i, E i) * ∑ i, E i)⁻¹) * E j) = (∑ j, q j * E j) * ((∑ i, E i)⁻¹ * (∑ i, E i)⁻¹) := by
      refine Eq.trans (Finset.sum_congr rfl fun j _ => ?_) (Finset.sum_mul _ _ _).symm
      rw [mul_inv]; ring
    rw [Finset.sum_congr rfl fun i _ => h1 i, Finset.sum_sub_distrib, ← Finset.mul_sum, ← Finset.sum_mul, h2]
    have := hpos.ne'
    field_simp
    ring
  have hc : (∑ i, hit X i) = ((∑ i, (if X i = top X then (1 : ℝ) else 0) : ℝ) : EReal) := by
    simp only [hit_eq]; exact (coe_sum _ _).symm
  have hcpos : (0 : ℝ) < ∑ i, (if X i = top X then (1 : ℝ) else 0) := by
    refine Finset.sum_pos' (fun i _ => by split <;> norm_num) ⟨m, Finset.mem_univ _, ?_⟩
    rw [if_pos hm.symm]; norm_num
  rw [hsum, hc, div_real _ hcpos.ne', zero_mul, zero_mul, add_zero]

theorem p_0 (D : Fin 4 → EReal) : 0 + 0 + 0 = p D 0 := by
  unfold p; rw [if_pos rfl, add_zero, add_zero]
theorem p_1 (D : Fin 4 → EReal) : 0 + 0 + (D 1 + (D 2 + D 3)) = p D 1 := by
  unfold p
  rw [if_neg (by decide), Fin.sum_univ_four, dif_pos (by decide), dif_pos (by decide), dif_pos (by decide), dif_neg (by decide), add_zero, add_zero, zero_add, ← add_assoc]
  rfl
theorem p_2 (D : Fin 4 → EReal) : 0 + (D 2 + D 3) + 0 = p D 2 := by
  unfold p
  rw [if_neg (by decide), Fin.sum_univ_four, dif_pos (by decide), dif_pos (by decide), dif_neg (by decide), dif_neg (by decide), add_zero, add_zero, zero_add, add_zero]
  rfl
theorem p_3 (D : Fin 4 → EReal) : D 3 + 0 + 0 = p D 3 := by
  unfold p
  rw [if_neg (by decide), Fin.sum_univ_four, dif_pos (by decide), dif_neg (by decide), dif_neg (by decide), dif_neg (by decide)]
  simp only [add_zero]
  rfl

theorem p_real (D : Fin 4 → EReal) (hD : ∀ i, IsReal (D i)) (k : Fin 4) : IsReal (p D k) := by
  unfold p
  split
  · exact ⟨0, rfl⟩
  · refine IsReal.sum _ fun i => ?_
    split
    · exact hD _
    · exact ⟨0, rfl⟩

/-- The reference's first row: minus the column's sum and the column's sum. -/
theorem p_ref (D : Fin 4 → EReal) (hD : ∀ i, IsReal (D i)) (k : Fin 4) :
    (if k.val < 1 then ∑ _x : Fin 1, ∑ i, -D i else 0) + (∑ i : Fin 4, if h : k.val + i.val < 4 then D ⟨k.val + i.val, h⟩ else 0)
      = p D k := by
  choose d hd using hD
  unfold p
  by_cases hk : k = 0
  · subst hk
    simp only [hd, Fin.sum_univ_four, Fin.sum_univ_one]
    norm_num
    norm_cast
    ring_nf
    show -d 2 - d 3 + d 2 + d 3 = 0
    ring
  · rw [if_neg hk, if_neg (by have := Fin.val_ne_of_ne hk; simp at this; omega), zero_add]

end Cert.Bounds.Math

/-! ## The reference at an index -/

namespace Cert.BoundsRefIdeal.Payload
open Cert.BoundsRefIdeal Cert.BoundsRefIdeal.Gen Cert.BoundsRefIdeal.Read

theorem foldl_add {ι : Type} (f : ι → EReal) (l : List ι) : ∀ v : EReal, l.foldl (fun r n => r + f n) v = v + (l.map f).sum := by
  induction l with
  | nil => intro v; simp
  | cons a l ih => intro v; rw [List.foldl_cons, ih, List.map_cons, List.sum_cons]; ac_rfl

/-- A running sum from the last row up: row `k` holds the sum of the rows from `k` on. -/
theorem suffix (x : FVec Ideal S4x512 .f32) (v : FVec Ideal S_ .f32) (hv : ∀ i, (v i : EReal) = 0)
    (h : S4x512.ReduceWindows ![4, 1] ![1, 1] ![0, 0] ![3, 0] S4x512) (hu : 0 < S_.numel) (k : Fin 4) (j : Fin 512) :
    (Host.reduceWindowAdd ![4, 1] ![1, 1] ![0, 0] ![3, 0] x v h hu (ix2 k j) : EReal)
      = ∑ i : Fin 4, if h : k.val + i.val < 4 then (x (ix2 ⟨k.val + i.val, h⟩ j) : EReal) else 0 := by
  refine (foldl_add _ _ _).trans ?_
  rw [hv, zero_add, ← Fin.sum_univ_def]
  show (∑ n : Fin 4, _ : EReal) = _
  refine Finset.sum_congr rfl fun n _ => ?_
  have hw0 : ((⟨2, ![4, 1]⟩ : Shape).rowMajor.symm n 0).val = n.val := by fin_cases n <;> decide
  have hw1 : ((⟨2, ![4, 1]⟩ : Shape).rowMajor.symm n 1).val = 0 := by fin_cases n <;> decide
  have hj := j.isLt
  by_cases hin : k.val + n.val < 4
  · rw [dif_pos hin]
    refine (dif_pos ?_).trans (congrArg x (funext fun a => Fin.ext ?_))
    · intro a
      match a with
      | ⟨0, _⟩ =>
        show 0 ≤ k.val * 1 + ((⟨2, ![4, 1]⟩ : Shape).rowMajor.symm n 0).val ∧ k.val * 1 + ((⟨2, ![4, 1]⟩ : Shape).rowMajor.symm n 0).val - 0 < 4
        rw [hw0]; omega
      | ⟨1, _⟩ =>
        show 0 ≤ j.val * 1 + ((⟨2, ![4, 1]⟩ : Shape).rowMajor.symm n 1).val ∧ j.val * 1 + ((⟨2, ![4, 1]⟩ : Shape).rowMajor.symm n 1).val - 0 < 512
        rw [hw1]; omega
    · match a with
      | ⟨0, _⟩ =>
        show k.val * 1 + ((⟨2, ![4, 1]⟩ : Shape).rowMajor.symm n 0).val - 0 = k.val + n.val
        rw [hw0]; omega
      | ⟨1, _⟩ =>
        show j.val * 1 + ((⟨2, ![4, 1]⟩ : Shape).rowMajor.symm n 1).val - 0 = j.val
        rw [hw1]; omega
  · rw [dif_neg hin]
    refine dif_neg fun hh => hin ?_
    have h0 : 0 ≤ k.val * 1 + ((⟨2, ![4, 1]⟩ : Shape).rowMajor.symm n 0).val ∧ k.val * 1 + ((⟨2, ![4, 1]⟩ : Shape).rowMajor.symm n 0).val - 0 < 4 := hh 0
    rw [hw0] at h0; omega

variable (x d : FVec Ideal S4x512 .f32)
theorem v41 (k : Fin 4) (j : Fin 512) : (val_main_v41 (F := Ideal) d (ix2 k j) : EReal) =
   ∑ i : Fin 4, if h : k.val + i.val < 4 then (d (ix2 ⟨k.val + i.val, h⟩ j) : EReal) else 0 := by
  refine (suffix _ _ (fun i => ?_) _ _ k j).trans ?_
  · pointwise [val_main_call1_call0_v0, val_main_call1_call0_cst]
  · pointwise [val_main_v34]

theorem v42_at (hd : ∀ i, IsReal (d i)) (k : Fin 4) (j : Fin 512) :
    (val_main_v42 (F := Ideal) d (ix2 k j) : EReal) = Bounds.Math.p (fun i => d (ix2 i j)) k := by
  rw [val_main_v42_apply]
  refine Eq.trans ?_ (Bounds.Math.p_ref _ (fun i => hd _) k)
  refine congrArg₂ (fun a b : EReal => a + b) ?_ (v41 d k j)
  pointwise [val_main_v40, val_main_cst_11, val_main_v39, val_main_v38, val_main_cst_10, val_main_v37, val_main_v36, val_main_cst_9, val_main_v35]
  rfl

theorem bot_bits : Ideal.ofBits .f32 4286578688#32 = ⊥ := by
  simp [Ideal.ofBits, Ideal.ieee]

/-- The reference's result at an index. -/
theorem v54_at (hd : ∀ i, IsReal (d i)) (k : Fin 4) (j : Fin 512) :
    (val_main_v54 (F := Ideal) x d (ix2 k j) : EReal)
      = Bounds.Math.w (fun i => x (ix2 i j)) (Bounds.Math.p fun i => d (ix2 i j)) k := by
  pointwise [val_main_v54, val_main_v20, val_main_v19, val_main_v18, val_main_v17, val_main_v7, val_main_v0, val_main_cst, val_main_v6, val_main_cst_1, val_main_v53, val_main_v50, val_main_v49, val_main_v22, val_main_v21, val_main_cst_7, val_main_v52, val_main_v51, val_main_cst_13, val_main_v48, val_main_v47, val_main_v46, val_main_cst_12, val_main_v45, val_main_v44, val_main_v43, val_main_v27, val_main_v25, val_main_v26, val_main_cst_8]
  simp only [v42_at d hd, bot_bits, max_bot_left, Fin.sum_univ_one]
  rfl

end Cert.BoundsRefIdeal.Payload

/-! ## The kernel's payload at an index -/

namespace Cert.BoundsIdeal.Payload

open Cert.BoundsIdeal Cert.BoundsIdeal.Gen

variable (x d : FVec Ideal S4x512 .f32)

theorem pay7_at (k : Fin 4) (j : Fin 512) : (k0_pay7 (F := Ideal) d (ix2 k j) : EReal) = Bounds.Math.p (fun i => d (ix2 i j)) k := by
  pointwise [k0_pay7]
  fin_vals k with hk
  all_goals simp only [hk, Nat.reduceSub, Nat.reduceLT, ↓reduceDIte]
  · obtain rfl : k = 0 := Fin.ext hk
    exact Bounds.Math.p_0 _
  · obtain rfl : k = 1 := Fin.ext hk
    exact Bounds.Math.p_1 fun i => d (ix2 i j)
  · obtain rfl : k = 2 := Fin.ext hk
    exact Bounds.Math.p_2 fun i => d (ix2 i j)
  · obtain rfl : k = 3 := Fin.ext hk
    exact Bounds.Math.p_3 fun i => d (ix2 i j)

theorem out_at (hx : ∀ i, IsReal (x i)) (hd : ∀ i, IsReal (d i)) (k : Fin 4) (j : Fin 512) :
    (k0_pay1 (F := Ideal) (k0_pay3 x) (k0_pay4 x) (k0_pay5 x) (k0_pay8 x d) (k0_pay9 x d) (ix2 k j) : EReal)
      = Bounds.Math.w (fun i => x (ix2 i j)) (Bounds.Math.p fun i => d (ix2 i j)) k := by
  refine Eq.trans ?_ (Bounds.Math.tie _ _ (fun i => hx _) (Bounds.Math.p_real _ fun i => hd _) k)
  pointwise [k0_pay1, k0_pay3, k0_pay4, k0_pay5, k0_pay8, k0_pay9, k0_pay2, k0_pay6]
  simp only [pay7_at, BoundsRefIdeal.Payload.bot_bits, Fin.sum_univ_one, sub_eq_add_neg, zero_add]
  rfl

end Cert.BoundsIdeal.Payload

/-! ## The run -/

namespace Cert.BoundsIdeal.Value

open Cert.BoundsIdeal Cert.BoundsIdeal.Gen Cert.BoundsRefIdeal.Read

variable (m : (ℓ : Loc nD τ sig) → Buf (Elt Ideal) ℓ) (ρ : Dev nD → PrngReg)

abbrev X0 (c : Dev nD) : FVec Ideal S4x512 .f32 := m ((c : Thread nD τ).loc main_arg0)
abbrev X1 (c : Dev nD) : FVec Ideal S4x512 .f32 := m ((c : Thread nD τ).loc main_arg1)

theorem idx : ∀ t : Fin cfg0.N, win0_0.index t = ![0, 0] ∧ win0_1.index t = ![0, 0] ∧ win0_2.index t = ![0, 0] :=
  (by decide +kernel : ∀ t : Fin grid0.N, _)

theorem res2 (c : Dev nD) (hx : ∀ i, IsReal (X0 m c i)) (hd : ∀ i, IsReal (X1 m c i)) :
    (dats m 0 c).arrAt 2 cfg0.N = val_main_v54 (F := Ideal) (X0 m c) (X1 m c) := by
  refine (dats m 0 c).arrAt_eq_of_covers 2 _ (by decide +kernel) fun t hf y => ?_
  blk_simp
  rw [after0_2, eq_ix2 y]
  have h0 : iblk m c 0 t = X0 m c := by funext i; blk_ext [iblk, idx t]
  have h1 : iblk m c 1 t = X1 m c := by funext i; blk_ext [iblk, idx t]
  rw [h0, h1]
  unfold out0_2
  frame_out
  refine ((Payload.out_at _ _ hx hd (y 0) (y 1)).trans (Cert.BoundsRefIdeal.Payload.v54_at _ _ hd (y 0) (y 1)).symm).trans (congrArg _ ?_)
  blk_ext [idx t]

theorem run : θ_run defs (onTc (τ := τ) (main (F := Ideal))) (s₀ m ρ) (fun r => ∀ c : Dev nD,
    r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(h c).1 2,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

instance pre_facts : Cert.Pre_bounds_finite.Facts where
  bcast_S_S4x512 := by decide
  reducesTo_S4x512_S_d0_1 := by decide
  h_S_ := by decide

theorem fin_of (hpre : Cert.Pre_BoundsIdeal_bounds_finite m) (c : Dev nD) : (∀ i, IsReal (X0 m c i)) ∧ ∀ i, IsReal (X1 m c i) := by
  have : Subsingleton Cert.Pre_bounds_finite.S_.Idx := ⟨fun a b => funext fun k => Fin.elim0 k⟩
  have h := congrFun (hpre c) (fun a => Fin.elim0 a)
  dsimp only [Cert.Pre_bounds_finite.fn] at h
  obtain ⟨h1, h2⟩ := IntOp.andi_eq_one.1 h
  exact ⟨fun i => IsReal.of_lt (Host.reduce_andi_all _ _ _ _ _ h1 i), fun i => IsReal.of_lt (Host.reduce_andi_all _ _ _ _ _ h2 i)⟩

end Cert.BoundsIdeal.Value

/-! ## The claims -/

namespace Cert.Proof.Bounds

theorem frame_ref : Cert.quiescent_BoundsRefIdeal := fun m ρ _ =>
  (θ_run Cert.BoundsRefIdeal.defs _ _).mono
    (fun r h => ⟨fun c => (h c).2, Idealize.ShloMosaic.sem_eq_zero_of_no_sems (by decide) r.2⟩)
    (Cert.BoundsRefIdeal.Value.run (F := Ideal) m ρ)

open Cert.BoundsIdeal.Value in
theorem algebraic : Cert.algebraic_BoundsIdeal_BoundsRefIdeal_pre_bounds_finite := by
  pair_intro
  · run_from Cert.BoundsIdeal.Value.run m g
  · run_from Cert.BoundsRefIdeal.Value.run m' g'
    · rw [Cert.BoundsRefIdeal.Read.val_main_v54_eq, (hagree c).1, (hagree c).2]
      exact (res2 m c (fin_of m hpre c).1 (fin_of m hpre c).2).symm

end Cert.Proof.Bounds

end
-- ==== Proof.SguMath.lean ====
module

public import proofs.«01_k».proof.Proof.Common
public import Idealize.ShloMosaic.Lib.Pipeline.ValueKit

@[expose] public section

set_option maxRecDepth 16384

noncomputable section

open Idealize.ShloMosaic Idealize.ShloMosaic.TcCoe Idealize.SL.Sem
open Cert.Common

/-! The gradient of the spatial gating unit over the reals, for one chunk of 128 rows in its four groups of 64 lanes. -/

namespace Cert.SguMath

def c1 : ℝ := 13386282 / 16777216
def c2 : ℝ := 12003091 / 268435456
def hf : ℝ := 1 / 2
def th3 : ℝ := 3
def nh : ℝ := -(1 / 2)
theorem bits_c1 : Ideal.ofBits .f32 0x3F4C422A#32 = ((c1 : ℝ) : EReal) := by
  unfold c1; simp [Ideal.ofBits, Ideal.ieee, -EReal.coe_mul, -EReal.coe_neg]; norm_num
theorem bits_c2 : Ideal.ofBits .f32 0x3D372713#32 = ((c2 : ℝ) : EReal) := by
  unfold c2; simp [Ideal.ofBits, Ideal.ieee, -EReal.coe_mul, -EReal.coe_neg]; norm_num
theorem bits_three : Ideal.ofBits .f32 0x40400000#32 = ((th3 : ℝ) : EReal) := by
  unfold th3; simp [Ideal.ofBits, Ideal.ieee, -EReal.coe_mul, -EReal.coe_neg]; norm_num
theorem bits_hf : Ideal.ofBits .f32 0x3F000000#32 = ((hf : ℝ) : EReal) := bits_half
theorem bits_nh : Ideal.ofBits .f32 0xBF000000#32 = ((nh : ℝ) : EReal) := bits_neghalf
theorem tanh_coe (x : ℝ) : Ideal.tanh (x : EReal) = ((Real.tanh x : ℝ) : EReal) := rfl

/-- The tanh gate and its gradient. -/
def tg (x : ℝ) : ℝ := Real.tanh (c1 * (x + c2 * (x * (x * x))))
def gel (x : ℝ) : ℝ := x * (hf * (1 + tg x))
def gin (x g : ℝ) : ℝ := c1 * (hf * (x * g) * ((1 + tg x) * (1 - tg x)))
def gbk (x g : ℝ) : ℝ := g * (hf * (1 + tg x)) + gin x g + c2 * gin x g * (th3 * (x * x))

/-- Values by group, row and lane. -/
abbrev T := Fin 4 → Fin 128 → Fin 64 → ℝ

def mean (f : T) : T := fun g r _ => (∑ k, f g r k) * (1 / 64)
def rs (s : ℝ) : ℝ := (Real.sqrt (s + epsR))⁻¹
def rb (s : ℝ) : ℝ := nh * (rs s * (s + epsR)⁻¹)

theorem mean_nonneg {f : T} (h : ∀ g r k, 0 ≤ f g r k) (g : Fin 4) (r : Fin 128) (k : Fin 64) : 0 ≤ mean f g r k :=
  mul_nonneg (Finset.sum_nonneg fun k _ => h g r k) (by norm_num)

variable (w : Fin 4 → Fin 128 → Fin 128 → ℝ) (b : Fin 4 → Fin 128 → ℝ) (gn : Fin 4 → Fin 64 → ℝ) (u v d : T)

def vc : T := fun g r k => gel (v g r k) - mean (fun g r k => gel (v g r k)) g r k
def var : T := mean fun g r k => vc v g r k * vc v g r k
def vh : T := fun g r k => vc v g r k * rs (var v g r k)
def tri (g : Fin 4) (r s : Fin 128) : ℝ := if s ≤ r then w g r s else 0
def mix (g : Fin 4) (r : Fin 128) (k : Fin 64) : ℝ := ∑ s, tri w g r s * vh v g s k
def zz : T := fun g r k => b g r + mix w v g r k
def yy : T := fun g r k => gel (u g r k) * zz w b v g r k
def ms : T := mean fun g r k => yy w b u v g r k * yy w b u v g r k
def dgain (g : Fin 4) (k : Fin 64) : ℝ := ∑ r, yy w b u v g r k * rs (ms w b u v g r k) * d g r k
def dn : T := fun g r k => d g r k * gn g k
def dm : T := mean fun g r k => yy w b u v g r k * dn gn d g r k * rb (ms w b u v g r k)
def dy : T := fun g r k => dn gn d g r k * rs (ms w b u v g r k) + yy w b u v g r k * dm w b gn u v d g r k + dm w b gn u v d g r k * yy w b u v g r k
def dzz : T := fun g r k => gel (u g r k) * dy w b gn u v d g r k
def du : T := fun g r k => gbk (u g r k) (dy w b gn u v d g r k * zz w b v g r k)
def dvh : T := fun g s k => ∑ r, dzz w b gn u v d g r k * tri w g r s
def dw (g : Fin 4) (r s : Fin 128) : ℝ := if s ≤ r then ∑ k, dzz w b gn u v d g r k * vh v g s k else 0
def dvar : T := mean fun g r k => vc v g r k * dvh w b gn u v d g r k * rb (var v g r k)
def dvc : T := fun g r k => dvh w b gn u v d g r k * rs (var v g r k) + vc v g r k * dvar w b gn u v d g r k + dvar w b gn u v d g r k * vc v g r k
def dv : T := fun g r k => gbk (v g r k) (dvc w b gn u v d g r k + mean (fun g r k => 0 - dvc w b gn u v d g r k) g r k)

theorem var_nonneg (g : Fin 4) (r : Fin 128) (k : Fin 64) : 0 ≤ var v g r k := mean_nonneg (fun _ _ _ => mul_self_nonneg _) g r k
theorem ms_nonneg (g : Fin 4) (r : Fin 128) (k : Fin 64) : 0 ≤ ms w b u v g r k := mean_nonneg (fun _ _ _ => mul_self_nonneg _) g r k

theorem rsqrt_rs {s : ℝ} (h : 0 ≤ s) : Ideal.rsqrt ((s + epsR : ℝ) : EReal) = ((rs s : ℝ) : EReal) :=
  rsqrt_pos (by have := epsR_pos; linarith)
theorem div_eps {x : EReal} {s : ℝ} (h : 0 ≤ s) : Ideal.div x ((s + epsR : ℝ) : EReal) = x * (((s + epsR)⁻¹ : ℝ) : EReal) :=
  div_real x (by have := epsR_pos; positivity)

end Cert.SguMath
end
-- ==== Proof.SguChunk.lean ====
module

public import proofs.«01_k».proof.Proof.Common
public import proofs.«01_k».proof.Proof.SguMath
public import proofs.«01_k».proof.Proof.Gen.SguIdeal.Value
public import Idealize.ShloMosaic.Lib.Pipeline.ValueKit

@[expose] public section

set_option maxRecDepth 16384

noncomputable section

open Idealize.ShloMosaic Idealize.ShloMosaic.TcCoe Idealize.SL.Sem
open Cert.Common

/-! One chunk of the kernel's body, stage by stage, and its entries over the reals. -/

namespace Cert.SguIdeal.Chunk

open Cert.SguIdeal Cert.SguIdeal.Gen

abbrev A := FVec Ideal S128x256 .f32

/-- A number at every place of a chunk. -/
def num (b : BitVec 32) : A := broadcast S128x256 (Scalar.ofBits .f32 b)

/-- The tangent in the gate's tanh form. -/
def th (x : A) : A := tanh (mulf (num 0x3F4C422A#32) (addf x (mulf (num 0x3D372713#32) (mulf x (mulf x x)))))
def half (x : A) : A := mulf (num 0x3F000000#32) (addf (num 0x3F800000#32) (th x))
def gelu (x : A) : A := mulf x (half x)
def geluIn (x g : A) : A :=
  mulf (num 0x3F4C422A#32) (mulf (mulf (num 0x3F000000#32) (mulf x g))
    (mulf (addf (num 0x3F800000#32) (th x)) (subf (num 0x3F800000#32) (th x))))
/-- The gradient of the gate's tanh form. -/
def geluBack (x g : A) : A :=
  addf (addf (mulf g (half x)) (geluIn x g))
    (mulf (mulf (num 0x3D372713#32) (geluIn x g)) (mulf (num 0x40400000#32) (mulf x x)))

/-- The mean over a group, in two passes. -/
def mean (avg : FVec Ideal S256x256 .f32) (x : A) : A :=
  addf (matmul dot_S128x256_S256x256_S128x256_1_0_0_1_n_n none (truncf .bf16 x bitsLt_bf16_f32) (truncf .bf16 avg bitsLt_bf16_f32) (constant S128x256 .f32 0x00000000#32))
    (matmul dot_S128x256_S256x256_S128x256_1_0_0_1_n_n none
      (truncf .bf16 (subf x (extf .f32 (truncf .bf16 x bitsLt_bf16_f32) bitsLt_bf16_f32)) bitsLt_bf16_f32)
      (truncf .bf16 avg bitsLt_bf16_f32) (constant S128x256 .f32 0x00000000#32))

def eps (x : A) : A := addf x (num 0x358637BD#32)
def root (x : A) : A := rsqrt (eps x)
def rootBack (x : A) : A := mulf (num 0xBF000000#32) (divf (root x) (eps x))

def lane : IVec S1x256 32 := iota .tc S1x256 32 [1] iota_S1x256_d1_w32
def causal : IVec S128x128 1 := cmpi .sge (iota .tc S128x128 32 [0] iota_S128x128_d0_w32) (iota .tc S128x128 32 [1] iota_S128x128_d1_w32)
/-- The lanes of one group. -/
def group (a b : BitVec 32) : IVec S128x256 1 :=
  broadcastTo S128x256 (shapeCast S1x256 (andi (cmpi .sge lane (broadcast S1x256 a)) (cmpi .slt lane (broadcast S1x256 b))) shapeCasts_S1x256_S1x256) broadcasts_S1x256_S128x256
def only (a b : BitVec 32) (x : A) : A := select (group a b) x (num 0x00000000#32)
def lower (x : FVec Ideal S1x128x128 .f32) : FVec Ideal S128x128 .bf16 :=
  truncf .bf16 (select causal (shapeCast S128x128 x shapeCasts_S1x128x128_S128x128) (broadcast S128x128 (Scalar.ofBits .f32 0x00000000#32))) bitsLt_bf16_f32

variable (w : FVec Ideal S4x128x128 .f32)
def w0 := lower (extractStridedSlice S1x128x128 ![0, 0, 0] w slices_S4x128x128_o0_0_0_S1x128x128)
def w1 := lower (extractStridedSlice S1x128x128 ![1, 0, 0] w slices_S4x128x128_o1_0_0_S1x128x128)
def w2 := lower (extractStridedSlice S1x128x128 ![2, 0, 0] w slices_S4x128x128_o2_0_0_S1x128x128)
def w3 := lower (extractStridedSlice S1x128x128 ![3, 0, 0] w slices_S4x128x128_o3_0_0_S1x128x128)

def mix (wg : FVec Ideal S128x128 .bf16) (h : FVec Ideal S128x256 .bf16) : A :=
  matmul dot_S128x128_S128x256_S128x256_1_0_0_1_n_n none wg h (constant S128x256 .f32 0x00000000#32)
def mixBack (wg : FVec Ideal S128x128 .bf16) (x : A) : FVec Ideal S128x256 .bf16 :=
  truncf .bf16 (transpose S128x256 [1, 0] (matmul dot_S128x256_S128x128_S256x128_0_0_1_1_n_n none x wg (constant S256x128 .f32 0x00000000#32)) transposes_S256x128_p1_0_S128x256) bitsLt_bf16_f32
def mixW (h : FVec Ideal S128x256 .bf16) (x : A) : FVec Ideal S1x128x128 .f32 :=
  shapeCast S1x128x128 (select causal (extf .f32 (truncf .bf16 (matmul dot_S128x256_S128x256_S128x128_1_1_0_0_n_n none x h (constant S128x128 .f32 0x00000000#32)) bitsLt_bf16_f32) bitsLt_bf16_f32)
    (broadcast S128x128 (Scalar.ofBits .f32 0x00000000#32))) shapeCasts_S128x128_S1x128x128

variable (avg : FVec Ideal S256x256 .f32) (b : A) (gain : FVec Ideal S1x256 .f32) (u v d : A)

def vc : A := subf (gelu v) (mean avg (gelu v))
def var : A := mean avg (mulf (vc avg v) (vc avg v))
def vh : FVec Ideal S128x256 .bf16 := truncf .bf16 (mulf (vc avg v) (root (var avg v))) bitsLt_bf16_f32
def zz : A :=
  addf (addf (addf (addf b (only 0#32 64#32 (mix (w0 w) (vh avg v)))) (only 64#32 128#32 (mix (w1 w) (vh avg v))))
    (only 128#32 192#32 (mix (w2 w) (vh avg v)))) (only 192#32 256#32 (mix (w3 w) (vh avg v)))
def yy : A := mulf (gelu u) (zz w avg b v)
def ms : A := mean avg (mulf (yy w avg b u v) (yy w avg b u v))
def dgain : FVec Ideal S1x256 .f32 :=
  shapeCast S1x256 (multiReduction .add [0] S256 (mulf (mulf (yy w avg b u v) (root (ms w avg b u v))) d) 0x00000000#32 reduces_S128x256_S256 (.inl rfl) rfl) shapeCasts_S256_S1x256
def dn : A := mulf d (broadcastTo S128x256 gain broadcasts_S1x256_S128x256)
def dm : A := mean avg (mulf (mulf (yy w avg b u v) (dn gain d)) (rootBack (ms w avg b u v)))
def dy : A :=
  addf (addf (mulf (dn gain d) (root (ms w avg b u v))) (mulf (yy w avg b u v) (dm w avg b gain u v d)))
    (mulf (dm w avg b gain u v d) (yy w avg b u v))
def dzz : A := mulf (gelu u) (dy w avg b gain u v d)
def du : A := geluBack u (mulf (dy w avg b gain u v d) (zz w avg b v))

variable (z : A)
def dvh : FVec Ideal S128x256 .bf16 :=
  addf (addf (addf (mixBack (w3 w) (only 192#32 256#32 z)) (mixBack (w2 w) (only 128#32 192#32 z))) (mixBack (w1 w) (only 64#32 128#32 z)))
    (mixBack (w0 w) (only 0#32 64#32 z))
def dw3 : FVec Ideal S4x128x128 .f32 :=
  concatenate S4x128x128 0 [⟨S3x128x128, broadcast S3x128x128 (Scalar.ofBits .f32 0x00000000#32)⟩, ⟨S1x128x128, mixW (vh avg v) (only 192#32 256#32 z)⟩] concatenates_S3x128x128_S1x128x128_S4x128x128_d0
def dw2 : FVec Ideal S4x128x128 .f32 :=
  concatenate S4x128x128 0 [⟨S3x128x128, concatenate S3x128x128 0 [⟨S2x128x128, broadcast S2x128x128 (Scalar.ofBits .f32 0x00000000#32)⟩, ⟨S1x128x128, mixW (vh avg v) (only 128#32 192#32 z)⟩] concatenates_S2x128x128_S1x128x128_S3x128x128_d0⟩,
    ⟨S1x128x128, broadcast S1x128x128 (Scalar.ofBits .f32 0x00000000#32)⟩] concatenates_S3x128x128_S1x128x128_S4x128x128_d0
def dw1 : FVec Ideal S4x128x128 .f32 :=
  concatenate S4x128x128 0 [⟨S2x128x128, concatenate S2x128x128 0 [⟨S1x128x128, broadcast S1x128x128 (Scalar.ofBits .f32 0x00000000#32)⟩, ⟨S1x128x128, mixW (vh avg v) (only 64#32 128#32 z)⟩] concatenates_S1x128x128_S1x128x128_S2x128x128_d0⟩,
    ⟨S2x128x128, broadcast S2x128x128 (Scalar.ofBits .f32 0x00000000#32)⟩] concatenates_S2x128x128_S2x128x128_S4x128x128_d0
def dw0 : FVec Ideal S4x128x128 .f32 :=
  concatenate S4x128x128 0 [⟨S1x128x128, mixW (vh avg v) (only 0#32 64#32 z)⟩, ⟨S3x128x128, broadcast S3x128x128 (Scalar.ofBits .f32 0x00000000#32)⟩] concatenates_S1x128x128_S3x128x128_S4x128x128_d0
def dwOf : FVec Ideal S4x128x128 .f32 := addf (addf (addf (dw3 avg v z) (dw2 avg v z)) (dw1 avg v z)) (dw0 avg v z)

def dvg : A := extf .f32 (dvh w z) bitsLt_bf16_f32
def dvar : A := mean avg (mulf (mulf (vc avg v) (dvg w z)) (rootBack (var avg v)))
def dvc : A := addf (addf (mulf (dvg w z) (root (var avg v))) (mulf (vc avg v) (dvar w avg v z))) (mulf (dvar w avg v z) (vc avg v))
def dvOf : A := geluBack v (addf (dvc w avg v z) (mean avg (subf (num 0x00000000#32) (dvc w avg v z))))

def dv : A := dvOf w avg v (dzz w avg b gain u v d)
def dw : FVec Ideal S4x128x128 .f32 := dwOf avg v (dzz w avg b gain u v d)

/-! ### Their entries over the reals -/

section Entries
open Cert.SguMath

/-- The lane `k` of the group `g`. -/
def ln (g : Fin 4) (k : Fin 64) : Fin 256 := ⟨g.val * 64 + k.val, by omega⟩

/-- The chunk `x` holds the reals `f`. -/
def Is (x : A) (f : T) : Prop := ∀ g r k, (x (ix2 r (ln g k)) : EReal) = ((f g r k : ℝ) : EReal)

theorem sum_ln (f : Fin 256 → EReal) : ∑ l, f l = ∑ g, ∑ k, f (ln g k) :=
  (Fin.sum_mul_add_congr (F := fun g k => f (ln g k)) fun g k hl => rfl).symm

theorem Is.congr {x : A} {f f' : T} (hx : Is x f) (h : ∀ g r k, f g r k = f' g r k) : Is x f' := fun g r k => (hx g r k).trans (congrArg _ (h g r k))
theorem is_num {c : BitVec 32} {r : ℝ} (h : Ideal.ofBits .f32 c = ((r : ℝ) : EReal)) : Is (num c) fun _ _ _ => r := fun _ _ _ => h
theorem is_mul {x y : A} {f f' : T} (hx : Is x f) (hy : Is y f') : Is (mulf x y) fun g r k => f g r k * f' g r k := fun g r k => by
  show (x _ : EReal) * (y _ : EReal) = _; rw [hx, hy, EReal.coe_mul]
theorem is_add {x y : A} {f f' : T} (hx : Is x f) (hy : Is y f') : Is (addf x y) fun g r k => f g r k + f' g r k := fun g r k => by
  show (x _ : EReal) + (y _ : EReal) = _; rw [hx, hy, EReal.coe_add]
theorem is_sub {x y : A} {f f' : T} (hx : Is x f) (hy : Is y f') : Is (subf x y) fun g r k => f g r k - f' g r k := fun g r k => by
  show (x _ : EReal) - (y _ : EReal) = _; rw [hx, hy, EReal.coe_sub]
theorem is_tanh {x : A} {f : T} (hx : Is x f) : Is (tanh x) fun g r k => Real.tanh (f g r k) := fun g r k => by
  show Ideal.tanh (x _ : EReal) = _; rw [hx, tanh_coe]

theorem is_half : Is (num 0x3F000000#32) fun _ _ _ => hf := is_num bits_hf
theorem is_one : Is (num 0x3F800000#32) fun _ _ _ => 1 := is_num bits_one
theorem is_c1 : Is (num 0x3F4C422A#32) fun _ _ _ => c1 := is_num bits_c1
theorem is_c2 : Is (num 0x3D372713#32) fun _ _ _ => c2 := is_num bits_c2
theorem is_three : Is (num 0x40400000#32) fun _ _ _ => th3 := is_num bits_three
theorem is_zero : Is (num 0x00000000#32) fun _ _ _ => 0 := is_num (by simp [Ideal.ofBits, Ideal.ieee])

variable {x y : A} {f f' : T}
theorem is_th (hx : Is x f) : Is (th x) fun g r k => tg (f g r k) := is_tanh (is_mul is_c1 (is_add hx (is_mul is_c2 (is_mul hx (is_mul hx hx)))))
theorem is_gelu (hx : Is x f) : Is (gelu x) fun g r k => gel (f g r k) := is_mul hx (is_mul is_half (is_add is_one (is_th hx)))
theorem is_geluIn (hx : Is x f) (hy : Is y f') : Is (geluIn x y) fun g r k => gin (f g r k) (f' g r k) :=
  is_mul is_c1 (is_mul (is_mul is_half (is_mul hx hy)) (is_mul (is_add is_one (is_th hx)) (is_sub is_one (is_th hx))))
theorem is_geluBack (hx : Is x f) (hy : Is y f') : Is (geluBack x y) fun g r k => gbk (f g r k) (f' g r k) :=
  is_add (is_add (is_mul hy (is_mul is_half (is_add is_one (is_th hx)))) (is_geluIn hx hy))
    (is_mul (is_mul is_c2 (is_geluIn hx hy)) (is_mul is_three (is_mul hx hx)))

theorem is_root (hx : Is x f) (h : ∀ g r k, 0 ≤ f g r k) : Is (root x) fun g r k => rs (f g r k) := fun g r k => by
  show Ideal.rsqrt ((x _ : EReal) + Ideal.ofBits .f32 0x358637BD#32) = _
  rw [hx, bits_eps, ← EReal.coe_add, rsqrt_rs (h g r k)]
theorem is_rootBack (hx : Is x f) (h : ∀ g r k, 0 ≤ f g r k) : Is (rootBack x) fun g r k => rb (f g r k) := fun g r k => by
  show Ideal.ofBits .f32 0xBF000000#32 * Ideal.div (root x _) ((x _ : EReal) + Ideal.ofBits .f32 0x358637BD#32) = _
  rw [is_root hx h, hx, bits_eps, bits_nh, ← EReal.coe_add, div_eps (h g r k), ← EReal.coe_mul, ← EReal.coe_mul]; rfl

/-- The matrix of the group means. -/
def IsAvg (avg : FVec Ideal S256x256 .f32) : Prop :=
  ∀ (g g' : Fin 4) (k k' : Fin 64), (avg (ix2 (ln g k) (ln g' k')) : EReal) = (((if g = g' then 1 / 64 else 0 : ℝ)) : EReal)

theorem mean_entry (avg : FVec Ideal S256x256 .f32) (x : A) (r : Fin 128) (l : Fin 256) : (mean avg x (ix2 r l) : EReal) =
    (∑ k, (x (ix2 r k) : EReal) * (avg (ix2 k l) : EReal)) + ∑ k, ((x (ix2 r k) : EReal) - (x (ix2 r k) : EReal)) * (avg (ix2 k l) : EReal) := by
  pointwise [mean]
theorem is_mean {avg : FVec Ideal S256x256 .f32} (ha : IsAvg avg) (hx : Is x f) : Is (mean avg x) (SguMath.mean f) := fun g r k => by
  rw [mean_entry, sum_ln, sum_ln]
  simp only [hx _ _ _, ha _ _ _ _, ← EReal.coe_mul, ← EReal.coe_sub, ← coe_sum, ← EReal.coe_add, sub_self, zero_mul, Finset.sum_const_zero, add_zero]
  refine congrArg _ ?_
  simp only [mul_ite, mul_zero, ← Finset.sum_mul, SguMath.mean]
  rw [Finset.sum_eq_single g]
  · simp [Finset.sum_mul]
  · intro g' _ h; simp [h]
  · simp

theorem only_entry (a b : BitVec 32) (g0 : Fin 4)
    (h : ∀ g k, IntOp.andi (IntOp.cmpi .sge (BitVec.ofNat 32 (ln g k).val) a) (IntOp.cmpi .slt (BitVec.ofNat 32 (ln g k).val) b) = if g = g0 then 1#1 else 0#1)
    (g : Fin 4) (r : Fin 128) (k : Fin 64) : (only a b x (ix2 r (ln g k)) : EReal) = if g = g0 then (x (ix2 r (ln g k)) : EReal) else 0 := by
  pointwise [only, group, lane, num]
  rw [h g k]
  split <;> rfl
theorem is_only (a b : BitVec 32) (g0 : Fin 4)
    (h : ∀ g k, IntOp.andi (IntOp.cmpi .sge (BitVec.ofNat 32 (ln g k).val) a) (IntOp.cmpi .slt (BitVec.ofNat 32 (ln g k).val) b) = if g = g0 then 1#1 else 0#1)
    (hx : ∀ r k, (x (ix2 r (ln g0 k)) : EReal) = ((f g0 r k : ℝ) : EReal)) : Is (only a b x) fun g r k => if g = g0 then f g r k else 0 := fun g r k => by
  rw [only_entry a b g0 h]
  show _ = ((if g = g0 then f g r k else 0 : ℝ) : EReal)
  by_cases e : g = g0
  · subst e; rw [if_pos rfl, if_pos rfl, hx]
  · rw [if_neg e, if_neg e]; rfl
theorem lanes0 : ∀ g k, IntOp.andi (IntOp.cmpi .sge (BitVec.ofNat 32 (ln g k).val) 0#32) (IntOp.cmpi .slt (BitVec.ofNat 32 (ln g k).val) 64#32) = if g = 0 then 1#1 else 0#1 := by decide +kernel
theorem lanes1 : ∀ g k, IntOp.andi (IntOp.cmpi .sge (BitVec.ofNat 32 (ln g k).val) 64#32) (IntOp.cmpi .slt (BitVec.ofNat 32 (ln g k).val) 128#32) = if g = 1 then 1#1 else 0#1 := by decide +kernel
theorem lanes2 : ∀ g k, IntOp.andi (IntOp.cmpi .sge (BitVec.ofNat 32 (ln g k).val) 128#32) (IntOp.cmpi .slt (BitVec.ofNat 32 (ln g k).val) 192#32) = if g = 2 then 1#1 else 0#1 := by decide +kernel
theorem lanes3 : ∀ g k, IntOp.andi (IntOp.cmpi .sge (BitVec.ofNat 32 (ln g k).val) 192#32) (IntOp.cmpi .slt (BitVec.ofNat 32 (ln g k).val) 256#32) = if g = 3 then 1#1 else 0#1 := by decide +kernel

theorem causal_entry : ∀ r s : Fin 128, IntOp.cmpi .sge (BitVec.ofNat 32 r.val) (BitVec.ofNat 32 s.val) = if s ≤ r then 1#1 else 0#1 := by decide +kernel
theorem lower_entry (x : FVec Ideal S1x128x128 .f32) (r s : Fin 128) : (lower x (ix2 r s) : EReal) = if s ≤ r then (x (ix3 0 r s) : EReal) else 0 := by
  pointwise [lower, causal]
  rw [causal_entry]
  split <;> rfl
theorem mixBack_entry (wg : FVec Ideal S128x128 .bf16) (x : A) (s : Fin 128) (l : Fin 256) :
    (mixBack wg x (ix2 s l) : EReal) = ∑ r, (x (ix2 r l) : EReal) * (wg (ix2 r s) : EReal) := by
  pointwise [mixBack]
theorem mix_entry (wg : FVec Ideal S128x128 .bf16) (h : FVec Ideal S128x256 .bf16) (r : Fin 128) (l : Fin 256) :
    (Chunk.mix wg h (ix2 r l) : EReal) = ∑ s, (wg (ix2 r s) : EReal) * (h (ix2 s l) : EReal) := by
  pointwise [Chunk.mix]
theorem mixW_entry (h : FVec Ideal S128x256 .bf16) (x : A) (r s : Fin 128) :
    (mixW h x (ix3 0 r s) : EReal) = if s ≤ r then ∑ l, (x (ix2 r l) : EReal) * (h (ix2 s l) : EReal) else 0 := by
  pointwise [mixW, causal]
  rw [causal_entry]
  split <;> rfl

variable {w avg b gain u v d z}
variable {W : Fin 4 → Fin 128 → Fin 128 → ℝ} {B : Fin 4 → Fin 128 → ℝ} {G : Fin 4 → Fin 64 → ℝ} {U V D Z : T}

/-- The square matrices of the groups. -/
def IsW (w : FVec Ideal S4x128x128 .f32) (W : Fin 4 → Fin 128 → Fin 128 → ℝ) : Prop := ∀ g r s, (w (ix3 g r s) : EReal) = ((W g r s : ℝ) : EReal)
theorem ite_coe (p : Prop) [Decidable p] (x : ℝ) : (if p then ((x : ℝ) : EReal) else 0) = ((if p then x else 0 : ℝ) : EReal) := by split <;> rfl

theorem w0_entry (hw : IsW w W) (r s : Fin 128) : (w0 w (ix2 r s) : EReal) = ((tri W 0 r s : ℝ) : EReal) := by
  rw [w0, lower_entry]; pointwise; rw [hw, ite_coe]; rfl
theorem w1_entry (hw : IsW w W) (r s : Fin 128) : (w1 w (ix2 r s) : EReal) = ((tri W 1 r s : ℝ) : EReal) := by
  rw [w1, lower_entry]; pointwise; rw [hw, ite_coe]; rfl
theorem w2_entry (hw : IsW w W) (r s : Fin 128) : (w2 w (ix2 r s) : EReal) = ((tri W 2 r s : ℝ) : EReal) := by
  rw [w2, lower_entry]; pointwise; rw [hw, ite_coe]; rfl
theorem w3_entry (hw : IsW w W) (r s : Fin 128) : (w3 w (ix2 r s) : EReal) = ((tri W 3 r s : ℝ) : EReal) := by
  rw [w3, lower_entry]; pointwise; rw [hw, ite_coe]; rfl

theorem is_vc (ha : IsAvg avg) (hv : Is v V) : Is (Chunk.vc avg v) (SguMath.vc V) := is_sub (is_gelu hv) (is_mean ha (is_gelu hv))
theorem is_var (ha : IsAvg avg) (hv : Is v V) : Is (Chunk.var avg v) (SguMath.var V) := is_mean ha (is_mul (is_vc ha hv) (is_vc ha hv))
theorem vh_entry (ha : IsAvg avg) (hv : Is v V) (g : Fin 4) (r : Fin 128) (k : Fin 64) : (Chunk.vh avg v (ix2 r (ln g k)) : EReal) = ((SguMath.vh V g r k : ℝ) : EReal) :=
  is_mul (is_vc ha hv) (is_root (is_var ha hv) (var_nonneg V)) g r k

theorem mix_is {wg : FVec Ideal S128x128 .bf16} (g : Fin 4) (hw : ∀ r s, (wg (ix2 r s) : EReal) = ((tri W g r s : ℝ) : EReal)) (ha : IsAvg avg) (hv : Is v V)
    (r : Fin 128) (k : Fin 64) : (Chunk.mix wg (Chunk.vh avg v) (ix2 r (ln g k)) : EReal) = ((SguMath.mix W V g r k : ℝ) : EReal) := by
  rw [mix_entry, SguMath.mix, coe_sum]
  exact Finset.sum_congr rfl fun s _ => by rw [hw, vh_entry ha hv, EReal.coe_mul]

/-- The bias of a chunk. -/
def IsB (b : A) (B : Fin 4 → Fin 128 → ℝ) : Prop := Is b fun g r _ => B g r

theorem four (g : Fin 4) (x : Fin 4 → ℝ) (c : ℝ) :
    c + (if g = 0 then x g else 0) + (if g = 1 then x g else 0) + (if g = 2 then x g else 0) + (if g = 3 then x g else 0) = c + x g := by
  fin_cases g <;> simp

theorem is_zz (ha : IsAvg avg) (hw : IsW w W) (hb : IsB b B) (hv : Is v V) : Is (Chunk.zz w avg b v) (SguMath.zz W B V) :=
  (is_add (is_add (is_add (is_add hb
    (is_only (f := SguMath.mix W V) _ _ 0 lanes0 (mix_is 0 (w0_entry hw) ha hv)))
    (is_only (f := SguMath.mix W V) _ _ 1 lanes1 (mix_is 1 (w1_entry hw) ha hv)))
    (is_only (f := SguMath.mix W V) _ _ 2 lanes2 (mix_is 2 (w2_entry hw) ha hv)))
    (is_only (f := SguMath.mix W V) _ _ 3 lanes3 (mix_is 3 (w3_entry hw) ha hv))).congr
    fun g r k => four g (fun g => SguMath.mix W V g r k) _

section
variable (ha : IsAvg avg) (hw : IsW w W) (hb : IsB b B) (hg : ∀ g k, (gain (ix2 0 (ln g k)) : EReal) = ((G g k : ℝ) : EReal))
  (hu : Is u U) (hv : Is v V) (hd : Is d D)
include ha hw hb hu hv

theorem is_yy : Is (Chunk.yy w avg b u v) (SguMath.yy W B U V) := is_mul (is_gelu hu) (is_zz ha hw hb hv)
theorem is_ms : Is (Chunk.ms w avg b u v) (SguMath.ms W B U V) := is_mean ha (is_mul (is_yy ha hw hb hu hv) (is_yy ha hw hb hu hv))
theorem is_rms : Is (root (Chunk.ms w avg b u v)) fun g r k => rs (SguMath.ms W B U V g r k) := is_root (is_ms ha hw hb hu hv) (ms_nonneg W B U V)
include hd
theorem dgain_entry (g : Fin 4) (k : Fin 64) : (Chunk.dgain w avg b u v d (ix2 0 (ln g k)) : EReal) = ((SguMath.dgain W B U V D g k : ℝ) : EReal) := by
  have h : (Chunk.dgain w avg b u v d (ix2 0 (ln g k)) : EReal) =
      ∑ r, ((Chunk.yy w avg b u v (ix2 r (ln g k)) : EReal) * (root (Chunk.ms w avg b u v) (ix2 r (ln g k)) : EReal) * (d (ix2 r (ln g k)) : EReal)) := by
    pointwise [Chunk.dgain]
  rw [h, SguMath.dgain, coe_sum]
  exact Finset.sum_congr rfl fun r _ => by
    rw [is_yy ha hw hb hu hv, is_rms ha hw hb hu hv, hd, EReal.coe_mul, EReal.coe_mul]
omit ha hw hb hu hv
include hg
theorem is_dn : Is (Chunk.dn gain d) (SguMath.dn G D) := fun g r k => by
  have h : (Chunk.dn gain d (ix2 r (ln g k)) : EReal) = (d (ix2 r (ln g k)) : EReal) * (gain (ix2 0 (ln g k)) : EReal) := by pointwise [Chunk.dn]
  rw [h, hd, hg, ← EReal.coe_mul]; rfl
include ha hw hb hu hv
theorem is_dm : Is (Chunk.dm w avg b gain u v d) (SguMath.dm W B G U V D) :=
  is_mean ha (is_mul (is_mul (is_yy ha hw hb hu hv) (is_dn hg hd)) (is_rootBack (is_ms ha hw hb hu hv) (ms_nonneg W B U V)))
theorem is_dy : Is (Chunk.dy w avg b gain u v d) (SguMath.dy W B G U V D) :=
  is_add (is_add (is_mul (is_dn hg hd) (is_rms ha hw hb hu hv)) (is_mul (is_yy ha hw hb hu hv) (is_dm ha hw hb hg hu hv hd)))
    (is_mul (is_dm ha hw hb hg hu hv hd) (is_yy ha hw hb hu hv))
theorem is_dzz : Is (Chunk.dzz w avg b gain u v d) (SguMath.dzz W B G U V D) := is_mul (is_gelu hu) (is_dy ha hw hb hg hu hv hd)
theorem is_du : Is (Chunk.du w avg b gain u v d) (SguMath.du W B G U V D) :=
  is_geluBack hu (is_mul (is_dy ha hw hb hg hu hv hd) (is_zz ha hw hb hv))
end

/-- A sum over the lanes of one group alone. -/
theorem sum_only (z : A) (h : Fin 256 → EReal) (H : Fin 64 → ℝ) {Z : T} (g0 : Fin 4) (hz : Is z fun g r k => if g = g0 then Z g r k else 0)
    (hh : ∀ k, h (ln g0 k) = ((H k : ℝ) : EReal)) (hr : ∀ g k, ∃ y : ℝ, h (ln g k) = (y : EReal)) (r : Fin 128) :
    ∑ l, (z (ix2 r l) : EReal) * h l = ((∑ k, Z g0 r k * H k : ℝ) : EReal) := by
  rw [sum_ln, Finset.sum_eq_single g0]
  · rw [coe_sum]
    refine Finset.sum_congr rfl fun k _ => ?_
    rw [hz, hh, ← EReal.coe_mul]
    show ((if g0 = g0 then Z g0 r k else 0 : ℝ) * H k : ℝ) = ((_ : ℝ) : EReal)
    rw [if_pos rfl]
  · intro g _ hg
    refine Finset.sum_eq_zero fun k _ => ?_
    obtain ⟨y, hy⟩ := hr g k
    rw [hz, hy, ← EReal.coe_mul]
    show ((if g = g0 then Z g r k else 0 : ℝ) * y : ℝ) = (0 : EReal)
    rw [if_neg hg, zero_mul]; rfl
  · simp

theorem mixW_is {z : A} (ha : IsAvg avg) (hv : Is v V) (g0 : Fin 4) (hz : Is z fun g r k => if g = g0 then Z g r k else 0) (r s : Fin 128) :
    (mixW (Chunk.vh avg v) z (ix3 0 r s) : EReal) = ((if s ≤ r then ∑ k, Z g0 r k * SguMath.vh V g0 s k else 0 : ℝ) : EReal) := by
  rw [mixW_entry, sum_only z (fun l => Chunk.vh avg v (ix2 s l)) (SguMath.vh V g0 s) g0 hz (fun k => vh_entry ha hv g0 s k)
    (fun g k => ⟨_, vh_entry ha hv g s k⟩), ite_coe]
theorem only0 (hz : Is z Z) : Is (only 0#32 64#32 z) fun g r k => if g = 0 then Z g r k else 0 := is_only (x := z) (f := Z) _ _ 0 lanes0 fun r k => hz 0 r k
theorem only1 (hz : Is z Z) : Is (only 64#32 128#32 z) fun g r k => if g = 1 then Z g r k else 0 := is_only (x := z) (f := Z) _ _ 1 lanes1 fun r k => hz 1 r k
theorem only2 (hz : Is z Z) : Is (only 128#32 192#32 z) fun g r k => if g = 2 then Z g r k else 0 := is_only (x := z) (f := Z) _ _ 2 lanes2 fun r k => hz 2 r k
theorem only3 (hz : Is z Z) : Is (only 192#32 256#32 z) fun g r k => if g = 3 then Z g r k else 0 := is_only (x := z) (f := Z) _ _ 3 lanes3 fun r k => hz 3 r k

theorem dwOf_0 (r s : Fin 128) : (dwOf avg v z (ix3 0 r s) : EReal) = mixW (Chunk.vh avg v) (only 0#32 64#32 z) (ix3 0 r s) := by
  pointwise [dwOf, dw0, dw1, dw2, dw3]
theorem dwOf_1 (r s : Fin 128) : (dwOf avg v z (ix3 1 r s) : EReal) = mixW (Chunk.vh avg v) (only 64#32 128#32 z) (ix3 0 r s) := by
  pointwise [dwOf, dw0, dw1, dw2, dw3]
theorem dwOf_2 (r s : Fin 128) : (dwOf avg v z (ix3 2 r s) : EReal) = mixW (Chunk.vh avg v) (only 128#32 192#32 z) (ix3 0 r s) := by
  pointwise [dwOf, dw0, dw1, dw2, dw3]
theorem dwOf_3 (r s : Fin 128) : (dwOf avg v z (ix3 3 r s) : EReal) = mixW (Chunk.vh avg v) (only 192#32 256#32 z) (ix3 0 r s) := by
  pointwise [dwOf, dw0, dw1, dw2, dw3]

/-- The gradient of the squares from the gradient of the mixed values. -/
theorem dwOf_entry (ha : IsAvg avg) (hv : Is v V) (hz : Is z Z) (g : Fin 4) (r s : Fin 128) :
    (dwOf avg v z (ix3 g r s) : EReal) = ((if s ≤ r then ∑ k, Z g r k * SguMath.vh V g s k else 0 : ℝ) : EReal) := by
  fin_cases g
  · exact (dwOf_0 r s).trans (mixW_is ha hv 0 (only0 hz) r s)
  · exact (dwOf_1 r s).trans (mixW_is ha hv 1 (only1 hz) r s)
  · exact (dwOf_2 r s).trans (mixW_is ha hv 2 (only2 hz) r s)
  · exact (dwOf_3 r s).trans (mixW_is ha hv 3 (only3 hz) r s)

theorem mixBack_is {wg : FVec Ideal S128x128 .bf16} (g0 : Fin 4) (hw : ∀ r s, (wg (ix2 r s) : EReal) = ((tri W g0 r s : ℝ) : EReal))
    (hz : Is z fun g r k => if g = g0 then Z g r k else 0) (g : Fin 4) (s : Fin 128) (k : Fin 64) :
    (mixBack wg z (ix2 s (ln g k)) : EReal) = ((if g = g0 then ∑ r, Z g r k * tri W g r s else 0 : ℝ) : EReal) := by
  rw [mixBack_entry]
  simp only [hz _ _ _, hw, ← EReal.coe_mul, ← coe_sum]
  by_cases h : g = g0
  · subst h; simp
  · simp [h]

theorem four' (g : Fin 4) (x : Fin 4 → ℝ) :
    (if g = 3 then x g else 0) + (if g = 2 then x g else 0) + (if g = 1 then x g else 0) + (if g = 0 then x g else 0) = x g := by
  fin_cases g <;> simp

theorem dvg_is (hw : IsW w W) (hz : Is z Z) : Is (dvg w z) fun g s k => ∑ r, Z g r k * tri W g r s := fun g s k => by
  show (mixBack (w3 w) (only 192#32 256#32 z) _ : EReal) + (mixBack (w2 w) (only 128#32 192#32 z) _ : EReal)
    + (mixBack (w1 w) (only 64#32 128#32 z) _ : EReal) + (mixBack (w0 w) (only 0#32 64#32 z) _ : EReal) = _
  rw [mixBack_is 0 (w0_entry hw) (only0 hz), mixBack_is 1 (w1_entry hw) (only1 hz), mixBack_is 2 (w2_entry hw) (only2 hz),
    mixBack_is 3 (w3_entry hw) (only3 hz), ← EReal.coe_add, ← EReal.coe_add, ← EReal.coe_add]
  exact congrArg _ (four' g fun g => ∑ r, Z g r k * tri W g r s)

section
variable (ha : IsAvg avg) (hw : IsW w W) (hb : IsB b B) (hg : ∀ g k, (gain (ix2 0 (ln g k)) : EReal) = ((G g k : ℝ) : EReal))
  (hu : Is u U) (hv : Is v V) (hd : Is d D)
include ha hw hb hg hu hv hd

theorem dw_entry (g : Fin 4) (r s : Fin 128) : (Chunk.dw w avg b gain u v d (ix3 g r s) : EReal) = ((SguMath.dw W B G U V D g r s : ℝ) : EReal) :=
  dwOf_entry ha hv (is_dzz ha hw hb hg hu hv hd) g r s
theorem is_dvg : Is (dvg w (Chunk.dzz w avg b gain u v d)) (SguMath.dvh W B G U V D) := dvg_is hw (is_dzz ha hw hb hg hu hv hd)
theorem is_dvar : Is (Chunk.dvar w avg v (Chunk.dzz w avg b gain u v d)) (SguMath.dvar W B G U V D) :=
  is_mean ha (is_mul (is_mul (is_vc ha hv) (is_dvg ha hw hb hg hu hv hd)) (is_rootBack (is_var ha hv) (var_nonneg V)))
theorem is_dvc : Is (Chunk.dvc w avg v (Chunk.dzz w avg b gain u v d)) (SguMath.dvc W B G U V D) :=
  is_add (is_add (is_mul (is_dvg ha hw hb hg hu hv hd) (is_root (is_var ha hv) (var_nonneg V))) (is_mul (is_vc ha hv) (is_dvar ha hw hb hg hu hv hd)))
    (is_mul (is_dvar ha hw hb hg hu hv hd) (is_vc ha hv))
theorem is_dv : Is (Chunk.dv w avg b gain u v d) (SguMath.dv W B G U V D) :=
  is_geluBack hv (is_add (is_dvc ha hw hb hg hu hv hd) (is_mean ha (is_sub is_zero (is_dvc ha hw hb hg hu hv hd))))
end
end Entries
end Cert.SguIdeal.Chunk
end
-- ==== Proof.SguRefSide.lean ====
module

public import proofs.«01_k».proof.Proof.Common
public import proofs.«01_k».proof.Proof.SguMath
public import proofs.«01_k».proof.Proof.Gen.SguRefIdeal.Read
public import Idealize.ShloMosaic.Lib.Pipeline.ValueKit

@[expose] public section

set_option maxRecDepth 16384

noncomputable section

open Idealize.ShloMosaic Idealize.ShloMosaic.TcCoe Idealize.SL.Sem
open Cert.Common

namespace Cert.SguRefIdeal.Read
open Cert.SguRefIdeal Cert.SguRefIdeal.Gen Idealize.ShloMosaic.StableHlo Cert.SguMath

/-! The reference's operations over the reals, by chunk, group, row and lane. -/

def row (n : Fin 32) (r : Fin 128) : Fin 4096 := ⟨n.val * 128 + r.val, by omega⟩
def ln (g : Fin 4) (k : Fin 64) : Fin 256 := ⟨g.val * 64 + k.val, by omega⟩
abbrev I := Fin 32 × Fin 4 × Fin 128 × Fin 64
abbrev J := Fin 32 × Fin 4 × Fin 128
abbrev Q := Fin 32 → Fin 4 → Fin 128 → ℝ

/-- The array `x` holds the reals `f` at the places `e`. -/
def At {ι : Type} {s : Shape} (e : ι → s.Idx) (x : FVec Ideal s .f32) (f : ι → ℝ) : Prop := ∀ i, (x (e i) : EReal) = ((f i : ℝ) : EReal)

def up (f : Fin 32 → T) : I → ℝ := fun p => f p.1 p.2.1 p.2.2.1 p.2.2.2
def uq (f : Q) : J → ℝ := fun p => f p.1 p.2.1 p.2.2
def e2 : I → S4096x256.Idx := fun p => ix2 (row p.1 p.2.2.1) (ln p.2.1 p.2.2.2)
def e4 : I → S32x128x4x64.Idx := fun p => ix4 p.1 p.2.2.1 p.2.1 p.2.2.2
def e41 : J → S32x128x4x1.Idx := fun p => ix4 p.1 p.2.2 p.2.1 0
def e40 : J → S32x128x4.Idx := fun p => ix3 p.1 p.2.2 p.2.1
def e3 : I → S4096x4x64.Idx := fun p => ix3 (row p.1 p.2.2.1) p.2.1 p.2.2.2
def e31 : J → S4096x4x1.Idx := fun p => ix3 (row p.1 p.2.2) p.2.1 0
def e30 : J → S4096x4.Idx := fun p => ix2 (row p.1 p.2.2) p.2.1

section
variable {ι : Type} {s : Shape} {e : ι → s.Idx} {x y : FVec Ideal s .f32} {f f' : ι → ℝ}
theorem At.congr (hx : At e x f) (h : ∀ i, f i = f' i) : At e x f' := fun i => (hx i).trans (congrArg _ (h i))
theorem at_mul (hx : At e x f) (hy : At e y f') : At e (mulf x y) fun i => f i * f' i := fun i => by
  show (x _ : EReal) * (y _ : EReal) = _; rw [hx, hy, EReal.coe_mul]
theorem at_add (hx : At e x f) (hy : At e y f') : At e (addf x y) fun i => f i + f' i := fun i => by
  show (x _ : EReal) + (y _ : EReal) = _; rw [hx, hy, EReal.coe_add]
theorem at_sub (hx : At e x f) (hy : At e y f') : At e (subf x y) fun i => f i - f' i := fun i => by
  show (x _ : EReal) - (y _ : EReal) = _; rw [hx, hy, EReal.coe_sub]
theorem at_neg (hx : At e x f) : At e (Host.negf x) fun i => -f i := fun i => by
  show -(x _ : EReal) = _; rw [hx, EReal.coe_neg]
theorem at_tanh (hx : At e x f) : At e (Host.tanh x) fun i => Real.tanh (f i) := fun i => by
  show Ideal.tanh (x _ : EReal) = _; rw [hx, tanh_coe]
theorem at_rsqrt (hx : At e x fun i => f i + epsR) (h : ∀ i, 0 ≤ f i) : At e (Host.rsqrt x) fun i => rs (f i) := fun i => by
  show Ideal.rsqrt (x _ : EReal) = _; rw [hx, rsqrt_rs (h i)]
theorem at_div (hy : At e y f') (hx : At e x fun i => f i + epsR) (h : ∀ i, 0 ≤ f i) : At e (Host.divf y x) fun i => f' i * (f i + epsR)⁻¹ := fun i => by
  show Ideal.div (y _ : EReal) (x _ : EReal) = _; rw [hx, hy, div_eps (h i), EReal.coe_mul]
theorem at_div64 (hy : At e y f') (hx : At e x fun _ => 64) : At e (Host.divf y x) fun i => f' i * (1 / 64) := fun i => by
  show Ideal.div (y _ : EReal) (x _ : EReal) = _; rw [hx, hy, div_real _ (by norm_num), ← EReal.coe_mul, one_div]
theorem at_num {c : BitVec 32} {r : ℝ} (hc : Ideal.ofBits .f32 c = ((r : ℝ) : EReal)) (h : S_.BroadcastsInDim s ![]) :
    At e (broadcastInDim s ![] h (constant S_ .f32 c)) fun _ => r := fun i => by
  show Ideal.ofBits .f32 c = _; exact hc
end

theorem bits_64 : Ideal.ofBits .f32 0x42800000#32 = ((64 : ℝ) : EReal) := by
  simp [Ideal.ofBits, Ideal.ieee, -EReal.coe_mul, -EReal.coe_neg]; norm_num

section
variable {f : Fin 32 → T} {q : Q}
theorem to4 {x : FVec Ideal S4096x256 .f32} (hx : At e2 x (up f)) : At e4 (shapeCast S32x128x4x64 x shapeCasts_S4096x256_S32x128x4x64) (up f) := fun p => by
  obtain ⟨n, g, r, k⟩ := p
  unfold e4; dsimp only; pointwise; exact hx (n, g, r, k)
theorem of4 {x : FVec Ideal S32x128x4x64 .f32} (hx : At e4 x (up f)) : At e2 (shapeCast S4096x256 x shapeCasts_S32x128x4x64_S4096x256) (up f) := fun p => by
  obtain ⟨n, g, r, k⟩ := p
  unfold e2 row ln; dsimp only; pointwise; exact hx (n, g, r, k)
theorem to3 {x : FVec Ideal S4096x256 .f32} (hx : At e2 x (up f)) : At e3 (shapeCast S4096x4x64 x shapeCasts_S4096x256_S4096x4x64) (up f) := fun p => by
  obtain ⟨n, g, r, k⟩ := p
  unfold e3; dsimp only; pointwise; exact hx (n, g, r, k)
theorem of3 {x : FVec Ideal S4096x4x64 .f32} (hx : At e3 x (up f)) : At e2 (shapeCast S4096x256 x shapeCasts_S4096x4x64_S4096x256) (up f) := fun p => by
  obtain ⟨n, g, r, k⟩ := p
  unfold e2 ln; dsimp only; pointwise; exact hx (n, g, r, k)
theorem sum4 {x : FVec Ideal S32x128x4x64 .f32} (hx : At e4 x (up f)) :
    At e40 (Host.reduceAdd x (constant S_ .f32 0x00000000#32) reducesTo_S32x128x4x64_S32x128x4_d3 h_S_) (uq fun n g r => ∑ k, f n g r k) := fun p => by
  obtain ⟨n, g, r⟩ := p
  unfold e40 uq; dsimp only; pointwise; rw [coe_sum]; exact Finset.sum_congr rfl fun k _ => hx (n, g, r, k)
theorem sum3 {x : FVec Ideal S4096x4x64 .f32} (hx : At e3 x (up f)) :
    At e30 (Host.reduceAdd x (constant S_ .f32 0x00000000#32) reducesTo_S4096x4x64_S4096x4_d2 h_S_) (uq fun n g r => ∑ k, f n g r k) := fun p => by
  obtain ⟨n, g, r⟩ := p
  unfold e30 uq; dsimp only; pointwise; rw [coe_sum]; exact Finset.sum_congr rfl fun k _ => hx (n, g, r, k)
theorem keep4 {x : FVec Ideal S32x128x4 .f32} (hx : At e40 x (uq q)) : At e41 (broadcastInDim S32x128x4x1 ![0, 1, 2] bcast_S32x128x4_S32x128x4x1_0_1_2 x) (uq q) := fun p => by
  obtain ⟨n, g, r⟩ := p
  unfold e41; dsimp only; pointwise; exact hx (n, g, r)
theorem cast4 {x : FVec Ideal S32x128x4 .f32} (hx : At e40 x (uq q)) : At e41 (shapeCast S32x128x4x1 x shapeCasts_S32x128x4_S32x128x4x1) (uq q) := fun p => by
  obtain ⟨n, g, r⟩ := p
  unfold e41; dsimp only; pointwise; exact hx (n, g, r)
theorem keep3 {x : FVec Ideal S4096x4 .f32} (hx : At e30 x (uq q)) : At e31 (broadcastInDim S4096x4x1 ![0, 1] bcast_S4096x4_S4096x4x1_0_1 x) (uq q) := fun p => by
  obtain ⟨n, g, r⟩ := p
  unfold e31; dsimp only; pointwise; exact hx (n, g, r)
theorem cast3 {x : FVec Ideal S4096x4 .f32} (hx : At e30 x (uq q)) : At e31 (shapeCast S4096x4x1 x shapeCasts_S4096x4_S4096x4x1) (uq q) := fun p => by
  obtain ⟨n, g, r⟩ := p
  unfold e31; dsimp only; pointwise; exact hx (n, g, r)
theorem one4 {x : FVec Ideal S32x128x4x1 .f32} (hx : At e41 x (uq q)) : At e40 (Host.reduceAdd x (constant S_ .f32 0x00000000#32) reducesTo_S32x128x4x1_S32x128x4_d3 h_S_) (uq q) := fun p => by
  obtain ⟨n, g, r⟩ := p
  unfold e40; dsimp only; pointwise; rw [Fin.sum_univ_one]; exact hx (n, g, r)
theorem one3 {x : FVec Ideal S4096x4x1 .f32} (hx : At e31 x (uq q)) : At e30 (Host.reduceAdd x (constant S_ .f32 0x00000000#32) reducesTo_S4096x4x1_S4096x4_d2 h_S_) (uq q) := fun p => by
  obtain ⟨n, g, r⟩ := p
  unfold e30; dsimp only; pointwise; rw [Fin.sum_univ_one]; exact hx (n, g, r)
theorem all41 {x : FVec Ideal S32x128x4x1 .f32} (hx : At e41 x (uq q)) : At e4 (broadcastInDim S32x128x4x64 ![0, 1, 2, 3] bcast_S32x128x4x1_S32x128x4x64_0_1_2_3 x) (up fun n g r _ => q n g r) := fun p => by
  obtain ⟨n, g, r, k⟩ := p
  unfold e4; dsimp only; pointwise; exact hx (n, g, r)
theorem all40 {x : FVec Ideal S32x128x4 .f32} (hx : At e40 x (uq q)) : At e4 (broadcastInDim S32x128x4x64 ![0, 1, 2] bcast_S32x128x4_S32x128x4x64_0_1_2 x) (up fun n g r _ => q n g r) := fun p => by
  obtain ⟨n, g, r, k⟩ := p
  unfold e4; dsimp only; pointwise; exact hx (n, g, r)
theorem all31 {x : FVec Ideal S4096x4x1 .f32} (hx : At e31 x (uq q)) : At e3 (broadcastInDim S4096x4x64 ![0, 1, 2] bcast_S4096x4x1_S4096x4x64_0_1_2 x) (up fun n g r _ => q n g r) := fun p => by
  obtain ⟨n, g, r, k⟩ := p
  unfold e3; dsimp only; pointwise; exact hx (n, g, r)
theorem all30 {x : FVec Ideal S4096x4 .f32} (hx : At e30 x (uq q)) : At e3 (broadcastInDim S4096x4x64 ![0, 1] bcast_S4096x4_S4096x4x64_0_1 x) (up fun n g r _ => q n g r) := fun p => by
  obtain ⟨n, g, r, k⟩ := p
  unfold e3; dsimp only; pointwise; exact hx (n, g, r)

/-- A sum over the chunks and lanes. -/
theorem sum_chunks_lanes {n0 n3 : ℕ} (h : (⟨4, ![n0, 128, 4, n3]⟩ : Shape).ReducesTo [0, 3] S128x4) (x : (⟨4, ![n0, 128, 4, n3]⟩ : Shape).Idx → EReal) (c : EReal)
    (r : Fin 128) (g : Fin 4) : Ideal.hostReduceAdd h x c (ix2 r g) = c + ∑ n, ∑ k, x (ix4 n r g k) := by
  unfold Ideal.hostReduceAdd
  refine congrArg (c + ·) ((Finset.sum_filter_eq_sum_of_fiber _ (fun k : Fin n0 × Fin n3 => ix4 k.1 r g k.2)
    (fun _ _ e => Prod.ext (congrFun e 0) (congrFun e 3)) (fun i => ⟨fun e => ⟨(i 0, i 3), ?_⟩, ?_⟩) x).trans (Fintype.sum_prod_type _))
  · rw [eq_ix4 i]
    have h0 := congrArg Fin.val (congrFun e 0)
    have h1 := congrArg Fin.val (congrFun e 1)
    refine congrArg₂ (fun a b => ix4 (i 0) a b (i 3)) (Fin.ext h0.symm) (Fin.ext h1.symm)
  · rintro ⟨k, rfl⟩
    funext a
    match a with
    | ⟨0, _⟩ => rfl
    | ⟨1, _⟩ => rfl
end

/-! ### The gate's tanh form -/

section
variable {x y : FVec Ideal S4096x256 .f32} {f f' : I → ℝ}
theorem c_one : At e2 (broadcastInDim S4096x256 ![] bcast_S_S4096x256 (constant S_ .f32 0x3F800000#32)) fun _ => 1 := at_num bits_one _
theorem c_half : At e2 (broadcastInDim S4096x256 ![] bcast_S_S4096x256 (constant S_ .f32 0x3F000000#32)) fun _ => hf := at_num bits_hf _
theorem c_c1 : At e2 (broadcastInDim S4096x256 ![] bcast_S_S4096x256 (constant S_ .f32 0x3F4C422A#32)) fun _ => c1 := at_num bits_c1 _
theorem c_c2 : At e2 (broadcastInDim S4096x256 ![] bcast_S_S4096x256 (constant S_ .f32 0x3D372713#32)) fun _ => c2 := at_num bits_c2 _
theorem c_three : At e2 (broadcastInDim S4096x256 ![] bcast_S_S4096x256 (constant S_ .f32 0x40400000#32)) fun _ => th3 := at_num bits_three _
theorem at_tg (hx : At e2 x f) : At e2 (Host.tanh (mulf (broadcastInDim S4096x256 ![] bcast_S_S4096x256 (constant S_ .f32 0x3F4C422A#32))
    (addf x (mulf (broadcastInDim S4096x256 ![] bcast_S_S4096x256 (constant S_ .f32 0x3D372713#32)) (mulf (mulf x x) x))))) fun i => tg (f i) :=
  (at_tanh (at_mul c_c1 (at_add hx (at_mul c_c2 (at_mul (at_mul hx hx) hx))))).congr fun i => by unfold tg; rw [mul_assoc (f i)]
/-- The gradient of the gate, from its tangent `t`. -/
theorem at_gbk {t : FVec Ideal S4096x256 .f32} (hx : At e2 x f) (hy : At e2 y f') (ht : At e2 t fun i => tg (f i)) :
    At e2 (addf (addf (mulf y (mulf (broadcastInDim S4096x256 ![] bcast_S_S4096x256 (constant S_ .f32 0x3F000000#32)) (addf (broadcastInDim S4096x256 ![] bcast_S_S4096x256 (constant S_ .f32 0x3F800000#32)) t)))
      (mulf (broadcastInDim S4096x256 ![] bcast_S_S4096x256 (constant S_ .f32 0x3F4C422A#32))
        (mulf (mulf (broadcastInDim S4096x256 ![] bcast_S_S4096x256 (constant S_ .f32 0x3F000000#32)) (mulf x y))
          (mulf (addf (broadcastInDim S4096x256 ![] bcast_S_S4096x256 (constant S_ .f32 0x3F800000#32)) t) (subf (broadcastInDim S4096x256 ![] bcast_S_S4096x256 (constant S_ .f32 0x3F800000#32)) t)))))
      (mulf (mulf (broadcastInDim S4096x256 ![] bcast_S_S4096x256 (constant S_ .f32 0x3D372713#32)) (mulf (broadcastInDim S4096x256 ![] bcast_S_S4096x256 (constant S_ .f32 0x3F4C422A#32))
        (mulf (mulf (broadcastInDim S4096x256 ![] bcast_S_S4096x256 (constant S_ .f32 0x3F000000#32)) (mulf x y))
          (mulf (addf (broadcastInDim S4096x256 ![] bcast_S_S4096x256 (constant S_ .f32 0x3F800000#32)) t) (subf (broadcastInDim S4096x256 ![] bcast_S_S4096x256 (constant S_ .f32 0x3F800000#32)) t)))))
        (mulf (broadcastInDim S4096x256 ![] bcast_S_S4096x256 (constant S_ .f32 0x40400000#32)) (mulf x x)))) fun i => gbk (f i) (f' i) :=
  have hg := at_mul c_c1 (at_mul (at_mul c_half (at_mul hx hy)) (at_mul (at_add c_one ht) (at_sub c_one ht)))
  at_add (at_add (at_mul hy (at_mul c_half (at_add c_one ht))) hg) (at_mul (at_mul c_c2 hg) (at_mul c_three (at_mul hx hx)))
end

/-! ### The forward lines and their gradient -/

section
variable {x0 : FVec Ideal S4096x3072 .f32} {x1 : FVec Ideal S4x128x128 .f32} {x2 : FVec Ideal S4x128 .f32} {x3 : FVec Ideal S256 .f32} {x4 : FVec Ideal S4096x256 .f32}
variable {U V D : Fin 32 → T} {W : Fin 4 → Fin 128 → Fin 128 → ℝ} {B : Fin 4 → Fin 128 → ℝ} {G : Fin 4 → Fin 64 → ℝ}

theorem tgu (hu : At e2 (val_main_v0 (F := Ideal) x0) (up U)) : At e2 (val_main_v12 (F := Ideal) x0) fun i => tg (up U i) := at_tg hu
theorem gelu_u (hu : At e2 (val_main_v0 (F := Ideal) x0) (up U)) : At e2 (val_main_v22 (F := Ideal) x0) (up fun n g r k => gel (U n g r k)) :=
  at_mul hu (at_mul c_half (at_add c_one (tgu hu)))

section
variable (hv : At e2 (val_main_v1 (F := Ideal) x0) (up V))
include hv
theorem tgv : At e2 (val_main_v33 (F := Ideal) x0) fun i => tg (up V i) := at_tg hv
theorem gelu_v : At e4 (val_main_v44 (F := Ideal) x0) (up fun n g r k => gel (V n g r k)) :=
  to4 (f := fun n g r k => gel (V n g r k)) (at_mul hv (at_mul c_half (at_add c_one (tgv hv))))
theorem mu_v : At e41 (val_main_v48 (F := Ideal) x0) (uq fun n g r => mean (fun g r k => gel (V n g r k)) g r 0) :=
  at_div64 (keep4 (sum4 (gelu_v hv))) (at_num bits_64 _)
theorem vc_v : At e4 (val_main_v59 (F := Ideal) x0) (up fun n => vc (V n)) := at_sub (gelu_v hv) (all41 (mu_v hv))
theorem var_v : At e41 (val_main_v57 (F := Ideal) x0) (uq fun n g r => var (V n) g r 0) :=
  at_div64 (keep4 (sum4 (f := fun n g r k => vc (V n) g r k * vc (V n) g r k) (at_mul (vc_v hv) (vc_v hv)))) (at_num bits_64 _)
theorem vareps_v : At e41 (val_main_v61 (F := Ideal) x0) fun i => uq (fun n g r => var (V n) g r 0) i + epsR := at_add (var_v hv) (at_num bits_eps _)
theorem rs_v : At e41 (val_main_v62 (F := Ideal) x0) (uq fun n g r => rs (var (V n) g r 0)) := at_rsqrt (vareps_v hv) fun i => var_nonneg _ _ _ _
theorem rb_v : At e41 (val_main_v65 (F := Ideal) x0) (uq fun n g r => rb (var (V n) g r 0)) :=
  at_mul (at_num bits_nh _) (at_div (rs_v hv) (vareps_v hv) fun i => var_nonneg _ _ _ _)
theorem vh_v : At e4 (val_main_v67 (F := Ideal) x0) (up fun n => vh (V n)) := at_mul (vc_v hv) (all41 (rs_v hv))
end

theorem causal_entry : ∀ r s : Fin 128, IntOp.cmpi .sge (IntOp.addi (BitVec.ofNat 32 r.val) 0#32) (BitVec.ofNat 32 s.val) = if s ≤ r then 1#1 else 0#1 := by decide +kernel
theorem mask_entry (r s : Fin 128) : (val_main_v70 (F := Ideal) (ix3 0 r s) : EReal) = ((if s ≤ r then 1 else 0 : ℝ) : EReal) := by
  pointwise [val_main_v70, val_main_v69, val_main_call0_v4, val_main_call0_v2, val_main_call0_v0, val_main_call0_v1, val_main_call0_c, val_main_call0_v3, val_main_call0_v5, val_main_call0_cst, val_main_v68, val_main_cst_20]
  rw [causal_entry]
  split <;> rfl
theorem mask4_entry (g : Fin 4) (r s : Fin 128) : (val_main_v71 (F := Ideal) (ix3 g r s) : EReal) = ((if s ≤ r then 1 else 0 : ℝ) : EReal) := by
  rw [← mask_entry]; pointwise [val_main_v71]
section
variable (hw : ∀ g r s, (x1 (ix3 g r s) : EReal) = ((W g r s : ℝ) : EReal))
include hw
theorem tri_w (g : Fin 4) (r s : Fin 128) : (val_main_v72 (F := Ideal) x1 (ix3 g r s) : EReal) = ((tri W g r s : ℝ) : EReal) := by
  show (x1 _ : EReal) * (val_main_v71 (F := Ideal) _ : EReal) = _
  rw [hw, mask4_entry, ← EReal.coe_mul, tri]; simp
theorem mix_v (hv : At e2 (val_main_v1 (F := Ideal) x0) (up V)) : At e4 (val_main_v74 (F := Ideal) x0 x1) (up fun n => mix W (V n)) := fun p => by
  obtain ⟨n, g, r, k⟩ := p
  unfold e4 up; dsimp only
  have h : (val_main_v74 (F := Ideal) x0 x1 (ix4 n r g k) : EReal) = ∑ s, (val_main_v67 (F := Ideal) x0 (ix4 n s g k) : EReal) * (val_main_v72 (F := Ideal) x1 (ix3 g r s) : EReal) := by
    pointwise [val_main_v74, val_main_v73]
  rw [h, mix, coe_sum]
  exact Finset.sum_congr rfl fun s _ => by rw [tri_w hw, mul_comm, EReal.coe_mul]; exact congrArg _ (vh_v hv (n, g, s, k))
end

section
variable (hu : At e2 (val_main_v0 (F := Ideal) x0) (up U)) (hv : At e2 (val_main_v1 (F := Ideal) x0) (up V))
  (hw : ∀ g r s, (x1 (ix3 g r s) : EReal) = ((W g r s : ℝ) : EReal)) (hb : ∀ g r, (x2 (ix2 g r) : EReal) = ((B g r : ℝ) : EReal))
  (hg : ∀ g k, (x3 (ix1 (ln g k)) : EReal) = ((G g k : ℝ) : EReal)) (hd : At e2 x4 (up D))
include hv hw hb

theorem zz_v : At e2 (val_main_v80 (F := Ideal) x0 x1 x2) (up fun n => zz W B (V n)) :=
  of4 (f := fun n => zz W B (V n)) ((at_add (f' := up fun _ g r _ => B g r) (mix_v hw hv) fun p => by
    obtain ⟨n, g, r, k⟩ := p
    unfold e4; dsimp only
    pointwise [val_main_v78, val_main_v77, val_main_v76, val_main_v75]
    exact hb g r).congr fun i => add_comm _ _)
include hu
theorem yy_v : At e3 (val_main_v82 (F := Ideal) x0 x1 x2) (up fun n => yy W B (U n) (V n)) :=
  to3 (f := fun n => yy W B (U n) (V n)) (at_mul (gelu_u hu) (zz_v hv hw hb))
theorem ms_v : At e31 (val_main_v87 (F := Ideal) x0 x1 x2) (uq fun n g r => ms W B (U n) (V n) g r 0) :=
  at_div64 (keep3 (sum3 (f := fun n g r k => yy W B (U n) (V n) g r k * yy W B (U n) (V n) g r k) (at_mul (yy_v hu hv hw hb) (yy_v hu hv hw hb)))) (at_num bits_64 _)
theorem mseps_v : At e31 (val_main_v89 (F := Ideal) x0 x1 x2) fun i => uq (fun n g r => ms W B (U n) (V n) g r 0) i + epsR :=
  at_add (ms_v hu hv hw hb) (at_num bits_eps _)
theorem rms_v : At e31 (val_main_v90 (F := Ideal) x0 x1 x2) (uq fun n g r => rs (ms W B (U n) (V n) g r 0)) :=
  at_rsqrt (mseps_v hu hv hw hb) fun i => ms_nonneg _ _ _ _ _ _ _
theorem rbm_v : At e31 (val_main_v93 (F := Ideal) x0 x1 x2) (uq fun n g r => rb (ms W B (U n) (V n) g r 0)) :=
  at_mul (at_num bits_nh _) (at_div (rms_v hu hv hw hb) (mseps_v hu hv hw hb) fun i => ms_nonneg _ _ _ _ _ _ _)
theorem yn_v : At e2 (val_main_v96 (F := Ideal) x0 x1 x2) (up fun n g r k => yy W B (U n) (V n) g r k * rs (ms W B (U n) (V n) g r k)) :=
  of3 (f := fun n g r k => yy W B (U n) (V n) g r k * rs (ms W B (U n) (V n) g r k)) (at_mul (yy_v hu hv hw hb) (all31 (rms_v hu hv hw hb)))
include hd
theorem dgain_v (g : Fin 4) (k : Fin 64) : (val_main_v190 (F := Ideal) x0 x1 x2 x4 (ix2 0 (ln g k)) : EReal) = ((∑ n, dgain W B (U n) (V n) (D n) g k : ℝ) : EReal) := by
  have h : (val_main_v190 (F := Ideal) x0 x1 x2 x4 (ix2 0 (ln g k)) : EReal) = ∑ R, (val_main_v100 (F := Ideal) x0 x1 x2 x4 (ix2 R (ln g k)) : EReal) := by
    pointwise [val_main_v190, val_main_v105, val_main_v102, val_main_v101, val_main_cst_26, val_main_cst_25]
    rw [Fin.sum_univ_one]
  rw [h, coe_sum]
  refine ((Finset.sum_congr rfl fun n _ => ?_).trans (Fin.sum_mul_add_congr (n := 128) (S := 32)
    (F := fun n r => (val_main_v100 (F := Ideal) x0 x1 x2 x4 (ix2 (row n r) (ln g k)) : EReal)) fun n r hl => rfl)).symm
  rw [dgain, coe_sum]
  exact Finset.sum_congr rfl fun r _ => (at_mul (yn_v hu hv hw hb) hd (n, g, r, k)).symm
include hg
theorem dn_v : At e3 (val_main_v106 (F := Ideal) x3 x4) (up fun n => dn G (D n)) :=
  to3 (f := fun n => dn G (D n)) (at_mul (f' := up fun _ g _ k => G g k) hd fun p => by
    obtain ⟨n, g, r, k⟩ := p
    unfold e2; dsimp only
    pointwise [val_main_v103, val_main_v97]
    exact hg g k)
theorem dm_v : At e30 (val_main_v115 (F := Ideal) x0 x1 x2 x3 x4) (uq fun n g r => dm W B G (U n) (V n) (D n) g r 0) :=
  one3 ((at_div64 (at_mul (cast3 (sum3 (f := fun n g r k => yy W B (U n) (V n) g r k * dn G (D n) g r k) (at_mul (yy_v hu hv hw hb) (dn_v hu hv hw hb hg hd)))) (rbm_v hu hv hw hb)) (at_num bits_64 _)).congr fun i => by
    exact congrArg (· * (1 / 64)) (Finset.sum_mul _ _ _))
theorem dy_v : At e2 (val_main_v121 (F := Ideal) x0 x1 x2 x3 x4) (up fun n => dy W B G (U n) (V n) (D n)) :=
  have hm := all30 (dm_v hu hv hw hb hg hd)
  of3 (f := fun n => dy W B G (U n) (V n) (D n)) (at_add (at_add (at_mul (dn_v hu hv hw hb hg hd) (all31 (rms_v hu hv hw hb))) (at_mul (yy_v hu hv hw hb) hm)) (at_mul hm (yy_v hu hv hw hb)))
theorem dzz_v : At e4 (val_main_v124 (F := Ideal) x0 x1 x2 x3 x4) (up fun n => dzz W B G (U n) (V n) (D n)) :=
  to4 (f := fun n => dzz W B G (U n) (V n) (D n)) (at_mul (gelu_u hu) (dy_v hu hv hw hb hg hd))
theorem du_v : At e2 (val_main_v185 (F := Ideal) x0 x1 x2 x3 x4) (up fun n => du W B G (U n) (V n) (D n)) :=
  at_gbk hu (at_mul (dy_v hu hv hw hb hg hd) (zz_v hv hw hb)) (tgu hu)
theorem db_v (g : Fin 4) (r : Fin 128) : (val_main_v189 (F := Ideal) x0 x1 x2 x3 x4 (ix2 r g) : EReal) = ((∑ n, ∑ k, dzz W B G (U n) (V n) (D n) g r k : ℝ) : EReal) := by
  have h : (val_main_v189 (F := Ideal) x0 x1 x2 x3 x4 (ix2 r g) : EReal) = (val_main_v127 (F := Ideal) x0 x1 x2 x3 x4 (ix2 r g) : EReal) := by
    pointwise [val_main_v189, val_main_v130, val_main_v129, val_main_v128, val_main_cst_32]; rw [Fin.sum_univ_one]
  have h1 : (val_main_v127 (F := Ideal) x0 x1 x2 x3 x4 (ix2 r g) : EReal) = (val_main_v126 (F := Ideal) x0 x1 x2 x3 x4 (ix4 0 r g 0) : EReal) :=
    (sum_chunks_lanes (n0 := 1) (n3 := 1) _ _ _ r g).trans (by
      rw [Fin.sum_univ_one, Fin.sum_univ_one]
      show Ideal.ofBits .f32 0x00000000#32 + _ = _
      rw [show Ideal.ofBits .f32 0x00000000#32 = 0 from by simp [Ideal.ofBits, Ideal.ieee], zero_add])
  have h2 : (val_main_v126 (F := Ideal) x0 x1 x2 x3 x4 (ix4 0 r g 0) : EReal) = (val_main_v125 (F := Ideal) x0 x1 x2 x3 x4 (ix2 r g) : EReal) := by
    pointwise [val_main_v126]
  rw [h, h1, h2]
  refine (sum_chunks_lanes (n0 := 32) (n3 := 64) _ _ _ r g).trans ?_
  show Ideal.ofBits .f32 0x00000000#32 + _ = _
  rw [show Ideal.ofBits .f32 0x00000000#32 = 0 from by simp [Ideal.ofBits, Ideal.ieee], zero_add, coe_sum]
  refine Finset.sum_congr rfl fun n _ => ?_
  rw [coe_sum]
  exact Finset.sum_congr rfl fun k _ => dzz_v hu hv hw hb hg hd (n, g, r, k)
theorem dw_v (g : Fin 4) (r s : Fin 128) : (val_main_v136 (F := Ideal) x0 x1 x2 x3 x4 (ix3 g r s) : EReal) = ((∑ n, dw W B G (U n) (V n) (D n) g r s : ℝ) : EReal) := by
  have h : (val_main_v136 (F := Ideal) x0 x1 x2 x3 x4 (ix3 g r s) : EReal) =
      (∑ n, ∑ k, (val_main_v124 (F := Ideal) x0 x1 x2 x3 x4 (ix4 n r g k) : EReal) * (val_main_v67 (F := Ideal) x0 (ix4 n s g k) : EReal)) * (val_main_v70 (F := Ideal) (ix3 0 r s) : EReal) := by
    pointwise [val_main_v136, val_main_v135, val_main_v132, val_main_v131]
  rw [h, mask_entry]
  have h1 : (∑ n, ∑ k, (val_main_v124 (F := Ideal) x0 x1 x2 x3 x4 (ix4 n r g k) : EReal) * (val_main_v67 (F := Ideal) x0 (ix4 n s g k) : EReal))
      = ((∑ n, ∑ k, dzz W B G (U n) (V n) (D n) g r k * vh (V n) g s k : ℝ) : EReal) := by
    rw [coe_sum]
    refine Finset.sum_congr rfl fun n _ => ?_
    rw [coe_sum]
    refine Finset.sum_congr rfl fun k _ => ?_
    rw [EReal.coe_mul]
    exact congrArg₂ _ (dzz_v hu hv hw hb hg hd (n, g, r, k)) (vh_v hv (n, g, s, k))
  rw [h1, ← EReal.coe_mul]
  refine congrArg _ ?_
  unfold dw
  split <;> simp
theorem dvh_v : At e4 (val_main_v134 (F := Ideal) x0 x1 x2 x3 x4) (up fun n => dvh W B G (U n) (V n) (D n)) := fun p => by
  obtain ⟨n, g, s, k⟩ := p
  unfold e4 up; dsimp only
  have h : (val_main_v134 (F := Ideal) x0 x1 x2 x3 x4 (ix4 n s g k) : EReal) =
      ∑ r, (val_main_v124 (F := Ideal) x0 x1 x2 x3 x4 (ix4 n r g k) : EReal) * (val_main_v72 (F := Ideal) x1 (ix3 g r s) : EReal) := by
    pointwise [val_main_v134, val_main_v133, val_main_v131]
  rw [h, dvh, coe_sum]
  refine Finset.sum_congr rfl fun r _ => ?_
  rw [tri_w hw, EReal.coe_mul]
  exact congrArg (· * _) (dzz_v hu hv hw hb hg hd (n, g, r, k))
theorem dvar_v : At e40 (val_main_v148 (F := Ideal) x0 x1 x2 x3 x4) (uq fun n g r => dvar W B G (U n) (V n) (D n) g r 0) :=
  one4 ((at_div64 (at_mul (cast4 (sum4 (f := fun n g r k => vc (V n) g r k * dvh W B G (U n) (V n) (D n) g r k) (at_mul (vc_v hv) (dvh_v hu hv hw hb hg hd)))) (rb_v hv)) (at_num bits_64 _)).congr fun i => by
    exact congrArg (· * (1 / 64)) (Finset.sum_mul _ _ _))
theorem dvr_v : At e4 (val_main_v141 (F := Ideal) x0 x1 x2 x3 x4) (up fun n g r k => dvh W B G (U n) (V n) (D n) g r k * rs (var (V n) g r k)) :=
  at_mul (dvh_v hu hv hw hb hg hd) (all41 (rs_v hv))
theorem dv2_v : At e4 (val_main_v150 (F := Ideal) x0 x1 x2 x3 x4) (up fun n g r k => dvar W B G (U n) (V n) (D n) g r k * (2 * vc (V n) g r k)) :=
  at_mul (all40 (dvar_v hu hv hw hb hg hd)) (at_mul (at_num bits_two _) (vc_v hv))
theorem dvc_v : At e2 (val_main_v161 (F := Ideal) x0 x1 x2 x3 x4) (up fun n g r k => dvc W B G (U n) (V n) (D n) g r k + mean (fun g r k => 0 - dvc W B G (U n) (V n) (D n) g r k) g r k) :=
  have a := dvr_v hu hv hw hb hg hd
  have b := dv2_v hu hv hw hb hg hd
  have m := one4 (q := fun n g r => (∑ k, -(dvh W B G (U n) (V n) (D n) g r k * rs (var (V n) g r k)) + ∑ k, -(dvar W B G (U n) (V n) (D n) g r k * (2 * vc (V n) g r k))) * (1 / 64))
    (at_div64 (at_add (cast4 (sum4 (f := fun n g r k => -(dvh W B G (U n) (V n) (D n) g r k * rs (var (V n) g r k))) (at_neg a)))
      (cast4 (sum4 (f := fun n g r k => -(dvar W B G (U n) (V n) (D n) g r k * (2 * vc (V n) g r k))) (at_neg b)))) (at_num bits_64 _))
  of4 (f := fun n g r k => dvc W B G (U n) (V n) (D n) g r k + mean (fun g r k => 0 - dvc W B G (U n) (V n) (D n) g r k) g r k)
    ((at_add (at_add a b) (all40 m)).congr fun i => by
      unfold up mean; dsimp only
      rw [← Finset.sum_add_distrib]
      refine congrArg₂ (· + ·) (by unfold dvc; ring) (congrArg (· * _) (Finset.sum_congr rfl fun k _ => by unfold dvc; ring))
      )
theorem dv_v : At e2 (val_main_v173 (F := Ideal) x0 x1 x2 x3 x4) (up fun n => dv W B G (U n) (V n) (D n)) :=
  at_gbk hv (dvc_v hu hv hw hb hg hd) (tgv hv)
end
end
end Cert.SguRefIdeal.Read

end
-- ==== Proof.SguKernel.lean ====
module

public import proofs.«01_k».proof.Pre_sgu_finite
public import proofs.«01_k».proof.Proof.SguChunk
public import proofs.«01_k».proof.Proof.SguRefSide
public import proofs.«01_k».proof.Proof.Gen.SguRefIdeal.Run
public import Idealize.ShloMosaic.Lib.ReduceAll
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Common

/-! ## The kernel: what each point leaves -/

namespace Cert.SguIdeal.Value

open Cert.SguIdeal Cert.SguIdeal.Gen Cert.SguIdeal.Chunk

variable (m : (ℓ : Loc nD τ sig) → Buf (Elt Ideal) ℓ)

abbrev X0 (c : Dev nD) : FVec Ideal S4096x3072 .f32 := m ((c : Thread nD τ).loc main_arg0)
abbrev X1 (c : Dev nD) : FVec Ideal S4x128x128 .f32 := m ((c : Thread nD τ).loc main_arg1)
abbrev X2 (c : Dev nD) : FVec Ideal S4x128 .f32 := m ((c : Thread nD τ).loc main_arg2)
abbrev X3 (c : Dev nD) : FVec Ideal S256 .f32 := m ((c : Thread nD τ).loc main_arg3)
abbrev X4 (c : Dev nD) : FVec Ideal S4096x256 .f32 := m ((c : Thread nD τ).loc main_arg4)
abbrev X5 (c : Dev nD) : FVec Ideal S4096x3072 .f32 := m ((c : Thread nD τ).loc main_arg5)

/-- A chunk's 128 rows of an operand block. -/
abbrev cut (x : Vec Ideal S1024x256 .f32) (o : ℕ) (h : ∀ a, (![o, 0] : Fin 2 → ℕ) a + S128x256.size a ≤ S1024x256.size a) : A :=
  View.ld (Val := Elt Ideal) (e' := .f32) x (Rect.unit ![o, 0] ![128, 256] h)

section
variable (c : Dev nD) (t : Fin cfg0.N) (o : ℕ) (h : ∀ a, (![o, 0] : Fin 2 → ℕ) a + S128x256.size a ≤ S1024x256.size a)
abbrev pdu : A := Chunk.du (iblk m c 3 t) (k0_pay11 (iblk m c 6 t)) (k0_pay12 (iblk m c 4 t)) (k0_pay13 (iblk m c 5 t)) (cut (iblk m c 0 t) o h) (cut (iblk m c 1 t) o h) (cut (iblk m c 2 t) o h)
abbrev pdv : A := Chunk.dv (iblk m c 3 t) (k0_pay11 (iblk m c 6 t)) (k0_pay12 (iblk m c 4 t)) (k0_pay13 (iblk m c 5 t)) (cut (iblk m c 0 t) o h) (cut (iblk m c 1 t) o h) (cut (iblk m c 2 t) o h)
abbrev pdzz : A := Chunk.dzz (iblk m c 3 t) (k0_pay11 (iblk m c 6 t)) (k0_pay12 (iblk m c 4 t)) (k0_pay13 (iblk m c 5 t)) (cut (iblk m c 0 t) o h) (cut (iblk m c 1 t) o h) (cut (iblk m c 2 t) o h)
abbrev pdw : FVec Ideal S4x128x128 .f32 := Chunk.dw (iblk m c 3 t) (k0_pay11 (iblk m c 6 t)) (k0_pay12 (iblk m c 4 t)) (k0_pay13 (iblk m c 5 t)) (cut (iblk m c 0 t) o h) (cut (iblk m c 1 t) o h) (cut (iblk m c 2 t) o h)
abbrev pdg : FVec Ideal S1x256 .f32 := Chunk.dgain (iblk m c 3 t) (k0_pay11 (iblk m c 6 t)) (k0_pay12 (iblk m c 4 t)) (cut (iblk m c 0 t) o h) (cut (iblk m c 1 t) o h) (cut (iblk m c 2 t) o h)
end

/-- The eight chunks of a point, added up. -/
abbrev total {s : Shape} (f : (o : ℕ) → (∀ a, (![o, 0] : Fin 2 → ℕ) a + S128x256.size a ≤ S1024x256.size a) → FVec Ideal s .f32) : FVec Ideal s .f32 :=
  addf (addf (addf (addf (addf (addf (addf (f 0 inb_S1024x256_S128x256_0_0) (f 128 inb_S1024x256_S128x256_128_0)) (f 256 inb_S1024x256_S128x256_256_0)) (f 384 inb_S1024x256_S128x256_384_0))
    (f 512 inb_S1024x256_S128x256_512_0)) (f 640 inb_S1024x256_S128x256_640_0)) (f 768 inb_S1024x256_S128x256_768_0)) (f 896 inb_S1024x256_S128x256_896_0)

abbrev pieces (u v : (o : ℕ) → (∀ a, (![o, 0] : Fin 2 → ℕ) a + S128x256.size a ≤ S1024x256.size a) → A) : List (View.Piece (Elt Ideal) S1024x512 .bf16) :=
  [⟨Rect.unit ![896, 256] ![128, 256] inb_S1024x512_S128x256_896_256, truncf .bf16 (v 896 inb_S1024x256_S128x256_896_0) bitsLt_bf16_f32⟩,
    ⟨Rect.unit ![896, 0] ![128, 256] inb_S1024x512_S128x256_896_0, truncf .bf16 (u 896 inb_S1024x256_S128x256_896_0) bitsLt_bf16_f32⟩,
    ⟨Rect.unit ![768, 256] ![128, 256] inb_S1024x512_S128x256_768_256, truncf .bf16 (v 768 inb_S1024x256_S128x256_768_0) bitsLt_bf16_f32⟩,
    ⟨Rect.unit ![768, 0] ![128, 256] inb_S1024x512_S128x256_768_0, truncf .bf16 (u 768 inb_S1024x256_S128x256_768_0) bitsLt_bf16_f32⟩,
    ⟨Rect.unit ![640, 256] ![128, 256] inb_S1024x512_S128x256_640_256, truncf .bf16 (v 640 inb_S1024x256_S128x256_640_0) bitsLt_bf16_f32⟩,
    ⟨Rect.unit ![640, 0] ![128, 256] inb_S1024x512_S128x256_640_0, truncf .bf16 (u 640 inb_S1024x256_S128x256_640_0) bitsLt_bf16_f32⟩,
    ⟨Rect.unit ![512, 256] ![128, 256] inb_S1024x512_S128x256_512_256, truncf .bf16 (v 512 inb_S1024x256_S128x256_512_0) bitsLt_bf16_f32⟩,
    ⟨Rect.unit ![512, 0] ![128, 256] inb_S1024x512_S128x256_512_0, truncf .bf16 (u 512 inb_S1024x256_S128x256_512_0) bitsLt_bf16_f32⟩,
    ⟨Rect.unit ![384, 256] ![128, 256] inb_S1024x512_S128x256_384_256, truncf .bf16 (v 384 inb_S1024x256_S128x256_384_0) bitsLt_bf16_f32⟩,
    ⟨Rect.unit ![384, 0] ![128, 256] inb_S1024x512_S128x256_384_0, truncf .bf16 (u 384 inb_S1024x256_S128x256_384_0) bitsLt_bf16_f32⟩,
    ⟨Rect.unit ![256, 256] ![128, 256] inb_S1024x512_S128x256_256_256, truncf .bf16 (v 256 inb_S1024x256_S128x256_256_0) bitsLt_bf16_f32⟩,
    ⟨Rect.unit ![256, 0] ![128, 256] inb_S1024x512_S128x256_256_0, truncf .bf16 (u 256 inb_S1024x256_S128x256_256_0) bitsLt_bf16_f32⟩,
    ⟨Rect.unit ![128, 256] ![128, 256] inb_S1024x512_S128x256_128_256, truncf .bf16 (v 128 inb_S1024x256_S128x256_128_0) bitsLt_bf16_f32⟩,
    ⟨Rect.unit ![128, 0] ![128, 256] inb_S1024x512_S128x256_128_0, truncf .bf16 (u 128 inb_S1024x256_S128x256_128_0) bitsLt_bf16_f32⟩,
    ⟨Rect.unit ![0, 256] ![128, 256] inb_S1024x512_S128x256_0_256, truncf .bf16 (v 0 inb_S1024x256_S128x256_0_0) bitsLt_bf16_f32⟩,
    ⟨Rect.unit ![0, 0] ![128, 256] inb_S1024x512_S128x256_0_0, truncf .bf16 (u 0 inb_S1024x256_S128x256_0_0) bitsLt_bf16_f32⟩]

variable (c : Dev nD) (t : Fin cfg0.N)
theorem dzA (h : t.val % 4 = 0) (h1 : ¬t.val % 4 = 3) : (outsAt0 m c t.val t.isLt).1 = View.canon (pieces (pdu m c t) (pdv m c t)) := by
  rw [outsAt0_A m c t h h1]; frame_out; rfl
theorem dwA (h : t.val % 4 = 0) (h1 : ¬t.val % 4 = 3) :
    (outsAt0 m c t.val t.isLt).2.1 = k0_pay1 (total (pdw m c t)) (k0_pay8 (F := Ideal)) := by
  rw [outsAt0_A m c t h h1]; frame_out; rfl
theorem dgA (h : t.val % 4 = 0) (h1 : ¬t.val % 4 = 3) :
    (outsAt0 m c t.val t.isLt).2.2.2.1 = k0_pay3 (total (pdg m c t)) (k0_pay9 (F := Ideal)) := by
  rw [outsAt0_A m c t h h1]; frame_out; rfl
theorem acA (h : t.val % 4 = 0) (h1 : ¬t.val % 4 = 3) :
    (outsAt0 m c t.val t.isLt).2.2.2.2 = k0_pay2 (total (pdzz m c t)) (k0_pay10 (F := Ideal)) := by
  rw [outsAt0_A m c t h h1]; frame_out; rfl
theorem dzB (h : ¬t.val % 4 = 0) (h1 : ¬t.val % 4 = 3) : (outsAt0 m c t.val t.isLt).1 = View.canon (pieces (pdu m c t) (pdv m c t)) := by
  rw [outsAt0_B m c t h h1]; frame_out; rfl
theorem dwB (h : ¬t.val % 4 = 0) (h1 : ¬t.val % 4 = 3) :
    (outsAt0 m c t.val t.isLt).2.1 = k0_pay1 (total (pdw m c t)) (outsAt0 m c (t.val - 1) (lt_of_le_of_lt (Nat.sub_le _ _) t.isLt)).2.1 := by
  rw [outsAt0_B m c t h h1]; frame_out; rfl
theorem dgB (h : ¬t.val % 4 = 0) (h1 : ¬t.val % 4 = 3) :
    (outsAt0 m c t.val t.isLt).2.2.2.1 = k0_pay3 (total (pdg m c t)) (outsAt0 m c (t.val - 1) (lt_of_le_of_lt (Nat.sub_le _ _) t.isLt)).2.2.2.1 := by
  rw [outsAt0_B m c t h h1]; frame_out; rfl
theorem acB (h : ¬t.val % 4 = 0) (h1 : ¬t.val % 4 = 3) :
    (outsAt0 m c t.val t.isLt).2.2.2.2 = k0_pay2 (total (pdzz m c t)) (outsAt0 m c (t.val - 1) (lt_of_le_of_lt (Nat.sub_le _ _) t.isLt)).2.2.2.2 := by
  rw [outsAt0_B m c t h h1]; frame_out; simp only [Idealize.ShloMosaic.read_unread_whole]; rfl
theorem dzC (h : ¬t.val % 4 = 0) (h1 : t.val % 4 = 3) : (outsAt0 m c t.val t.isLt).1 = View.canon (pieces (pdu m c t) (pdv m c t)) := by
  rw [outsAt0_C m c t h h1]; frame_out; rfl
theorem dwC (h : ¬t.val % 4 = 0) (h1 : t.val % 4 = 3) :
    (outsAt0 m c t.val t.isLt).2.1 = k0_pay1 (total (pdw m c t)) (outsAt0 m c (t.val - 1) (lt_of_le_of_lt (Nat.sub_le _ _) t.isLt)).2.1 := by
  rw [outsAt0_C m c t h h1]; frame_out; rfl
theorem dgC (h : ¬t.val % 4 = 0) (h1 : t.val % 4 = 3) :
    (outsAt0 m c t.val t.isLt).2.2.2.1 = k0_pay3 (total (pdg m c t)) (outsAt0 m c (t.val - 1) (lt_of_le_of_lt (Nat.sub_le _ _) t.isLt)).2.2.2.1 := by
  rw [outsAt0_C m c t h h1]; frame_out; rfl
theorem acC (h : ¬t.val % 4 = 0) (h1 : t.val % 4 = 3) :
    (outsAt0 m c t.val t.isLt).2.2.2.2 = k0_pay2 (total (pdzz m c t)) (outsAt0 m c (t.val - 1) (lt_of_le_of_lt (Nat.sub_le _ _) t.isLt)).2.2.2.2 := by
  rw [outsAt0_C m c t h h1]; frame_out; simp only [Idealize.ShloMosaic.read_unread_whole]; rfl
theorem dbC (h : ¬t.val % 4 = 0) (h1 : t.val % 4 = 3) : (outsAt0 m c t.val t.isLt).2.2.1 =
    (fun S : FVec Ideal S128x256 .f32 => View.canon (Val := Elt Ideal) [⟨Rect.unit ![0, 3] ![128, 1] inb_S128x4_S128x1_0_3, k0_pay4 (F := Ideal) Chunk.lane S⟩,
    ⟨Rect.unit ![0, 2] ![128, 1] inb_S128x4_S128x1_0_2, k0_pay7 (F := Ideal) S⟩, ⟨Rect.unit ![0, 1] ![128, 1] inb_S128x4_S128x1_0_1, k0_pay6 (F := Ideal) S⟩,
    ⟨Rect.unit ![0, 0] ![128, 1] inb_S128x4_S128x1_0_0, k0_pay5 (F := Ideal) S⟩]) (k0_pay2 (total (pdzz m c t)) (outsAt0 m c (t.val - 1) (lt_of_le_of_lt (Nat.sub_le _ _) t.isLt)).2.2.2.2) := by
  rw [outsAt0_C m c t h h1]; frame_out; simp only [Idealize.ShloMosaic.read_unread_whole]; rfl

/-! ## What the windows read -/

theorem idx : ∀ t : Fin cfg0.N, win0_0.index t = ![t.val, 10] ∧ win0_1.index t = ![t.val, 11] ∧ win0_2.index t = ![t.val, 0]
    ∧ win0_3.index t = ![0, 0, 0] ∧ win0_4.index t = ![0, 0] ∧ win0_5.index t = ![0, 0] ∧ win0_6.index t = ![0, 0]
    ∧ win0_7.index t = ![t.val, 5] := (by decide +kernel : ∀ t : Fin grid0.N, _)

/-- The chunk a point works at in its `j`-th round. -/
def ch (t : Fin cfg0.N) (j : Fin 8) : Fin 32 := ⟨t.val * 8 + j.val, by have := lt_of_lt_of_eq t.isLt N_0; omega⟩
def rw' (n : Fin 32) (r : Fin 128) : Fin 4096 := ⟨n.val * 128 + r.val, by omega⟩
def cu (g : Fin 4) (k : Fin 64) : Fin 3072 := ⟨2560 + (g.val * 64 + k.val), by omega⟩
def cv (g : Fin 4) (k : Fin 64) : Fin 3072 := ⟨2816 + (g.val * 64 + k.val), by omega⟩

theorem cut_entry (x : Vec Ideal S1024x256 .f32) (o : ℕ) (h) (r : Fin 128) (l : Fin 256) (hr : o + r.val < 1024) :
    cut x o h (ix2 r l) = x (ix2 ⟨o + r.val, hr⟩ l) := by
  refine congrArg x (funext fun a => ?_)
  fin_cases a <;> exact Fin.ext (by simp [cut, Rect.emb, Rect.unit])
theorem read_u (j : Fin 8) (h) (r : Fin 128) (g : Fin 4) (k : Fin 64) : (cut (iblk m c 0 t) (128 * j.val) h (ix2 r (ln g k)) : EReal) = X0 m c (ix2 (rw' (ch t j) r) (cu g k)) := by
  rw [cut_entry _ _ _ _ _ (by omega)]; blk_ext [iblk, idx t, ln, rw', ch, cu]
theorem read_v (j : Fin 8) (h) (r : Fin 128) (g : Fin 4) (k : Fin 64) : (cut (iblk m c 1 t) (128 * j.val) h (ix2 r (ln g k)) : EReal) = X0 m c (ix2 (rw' (ch t j) r) (cv g k)) := by
  rw [cut_entry _ _ _ _ _ (by omega)]; blk_ext [iblk, idx t, ln, rw', ch, cv]
theorem read_d (j : Fin 8) (h) (r : Fin 128) (g : Fin 4) (k : Fin 64) : (cut (iblk m c 2 t) (128 * j.val) h (ix2 r (ln g k)) : EReal) = X4 m c (ix2 (rw' (ch t j) r) (ln g k)) := by
  rw [cut_entry _ _ _ _ _ (by omega)]; blk_ext [iblk, idx t, ln, rw', ch]
theorem read_w (g : Fin 4) (r s : Fin 128) : (iblk m c 3 t (ix3 g r s) : EReal) = X1 m c (ix3 g r s) := by
  blk_ext [iblk, idx t]
theorem v3 (r : Fin 128) (g : Fin 4) (k : Fin 64) : (V m c main_v3 (ix2 r (ln g k)) : EReal) = X2 m c (ix2 g r) := by
  unfold V; simp only [hostOps0, hostOps0_1, hostOps0_2, List.flatten_cons, List.flatten_nil, List.append_nil, List.cons_append, List.nil_append]; entry_read; pointwise; exact congrArg (fun q => X2 m c (ix2 q r)) (Fin.ext (by simp only [ln]; omega))
theorem v4 (l : Fin 256) : (V m c main_v4 (ix2 0 l) : EReal) = X3 m c (ix1 l) := by
  unfold V; simp only [hostOps0, hostOps0_1, hostOps0_2, List.flatten_cons, List.flatten_nil, List.append_nil, List.cons_append, List.nil_append]; entry_read; pointwise
theorem pay11 (x : FVec Ideal S256x256 .f32) (i j) : k0_pay11 x (ix2 i j) = x (ix2 i j) := by pointwise [k0_pay11]
theorem pay12 (x : A) (i j) : k0_pay12 x (ix2 i j) = x (ix2 i j) := by pointwise [k0_pay12]
theorem pay13 (x : FVec Ideal S1x256 .f32) (i j) : k0_pay13 x (ix2 i j) = x (ix2 i j) := by pointwise [k0_pay13]
theorem read_b (r : Fin 128) (g : Fin 4) (k : Fin 64) : (k0_pay12 (iblk m c 4 t) (ix2 r (ln g k)) : EReal) = X2 m c (ix2 g r) := by
  rw [pay12]; refine Eq.trans ?_ (v3 m c r g k); blk_ext [iblk, idx t]
theorem read_g (l : Fin 256) : (k0_pay13 (iblk m c 5 t) (ix2 0 l) : EReal) = X3 m c (ix1 l) := by
  rw [pay13]; refine Eq.trans ?_ (v4 m c l); blk_ext [iblk, idx t]
theorem bits_64 : Ideal.ofBits .f32 0x42800000#32 = ((64 : ℝ) : EReal) := by
  simp [Ideal.ofBits, Ideal.ieee, -EReal.coe_mul, -EReal.coe_neg]; norm_num
/-- The group of a lane, as the host divides for it. -/
def lab : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32))) (broadcastInDim S256 ![] bcast_S_S256 (constantI S_ 32 0#32))))
    (subi (Host.divsi (iotaInDim S256 32 0) (broadcastInDim S256 ![] bcast_S_S256 (constantI S_ 32 64#32))) (broadcastInDim S256 ![] bcast_S_S256 (constantI S_ 32 1#32)))
    (Host.divsi (iotaInDim S256 32 0) (broadcastInDim S256 ![] bcast_S_S256 (constantI S_ 32 64#32)))
theorem lab_entry : ∀ (g : Fin 4) (k : Fin 64), lab (ix1 (ln g k)) = BitVec.ofNat 32 g.val := by decide +kernel
theorem same : ∀ g g' : Fin 4, IntOp.cmpi .eq (BitVec.ofNat 32 g.val) (BitVec.ofNat 32 g'.val) = if g = g' then 1#1 else 0#1 := by decide +kernel
theorem v14 (i j : Fin 256) : (V m c main_v14 (ix2 i j) : EReal)
    = Ideal.div (FloatOps.uitofp (F := Ideal) .f32 (IntOp.cmpi .eq (lab (ix1 i)) (lab (ix1 j)))) (Ideal.ofBits .f32 0x42800000#32) := by
  unfold V; simp only [hostOps0, hostOps0_1, hostOps0_2, List.flatten_cons, List.flatten_nil, List.append_nil, List.cons_append, List.nil_append]; entry_read; pointwise; simp only [StableHlo.TRef.ofBuf_toBuf]; rfl
theorem avg : IsAvg (k0_pay11 (iblk m c 6 t)) := fun g g' k k' => by
  have h : (k0_pay11 (iblk m c 6 t) (ix2 (ln g k) (ln g' k')) : EReal) = (V m c main_v14 (ix2 (ln g k) (ln g' k')) : EReal) := by
    rw [pay11]; blk_ext [iblk, idx t]
  rw [h, v14, lab_entry, lab_entry, same, bits_64]
  split
  · show Ideal.div ((1 : ℕ) : EReal) _ = _
    rw [div_real _ (by norm_num)]; norm_num
  · show Ideal.div ((0 : ℕ) : EReal) _ = _
    rw [div_real _ (by norm_num)]; norm_num
theorem V_0 (i) : (V m c main_v0 i : EReal) = X5 m c i := by
  unfold V; simp only [hostOps0, hostOps0_1, hostOps0_2, List.flatten_cons, List.flatten_nil, List.append_nil, List.cons_append, List.nil_append]; entry_read; rfl

/-! ## The arguments over the reals -/

/-- What the precondition says of the arguments: all but the running `dz` are finite. -/
structure Fin' (c : Dev nD) : Prop where
  z : ∀ i, IsReal (X0 m c i)
  w : ∀ i, IsReal (X1 m c i)
  b : ∀ i, IsReal (X2 m c i)
  g : ∀ i, IsReal (X3 m c i)
  d : ∀ i, IsReal (X4 m c i)

instance pre_facts : Cert.Pre_sgu_finite.Facts where
  bcast_S_S4096x3072 := by decide
  reducesTo_S4096x3072_S_d0_1 := by decide
  h_S_ := by decide
  bcast_S_S4x128x128 := by decide
  reducesTo_S4x128x128_S_d0_1_2 := by decide
  bcast_S_S4x128 := by decide
  reducesTo_S4x128_S_d0_1 := by decide
  bcast_S_S256 := by decide
  reducesTo_S256_S_d0 := by decide
  bcast_S_S4096x256 := by decide
  reducesTo_S4096x256_S_d0_1 := by decide

theorem fin_of (hpre : Cert.Pre_sgu_finite.fn (F := Ideal) (X0 m c) (X1 m c) (X2 m c) (X3 m c) (X4 m c) (X5 m c) = fun _ => 1#1) : Fin' m c := by
  have : Subsingleton Cert.Pre_sgu_finite.S_.Idx := ⟨fun a b => funext fun k => Fin.elim0 k⟩
  have h := congrFun hpre (fun a => Fin.elim0 a)
  dsimp only [Cert.Pre_sgu_finite.fn, Cert.Pre_sgu_finite.fn_part1] at h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  exact ⟨fun i => IsReal.of_lt (Host.reduce_andi_all _ _ _ _ _ h1 i), fun i => IsReal.of_lt (Host.reduce_andi_all _ _ _ _ _ h2 i),
    fun i => IsReal.of_lt (Host.reduce_andi_all _ _ _ _ _ h3 i), fun i => IsReal.of_lt (Host.reduce_andi_all _ _ _ _ _ h4 i),
    fun i => IsReal.of_lt (Host.reduce_andi_all _ _ _ _ _ h5 i)⟩

theorem real_eq {x : EReal} (h : IsReal x) : x = ((x.toReal : ℝ) : EReal) := by obtain ⟨y, rfl⟩ := h; rfl

def U (n : Fin 32) : SguMath.T := fun g r k => (X0 m c (ix2 (rw' n r) (cu g k)) : EReal).toReal
def V' (n : Fin 32) : SguMath.T := fun g r k => (X0 m c (ix2 (rw' n r) (cv g k)) : EReal).toReal
def D (n : Fin 32) : SguMath.T := fun g r k => (X4 m c (ix2 (rw' n r) (ln g k)) : EReal).toReal
def W (g : Fin 4) (r s : Fin 128) : ℝ := (X1 m c (ix3 g r s) : EReal).toReal
def B (g : Fin 4) (r : Fin 128) : ℝ := (X2 m c (ix2 g r) : EReal).toReal
def G (g : Fin 4) (k : Fin 64) : ℝ := (X3 m c (ix1 (ln g k)) : EReal).toReal

section
variable {m c} (hf : Fin' m c)
include hf
theorem is_w : IsW (iblk m c 3 t) (W m c) := fun g r s => (read_w m c t g r s).trans (real_eq (hf.w _))
theorem is_b : IsB (k0_pay12 (iblk m c 4 t)) (B m c) := fun g r k => (read_b m c t r g k).trans (real_eq (hf.b _))
theorem is_g (g : Fin 4) (k : Fin 64) : (k0_pay13 (iblk m c 5 t) (ix2 0 (ln g k)) : EReal) = ((G m c g k : ℝ) : EReal) := (read_g m c t _).trans (real_eq (hf.g _))
variable (j : Fin 8) (h : ∀ a, (![128 * j.val, 0] : Fin 2 → ℕ) a + S128x256.size a ≤ S1024x256.size a)
theorem is_u : Is (cut (iblk m c 0 t) (128 * j.val) h) (U m c (ch t j)) := fun g r k => (read_u m c t j h r g k).trans (real_eq (hf.z _))
theorem is_v : Is (cut (iblk m c 1 t) (128 * j.val) h) (V' m c (ch t j)) := fun g r k => (read_v m c t j h r g k).trans (real_eq (hf.z _))
theorem is_d : Is (cut (iblk m c 2 t) (128 * j.val) h) (D m c (ch t j)) := fun g r k => (read_d m c t j h r g k).trans (real_eq (hf.d _))
theorem pdu_is : Is (pdu m c t (128 * j.val) h) (SguMath.du (W m c) (B m c) (G m c) (U m c (ch t j)) (V' m c (ch t j)) (D m c (ch t j))) :=
  is_du (avg m c t) (is_w t hf) (is_b t hf) (is_g t hf) (is_u t hf j h) (is_v t hf j h) (is_d t hf j h)
theorem pdv_is : Is (pdv m c t (128 * j.val) h) (SguMath.dv (W m c) (B m c) (G m c) (U m c (ch t j)) (V' m c (ch t j)) (D m c (ch t j))) :=
  is_dv (avg m c t) (is_w t hf) (is_b t hf) (is_g t hf) (is_u t hf j h) (is_v t hf j h) (is_d t hf j h)
theorem pdzz_is : Is (pdzz m c t (128 * j.val) h) (SguMath.dzz (W m c) (B m c) (G m c) (U m c (ch t j)) (V' m c (ch t j)) (D m c (ch t j))) :=
  is_dzz (avg m c t) (is_w t hf) (is_b t hf) (is_g t hf) (is_u t hf j h) (is_v t hf j h) (is_d t hf j h)
theorem pdw_is (g : Fin 4) (r s : Fin 128) : (pdw m c t (128 * j.val) h (ix3 g r s) : EReal)
    = ((SguMath.dw (W m c) (B m c) (G m c) (U m c (ch t j)) (V' m c (ch t j)) (D m c (ch t j)) g r s : ℝ) : EReal) :=
  dw_entry (avg m c t) (is_w t hf) (is_b t hf) (is_g t hf) (is_u t hf j h) (is_v t hf j h) (is_d t hf j h) g r s
theorem pdg_is (g : Fin 4) (k : Fin 64) : (pdg m c t (128 * j.val) h (ix2 0 (ln g k)) : EReal)
    = ((SguMath.dgain (W m c) (B m c) (U m c (ch t j)) (V' m c (ch t j)) (D m c (ch t j)) g k : ℝ) : EReal) :=
  dgain_entry (avg m c t) (is_w t hf) (is_b t hf) (is_u t hf j h) (is_v t hf j h) (is_d t hf j h) g k
end

/-! ## The sums over the chunks -/

theorem total_entry {s : Shape} (f : (o : ℕ) → (∀ a, (![o, 0] : Fin 2 → ℕ) a + S128x256.size a ≤ S1024x256.size a) → FVec Ideal s .f32) (y : s.Idx) (F : Fin 8 → ℝ)
    (hF : ∀ (j : Fin 8) h, (f (128 * j.val) h y : EReal) = ((F j : ℝ) : EReal)) : (total f y : EReal) = ((∑ j, F j : ℝ) : EReal) := by
  rw [Fin.sum_univ_eight]
  simp only [EReal.coe_add]
  exact congrArg₂ (HAdd.hAdd (α := EReal)) (congrArg₂ (HAdd.hAdd (α := EReal)) (congrArg₂ (HAdd.hAdd (α := EReal)) (congrArg₂ (HAdd.hAdd (α := EReal))
    (congrArg₂ (HAdd.hAdd (α := EReal)) (congrArg₂ (HAdd.hAdd (α := EReal)) (congrArg₂ (HAdd.hAdd (α := EReal)) (hF 0 _) (hF 1 _)) (hF 2 _)) (hF 3 _)) (hF 4 _)) (hF 5 _)) (hF 6 _)) (hF 7 _)

theorem pay1_at (x old : FVec Ideal S4x128x128 .f32) (y) : (k0_pay1 x old y : EReal) = old y + x y := by rw [eq_ix3 y]; pointwise [k0_pay1]
theorem pay2_at (x old : A) (y) : (k0_pay2 x old y : EReal) = old y + x y := by rw [eq_ix2 y]; pointwise [k0_pay2]
theorem pay3_at (x old : FVec Ideal S1x256 .f32) (y) : (k0_pay3 x old y : EReal) = old y + x y := by rw [eq_ix2 y]; pointwise [k0_pay3]
theorem pay8_at (y) : (k0_pay8 (F := Ideal) y : EReal) = 0 := by rw [eq_ix3 y]; pointwise [k0_pay8]
theorem pay9_at (y) : (k0_pay9 (F := Ideal) y : EReal) = 0 := by rw [eq_ix2 y]; pointwise [k0_pay9]
theorem pay10_at (y) : (k0_pay10 (F := Ideal) y : EReal) = 0 := by rw [eq_ix2 y]; pointwise [k0_pay10]

/-- What adds up a point's eight chunks at every point holds the sum of all 32 after the last. -/
theorem gather (f : (n : ℕ) → n < cfg0.N → EReal) (F : Fin 32 → ℝ)
    (h0 : ∀ t : Fin cfg0.N, t.val % 4 = 0 → f t.val t.isLt = 0 + ((∑ j, F (ch t j) : ℝ) : EReal))
    (hs : ∀ t : Fin cfg0.N, ¬t.val % 4 = 0 → f t.val t.isLt = f (t.val - 1) (lt_of_le_of_lt (Nat.sub_le _ _) t.isLt) + ((∑ j, F (ch t j) : ℝ) : EReal)) :
    f t0_3.val t0_3.isLt = ((∑ n, F n : ℝ) : EReal) := by
  have h := Pipeline.eq_sum_fin_of_reset_step_apply_last (fun n hn (_ : Unit) => f n hn) 4 (fun _ => 0) (fun t _ => ((∑ j, F (ch t j) : ℝ) : EReal))
    (fun t h _ => h0 t h) (fun t h _ => hs t h) (le_of_eq N_0) t0_3 rfl ()
  refine h.trans ?_
  rw [zero_add, ← coe_sum]
  exact congrArg _ (Fin.sum_mul_add_congr (n := 8) (S := 4) (F := fun t j => F (ch t j)) (f := F) fun t j hl => rfl)

theorem three (h : t.val % 4 = 0) : ¬t.val % 4 = 3 := by omega

section
variable {m c} (hf : Fin' m c)
include hf
theorem dw_all (g : Fin 4) (r s : Fin 128) : ((outsAt0 m c t0_3.val t0_3.isLt).2.1 (ix3 g r s) : EReal)
    = ((∑ n, SguMath.dw (W m c) (B m c) (G m c) (U m c n) (V' m c n) (D m c n) g r s : ℝ) : EReal) := by
  refine gather (fun n hn => ((outsAt0 m c n hn).2.1 (ix3 g r s) : EReal)) _ (fun t h => ?_) (fun t h => ?_)
  · rw [dwA m c t h (three t h), pay1_at, pay8_at, total_entry _ _ _ fun j q => pdw_is t hf j q g r s]
  · by_cases h1 : t.val % 4 = 3
    · rw [dwC m c t h h1, pay1_at, total_entry _ _ _ fun j q => pdw_is t hf j q g r s]
    · rw [dwB m c t h h1, pay1_at, total_entry _ _ _ fun j q => pdw_is t hf j q g r s]
theorem dg_all (g : Fin 4) (k : Fin 64) : ((outsAt0 m c t0_3.val t0_3.isLt).2.2.2.1 (ix2 0 (ln g k)) : EReal)
    = ((∑ n, SguMath.dgain (W m c) (B m c) (U m c n) (V' m c n) (D m c n) g k : ℝ) : EReal) := by
  refine gather (fun n hn => ((outsAt0 m c n hn).2.2.2.1 (ix2 0 (ln g k)) : EReal)) _ (fun t h => ?_) (fun t h => ?_)
  · rw [dgA m c t h (three t h), pay3_at, pay9_at, total_entry _ _ _ fun j q => pdg_is t hf j q g k]
  · by_cases h1 : t.val % 4 = 3
    · rw [dgC m c t h h1, pay3_at, total_entry _ _ _ fun j q => pdg_is t hf j q g k]
    · rw [dgB m c t h h1, pay3_at, total_entry _ _ _ fun j q => pdg_is t hf j q g k]
theorem ac_all (g : Fin 4) (r : Fin 128) (k : Fin 64) : ((outsAt0 m c t0_3.val t0_3.isLt).2.2.2.2 (ix2 r (ln g k)) : EReal)
    = ((∑ n, SguMath.dzz (W m c) (B m c) (G m c) (U m c n) (V' m c n) (D m c n) g r k : ℝ) : EReal) := by
  refine gather (fun n hn => ((outsAt0 m c n hn).2.2.2.2 (ix2 r (ln g k)) : EReal)) _ (fun t h => ?_) (fun t h => ?_)
  · rw [acA m c t h (three t h), pay2_at, pay10_at, total_entry _ _ _ fun j q => pdzz_is t hf j q g r k]
  · by_cases h1 : t.val % 4 = 3
    · rw [acC m c t h h1, pay2_at, total_entry _ _ _ fun j q => pdzz_is t hf j q g r k]
    · rw [acB m c t h h1, pay2_at, total_entry _ _ _ fun j q => pdzz_is t hf j q g r k]
end

/-! ## The reference on the same reals -/

section
open Cert.SguRefIdeal.Read (val_main_v0 val_main_v1 val_main_v136 val_main_v173 val_main_v185 val_main_v186 val_main_v187 val_main_v188 val_main_v189 val_main_v190 At up e2 du_v dv_v dw_v db_v dgain_v)
variable {m c} (hf : Fin' m c)
include hf
theorem ref_u : At e2 (val_main_v0 (F := Ideal) (X0 m c)) (up (U m c)) := fun p => by
  have h : (val_main_v0 (F := Ideal) (X0 m c) (ix2 (rw' p.1 p.2.2.1) (ln p.2.1 p.2.2.2)) : EReal) = X0 m c (ix2 (rw' p.1 p.2.2.1) (cu p.2.1 p.2.2.2)) := by
    pointwise [val_main_v0]; rfl
  exact h.trans (real_eq (hf.z _))
theorem ref_v : At e2 (val_main_v1 (F := Ideal) (X0 m c)) (up (V' m c)) := fun p => by
  have h : (val_main_v1 (F := Ideal) (X0 m c) (ix2 (rw' p.1 p.2.2.1) (ln p.2.1 p.2.2.2)) : EReal) = X0 m c (ix2 (rw' p.1 p.2.2.1) (cv p.2.1 p.2.2.2)) := by
    pointwise [val_main_v1]; rfl
  exact h.trans (real_eq (hf.z _))
theorem ref_d : At e2 (X4 m c) (up (D m c)) := fun p => real_eq (hf.d _)

/-- The result `dz` of the reference. -/
abbrev refDz (c : Dev nD) : FVec Ideal S4096x3072 .bf16 := val_main_v188 (F := Ideal) (X0 m c) (X1 m c) (X2 m c) (X3 m c) (X4 m c) (X5 m c)
omit hf in
theorem dz_low (r : Fin 4096) (l : Fin 3072) (hl : l.val < 2560) : (refDz (m := m) c (ix2 r l) : EReal) = X5 m c (ix2 r l) := by
  obtain ⟨l, _⟩ := l
  pointwise [refDz, val_main_v188, val_main_v187, val_main_v186]
  rw [dif_pos hl]
theorem dz_u (n : Fin 32) (r : Fin 128) (g : Fin 4) (k : Fin 64) : (refDz (m := m) c (ix2 (rw' n r) (cu g k)) : EReal)
    = ((SguMath.du (W m c) (B m c) (G m c) (U m c n) (V' m c n) (D m c n) g r k : ℝ) : EReal) := by
  have h : (refDz (m := m) c (ix2 (rw' n r) (cu g k)) : EReal) = (val_main_v185 (F := Ideal) (X0 m c) (X1 m c) (X2 m c) (X3 m c) (X4 m c) (ix2 (rw' n r) (ln g k)) : EReal) := by
    pointwise [refDz, val_main_v188, val_main_v187]
    rw [dif_neg (by simp only [cu]; omega), dif_pos (by simp only [cu]; omega)]
    exact congrArg (fun l => val_main_v185 (F := Ideal) _ _ _ _ _ (ix2 (rw' n r) l)) (Fin.ext (by simp only [cu, ln]; omega))
  exact h.trans (du_v (ref_u hf) (ref_v hf) (fun _ _ _ => real_eq (hf.w _)) (fun _ _ => real_eq (hf.b _)) (fun _ _ => real_eq (hf.g _)) (ref_d hf) (n, g, r, k))
theorem dz_v (n : Fin 32) (r : Fin 128) (g : Fin 4) (k : Fin 64) : (refDz (m := m) c (ix2 (rw' n r) (cv g k)) : EReal)
    = ((SguMath.dv (W m c) (B m c) (G m c) (U m c n) (V' m c n) (D m c n) g r k : ℝ) : EReal) := by
  have h : (refDz (m := m) c (ix2 (rw' n r) (cv g k)) : EReal) = (val_main_v173 (F := Ideal) (X0 m c) (X1 m c) (X2 m c) (X3 m c) (X4 m c) (ix2 (rw' n r) (ln g k)) : EReal) := by
    pointwise [refDz, val_main_v188, val_main_v187]
    rw [dif_neg (by simp only [cv]; omega), dif_neg (by simp only [cv]; omega)]
    exact congrArg (fun l => val_main_v173 (F := Ideal) _ _ _ _ _ (ix2 (rw' n r) l)) (Fin.ext (by simp only [cv, ln]; omega))
  exact h.trans (dv_v (ref_u hf) (ref_v hf) (fun _ _ _ => real_eq (hf.w _)) (fun _ _ => real_eq (hf.b _)) (fun _ _ => real_eq (hf.g _)) (ref_d hf) (n, g, r, k))

/-! ## The results -/

omit hf in
theorem split_ln (l : Fin 256) : ∃ g k, l = ln g k := ⟨⟨l.val / 64, by omega⟩, ⟨l.val % 64, by omega⟩, Fin.ext (by simp only [ln]; omega)⟩

theorem res8 : (dats m 0 c).arrAt 8 cfg0.N = val_main_v136 (F := Ideal) (X0 m c) (X1 m c) (X2 m c) (X3 m c) (X4 m c) := by
  refine (dats m 0 c).arrAt_eq_of_after_last 8 t0_3 (by decide +kernel) _ fun j => ?_
  blk_simp
  rw [after0_8, eq_ix3 j]
  exact (dw_all hf (j 0) (j 1) (j 2)).trans
    (dw_v (ref_u hf) (ref_v hf) (fun _ _ _ => real_eq (hf.w _)) (fun _ _ => real_eq (hf.b _)) (fun _ _ => real_eq (hf.g _)) (ref_d hf) _ _ _).symm
theorem res10 : (dats m 0 c).arrAt 10 cfg0.N = val_main_v190 (F := Ideal) (X0 m c) (X1 m c) (X2 m c) (X4 m c) := by
  refine (dats m 0 c).arrAt_eq_of_after_last 10 t0_3 (by decide +kernel) _ fun j => ?_
  blk_simp
  rw [after0_10]
  obtain ⟨z, l, rfl⟩ : ∃ (z : Fin 1) (l : Fin 256), j = ix2 z l := ⟨j 0, j 1, eq_ix2 j⟩
  obtain rfl : z = 0 := Subsingleton.elim _ _
  obtain ⟨g, k, rfl⟩ := split_ln l
  exact (dg_all hf g k).trans (dgain_v (ref_u hf) (ref_v hf) (fun _ _ _ => real_eq (hf.w _)) (fun _ _ => real_eq (hf.b _)) (ref_d hf) g k).symm

omit hf in
/-- The sum over the lanes of one group. -/
theorem laneSum (x : A) (r : Fin 128) : (shapeCast S128x1 (multiReduction .add [1] S128 x 0x00000000#32 reduces_S128x256_S128 (.inl rfl) rfl) shapeCasts_S128_S128x1 (ix2 r 0) : EReal)
    = ∑ l, (x (ix2 r l) : EReal) := by pointwise
omit hf in
theorem groupSum {x : A} {F : SguMath.T} (hx : Is x F) (a b : BitVec 32) (g0 : Fin 4)
    (h : ∀ g k, IntOp.andi (IntOp.cmpi .sge (BitVec.ofNat 32 (ln g k).val) a) (IntOp.cmpi .slt (BitVec.ofNat 32 (ln g k).val) b) = if g = g0 then 1#1 else 0#1) (r : Fin 128) :
    ∑ l, (only a b x (ix2 r l) : EReal) = ((∑ k, F g0 r k : ℝ) : EReal) := by
  rw [sum_ln, coe_sum, Finset.sum_eq_single g0]
  · exact Finset.sum_congr rfl fun k _ => (is_only a b g0 h (fun r k => hx g0 r k) g0 r k).trans (congrArg _ (if_pos rfl))
  · intro g _ hg
    exact Finset.sum_eq_zero fun k _ => (is_only a b g0 h (fun r k => hx g0 r k) g r k).trans (congrArg _ (if_neg hg))
  · exact fun h => absurd (Finset.mem_univ _) h

end
/-- The four columns of the bias gradient. -/
abbrev cols (S : A) : List (View.Piece (Elt Ideal) S128x4 .f32) :=
  [⟨Rect.unit ![0, 3] ![128, 1] inb_S128x4_S128x1_0_3, k0_pay4 (F := Ideal) Chunk.lane S⟩,
    ⟨Rect.unit ![0, 2] ![128, 1] inb_S128x4_S128x1_0_2, k0_pay7 (F := Ideal) S⟩, ⟨Rect.unit ![0, 1] ![128, 1] inb_S128x4_S128x1_0_1, k0_pay6 (F := Ideal) S⟩,
    ⟨Rect.unit ![0, 0] ![128, 1] inb_S128x4_S128x1_0_0, k0_pay5 (F := Ideal) S⟩]
theorem cols_entry {S : A} {F : SguMath.T} (hS : Is S F) (y : S128x4.Idx) : (View.canon (cols S) y : EReal) = ((∑ k, F (y 1) (y 0) k : ℝ) : EReal) := by
  refine View.canon_apply_of_pieces (Val := Elt Ideal) (e := .f32) (fun y => ((∑ k, F (y 1) (y 0) k : ℝ) : EReal)) _ (fun p hp x => ?_) y ?_
  · simp only [List.mem_cons, List.not_mem_nil, or_false] at hp
    rcases hp with rfl | rfl | rfl | rfl
    · obtain ⟨r, z, rfl⟩ : ∃ (r : Fin 128) (z : Fin 1), x = ix2 r z := ⟨x 0, x 1, eq_ix2 x⟩
      obtain rfl : z = 0 := Subsingleton.elim _ _
      exact ((laneSum (only 192#32 256#32 S) r).trans (groupSum hS _ _ 3 lanes3 r)).trans (congrArg₂ (fun g r => ((∑ k, F g r k : ℝ) : EReal)) (Fin.ext rfl) (Fin.ext (by simp [Rect.emb, Rect.unit])))
    · obtain ⟨r, z, rfl⟩ : ∃ (r : Fin 128) (z : Fin 1), x = ix2 r z := ⟨x 0, x 1, eq_ix2 x⟩
      obtain rfl : z = 0 := Subsingleton.elim _ _
      exact ((laneSum (only 128#32 192#32 S) r).trans (groupSum hS _ _ 2 lanes2 r)).trans (congrArg₂ (fun g r => ((∑ k, F g r k : ℝ) : EReal)) (Fin.ext rfl) (Fin.ext (by simp [Rect.emb, Rect.unit])))
    · obtain ⟨r, z, rfl⟩ : ∃ (r : Fin 128) (z : Fin 1), x = ix2 r z := ⟨x 0, x 1, eq_ix2 x⟩
      obtain rfl : z = 0 := Subsingleton.elim _ _
      exact ((laneSum (only 64#32 128#32 S) r).trans (groupSum hS _ _ 1 lanes1 r)).trans (congrArg₂ (fun g r => ((∑ k, F g r k : ℝ) : EReal)) (Fin.ext rfl) (Fin.ext (by simp [Rect.emb, Rect.unit])))
    · obtain ⟨r, z, rfl⟩ : ∃ (r : Fin 128) (z : Fin 1), x = ix2 r z := ⟨x 0, x 1, eq_ix2 x⟩
      obtain rfl : z = 0 := Subsingleton.elim _ _
      exact ((laneSum (only 0#32 64#32 S) r).trans (groupSum hS _ _ 0 lanes0 r)).trans (congrArg₂ (fun g r => ((∑ k, F g r k : ℝ) : EReal)) (Fin.ext rfl) (Fin.ext (by simp [Rect.emb, Rect.unit])))
  · have h0 : (y 0).val < 128 := (y 0).isLt
    have h1 : (y 1).val < 4 := (y 1).isLt
    simp only [List.exists_mem_cons_iff, Rect.mem_set_unit, Fin.forall_fin_two, Matrix.cons_val_zero, Matrix.cons_val_one]
    omega
section
variable {m c} (hf : Fin' m c)
include hf
theorem db_all (r : Fin 128) (g : Fin 4) : ((outsAt0 m c t0_3.val t0_3.isLt).2.2.1 (ix2 r g) : EReal)
    = ((∑ k, ∑ n, SguMath.dzz (W m c) (B m c) (G m c) (U m c n) (V' m c n) (D m c n) g r k : ℝ) : EReal) := by
  have hS : Is (outsAt0 m c t0_3.val t0_3.isLt).2.2.2.2 (fun g r k => ∑ n, SguMath.dzz (W m c) (B m c) (G m c) (U m c n) (V' m c n) (D m c n) g r k) :=
    fun g r k => ac_all hf g r k
  rw [acC m c t0_3 (by decide) (by decide)] at hS
  rw [dbC m c t0_3 (by decide) (by decide)]
  exact cols_entry hS (ix2 r g)
theorem res9 : (dats m 0 c).arrAt 9 cfg0.N = Cert.SguRefIdeal.Read.val_main_v189 (F := Ideal) (X0 m c) (X1 m c) (X2 m c) (X3 m c) (X4 m c) := by
  refine (dats m 0 c).arrAt_eq_of_after_last 9 t0_3 (by decide +kernel) _ fun j => ?_
  blk_simp
  rw [after0_9]
  obtain ⟨r, g, rfl⟩ : ∃ (r : Fin 128) (g : Fin 4), j = ix2 r g := ⟨j 0, j 1, eq_ix2 j⟩
  refine ((db_all hf r g).trans (congrArg _ Finset.sum_comm)).trans ?_
  exact (Cert.SguRefIdeal.Read.db_v (ref_u hf) (ref_v hf) (fun _ _ _ => real_eq (hf.w _)) (fun _ _ => real_eq (hf.b _)) (fun _ _ => real_eq (hf.g _)) (ref_d hf) g r).symm
end

def G7 (c : Dev nD) (t : Fin cfg0.N) (y : S1024x512.Idx) : EReal :=
  refDz (m := m) c (ix2 ⟨t.val * 1024 + (y 0).val, by have := lt_of_lt_of_eq t.isLt N_0; have h0 : (y 0).val < 1024 := (y 0).isLt; omega⟩
    ⟨2560 + (y 1).val, by have h1 : (y 1).val < 512 := (y 1).isLt; omega⟩)

section
variable {m c} (hf : Fin' m c)
include hf
theorem piece_u (j : Fin 8) (h) (h') (x : S128x256.Idx) :
    (truncf .bf16 (pdu m c t (128 * j.val) h) bitsLt_bf16_f32 x : EReal) = G7 m c t ((Rect.unit (s := S1024x512) ![128 * j.val, 0] ![128, 256] h').emb x) := by
  obtain ⟨r, l, rfl⟩ : ∃ (r : Fin 128) (l : Fin 256), x = ix2 r l := ⟨x 0, x 1, eq_ix2 x⟩
  obtain ⟨g, k, rfl⟩ := split_ln l
  refine ((pdu_is t hf j h g r k).trans (dz_u hf (ch t j) r g k).symm).trans ?_
  exact congrArg (refDz (m := m) c) (congrArg₂ ix2 (Fin.ext (by simp [Rect.emb, Rect.unit, rw', ch]; omega)) (Fin.ext (by simp [Rect.emb, Rect.unit, cu, ln])))
theorem piece_v (j : Fin 8) (h) (h') (x : S128x256.Idx) :
    (truncf .bf16 (pdv m c t (128 * j.val) h) bitsLt_bf16_f32 x : EReal) = G7 m c t ((Rect.unit (s := S1024x512) ![128 * j.val, 256] ![128, 256] h').emb x) := by
  obtain ⟨r, l, rfl⟩ : ∃ (r : Fin 128) (l : Fin 256), x = ix2 r l := ⟨x 0, x 1, eq_ix2 x⟩
  obtain ⟨g, k, rfl⟩ := split_ln l
  refine ((pdv_is t hf j h g r k).trans (dz_v hf (ch t j) r g k).symm).trans ?_
  exact congrArg (refDz (m := m) c) (congrArg₂ ix2 (Fin.ext (by simp [Rect.emb, Rect.unit, rw', ch]; omega)) (Fin.ext (by simp [Rect.emb, Rect.unit, cv, ln]; omega)))
theorem dz_point (y : S1024x512.Idx) : ((outsAt0 m c t.val t.isLt).1 y : EReal) = G7 m c t y := by
  have e : (outsAt0 m c t.val t.isLt).1 = View.canon (pieces (pdu m c t) (pdv m c t)) := by
    by_cases h : t.val % 4 = 0
    · exact dzA m c t h (three t h)
    · by_cases h1 : t.val % 4 = 3
      · exact dzC m c t h h1
      · exact dzB m c t h h1
  rw [e]
  refine View.canon_apply_of_pieces (Val := Elt Ideal) (e := .bf16) (G7 m c t) _ (fun p hp x => ?_) y ?_
  · simp only [List.mem_cons, List.not_mem_nil, or_false] at hp
    rcases hp with rfl | rfl | rfl | rfl | rfl | rfl | rfl | rfl | rfl | rfl | rfl | rfl | rfl | rfl | rfl | rfl
    · exact piece_v t hf 7 _ inb_S1024x512_S128x256_896_256 x
    · exact piece_u t hf 7 _ inb_S1024x512_S128x256_896_0 x
    · exact piece_v t hf 6 _ inb_S1024x512_S128x256_768_256 x
    · exact piece_u t hf 6 _ inb_S1024x512_S128x256_768_0 x
    · exact piece_v t hf 5 _ inb_S1024x512_S128x256_640_256 x
    · exact piece_u t hf 5 _ inb_S1024x512_S128x256_640_0 x
    · exact piece_v t hf 4 _ inb_S1024x512_S128x256_512_256 x
    · exact piece_u t hf 4 _ inb_S1024x512_S128x256_512_0 x
    · exact piece_v t hf 3 _ inb_S1024x512_S128x256_384_256 x
    · exact piece_u t hf 3 _ inb_S1024x512_S128x256_384_0 x
    · exact piece_v t hf 2 _ inb_S1024x512_S128x256_256_256 x
    · exact piece_u t hf 2 _ inb_S1024x512_S128x256_256_0 x
    · exact piece_v t hf 1 _ inb_S1024x512_S128x256_128_256 x
    · exact piece_u t hf 1 _ inb_S1024x512_S128x256_128_0 x
    · exact piece_v t hf 0 _ inb_S1024x512_S128x256_0_256 x
    · exact piece_u t hf 0 _ inb_S1024x512_S128x256_0_0 x
  · have h0 : (y 0).val < 1024 := (y 0).isLt
    have h1 : (y 1).val < 512 := (y 1).isLt
    simp only [List.exists_mem_cons_iff, Rect.mem_set_unit, Fin.forall_fin_two, Matrix.cons_val_zero, Matrix.cons_val_one]
    omega
theorem res7 : (dats m 0 c).arrAt 7 cfg0.N = refDz (m := m) c := by
  have h : (dats m 0 c).arrAt 7 cfg0.N = fun i => if 2560 ≤ (i 1 : ℕ) then refDz (m := m) c i else V m c main_v0 i := by
    refine (dats m 0 c).arrAt_eq_of_coversWhere 7 _ (fun β => 5 ≤ β 1) (by decide +kernel) (fun t hq y => ?_) (fun j => by blk_simp [Pipeline.Window.cell_apply]; omega)
    blk_simp
    rw [after0_7]
    refine (dz_point t hf y).trans (congrArg (refDz (m := m) c) ?_)
    blk_ext [idx t]
  rw [h]
  funext i
  obtain ⟨r, l, rfl⟩ : ∃ (r : Fin 4096) (l : Fin 3072), i = ix2 r l := ⟨i 0, i 1, eq_ix2 i⟩
  by_cases hi : 2560 ≤ l.val
  · exact if_pos hi
  · exact (if_neg hi).trans ((V_0 m c _).trans (dz_low (m := m) (c := c) r l (by omega)).symm)
end
end Cert.SguIdeal.Value
end
-- ==== Proof.SguClaim.lean ====
module

public import proofs.«01_k».proof.Defs
public import proofs.«01_k».proof.Proof.SguKernel
public import proofs.«01_k».proof.Proof.Gen.Sgu.Frame

@[expose] public section

set_option maxRecDepth 16384

noncomputable section

open Idealize.ShloMosaic Idealize.ShloMosaic.TcCoe Idealize.SL.Sem
open Idealize.ShloMosaic.Pipeline (Dat)

/-! ## The claims -/

namespace Cert.Proof.Sgu

theorem frame_ref : Cert.quiescent_SguRefIdeal := fun m ρ _ =>
  (θ_run Cert.SguRefIdeal.defs _ _).mono
    (fun r h => ⟨fun c => (h c).2.2.2.2, Idealize.ShloMosaic.sem_eq_zero_of_no_sems (by decide) r.2⟩)
    (Cert.SguRefIdeal.Value.run (F := Ideal) m ρ)

open Cert.SguIdeal.Value in
theorem algebraic : Cert.algebraic_SguIdeal_SguRefIdeal_pre_sgu_finite := by
  pair_intro
  · run_from Cert.SguIdeal.Value.run_blocks m g
  · run_from Cert.SguRefIdeal.Value.run m' g'
    · have h := (res7 (fin_of m c (hpre c))).symm
      unfold refDz X0 X1 X2 X3 X4 X5 at h
      rw [← (hagree c).1, ← (hagree c).2.1, ← (hagree c).2.2.1, ← (hagree c).2.2.2.1, ← (hagree c).2.2.2.2.1, ← (hagree c).2.2.2.2.2] at h
      try rw [← (hagree c).2.2.2.2.2]
      exact (Cert.SguRefIdeal.Read.val_main_v188_eq (StableHlo.launchContents m' c)).trans h
    · have h := (res8 (fin_of m c (hpre c))).symm
      unfold X0 X1 X2 X3 X4 at h
      rw [← (hagree c).1, ← (hagree c).2.1, ← (hagree c).2.2.1, ← (hagree c).2.2.2.1, ← (hagree c).2.2.2.2.1] at h
      exact (Cert.SguRefIdeal.Read.val_main_v136_eq (StableHlo.launchContents m' c)).trans h
    · have h := (res9 (fin_of m c (hpre c))).symm
      unfold X0 X1 X2 X3 X4 at h
      rw [← (hagree c).1, ← (hagree c).2.1, ← (hagree c).2.2.1, ← (hagree c).2.2.2.1, ← (hagree c).2.2.2.2.1] at h
      exact (Cert.SguRefIdeal.Read.val_main_v189_eq (StableHlo.launchContents m' c)).trans h
    · have h := (res10 (fin_of m c (hpre c))).symm
      unfold X0 X1 X2 X4 at h
      rw [← (hagree c).1, ← (hagree c).2.1, ← (hagree c).2.2.1, ← (hagree c).2.2.2.2.1] at h
      rw [← (hagree c).2.2.2.2.1]
      exact (Cert.SguRefIdeal.Read.val_main_v190_eq (StableHlo.launchContents m' c)).trans h

end Cert.Proof.Sgu

end
-- ==== Proof.Recurrence.lean ====
module
public import proofs.«01_k».proof.Proof.Common
@[expose] public section

noncomputable section
/-! The linear recurrence over the reals, a scan of it by doubling, and what flows back through it. -/

namespace Cert.Recurrence

/-- One doubling step of a scan over `n` rows from the last row up, at distance `d`. -/
def stepU (n d : ℕ) (a u : ℕ → ℝ) (r : ℕ) : ℝ := u r + a r * (if r + d < n then u (r + d) else 0)
def stepA (n d : ℕ) (a : ℕ → ℝ) (r : ℕ) : ℝ := a r * (if r + d < n then a (r + d) else 1)

/-- `u` and `a` carry `g` over the next `d` rows, or over what is left of the `n` rows. -/
def Carries (n d : ℕ) (g a u : ℕ → ℝ) : Prop := ∀ r, r < n → u r + a r * g (min (r + d) n) = g r

theorem Carries.step {n d : ℕ} {g a u : ℕ → ℝ} (h : Carries n d g a u) :
    Carries n (d + d) g (stepA n d a) (stepU n d a u) := by
  intro r hr
  unfold stepU stepA
  by_cases hd : r + d < n
  · have h1 := h r hr
    have h2 := h (r + d) hd
    rw [min_eq_left (by omega)] at h1
    rw [if_pos hd, if_pos hd, ← add_assoc, ← h1, ← h2]
    ring
  · have h1 := h r hr
    rw [min_eq_right (by omega)] at h1
    rw [if_neg hd, if_neg hd, min_eq_right (by omega), ← h1]
    ring

/-- The linear recurrence `h t = a t * h (t - 1) + u t` from nothing. -/
def lin (a u : ℕ → ℝ) : ℕ → ℝ
  | 0 => u 0
  | t + 1 => a (t + 1) * lin a u t + u (t + 1)

/-- The state before row `t`. -/
def prev (h : ℕ → ℝ) : ℕ → ℝ
  | 0 => 0
  | t + 1 => h t

theorem lin_eq (a u : ℕ → ℝ) (t : ℕ) : lin a u t = a t * prev (lin a u) t + u t := by
  cases t with
  | zero => simp [lin, prev]
  | succ t => rfl

def pairA (a : ℕ → ℝ) (i : ℕ) : ℝ := a (2 * i + 1) * a (2 * i)
def pairU (a u : ℕ → ℝ) (i : ℕ) : ℝ := a (2 * i + 1) * u (2 * i) + u (2 * i + 1)

/-- Rows two by two: the odd rows of the recurrence are the recurrence of the pairs. -/
theorem lin_pair (a u : ℕ → ℝ) (i : ℕ) : lin (pairA a) (pairU a u) i = lin a u (2 * i + 1) := by
  induction i with
  | zero => simp [lin, pairU]
  | succ i ih =>
    show pairA a (i + 1) * lin (pairA a) (pairU a u) i + pairU a u (i + 1) = lin a u (2 * (i + 1) + 1)
    rw [ih, pairA, pairU, show 2 * (i + 1) + 1 = (2 * i + 1 + 1) + 1 by ring, show 2 * (i + 1) = 2 * i + 1 + 1 by ring]
    simp only [lin]
    ring

theorem lin_even (a u : ℕ → ℝ) (i : ℕ) :
    lin a u (2 * i) = a (2 * i) * prev (lin (pairA a) (pairU a u)) i + u (2 * i) := by
  rw [lin_eq]
  cases i with
  | zero => rfl
  | succ i => simp only [prev, lin_pair, show 2 * (i + 1) = 2 * i + 1 + 1 by ring]

/-- What flows back: `g t = h t + a (t + 1) * g (t + 1)` over `n` rows, nothing past the last. -/
def back (n : ℕ) (a h : ℕ → ℝ) (t : ℕ) : ℝ :=
  if t < n then h t + a (t + 1) * back n a h (t + 1) else 0
termination_by n - t

theorem back_lt {n : ℕ} (a h : ℕ → ℝ) {t : ℕ} (ht : t < n) : back n a h t = h t + a (t + 1) * back n a h (t + 1) := by
  rw [back, if_pos ht]
theorem back_ge {n : ℕ} (a h : ℕ → ℝ) {t : ℕ} (ht : n ≤ t) : back n a h t = 0 := by
  rw [back, if_neg (by omega)]

def pairH (n : ℕ) (a h : ℕ → ℝ) (i : ℕ) : ℝ := h (2 * i + 1) + (if i + 1 < n then a (2 * i + 2) * h (2 * i + 2) else 0)

theorem back_pair (n : ℕ) (a h : ℕ → ℝ) (i : ℕ) :
    back n (pairA a) (pairH n a h) i = back (2 * n) a h (2 * i + 1) := by
  by_cases hi : i < n
  · rw [back_lt _ _ hi, back_pair n a h (i + 1), back_lt _ _ (show 2 * i + 1 < 2 * n by omega), pairH, pairA]
    by_cases h1 : i + 1 < n
    · rw [if_pos h1, back_lt _ _ (show 2 * i + 1 + 1 < 2 * n by omega), show 2 * (i + 1) + 1 = 2 * i + 1 + 1 + 1 by ring,
        show 2 * (i + 1) = 2 * i + 1 + 1 by ring, show 2 * i + 2 = 2 * i + 1 + 1 by ring]
      ring
    · rw [if_neg h1, back_ge _ _ (show 2 * n ≤ 2 * (i + 1) + 1 by omega), back_ge _ _ (show 2 * n ≤ 2 * i + 1 + 1 by omega)]
      ring
  · rw [back_ge _ _ (by omega), back_ge _ _ (by omega)]
termination_by n - i

theorem back_even (n : ℕ) (a h : ℕ → ℝ) {i : ℕ} (hi : i < n) :
    back (2 * n) a h (2 * i) = h (2 * i) + a (2 * i + 1) * back n (pairA a) (pairH n a h) i := by
  rw [back_lt _ _ (show 2 * i < 2 * n by omega), back_pair]

/-- The gradient of the factors. -/
def dfac (n : ℕ) (a u h : ℕ → ℝ) (t : ℕ) : ℝ := back n a h t * prev (lin a u) t

theorem dfac_even (n : ℕ) (a u h : ℕ → ℝ) {i : ℕ} (hi : i < n) :
    dfac (2 * n) a u h (2 * i)
      = h (2 * i) * prev (lin (pairA a) (pairU a u)) i
        + dfac n (pairA a) (pairU a u) (pairH n a h) i * a (2 * i + 1) := by
  have e : prev (lin a u) (2 * i) = prev (lin (pairA a) (pairU a u)) i := by
    cases i with
    | zero => rfl
    | succ i => simp only [prev, lin_pair, show 2 * (i + 1) = 2 * i + 1 + 1 by ring]
  rw [dfac, dfac, back_even n a h hi, e]
  ring

theorem dfac_odd (n : ℕ) (a u h : ℕ → ℝ) (i : ℕ) :
    dfac (2 * n) a u h (2 * i + 1)
      = back n (pairA a) (pairH n a h) i * u (2 * i)
        + dfac n (pairA a) (pairU a u) (pairH n a h) i * a (2 * i) := by
  rw [dfac, dfac, back_pair, show prev (lin a u) (2 * i + 1) = lin a u (2 * i) from rfl, lin_even]
  ring

end Cert.Recurrence
end
-- ==== Proof.LruMath.lean ====
module

public import proofs.«01_k».proof.Proof.SguRefSide
public import proofs.«01_k».proof.Proof.Recurrence

@[expose] public section

set_option maxRecDepth 16384

noncomputable section

open Idealize.ShloMosaic Idealize.ShloMosaic.TcCoe Idealize.SL.Sem
open Cert.Common

/-! The linear recurrent unit and its gradient over the reals: values by lane and row. -/

namespace Cert.LruMath
open Cert.SguMath Cert.Recurrence
open Cert.SguRefIdeal.Read (At At.congr at_mul at_add at_sub at_neg at_tanh at_rsqrt at_div at_div64 at_num bits_64)

/-! ### Constants and scalar functions -/

def m8 : ℝ := -8
def tw : ℝ := 2
def c3 : ℝ := -(16106127 / 536870912)
theorem bits_m8 : Ideal.ofBits .f32 0xC1000000#32 = ((m8 : ℝ) : EReal) := by
  unfold m8; simp [Ideal.ofBits, Ideal.ieee, -EReal.coe_mul, -EReal.coe_neg]; norm_num
theorem bits_tw : Ideal.ofBits .f32 0x40000000#32 = ((tw : ℝ) : EReal) := bits_two
theorem bits_zero : Ideal.ofBits .f32 0x00000000#32 = ((0 : ℝ) : EReal) := by
  simp [Ideal.ofBits, Ideal.ieee, -EReal.coe_mul, -EReal.coe_neg]
theorem bits_inf : Ideal.ofBits .f32 0x7F800000#32 = (⊤ : EReal) := by
  simp [Ideal.ofBits, Ideal.ieee, -EReal.coe_mul, -EReal.coe_neg]
theorem bits_c3 : Ideal.ofBits .f32 0xBCF5C28F#32 = ((c3 : ℝ) : EReal) := by
  unfold c3; simp [Ideal.ofBits, Ideal.ieee, -EReal.coe_mul, -EReal.coe_neg]; norm_num
theorem c3_neg : c3 < 0 := by unfold c3; norm_num

def sig (x : ℝ) : ℝ := (1 + Real.exp (-x))⁻¹
theorem sig_pos (x : ℝ) : 0 < 1 + Real.exp (-x) := by positivity
/-- The softplus of `x` and the factor its gradient takes. -/
def spl (x : ℝ) : ℝ := max x 0 + Real.log (1 + Real.exp (-|x|))
def spd (x : ℝ) : ℝ := Real.exp (x - spl x)
theorem exp_coe (x : ℝ) : Ideal.exp (x : EReal) = ((Real.exp x : ℝ) : EReal) := rfl
theorem sqrt_coe {x : ℝ} (h : 0 ≤ x) : Ideal.sqrt (x : EReal) = ((Real.sqrt x : ℝ) : EReal) := by
  show (if x < 0 then (⊥ : EReal) else (Real.sqrt x : EReal)) = _
  rw [if_neg h.not_gt]
theorem log1p_coe {x : ℝ} (h : 0 < 1 + x) : Ideal.log1p (x : EReal) = ((Real.log (1 + x) : ℝ) : EReal) := by
  show Ideal.log (1 + (x : EReal)) = _
  rw [show (1 : EReal) + (x : EReal) = ((1 + x : ℝ) : EReal) by rw [EReal.coe_add, EReal.coe_one]]
  show (if 1 + x ≤ 0 then (⊥ : EReal) else (Real.log (1 + x) : EReal)) = _
  rw [if_neg h.not_ge]
theorem coe_max (x y : ℝ) : max (x : EReal) (y : EReal) = ((max x y : ℝ) : EReal) := (EReal.coe_strictMono.monotone.map_max).symm
theorem logistic_coe (x : ℝ) : Ideal.logistic (x : EReal) = ((sig x : ℝ) : EReal) := by
  show Ideal.div 1 (1 + Ideal.exp (-(x : EReal))) = _
  rw [← EReal.coe_neg, exp_coe, ← EReal.coe_one, ← EReal.coe_add, div_real _ (sig_pos x).ne', EReal.coe_one, one_mul]; rfl

/-! ### The unit -/

abbrev Q := Fin 256 → ℕ → ℝ
def grp (l : Fin 256) : Fin 4 := ⟨l.val / 64, by omega⟩
def pos (l : Fin 256) : Fin 64 := ⟨l.val % 64, by omega⟩
def ln (g : Fin 4) (k : Fin 64) : Fin 256 := ⟨g.val * 64 + k.val, by omega⟩
@[simp] theorem grp_ln (g : Fin 4) (k : Fin 64) : grp (ln g k) = g := Fin.ext (by show (g.val * 64 + k.val) / 64 = g.val; omega)
@[simp] theorem pos_ln (g : Fin 4) (k : Fin 64) : pos (ln g k) = k := Fin.ext (by show (g.val * 64 + k.val) % 64 = k.val; omega)
@[simp] theorem ln_grp (l : Fin 256) : ln (grp l) (pos l) = l := Fin.ext (by show l.val / 64 * 64 + l.val % 64 = l.val; omega)

/-- The arguments: the two branches, the cotangent, and the weights. -/
structure Dat where
  xb : Q
  gate : Q
  ct : Q
  cw : Fin 4 → Fin 256 → ℝ
  cb : Fin 256 → ℝ
  wa : Fin 4 → Fin 64 → Fin 64 → ℝ
  ba : Fin 256 → ℝ
  wx : Fin 4 → Fin 64 → Fin 64 → ℝ
  bx : Fin 256 → ℝ
  lam : Fin 256 → ℝ
  gain : Fin 256 → ℝ

/-- Rows moved down and up by `k`, with nothing beyond the ends. -/
def dn (k : ℕ) (f : Q) : Q := fun l t => if k ≤ t then f l (t - k) else 0
def up (k : ℕ) (f : Q) : Q := fun l t => if t + k < 4096 then f l (t + k) else 0
def dense (w : Fin 4 → Fin 64 → Fin 64 → ℝ) (f : Q) : Q := fun l t => ∑ i, w (grp l) i (pos l) * f (ln (grp l) i) t
def denseT (w : Fin 4 → Fin 64 → Fin 64 → ℝ) (f : Q) : Q := fun l t => ∑ j, f (ln (grp l) j) t * w (grp l) (pos l) j
def gmean (f : Q) : Q := fun l t => (∑ k, f (ln (grp l) k) t) * (1 / 64)
def colsum (f : Q) : Fin 256 → ℝ := fun l => ∑ t : Fin 4096, f l t

namespace Dat
variable (d : Dat)

def xc : Q := fun l t => d.cb l + dn 3 d.xb l t * d.cw 0 l + dn 2 d.xb l t * d.cw 1 l + dn 1 d.xb l t * d.cw 2 l + d.xb l t * d.cw 3 l
def r : Q := fun l t => sig (dense d.wa d.xc l t + d.ba l)
def gi : Q := fun l t => sig (dense d.wx d.xc l t + d.bx l)
def la : Q := fun l t => m8 * d.r l t * spl (-d.lam l)
def a : Q := fun l t => Real.exp (d.la l t)
def x2 : Q := fun l t => tw * d.la l t
def mult : Q := fun l t => Real.sqrt (1 - Real.exp (d.x2 l t))
def u : Q := fun l t => d.mult l t * d.gi l t * d.xc l t
def h : Q := fun l => lin (d.a l) (d.u l)
def y : Q := fun l t => d.h l t * gel (d.gate l t)
def ms : Q := gmean fun l t => d.y l t * d.y l t
def dgain : Fin 256 → ℝ := colsum fun l t => d.y l t * rs (d.ms l t) * d.ct l t
def dno : Q := fun l t => d.ct l t * d.gain l
def dm : Q := gmean fun l t => d.y l t * d.dno l t * rb (d.ms l t)
def dy : Q := fun l t => d.dno l t * rs (d.ms l t) + d.y l t * d.dm l t + d.dm l t * d.y l t
def dh : Q := fun l t => d.dy l t * gel (d.gate l t)
def dgate : Q := fun l t => gbk (d.gate l t) (d.h l t * d.dy l t)
def g : Q := fun l => back 4096 (d.a l) (d.dh l)
def da : Q := fun l => dfac 4096 (d.a l) (d.u l) (d.dh l)
def dla : Q := fun l t =>
  tw * (-(d.g l t * d.xc l t * d.gi l t * (hf * (d.mult l t)⁻¹)) * Real.exp (d.x2 l t)) + d.da l t * d.a l t
def dlam : Fin 256 → ℝ := fun l => -(colsum (fun l t => m8 * d.r l t * d.dla l t) l * spd (-d.lam l))
def ga : Q := fun l t => m8 * (d.dla l t * spl (-d.lam l)) * (d.r l t * (1 - d.r l t))
def gx : Q := fun l t => d.mult l t * (d.g l t * d.xc l t) * (d.gi l t * (1 - d.gi l t))
def dba : Fin 256 → ℝ := colsum d.ga
def dbx : Fin 256 → ℝ := colsum d.gx
def dwa (l l' : Fin 256) : ℝ := ∑ t : Fin 4096, d.ga l' t * d.xc l t
def dwx (l l' : Fin 256) : ℝ := ∑ t : Fin 4096, d.gx l' t * d.xc l t
def dxc : Q := fun l t => d.mult l t * d.gi l t * d.g l t + denseT d.wx d.gx l t + denseT d.wa d.ga l t
def dcb : Fin 256 → ℝ := colsum d.dxc
def dcw (j : Fin 4) : Fin 256 → ℝ := colsum fun l t => dn (3 - j.val) d.xb l t * d.dxc l t
def dxb : Q := fun l t => d.dxc l t * d.cw 3 l + up 1 d.dxc l t * d.cw 2 l + up 2 d.dxc l t * d.cw 1 l + up 3 d.dxc l t * d.cw 0 l

/-- The decay stays where its complement is taken from the exponential itself. -/
def Dom : Prop := ∀ l t, t < 4096 → d.x2 l t ≤ c3

variable {d}
theorem Dom.pos (hd : d.Dom) (l : Fin 256) {t : ℕ} (ht : t < 4096) : 0 < 1 - Real.exp (d.x2 l t) := by
  have h : d.x2 l t < 0 := lt_of_le_of_lt (hd l t ht) c3_neg
  have := Real.exp_strictMono h
  rw [Real.exp_zero] at this
  linarith
theorem Dom.mult_pos (hd : d.Dom) (l : Fin 256) {t : ℕ} (ht : t < 4096) : 0 < d.mult l t := Real.sqrt_pos.mpr (hd.pos l ht)
theorem ms_nonneg (l : Fin 256) (t : ℕ) : 0 ≤ d.ms l t := mul_nonneg (Finset.sum_nonneg fun _ _ => mul_self_nonneg _) (by norm_num)
end Dat

/-! ### Arrays that hold reals -/

def e2 (n : ℕ) : Fin n × Fin 256 → (⟨2, ![n, 256]⟩ : Shape).Idx := fun p => ix2 p.1 p.2
def qr {n : ℕ} (f : Q) : Fin n × Fin 256 → ℝ := fun p => f p.2 p.1.val
def e1 : Fin 256 → (⟨1, ![256]⟩ : Shape).Idx := fun l => ix1 l
def e10 : Fin 256 → (⟨2, ![1, 256]⟩ : Shape).Idx := fun l => ix2 0 l

section
variable {ι : Type} {s : Shape} {e : ι → s.Idx} {x y : FVec Ideal s .f32} {f f' : ι → ℝ}
theorem at_exp (hx : At e x f) : At e (Host.exp x) fun i => Real.exp (f i) := fun i => by
  show Ideal.exp (x _ : EReal) = _; rw [hx, exp_coe]
theorem at_expm1 (hx : At e x f) : At e (Host.expm1 x) fun i => Real.exp (f i) - 1 := fun i => by
  show Ideal.exp (x _ : EReal) - 1 = _; rw [hx, exp_coe, EReal.coe_sub, EReal.coe_one]
theorem at_sqrt (hx : At e x f) (h : ∀ i, 0 ≤ f i) : At e (Host.sqrt x) fun i => Real.sqrt (f i) := fun i => by
  show Ideal.sqrt (x _ : EReal) = _; rw [hx, sqrt_coe (h i)]
theorem at_log1p (hx : At e x f) (h : ∀ i, 0 < 1 + f i) : At e (Host.log1p x) fun i => Real.log (1 + f i) := fun i => by
  show Ideal.log1p (x _ : EReal) = _; rw [hx, log1p_coe (h i)]
theorem at_abs (hx : At e x f) : At e (Host.absf x) fun i => |f i| := fun i => by
  show max (x _ : EReal) (-(x _ : EReal)) = _
  rw [hx, ← EReal.coe_neg, coe_max]; rfl
theorem at_max (hx : At e x f) (hy : At e y f') : At e (maximumf x y) fun i => max (f i) (f' i) := fun i => by
  show max (x _ : EReal) (y _ : EReal) = _; rw [hx, hy, coe_max]
theorem at_quot (hx : At e x f) (hy : At e y f') (h : ∀ i, f' i ≠ 0) : At e (Host.divf x y) fun i => f i * (f' i)⁻¹ := fun i => by
  show Ideal.div (x _ : EReal) (y _ : EReal) = _; rw [hx, hy, div_real _ (h i), EReal.coe_mul]
end

end Cert.LruMath
end
-- ==== Proof.LruBlock.lean ====
module

public import proofs.«01_k».proof.Proof.LruMath
public import proofs.«01_k».proof.Proof.Gen.LruIdeal.Skeleton
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Cert.Common

/-! The kernel's operations on one block of 512 rows, over the reals. -/

namespace Cert.LruIdeal.Block
open Cert.LruIdeal Cert.LruIdeal.Gen
open Cert.SguMath Cert.Recurrence Cert.LruMath
open Cert.SguRefIdeal.Read (At At.congr at_mul at_add at_sub at_num)

abbrev A := FVec Ideal S512x256 .f32
abbrev R := FVec Ideal S1x256 .f32
abbrev W := FVec Ideal S256x256 .f32

/-- The rows from `o` on. -/
def blk (o : ℕ) (f : Q) : Q := fun l r => f l (o + r)
/-- The block `x` holds the reals `f` from row `o` on. -/
abbrev Bk (o : ℕ) (x : A) (f : Q) : Prop := At (e2 512) x (qr (blk o f))
abbrev Rw (x : R) (f : Fin 256 → ℝ) : Prop := At e10 x f

section
variable {ι : Type} {s : Shape} {e : ι → s.Idx} {x y : FVec Ideal s .f32} {f f' : ι → ℝ}
theorem at_exp (hx : At e x f) : At e (exp x) fun i => Real.exp (f i) := fun i => by
  show Ideal.exp (x _ : EReal) = _; rw [hx, exp_coe]
theorem at_sqrt (hx : At e x f) (h : ∀ i, 0 ≤ f i) : At e (sqrt x) fun i => Real.sqrt (f i) := fun i => by
  show Ideal.sqrt (x _ : EReal) = _; rw [hx, sqrt_coe (h i)]
theorem at_log1p (hx : At e x f) (h : ∀ i, 0 < 1 + f i) : At e (log1p x) fun i => Real.log (1 + f i) := fun i => by
  show Ideal.log1p (x _ : EReal) = _; rw [hx, log1p_coe (h i)]
theorem at_abs (hx : At e x f) : At e (absf x) fun i => |f i| := fun i => by
  show max (x _ : EReal) (-(x _ : EReal)) = _
  rw [hx, ← EReal.coe_neg, coe_max]; rfl
theorem at_tanh (hx : At e x f) : At e (tanh x) fun i => Real.tanh (f i) := fun i => by
  show Ideal.tanh (x _ : EReal) = _; rw [hx, tanh_coe]
theorem at_logistic (hx : At e x f) : At e (logistic x) fun i => LruMath.sig (f i) := fun i => by
  show Ideal.logistic (x _ : EReal) = _; rw [hx, logistic_coe]
theorem at_rsqrt (hx : At e x fun i => f i + epsR) (h : ∀ i, 0 ≤ f i) : At e (rsqrt x) fun i => rs (f i) := fun i => by
  show Ideal.rsqrt (x _ : EReal) = _; rw [hx, rsqrt_rs (h i)]
theorem at_quot (hx : At e x f) (hy : At e y f') (h : ∀ i, f' i ≠ 0) : At e (divf x y) fun i => f i * (f' i)⁻¹ := fun i => by
  show Ideal.div (x _ : EReal) (y _ : EReal) = _; rw [hx, hy, div_real _ (h i), EReal.coe_mul]
theorem at_const {c : BitVec 32} {r : ℝ} (h : Ideal.ofBits .f32 c = ((r : ℝ) : EReal)) : At e (broadcast s (Scalar.ofBits (F := Ideal) .f32 c)) fun _ => r := fun _ => h
theorem at_sel {m : IVec s 1} {p : ι → Prop} [DecidablePred p] (hm : ∀ i, m (e i) = if p i then 1#1 else 0#1) (hx : At e x f) (hy : At e y f') :
    At e (select m x y) fun i => if p i then f i else f' i := fun i => by
  show (Scalar.select (m (e i)) (x (e i)) (y (e i)) : EReal) = _
  rw [hm]
  by_cases h : p i
  · simp only [if_pos h]; exact hx i
  · simp only [if_neg h]; exact hy i
end

/-! ### Shapes -/

theorem row_entry (v : R) (r : Fin 512) (l : Fin 256) : (broadcastTo S512x256 v broadcasts_S1x256_S512x256 (ix2 r l) : EReal) = v (ix2 0 l) := by pointwise
theorem at_rows {v : R} {f : Fin 256 → ℝ} (h : Rw v f) : At (e2 512) (broadcastTo S512x256 v broadcasts_S1x256_S512x256) fun p => f p.2 :=
  fun p => (row_entry v p.1 p.2).trans (h p.2)
theorem same_row (v : R) (l : Fin 256) : (shapeCast S1x256 v shapeCasts_S1x256_S1x256 (ix2 0 l) : EReal) = v (ix2 0 l) := by pointwise
theorem at_row {v : R} {f : Fin 256 → ℝ} (h : Rw v f) : Rw (shapeCast S1x256 v shapeCasts_S1x256_S1x256) f := fun l => (same_row v l).trans (h l)
theorem same_blk (v : A) (r : Fin 512) (l : Fin 256) : (shapeCast S512x256 v shapeCasts_S512x256_S512x256 (ix2 r l) : EReal) = v (ix2 r l) := by pointwise
theorem at_blk {v : A} {f : Fin 512 × Fin 256 → ℝ} (h : At (e2 512) v f) : At (e2 512) (shapeCast S512x256 v shapeCasts_S512x256_S512x256) f :=
  fun p => (same_blk v p.1 p.2).trans (h p)
theorem same_w (v : W) (k l : Fin 256) : (shapeCast S256x256 v shapeCasts_S256x256_S256x256 (ix2 k l) : EReal) = v (ix2 k l) := by pointwise
theorem sum_entry (x : A) (l : Fin 256) :
    (shapeCast S1x256 (multiReduction .add [0] S256 x 0x00000000#32 reduces_S512x256_S256 (.inl rfl) rfl) shapeCasts_S256_S1x256 (ix2 0 l) : EReal) = ∑ r, (x (ix2 r l) : EReal) := by pointwise
theorem at_sum {x : A} {f : Q} (h : At (e2 512) x (qr f)) :
    Rw (shapeCast S1x256 (multiReduction .add [0] S256 x 0x00000000#32 reduces_S512x256_S256 (.inl rfl) rfl) shapeCasts_S256_S1x256) fun l => ∑ r : Fin 512, f l r :=
  fun l => (sum_entry x l).trans ((Finset.sum_congr rfl fun r _ => h (r, l)).trans (coe_sum _ _).symm)

/-! ### Rows moved -/

theorem at_rot {x : A} {f : Q} (hx : At (e2 512) x (qr f)) (sb : BitVec 32) (k : ℕ) (hs : sb.toNat = k) (hk : k < 512) :
    At (e2 512) (dynamicRotate 0 sb none x rotates_S512x256_d0) (qr fun l r => f l ((r + 512 - k) % 512)) := fun p => by
  refine (dynamicRotate_apply 0 sb x rotates_S512x256_d0 (e2 512 p) (e2 512 (⟨(p.1.val + 512 - k) % 512, Nat.mod_lt _ (by omega)⟩, p.2)) (fun b => ?_)).trans (hx _)
  have h1 : p.1.val < 512 := p.1.isLt
  have h2 : p.2.val < 256 := p.2.isLt
  have hs' : k % 512 = k := Nat.mod_eq_of_lt hk
  fin_cases b
  · show (p.1.val + 512 - k) % 512 = (p.1.val + 512 - sb.toNat % 512) % 512
    rw [hs, hs']
  · show p.2.val = _
    rw [if_neg (by decide)]; rfl
theorem lt_entry (c : BitVec 32) (p : Fin 512 × Fin 256) : cmpi .slt (iota .tc S512x256 32 [0] iota_S512x256_d0_w32) (broadcast S512x256 c) (e2 512 p) = IntOp.cmpi .slt (BitVec.ofNat 32 p.1.val) c := by
  obtain ⟨r, l⟩ := p; unfold e2; pointwise
theorem ge_entry (c : BitVec 32) (p : Fin 512 × Fin 256) : cmpi .sge (iota .tc S512x256 32 [0] iota_S512x256_d0_w32) (broadcast S512x256 c) (e2 512 p) = IntOp.cmpi .sge (BitVec.ofNat 32 p.1.val) c := by
  obtain ⟨r, l⟩ := p; unfold e2; pointwise
/-- The constant `c` leaves out the last `k` rows. -/
def Lt (k : ℕ) (c : BitVec 32) : Prop := c.toNat = 512 - k ∧ ∀ r : Fin 512, IntOp.cmpi .slt (BitVec.ofNat 32 r.val) c = if r.val + k < 512 then 1#1 else 0#1
def Ge (k : ℕ) (c : BitVec 32) : Prop := c.toNat = k ∧ ∀ r : Fin 512, IntOp.cmpi .sge (BitVec.ofNat 32 r.val) c = if k ≤ r.val then 1#1 else 0#1
theorem lt1 : Lt 1 511#32 := ⟨rfl, by decide +kernel⟩
theorem lt2 : Lt 2 510#32 := ⟨rfl, by decide +kernel⟩
theorem lt3 : Lt 3 509#32 := ⟨rfl, by decide +kernel⟩
theorem lt4 : Lt 4 508#32 := ⟨rfl, by decide +kernel⟩
theorem lt8 : Lt 8 504#32 := ⟨rfl, by decide +kernel⟩
theorem lt16 : Lt 16 496#32 := ⟨rfl, by decide +kernel⟩
theorem lt32 : Lt 32 480#32 := ⟨rfl, by decide +kernel⟩
theorem lt64 : Lt 64 448#32 := ⟨rfl, by decide +kernel⟩
theorem lt128 : Lt 128 384#32 := ⟨rfl, by decide +kernel⟩
theorem lt256 : Lt 256 256#32 := ⟨rfl, by decide +kernel⟩
theorem ge1 : Ge 1 1#32 := ⟨rfl, by decide +kernel⟩
theorem ge2 : Ge 2 2#32 := ⟨rfl, by decide +kernel⟩
theorem ge3 : Ge 3 3#32 := ⟨rfl, by decide +kernel⟩

abbrev below (c : BitVec 32) : IVec S512x256 1 := cmpi .slt (iota .tc S512x256 32 [0] iota_S512x256_d0_w32) (broadcast S512x256 c)
abbrev above (c : BitVec 32) : IVec S512x256 1 := cmpi .sge (iota .tc S512x256 32 [0] iota_S512x256_d0_w32) (broadcast S512x256 c)
abbrev rot (c : BitVec 32) (x : A) : A := dynamicRotate 0 c none x rotates_S512x256_d0

/-- A block moved up by `k` rows, another one's rows in the last ones. -/
theorem at_up {x y : A} {f g : Q} {k : ℕ} {c : BitVec 32} (hc : Lt k c) (hk : 0 < k) (hx : At (e2 512) x (qr f)) (hy : At (e2 512) y (qr g)) :
    At (e2 512) (select (below c) (rot c x) y) (qr fun l r => if r + k < 512 then f l (r + k) else g l r) :=
  At.congr (at_sel (p := fun p => p.1.val + k < 512) (fun p => (lt_entry c p).trans (hc.2 p.1)) (at_rot hx c (512 - k) hc.1 (by omega)) hy) fun p => by
    show (if p.1.val + k < 512 then f p.2 ((p.1.val + 512 - (512 - k)) % 512) else g p.2 p.1.val) = if p.1.val + k < 512 then f p.2 (p.1.val + k) else g p.2 p.1.val
    by_cases h : p.1.val + k < 512
    · rw [if_pos h, if_pos h, show p.1.val + 512 - (512 - k) = p.1.val + k by omega, Nat.mod_eq_of_lt h]
    · rw [if_neg h, if_neg h]
theorem bk_up {o : ℕ} {x y : A} {f : Q} {k : ℕ} {c : BitVec 32} (ho : o + 512 ≤ 4096) (hc : Lt k c) (hk : 0 < k) (hk' : k < 512) (hx : Bk o x f) (hy : Bk o y (up 512 f)) :
    Bk o (select (below c) (rot c x) (rot c y)) (up k f) :=
  At.congr (at_up hc hk hx (at_rot hy c (512 - k) hc.1 (by omega))) fun p => by
    have h1 : p.1.val < 512 := p.1.isLt
    show (if p.1.val + k < 512 then f p.2 (o + (p.1.val + k)) else up 512 f p.2 (o + (p.1.val + 512 - (512 - k)) % 512)) = up k f p.2 (o + p.1.val)
    by_cases h : p.1.val + k < 512
    · rw [if_pos h, up, if_pos (by omega), add_assoc]
    · rw [if_neg h, show (p.1.val + 512 - (512 - k)) % 512 = p.1.val + k - 512 by omega, up, up, show o + (p.1.val + k - 512) + 512 = o + p.1.val + k by omega]
theorem bk_dn {o : ℕ} {x y : A} {f : Q} {k : ℕ} {c : BitVec 32} (hc : Ge k c) (hk' : k < 512) (hx : Bk o x f) (hy : Bk o y (LruMath.dn 512 f)) :
    Bk o (select (above c) (rot c x) (rot c y)) (LruMath.dn k f) :=
  At.congr (at_sel (p := fun p => k ≤ p.1.val) (fun p => (ge_entry c p).trans (hc.2 p.1)) (at_rot hx c k hc.1 hk') (at_rot hy c k hc.1 hk')) fun p => by
    have h1 : p.1.val < 512 := p.1.isLt
    show (if k ≤ p.1.val then f p.2 (o + (p.1.val + 512 - k) % 512) else LruMath.dn 512 f p.2 (o + (p.1.val + 512 - k) % 512)) = LruMath.dn k f p.2 (o + p.1.val)
    by_cases h : k ≤ p.1.val
    · rw [if_pos h, show (p.1.val + 512 - k) % 512 = p.1.val - k by omega, LruMath.dn, if_pos (by omega), show o + (p.1.val - k) = o + p.1.val - k by omega]
    · rw [if_neg h, show (p.1.val + 512 - k) % 512 = p.1.val + 512 - k by omega, LruMath.dn, LruMath.dn]
      by_cases h2 : k ≤ o + p.1.val
      · rw [if_pos (by omega), if_pos h2, show o + (p.1.val + 512 - k) - 512 = o + p.1.val - k by omega]
      · rw [if_neg (by omega), if_neg h2]

/-! ### Products with a block-diagonal matrix -/

theorem split_sum (F : Fin 256 → ℝ) : ∑ k, F k = ∑ g, ∑ i, F (ln g i) := (Fin.sum_mul_add_congr (n := 64) (S := 4) (F := fun g k => F (ln g k)) fun g k hl => rfl).symm
theorem sum_grp (F : Fin 256 → ℝ) (l : Fin 256) (h : ∀ k, grp k ≠ grp l → F k = 0) : ∑ k, F k = ∑ i, F (ln (grp l) i) := by
  rw [split_sum, Finset.sum_eq_single (grp l)]
  · intro g _ hg; exact Finset.sum_eq_zero fun i _ => h _ (by rw [grp_ln]; exact hg)
  · exact fun h => absurd (Finset.mem_univ _) h
/-- The matrix `w` holds `f` inside the groups and nothing outside. -/
def Diag (w : W) (f : Fin 256 → Fin 256 → ℝ) : Prop := ∀ k l, (w (ix2 k l) : EReal) = ((if grp k = grp l then f k l else 0 : ℝ) : EReal)
theorem mm_entry (x : FVec Ideal S512x256 .bf16) (w : FVec Ideal S256x256 .bf16) (r : Fin 512) (l : Fin 256) :
    (matmul dot_S512x256_S256x256_S512x256_1_0_0_1_n_n none x w (constant S512x256 .f32 0x00000000#32) (ix2 r l) : EReal) = ∑ k, (x (ix2 r k) : EReal) * w (ix2 k l) := by pointwise
theorem mt_entry (x : A) (w : FVec Ideal S256x256 .bf16) (r : Fin 512) (l : Fin 256) :
    (matmul dot_S512x256_S256x256_S512x256_1_1_0_0_n_n none x w (constant S512x256 .f32 0x00000000#32) (ix2 r l) : EReal) = ∑ k, (x (ix2 r k) : EReal) * w (ix2 l k) := by pointwise
theorem mw_entry (x : A) (y : FVec Ideal S512x256 .bf16) (k l : Fin 256) :
    (transpose S256x256 [1, 0] (matmul dot_S512x256_S512x256_S256x256_0_0_1_1_n_n none x y (constant S256x256 .f32 0x00000000#32)) transposes_S256x256_p1_0_S256x256 (ix2 k l) : EReal)
      = ∑ r, (x (ix2 r l) : EReal) * y (ix2 r k) := by pointwise
theorem at_mm {x : A} {w : W} {f : Q} {F : Fin 256 → Fin 256 → ℝ} (hx : At (e2 512) x (qr f)) (hw : Diag w F) :
    At (e2 512) (matmul dot_S512x256_S256x256_S512x256_1_0_0_1_n_n none (truncf .bf16 x bitsLt_bf16_f32) (truncf .bf16 w bitsLt_bf16_f32) (constant S512x256 .f32 0x00000000#32))
      (qr fun l r => ∑ i, f (ln (grp l) i) r * F (ln (grp l) i) l) := fun p => by
  refine (mm_entry _ _ p.1 p.2).trans ?_
  have h : ∀ k, ((truncf .bf16 x bitsLt_bf16_f32 : FVec Ideal S512x256 .bf16) (ix2 p.1 k) : EReal) * (truncf .bf16 w bitsLt_bf16_f32 : FVec Ideal S256x256 .bf16) (ix2 k p.2)
      = ((f k p.1.val * (if grp k = grp p.2 then F k p.2 else 0) : ℝ) : EReal) := fun k => by
    show (x (ix2 p.1 k) : EReal) * w (ix2 k p.2) = _
    rw [hw, EReal.coe_mul]; exact congrArg (· * _) (hx (p.1, k))
  refine (Finset.sum_congr rfl fun k _ => h k).trans ((coe_sum _ _).symm.trans (congrArg _ ?_))
  rw [sum_grp _ p.2 fun k hk => by rw [if_neg hk, mul_zero]]
  exact Finset.sum_congr rfl fun i _ => by rw [grp_ln, if_pos rfl]
theorem at_mt {x : A} {w : W} {f : Q} {F : Fin 256 → Fin 256 → ℝ} (hx : At (e2 512) x (qr f)) (hw : Diag w F) :
    At (e2 512) (matmul dot_S512x256_S256x256_S512x256_1_1_0_0_n_n none x (truncf .bf16 w bitsLt_bf16_f32) (constant S512x256 .f32 0x00000000#32))
      (qr fun l r => ∑ i, f (ln (grp l) i) r * F l (ln (grp l) i)) := fun p => by
  refine (mt_entry _ _ p.1 p.2).trans ?_
  have h : ∀ k, (x (ix2 p.1 k) : EReal) * (truncf .bf16 w bitsLt_bf16_f32 : FVec Ideal S256x256 .bf16) (ix2 p.2 k)
      = ((f k p.1.val * (if grp k = grp p.2 then F p.2 k else 0) : ℝ) : EReal) := fun k => by
    show (x (ix2 p.1 k) : EReal) * w (ix2 p.2 k) = _
    rw [hw, EReal.coe_mul, if_congr (eq_comm (a := grp p.2) (b := grp k)) rfl rfl]; exact congrArg (· * _) (hx (p.1, k))
  refine (Finset.sum_congr rfl fun k _ => h k).trans ((coe_sum _ _).symm.trans (congrArg _ ?_))
  rw [sum_grp _ p.2 fun k hk => by rw [if_neg hk, mul_zero]]
  exact Finset.sum_congr rfl fun i _ => by rw [grp_ln, if_pos rfl]
theorem at_mw {x y : A} {f g : Q} (hx : At (e2 512) x (qr f)) (hy : At (e2 512) y (qr g)) (k l : Fin 256) :
    (transpose S256x256 [1, 0] (matmul dot_S512x256_S512x256_S256x256_0_0_1_1_n_n none x (truncf .bf16 y bitsLt_bf16_f32) (constant S256x256 .f32 0x00000000#32)) transposes_S256x256_p1_0_S256x256 (ix2 k l) : EReal)
      = ((∑ r : Fin 512, f l r * g k r : ℝ) : EReal) := by
  refine (mw_entry _ _ k l).trans ((Finset.sum_congr rfl fun r _ => ?_).trans (coe_sum _ _).symm)
  rw [EReal.coe_mul]
  exact congrArg₂ (HMul.hMul (α := EReal)) (hx (r, l)) (hy (r, k))
/-- The mean over a group, in two passes. -/
theorem at_mean {x : A} {w : W} {f : Q} (hx : At (e2 512) x (qr f)) (hw : Diag w fun _ _ => 1 / 64) :
    At (e2 512) (addf (matmul dot_S512x256_S256x256_S512x256_1_0_0_1_n_n none (truncf .bf16 x bitsLt_bf16_f32) (truncf .bf16 w bitsLt_bf16_f32) (constant S512x256 .f32 0x00000000#32))
      (matmul dot_S512x256_S256x256_S512x256_1_0_0_1_n_n none
        (truncf .bf16 (subf x (extf .f32 (truncf .bf16 x bitsLt_bf16_f32) bitsLt_bf16_f32)) bitsLt_bf16_f32) (truncf .bf16 w bitsLt_bf16_f32) (constant S512x256 .f32 0x00000000#32)))
      (qr (gmean f)) :=
  At.congr (at_add (at_mm hx hw) (at_mm (f := fun l r => f l r - f l r) (at_sub hx hx) hw)) fun p => by
    show (∑ i, f (ln (grp p.2) i) p.1.val * (1 / 64)) + (∑ i, (f (ln (grp p.2) i) p.1.val - f (ln (grp p.2) i) p.1.val) * (1 / 64)) = (∑ i, f (ln (grp p.2) i) p.1.val) * (1 / 64)
    rw [Finset.sum_mul, add_eq_left]
    exact Finset.sum_eq_zero fun i _ => by rw [sub_self, zero_mul]

end Cert.LruIdeal.Block
end
-- ==== Proof.LruStage.lean ====
module

public import proofs.«01_k».proof.Proof.LruBlock

@[expose] public section

set_option maxRecDepth 16384

noncomputable section

open Idealize.ShloMosaic Idealize.ShloMosaic.TcCoe Idealize.SL.Sem
open Cert.Common

/-! What one step of the kernel computes from its blocks, over the reals. -/

namespace Cert.LruIdeal.Block
open Cert.LruIdeal Cert.LruIdeal.Gen
open Cert.SguMath Cert.Recurrence
open Cert.LruMath (Dat Q e2 e10 qr grp pos ln up gmean grp_ln pos_ln ln_grp m8 tw c3 spl spd bits_m8 bits_tw bits_zero bits_inf bits_c3 coe_max denseT dense at_max)
open Cert.SguRefIdeal.Read (At At.congr at_mul at_add at_sub at_num)

section
variable {ι : Type} {s : Shape} {e : ι → s.Idx} {x y : FVec Ideal s .f32} {f f' : ι → ℝ}
theorem at_no {m : IVec s 1} (hm : ∀ i, m (e i) = 0#1) (hy : At e y f) : At e (select m x y) f := fun i => by
  show (Scalar.select (m (e i)) (x (e i)) (y (e i)) : EReal) = _
  rw [hm]; exact hy i
theorem at_zl (hx : At e x fun _ => 0) : At e (mulf x y) fun _ => 0 := fun i => by
  show (x (e i) : EReal) * y (e i) = _
  rw [hx, EReal.coe_zero, zero_mul]
theorem at_zr (hy : At e y fun _ => 0) : At e (mulf x y) fun _ => 0 := fun i => by
  show (x (e i) : EReal) * y (e i) = _
  rw [hy, EReal.coe_zero, mul_zero]
theorem ne_self (i : ι) : cmpf .one x x (e i) = 0#1 := by
  show BitVec.ofBool (decide ((x (e i) : EReal) ≠ x (e i))) = _
  simp
theorem ne_top (hx : At e x f) (i : ι) : cmpf .oeq x (broadcast s (Scalar.ofBits (F := Ideal) .f32 0x7F800000#32)) (e i) = 0#1 := by
  show BitVec.ofBool (decide ((x (e i) : EReal) = Ideal.ofBits .f32 0x7F800000#32)) = _
  rw [bits_inf, hx, decide_eq_false (EReal.coe_ne_top _)]; rfl
theorem not_gt (hx : At e x f) (h : ∀ i, f i ≤ c3) (i : ι) : cmpf .ogt x (broadcast s (Scalar.ofBits (F := Ideal) .f32 0xBCF5C28F#32)) (e i) = 0#1 := by
  show BitVec.ofBool (decide (Ideal.ofBits .f32 0xBCF5C28F#32 < (x (e i) : EReal))) = _
  rw [bits_c3, hx, decide_eq_false (not_lt.mpr (EReal.coe_le_coe_iff.mpr (h i)))]; rfl
end

/-- The blocks one step reads. -/
structure In where
  i : grid0.Coords
  xb : A
  xq : A
  gate : A
  h0 : A
  hq : A
  ct : A
  cw : FVec Ideal S4x256 .f32
  cb : R
  wa0 : W
  ba0 : R
  wx0 : W
  bx0 : R
  lam0 : R
  gain0 : R
  avg0 : W
  gf : R
  af : R
  nx : A

namespace In
variable (n : In)
def xp : A := k0_pay15 n.i n.xq
def hp : A := k0_pay16 n.i n.hq
def xc : A := k0_pay22 n.xb n.xp n.cw (k0_pay17 n.i n.xb n.xq n.cw n.cb) (k0_pay18 n.cw) k0_pay19 (k0_pay20 n.xb) (k0_pay21 n.i n.xq)
def lam : R := k0_pay23 n.lam0
def xcb : FVec Ideal S512x256 .bf16 := k0_pay24 n.xb n.xp n.cw (k0_pay17 n.i n.xb n.xq n.cw n.cb) (k0_pay18 n.cw) k0_pay19 (k0_pay20 n.xb) (k0_pay21 n.i n.xq)
def wa : FVec Ideal S256x256 .bf16 := k0_pay25 n.wa0
def r : A := k0_pay26 n.xb n.xp n.cw (k0_pay17 n.i n.xb n.xq n.cw n.cb) (k0_pay18 n.cw) k0_pay19 (k0_pay20 n.xb) (k0_pay21 n.i n.xq) n.wa0 n.ba0
def rr : A := k0_pay27 n.xb n.xp n.cw (k0_pay17 n.i n.xb n.xq n.cw n.cb) (k0_pay18 n.cw) k0_pay19 (k0_pay20 n.xb) (k0_pay21 n.i n.xq) n.wa0 n.ba0
def wx : FVec Ideal S256x256 .bf16 := k0_pay28 n.wx0
def gi : A := k0_pay29 n.xb n.xp n.cw (k0_pay17 n.i n.xb n.xq n.cw n.cb) (k0_pay18 n.cw) k0_pay19 (k0_pay20 n.xb) (k0_pay21 n.i n.xq) n.wx0 n.bx0
def gg : A := k0_pay30 n.xb n.xp n.cw (k0_pay17 n.i n.xb n.xq n.cw n.cb) (k0_pay18 n.cw) k0_pay19 (k0_pay20 n.xb) (k0_pay21 n.i n.xq) n.wx0 n.bx0
def r8 : A := k0_pay32 n.r k0_pay31
def sp : R := k0_pay34 n.lam
def sd : R := k0_pay35 n.lam
def a : A := k0_pay37 n.lam n.r k0_pay31
def x2 : A := k0_pay38 n.lam n.r k0_pay31
def s39 : A := k0_pay39 n.lam n.r k0_pay31
def s40 : A := k0_pay40 n.lam n.r k0_pay31
def s41 : A := k0_pay41 n.lam n.r k0_pay31
def s42 : A := k0_pay42 n.lam n.r k0_pay31
def s43 : A := k0_pay43 n.lam n.r k0_pay31
def big : IVec S512x256 1 := k0_pay45 n.x2 k0_pay44
def ex : A := k0_pay46 n.x2
def mult : A := k0_pay47 n.x2 n.s43 k0_pay44
def im : A := k0_pay48 n.x2 n.s43 k0_pay44
def mg : A := k0_pay49 n.gi n.x2 n.s43 k0_pay44
def h : A := k0_pay50 n.h0
def avg : W := k0_pay51 n.avg0
def gain : R := k0_pay52 n.gain0
def y : A := k0_pay58 n.h0 n.gate
def avb : FVec Ideal S256x256 .bf16 := k0_pay60 n.avg0
def yb : FVec Ideal S512x256 .bf16 := k0_pay61 n.h0 n.gate
def yr : A := k0_pay62 n.h0 n.gate
def dgain : R := k0_pay65 n.y n.avb n.yb n.yr n.ct
def dy : A := k0_pay66 n.avg n.gain n.y n.avb n.yb n.yr n.ct
def dh : A := k0_pay67 n.avg n.gain (k0_pay57 n.gate) n.y n.avb n.yb n.yr n.ct
def dgate : A := k0_pay68 n.h n.avg n.gate n.gain (k0_pay53 n.gate) (k0_pay55 n.gate) (k0_pay56 n.gate) n.y n.avb n.yb n.yr n.ct
abbrev io : IVec S512x256 32 := iota .tc S512x256 32 [0] iota_S512x256_d0_w32
abbrev one : Ideal .f32 := Scalar.ofBits (F := Ideal) .f32 0x3F800000#32
def a2 : A := k0_pay73 n.a n.af
def b2 : A := k0_pay75 n.a n.af
def u3 : A := k0_pay76 n.a n.dh n.af
def u6 : A := k0_pay83 io n.a2 n.b2 n.u3
def a6 : A := k0_pay84 io n.a2 n.b2
def m6 : IVec S512x256 1 := k0_pay85 io
def v6 : A := k0_pay86 io n.a2 n.b2 n.u3
def w6 : A := k0_pay87 io n.a2 n.b2
def g : A := k0_pay88 io n.u6 n.a6 m6 n.v6 n.w6 one n.gf
def da : A := k0_pay89 n.hp n.h io n.u6 n.a6 m6 n.v6 n.w6 one n.gf
def dxg : A := k0_pay90 n.mg io n.u6 n.a6 m6 n.v6 n.w6 one n.gf
def gxm : A := k0_pay92 n.xc n.mult io n.u6 n.a6 m6 n.v6 n.w6 one n.gf
def gm : A := k0_pay93 n.xc n.gi n.im io n.u6 n.a6 m6 n.v6 n.w6 one n.gf
def dla : A := k0_pay95 n.a n.x2 n.s39 n.s40 n.s41 n.s42 n.big n.ex n.da n.gm k0_pay94
def dlam : R := k0_pay96 n.r8 n.sd n.a n.x2 n.s39 n.s40 n.s41 n.s42 n.big n.ex n.da n.gm k0_pay94
def gx : A := k0_pay97 n.gg n.gxm
def dbx : R := k0_pay98 n.gg n.gxm
def tx : FVec Ideal S512x256 .bf16 := k0_pay99 n.wx n.gg n.gxm
def dwx : W := k0_pay100 n.xcb n.gg n.gxm
def ga : A := k0_pay101 n.rr n.sp n.a n.x2 n.s39 n.s40 n.s41 n.s42 n.big n.ex n.da n.gm k0_pay94
def dba : R := k0_pay102 n.rr n.sp n.a n.x2 n.s39 n.s40 n.s41 n.s42 n.big n.ex n.da n.gm k0_pay94
def dwa : W := k0_pay104 (k0_pay103 n.xcb n.rr n.sp n.a n.x2 n.s39 n.s40 n.s41 n.s42 n.big n.ex n.da n.gm k0_pay94)
def dxc : A := k0_pay105 n.wa n.dxg n.tx n.ga
def dxb : A := k0_pay110 n.cw n.dxc n.nx (k0_pay107 n.cw n.wa n.dxg n.tx n.ga n.nx)
end In

/-- The factors, none past the last row. -/
def aN (d : Dat) : Q := fun l t => if t < 4096 then d.a l t else 0

/-- The blocks of a step whose rows begin at `o`. -/
structure Good (d : Dat) (o : ℕ) (n : In) : Prop where
  ho : o + 512 ≤ 4096
  dom : d.Dom
  xb : Bk o n.xb d.xb
  xp : Bk o n.xp (LruMath.dn 512 d.xb)
  hp : Bk o n.hp (LruMath.dn 512 d.h)
  gate : Bk o n.gate d.gate
  h0 : Bk o n.h0 d.h
  ct : Bk o n.ct d.ct
  cw : ∀ j l, (n.cw (ix2 j l) : EReal) = ((d.cw j l : ℝ) : EReal)
  cb : Rw n.cb d.cb
  wa : Diag n.wa0 fun k l => d.wa (grp l) (pos k) (pos l)
  ba : Rw n.ba0 d.ba
  wx : Diag n.wx0 fun k l => d.wx (grp l) (pos k) (pos l)
  bx : Rw n.bx0 d.bx
  lam : Rw n.lam0 d.lam
  gain : Rw n.gain0 d.gain
  avg : Diag n.avg0 fun _ _ => 1 / 64
  gf : Rw n.gf fun l => d.g l (o + 512)
  af : Rw n.af fun l => aN d l (o + 512)
  nx : Bk o n.nx (up 512 d.dxc)

namespace Good
variable {d : Dat} {o : ℕ} {n : In} (G : Good d o n)
include G

theorem row_lt (p : Fin 512 × Fin 256) : o + p.1.val < 4096 := by have := G.ho; have := p.1.isLt; omega
theorem w3 : Rw (extractStridedSlice S1x256 ![3, 0] n.cw slices_S4x256_o3_0_S1x256) (d.cw 3) := fun l =>
  (show (extractStridedSlice S1x256 ![3, 0] n.cw slices_S4x256_o3_0_S1x256 (ix2 0 l) : EReal) = n.cw (ix2 3 l) by pointwise).trans (G.cw 3 l)
theorem w2 : Rw (extractStridedSlice S1x256 ![2, 0] n.cw slices_S4x256_o2_0_S1x256) (d.cw 2) := fun l =>
  (show (extractStridedSlice S1x256 ![2, 0] n.cw slices_S4x256_o2_0_S1x256 (ix2 0 l) : EReal) = n.cw (ix2 2 l) by pointwise).trans (G.cw 2 l)
theorem w1 : Rw (extractStridedSlice S1x256 ![1, 0] n.cw slices_S4x256_o1_0_S1x256) (d.cw 1) := fun l =>
  (show (extractStridedSlice S1x256 ![1, 0] n.cw slices_S4x256_o1_0_S1x256 (ix2 0 l) : EReal) = n.cw (ix2 1 l) by pointwise).trans (G.cw 1 l)
theorem w0 : Rw (extractStridedSlice S1x256 ![0, 0] n.cw slices_S4x256_o0_0_S1x256) (d.cw 0) := fun l =>
  (show (extractStridedSlice S1x256 ![0, 0] n.cw slices_S4x256_o0_0_S1x256 (ix2 0 l) : EReal) = n.cw (ix2 0 l) by pointwise).trans (G.cw 0 l)
theorem x1 : Bk o (select (above 1#32) (rot 1#32 n.xb) (rot 1#32 n.xp)) (LruMath.dn 1 d.xb) := bk_dn ge1 (by decide) G.xb G.xp
theorem x2' : Bk o (select (above 2#32) (rot 2#32 n.xb) (rot 2#32 n.xp)) (LruMath.dn 2 d.xb) := bk_dn ge2 (by decide) G.xb G.xp
theorem x3 : Bk o (select (above 3#32) (rot 3#32 n.xb) (rot 3#32 n.xp)) (LruMath.dn 3 d.xb) := bk_dn ge3 (by decide) G.xb G.xp
theorem xc : Bk o n.xc d.xc :=
  At.congr (at_add (at_add (at_add (at_add (at_rows (at_row G.cb)) (at_mul (at_rows G.w3) G.xb)) (at_mul (at_rows G.w2) G.x1)) (at_mul (at_rows G.w1) G.x2')) (at_mul (at_rows G.w0) G.x3)) fun p => by
    simp only [qr, blk, Dat.xc]; ring
theorem wa' : Diag (shapeCast S256x256 n.wa0 shapeCasts_S256x256_S256x256) fun k l => d.wa (grp l) (pos k) (pos l) := fun k l => (same_w _ k l).trans (G.wa k l)
theorem wx' : Diag (shapeCast S256x256 n.wx0 shapeCasts_S256x256_S256x256) fun k l => d.wx (grp l) (pos k) (pos l) := fun k l => (same_w _ k l).trans (G.wx k l)
theorem avg' : Diag n.avg fun _ _ => 1 / 64 := fun k l => (same_w _ k l).trans (G.avg k l)
theorem r : Bk o n.r d.r :=
  at_logistic (At.congr (at_add (at_mm G.xc G.wa') (at_rows (at_row G.ba))) fun p => by
    show (∑ i, d.xc (ln (grp p.2) i) (o + p.1.val) * d.wa (grp p.2) (pos (ln (grp p.2) i)) (pos p.2)) + d.ba p.2 = dense d.wa d.xc p.2 (o + p.1.val) + d.ba p.2
    simp only [dense, pos_ln, mul_comm])
theorem gi : Bk o n.gi d.gi :=
  at_logistic (At.congr (at_add (at_mm G.xc G.wx') (at_rows (at_row G.bx))) fun p => by
    show (∑ i, d.xc (ln (grp p.2) i) (o + p.1.val) * d.wx (grp p.2) (pos (ln (grp p.2) i)) (pos p.2)) + d.bx p.2 = dense d.wx d.xc p.2 (o + p.1.val) + d.bx p.2
    simp only [dense, pos_ln, mul_comm])
theorem rr : Bk o n.rr fun l t => d.r l t * (1 - d.r l t) := at_mul G.r (at_sub (at_const bits_one) G.r)
theorem gg : Bk o n.gg fun l t => d.gi l t * (1 - d.gi l t) := at_mul G.gi (at_sub (at_const bits_one) G.gi)
theorem r8 : Bk o n.r8 fun l t => m8 * d.r l t := at_mul (at_const bits_m8) G.r
theorem nlam : Rw (k0_pay33 n.lam) fun l => -d.lam l :=
  At.congr (at_sub (at_const bits_zero) (at_row G.lam)) fun l => zero_sub _
theorem sp : Rw n.sp fun l => spl (-d.lam l) :=
  at_no (fun i => ne_self i) (At.congr (at_add (at_max G.nlam (at_const bits_zero)) (at_log1p (at_exp (at_sub (at_const bits_zero) (at_abs (at_sub G.nlam (at_const bits_zero))))) fun l => by positivity)) fun l => by
    simp only [spl, sub_zero, zero_sub])
theorem sd : Rw n.sd fun l => spd (-d.lam l) :=
  at_exp (at_sub (at_no (ne_top G.nlam) G.nlam) (at_no (ne_top G.sp) G.sp))
theorem la : Bk o (k0_pay36 n.lam n.r k0_pay31) d.la := at_mul G.r8 (at_rows G.sp)
theorem a : Bk o n.a d.a := at_exp G.la
theorem x2 : Bk o n.x2 d.x2 := at_mul (at_const bits_tw) G.la
theorem ex : Bk o n.ex fun l t => Real.exp (d.x2 l t) := at_exp G.x2
theorem big (p : Fin 512 × Fin 256) : n.big (e2 512 p) = 0#1 := not_gt G.x2 (fun p => G.dom _ _ (G.row_lt p)) p
theorem mult : Bk o n.mult d.mult := at_sqrt (at_no G.big (at_sub (at_const bits_one) G.ex)) fun p => (G.dom.pos _ (G.row_lt p)).le
theorem im : Bk o n.im fun l t => hf * (d.mult l t)⁻¹ := at_quot (at_const bits_hf) G.mult fun p => (G.dom.mult_pos _ (G.row_lt p)).ne'
theorem mg : Bk o n.mg fun l t => d.mult l t * d.gi l t := at_mul G.mult G.gi

/-! The norm and the output gate. -/

theorem h : Bk o n.h d.h := at_blk G.h0
theorem th : Bk o (k0_pay54 n.gate) fun l t => tg (d.gate l t) :=
  at_tanh (at_mul (at_const bits_c1) (at_add G.gate (at_mul (at_const bits_c2) (at_mul G.gate (at_mul G.gate G.gate)))))
theorem hg : Bk o (k0_pay56 n.gate) fun l t => hf * (1 + tg (d.gate l t)) := at_mul (at_const bits_hf) (at_add (at_const bits_one) G.th)
theorem gl : Bk o (k0_pay57 n.gate) fun l t => gel (d.gate l t) := at_mul G.gate G.hg
theorem y : Bk o n.y d.y := at_mul G.h G.gl
theorem mse : Bk o (k0_pay63 n.avb n.yb n.yr) fun l t => d.ms l t + epsR := at_add (at_mean (f := blk o fun l t => d.y l t * d.y l t) (at_mul G.y G.y) G.avg') (at_const bits_eps)
theorem rs : Bk o (k0_pay64 n.avb n.yb n.yr) fun l t => SguMath.rs (d.ms l t) := at_rsqrt G.mse fun p => d.ms_nonneg _ _
theorem dgain : Rw n.dgain fun l => ∑ r : Fin 512, d.y l (o + r) * SguMath.rs (d.ms l (o + r)) * d.ct l (o + r) := at_sum (f := blk o fun l t => d.y l t * SguMath.rs (d.ms l t) * d.ct l t) (at_mul (at_mul G.y G.rs) G.ct)
theorem dno : Bk o (mulf n.ct (broadcastTo S512x256 n.gain broadcasts_S1x256_S512x256)) d.dno := at_mul G.ct (at_rows (at_row G.gain))
theorem dy : Bk o n.dy d.dy := by
  have hm := at_mean (f := blk o fun l t => d.y l t * d.dno l t * rb (d.ms l t)) (At.congr (at_mul (at_mul G.y G.dno)
    (at_mul (at_const bits_nh) (at_quot G.rs G.mse fun p => (add_pos_of_nonneg_of_pos (d.ms_nonneg _ _) epsR_pos).ne'))) fun p => rfl) G.avg'
  exact at_add (at_add (at_mul G.dno G.rs) (at_mul G.y hm)) (at_mul hm G.y)
theorem dh : Bk o n.dh d.dh := at_mul G.dy G.gl
theorem dgate : Bk o n.dgate d.dgate := by
  have hd := at_mul G.h G.dy
  have hi := at_mul (at_const bits_c1) (at_mul (at_mul (at_const bits_hf) (at_mul G.gate hd)) (at_mul (at_add (at_const bits_one) G.th) (at_sub (at_const bits_one) G.th)))
  exact at_add (at_add (at_mul hd G.hg) hi) (at_mul (at_mul (at_const bits_c2) hi) (at_mul (at_const bits_three) (at_mul G.gate G.gate)))
end Good

/-! The scan by doubling. -/

/-- The factors and terms after `j` doublings. -/
def Af (d : Dat) (o : ℕ) : ℕ → Q
  | 0 => fun l r => aN d l (o + r + 1)
  | j + 1 => fun l => stepA 512 (2 ^ j) (Af d o j l)
def Uf (d : Dat) (o : ℕ) : ℕ → Q
  | 0 => fun l r => d.dh l (o + r)
  | j + 1 => fun l => stepU 512 (2 ^ j) (Af d o j l) (Uf d o j l)

theorem carries (d : Dat) {o : ℕ} (ho : o + 512 ≤ 4096) (l : Fin 256) (j : ℕ) : Carries 512 (2 ^ j) (fun r => d.g l (o + r)) (Af d o j l) (Uf d o j l) := by
  induction j with
  | zero =>
    intro r hr
    show d.dh l (o + r) + aN d l (o + r + 1) * d.g l (o + min (r + 1) 512) = d.g l (o + r)
    rw [min_eq_left (by omega), Dat.g, back_lt (t := o + r) _ _ (by omega), aN, ← add_assoc]
    by_cases h : o + r + 1 < 4096
    · rw [if_pos h]
    · rw [if_neg h, back_ge (t := o + r + 1) _ _ (by omega)]; ring
  | succ j ih => rw [pow_succ, mul_two]; exact ih.step

theorem lvA {d : Dat} {o : ℕ} {x : A} (j : ℕ) {c : BitVec 32} (hc : Lt (2 ^ j) c) (hx : At (e2 512) x (qr (Af d o j))) :
    At (e2 512) (mulf x (select (below c) (rot c x) (broadcast S512x256 (Scalar.ofBits (F := Ideal) .f32 0x3F800000#32)))) (qr (Af d o (j + 1))) :=
  at_mul hx (at_up (g := fun _ _ => 1) hc (Nat.two_pow_pos j) hx (at_const bits_one))
theorem lvU {d : Dat} {o : ℕ} {x y : A} (j : ℕ) {c : BitVec 32} (hc : Lt (2 ^ j) c) (hx : At (e2 512) x (qr (Af d o j))) (hy : At (e2 512) y (qr (Uf d o j))) :
    At (e2 512) (addf y (mulf x (select (below c) (rot c y) (broadcast S512x256 (Scalar.ofBits (F := Ideal) .f32 0x00000000#32))))) (qr (Uf d o (j + 1))) :=
  at_add hy (at_mul hx (at_up (g := fun _ _ => 0) hc (Nat.two_pow_pos j) hy (at_const bits_zero)))

namespace Good
variable {d : Dat} {o : ℕ} {n : In} (G : Good d o n)
include G

theorem A0 : At (e2 512) (k0_pay69 n.a n.af) (qr (Af d o 0)) :=
  At.congr (at_up (g := fun l _ => aN d l (o + 512)) lt1 (by decide) G.a (at_rot (f := fun l _ => aN d l (o + 512)) (at_rows (at_row G.af)) 511#32 511 rfl (by decide))) fun p => by
    have h1 := G.row_lt p
    have h2 := p.1.isLt
    have h3 := G.ho
    show (if p.1.val + 1 < 512 then d.a p.2 (o + (p.1.val + 1)) else aN d p.2 (o + 512)) = aN d p.2 (o + p.1.val + 1)
    by_cases h : p.1.val + 1 < 512
    · rw [if_pos h, aN, if_pos (by omega), add_assoc]
    · rw [if_neg h, show o + p.1.val + 1 = o + 512 by omega]
theorem A1 : At (e2 512) (k0_pay71 n.a n.af) (qr (Af d o 1)) := lvA 0 lt1 G.A0
theorem A2 : At (e2 512) n.a2 (qr (Af d o 2)) := lvA 1 lt2 G.A1
theorem A3 : At (e2 512) (k0_pay77 n.a2 n.b2) (qr (Af d o 3)) := lvA 2 lt4 G.A2
theorem A4 : At (e2 512) (k0_pay79 In.io n.a2 n.b2) (qr (Af d o 4)) := lvA 3 lt8 G.A3
theorem A5 : At (e2 512) (k0_pay81 In.io n.a2 n.b2) (qr (Af d o 5)) := lvA 4 lt16 G.A4
theorem A6 : At (e2 512) n.a6 (qr (Af d o 6)) := lvA 5 lt32 G.A5
theorem U3 : At (e2 512) n.u3 (qr (Uf d o 3)) := lvU 2 lt4 G.A2 (lvU 1 lt2 G.A1 (lvU 0 lt1 G.A0 (At.congr (f' := qr (Uf d o 0)) G.dh fun p => rfl)))
theorem U6 : At (e2 512) n.u6 (qr (Uf d o 6)) := lvU 5 lt32 G.A5 (lvU 4 lt16 G.A4 (lvU 3 lt8 G.A3 G.U3))
theorem g : Bk o n.g d.g := by
  have hA7 := lvA 6 lt64 G.A6
  have hU7 := lvU 6 lt64 G.A6 G.U6
  have hA8 := lvA 7 lt128 hA7
  have hU8 := lvU 7 lt128 hA7 hU7
  have h9 := at_add (lvU 8 lt256 hA8 hU8) (at_mul (lvA 8 lt256 hA8) (at_rows G.gf))
  refine At.congr h9 fun p => ?_
  have := carries d G.ho p.2 9 p.1.val p.1.isLt
  rwa [min_eq_right (by omega)] at this
theorem da : Bk o n.da d.da :=
  At.congr (at_mul G.g (bk_dn ge1 (by decide) G.h G.hp)) fun p => by
    show d.g p.2 (o + p.1.val) * LruMath.dn 1 d.h p.2 (o + p.1.val) = d.g p.2 (o + p.1.val) * prev (d.h p.2) (o + p.1.val)
    congr 1
    cases o + p.1.val with
    | zero => rfl
    | succ t => exact if_pos (by omega)
theorem dxg : Bk o n.dxg fun l t => d.mult l t * d.gi l t * d.g l t := at_mul G.mg G.g
theorem gxm : Bk o n.gxm fun l t => d.mult l t * (d.g l t * d.xc l t) := at_mul G.mult (at_mul G.g G.xc)
theorem gm : Bk o n.gm fun l t => d.g l t * d.xc l t * d.gi l t * (hf * (d.mult l t)⁻¹) := at_mul (at_mul (at_mul G.g G.xc) G.gi) G.im
theorem dla : Bk o n.dla d.dla := by
  have z : At (e2 512) (select n.big n.gm k0_pay94) fun _ => 0 := at_no G.big (at_const bits_zero)
  have z1 := at_zr (x := n.s39) z
  have z2 := at_zr (x := n.x2) z1
  have z3 := at_zr (x := n.x2) z2
  have h0 := at_mul (at_sub (at_const bits_zero) (at_no (x := k0_pay94) G.big G.gm)) G.ex
  have h := at_add (at_add (at_add (at_add h0 (at_zl (y := n.s41) z1)) (at_zl (y := n.s40) z2)) (at_zl (y := broadcast S512x256 (Scalar.ofBits (F := Ideal) .f32 0x3D2AAAAB#32)) z3))
    (at_sub (at_const bits_zero) (at_zl (y := n.s42) z))
  refine At.congr (at_add (at_mul (at_const bits_tw) h) (at_mul G.da G.a)) fun p => ?_
  simp only [qr, blk, Dat.dla]; ring
theorem dlam : Rw n.dlam fun l => -((∑ r : Fin 512, m8 * d.r l (o + r) * d.dla l (o + r)) * spd (-d.lam l)) :=
  At.congr (at_sub (at_const bits_zero) (at_mul (at_sum (f := blk o fun l t => m8 * d.r l t * d.dla l t) (at_mul G.r8 G.dla)) G.sd)) fun p => zero_sub _
theorem gx : Bk o n.gx d.gx := at_mul G.gxm G.gg
theorem dbx : Rw n.dbx fun l => ∑ r : Fin 512, d.gx l (o + r) := at_sum G.gx
theorem ga : Bk o n.ga d.ga := at_mul (at_mul (at_const bits_m8) (at_mul G.dla (at_rows G.sp))) G.rr
theorem dba : Rw n.dba fun l => ∑ r : Fin 512, d.ga l (o + r) := at_sum G.ga
theorem dwx (k l : Fin 256) : (n.dwx (ix2 k l) : EReal) = ((∑ r : Fin 512, d.gx l (o + r) * d.xc k (o + r) : ℝ) : EReal) := at_mw G.gx G.xc k l
theorem dwa (k l : Fin 256) : (n.dwa (ix2 k l) : EReal) = ((∑ r : Fin 512, d.ga l (o + r) * d.xc k (o + r) : ℝ) : EReal) := at_mw G.ga G.xc k l
theorem dxc : Bk o n.dxc d.dxc := by
  have h1 := at_mt G.gx G.wx'
  have h2 := at_mt G.ga G.wa'
  refine At.congr (at_add G.dxg (at_add h1 h2)) fun p => ?_
  simp only [qr, blk, Dat.dxc, denseT, grp_ln, pos_ln]; ring
theorem dcb : Rw (shapeCast S1x256 (multiReduction .add [0] S256 n.dxc 0x00000000#32 reduces_S512x256_S256 (.inl rfl) rfl) shapeCasts_S256_S1x256) fun l => ∑ r : Fin 512, d.dxc l (o + r) := at_sum G.dxc
theorem dxb : Bk o n.dxb d.dxb := by
  have u1 := bk_up G.ho lt1 (by decide) (by decide) G.dxc G.nx
  have u2 := bk_up G.ho lt2 (by decide) (by decide) G.dxc G.nx
  have u3 := bk_up G.ho lt3 (by decide) (by decide) G.dxc G.nx
  refine At.congr (at_add (at_add (at_add (at_mul (at_rows G.w3) G.dxc) (at_mul (at_rows G.w2) u1)) (at_mul (at_rows G.w1) u2)) (at_mul (at_rows G.w0) u3)) fun p => ?_
  simp only [qr, blk, Dat.dxb]; ring
end Good

end Cert.LruIdeal.Block
end
-- ==== Proof.LruOut.lean ====
module

public import proofs.«01_k».proof.Proof.LruStage
public import proofs.«01_k».proof.Proof.Gen.LruIdeal.Value
public import Idealize.ShloMosaic.Lib.Pipeline.ReadBack

@[expose] public section

set_option maxRecDepth 16384

noncomputable section

open Idealize.ShloMosaic Idealize.ShloMosaic.TcCoe Idealize.SL.Sem
open Cert.Common

/-! What each point of the kernel leaves. -/

namespace Cert.LruIdeal.Value
open Cert.LruIdeal Cert.LruIdeal.Gen Cert.LruIdeal.Block

variable (m : (ℓ : Loc nD τ sig) → Buf (Elt Ideal) ℓ)

/-- What a point reads, with what the later rows passed on. -/
def inp (c : Dev nD) (t : Fin cfg0.N) (gf af : R) (nx : A) : In :=
  ⟨grid0.coords t, iblk m c 0 t, iblk m c 1 t, iblk m c 2 t, iblk m c 3 t, iblk m c 4 t, iblk m c 5 t, iblk m c 6 t, iblk m c 7 t, iblk m c 8 t, iblk m c 9 t,
    iblk m c 10 t, iblk m c 11 t, iblk m c 12 t, iblk m c 13 t, iblk m c 14 t, gf, af, nx⟩
/-- The first row of a carried block. -/
abbrev row0 (x : FVec Ideal S8x256 .f32) : R := View.ld (Val := Elt Ideal) (e' := .f32) x (Rect.unit ![0, 0] ![1, 256] inb_S8x256_S1x256_0_0)

abbrev prevO (c : Dev nD) (t : Fin cfg0.N) := outsAt0 m c (t.val - 1) (lt_of_le_of_lt (Nat.sub_le _ _) t.isLt)
abbrev inA (c : Dev nD) (t : Fin cfg0.N) : In := inp m c t (row0 (k0_pay10 (F := Ideal))) (row0 (k0_pay12 (k0_pay11 (F := Ideal)))) (k0_pay13 (F := Ideal))
abbrev inB (c : Dev nD) (t : Fin cfg0.N) : In :=
  inp m c t (row0 (prevO m c t).2.2.2.2.2.2.2.2.2.1) (row0 (prevO m c t).2.2.2.2.2.2.2.2.2.2.1) (prevO m c t).2.2.2.2.2.2.2.2.2.2.2

/-- The two halves of a block of the gradient. -/
abbrev halves (n : In) : List (View.Piece (Elt Ideal) S512x512 .bf16) :=
  [⟨Rect.unit ![0, 256] ![512, 256] inb_S512x512_S512x256_0_256, k0_pay116 (F := Ideal) n.dgate⟩,
    ⟨Rect.unit ![0, 0] ![512, 256] inb_S512x512_S512x256_0_0, k0_pay115 (F := Ideal) n.dxb⟩]
/-- One row of the four taps. -/
abbrev tap (x : FVec Ideal S4x256 .f32) (j : ℕ) (h : ∀ a, (![j, 0] : Fin 2 → ℕ) a + (![1, 256] : Fin 2 → ℕ) a ≤ S4x256.size a) : R := View.ld (Val := Elt Ideal) (e' := .f32) x (Rect.unit ![j, 0] ![1, 256] h)
/-- The four taps with a block added to them. -/
abbrev taps (n : In) (x : FVec Ideal S4x256 .f32) (L : List (View.Piece (Elt Ideal) S4x256 .f32)) : List (View.Piece (Elt Ideal) S4x256 .f32) :=
  ⟨Rect.unit ![0, 0] ![1, 256] inb_S4x256_S1x256_0_0, k0_pay114 (F := Ideal) n.xp n.dxc (k0_pay111 (tap x 0 inb_S4x256_S1x256_0_0)) k0_pay112 (k0_pay113 n.xb) 3#32⟩ ::
    ⟨Rect.unit ![1, 0] ![1, 256] inb_S4x256_S1x256_1_0, k0_pay109 (F := Ideal) n.xb n.xp n.dxc (tap x 1 inb_S4x256_S1x256_1_0)⟩ ::
    ⟨Rect.unit ![2, 0] ![1, 256] inb_S4x256_S1x256_2_0, k0_pay108 (F := Ideal) n.xb n.xp n.wa n.dxg n.tx n.ga (tap x 2 inb_S4x256_S1x256_2_0)⟩ ::
    ⟨Rect.unit ![3, 0] ![1, 256] inb_S4x256_S1x256_3_0, k0_pay106 (F := Ideal) n.xb n.wa n.dxg n.tx n.ga (tap x 3 inb_S4x256_S1x256_3_0)⟩ :: L

theorem zz : ∀ a : Fin 2, (![0, 0] : Fin 2 → ℕ) a = 0 := by decide
theorem fill0 {κ : Kind} {sp : Space} (v : View sig κ sp S8x256 .f32) (Z : S8x256.Idx → Elt Ideal .f32) :
    v.readCov (Val := Elt Ideal) [⟨Rect.unit (s := S8x256) ![0, 0] ![8, 256] inb_S8x256_S8x256_0_0, Z⟩] (Rect.unit (s := S8x256) ![0, 0] ![1, 256] inb_S8x256_S1x256_0_0).toLoadRect = row0 Z :=
  View.readCov_fill (s := S8x256) (off := ![0, 0]) v inb_S8x256_S8x256_0_0 Z [] _ zz
theorem fill4 {κ : Kind} {sp : Space} (v : View sig κ sp S4x256 .f32) (Z : S4x256.Idx → Elt Ideal .f32) (j : ℕ) (h : ∀ a, (![j, 0] : Fin 2 → ℕ) a + (![1, 256] : Fin 2 → ℕ) a ≤ S4x256.size a) :
    v.readCov (Val := Elt Ideal) [⟨Rect.unit (s := S4x256) ![0, 0] ![4, 256] inb_S4x256_S4x256_0_0, Z⟩] (Rect.unit (s := S4x256) ![j, 0] ![1, 256] h).toLoadRect = tap Z j h :=
  View.readCov_fill (s := S4x256) (off := ![0, 0]) v inb_S4x256_S4x256_0_0 Z [] _ zz

theorem skip4 {κ : Kind} {sp : Space} (v : View sig κ sp S4x256 .f32) (j k : ℕ) (hj : ∀ a, (![j, 0] : Fin 2 → ℕ) a + (![1, 256] : Fin 2 → ℕ) a ≤ S4x256.size a) (hk : ∀ a, (![k, 0] : Fin 2 → ℕ) a + (![1, 256] : Fin 2 → ℕ) a ≤ S4x256.size a) (w) (L) (h : (j == k) = false) :
    v.readCov (Val := Elt Ideal) (⟨Rect.unit (s := S4x256) ![j, 0] ![1, 256] hj, w⟩ :: L) (Rect.unit (s := S4x256) ![k, 0] ![1, 256] hk).toLoadRect
      = v.readCov (Val := Elt Ideal) L (Rect.unit (s := S4x256) ![k, 0] ![1, 256] hk).toLoadRect := by
  refine View.readCov_skip v _ w L _ ?_
  have h1 : j < 4 := by have := hj 0; simpa using this
  have h2 : k < 4 := by have := hk 0; simpa using this
  interval_cases j <;> interval_cases k <;> first | rfl | exact absurd h (by decide)

variable (c : Dev nD) (t : Fin cfg0.N)
theorem outsB (h : ¬t.val % 8 = 0) :
    (outsAt0 m c t.val t.isLt).1 = View.canon (halves (inB m c t)) ∧
    (outsAt0 m c t.val t.isLt).2.1 = View.canon (taps (inB m c t) (prevO m c t).2.1 []) ∧
    (outsAt0 m c t.val t.isLt).2.2.1 = k0_pay117 (inB m c t).dxc (prevO m c t).2.2.1 ∧
    (outsAt0 m c t.val t.isLt).2.2.2.1 = k0_pay118 (inB m c t).dwa (prevO m c t).2.2.2.1 ∧
    (outsAt0 m c t.val t.isLt).2.2.2.2.1 = k0_pay119 (inB m c t).dba (prevO m c t).2.2.2.2.1 ∧
    (outsAt0 m c t.val t.isLt).2.2.2.2.2.1 = k0_pay120 (inB m c t).dwx (prevO m c t).2.2.2.2.2.1 ∧
    (outsAt0 m c t.val t.isLt).2.2.2.2.2.2.1 = k0_pay121 (inB m c t).dbx (prevO m c t).2.2.2.2.2.2.1 ∧
    (outsAt0 m c t.val t.isLt).2.2.2.2.2.2.2.1 = k0_pay122 (inB m c t).dlam (prevO m c t).2.2.2.2.2.2.2.1 ∧
    (outsAt0 m c t.val t.isLt).2.2.2.2.2.2.2.2.1 = k0_pay123 (inB m c t).dgain (prevO m c t).2.2.2.2.2.2.2.2.1 ∧
    (outsAt0 m c t.val t.isLt).2.2.2.2.2.2.2.2.2.1 = k0_pay124 (inB m c t).g ∧
    (outsAt0 m c t.val t.isLt).2.2.2.2.2.2.2.2.2.2.1 = k0_pay125 (inB m c t).a ∧
    (outsAt0 m c t.val t.isLt).2.2.2.2.2.2.2.2.2.2.2 = k0_pay1 (inB m c t).dxc := by
  rw [outsAt0_B m c t h]
  frame_out
  refine ⟨?_, ?_, ?_, ?_, ?_, ?_, ?_, ?_, ?_, ?_, ?_, ?_⟩ <;>
  simp (decide := true) only [Idealize.ShloMosaic.read_unread_whole, fill0, fill4, ↓skip4, halves, taps, tap, inp, In.xp, In.hp, In.xc, In.lam, In.xcb, In.wa, In.r, In.rr, In.wx, In.gi, In.gg, In.r8, In.sp, In.sd, In.a, In.x2, In.s39, In.s40, In.s41, In.s42, In.s43, In.big, In.ex, In.mult, In.im, In.mg, In.h, In.avg, In.gain, In.y, In.avb, In.yb, In.yr, In.dgain, In.dy, In.dh, In.dgate, In.io, In.one, In.a2, In.b2, In.u3, In.u6, In.a6, In.m6, In.v6, In.w6, In.g, In.da, In.dxg, In.gxm, In.gm, In.dla, In.dlam, In.gx, In.dbx, In.tx, In.dwx, In.ga, In.dba, In.dwa, In.dxc, In.dxb]
theorem outsA (h : t.val % 8 = 0) :
    (outsAt0 m c t.val t.isLt).1 = View.canon (halves (inA m c t)) ∧
    (outsAt0 m c t.val t.isLt).2.1 = View.canon (taps (inA m c t) (k0_pay2 (F := Ideal)) [⟨Rect.unit ![0, 0] ![4, 256] inb_S4x256_S4x256_0_0, k0_pay2 (F := Ideal)⟩]) ∧
    (outsAt0 m c t.val t.isLt).2.2.1 = k0_pay117 (inA m c t).dxc (k0_pay3 (F := Ideal)) ∧
    (outsAt0 m c t.val t.isLt).2.2.2.1 = k0_pay118 (inA m c t).dwa (k0_pay4 (F := Ideal)) ∧
    (outsAt0 m c t.val t.isLt).2.2.2.2.1 = k0_pay119 (inA m c t).dba (k0_pay5 (F := Ideal)) ∧
    (outsAt0 m c t.val t.isLt).2.2.2.2.2.1 = k0_pay120 (inA m c t).dwx (k0_pay6 (F := Ideal)) ∧
    (outsAt0 m c t.val t.isLt).2.2.2.2.2.2.1 = k0_pay121 (inA m c t).dbx (k0_pay7 (F := Ideal)) ∧
    (outsAt0 m c t.val t.isLt).2.2.2.2.2.2.2.1 = k0_pay122 (inA m c t).dlam (k0_pay8 (F := Ideal)) ∧
    (outsAt0 m c t.val t.isLt).2.2.2.2.2.2.2.2.1 = k0_pay123 (inA m c t).dgain (k0_pay9 (F := Ideal)) ∧
    (outsAt0 m c t.val t.isLt).2.2.2.2.2.2.2.2.2.1 = k0_pay124 (inA m c t).g ∧
    (outsAt0 m c t.val t.isLt).2.2.2.2.2.2.2.2.2.2.1 = k0_pay125 (inA m c t).a ∧
    (outsAt0 m c t.val t.isLt).2.2.2.2.2.2.2.2.2.2.2 = k0_pay1 (inA m c t).dxc := by
  rw [outsAt0_A m c t h]
  frame_out
  refine ⟨?_, ?_, ?_, ?_, ?_, ?_, ?_, ?_, ?_, ?_, ?_, ?_⟩ <;>
  simp (decide := true) only [Idealize.ShloMosaic.read_unread_whole, fill0, fill4, ↓skip4, halves, taps, tap, inp, In.xp, In.hp, In.xc, In.lam, In.xcb, In.wa, In.r, In.rr, In.wx, In.gi, In.gg, In.r8, In.sp, In.sd, In.a, In.x2, In.s39, In.s40, In.s41, In.s42, In.s43, In.big, In.ex, In.mult, In.im, In.mg, In.h, In.avg, In.gain, In.y, In.avb, In.yb, In.yr, In.dgain, In.dy, In.dh, In.dgate, In.io, In.one, In.a2, In.b2, In.u3, In.u6, In.a6, In.m6, In.v6, In.w6, In.g, In.da, In.dxg, In.gxm, In.gm, In.dla, In.dlam, In.gx, In.dbx, In.tx, In.dwx, In.ga, In.dba, In.dwa, In.dxc, In.dxb]
end Cert.LruIdeal.Value
end
-- ==== Proof.LruTree.lean ====
module

public import proofs.«01_k».proof.Proof.LruMath
public import Idealize.ShloMosaic.Lib.KernelVsHost

@[expose] public section

set_option maxRecDepth 16384

noncomputable section

open Idealize.ShloMosaic Idealize.ShloMosaic.TcCoe Idealize.SL.Sem
open Cert.Common

/-! The recurrence taken two rows at a time, as the reference's tree of pairs computes it and its gradient: for any number of rows. -/

namespace Cert.LruMath
open Cert.SguMath Cert.Recurrence Cert.SguRefIdeal.Read

section
variable {n N : ℕ} {f g : Q}

abbrev S2 (n : ℕ) : Shape := ⟨2, ![n, 256]⟩
abbrev S3 (n k : ℕ) : Shape := ⟨3, ![n, k, 256]⟩

/-- Every second row, from row `k` on. -/
theorem at_half (hN : N = 2 * n) (k : ℕ) (hk : k < 2) {x : FVec Ideal (S2 N) .f32} (hx : At (e2 N) x (qr f)) (h1 : (S2 N).ShapeCasts (S3 n 2))
    (h2 : (S3 n 2).Slices ![0, k, 0] (S3 n 1)) (h3 : (S3 n 1).ShapeCasts (S2 n)) :
    At (e2 n) (shapeCast (S2 n) (extractStridedSlice (S3 n 1) ![0, k, 0] (shapeCast (S3 n 2) x h1) h2) h3) (qr fun l i => f l (2 * i + k)) := fun p => by
  obtain ⟨r, l⟩ := p
  have hr := r.isLt
  have hl := l.isLt
  refine (shapeCast_apply _ h3 (ix2 r l) (ix3 r 0 l) ?_).trans ((extractStridedSlice_apply _ _ h2 (ix3 r 0 l) (ix3 r ⟨k, hk⟩ l) ?_).trans
    ((shapeCast_apply _ h1 (ix3 r ⟨k, hk⟩ l) (ix2 ⟨2 * r.val + k, by omega⟩ l) ?_).trans (hx (⟨2 * r.val + k, by omega⟩, l))))
  · simp only [Shape.rowMajor_val_two, Shape.rowMajor_val_three]; show (r.val * 1 + 0) * 256 + l.val = r.val * 256 + l.val; omega
  · intro a
    match a with
    | ⟨0, _⟩ => exact (Nat.zero_add _).symm
    | ⟨1, _⟩ => rfl
    | ⟨2, _⟩ => exact (Nat.zero_add _).symm
  · simp only [Shape.rowMajor_val_two, Shape.rowMajor_val_three]; show (2 * r.val + k) * 256 + l.val = (r.val * 2 + k) * 256 + l.val; omega

/-- A row of zeros before the others. -/
theorem at_before (hn : n = N + 1) {x : FVec Ideal (S2 n) .f32} (hx : At (e2 n) x (qr f)) {z : FVec Ideal (S2 1) .f32} (hz : At (e2 1) z fun _ => 0)
    (h2 : (S2 n).Slices ![0, 0] (S2 N)) (hc : Shape.Concatenates [S2 1, S2 N] (S2 n) 0) :
    At (e2 n) (concatenate (S2 n) 0 [⟨S2 1, z⟩, ⟨S2 N, extractStridedSlice (S2 N) ![0, 0] x h2⟩] hc) (qr fun l => prev (f l)) := fun p => by
  subst hn
  obtain ⟨r, l⟩ := p
  obtain ⟨r, hr⟩ := r
  cases r with
  | zero =>
    exact (concatenate_pair_apply_left 0 z _ hc (ix2 ⟨0, hr⟩ l) rfl (ix2 0 l) (fun b => by match b with | ⟨0, _⟩ => rfl | ⟨1, _⟩ => rfl)).trans (hz (0, l))
  | succ r =>
    refine (concatenate_pair_apply_right 0 z _ hc (ix2 ⟨r + 1, hr⟩ l) rfl rfl (ix2 ⟨r, by omega⟩ l) (fun b hb => ?_) rfl).trans
      ((extractStridedSlice_apply _ _ h2 (ix2 ⟨r, by omega⟩ l) (ix2 ⟨r, by omega⟩ l) ?_).trans (hx (⟨r, by omega⟩, l)))
    · match b, hb with
      | ⟨0, _⟩, hb => exact absurd rfl hb
      | ⟨1, _⟩, _ => rfl
    · intro a
      match a with
      | ⟨0, _⟩ => exact (Nat.zero_add _).symm
      | ⟨1, _⟩ => exact (Nat.zero_add _).symm

theorem insert_row (b : (S2 n).BroadcastsInDim (S3 n 1) ![0, 2]) (v : FVec Ideal (S2 n) .f32) (i : Fin n) (l : Fin 256) :
    broadcastInDim (S3 n 1) ![0, 2] b v (ix3 i 0 l) = v (ix2 i l) :=
  broadcastInDim_apply _ b v _ (ix2 i l) fun a => by
    match a with
    | ⟨0, _⟩ => show i.val = if n = 1 then 0 else i.val; have := i.isLt; split <;> omega
    | ⟨1, _⟩ => rfl

/-- Even and odd rows put back together. -/
theorem at_join (hN : N = 2 * n) {w : Q} {x y : FVec Ideal (S2 n) .f32} (hx : At (e2 n) x (qr f)) (hy : At (e2 n) y (qr g))
    (hf : ∀ l i, i < n → f l i = w l (2 * i)) (hg : ∀ l i, i < n → g l i = w l (2 * i + 1))
    (b1 : (S2 n).BroadcastsInDim (S3 n 1) ![0, 2]) (b2 : (S2 n).BroadcastsInDim (S3 n 1) ![0, 2])
    (hc : Shape.Concatenates [S3 n 1, S3 n 1] (S3 n 2) 1) (h : (S3 n 2).ShapeCasts (S2 N)) :
    At (e2 N) (shapeCast (S2 N) (concatenate (S3 n 2) 1 [⟨S3 n 1, broadcastInDim (S3 n 1) ![0, 2] b1 x⟩, ⟨S3 n 1, broadcastInDim (S3 n 1) ![0, 2] b2 y⟩] hc) h)
      (qr w) := fun p => by
  subst hN
  obtain ⟨⟨t, ht⟩, l⟩ := p
  have hl := l.isLt
  have key : ∀ (i : Fin n) (k : Fin 2) (hk : t = 2 * i.val + k.val), ((S3 n 2).rowMajor (ix3 i k l)).val = ((S2 (2 * n)).rowMajor (ix2 ⟨t, ht⟩ l)).val := by
    intro i k hk
    simp only [Shape.rowMajor_val_two, Shape.rowMajor_val_three]; show (i.val * 2 + k.val) * 256 + l.val = t * 256 + l.val; omega
  have bc := fun b v i => insert_row (n := n) b v i l
  obtain h0 | h1 : t = 2 * (t / 2) ∨ t = 2 * (t / 2) + 1 := by omega
  · refine (shapeCast_apply _ h _ _ (key ⟨t / 2, by omega⟩ 0 h0)).trans ((concatenate_pair_apply_left 1 _ _ hc _ rfl (ix3 ⟨t / 2, by omega⟩ 0 l)
      (fun b => by match b with | ⟨0, _⟩ => rfl | ⟨1, _⟩ => rfl | ⟨2, _⟩ => rfl)).trans ((bc _ _ _).trans ((hx (⟨t / 2, by omega⟩, l)).trans (congrArg _ ?_))))
    show f l (t / 2) = w l t
    rw [hf l _ (by omega), ← h0]
  · refine (shapeCast_apply _ h _ _ (key ⟨t / 2, by omega⟩ 1 h1)).trans ((concatenate_pair_apply_right 1 _ _ hc _ rfl rfl (ix3 ⟨t / 2, by omega⟩ 0 l)
      (fun b hb => by
        match b, hb with
        | ⟨0, _⟩, _ => rfl
        | ⟨1, _⟩, hb => exact absurd rfl hb
        | ⟨2, _⟩, _ => rfl) rfl).trans ((bc _ _ _).trans ((hy (⟨t / 2, by omega⟩, l)).trans (congrArg _ ?_))))
    show g l (t / 2) = w l t
    rw [hg l _ (by omega), ← h1]

/-- The rows after the first, moved up, with a zero at the end. -/
theorem at_after (hn : n = N + 1) {x : FVec Ideal (S2 n) .f32} (hx : At (e2 n) x (qr f)) (h2 : (S2 n).Slices ![1, 0] (S2 N))
    (hp : (S2 N).Pads ![0, 0] ![1, 0] ![0, 0] (S2 n)) {u : Shape} (hu : 0 < u.numel) {z : FVec Ideal u .f32} (hz : ∀ i, z i = ((0 : ℝ) : EReal)) :
    At (e2 n) (pad (S2 n) ![0, 0] ![1, 0] ![0, 0] (extractStridedSlice (S2 N) ![1, 0] x h2) z hp hu) (qr fun l i => if i + 1 < n then f l (i + 1) else 0) := fun p => by
  obtain ⟨⟨r, hr⟩, l⟩ := p
  by_cases h : r + 1 < n
  · refine (pad_apply_of_inside _ _ _ _ z hp hu (ix2 ⟨r, hr⟩ l) (ix2 ⟨r, by omega⟩ l) (fun a => ?_)).trans
      ((extractStridedSlice_apply _ _ h2 (ix2 ⟨r, by omega⟩ l) (ix2 ⟨r + 1, h⟩ l) ?_).trans ((hx (⟨r + 1, h⟩, l)).trans (congrArg _ (if_pos h).symm)))
    · match a with
      | ⟨0, _⟩ => show r = 0 + r * (0 + 1); omega
      | ⟨1, _⟩ => show l.val = 0 + l.val * (0 + 1); omega
    · intro a
      match a with
      | ⟨0, _⟩ => exact Nat.add_comm _ _
      | ⟨1, _⟩ => exact (Nat.zero_add _).symm
  · refine (pad_apply_of_not_inside _ _ _ _ z hp hu (ix2 ⟨r, hr⟩ l) 0 (fun hh => h ?_)).trans ((hz _).trans (congrArg _ (if_neg h).symm))
    have := hh.2.2
    change (r - 0) / (0 + 1) < N at this
    omega

/-- Odd and even rows, each padded to all rows, added. -/
theorem at_weave (hN : N = 2 * n) {w : Q} {x y : FVec Ideal (S2 n) .f32} (hx : At (e2 n) x (qr f)) (hy : At (e2 n) y (qr g))
    (hf : ∀ l i, i < n → f l i = w l (2 * i + 1)) (hg : ∀ l i, i < n → g l i = w l (2 * i))
    (b1 : (S2 n).BroadcastsInDim (S3 n 1) ![0, 2]) (b2 : (S2 n).BroadcastsInDim (S3 n 1) ![0, 2])
    (p1 : (S3 n 1).Pads ![0, 1, 0] ![0, 0, 0] ![0, 0, 0] (S3 n 2)) (p2 : (S3 n 1).Pads ![0, 0, 0] ![0, 1, 0] ![0, 0, 0] (S3 n 2))
    {u1 u2 : Shape} (hu1 : 0 < u1.numel) (hu2 : 0 < u2.numel) {z1 : FVec Ideal u1 .f32} {z2 : FVec Ideal u2 .f32}
    (hz1 : ∀ i, z1 i = ((0 : ℝ) : EReal)) (hz2 : ∀ i, z2 i = ((0 : ℝ) : EReal)) (h : (S3 n 2).ShapeCasts (S2 N)) :
    At (e2 N) (shapeCast (S2 N) (addf (F := Ideal) (φ := .f32) (pad (S3 n 2) ![0, 1, 0] ![0, 0, 0] ![0, 0, 0] (broadcastInDim (S3 n 1) ![0, 2] b1 x) z1 p1 hu1)
      (pad (S3 n 2) ![0, 0, 0] ![0, 1, 0] ![0, 0, 0] (broadcastInDim (S3 n 1) ![0, 2] b2 y) z2 p2 hu2)) h) (qr w) := fun p => by
  subst hN
  obtain ⟨⟨t, ht⟩, l⟩ := p
  have hl := l.isLt
  have key : ∀ (i : Fin n) (k : Fin 2) (hk : t = 2 * i.val + k.val), ((S3 n 2).rowMajor (ix3 i k l)).val = ((S2 (2 * n)).rowMajor (ix2 ⟨t, ht⟩ l)).val := by
    intro i k hk
    simp only [Shape.rowMajor_val_two, Shape.rowMajor_val_three]; show (i.val * 2 + k.val) * 256 + l.val = t * 256 + l.val; omega
  have bc := fun b v i => insert_row (n := n) b v i l
  have i1 := fun i : Fin n => pad_apply_of_inside ![0, 1, 0] ![0, 0, 0] ![0, 0, 0] (broadcastInDim (S3 n 1) ![0, 2] b1 x) z1 p1 hu1 (ix3 i 1 l) (ix3 i 0 l)
    (fun a => by match a with
      | ⟨0, _⟩ => show i.val = 0 + i.val * (0 + 1); omega
      | ⟨1, _⟩ => rfl
      | ⟨2, _⟩ => show l.val = 0 + l.val * (0 + 1); omega)
  have i2 := fun i : Fin n => pad_apply_of_inside ![0, 0, 0] ![0, 1, 0] ![0, 0, 0] (broadcastInDim (S3 n 1) ![0, 2] b2 y) z2 p2 hu2 (ix3 i 0 l) (ix3 i 0 l)
    (fun a => by match a with
      | ⟨0, _⟩ => show i.val = 0 + i.val * (0 + 1); omega
      | ⟨1, _⟩ => rfl
      | ⟨2, _⟩ => show l.val = 0 + l.val * (0 + 1); omega)
  have o1 := fun i : Fin n => pad_apply_of_not_inside ![0, 1, 0] ![0, 0, 0] ![0, 0, 0] (broadcastInDim (S3 n 1) ![0, 2] b1 x) z1 p1 hu1 (ix3 i 0 l) 1
    (fun hh => absurd hh.1 (by show ¬(1 ≤ 0); omega))
  have o2 := fun i : Fin n => pad_apply_of_not_inside ![0, 0, 0] ![0, 1, 0] ![0, 0, 0] (broadcastInDim (S3 n 1) ![0, 2] b2 y) z2 p2 hu2 (ix3 i 1 l) 1
    (fun hh => absurd hh.2.2 (by show ¬((1 - 0) / (0 + 1) < 1); omega))
  obtain h0 | h1 : t = 2 * (t / 2) ∨ t = 2 * (t / 2) + 1 := by omega
  · refine (shapeCast_apply _ h _ _ (key ⟨t / 2, by omega⟩ 0 h0)).trans ?_
    refine (congrArg₂ (fun a b : EReal => a + b) ((o1 _).trans (hz1 _)) ((i2 _).trans ((bc _ _ _).trans (hy (⟨t / 2, by omega⟩, l))))).trans ?_
    rw [EReal.coe_zero, zero_add]
    refine congrArg _ ?_
    show g l (t / 2) = w l t
    rw [hg l _ (by omega), ← h0]
  · refine (shapeCast_apply _ h _ _ (key ⟨t / 2, by omega⟩ 1 h1)).trans ?_
    refine (congrArg₂ (fun a b : EReal => a + b) ((i1 _).trans ((bc _ _ _).trans (hx (⟨t / 2, by omega⟩, l)))) ((o2 _).trans (hz2 _))).trans ?_
    rw [EReal.coe_zero, add_zero]
    refine congrArg _ ?_
    show f l (t / 2) = w l t
    rw [hf l _ (by omega), ← h1]

/-! ### One level of the tree -/

def pA (f : Q) : Q := fun l => pairA (f l)
def pU (f g : Q) : Q := fun l => pairU (f l) (g l)
def pH (n : ℕ) (f h : Q) : Q := fun l => pairH n (f l) (h l)

/-- Every second row of `x`, from row `k` on. -/
def half (n N k : ℕ) (x : FVec Ideal (S2 N) .f32) (h1 : (S2 N).ShapeCasts (S3 n 2)) (h2 : (S3 n 2).Slices ![0, k, 0] (S3 n 1)) (h3 : (S3 n 1).ShapeCasts (S2 n)) :
    FVec Ideal (S2 n) .f32 := shapeCast (S2 n) (extractStridedSlice (S3 n 1) ![0, k, 0] (shapeCast (S3 n 2) x h1) h2) h3

/-- The factors and terms of a level's even and odd rows, and those of its pairs. -/
structure Level (n : ℕ) (f g : Q) (a0 a1 u0 u1 a u : FVec Ideal (S2 n) .f32) : Prop where
  a0 : At (e2 n) a0 (qr fun l i => f l (2 * i))
  a1 : At (e2 n) a1 (qr fun l i => f l (2 * i + 1))
  u0 : At (e2 n) u0 (qr fun l i => g l (2 * i))
  u1 : At (e2 n) u1 (qr fun l i => g l (2 * i + 1))
  a : At (e2 n) a (qr (pA f))
  u : At (e2 n) u (qr (pU f g))

section
variable {h : Q} {x y a0 a1 u0 u1 a u b p h0 d0 hp dU dA : FVec Ideal (S2 n) .f32}

theorem level (hN : N = 2 * n) {x y : FVec Ideal (S2 N) .f32} (hx : At (e2 N) x (qr f)) (hy : At (e2 N) y (qr g)) (c1 c2 : (S2 N).ShapeCasts (S3 n 2))
    (s1 s2 : (S3 n 2).Slices ![0, 0, 0] (S3 n 1)) (s3 s4 : (S3 n 2).Slices ![0, 1, 0] (S3 n 1)) (c3 c4 c5 c6 : (S3 n 1).ShapeCasts (S2 n)) :
    Level n f g (half n N 0 x c1 s1 c3) (half n N 1 x c1 s3 c4) (half n N 0 y c2 s2 c5) (half n N 1 y c2 s4 c6)
      (mulf (F := Ideal) (φ := .f32) (half n N 1 x c1 s3 c4) (half n N 0 x c1 s1 c3))
      (addf (F := Ideal) (φ := .f32) (mulf (F := Ideal) (φ := .f32) (half n N 1 x c1 s3 c4) (half n N 0 y c2 s2 c5)) (half n N 1 y c2 s4 c6)) :=
  have a0 := at_half hN 0 (by omega) hx c1 s1 c3
  have a1 := at_half hN 1 (by omega) hx c1 s3 c4
  have u0 := at_half hN 0 (by omega) hy c2 s2 c5
  have u1 := at_half hN 1 (by omega) hy c2 s4 c6
  ⟨a0, a1, u0, u1, at_mul a1 a0, at_add (at_mul a1 u0) u1⟩

/-- The state before each pair, and the state of every row. -/
structure State (n N : ℕ) (f g : Q) (b : FVec Ideal (S2 n) .f32) (x : FVec Ideal (S2 N) .f32) : Prop where
  before : At (e2 n) b (qr fun l => prev (lin (pA f l) (pU f g l)))
  out : At (e2 N) x (qr fun l => lin (f l) (g l))

theorem Level.state {M : ℕ} (L : Level n f g a0 a1 u0 u1 a u) (hN : N = 2 * n) (hn : n = M + 1) (hp : At (e2 n) p (qr fun l => lin (pA f l) (pU f g l)))
    {z : FVec Ideal (S2 1) .f32} (hz : At (e2 1) z fun _ => 0) (h2 : (S2 n).Slices ![0, 0] (S2 M)) (c1 : Shape.Concatenates [S2 1, S2 M] (S2 n) 0)
    (b1 b2 : (S2 n).BroadcastsInDim (S3 n 1) ![0, 2]) (c2 : Shape.Concatenates [S3 n 1, S3 n 1] (S3 n 2) 1) (c3 : (S3 n 2).ShapeCasts (S2 N)) :
    State n N f g (concatenate (S2 n) 0 [⟨S2 1, z⟩, ⟨S2 M, extractStridedSlice (S2 M) ![0, 0] p h2⟩] c1)
      (shapeCast (S2 N) (concatenate (S3 n 2) 1 [⟨S3 n 1, broadcastInDim (S3 n 1) ![0, 2] b1 (addf (F := Ideal) (φ := .f32) (mulf (F := Ideal) (φ := .f32) a0
        (concatenate (S2 n) 0 [⟨S2 1, z⟩, ⟨S2 M, extractStridedSlice (S2 M) ![0, 0] p h2⟩] c1)) u0)⟩, ⟨S3 n 1, broadcastInDim (S3 n 1) ![0, 2] b2 p⟩] c2) c3) :=
  have hb := at_before hn hp hz h2 c1
  ⟨hb, at_join hN (f := fun l i => f l (2 * i) * prev (lin (pA f l) (pU f g l)) i + g l (2 * i)) (at_add (at_mul L.a0 hb) L.u0) hp
    (fun l i _ => (lin_even _ _ _).symm) (fun l i _ => lin_pair _ _ _) b1 b2 c2 c3⟩

/-- What flows into a level, and on into its pairs. -/
structure Down (n : ℕ) (f g h : Q) (h0 d0 hp : FVec Ideal (S2 n) .f32) : Prop where
  h0 : At (e2 n) h0 (qr fun l i => h l (2 * i))
  d0 : At (e2 n) d0 (qr fun l i => h l (2 * i) * prev (lin (pA f l) (pU f g l)) i)
  hp : At (e2 n) hp (qr (pH n f h))

theorem Level.down {M : ℕ} (L : Level n f g a0 a1 u0 u1 a u) (hN : N = 2 * n) (hn : n = M + 1) (hb : At (e2 n) b (qr fun l => prev (lin (pA f l) (pU f g l))))
    {x : FVec Ideal (S2 N) .f32} (hx : At (e2 N) x (qr h)) {v : Shape} (hv : 0 < v.numel) {z : FVec Ideal v .f32} (hz : ∀ i, z i = ((0 : ℝ) : EReal)) (c1 : (S2 N).ShapeCasts (S3 n 2))
    (s1 : (S3 n 2).Slices ![0, 0, 0] (S3 n 1)) (s2 : (S3 n 2).Slices ![0, 1, 0] (S3 n 1)) (c2 c3 : (S3 n 1).ShapeCasts (S2 n))
    (s3 : (S2 n).Slices ![1, 0] (S2 M)) (p1 : (S2 M).Pads ![0, 0] ![1, 0] ![0, 0] (S2 n)) :
    Down n f g h (half n N 0 x c1 s1 c2) (mulf (F := Ideal) (φ := .f32) (half n N 0 x c1 s1 c2) b)
      (addf (F := Ideal) (φ := .f32) (half n N 1 x c1 s2 c3) (pad (S2 n) ![0, 0] ![1, 0] ![0, 0]
        (extractStridedSlice (S2 M) ![1, 0] (mulf (F := Ideal) (φ := .f32) a0 (half n N 0 x c1 s1 c2)) s3) z p1 hv)) :=
  have h0 := at_half hN 0 (by omega) hx c1 s1 c2
  ⟨h0, at_mul h0 hb, at_add (at_half hN 1 (by omega) hx c1 s2 c3) (at_after (f := fun l i => f l (2 * i) * h l (2 * i)) hn (at_mul L.a0 h0) s3 p1 hv hz)⟩

/-- What flows back to every row of a level: to the terms and to the factors. -/
structure Grad (N : ℕ) (f g h : Q) (dU dA : FVec Ideal (S2 N) .f32) : Prop where
  u : At (e2 N) dU (qr fun l => back N (f l) (h l))
  a : At (e2 N) dA (qr fun l => dfac N (f l) (g l) (h l))

/-- Odd rows `x` and even rows `y` in their places. -/
def weave (n N : ℕ) (x y : FVec Ideal (S2 n) .f32) (b1 b2 : (S2 n).BroadcastsInDim (S3 n 1) ![0, 2])
    (p1 : (S3 n 1).Pads ![0, 1, 0] ![0, 0, 0] ![0, 0, 0] (S3 n 2)) (p2 : (S3 n 1).Pads ![0, 0, 0] ![0, 1, 0] ![0, 0, 0] (S3 n 2))
    {v : Shape} (hv1 hv2 : 0 < v.numel) (z1 z2 : FVec Ideal v .f32) (c : (S3 n 2).ShapeCasts (S2 N)) : FVec Ideal (S2 N) .f32 :=
  shapeCast (S2 N) (addf (F := Ideal) (φ := .f32) (pad (S3 n 2) ![0, 1, 0] ![0, 0, 0] ![0, 0, 0] (broadcastInDim (S3 n 1) ![0, 2] b1 x) z1 p1 hv1)
      (pad (S3 n 2) ![0, 0, 0] ![0, 1, 0] ![0, 0, 0] (broadcastInDim (S3 n 1) ![0, 2] b2 y) z2 p2 hv2)) c

section
variable {v : Shape} {z1 z2 z3 z4 : FVec Ideal v .f32}
theorem Level.grad (L : Level n f g a0 a1 u0 u1 a u) (D : Down n f g h h0 d0 hp) (hN : N = 2 * n) (G : Grad n (pA f) (pU f g) (pH n f h) dU dA)
    (b1 b2 b3 b4 : (S2 n).BroadcastsInDim (S3 n 1) ![0, 2])
    (p1 p3 : (S3 n 1).Pads ![0, 1, 0] ![0, 0, 0] ![0, 0, 0] (S3 n 2)) (p2 p4 : (S3 n 1).Pads ![0, 0, 0] ![0, 1, 0] ![0, 0, 0] (S3 n 2)) (v1 v2 v3 v4 : 0 < v.numel)
    (hz1 : ∀ i, z1 i = ((0 : ℝ) : EReal)) (hz2 : ∀ i, z2 i = ((0 : ℝ) : EReal)) (hz3 : ∀ i, z3 i = ((0 : ℝ) : EReal)) (hz4 : ∀ i, z4 i = ((0 : ℝ) : EReal))
    (c1 c2 : (S3 n 2).ShapeCasts (S2 N)) :
    Grad N f g h (weave n N dU (addf (F := Ideal) (φ := .f32) h0 (mulf (F := Ideal) (φ := .f32) a1 dU)) b1 b2 p1 p2 v1 v2 z1 z2 c1)
      (weave n N (addf (F := Ideal) (φ := .f32) (mulf (F := Ideal) (φ := .f32) dU u0) (mulf (F := Ideal) (φ := .f32) dA a0))
        (addf (F := Ideal) (φ := .f32) d0 (mulf (F := Ideal) (φ := .f32) a1 dA)) b3 b4 p3 p4 v3 v4 z3 z4 c2) := by
  subst hN
  refine ⟨at_weave rfl (g := fun l i => h l (2 * i) + f l (2 * i + 1) * back n (pA f l) (pH n f h l) i) G.u (at_add D.h0 (at_mul L.a1 G.u)) (fun l i _ => back_pair n _ _ i)
      (fun l i hi => (back_even n _ _ hi).symm) b1 b2 p1 p2 v1 v2 hz1 hz2 c1,
    at_weave rfl (f := fun l i => back n (pA f l) (pH n f h l) i * g l (2 * i) + dfac n (pA f l) (pU f g l) (pH n f h l) i * f l (2 * i))
      (g := fun l i => h l (2 * i) * prev (lin (pA f l) (pU f g l)) i + f l (2 * i + 1) * dfac n (pA f l) (pU f g l) (pH n f h l) i)
      (at_add (at_mul G.u L.u0) (at_mul G.a L.a0)) (at_add D.d0 (at_mul L.a1 G.a)) (fun l i _ => (dfac_odd n _ _ _ i).symm)
      (fun l i hi => ((dfac_even n _ _ _ hi).trans (congrArg _ (mul_comm _ _))).symm) b3 b4 p3 p4 v3 v4 hz3 hz4 c2⟩
end
end

theorem dfac_one (a u h : ℕ → ℝ) {i : ℕ} (hi : i < 1) : dfac 1 a u h i = 0 := by
  obtain rfl : i = 0 := by omega
  exact mul_zero _
theorem back_one (a h : ℕ → ℝ) {i : ℕ} (hi : i < 1) : back 1 a h i = h i := by
  rw [back_lt _ _ hi, back_ge _ _ (by omega), mul_zero, add_zero]

section
variable {h : Q} {a0 a1 u0 u1 a u h0 d0 hp : FVec Ideal (S2 1) .f32} {v : Shape} {z1 z2 z3 z4 : FVec Ideal v .f32}
/-- The last level has one pair, and nothing past it. -/
theorem Level.grad_one (L : Level 1 f g a0 a1 u0 u1 a u) (D : Down 1 f g h h0 d0 hp)
    (b1 b2 b3 b4 : (S2 1).BroadcastsInDim (S3 1 1) ![0, 2])
    (p1 p3 : (S3 1 1).Pads ![0, 1, 0] ![0, 0, 0] ![0, 0, 0] (S3 1 2)) (p2 p4 : (S3 1 1).Pads ![0, 0, 0] ![0, 1, 0] ![0, 0, 0] (S3 1 2)) (v1 v2 v3 v4 : 0 < v.numel)
    (hz1 : ∀ i, z1 i = ((0 : ℝ) : EReal)) (hz2 : ∀ i, z2 i = ((0 : ℝ) : EReal)) (hz3 : ∀ i, z3 i = ((0 : ℝ) : EReal)) (hz4 : ∀ i, z4 i = ((0 : ℝ) : EReal))
    (c1 c2 : (S3 1 2).ShapeCasts (S2 2)) :
    Grad 2 f g h (weave 1 2 hp (addf (F := Ideal) (φ := .f32) h0 (mulf (F := Ideal) (φ := .f32) a1 hp)) b1 b2 p1 p2 v1 v2 z1 z2 c1)
      (weave 1 2 (mulf (F := Ideal) (φ := .f32) hp u0) d0 b3 b4 p3 p4 v3 v4 z3 z4 c2) :=
  ⟨at_weave rfl (f := pH 1 f h) (g := fun l i => h l (2 * i) + f l (2 * i + 1) * pH 1 f h l i) D.hp (at_add D.h0 (at_mul L.a1 D.hp))
      (fun l i hi => (back_one (pA f l) _ hi).symm.trans (back_pair 1 _ _ i)) (fun l i hi => (congrArg (fun x => h l (2 * i) + f l (2 * i + 1) * x) (back_one (pA f l) _ hi).symm).trans (back_even 1 _ _ hi).symm)
      b1 b2 p1 p2 v1 v2 hz1 hz2 c1,
    at_weave rfl (f := fun l i => pH 1 f h l i * g l (2 * i)) (g := fun l i => h l (2 * i) * prev (lin (pA f l) (pU f g l)) i) (at_mul D.hp L.u0) D.d0
      (fun l i hi => ((dfac_odd 1 _ _ _ i).trans (by
        rw [show dfac 1 (pairA (f l)) (pairU (f l) (g l)) (pairH 1 (f l) (h l)) i = 0 from dfac_one _ _ _ hi, zero_mul, add_zero, back_one _ _ hi]; rfl)).symm)
      (fun l i hi => ((dfac_even 1 _ _ _ hi).trans (by
        rw [show dfac 1 (pairA (f l)) (pairU (f l) (g l)) (pairH 1 (f l) (h l)) i = 0 from dfac_one _ _ _ hi, zero_mul, add_zero]; rfl)).symm)
      b3 b4 p3 p4 v3 v4 hz3 hz4 c2⟩
end
end

end Cert.LruMath
end
-- ==== Proof.LruRefSide.lean ====
module

public import proofs.«01_k».proof.Proof.LruTree
public import proofs.«01_k».proof.Proof.Gen.LruRefIdeal.Read

@[expose] public section

set_option maxRecDepth 16384

noncomputable section

open Idealize.ShloMosaic Idealize.ShloMosaic.TcCoe Idealize.SL.Sem
open Cert.Common

/-! The reference of the recurrent unit's gradient over the reals: every line by row and lane. -/

namespace Cert.LruRefIdeal.Read
open Cert.LruRefIdeal Cert.LruRefIdeal.Gen Idealize.ShloMosaic.StableHlo Cert.SguMath Cert.LruMath Cert.Recurrence
open Cert.SguRefIdeal.Read (At At.congr at_mul at_add at_sub at_neg at_tanh at_rsqrt at_div at_div64 at_num bits_64)

/-! ### Shapes -/

def e3 : Fin 4096 × Fin 4 × Fin 64 → S4096x4x64.Idx := fun p => ix3 p.1 p.2.1 p.2.2
def e31 : Fin 4096 × Fin 4 → S4096x4x1.Idx := fun p => ix3 p.1 p.2 0
def e30 : Fin 4096 × Fin 4 → S4096x4.Idx := fun p => ix2 p.1 p.2
def e4 : Fin 4 × Fin 64 → S4x64.Idx := fun p => ix2 p.1 p.2
def q3 (f : Q) : Fin 4096 × Fin 4 × Fin 64 → ℝ := fun p => f (ln p.2.1 p.2.2) p.1
def q0 (f : Q) : Fin 4096 × Fin 4 → ℝ := fun p => f (ln p.2 0) p.1
def l4 (f : Fin 256 → ℝ) : Fin 4 × Fin 64 → ℝ := fun p => f (ln p.1 p.2)
abbrev E2 := e2 4096

section
variable {f : Q} {b : Fin 256 → ℝ}
theorem to3 {x : FVec Ideal S4096x256 .f32} (hx : At E2 x (qr f)) : At e3 (shapeCast S4096x4x64 x shapeCasts_S4096x256_S4096x4x64) (q3 f) := fun p => by
  obtain ⟨r, g, k⟩ := p
  refine (shapeCast_apply _ _ (ix3 r g k) (ix2 r (ln g k)) ?_).trans (hx (r, ln g k))
  simp only [Shape.rowMajor_val_two, Shape.rowMajor_val_three]; show r.val * 256 + (g.val * 64 + k.val) = (r.val * 4 + g.val) * 64 + k.val; omega
theorem of3 {x : FVec Ideal S4096x4x64 .f32} (hx : At e3 x (q3 f)) : At E2 (shapeCast S4096x256 x shapeCasts_S4096x4x64_S4096x256) (qr f) := fun p => by
  obtain ⟨r, l⟩ := p
  refine (shapeCast_apply _ _ (ix2 r l) (ix3 r (grp l) (pos l)) ?_).trans ((hx (r, grp l, pos l)).trans (by unfold q3; dsimp only; rw [ln_grp]; rfl))
  simp only [Shape.rowMajor_val_two, Shape.rowMajor_val_three]; show (r.val * 4 + l.val / 64) * 64 + l.val % 64 = r.val * 256 + l.val; omega
theorem sum3 {x : FVec Ideal S4096x4x64 .f32} (hx : At e3 x (q3 f)) :
    At e30 (Host.reduceAdd x (constant S_ .f32 0x00000000#32) reducesTo_S4096x4x64_S4096x4_d2 h_S_) (q0 fun l t => ∑ k, f (ln (grp l) k) t) := fun p => by
  obtain ⟨r, g⟩ := p
  unfold e30 q0; dsimp only; pointwise; rw [coe_sum]; exact Finset.sum_congr rfl fun k _ => by rw [grp_ln]; exact hx (r, g, k)
theorem keep3 {x : FVec Ideal S4096x4 .f32} {q : Fin 4096 × Fin 4 → ℝ} (hx : At e30 x q) : At e31 (broadcastInDim S4096x4x1 ![0, 1] bcast_S4096x4_S4096x4x1_0_1 x) q := fun p => by
  obtain ⟨r, g⟩ := p
  unfold e31; dsimp only; pointwise; exact hx (r, g)
theorem cast3 {x : FVec Ideal S4096x4 .f32} {q : Fin 4096 × Fin 4 → ℝ} (hx : At e30 x q) : At e31 (shapeCast S4096x4x1 x shapeCasts_S4096x4_S4096x4x1) q := fun p => by
  obtain ⟨r, g⟩ := p
  unfold e31; dsimp only; pointwise; exact hx (r, g)
theorem one3 {x : FVec Ideal S4096x4x1 .f32} {q : Fin 4096 × Fin 4 → ℝ} (hx : At e31 x q) :
    At e30 (Host.reduceAdd x (constant S_ .f32 0x00000000#32) reducesTo_S4096x4x1_S4096x4_d2 h_S_) q := fun p => by
  obtain ⟨r, g⟩ := p
  unfold e30; dsimp only; pointwise; rw [Fin.sum_univ_one]; exact hx (r, g)
theorem all31 (hf : ∀ l t, f l t = f (ln (grp l) 0) t) {x : FVec Ideal S4096x4x1 .f32} (hx : At e31 x (q0 f)) :
    At e3 (broadcastInDim S4096x4x64 ![0, 1, 2] bcast_S4096x4x1_S4096x4x64_0_1_2 x) (q3 f) := fun p => by
  obtain ⟨r, g, k⟩ := p
  unfold e3 q3; dsimp only; rw [hf, grp_ln]; pointwise; exact hx (r, g)
theorem all30 (hf : ∀ l t, f l t = f (ln (grp l) 0) t) {x : FVec Ideal S4096x4 .f32} (hx : At e30 x (q0 f)) :
    At e3 (broadcastInDim S4096x4x64 ![0, 1] bcast_S4096x4_S4096x4x64_0_1 x) (q3 f) := fun p => by
  obtain ⟨r, g, k⟩ := p
  unfold e3 q3; dsimp only; rw [hf, grp_ln]; pointwise; exact hx (r, g)
theorem gmean_grp (l : Fin 256) (t : ℕ) : gmean f l t = gmean f (ln (grp l) 0) t := by unfold gmean; rw [grp_ln]

theorem lane {x : FVec Ideal S256 .f32} (hx : At e1 x b) :
    At E2 (broadcastInDim S4096x256 ![0, 1] bcast_S1x256_S4096x256_0_1 (broadcastInDim S1x256 ![1] bcast_S256_S1x256_1 x)) (qr fun l _ => b l) := fun p => by
  obtain ⟨r, l⟩ := p
  unfold E2 e2 qr; dsimp only; pointwise; exact hx l
theorem lane10 {x : FVec Ideal S256 .f32} (hx : At e1 x b) : At e10 (broadcastInDim S1x256 ![1] bcast_S256_S1x256_1 x) b := fun l => by
  unfold e10; pointwise; exact hx l
theorem taps {j : ℕ} (hj : j < 4) {x : FVec Ideal S4x256 .f32} {w : Fin 4 → Fin 256 → ℝ} (hx : ∀ j l, (x (ix2 j l) : EReal) = ((w j l : ℝ) : EReal)) (h : S4x256.Slices ![j, 0] S1x256) :
    At e1 (shapeCast S256 (extractStridedSlice S1x256 ![j, 0] x h) shapeCasts_S1x256_S256) (w ⟨j, hj⟩) := fun l => by
  refine (shapeCast_apply _ _ (ix1 l) (ix2 0 l) ?_).trans ((extractStridedSlice_apply _ _ h (ix2 0 l) (ix2 ⟨j, hj⟩ l) ?_).trans (hx _ _))
  · simp only [Shape.rowMajor_val_two, Shape.rowMajor_val_one]; show 0 * 256 + l.val = l.val; omega
  · intro a
    match a with
    | ⟨0, _⟩ => rfl
    | ⟨1, _⟩ => exact (Nat.zero_add _).symm
theorem lanes3 {x : FVec Ideal S4x64 .f32} (hx : At e4 x (l4 b)) :
    At e3 (broadcastInDim S4096x4x64 ![0, 1, 2] bcast_S1x4x64_S4096x4x64_0_1_2 (broadcastInDim S1x4x64 ![1, 2] bcast_S4x64_S1x4x64_1_2 x)) (q3 fun l _ => b l) := fun p => by
  obtain ⟨r, g, k⟩ := p
  unfold e3; dsimp only; pointwise; exact hx (g, k)

/-- A sum over the rows. -/
theorem rows {x : FVec Ideal S4096x256 .f32} (hx : At E2 x (qr f)) :
    At e1 (Host.reduceAdd x (constant S_ .f32 0x00000000#32) reducesTo_S4096x256_S256_d0 h_S_) (colsum f) := fun l => by
  unfold e1 colsum; pointwise; rw [coe_sum]; exact Finset.sum_congr rfl fun r _ => hx (r, l)
theorem once {x : FVec Ideal S256 .f32} (hx : At e1 x b) :
    At e1 (Host.reduceAdd (shapeCast S1x256 x shapeCasts_S256_S1x256) (constant S_ .f32 0x00000000#32) reducesTo_S1x256_S256_d0 h_S_) b := fun l => by
  unfold e1; pointwise; rw [Fin.sum_univ_one]; exact hx l
theorem rows3 {x : FVec Ideal S4096x4x64 .f32} (hx : At e3 x (q3 f)) :
    At e10 (shapeCast S1x256 (Host.reduceAdd (shapeCast S1x4x64 (Host.reduceAdd x (constant S_ .f32 0x00000000#32) reducesTo_S4096x4x64_S4x64_d0 h_S_) shapeCasts_S4x64_S1x4x64)
      (constant S_ .f32 0x00000000#32) reducesTo_S1x4x64_S4x64_d0 h_S_) shapeCasts_S4x64_S1x256) (colsum f) := fun l => by
  refine (shapeCast_apply _ _ (ix2 0 l) (ix2 (grp l) (pos l)) ?_).trans ?_
  · simp only [Shape.rowMajor_val_two]; show l.val / 64 * 64 + l.val % 64 = 0 * 256 + l.val; omega
  · unfold colsum; pointwise; rw [Fin.sum_univ_one, coe_sum]
    refine Finset.sum_congr rfl fun r _ => (hx (r, grp l, pos l)).trans ?_
    unfold q3; dsimp only; rw [ln_grp]

/-! ### Products by blocks, and the convolution's rows -/

section
variable {w : Fin 4 → Fin 64 → Fin 64 → ℝ} {x : FVec Ideal S4x64x64 .f32} (hw : ∀ g i j, (x (ix3 g i j) : EReal) = ((w g i j : ℝ) : EReal))
include hw
theorem dense3 {y : FVec Ideal S4096x4x64 .f32} (hy : At e3 y (q3 f)) :
    At e3 (transpose S4096x4x64 [2, 0, 1] (Host.dotGeneral dot_S4x64x64_S4096x4x64_S4x64x4096_1_2_2_0_0_1 none x y) transposes_S4x64x4096_S4096x4x64_2_0_1) (q3 (dense w f)) := fun p => by
  obtain ⟨r, g, k⟩ := p
  unfold e3 q3 dense; dsimp only; pointwise; rw [coe_sum, grp_ln, pos_ln]
  exact Finset.sum_congr rfl fun i _ => by rw [hw, EReal.coe_mul]; exact congrArg _ (hy (r, g, i))
theorem back3 {y : FVec Ideal S4096x4x64 .f32} (hy : At e3 y (q3 f)) :
    At E2 (shapeCast S4096x256 (transpose S4096x4x64 [1, 0, 2] (Host.dotGeneral dot_S4x64x4096_S4x64x64_S4x4096x64_1_2_2_1_0_0 none
      (transpose S4x64x4096 [1, 2, 0] y transposes_S4096x4x64_S4x64x4096_1_2_0) x) transposes_S4x4096x64_S4096x4x64_1_0_2) shapeCasts_S4096x4x64_S4096x256) (qr (denseT w f)) :=
  of3 fun p => by
    obtain ⟨r, g, k⟩ := p
    unfold e3 q3 denseT; dsimp only; pointwise; rw [coe_sum, grp_ln, pos_ln]
    exact Finset.sum_congr rfl fun i _ => by rw [hw, EReal.coe_mul]; exact congrArg (· * _) (hy (r, g, i))
end
/-- The product of two columns' lanes, where both are of one group. -/
theorem cross {f' : Q} {x y : FVec Ideal S4096x4x64 .f32} (hx : At e3 x (q3 f)) (hy : At e3 y (q3 f')) (l l' : Fin 256) (h : grp l = grp l') :
    ((shapeCast S256x256 (broadcastInDim S4x64x4x64 ![0, 1, 2, 3] bcast_S4x64x1x64_S4x64x4x64_0_1_2_3 (broadcastInDim S4x64x1x64 ![0, 1, 3] bcast_S4x64x64_S4x64x1x64_0_1_3
      (transpose S4x64x64 [0, 2, 1] (Host.dotGeneral (F := Ideal) dot_S4x64x4096_S4096x4x64_S4x64x64_2_0_1_2_0_1 none
        (transpose S4x64x4096 [1, 2, 0] x transposes_S4096x4x64_S4x64x4096_1_2_0) y) transposes_S4x64x64_S4x64x64_0_2_1))) shapeCasts_S4x64x4x64_S256x256 (ix2 l l') : Elt Ideal .f32) : EReal)
      = ((∑ t : Fin 4096, f l' t * f' l t : ℝ) : EReal) := by
  refine (shapeCast_apply _ _ (ix2 l l') (ix4 (grp l) (pos l) (grp l') (pos l')) ?_).trans ?_
  · simp only [Shape.rowMajor_val_two, Shape.rowMajor_val_four]
    show ((l.val / 64 * 64 + l.val % 64) * 4 + l'.val / 64) * 64 + l'.val % 64 = l.val * 256 + l'.val; omega
  · pointwise; rw [coe_sum]
    refine Finset.sum_congr rfl fun t _ => ?_
    rw [EReal.coe_mul]
    refine congrArg₂ _ ((hx (t, grp l, pos l')).trans ?_) ((hy (t, grp l, pos l)).trans ?_)
    · unfold q3; dsimp only; rw [h, ln_grp]
    · unfold q3; dsimp only; rw [ln_grp]

/-- Rows moved down, out of the rows behind three zeros. -/
theorem moved (s : ℕ) (hs : s ≤ 3) {x : FVec Ideal S4096x256 .f32} (hx : At E2 x (qr f)) (h : S4099x256.Slices ![s, 0] S4096x256) :
    At E2 (extractStridedSlice S4096x256 ![s, 0] (concatenate S4099x256 0 [⟨S3x256, broadcastInDim S3x256 ![] bcast_S_S3x256 (constant S_ .f32 0x00000000#32)⟩, ⟨S4096x256, x⟩]
      concatenates_S3x256_S4096x256_S4099x256_d0) h) (qr (dn (3 - s) f)) := fun p => by
  obtain ⟨r, l⟩ := p
  have hr := r.isLt
  refine (extractStridedSlice_apply _ _ h (ix2 r l) (ix2 ⟨s + r.val, by omega⟩ l) ?_).trans ?_
  · intro a
    match a with
    | ⟨0, _⟩ => rfl
    | ⟨1, _⟩ => exact (Nat.zero_add _).symm
  · unfold qr LruMath.dn; dsimp only
    by_cases h3 : 3 - s ≤ r.val
    · rw [if_pos h3]
      refine (concatenate_pair_apply_right (s₁ := S3x256) (s₂ := S4096x256) 0 _ _ _ (ix2 (⟨s + r.val, by omega⟩ : Fin 4099) l) rfl rfl (ix2 (⟨r.val - (3 - s), by omega⟩ : Fin 4096) l : S4096x256.Idx) (fun b hb => ?_) ?_).trans (hx (⟨r.val - (3 - s), by omega⟩, l))
      · match b, hb with
        | ⟨0, _⟩, hb => exact absurd rfl hb
        | ⟨1, _⟩, _ => rfl
      · show r.val - (3 - s) + 3 = s + r.val; omega
    · rw [if_neg h3]
      exact (concatenate_pair_apply_left (s₁ := S3x256) (s₂ := S4096x256) 0 _ _ _ (ix2 (⟨s + r.val, by omega⟩ : Fin 4099) l) rfl (ix2 (⟨s + r.val, by omega⟩ : Fin 3) l) (fun b => by match b with | ⟨0, _⟩ => rfl | ⟨1, _⟩ => rfl)).trans bits_zero

theorem zero0 (i : S_.Idx) : (constant S_ .f32 0x00000000#32 : FVec Ideal S_ .f32) i = ((0 : ℝ) : EReal) := bits_zero

/-- One row put among rows of zeros. -/
theorem place (p q : ℕ) (hp : p < 4) {x : FVec Ideal S1x256 .f32} (hx : At e10 x b) (h : S1x256.Pads ![p, 0] ![q, 0] ![0, 0] S4x256) :
    At (fun i : Fin 4 × Fin 256 => (ix2 i.1 i.2 : S4x256.Idx)) (pad S4x256 ![p, 0] ![q, 0] ![0, 0] x (constant S_ .f32 0x00000000#32) h h_S_)
      fun i => if i.1.val = p then b i.2 else 0 := fun i => by
  obtain ⟨j, l⟩ := i
  dsimp only
  by_cases hj : j.val = p
  · rw [if_pos hj]
    refine (pad_apply_of_inside _ _ _ _ _ h h_S_ (ix2 j l) (ix2 0 l) (fun a => ?_)).trans (hx l)
    match a with
    | ⟨0, _⟩ => show j.val = p + 0 * (0 + 1); omega
    | ⟨1, _⟩ => show l.val = 0 + l.val * (0 + 1); omega
  · rw [if_neg hj]
    refine (pad_apply_of_not_inside _ _ _ _ _ h h_S_ (ix2 j l) 0 (fun hh => hj ?_)).trans bits_zero
    have h1 := hh.1
    have h2 := hh.2.2
    change p ≤ j.val at h1
    change (j.val - p) / (0 + 1) < 1 at h2
    omega
/-- Rows moved among three more, read from the fourth on. -/
def e99 : Fin 4096 × Fin 256 → S4099x256.Idx := fun p => ix2 ⟨p.1.val + 3, by omega⟩ p.2
theorem lift (p q : ℕ) (hp : p ≤ 3) {x : FVec Ideal S4096x256 .f32} (hx : At E2 x (qr f)) (h : S4096x256.Pads ![p, 0] ![q, 0] ![0, 0] S4099x256) :
    At e99 (pad S4099x256 ![p, 0] ![q, 0] ![0, 0] x (constant S_ .f32 0x00000000#32) h h_S_) (qr (up (3 - p) f)) := fun i => by
  obtain ⟨r, l⟩ := i
  unfold e99 qr up; dsimp only
  by_cases hj : r.val + (3 - p) < 4096
  · rw [if_pos hj]
    refine (pad_apply_of_inside _ _ _ _ _ h h_S_ _ (ix2 ⟨r.val + (3 - p), hj⟩ l) (fun a => ?_)).trans (hx (⟨r.val + (3 - p), hj⟩, l))
    match a with
    | ⟨0, _⟩ => show r.val + 3 = p + (r.val + (3 - p)) * (0 + 1); omega
    | ⟨1, _⟩ => show l.val = 0 + l.val * (0 + 1); omega
  · rw [if_neg hj]
    refine (pad_apply_of_not_inside _ _ _ _ _ h h_S_ _ 0 (fun hh => hj ?_)).trans bits_zero
    have h2 := hh.2.2
    change (r.val + 3 - p) / (0 + 1) < 4096 at h2
    omega
theorem from99 {x : FVec Ideal S4099x256 .f32} {q : Fin 4096 × Fin 256 → ℝ} (hx : At e99 x q) : At E2 (extractStridedSlice S4096x256 ![3, 0] x slices_S4099x256_S4096x256_3_0) q := fun p => by
  obtain ⟨r, l⟩ := p
  refine (extractStridedSlice_apply _ _ _ (ix2 r l) (ix2 ⟨r.val + 3, by omega⟩ l) ?_).trans (hx (r, l))
  intro a
  match a with
  | ⟨0, _⟩ => exact Nat.add_comm _ _
  | ⟨1, _⟩ => exact (Nat.zero_add _).symm
end

/-! ### Scalar functions -/

section
variable {ι : Type} {s : Shape} {e : ι → s.Idx} {x t y : FVec Ideal s .f32} {f f' : ι → ℝ}
theorem at_sig (h : S_.BroadcastsInDim s ![]) (hx : At e x f) :
    At e (Host.divf (broadcastInDim s ![] h (constant S_ .f32 0x3F800000#32)) (addf (broadcastInDim s ![] h (constant S_ .f32 0x3F800000#32)) (Host.exp (Host.negf x)))) fun i => LruMath.sig (f i) :=
  (at_quot (at_num bits_one h) (at_add (at_num bits_one h) (at_exp (at_neg hx))) fun i => (sig_pos _).ne').congr fun i => one_mul _
theorem at_tg (h : S_.BroadcastsInDim s ![]) (hx : At e x f) : At e (Host.tanh (mulf (broadcastInDim s ![] h (constant S_ .f32 0x3F4C422A#32))
    (addf x (mulf (broadcastInDim s ![] h (constant S_ .f32 0x3D372713#32)) (mulf (mulf x x) x))))) fun i => tg (f i) :=
  (at_tanh (at_mul (at_num bits_c1 h) (at_add hx (at_mul (at_num bits_c2 h) (at_mul (at_mul hx hx) hx))))).congr fun i => by unfold tg; rw [mul_assoc (f i)]
end

/-! ### The forward lines and their gradient -/

def A (d : Dat) : ℕ → Q
  | 0 => d.a
  | k + 1 => pA (A d k)
def U (d : Dat) : ℕ → Q
  | 0 => d.u
  | k + 1 => pU (A d k) (U d k)
def Hh (d : Dat) : ℕ → Q
  | 0 => d.dh
  | k + 1 => pH (2048 / 2 ^ k) (A d k) (Hh d k)

/-- The arrays hold the reals `d`, and the decay stays in its domain. -/
structure Args (d : Dat) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 x8 : FVec Ideal S256 .f32) (x9 : FVec Ideal S4096x256 .f32) : Prop where
  xb : At E2 (val_main_v0 (F := Ideal) x0) (qr d.xb)
  gate : At E2 (val_main_v1 (F := Ideal) x0) (qr d.gate)
  cw : ∀ j l, (x1 (ix2 j l) : EReal) = ((d.cw j l : ℝ) : EReal)
  cb : At e1 x2 d.cb
  wa : ∀ g i j, (x3 (ix3 g i j) : EReal) = ((d.wa g i j : ℝ) : EReal)
  ba : At e4 x4 (l4 d.ba)
  wx : ∀ g i j, (x5 (ix3 g i j) : EReal) = ((d.wx g i j : ℝ) : EReal)
  bx : At e4 x6 (l4 d.bx)
  lam : At e1 x7 d.lam
  gain : At e1 x8 d.gain
  ct : At E2 x9 (qr d.ct)

namespace Args
variable {d : Dat} {x0 : FVec Ideal S4096x3072 .f32} {x1 : FVec Ideal S4x256 .f32} {x2 : FVec Ideal S256 .f32} {x3 : FVec Ideal S4x64x64 .f32} {x4 : FVec Ideal S4x64 .f32}
  {x5 : FVec Ideal S4x64x64 .f32} {x6 : FVec Ideal S4x64 .f32} {x7 x8 : FVec Ideal S256 .f32} {x9 : FVec Ideal S4096x256 .f32}
variable (H : Args d x0 x1 x2 x3 x4 x5 x6 x7 x8 x9)
include H

theorem x3_v : At E2 (val_main_v5 (F := Ideal) x0) (qr (dn 3 d.xb)) := moved 0 (by omega) H.xb _
theorem x2_v : At E2 (val_main_v14 (F := Ideal) x0) (qr (dn 2 d.xb)) := moved 1 (by omega) H.xb _
theorem x1_v : At E2 (val_main_v21 (F := Ideal) x0) (qr (dn 1 d.xb)) := moved 2 (by omega) H.xb _
theorem x0_v : At E2 (val_main_v28 (F := Ideal) x0) (qr (dn 0 d.xb)) := moved 3 (by omega) H.xb _
theorem xc_v : At E2 (val_main_v34 (F := Ideal) x0 x1 x2) (qr d.xc) :=
  (at_add (at_add (at_add (at_add (lane H.cb) (at_mul H.x3_v (lane (taps (j := 0) (by omega) H.cw _)))) (at_mul H.x2_v (lane (taps (j := 1) (by omega) H.cw _))))
    (at_mul H.x1_v (lane (taps (j := 2) (by omega) H.cw _)))) (at_mul H.x0_v (lane (taps (j := 3) (by omega) H.cw _)))).congr fun i => rfl
theorem xh_v : At e3 (val_main_v35 (F := Ideal) x0 x1 x2) (q3 d.xc) := to3 H.xc_v
theorem r3_v : At e3 (val_main_v46 (F := Ideal) x0 x1 x2 x3 x4) (q3 d.r) := at_sig _ (at_add (dense3 H.wa H.xh_v) (lanes3 H.ba))
theorem gi3_v : At e3 (val_main_v69 (F := Ideal) x0 x1 x2 x5 x6) (q3 d.gi) := at_sig _ (at_add (dense3 H.wx H.xh_v) (lanes3 H.bx))
theorem sr_v : At e3 (val_main_v49 (F := Ideal) x0 x1 x2 x3 x4) (q3 fun l t => d.r l t * (1 - d.r l t)) := at_mul H.r3_v (at_sub (at_num bits_one _) H.r3_v)
theorem sgi_v : At e3 (val_main_v72 (F := Ideal) x0 x1 x2 x5 x6) (q3 fun l t => d.gi l t * (1 - d.gi l t)) := at_mul H.gi3_v (at_sub (at_num bits_one _) H.gi3_v)
theorem gi_v : At E2 (val_main_v73 (F := Ideal) x0 x1 x2 x5 x6) (qr d.gi) := of3 H.gi3_v
theorem r8_v : At E2 (val_main_v52 (F := Ideal) x0 x1 x2 x3 x4) (qr fun l t => m8 * d.r l t) := at_mul (at_num bits_m8 _) (of3 H.r3_v)
theorem nlam_v : At e1 (val_main_v53 (F := Ideal) x7) fun l => -d.lam l := at_neg H.lam
theorem spl_v : At e1 (val_main_v54_0 (F := Ideal) x7) fun l => spl (-d.lam l) := fun l => by
  have hx := at_sub H.nlam_v (at_num bits_zero bcast_S_S256)
  have h := at_add (at_max H.nlam_v (at_num bits_zero bcast_S_S256)) (at_log1p (at_exp (at_neg (at_abs hx))) fun i => by have := Real.exp_pos (-|-d.lam i - 0|); linarith)
  show Scalar.select (Ideal.cmp .une _ _) _ _ = _
  have hc : Ideal.cmp .une ((val_main_call0_v3 (F := Ideal) x7) (e1 l)) ((val_main_call0_v3 (F := Ideal) x7) (e1 l)) = 0#1 := by unfold Ideal.cmp; simp
  refine (congrArg (fun c => Scalar.select c _ _) hc).trans ((h l).trans ?_)
  dsimp only
  rw [sub_zero]; rfl
theorem spd_v : At e1 (val_main_v54_1 (F := Ideal) x7) fun l => spd (-d.lam l) := fun l => by
  have h1 : ((val_main_call0_v16 (F := Ideal) x7) (e1 l) : EReal) = ((-d.lam l : ℝ) : EReal) := by
    show Scalar.select (Ideal.cmp .oeq ((val_main_v53 (F := Ideal) x7) (e1 l)) (Ideal.ofBits .f32 0x7F800000#32)) _ ((val_main_v53 (F := Ideal) x7) (e1 l)) = _
    rw [H.nlam_v, bits_inf, show Ideal.cmp .oeq ((-d.lam l : ℝ) : EReal) ⊤ = 0#1 by unfold Ideal.cmp; simp [-EReal.coe_neg]]; rfl
  have h2 : ((val_main_call0_v20 (F := Ideal) x7) (e1 l) : EReal) = ((spl (-d.lam l) : ℝ) : EReal) := by
    show Scalar.select (Ideal.cmp .oeq ((val_main_v54_0 (F := Ideal) x7) (e1 l)) (Ideal.ofBits .f32 0x7F800000#32)) _ ((val_main_v54_0 (F := Ideal) x7) (e1 l)) = _
    rw [H.spl_v, bits_inf, show Ideal.cmp .oeq ((spl (-d.lam l) : ℝ) : EReal) ⊤ = 0#1 by unfold Ideal.cmp; simp]; rfl
  show Ideal.exp (((val_main_call0_v16 (F := Ideal) x7) (e1 l) : EReal) - ((val_main_call0_v20 (F := Ideal) x7) (e1 l) : EReal)) = _
  rw [h1, h2, ← EReal.coe_sub, exp_coe]; rfl
theorem la_v : At E2 (val_main_v57 (F := Ideal) x0 x1 x2 x3 x4 x7) (qr d.la) := at_mul H.r8_v (lane H.spl_v)
theorem a_v : At E2 (val_main_v74 (F := Ideal) x0 x1 x2 x3 x4 x7) (qr (A d 0)) := at_exp H.la_v
theorem x22_v : At E2 (val_main_v76 (F := Ideal) x0 x1 x2 x3 x4 x7) (qr d.x2) := at_mul (at_num bits_tw _) H.la_v
end Args

/-- The same where the decay stays in the range. -/
structure Holds (d : Dat) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 x8 : FVec Ideal S256 .f32) (x9 : FVec Ideal S4096x256 .f32) : Prop extends Args d x0 x1 x2 x3 x4 x5 x6 x7 x8 x9 where
  dom : d.Dom

namespace Holds
variable {d : Dat} {x0 : FVec Ideal S4096x3072 .f32} {x1 : FVec Ideal S4x256 .f32} {x2 : FVec Ideal S256 .f32} {x3 : FVec Ideal S4x64x64 .f32} {x4 : FVec Ideal S4x64 .f32}
  {x5 : FVec Ideal S4x64x64 .f32} {x6 : FVec Ideal S4x64 .f32} {x7 x8 : FVec Ideal S256 .f32} {x9 : FVec Ideal S4096x256 .f32}
variable (H : Holds d x0 x1 x2 x3 x4 x5 x6 x7 x8 x9)
include H

theorem ex_v : At E2 (val_main_v78 (F := Ideal) x0 x1 x2 x3 x4 x7) (qr fun l t => Real.exp (d.x2 l t)) := at_exp H.x22_v
theorem mult_v : At E2 (val_main_v80 (F := Ideal) x0 x1 x2 x3 x4 x7) (qr d.mult) :=
  at_sqrt (f := qr fun l t => 1 - Real.exp (d.x2 l t)) ((at_neg (at_expm1 H.x22_v)).congr fun i => neg_sub _ _) fun i => (H.dom.pos i.2 i.1.isLt).le
theorem im_v : At E2 (val_main_v82 (F := Ideal) x0 x1 x2 x3 x4 x7) (qr fun l t => hf * (d.mult l t)⁻¹) := at_quot (at_num bits_hf _) H.mult_v fun i => (H.dom.mult_pos i.2 i.1.isLt).ne'
theorem mg_v : At E2 (val_main_v83 (F := Ideal) x0 x1 x2 x3 x4 x5 x6 x7) (qr fun l t => d.mult l t * d.gi l t) := at_mul H.mult_v H.gi_v
theorem u_v : At E2 (val_main_v84 (F := Ideal) x0 x1 x2 x3 x4 x5 x6 x7) (qr (U d 0)) := at_mul H.mg_v H.xc_v
theorem lev0 : Level 2048 (A d 0) (U d 0) (val_main_v88 (F := Ideal) x0 x1 x2 x3 x4 x7) (val_main_v90 (F := Ideal) x0 x1 x2 x3 x4 x7) (val_main_v92 (F := Ideal) x0 x1 x2 x3 x4 x5 x6 x7) (val_main_v94 (F := Ideal) x0 x1 x2 x3 x4 x5 x6 x7) (val_main_v95 (F := Ideal) x0 x1 x2 x3 x4 x7) (val_main_v97 (F := Ideal) x0 x1 x2 x3 x4 x5 x6 x7) := level rfl H.a_v H.u_v _ _ _ _ _ _ _ _ _ _
theorem lev1 : Level 1024 (A d 1) (U d 1) (val_main_v101 (F := Ideal) x0 x1 x2 x3 x4 x7) (val_main_v103 (F := Ideal) x0 x1 x2 x3 x4 x7) (val_main_v105 (F := Ideal) x0 x1 x2 x3 x4 x5 x6 x7) (val_main_v107 (F := Ideal) x0 x1 x2 x3 x4 x5 x6 x7) (val_main_v108 (F := Ideal) x0 x1 x2 x3 x4 x7) (val_main_v110 (F := Ideal) x0 x1 x2 x3 x4 x5 x6 x7) := level rfl H.lev0.a H.lev0.u _ _ _ _ _ _ _ _ _ _
theorem lev2 : Level 512 (A d 2) (U d 2) (val_main_v114 (F := Ideal) x0 x1 x2 x3 x4 x7) (val_main_v116 (F := Ideal) x0 x1 x2 x3 x4 x7) (val_main_v118 (F := Ideal) x0 x1 x2 x3 x4 x5 x6 x7) (val_main_v120 (F := Ideal) x0 x1 x2 x3 x4 x5 x6 x7) (val_main_v121 (F := Ideal) x0 x1 x2 x3 x4 x7) (val_main_v123 (F := Ideal) x0 x1 x2 x3 x4 x5 x6 x7) := level rfl H.lev1.a H.lev1.u _ _ _ _ _ _ _ _ _ _
theorem lev3 : Level 256 (A d 3) (U d 3) (val_main_v127 (F := Ideal) x0 x1 x2 x3 x4 x7) (val_main_v129 (F := Ideal) x0 x1 x2 x3 x4 x7) (val_main_v131 (F := Ideal) x0 x1 x2 x3 x4 x5 x6 x7) (val_main_v133 (F := Ideal) x0 x1 x2 x3 x4 x5 x6 x7) (val_main_v134 (F := Ideal) x0 x1 x2 x3 x4 x7) (val_main_v136 (F := Ideal) x0 x1 x2 x3 x4 x5 x6 x7) := level rfl H.lev2.a H.lev2.u _ _ _ _ _ _ _ _ _ _
theorem lev4 : Level 128 (A d 4) (U d 4) (val_main_v140 (F := Ideal) x0 x1 x2 x3 x4 x7) (val_main_v142 (F := Ideal) x0 x1 x2 x3 x4 x7) (val_main_v144 (F := Ideal) x0 x1 x2 x3 x4 x5 x6 x7) (val_main_v146 (F := Ideal) x0 x1 x2 x3 x4 x5 x6 x7) (val_main_v147 (F := Ideal) x0 x1 x2 x3 x4 x7) (val_main_v149 (F := Ideal) x0 x1 x2 x3 x4 x5 x6 x7) := level rfl H.lev3.a H.lev3.u _ _ _ _ _ _ _ _ _ _
theorem lev5 : Level 64 (A d 5) (U d 5) (val_main_v153 (F := Ideal) x0 x1 x2 x3 x4 x7) (val_main_v155 (F := Ideal) x0 x1 x2 x3 x4 x7) (val_main_v157 (F := Ideal) x0 x1 x2 x3 x4 x5 x6 x7) (val_main_v159 (F := Ideal) x0 x1 x2 x3 x4 x5 x6 x7) (val_main_v160 (F := Ideal) x0 x1 x2 x3 x4 x7) (val_main_v162 (F := Ideal) x0 x1 x2 x3 x4 x5 x6 x7) := level rfl H.lev4.a H.lev4.u _ _ _ _ _ _ _ _ _ _
theorem lev6 : Level 32 (A d 6) (U d 6) (val_main_v166 (F := Ideal) x0 x1 x2 x3 x4 x7) (val_main_v168 (F := Ideal) x0 x1 x2 x3 x4 x7) (val_main_v170 (F := Ideal) x0 x1 x2 x3 x4 x5 x6 x7) (val_main_v172 (F := Ideal) x0 x1 x2 x3 x4 x5 x6 x7) (val_main_v173 (F := Ideal) x0 x1 x2 x3 x4 x7) (val_main_v175 (F := Ideal) x0 x1 x2 x3 x4 x5 x6 x7) := level rfl H.lev5.a H.lev5.u _ _ _ _ _ _ _ _ _ _
theorem lev7 : Level 16 (A d 7) (U d 7) (val_main_v179 (F := Ideal) x0 x1 x2 x3 x4 x7) (val_main_v181 (F := Ideal) x0 x1 x2 x3 x4 x7) (val_main_v183 (F := Ideal) x0 x1 x2 x3 x4 x5 x6 x7) (val_main_v185 (F := Ideal) x0 x1 x2 x3 x4 x5 x6 x7) (val_main_v186 (F := Ideal) x0 x1 x2 x3 x4 x7) (val_main_v188 (F := Ideal) x0 x1 x2 x3 x4 x5 x6 x7) := level rfl H.lev6.a H.lev6.u _ _ _ _ _ _ _ _ _ _
theorem lev8 : Level 8 (A d 8) (U d 8) (val_main_v192 (F := Ideal) x0 x1 x2 x3 x4 x7) (val_main_v194 (F := Ideal) x0 x1 x2 x3 x4 x7) (val_main_v196 (F := Ideal) x0 x1 x2 x3 x4 x5 x6 x7) (val_main_v198 (F := Ideal) x0 x1 x2 x3 x4 x5 x6 x7) (val_main_v199 (F := Ideal) x0 x1 x2 x3 x4 x7) (val_main_v201 (F := Ideal) x0 x1 x2 x3 x4 x5 x6 x7) := level rfl H.lev7.a H.lev7.u _ _ _ _ _ _ _ _ _ _
theorem lev9 : Level 4 (A d 9) (U d 9) (val_main_v205 (F := Ideal) x0 x1 x2 x3 x4 x7) (val_main_v207 (F := Ideal) x0 x1 x2 x3 x4 x7) (val_main_v209 (F := Ideal) x0 x1 x2 x3 x4 x5 x6 x7) (val_main_v211 (F := Ideal) x0 x1 x2 x3 x4 x5 x6 x7) (val_main_v212 (F := Ideal) x0 x1 x2 x3 x4 x7) (val_main_v214 (F := Ideal) x0 x1 x2 x3 x4 x5 x6 x7) := level rfl H.lev8.a H.lev8.u _ _ _ _ _ _ _ _ _ _
theorem lev10 : Level 2 (A d 10) (U d 10) (val_main_v218 (F := Ideal) x0 x1 x2 x3 x4 x7) (val_main_v220 (F := Ideal) x0 x1 x2 x3 x4 x7) (val_main_v222 (F := Ideal) x0 x1 x2 x3 x4 x5 x6 x7) (val_main_v224 (F := Ideal) x0 x1 x2 x3 x4 x5 x6 x7) (val_main_v225 (F := Ideal) x0 x1 x2 x3 x4 x7) (val_main_v227 (F := Ideal) x0 x1 x2 x3 x4 x5 x6 x7) := level rfl H.lev9.a H.lev9.u _ _ _ _ _ _ _ _ _ _
theorem lev11 : Level 1 (A d 11) (U d 11) (val_main_v231 (F := Ideal) x0 x1 x2 x3 x4 x7) (val_main_v233 (F := Ideal) x0 x1 x2 x3 x4 x7) (val_main_v235 (F := Ideal) x0 x1 x2 x3 x4 x5 x6 x7) (val_main_v237 (F := Ideal) x0 x1 x2 x3 x4 x5 x6 x7) (val_main_v238 (F := Ideal) x0 x1 x2 x3 x4 x7) (val_main_v240 (F := Ideal) x0 x1 x2 x3 x4 x5 x6 x7) := level rfl H.lev10.a H.lev10.u _ _ _ _ _ _ _ _ _ _
theorem base : At (e2 1) (val_main_v240 (F := Ideal) x0 x1 x2 x3 x4 x5 x6 x7) (qr fun l => lin (A d 12 l) (U d 12 l)) := H.lev11.u.congr fun i => by
  obtain ⟨⟨r, hr⟩, l⟩ := i
  obtain rfl : r = 0 := by omega
  rfl
theorem st11 : State 1 2 (A d 11) (U d 11) (val_main_v243 (F := Ideal) x0 x1 x2 x3 x4 x5 x6 x7) (val_main_v250 (F := Ideal) x0 x1 x2 x3 x4 x5 x6 x7) := H.lev11.state (M := 0) rfl rfl H.base (at_num bits_zero _) _ _ _ _ _ _
theorem st10 : State 2 4 (A d 10) (U d 10) (val_main_v253 (F := Ideal) x0 x1 x2 x3 x4 x5 x6 x7) (val_main_v260 (F := Ideal) x0 x1 x2 x3 x4 x5 x6 x7) := H.lev10.state (M := 1) rfl rfl H.st11.out (at_num bits_zero _) _ _ _ _ _ _
theorem st9 : State 4 8 (A d 9) (U d 9) (val_main_v263 (F := Ideal) x0 x1 x2 x3 x4 x5 x6 x7) (val_main_v270 (F := Ideal) x0 x1 x2 x3 x4 x5 x6 x7) := H.lev9.state (M := 3) rfl rfl H.st10.out (at_num bits_zero _) _ _ _ _ _ _
theorem st8 : State 8 16 (A d 8) (U d 8) (val_main_v273 (F := Ideal) x0 x1 x2 x3 x4 x5 x6 x7) (val_main_v280 (F := Ideal) x0 x1 x2 x3 x4 x5 x6 x7) := H.lev8.state (M := 7) rfl rfl H.st9.out (at_num bits_zero _) _ _ _ _ _ _
theorem st7 : State 16 32 (A d 7) (U d 7) (val_main_v283 (F := Ideal) x0 x1 x2 x3 x4 x5 x6 x7) (val_main_v290 (F := Ideal) x0 x1 x2 x3 x4 x5 x6 x7) := H.lev7.state (M := 15) rfl rfl H.st8.out (at_num bits_zero _) _ _ _ _ _ _
theorem st6 : State 32 64 (A d 6) (U d 6) (val_main_v293 (F := Ideal) x0 x1 x2 x3 x4 x5 x6 x7) (val_main_v300 (F := Ideal) x0 x1 x2 x3 x4 x5 x6 x7) := H.lev6.state (M := 31) rfl rfl H.st7.out (at_num bits_zero _) _ _ _ _ _ _
theorem st5 : State 64 128 (A d 5) (U d 5) (val_main_v303 (F := Ideal) x0 x1 x2 x3 x4 x5 x6 x7) (val_main_v310 (F := Ideal) x0 x1 x2 x3 x4 x5 x6 x7) := H.lev5.state (M := 63) rfl rfl H.st6.out (at_num bits_zero _) _ _ _ _ _ _
theorem st4 : State 128 256 (A d 4) (U d 4) (val_main_v313 (F := Ideal) x0 x1 x2 x3 x4 x5 x6 x7) (val_main_v320 (F := Ideal) x0 x1 x2 x3 x4 x5 x6 x7) := H.lev4.state (M := 127) rfl rfl H.st5.out (at_num bits_zero _) _ _ _ _ _ _
theorem st3 : State 256 512 (A d 3) (U d 3) (val_main_v323 (F := Ideal) x0 x1 x2 x3 x4 x5 x6 x7) (val_main_v330 (F := Ideal) x0 x1 x2 x3 x4 x5 x6 x7) := H.lev3.state (M := 255) rfl rfl H.st4.out (at_num bits_zero _) _ _ _ _ _ _
theorem st2 : State 512 1024 (A d 2) (U d 2) (val_main_v333 (F := Ideal) x0 x1 x2 x3 x4 x5 x6 x7) (val_main_v340 (F := Ideal) x0 x1 x2 x3 x4 x5 x6 x7) := H.lev2.state (M := 511) rfl rfl H.st3.out (at_num bits_zero _) _ _ _ _ _ _
theorem st1 : State 1024 2048 (A d 1) (U d 1) (val_main_v343 (F := Ideal) x0 x1 x2 x3 x4 x5 x6 x7) (val_main_v350 (F := Ideal) x0 x1 x2 x3 x4 x5 x6 x7) := H.lev1.state (M := 1023) rfl rfl H.st2.out (at_num bits_zero _) _ _ _ _ _ _
theorem st0 : State 2048 4096 (A d 0) (U d 0) (val_main_v353 (F := Ideal) x0 x1 x2 x3 x4 x5 x6 x7) (val_main_v360 (F := Ideal) x0 x1 x2 x3 x4 x5 x6 x7) := H.lev0.state (M := 2047) rfl rfl H.st1.out (at_num bits_zero _) _ _ _ _ _ _
theorem h_v : At E2 (val_main_v360 (F := Ideal) x0 x1 x2 x3 x4 x5 x6 x7) (qr d.h) := H.st0.out
theorem tg_v : At E2 (val_main_v371 (F := Ideal) x0) fun i => tg (qr d.gate i) := at_tg _ H.gate
theorem gel_v : At E2 (val_main_v381 (F := Ideal) x0) (qr fun l t => gel (d.gate l t)) :=
  at_mul H.gate (at_mul (at_num bits_hf _) (at_add (at_num bits_one _) H.tg_v))
theorem y_v : At e3 (val_main_v383 (F := Ideal) x0 x1 x2 x3 x4 x5 x6 x7) (q3 d.y) := to3 (at_mul H.h_v H.gel_v)
theorem ms_v : At e31 (val_main_v388 (F := Ideal) x0 x1 x2 x3 x4 x5 x6 x7) (q0 d.ms) := at_div64 (keep3 (sum3 (f := fun l t => d.y l t * d.y l t) (at_mul H.y_v H.y_v))) (at_num bits_64 _)
theorem mse_v : At e31 (val_main_v390 (F := Ideal) x0 x1 x2 x3 x4 x5 x6 x7) fun i => q0 d.ms i + epsR := at_add H.ms_v (at_num bits_eps _)
theorem rs_v : At e31 (val_main_v391 (F := Ideal) x0 x1 x2 x3 x4 x5 x6 x7) (q0 fun l t => rs (d.ms l t)) := at_rsqrt H.mse_v fun i => Dat.ms_nonneg _ _
theorem rb_v : At e31 (val_main_v394 (F := Ideal) x0 x1 x2 x3 x4 x5 x6 x7) (q0 fun l t => rb (d.ms l t)) := at_mul (at_num bits_nh _) (at_div H.rs_v H.mse_v fun i => Dat.ms_nonneg _ _)
omit H in
theorem rs_grp (l : Fin 256) (t : ℕ) : rs (d.ms l t) = rs (d.ms (ln (grp l) 0) t) := congrArg rs (gmean_grp l t)
theorem rs3_v : At e3 (val_main_v395 (F := Ideal) x0 x1 x2 x3 x4 x5 x6 x7) (q3 fun l t => rs (d.ms l t)) := all31 (f := fun l t => rs (d.ms l t)) rs_grp H.rs_v
theorem nrm_v : At E2 (val_main_v397 (F := Ideal) x0 x1 x2 x3 x4 x5 x6 x7) (qr fun l t => d.y l t * rs (d.ms l t)) := of3 (f := fun l t => d.y l t * rs (d.ms l t)) (at_mul H.y_v H.rs3_v)
theorem dgain_v : At e10 (val_main_v899 (F := Ideal) x0 x1 x2 x3 x4 x5 x6 x7 x9) d.dgain := lane10 (once (rows (f := fun l t => d.y l t * rs (d.ms l t) * d.ct l t) (at_mul H.nrm_v H.ct)))
theorem dno_v : At e3 (val_main_v407 (F := Ideal) x8 x9) (q3 d.dno) := to3 (f := d.dno) (at_mul H.ct (lane H.gain))
theorem dm_v : At e30 (val_main_v416 (F := Ideal) x0 x1 x2 x3 x4 x5 x6 x7 x8 x9) (q0 d.dm) :=
  one3 ((at_div64 (at_mul (cast3 (sum3 (f := fun l t => d.y l t * d.dno l t) (at_mul H.y_v H.dno_v))) H.rb_v) (at_num bits_64 _)).congr fun i => by
    obtain ⟨r, g⟩ := i
    unfold q0 Dat.dm; dsimp only
    rw [gmean, Finset.sum_mul]
    refine congrArg (· * (1 / 64)) (Finset.sum_congr rfl fun k _ => congrArg _ ?_)
    rw [grp_ln]; unfold Dat.ms; rw [gmean_grp (ln g k), grp_ln])
theorem dm3_v : At e3 (val_main_v417 (F := Ideal) x0 x1 x2 x3 x4 x5 x6 x7 x8 x9) (q3 d.dm) := all30 gmean_grp H.dm_v
theorem dy_v : At E2 (val_main_v422 (F := Ideal) x0 x1 x2 x3 x4 x5 x6 x7 x8 x9) (qr d.dy) :=
  of3 (f := d.dy) (at_add (at_add (at_mul H.dno_v H.rs3_v) (at_mul H.y_v H.dm3_v)) (at_mul H.dm3_v H.y_v))
theorem dh_v : At E2 (val_main_v424 (F := Ideal) x0 x1 x2 x3 x4 x5 x6 x7 x8 x9) (qr (Hh d 0)) := at_mul H.dy_v H.gel_v
theorem hdy_v : At E2 (val_main_v423 (F := Ideal) x0 x1 x2 x3 x4 x5 x6 x7 x8 x9) (qr fun l t => d.h l t * d.dy l t) := at_mul H.h_v H.dy_v
theorem dgate_v : At E2 (val_main_v436 (F := Ideal) x0 x1 x2 x3 x4 x5 x6 x7 x8 x9) (qr d.dgate) :=
  have ht := H.tg_v
  have hg := at_mul (at_num bits_c1 bcast_S_S4096x256) (at_mul (at_mul (at_num bits_hf bcast_S_S4096x256) (at_mul H.gate H.hdy_v)) (at_mul (at_add (at_num bits_one bcast_S_S4096x256) ht) (at_sub (at_num bits_one bcast_S_S4096x256) ht)))
  at_add (at_add (at_mul H.hdy_v (at_mul (at_num bits_hf _) (at_add (at_num bits_one _) ht))) hg) (at_mul (at_mul (at_num bits_c2 _) hg) (at_mul (at_num bits_three _) (at_mul H.gate H.gate)))
theorem down0 : Down 2048 (A d 0) (U d 0) (Hh d 0) (val_main_v439 (F := Ideal) x0 x1 x2 x3 x4 x5 x6 x7 x8 x9) (val_main_v443 (F := Ideal) x0 x1 x2 x3 x4 x5 x6 x7 x8 x9) (val_main_v447 (F := Ideal) x0 x1 x2 x3 x4 x5 x6 x7 x8 x9) := H.lev0.down (M := 2047) rfl rfl H.st0.before H.dh_v _ zero0 _ _ _ _ _ _ _
theorem down1 : Down 1024 (A d 1) (U d 1) (Hh d 1) (val_main_v450 (F := Ideal) x0 x1 x2 x3 x4 x5 x6 x7 x8 x9) (val_main_v454 (F := Ideal) x0 x1 x2 x3 x4 x5 x6 x7 x8 x9) (val_main_v458 (F := Ideal) x0 x1 x2 x3 x4 x5 x6 x7 x8 x9) := H.lev1.down (M := 1023) rfl rfl H.st1.before H.down0.hp _ zero0 _ _ _ _ _ _ _
theorem down2 : Down 512 (A d 2) (U d 2) (Hh d 2) (val_main_v461 (F := Ideal) x0 x1 x2 x3 x4 x5 x6 x7 x8 x9) (val_main_v465 (F := Ideal) x0 x1 x2 x3 x4 x5 x6 x7 x8 x9) (val_main_v469 (F := Ideal) x0 x1 x2 x3 x4 x5 x6 x7 x8 x9) := H.lev2.down (M := 511) rfl rfl H.st2.before H.down1.hp _ zero0 _ _ _ _ _ _ _
theorem down3 : Down 256 (A d 3) (U d 3) (Hh d 3) (val_main_v472 (F := Ideal) x0 x1 x2 x3 x4 x5 x6 x7 x8 x9) (val_main_v476 (F := Ideal) x0 x1 x2 x3 x4 x5 x6 x7 x8 x9) (val_main_v480 (F := Ideal) x0 x1 x2 x3 x4 x5 x6 x7 x8 x9) := H.lev3.down (M := 255) rfl rfl H.st3.before H.down2.hp _ zero0 _ _ _ _ _ _ _
theorem down4 : Down 128 (A d 4) (U d 4) (Hh d 4) (val_main_v483 (F := Ideal) x0 x1 x2 x3 x4 x5 x6 x7 x8 x9) (val_main_v487 (F := Ideal) x0 x1 x2 x3 x4 x5 x6 x7 x8 x9) (val_main_v491 (F := Ideal) x0 x1 x2 x3 x4 x5 x6 x7 x8 x9) := H.lev4.down (M := 127) rfl rfl H.st4.before H.down3.hp _ zero0 _ _ _ _ _ _ _
theorem down5 : Down 64 (A d 5) (U d 5) (Hh d 5) (val_main_v494 (F := Ideal) x0 x1 x2 x3 x4 x5 x6 x7 x8 x9) (val_main_v498 (F := Ideal) x0 x1 x2 x3 x4 x5 x6 x7 x8 x9) (val_main_v502 (F := Ideal) x0 x1 x2 x3 x4 x5 x6 x7 x8 x9) := H.lev5.down (M := 63) rfl rfl H.st5.before H.down4.hp _ zero0 _ _ _ _ _ _ _
theorem down6 : Down 32 (A d 6) (U d 6) (Hh d 6) (val_main_v505 (F := Ideal) x0 x1 x2 x3 x4 x5 x6 x7 x8 x9) (val_main_v509 (F := Ideal) x0 x1 x2 x3 x4 x5 x6 x7 x8 x9) (val_main_v513 (F := Ideal) x0 x1 x2 x3 x4 x5 x6 x7 x8 x9) := H.lev6.down (M := 31) rfl rfl H.st6.before H.down5.hp _ zero0 _ _ _ _ _ _ _
theorem down7 : Down 16 (A d 7) (U d 7) (Hh d 7) (val_main_v516 (F := Ideal) x0 x1 x2 x3 x4 x5 x6 x7 x8 x9) (val_main_v520 (F := Ideal) x0 x1 x2 x3 x4 x5 x6 x7 x8 x9) (val_main_v524 (F := Ideal) x0 x1 x2 x3 x4 x5 x6 x7 x8 x9) := H.lev7.down (M := 15) rfl rfl H.st7.before H.down6.hp _ zero0 _ _ _ _ _ _ _
theorem down8 : Down 8 (A d 8) (U d 8) (Hh d 8) (val_main_v527 (F := Ideal) x0 x1 x2 x3 x4 x5 x6 x7 x8 x9) (val_main_v531 (F := Ideal) x0 x1 x2 x3 x4 x5 x6 x7 x8 x9) (val_main_v535 (F := Ideal) x0 x1 x2 x3 x4 x5 x6 x7 x8 x9) := H.lev8.down (M := 7) rfl rfl H.st8.before H.down7.hp _ zero0 _ _ _ _ _ _ _
theorem down9 : Down 4 (A d 9) (U d 9) (Hh d 9) (val_main_v538 (F := Ideal) x0 x1 x2 x3 x4 x5 x6 x7 x8 x9) (val_main_v542 (F := Ideal) x0 x1 x2 x3 x4 x5 x6 x7 x8 x9) (val_main_v546 (F := Ideal) x0 x1 x2 x3 x4 x5 x6 x7 x8 x9) := H.lev9.down (M := 3) rfl rfl H.st9.before H.down8.hp _ zero0 _ _ _ _ _ _ _
theorem down10 : Down 2 (A d 10) (U d 10) (Hh d 10) (val_main_v549 (F := Ideal) x0 x1 x2 x3 x4 x5 x6 x7 x8 x9) (val_main_v553 (F := Ideal) x0 x1 x2 x3 x4 x5 x6 x7 x8 x9) (val_main_v557 (F := Ideal) x0 x1 x2 x3 x4 x5 x6 x7 x8 x9) := H.lev10.down (M := 1) rfl rfl H.st10.before H.down9.hp _ zero0 _ _ _ _ _ _ _
theorem down11 : Down 1 (A d 11) (U d 11) (Hh d 11) (val_main_v560 (F := Ideal) x0 x1 x2 x3 x4 x5 x6 x7 x8 x9) (val_main_v564 (F := Ideal) x0 x1 x2 x3 x4 x5 x6 x7 x8 x9) (val_main_v568 (F := Ideal) x0 x1 x2 x3 x4 x5 x6 x7 x8 x9) := H.lev11.down (M := 0) rfl rfl H.st11.before H.down10.hp _ zero0 _ _ _ _ _ _ _
theorem grad11 : Grad 2 (A d 11) (U d 11) (Hh d 11) (val_main_v582 (F := Ideal) x0 x1 x2 x3 x4 x5 x6 x7 x8 x9) (val_main_v583 (F := Ideal) x0 x1 x2 x3 x4 x5 x6 x7 x8 x9) := H.lev11.grad_one H.down11 _ _ _ _ _ _ _ _ _ _ _ _ zero0 zero0 zero0 zero0 _ _
theorem grad10 : Grad 4 (A d 10) (U d 10) (Hh d 10) (val_main_v601 (F := Ideal) x0 x1 x2 x3 x4 x5 x6 x7 x8 x9) (val_main_v602 (F := Ideal) x0 x1 x2 x3 x4 x5 x6 x7 x8 x9) := H.lev10.grad H.down10 rfl H.grad11 _ _ _ _ _ _ _ _ _ _ _ _ zero0 zero0 zero0 zero0 _ _
theorem grad9 : Grad 8 (A d 9) (U d 9) (Hh d 9) (val_main_v620 (F := Ideal) x0 x1 x2 x3 x4 x5 x6 x7 x8 x9) (val_main_v621 (F := Ideal) x0 x1 x2 x3 x4 x5 x6 x7 x8 x9) := H.lev9.grad H.down9 rfl H.grad10 _ _ _ _ _ _ _ _ _ _ _ _ zero0 zero0 zero0 zero0 _ _
theorem grad8 : Grad 16 (A d 8) (U d 8) (Hh d 8) (val_main_v639 (F := Ideal) x0 x1 x2 x3 x4 x5 x6 x7 x8 x9) (val_main_v640 (F := Ideal) x0 x1 x2 x3 x4 x5 x6 x7 x8 x9) := H.lev8.grad H.down8 rfl H.grad9 _ _ _ _ _ _ _ _ _ _ _ _ zero0 zero0 zero0 zero0 _ _
theorem grad7 : Grad 32 (A d 7) (U d 7) (Hh d 7) (val_main_v658 (F := Ideal) x0 x1 x2 x3 x4 x5 x6 x7 x8 x9) (val_main_v659 (F := Ideal) x0 x1 x2 x3 x4 x5 x6 x7 x8 x9) := H.lev7.grad H.down7 rfl H.grad8 _ _ _ _ _ _ _ _ _ _ _ _ zero0 zero0 zero0 zero0 _ _
theorem grad6 : Grad 64 (A d 6) (U d 6) (Hh d 6) (val_main_v677 (F := Ideal) x0 x1 x2 x3 x4 x5 x6 x7 x8 x9) (val_main_v678 (F := Ideal) x0 x1 x2 x3 x4 x5 x6 x7 x8 x9) := H.lev6.grad H.down6 rfl H.grad7 _ _ _ _ _ _ _ _ _ _ _ _ zero0 zero0 zero0 zero0 _ _
theorem grad5 : Grad 128 (A d 5) (U d 5) (Hh d 5) (val_main_v696 (F := Ideal) x0 x1 x2 x3 x4 x5 x6 x7 x8 x9) (val_main_v697 (F := Ideal) x0 x1 x2 x3 x4 x5 x6 x7 x8 x9) := H.lev5.grad H.down5 rfl H.grad6 _ _ _ _ _ _ _ _ _ _ _ _ zero0 zero0 zero0 zero0 _ _
theorem grad4 : Grad 256 (A d 4) (U d 4) (Hh d 4) (val_main_v715 (F := Ideal) x0 x1 x2 x3 x4 x5 x6 x7 x8 x9) (val_main_v716 (F := Ideal) x0 x1 x2 x3 x4 x5 x6 x7 x8 x9) := H.lev4.grad H.down4 rfl H.grad5 _ _ _ _ _ _ _ _ _ _ _ _ zero0 zero0 zero0 zero0 _ _
theorem grad3 : Grad 512 (A d 3) (U d 3) (Hh d 3) (val_main_v734 (F := Ideal) x0 x1 x2 x3 x4 x5 x6 x7 x8 x9) (val_main_v735 (F := Ideal) x0 x1 x2 x3 x4 x5 x6 x7 x8 x9) := H.lev3.grad H.down3 rfl H.grad4 _ _ _ _ _ _ _ _ _ _ _ _ zero0 zero0 zero0 zero0 _ _
theorem grad2 : Grad 1024 (A d 2) (U d 2) (Hh d 2) (val_main_v753 (F := Ideal) x0 x1 x2 x3 x4 x5 x6 x7 x8 x9) (val_main_v754 (F := Ideal) x0 x1 x2 x3 x4 x5 x6 x7 x8 x9) := H.lev2.grad H.down2 rfl H.grad3 _ _ _ _ _ _ _ _ _ _ _ _ zero0 zero0 zero0 zero0 _ _
theorem grad1 : Grad 2048 (A d 1) (U d 1) (Hh d 1) (val_main_v772 (F := Ideal) x0 x1 x2 x3 x4 x5 x6 x7 x8 x9) (val_main_v773 (F := Ideal) x0 x1 x2 x3 x4 x5 x6 x7 x8 x9) := H.lev1.grad H.down1 rfl H.grad2 _ _ _ _ _ _ _ _ _ _ _ _ zero0 zero0 zero0 zero0 _ _
theorem grad0 : Grad 4096 (A d 0) (U d 0) (Hh d 0) (val_main_v791 (F := Ideal) x0 x1 x2 x3 x4 x5 x6 x7 x8 x9) (val_main_v792 (F := Ideal) x0 x1 x2 x3 x4 x5 x6 x7 x8 x9) := H.lev0.grad H.down0 rfl H.grad1 _ _ _ _ _ _ _ _ _ _ _ _ zero0 zero0 zero0 zero0 _ _
theorem g_v : At E2 (val_main_v791 (F := Ideal) x0 x1 x2 x3 x4 x5 x6 x7 x8 x9) (qr d.g) := H.grad0.u
theorem da_v : At E2 (val_main_v792 (F := Ideal) x0 x1 x2 x3 x4 x5 x6 x7 x8 x9) (qr d.da) := H.grad0.a
theorem gxc_v : At E2 (val_main_v794 (F := Ideal) x0 x1 x2 x3 x4 x5 x6 x7 x8 x9) (qr fun l t => d.g l t * d.xc l t) := at_mul H.g_v H.xc_v
theorem dla_v : At E2 (val_main_v803 (F := Ideal) x0 x1 x2 x3 x4 x5 x6 x7 x8 x9) (qr d.dla) :=
  at_add (at_mul (at_num bits_tw _) (at_mul (at_neg (at_mul (at_mul H.gxc_v H.gi_v) H.im_v)) H.ex_v)) (at_mul H.da_v H.a_v)
theorem gx_v : At e3 (val_main_v805 (F := Ideal) x0 x1 x2 x3 x4 x5 x6 x7 x8 x9) (q3 d.gx) := at_mul (to3 (f := fun l t => d.mult l t * (d.g l t * d.xc l t)) (at_mul H.mult_v H.gxc_v)) H.sgi_v
theorem dbx_v : At e10 (val_main_v897 (F := Ideal) x0 x1 x2 x3 x4 x5 x6 x7 x8 x9) d.dbx := rows3 H.gx_v
theorem dwx_v (l l' : Fin 256) (h : grp l = grp l') : ((val_main_v896 (F := Ideal) x0 x1 x2 x3 x4 x5 x6 x7 x8 x9) (ix2 l l') : EReal) = ((d.dwx l l' : ℝ) : EReal) := cross H.gx_v H.xh_v l l' h
theorem dlam_v : At e10 (val_main_v898 (F := Ideal) x0 x1 x2 x3 x4 x5 x6 x7 x8 x9) d.dlam :=
  lane10 ((at_neg (at_mul (once (rows (f := fun l t => m8 * d.r l t * d.dla l t) (at_mul H.r8_v H.dla_v))) H.spd_v)))
theorem ga_v : At e3 (val_main_v827 (F := Ideal) x0 x1 x2 x3 x4 x5 x6 x7 x8 x9) (q3 d.ga) :=
  at_mul (to3 (f := fun l t => m8 * (d.dla l t * spl (-d.lam l))) (at_mul (at_num bits_m8 _) (at_mul H.dla_v (lane H.spl_v)))) H.sr_v
theorem dba_v : At e10 (val_main_v893 (F := Ideal) x0 x1 x2 x3 x4 x5 x6 x7 x8 x9) d.dba := rows3 H.ga_v
theorem dwa_v (l l' : Fin 256) (h : grp l = grp l') : ((val_main_v892 (F := Ideal) x0 x1 x2 x3 x4 x5 x6 x7 x8 x9) (ix2 l l') : EReal) = ((d.dwa l l' : ℝ) : EReal) := cross H.ga_v H.xh_v l l' h
theorem dxc_v : At E2 (val_main_v837 (F := Ideal) x0 x1 x2 x3 x4 x5 x6 x7 x8 x9) (qr d.dxc) := at_add (at_add (at_mul H.mg_v H.g_v) (back3 H.wx H.gx_v)) (back3 H.wa H.ga_v)
theorem dcb_v : At e10 (val_main_v889 (F := Ideal) x0 x1 x2 x3 x4 x5 x6 x7 x8 x9) d.dcb := lane10 (once (rows H.dxc_v))
theorem dcw_v (j : Fin 4) (l : Fin 256) : ((val_main_v880 (F := Ideal) x0 x1 x2 x3 x4 x5 x6 x7 x8 x9) (ix2 j l) : EReal) = ((d.dcw j l : ℝ) : EReal) := by
  have p (k : ℕ) {x : FVec Ideal S4096x256 .f32} (hx : At E2 x (qr (dn k d.xb))) := lane10 (once (rows (f := fun l t => dn k d.xb l t * d.dxc l t) (at_mul hx H.dxc_v)))
  refine (at_add (at_add (at_add (place 3 0 (by omega) (p 0 H.x0_v) _) (place 2 1 (by omega) (p 1 H.x1_v) _)) (place 1 2 (by omega) (p 2 H.x2_v) _))
    (place 0 3 (by omega) (p 3 H.x3_v) _) (j, l)).trans (congrArg _ ?_)
  dsimp only
  match j with
  | ⟨0, _⟩ => simp [Dat.dcw]
  | ⟨1, _⟩ => simp [Dat.dcw]
  | ⟨2, _⟩ => simp [Dat.dcw]
  | ⟨3, _⟩ => simp [Dat.dcw]
theorem dxb_v : At E2 (val_main_v884 (F := Ideal) x0 x1 x2 x3 x4 x5 x6 x7 x8 x9) (qr d.dxb) := by
  have m (j : ℕ) (hj : j < 4) (h : S4x256.Slices ![j, 0] S1x256) := at_mul H.dxc_v (lane (taps hj H.cw h))
  refine from99 ((at_add (at_add (at_add (lift 3 0 (by omega) (f := fun l t => d.dxc l t * d.cw 3 l) (m 3 (by omega) _) _) (lift 2 1 (by omega) (f := fun l t => d.dxc l t * d.cw 2 l) (m 2 (by omega) _) _))
    (lift 1 2 (by omega) (f := fun l t => d.dxc l t * d.cw 1 l) (m 1 (by omega) _) _)) (lift 0 3 (by omega) (f := fun l t => d.dxc l t * d.cw 0 l) (m 0 (by omega) _) _)).congr fun i => ?_)
  obtain ⟨t, l⟩ := i
  have ht := t.isLt
  unfold qr up Dat.dxb; dsimp only
  unfold up
  simp only [Nat.sub_self, Nat.add_zero, ht, if_true, ite_mul, zero_mul]
end Holds

end Cert.LruRefIdeal.Read
end
-- ==== Proof.LruWin.lean ====
module

public import proofs.«01_k».proof.Pre_lru_domain
public import proofs.«01_k».proof.Proof.LruOut
public import proofs.«01_k».proof.Proof.LruRefSide
public import proofs.«01_k».proof.Proof.Gen.LruRefIdeal.Run
public import Idealize.ShloMosaic.Lib.ReduceAll
public import Idealize.ShloMosaic.Lib.StableHlo.RunRead
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Common

/-! What the kernel's windows read. -/

namespace Cert.LruIdeal.Value
open Cert.LruIdeal Cert.LruIdeal.Gen Cert.LruIdeal.Block

variable (m : (ℓ : Loc nD τ sig) → Buf (Elt Ideal) ℓ)

abbrev X0 (c : Dev nD) : FVec Ideal S4096x3072 .f32 := m ((c : Thread nD τ).loc main_arg0)
abbrev X1 (c : Dev nD) : FVec Ideal S4x256 .f32 := m ((c : Thread nD τ).loc main_arg1)
abbrev X2 (c : Dev nD) : FVec Ideal S256 .f32 := m ((c : Thread nD τ).loc main_arg2)
abbrev X3 (c : Dev nD) : FVec Ideal S4x64x64 .f32 := m ((c : Thread nD τ).loc main_arg3)
abbrev X4 (c : Dev nD) : FVec Ideal S4x64 .f32 := m ((c : Thread nD τ).loc main_arg4)
abbrev X5 (c : Dev nD) : FVec Ideal S4x64x64 .f32 := m ((c : Thread nD τ).loc main_arg5)
abbrev X6 (c : Dev nD) : FVec Ideal S4x64 .f32 := m ((c : Thread nD τ).loc main_arg6)
abbrev X7 (c : Dev nD) : FVec Ideal S256 .f32 := m ((c : Thread nD τ).loc main_arg7)
abbrev X8 (c : Dev nD) : FVec Ideal S256 .f32 := m ((c : Thread nD τ).loc main_arg8)
abbrev X9 (c : Dev nD) : FVec Ideal S4096x256 .f32 := m ((c : Thread nD τ).loc main_arg9)
abbrev X10 (c : Dev nD) : FVec Ideal S4096x3072 .f32 := m ((c : Thread nD τ).loc main_arg10)

variable (c : Dev nD)

open LruMath (grp pos Dat Q ln)

/-! ### What the host prepares -/

theorem v352 (l : Fin 256) : (V m c main_v352 (ix2 0 l) : EReal) = X4 m c (ix2 (grp l) (pos l)) := by
  unfold V; simp only [hostOps0, hostOps0_1, hostOps0_2, hostOps0_3, hostOps0_4, List.flatten_cons, List.flatten_nil, List.append_nil, List.cons_append, List.nil_append]; entry_read; pointwise; rfl
theorem v365 (l : Fin 256) : (V m c main_v365 (ix2 0 l) : EReal) = X6 m c (ix2 (grp l) (pos l)) := by
  unfold V; simp only [hostOps0, hostOps0_1, hostOps0_2, hostOps0_3, hostOps0_4, List.flatten_cons, List.flatten_nil, List.append_nil, List.cons_append, List.nil_append]; entry_read; pointwise; rfl
theorem v339 (l : Fin 256) : (V m c main_v339 (ix2 0 l) : EReal) = X2 m c (ix1 l) := by
  unfold V; simp only [hostOps0, hostOps0_1, hostOps0_2, hostOps0_3, hostOps0_4, List.flatten_cons, List.flatten_nil, List.append_nil, List.cons_append, List.nil_append]; entry_read; pointwise
theorem v366 (l : Fin 256) : (V m c main_v366 (ix2 0 l) : EReal) = X7 m c (ix1 l) := by
  unfold V; simp only [hostOps0, hostOps0_1, hostOps0_2, hostOps0_3, hostOps0_4, List.flatten_cons, List.flatten_nil, List.append_nil, List.cons_append, List.nil_append]; entry_read; pointwise
theorem v367 (l : Fin 256) : (V m c main_v367 (ix2 0 l) : EReal) = X8 m c (ix1 l) := by
  unfold V; simp only [hostOps0, hostOps0_1, hostOps0_2, hostOps0_3, hostOps0_4, List.flatten_cons, List.flatten_nil, List.append_nil, List.cons_append, List.nil_append]; entry_read; pointwise
theorem v338 (i) : (V m c main_v338 i : EReal) = X10 m c i := by
  unfold V; simp only [hostOps0, hostOps0_1, hostOps0_2, hostOps0_3, hostOps0_4, List.flatten_cons, List.flatten_nil, List.append_nil, List.cons_append, List.nil_append]; entry_read; rfl
theorem va0 (i) : (V m c main_arg0 i : EReal) = X0 m c i := by
  unfold V; simp only [hostOps0, hostOps0_1, hostOps0_2, hostOps0_3, hostOps0_4, List.flatten_cons, List.flatten_nil, List.append_nil, List.cons_append, List.nil_append]; entry_read; rfl
theorem va1 (i) : (V m c main_arg1 i : EReal) = X1 m c i := by
  unfold V; simp only [hostOps0, hostOps0_1, hostOps0_2, hostOps0_3, hostOps0_4, List.flatten_cons, List.flatten_nil, List.append_nil, List.cons_append, List.nil_append]; entry_read; rfl
theorem va9 (i) : (V m c main_arg9 i : EReal) = X9 m c i := by
  unfold V; simp only [hostOps0, hostOps0_1, hostOps0_2, hostOps0_3, hostOps0_4, List.flatten_cons, List.flatten_nil, List.append_nil, List.cons_append, List.nil_append]; entry_read; rfl
theorem v351 (k l : Fin 256) : (V m c main_v351 (ix2 k l) : EReal)
    = FloatOps.uitofp (F := Ideal) .f32 (IntOp.cmpi .eq (IntOp.addi (BitVec.ofNat 32 (grp k).val) 0#32) (BitVec.ofNat 32 (grp l).val)) * X3 m c (ix3 (grp k) (pos k) (pos l)) := by
  unfold V; simp only [hostOps0, hostOps0_1, hostOps0_2, hostOps0_3, hostOps0_4, List.flatten_cons, List.flatten_nil, List.append_nil, List.cons_append, List.nil_append]; entry_read; pointwise; rfl
theorem v364 (k l : Fin 256) : (V m c main_v364 (ix2 k l) : EReal)
    = FloatOps.uitofp (F := Ideal) .f32 (IntOp.cmpi .eq (IntOp.addi (BitVec.ofNat 32 (grp k).val) 0#32) (BitVec.ofNat 32 (grp l).val)) * X5 m c (ix3 (grp k) (pos k) (pos l)) := by
  unfold V; simp only [hostOps0, hostOps0_1, hostOps0_2, hostOps0_3, hostOps0_4, List.flatten_cons, List.flatten_nil, List.append_nil, List.cons_append, List.nil_append]; entry_read; pointwise; rfl
/-- The group of a lane, as the host divides for it. -/
def lab : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32))) (broadcastInDim S256 ![] bcast_S_S256 (constantI S_ 32 0#32))))
    (subi (Host.divsi (iotaInDim S256 32 0) (broadcastInDim S256 ![] bcast_S_S256 (constantI S_ 32 64#32))) (broadcastInDim S256 ![] bcast_S_S256 (constantI S_ 32 1#32)))
    (Host.divsi (iotaInDim S256 32 0) (broadcastInDim S256 ![] bcast_S_S256 (constantI S_ 32 64#32)))
theorem lab_entry : ∀ l : Fin 256, lab (ix1 l) = BitVec.ofNat 32 (grp l).val := by decide +kernel
theorem v377 (i j : Fin 256) : (V m c main_v377 (ix2 i j) : EReal)
    = Ideal.div (FloatOps.uitofp (F := Ideal) .f32 (IntOp.cmpi .eq (lab (ix1 i)) (lab (ix1 j)))) (Ideal.ofBits .f32 0x42800000#32) := by
  unfold V; simp only [hostOps0, hostOps0_1, hostOps0_2, hostOps0_3, hostOps0_4, List.flatten_cons, List.flatten_nil, List.append_nil, List.cons_append, List.nil_append]; entry_read; pointwise; simp only [StableHlo.TRef.ofBuf_toBuf]; rfl
theorem same : ∀ g g' : Fin 4, IntOp.cmpi .eq (BitVec.ofNat 32 g.val) (BitVec.ofNat 32 g'.val) = if g = g' then 1#1 else 0#1 := by decide +kernel
theorem same' : ∀ g g' : Fin 4, IntOp.cmpi .eq (IntOp.addi (BitVec.ofNat 32 g.val) 0#32) (BitVec.ofNat 32 g'.val) = if g = g' then 1#1 else 0#1 := by decide +kernel
theorem bits_64 : Ideal.ofBits .f32 0x42800000#32 = ((64 : ℝ) : EReal) := by
  simp [Ideal.ofBits, Ideal.ieee, -EReal.coe_mul, -EReal.coe_neg]; norm_num

/-! ### The windows -/

variable (t : Fin cfg0.N)
theorem idx : ∀ t : Fin cfg0.N, win0_0.index t = ![7 - t.val, 8] ∧ win0_1.index t = ![6 - t.val, 8] ∧ win0_2.index t = ![7 - t.val, 9]
    ∧ win0_3.index t = ![7 - t.val, 0] ∧ win0_4.index t = ![6 - t.val, 0] ∧ win0_5.index t = ![7 - t.val, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0] ∧ win0_13.index t = ![0, 0]
    ∧ win0_14.index t = ![0, 0] ∧ win0_15.index t = ![7 - t.val, 4] := (by decide +kernel : ∀ t : Fin grid0.N, _)
theorem first : ∀ t : Fin cfg0.N, Scalar.cmpi .eq (BitVec.ofNat 32 ((grid0.coords t) 0).val) 7#32 = if t.val = 7 then 1#1 else 0#1 :=
  (by decide +kernel : ∀ t : Fin grid0.N, Scalar.cmpi .eq (BitVec.ofNat 32 ((grid0.coords t) 0).val) 7#32 = if t.val = 7 then 1#1 else 0#1)
/-- The rows before the first are not there. -/
theorem keep : (k0_pay14 (F := Ideal) (grid0.coords t) : EReal) = if t.val = 7 then 0 else 1 := by
  show Scalar.select (Scalar.cmpi .eq (BitVec.ofNat 32 ((grid0.coords t) 0).val) 7#32) (Ideal.ofBits .f32 0x00000000#32) (Ideal.ofBits .f32 0x3F800000#32) = _
  rw [first, LruMath.bits_zero, bits_one]
  split
  · exact EReal.coe_zero
  · exact EReal.coe_one

def base : ℕ := 512 * (7 - t.val)
theorem base_le (r : Fin 512) : base t + r.val < 4096 := by unfold base; omega
def row (r : Fin 512) : Fin 4096 := ⟨base t + r.val, base_le t r⟩
/-- The row 512 before. -/
def row' (r : Fin 512) : Fin 4096 := ⟨512 * (6 - t.val) + r.val, by omega⟩
def cx (l : Fin 256) : Fin 3072 := ⟨2048 + l.val, by omega⟩
def cg (l : Fin 256) : Fin 3072 := ⟨2304 + l.val, by omega⟩

theorem read0 (r : Fin 512) (l : Fin 256) : (iblk m c 0 t (ix2 r l) : EReal) = X0 m c (ix2 (row t r) (cx l)) := by refine Eq.trans ?_ (va0 m c _); blk_ext [iblk, idx t, row, base, cx]
theorem read1 (r : Fin 512) (l : Fin 256) : (iblk m c 1 t (ix2 r l) : EReal) = X0 m c (ix2 (row' t r) (cx l)) := by refine Eq.trans ?_ (va0 m c _); blk_ext [iblk, idx t, row', cx]
theorem read2 (r : Fin 512) (l : Fin 256) : (iblk m c 2 t (ix2 r l) : EReal) = X0 m c (ix2 (row t r) (cg l)) := by refine Eq.trans ?_ (va0 m c _); blk_ext [iblk, idx t, row, base, cg]
theorem read3 (r : Fin 512) (l : Fin 256) : (iblk m c 3 t (ix2 r l) : EReal) = V m c main_v337 (ix2 (row t r) l) := by blk_ext [iblk, idx t, row, base]
theorem read4 (r : Fin 512) (l : Fin 256) : (iblk m c 4 t (ix2 r l) : EReal) = V m c main_v337 (ix2 (row' t r) l) := by blk_ext [iblk, idx t, row']
theorem read5 (r : Fin 512) (l : Fin 256) : (iblk m c 5 t (ix2 r l) : EReal) = X9 m c (ix2 (row t r) l) := by refine Eq.trans ?_ (va9 m c _); blk_ext [iblk, idx t, row, base]
theorem read6 (j : Fin 4) (l : Fin 256) : (iblk m c 6 t (ix2 j l) : EReal) = X1 m c (ix2 j l) := by refine Eq.trans ?_ (va1 m c _); blk_ext [iblk, idx t]
theorem read7 (l : Fin 256) : (iblk m c 7 t (ix2 0 l) : EReal) = X2 m c (ix1 l) := by refine Eq.trans ?_ (v339 m c l); blk_ext [iblk, idx t]
theorem read8 (k l : Fin 256) : (iblk m c 8 t (ix2 k l) : EReal) = if grp k = grp l then (X3 m c (ix3 (grp l) (pos k) (pos l)) : EReal) else 0 := by
  refine Eq.trans ?_ ((v351 m c k l).trans ?_)
  · blk_ext [iblk, idx t]
  · rw [same']
    split
    next h => rw [h]; show ((1 : ℕ) : EReal) * _ = _; rw [Nat.cast_one, one_mul]
    next => show ((0 : ℕ) : EReal) * _ = _; rw [Nat.cast_zero, zero_mul]
theorem read9 (l : Fin 256) : (iblk m c 9 t (ix2 0 l) : EReal) = X4 m c (ix2 (grp l) (pos l)) := by refine Eq.trans ?_ (v352 m c l); blk_ext [iblk, idx t]
theorem read10 (k l : Fin 256) : (iblk m c 10 t (ix2 k l) : EReal) = if grp k = grp l then (X5 m c (ix3 (grp l) (pos k) (pos l)) : EReal) else 0 := by
  refine Eq.trans ?_ ((v364 m c k l).trans ?_)
  · blk_ext [iblk, idx t]
  · rw [same']
    split
    next h => rw [h]; show ((1 : ℕ) : EReal) * _ = _; rw [Nat.cast_one, one_mul]
    next => show ((0 : ℕ) : EReal) * _ = _; rw [Nat.cast_zero, zero_mul]
theorem read11 (l : Fin 256) : (iblk m c 11 t (ix2 0 l) : EReal) = X6 m c (ix2 (grp l) (pos l)) := by refine Eq.trans ?_ (v365 m c l); blk_ext [iblk, idx t]
theorem read12 (l : Fin 256) : (iblk m c 12 t (ix2 0 l) : EReal) = X7 m c (ix1 l) := by refine Eq.trans ?_ (v366 m c l); blk_ext [iblk, idx t]
theorem read13 (l : Fin 256) : (iblk m c 13 t (ix2 0 l) : EReal) = X8 m c (ix1 l) := by refine Eq.trans ?_ (v367 m c l); blk_ext [iblk, idx t]
theorem read14 : Diag (iblk m c 14 t) fun _ _ => 1 / 64 := fun k l => by
  have h : (iblk m c 14 t (ix2 k l) : EReal) = (V m c main_v377 (ix2 k l) : EReal) := by blk_ext [iblk, idx t]
  rw [h, v377, lab_entry, lab_entry, same, bits_64]
  split
  · show Ideal.div ((1 : ℕ) : EReal) _ = _
    rw [div_real _ (by norm_num)]; norm_num
  · show Ideal.div ((0 : ℕ) : EReal) _ = _
    rw [div_real _ (by norm_num)]; norm_num

/-! ### The arguments over the reals -/

/-- What the precondition says of the arguments: all but the running `dz` are finite. -/
structure Fin' (c : Dev nD) : Prop where
  z : ∀ i, IsReal (X0 m c i)
  cw : ∀ i, IsReal (X1 m c i)
  cb : ∀ i, IsReal (X2 m c i)
  wa : ∀ i, IsReal (X3 m c i)
  ba : ∀ i, IsReal (X4 m c i)
  wx : ∀ i, IsReal (X5 m c i)
  bx : ∀ i, IsReal (X6 m c i)
  lam : ∀ i, IsReal (X7 m c i)
  gain : ∀ i, IsReal (X8 m c i)
  ct : ∀ i, IsReal (X9 m c i)

theorem real_eq {x : EReal} (h : IsReal x) : x = ((x.toReal : ℝ) : EReal) := by obtain ⟨y, rfl⟩ := h; rfl
/-- A column of 4096 rows as a sequence of reals. -/
def ext (x : Fin 4096 → EReal) (t : ℕ) : ℝ := if h : t < 4096 then (x ⟨t, h⟩).toReal else 0
theorem ext_eq (x : Fin 4096 → EReal) (t : Fin 4096) (h : IsReal (x t)) : x t = ((ext x t.val : ℝ) : EReal) := by
  unfold ext; rw [dif_pos t.isLt]; exact real_eq h

def dat : Dat where
  xb l := ext fun t => X0 m c (ix2 t (cx l))
  gate l := ext fun t => X0 m c (ix2 t (cg l))
  ct l := ext fun t => X9 m c (ix2 t l)
  cw j l := (X1 m c (ix2 j l) : EReal).toReal
  cb l := (X2 m c (ix1 l) : EReal).toReal
  wa g i j := (X3 m c (ix3 g i j) : EReal).toReal
  ba l := (X4 m c (ix2 (grp l) (pos l)) : EReal).toReal
  wx g i j := (X5 m c (ix3 g i j) : EReal).toReal
  bx l := (X6 m c (ix2 (grp l) (pos l)) : EReal).toReal
  lam l := (X7 m c (ix1 l) : EReal).toReal
  gain l := (X8 m c (ix1 l) : EReal).toReal

open Cert.LruRefIdeal.Read (Args Holds val_main_v0 val_main_v1 l4 e4)
variable {m c}
theorem args_of (hf : Fin' m c) : Args (dat m c) (X0 m c) (X1 m c) (X2 m c) (X3 m c) (X4 m c) (X5 m c) (X6 m c) (X7 m c) (X8 m c) (X9 m c) where
  xb p := by
    have h : (val_main_v0 (F := Ideal) (X0 m c) (ix2 p.1 p.2) : EReal) = X0 m c (ix2 p.1 (cx p.2)) := by
      pointwise [val_main_v0, cx]
    exact h.trans (ext_eq (fun t => X0 m c (ix2 t (cx p.2))) p.1 (hf.z _))
  gate p := by
    have h : (val_main_v1 (F := Ideal) (X0 m c) (ix2 p.1 p.2) : EReal) = X0 m c (ix2 p.1 (cg p.2)) := by
      pointwise [val_main_v1, cg]
    exact h.trans (ext_eq (fun t => X0 m c (ix2 t (cg p.2))) p.1 (hf.z _))
  cw j l := real_eq (hf.cw _)
  cb l := real_eq (hf.cb _)
  wa g i j := real_eq (hf.wa _)
  ba p := by
    refine (real_eq (hf.ba _)).trans ?_
    show ((X4 m c (ix2 p.1 p.2) : EReal).toReal : EReal) = (((X4 m c (ix2 (grp (ln p.1 p.2)) (pos (ln p.1 p.2))) : EReal).toReal : ℝ) : EReal)
    rw [LruMath.grp_ln, LruMath.pos_ln]
  wx g i j := real_eq (hf.wx _)
  bx p := by
    refine (real_eq (hf.bx _)).trans ?_
    show ((X6 m c (ix2 p.1 p.2) : EReal).toReal : EReal) = (((X6 m c (ix2 (grp (ln p.1 p.2)) (pos (ln p.1 p.2))) : EReal).toReal : ℝ) : EReal)
    rw [LruMath.grp_ln, LruMath.pos_ln]
  lam l := real_eq (hf.lam _)
  gain l := real_eq (hf.gain _)
  ct p := ext_eq (fun t => X9 m c (ix2 t p.2)) p.1 (hf.ct _)

end Cert.LruIdeal.Value
end
-- ==== Proof.LruState.lean ====
module

public import proofs.«01_k».proof.Pre_lru_domain
public import proofs.«01_k».proof.Proof.LruWin
public import proofs.«01_k».proof.Proof.LruRefSide
public import proofs.«01_k».proof.Proof.Gen.LruRefIdeal.Run
public import Idealize.ShloMosaic.Lib.ReduceAll
public import Idealize.ShloMosaic.Lib.StableHlo.RunRead
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Common

/-! What the kernel's windows read. -/

namespace Cert.LruIdeal.Value
open Cert.LruIdeal Cert.LruIdeal.Gen Cert.LruIdeal.Block

variable (m : (ℓ : Loc nD τ sig) → Buf (Elt Ideal) ℓ)

variable (c : Dev nD)

/-! ### The recurrence the host runs before the launch -/

open Idealize.ShloMosaic.StableHlo (after)

abbrev line : List (HloOp τ sig (Elt Ideal)) := List.flatten [hostOps0, hostOps0_1, hostOps0_2, hostOps0_3, hostOps0_4]

variable {W : Valuation τ sig (Elt Ideal)} {x0 : FVec Ideal S4096x3072 .f32} {x1 : FVec Ideal S4x256 .f32} {x2 : FVec Ideal S256 .f32} {x3 : FVec Ideal S4x64x64 .f32} {x4 : FVec Ideal S4x64 .f32}
  {x5 : FVec Ideal S4x64x64 .f32} {x6 : FVec Ideal S4x64 .f32} {x7 : FVec Ideal S256 .f32}

/-- Two pieces one after the other, as a function of the pieces. -/
def cat {α : Type} (s : Shape) (d : Fin s.rank) (s₁ s₂ : Shape) (h : Shape.Concatenates [s₁, s₂] s d) (a : s₁.Idx → α) (b : s₂.Idx → α) : s.Idx → α := concatenate s d [⟨s₁, a⟩, ⟨s₂, b⟩] h
theorem cat_eq {α : Type} (s : Shape) (d : Fin s.rank) (s₁ s₂ : Shape) (h : Shape.Concatenates [s₁, s₂] s d) (a : s₁.Idx → α) (b : s₂.Idx → α) :
    concatenate s d [⟨s₁, a⟩, ⟨s₂, b⟩] h = cat s d s₁ s₂ h a b := rfl

/-- What the reads further on need once the first `n` operations have run. -/
structure Cut0 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7

structure Cut1 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  arg1 : W (Proc.devRef .tc main_arg1) = x1
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  v2 : W (Proc.devRef .tc main_v2) = Cert.LruRefIdeal.Read.val_main_v3 (F := Ideal) x0
  v18 : W (Proc.devRef .tc main_v18) = Cert.LruRefIdeal.Read.val_main_v20 (F := Ideal) x0 x1 x2

structure Cut2 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  arg5 : W (Proc.devRef .tc main_arg5) = x5
  arg6 : W (Proc.devRef .tc main_arg6) = x6
  arg7 : W (Proc.devRef .tc main_arg7) = x7
  v32 : W (Proc.devRef .tc main_v32) = Cert.LruRefIdeal.Read.val_main_v34 (F := Ideal) x0 x1 x2
  v39 : W (Proc.devRef .tc main_v39) = Cert.LruRefIdeal.Read.val_main_v41 (F := Ideal) x0 x1 x2 x3 x4

structure Cut3 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  arg5 : W (Proc.devRef .tc main_arg5) = x5
  arg6 : W (Proc.devRef .tc main_arg6) = x6
  v32 : W (Proc.devRef .tc main_v32) = Cert.LruRefIdeal.Read.val_main_v34 (F := Ideal) x0 x1 x2
  v47 : W (Proc.devRef .tc main_v47) = Cert.LruRefIdeal.Read.val_main_v52 (F := Ideal) x0 x1 x2 x3 x4
  v48 : W (Proc.devRef .tc main_v48) = Cert.LruRefIdeal.Read.val_main_v53 (F := Ideal) x7

structure Cut4 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v32 : W (Proc.devRef .tc main_v32) = Cert.LruRefIdeal.Read.val_main_v34 (F := Ideal) x0 x1 x2
  v52 : W (Proc.devRef .tc main_v52) = Cert.LruRefIdeal.Read.val_main_v57 (F := Ideal) x0 x1 x2 x3 x4 x7
  v55 : W (Proc.devRef .tc main_v55) = Cert.LruRefIdeal.Read.val_main_v60 (F := Ideal) x0 x1 x2 x5
  v56 : W (Proc.devRef .tc main_v56) = Cert.LruRefIdeal.Read.val_main_v61 (F := Ideal) x6

structure Cut5 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v73 : W (Proc.devRef .tc main_v73) = Cert.LruRefIdeal.Read.val_main_v84 (F := Ideal) x0 x1 x2 x3 x4 x5 x6 x7
  v74 : W (Proc.devRef .tc main_v74) = Cert.LruRefIdeal.Read.val_main_v85 (F := Ideal) x0 x1 x2 x3 x4 x7

structure Cut6 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v77 : W (Proc.devRef .tc main_v77) = Cert.LruRefIdeal.Read.val_main_v88 (F := Ideal) x0 x1 x2 x3 x4 x7
  v81 : W (Proc.devRef .tc main_v81) = Cert.LruRefIdeal.Read.val_main_v92 (F := Ideal) x0 x1 x2 x3 x4 x5 x6 x7
  v87 : W (Proc.devRef .tc main_v87) = Cert.LruRefIdeal.Read.val_main_v98 (F := Ideal) x0 x1 x2 x3 x4 x7
  v88 : W (Proc.devRef .tc main_v88) = Cert.LruRefIdeal.Read.val_main_v99 (F := Ideal) x0 x1 x2 x3 x4 x5 x6 x7

structure Cut7 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v77 : W (Proc.devRef .tc main_v77) = Cert.LruRefIdeal.Read.val_main_v88 (F := Ideal) x0 x1 x2 x3 x4 x7
  v81 : W (Proc.devRef .tc main_v81) = Cert.LruRefIdeal.Read.val_main_v92 (F := Ideal) x0 x1 x2 x3 x4 x5 x6 x7
  v90 : W (Proc.devRef .tc main_v90) = Cert.LruRefIdeal.Read.val_main_v101 (F := Ideal) x0 x1 x2 x3 x4 x7
  v94 : W (Proc.devRef .tc main_v94) = Cert.LruRefIdeal.Read.val_main_v105 (F := Ideal) x0 x1 x2 x3 x4 x5 x6 x7
  v100 : W (Proc.devRef .tc main_v100) = Cert.LruRefIdeal.Read.val_main_v111 (F := Ideal) x0 x1 x2 x3 x4 x7
  v101 : W (Proc.devRef .tc main_v101) = Cert.LruRefIdeal.Read.val_main_v112 (F := Ideal) x0 x1 x2 x3 x4 x5 x6 x7

structure Cut8 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v77 : W (Proc.devRef .tc main_v77) = Cert.LruRefIdeal.Read.val_main_v88 (F := Ideal) x0 x1 x2 x3 x4 x7
  v81 : W (Proc.devRef .tc main_v81) = Cert.LruRefIdeal.Read.val_main_v92 (F := Ideal) x0 x1 x2 x3 x4 x5 x6 x7
  v90 : W (Proc.devRef .tc main_v90) = Cert.LruRefIdeal.Read.val_main_v101 (F := Ideal) x0 x1 x2 x3 x4 x7
  v94 : W (Proc.devRef .tc main_v94) = Cert.LruRefIdeal.Read.val_main_v105 (F := Ideal) x0 x1 x2 x3 x4 x5 x6 x7
  v103 : W (Proc.devRef .tc main_v103) = Cert.LruRefIdeal.Read.val_main_v114 (F := Ideal) x0 x1 x2 x3 x4 x7
  v107 : W (Proc.devRef .tc main_v107) = Cert.LruRefIdeal.Read.val_main_v118 (F := Ideal) x0 x1 x2 x3 x4 x5 x6 x7
  v113 : W (Proc.devRef .tc main_v113) = Cert.LruRefIdeal.Read.val_main_v124 (F := Ideal) x0 x1 x2 x3 x4 x7
  v114 : W (Proc.devRef .tc main_v114) = Cert.LruRefIdeal.Read.val_main_v125 (F := Ideal) x0 x1 x2 x3 x4 x5 x6 x7

structure Cut9 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v77 : W (Proc.devRef .tc main_v77) = Cert.LruRefIdeal.Read.val_main_v88 (F := Ideal) x0 x1 x2 x3 x4 x7
  v81 : W (Proc.devRef .tc main_v81) = Cert.LruRefIdeal.Read.val_main_v92 (F := Ideal) x0 x1 x2 x3 x4 x5 x6 x7
  v90 : W (Proc.devRef .tc main_v90) = Cert.LruRefIdeal.Read.val_main_v101 (F := Ideal) x0 x1 x2 x3 x4 x7
  v94 : W (Proc.devRef .tc main_v94) = Cert.LruRefIdeal.Read.val_main_v105 (F := Ideal) x0 x1 x2 x3 x4 x5 x6 x7
  v103 : W (Proc.devRef .tc main_v103) = Cert.LruRefIdeal.Read.val_main_v114 (F := Ideal) x0 x1 x2 x3 x4 x7
  v107 : W (Proc.devRef .tc main_v107) = Cert.LruRefIdeal.Read.val_main_v118 (F := Ideal) x0 x1 x2 x3 x4 x5 x6 x7
  v116 : W (Proc.devRef .tc main_v116) = Cert.LruRefIdeal.Read.val_main_v127 (F := Ideal) x0 x1 x2 x3 x4 x7
  v120 : W (Proc.devRef .tc main_v120) = Cert.LruRefIdeal.Read.val_main_v131 (F := Ideal) x0 x1 x2 x3 x4 x5 x6 x7
  v126 : W (Proc.devRef .tc main_v126) = Cert.LruRefIdeal.Read.val_main_v137 (F := Ideal) x0 x1 x2 x3 x4 x7
  v127 : W (Proc.devRef .tc main_v127) = Cert.LruRefIdeal.Read.val_main_v138 (F := Ideal) x0 x1 x2 x3 x4 x5 x6 x7

structure Cut10 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v77 : W (Proc.devRef .tc main_v77) = Cert.LruRefIdeal.Read.val_main_v88 (F := Ideal) x0 x1 x2 x3 x4 x7
  v81 : W (Proc.devRef .tc main_v81) = Cert.LruRefIdeal.Read.val_main_v92 (F := Ideal) x0 x1 x2 x3 x4 x5 x6 x7
  v90 : W (Proc.devRef .tc main_v90) = Cert.LruRefIdeal.Read.val_main_v101 (F := Ideal) x0 x1 x2 x3 x4 x7
  v94 : W (Proc.devRef .tc main_v94) = Cert.LruRefIdeal.Read.val_main_v105 (F := Ideal) x0 x1 x2 x3 x4 x5 x6 x7
  v103 : W (Proc.devRef .tc main_v103) = Cert.LruRefIdeal.Read.val_main_v114 (F := Ideal) x0 x1 x2 x3 x4 x7
  v107 : W (Proc.devRef .tc main_v107) = Cert.LruRefIdeal.Read.val_main_v118 (F := Ideal) x0 x1 x2 x3 x4 x5 x6 x7
  v116 : W (Proc.devRef .tc main_v116) = Cert.LruRefIdeal.Read.val_main_v127 (F := Ideal) x0 x1 x2 x3 x4 x7
  v120 : W (Proc.devRef .tc main_v120) = Cert.LruRefIdeal.Read.val_main_v131 (F := Ideal) x0 x1 x2 x3 x4 x5 x6 x7
  v129 : W (Proc.devRef .tc main_v129) = Cert.LruRefIdeal.Read.val_main_v140 (F := Ideal) x0 x1 x2 x3 x4 x7
  v133 : W (Proc.devRef .tc main_v133) = Cert.LruRefIdeal.Read.val_main_v144 (F := Ideal) x0 x1 x2 x3 x4 x5 x6 x7
  v139 : W (Proc.devRef .tc main_v139) = Cert.LruRefIdeal.Read.val_main_v150 (F := Ideal) x0 x1 x2 x3 x4 x7
  v140 : W (Proc.devRef .tc main_v140) = Cert.LruRefIdeal.Read.val_main_v151 (F := Ideal) x0 x1 x2 x3 x4 x5 x6 x7

structure Cut11 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v77 : W (Proc.devRef .tc main_v77) = Cert.LruRefIdeal.Read.val_main_v88 (F := Ideal) x0 x1 x2 x3 x4 x7
  v81 : W (Proc.devRef .tc main_v81) = Cert.LruRefIdeal.Read.val_main_v92 (F := Ideal) x0 x1 x2 x3 x4 x5 x6 x7
  v90 : W (Proc.devRef .tc main_v90) = Cert.LruRefIdeal.Read.val_main_v101 (F := Ideal) x0 x1 x2 x3 x4 x7
  v94 : W (Proc.devRef .tc main_v94) = Cert.LruRefIdeal.Read.val_main_v105 (F := Ideal) x0 x1 x2 x3 x4 x5 x6 x7
  v103 : W (Proc.devRef .tc main_v103) = Cert.LruRefIdeal.Read.val_main_v114 (F := Ideal) x0 x1 x2 x3 x4 x7
  v107 : W (Proc.devRef .tc main_v107) = Cert.LruRefIdeal.Read.val_main_v118 (F := Ideal) x0 x1 x2 x3 x4 x5 x6 x7
  v116 : W (Proc.devRef .tc main_v116) = Cert.LruRefIdeal.Read.val_main_v127 (F := Ideal) x0 x1 x2 x3 x4 x7
  v120 : W (Proc.devRef .tc main_v120) = Cert.LruRefIdeal.Read.val_main_v131 (F := Ideal) x0 x1 x2 x3 x4 x5 x6 x7
  v129 : W (Proc.devRef .tc main_v129) = Cert.LruRefIdeal.Read.val_main_v140 (F := Ideal) x0 x1 x2 x3 x4 x7
  v133 : W (Proc.devRef .tc main_v133) = Cert.LruRefIdeal.Read.val_main_v144 (F := Ideal) x0 x1 x2 x3 x4 x5 x6 x7
  v142 : W (Proc.devRef .tc main_v142) = Cert.LruRefIdeal.Read.val_main_v153 (F := Ideal) x0 x1 x2 x3 x4 x7
  v146 : W (Proc.devRef .tc main_v146) = Cert.LruRefIdeal.Read.val_main_v157 (F := Ideal) x0 x1 x2 x3 x4 x5 x6 x7
  v152 : W (Proc.devRef .tc main_v152) = Cert.LruRefIdeal.Read.val_main_v163 (F := Ideal) x0 x1 x2 x3 x4 x7
  v153 : W (Proc.devRef .tc main_v153) = Cert.LruRefIdeal.Read.val_main_v164 (F := Ideal) x0 x1 x2 x3 x4 x5 x6 x7

structure Cut12 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v77 : W (Proc.devRef .tc main_v77) = Cert.LruRefIdeal.Read.val_main_v88 (F := Ideal) x0 x1 x2 x3 x4 x7
  v81 : W (Proc.devRef .tc main_v81) = Cert.LruRefIdeal.Read.val_main_v92 (F := Ideal) x0 x1 x2 x3 x4 x5 x6 x7
  v90 : W (Proc.devRef .tc main_v90) = Cert.LruRefIdeal.Read.val_main_v101 (F := Ideal) x0 x1 x2 x3 x4 x7
  v94 : W (Proc.devRef .tc main_v94) = Cert.LruRefIdeal.Read.val_main_v105 (F := Ideal) x0 x1 x2 x3 x4 x5 x6 x7
  v103 : W (Proc.devRef .tc main_v103) = Cert.LruRefIdeal.Read.val_main_v114 (F := Ideal) x0 x1 x2 x3 x4 x7
  v107 : W (Proc.devRef .tc main_v107) = Cert.LruRefIdeal.Read.val_main_v118 (F := Ideal) x0 x1 x2 x3 x4 x5 x6 x7
  v116 : W (Proc.devRef .tc main_v116) = Cert.LruRefIdeal.Read.val_main_v127 (F := Ideal) x0 x1 x2 x3 x4 x7
  v120 : W (Proc.devRef .tc main_v120) = Cert.LruRefIdeal.Read.val_main_v131 (F := Ideal) x0 x1 x2 x3 x4 x5 x6 x7
  v129 : W (Proc.devRef .tc main_v129) = Cert.LruRefIdeal.Read.val_main_v140 (F := Ideal) x0 x1 x2 x3 x4 x7
  v133 : W (Proc.devRef .tc main_v133) = Cert.LruRefIdeal.Read.val_main_v144 (F := Ideal) x0 x1 x2 x3 x4 x5 x6 x7
  v142 : W (Proc.devRef .tc main_v142) = Cert.LruRefIdeal.Read.val_main_v153 (F := Ideal) x0 x1 x2 x3 x4 x7
  v146 : W (Proc.devRef .tc main_v146) = Cert.LruRefIdeal.Read.val_main_v157 (F := Ideal) x0 x1 x2 x3 x4 x5 x6 x7
  v155 : W (Proc.devRef .tc main_v155) = Cert.LruRefIdeal.Read.val_main_v166 (F := Ideal) x0 x1 x2 x3 x4 x7
  v159 : W (Proc.devRef .tc main_v159) = Cert.LruRefIdeal.Read.val_main_v170 (F := Ideal) x0 x1 x2 x3 x4 x5 x6 x7
  v165 : W (Proc.devRef .tc main_v165) = Cert.LruRefIdeal.Read.val_main_v176 (F := Ideal) x0 x1 x2 x3 x4 x7
  v166 : W (Proc.devRef .tc main_v166) = Cert.LruRefIdeal.Read.val_main_v177 (F := Ideal) x0 x1 x2 x3 x4 x5 x6 x7

structure Cut13 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v77 : W (Proc.devRef .tc main_v77) = Cert.LruRefIdeal.Read.val_main_v88 (F := Ideal) x0 x1 x2 x3 x4 x7
  v81 : W (Proc.devRef .tc main_v81) = Cert.LruRefIdeal.Read.val_main_v92 (F := Ideal) x0 x1 x2 x3 x4 x5 x6 x7
  v90 : W (Proc.devRef .tc main_v90) = Cert.LruRefIdeal.Read.val_main_v101 (F := Ideal) x0 x1 x2 x3 x4 x7
  v94 : W (Proc.devRef .tc main_v94) = Cert.LruRefIdeal.Read.val_main_v105 (F := Ideal) x0 x1 x2 x3 x4 x5 x6 x7
  v103 : W (Proc.devRef .tc main_v103) = Cert.LruRefIdeal.Read.val_main_v114 (F := Ideal) x0 x1 x2 x3 x4 x7
  v107 : W (Proc.devRef .tc main_v107) = Cert.LruRefIdeal.Read.val_main_v118 (F := Ideal) x0 x1 x2 x3 x4 x5 x6 x7
  v116 : W (Proc.devRef .tc main_v116) = Cert.LruRefIdeal.Read.val_main_v127 (F := Ideal) x0 x1 x2 x3 x4 x7
  v120 : W (Proc.devRef .tc main_v120) = Cert.LruRefIdeal.Read.val_main_v131 (F := Ideal) x0 x1 x2 x3 x4 x5 x6 x7
  v129 : W (Proc.devRef .tc main_v129) = Cert.LruRefIdeal.Read.val_main_v140 (F := Ideal) x0 x1 x2 x3 x4 x7
  v133 : W (Proc.devRef .tc main_v133) = Cert.LruRefIdeal.Read.val_main_v144 (F := Ideal) x0 x1 x2 x3 x4 x5 x6 x7
  v142 : W (Proc.devRef .tc main_v142) = Cert.LruRefIdeal.Read.val_main_v153 (F := Ideal) x0 x1 x2 x3 x4 x7
  v146 : W (Proc.devRef .tc main_v146) = Cert.LruRefIdeal.Read.val_main_v157 (F := Ideal) x0 x1 x2 x3 x4 x5 x6 x7
  v155 : W (Proc.devRef .tc main_v155) = Cert.LruRefIdeal.Read.val_main_v166 (F := Ideal) x0 x1 x2 x3 x4 x7
  v159 : W (Proc.devRef .tc main_v159) = Cert.LruRefIdeal.Read.val_main_v170 (F := Ideal) x0 x1 x2 x3 x4 x5 x6 x7
  v168 : W (Proc.devRef .tc main_v168) = Cert.LruRefIdeal.Read.val_main_v179 (F := Ideal) x0 x1 x2 x3 x4 x7
  v172 : W (Proc.devRef .tc main_v172) = Cert.LruRefIdeal.Read.val_main_v183 (F := Ideal) x0 x1 x2 x3 x4 x5 x6 x7
  v178 : W (Proc.devRef .tc main_v178) = Cert.LruRefIdeal.Read.val_main_v189 (F := Ideal) x0 x1 x2 x3 x4 x7
  v179 : W (Proc.devRef .tc main_v179) = Cert.LruRefIdeal.Read.val_main_v190 (F := Ideal) x0 x1 x2 x3 x4 x5 x6 x7

structure Cut14 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v77 : W (Proc.devRef .tc main_v77) = Cert.LruRefIdeal.Read.val_main_v88 (F := Ideal) x0 x1 x2 x3 x4 x7
  v81 : W (Proc.devRef .tc main_v81) = Cert.LruRefIdeal.Read.val_main_v92 (F := Ideal) x0 x1 x2 x3 x4 x5 x6 x7
  v90 : W (Proc.devRef .tc main_v90) = Cert.LruRefIdeal.Read.val_main_v101 (F := Ideal) x0 x1 x2 x3 x4 x7
  v94 : W (Proc.devRef .tc main_v94) = Cert.LruRefIdeal.Read.val_main_v105 (F := Ideal) x0 x1 x2 x3 x4 x5 x6 x7
  v103 : W (Proc.devRef .tc main_v103) = Cert.LruRefIdeal.Read.val_main_v114 (F := Ideal) x0 x1 x2 x3 x4 x7
  v107 : W (Proc.devRef .tc main_v107) = Cert.LruRefIdeal.Read.val_main_v118 (F := Ideal) x0 x1 x2 x3 x4 x5 x6 x7
  v116 : W (Proc.devRef .tc main_v116) = Cert.LruRefIdeal.Read.val_main_v127 (F := Ideal) x0 x1 x2 x3 x4 x7
  v120 : W (Proc.devRef .tc main_v120) = Cert.LruRefIdeal.Read.val_main_v131 (F := Ideal) x0 x1 x2 x3 x4 x5 x6 x7
  v129 : W (Proc.devRef .tc main_v129) = Cert.LruRefIdeal.Read.val_main_v140 (F := Ideal) x0 x1 x2 x3 x4 x7
  v133 : W (Proc.devRef .tc main_v133) = Cert.LruRefIdeal.Read.val_main_v144 (F := Ideal) x0 x1 x2 x3 x4 x5 x6 x7
  v142 : W (Proc.devRef .tc main_v142) = Cert.LruRefIdeal.Read.val_main_v153 (F := Ideal) x0 x1 x2 x3 x4 x7
  v146 : W (Proc.devRef .tc main_v146) = Cert.LruRefIdeal.Read.val_main_v157 (F := Ideal) x0 x1 x2 x3 x4 x5 x6 x7
  v155 : W (Proc.devRef .tc main_v155) = Cert.LruRefIdeal.Read.val_main_v166 (F := Ideal) x0 x1 x2 x3 x4 x7
  v159 : W (Proc.devRef .tc main_v159) = Cert.LruRefIdeal.Read.val_main_v170 (F := Ideal) x0 x1 x2 x3 x4 x5 x6 x7
  v168 : W (Proc.devRef .tc main_v168) = Cert.LruRefIdeal.Read.val_main_v179 (F := Ideal) x0 x1 x2 x3 x4 x7
  v172 : W (Proc.devRef .tc main_v172) = Cert.LruRefIdeal.Read.val_main_v183 (F := Ideal) x0 x1 x2 x3 x4 x5 x6 x7
  v181 : W (Proc.devRef .tc main_v181) = Cert.LruRefIdeal.Read.val_main_v192 (F := Ideal) x0 x1 x2 x3 x4 x7
  v185 : W (Proc.devRef .tc main_v185) = Cert.LruRefIdeal.Read.val_main_v196 (F := Ideal) x0 x1 x2 x3 x4 x5 x6 x7
  v191 : W (Proc.devRef .tc main_v191) = Cert.LruRefIdeal.Read.val_main_v202 (F := Ideal) x0 x1 x2 x3 x4 x7
  v192 : W (Proc.devRef .tc main_v192) = Cert.LruRefIdeal.Read.val_main_v203 (F := Ideal) x0 x1 x2 x3 x4 x5 x6 x7

structure Cut15 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v77 : W (Proc.devRef .tc main_v77) = Cert.LruRefIdeal.Read.val_main_v88 (F := Ideal) x0 x1 x2 x3 x4 x7
  v81 : W (Proc.devRef .tc main_v81) = Cert.LruRefIdeal.Read.val_main_v92 (F := Ideal) x0 x1 x2 x3 x4 x5 x6 x7
  v90 : W (Proc.devRef .tc main_v90) = Cert.LruRefIdeal.Read.val_main_v101 (F := Ideal) x0 x1 x2 x3 x4 x7
  v94 : W (Proc.devRef .tc main_v94) = Cert.LruRefIdeal.Read.val_main_v105 (F := Ideal) x0 x1 x2 x3 x4 x5 x6 x7
  v103 : W (Proc.devRef .tc main_v103) = Cert.LruRefIdeal.Read.val_main_v114 (F := Ideal) x0 x1 x2 x3 x4 x7
  v107 : W (Proc.devRef .tc main_v107) = Cert.LruRefIdeal.Read.val_main_v118 (F := Ideal) x0 x1 x2 x3 x4 x5 x6 x7
  v116 : W (Proc.devRef .tc main_v116) = Cert.LruRefIdeal.Read.val_main_v127 (F := Ideal) x0 x1 x2 x3 x4 x7
  v120 : W (Proc.devRef .tc main_v120) = Cert.LruRefIdeal.Read.val_main_v131 (F := Ideal) x0 x1 x2 x3 x4 x5 x6 x7
  v129 : W (Proc.devRef .tc main_v129) = Cert.LruRefIdeal.Read.val_main_v140 (F := Ideal) x0 x1 x2 x3 x4 x7
  v133 : W (Proc.devRef .tc main_v133) = Cert.LruRefIdeal.Read.val_main_v144 (F := Ideal) x0 x1 x2 x3 x4 x5 x6 x7
  v142 : W (Proc.devRef .tc main_v142) = Cert.LruRefIdeal.Read.val_main_v153 (F := Ideal) x0 x1 x2 x3 x4 x7
  v146 : W (Proc.devRef .tc main_v146) = Cert.LruRefIdeal.Read.val_main_v157 (F := Ideal) x0 x1 x2 x3 x4 x5 x6 x7
  v155 : W (Proc.devRef .tc main_v155) = Cert.LruRefIdeal.Read.val_main_v166 (F := Ideal) x0 x1 x2 x3 x4 x7
  v159 : W (Proc.devRef .tc main_v159) = Cert.LruRefIdeal.Read.val_main_v170 (F := Ideal) x0 x1 x2 x3 x4 x5 x6 x7
  v168 : W (Proc.devRef .tc main_v168) = Cert.LruRefIdeal.Read.val_main_v179 (F := Ideal) x0 x1 x2 x3 x4 x7
  v172 : W (Proc.devRef .tc main_v172) = Cert.LruRefIdeal.Read.val_main_v183 (F := Ideal) x0 x1 x2 x3 x4 x5 x6 x7
  v181 : W (Proc.devRef .tc main_v181) = Cert.LruRefIdeal.Read.val_main_v192 (F := Ideal) x0 x1 x2 x3 x4 x7
  v185 : W (Proc.devRef .tc main_v185) = Cert.LruRefIdeal.Read.val_main_v196 (F := Ideal) x0 x1 x2 x3 x4 x5 x6 x7
  v194 : W (Proc.devRef .tc main_v194) = Cert.LruRefIdeal.Read.val_main_v205 (F := Ideal) x0 x1 x2 x3 x4 x7
  v198 : W (Proc.devRef .tc main_v198) = Cert.LruRefIdeal.Read.val_main_v209 (F := Ideal) x0 x1 x2 x3 x4 x5 x6 x7
  v204 : W (Proc.devRef .tc main_v204) = Cert.LruRefIdeal.Read.val_main_v215 (F := Ideal) x0 x1 x2 x3 x4 x7
  v205 : W (Proc.devRef .tc main_v205) = Cert.LruRefIdeal.Read.val_main_v216 (F := Ideal) x0 x1 x2 x3 x4 x5 x6 x7

structure Cut16 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v77 : W (Proc.devRef .tc main_v77) = Cert.LruRefIdeal.Read.val_main_v88 (F := Ideal) x0 x1 x2 x3 x4 x7
  v81 : W (Proc.devRef .tc main_v81) = Cert.LruRefIdeal.Read.val_main_v92 (F := Ideal) x0 x1 x2 x3 x4 x5 x6 x7
  v90 : W (Proc.devRef .tc main_v90) = Cert.LruRefIdeal.Read.val_main_v101 (F := Ideal) x0 x1 x2 x3 x4 x7
  v94 : W (Proc.devRef .tc main_v94) = Cert.LruRefIdeal.Read.val_main_v105 (F := Ideal) x0 x1 x2 x3 x4 x5 x6 x7
  v103 : W (Proc.devRef .tc main_v103) = Cert.LruRefIdeal.Read.val_main_v114 (F := Ideal) x0 x1 x2 x3 x4 x7
  v107 : W (Proc.devRef .tc main_v107) = Cert.LruRefIdeal.Read.val_main_v118 (F := Ideal) x0 x1 x2 x3 x4 x5 x6 x7
  v116 : W (Proc.devRef .tc main_v116) = Cert.LruRefIdeal.Read.val_main_v127 (F := Ideal) x0 x1 x2 x3 x4 x7
  v120 : W (Proc.devRef .tc main_v120) = Cert.LruRefIdeal.Read.val_main_v131 (F := Ideal) x0 x1 x2 x3 x4 x5 x6 x7
  v129 : W (Proc.devRef .tc main_v129) = Cert.LruRefIdeal.Read.val_main_v140 (F := Ideal) x0 x1 x2 x3 x4 x7
  v133 : W (Proc.devRef .tc main_v133) = Cert.LruRefIdeal.Read.val_main_v144 (F := Ideal) x0 x1 x2 x3 x4 x5 x6 x7
  v142 : W (Proc.devRef .tc main_v142) = Cert.LruRefIdeal.Read.val_main_v153 (F := Ideal) x0 x1 x2 x3 x4 x7
  v146 : W (Proc.devRef .tc main_v146) = Cert.LruRefIdeal.Read.val_main_v157 (F := Ideal) x0 x1 x2 x3 x4 x5 x6 x7
  v155 : W (Proc.devRef .tc main_v155) = Cert.LruRefIdeal.Read.val_main_v166 (F := Ideal) x0 x1 x2 x3 x4 x7
  v159 : W (Proc.devRef .tc main_v159) = Cert.LruRefIdeal.Read.val_main_v170 (F := Ideal) x0 x1 x2 x3 x4 x5 x6 x7
  v168 : W (Proc.devRef .tc main_v168) = Cert.LruRefIdeal.Read.val_main_v179 (F := Ideal) x0 x1 x2 x3 x4 x7
  v172 : W (Proc.devRef .tc main_v172) = Cert.LruRefIdeal.Read.val_main_v183 (F := Ideal) x0 x1 x2 x3 x4 x5 x6 x7
  v181 : W (Proc.devRef .tc main_v181) = Cert.LruRefIdeal.Read.val_main_v192 (F := Ideal) x0 x1 x2 x3 x4 x7
  v185 : W (Proc.devRef .tc main_v185) = Cert.LruRefIdeal.Read.val_main_v196 (F := Ideal) x0 x1 x2 x3 x4 x5 x6 x7
  v194 : W (Proc.devRef .tc main_v194) = Cert.LruRefIdeal.Read.val_main_v205 (F := Ideal) x0 x1 x2 x3 x4 x7
  v198 : W (Proc.devRef .tc main_v198) = Cert.LruRefIdeal.Read.val_main_v209 (F := Ideal) x0 x1 x2 x3 x4 x5 x6 x7
  v207 : W (Proc.devRef .tc main_v207) = Cert.LruRefIdeal.Read.val_main_v218 (F := Ideal) x0 x1 x2 x3 x4 x7
  v211 : W (Proc.devRef .tc main_v211) = Cert.LruRefIdeal.Read.val_main_v222 (F := Ideal) x0 x1 x2 x3 x4 x5 x6 x7
  v217 : W (Proc.devRef .tc main_v217) = Cert.LruRefIdeal.Read.val_main_v228 (F := Ideal) x0 x1 x2 x3 x4 x7
  v218 : W (Proc.devRef .tc main_v218) = Cert.LruRefIdeal.Read.val_main_v229 (F := Ideal) x0 x1 x2 x3 x4 x5 x6 x7

structure Cut17 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v77 : W (Proc.devRef .tc main_v77) = Cert.LruRefIdeal.Read.val_main_v88 (F := Ideal) x0 x1 x2 x3 x4 x7
  v81 : W (Proc.devRef .tc main_v81) = Cert.LruRefIdeal.Read.val_main_v92 (F := Ideal) x0 x1 x2 x3 x4 x5 x6 x7
  v90 : W (Proc.devRef .tc main_v90) = Cert.LruRefIdeal.Read.val_main_v101 (F := Ideal) x0 x1 x2 x3 x4 x7
  v94 : W (Proc.devRef .tc main_v94) = Cert.LruRefIdeal.Read.val_main_v105 (F := Ideal) x0 x1 x2 x3 x4 x5 x6 x7
  v103 : W (Proc.devRef .tc main_v103) = Cert.LruRefIdeal.Read.val_main_v114 (F := Ideal) x0 x1 x2 x3 x4 x7
  v107 : W (Proc.devRef .tc main_v107) = Cert.LruRefIdeal.Read.val_main_v118 (F := Ideal) x0 x1 x2 x3 x4 x5 x6 x7
  v116 : W (Proc.devRef .tc main_v116) = Cert.LruRefIdeal.Read.val_main_v127 (F := Ideal) x0 x1 x2 x3 x4 x7
  v120 : W (Proc.devRef .tc main_v120) = Cert.LruRefIdeal.Read.val_main_v131 (F := Ideal) x0 x1 x2 x3 x4 x5 x6 x7
  v129 : W (Proc.devRef .tc main_v129) = Cert.LruRefIdeal.Read.val_main_v140 (F := Ideal) x0 x1 x2 x3 x4 x7
  v133 : W (Proc.devRef .tc main_v133) = Cert.LruRefIdeal.Read.val_main_v144 (F := Ideal) x0 x1 x2 x3 x4 x5 x6 x7
  v142 : W (Proc.devRef .tc main_v142) = Cert.LruRefIdeal.Read.val_main_v153 (F := Ideal) x0 x1 x2 x3 x4 x7
  v146 : W (Proc.devRef .tc main_v146) = Cert.LruRefIdeal.Read.val_main_v157 (F := Ideal) x0 x1 x2 x3 x4 x5 x6 x7
  v155 : W (Proc.devRef .tc main_v155) = Cert.LruRefIdeal.Read.val_main_v166 (F := Ideal) x0 x1 x2 x3 x4 x7
  v159 : W (Proc.devRef .tc main_v159) = Cert.LruRefIdeal.Read.val_main_v170 (F := Ideal) x0 x1 x2 x3 x4 x5 x6 x7
  v168 : W (Proc.devRef .tc main_v168) = Cert.LruRefIdeal.Read.val_main_v179 (F := Ideal) x0 x1 x2 x3 x4 x7
  v172 : W (Proc.devRef .tc main_v172) = Cert.LruRefIdeal.Read.val_main_v183 (F := Ideal) x0 x1 x2 x3 x4 x5 x6 x7
  v181 : W (Proc.devRef .tc main_v181) = Cert.LruRefIdeal.Read.val_main_v192 (F := Ideal) x0 x1 x2 x3 x4 x7
  v185 : W (Proc.devRef .tc main_v185) = Cert.LruRefIdeal.Read.val_main_v196 (F := Ideal) x0 x1 x2 x3 x4 x5 x6 x7
  v194 : W (Proc.devRef .tc main_v194) = Cert.LruRefIdeal.Read.val_main_v205 (F := Ideal) x0 x1 x2 x3 x4 x7
  v198 : W (Proc.devRef .tc main_v198) = Cert.LruRefIdeal.Read.val_main_v209 (F := Ideal) x0 x1 x2 x3 x4 x5 x6 x7
  v207 : W (Proc.devRef .tc main_v207) = Cert.LruRefIdeal.Read.val_main_v218 (F := Ideal) x0 x1 x2 x3 x4 x7
  v211 : W (Proc.devRef .tc main_v211) = Cert.LruRefIdeal.Read.val_main_v222 (F := Ideal) x0 x1 x2 x3 x4 x5 x6 x7
  v238 : W (Proc.devRef .tc main_v238) = Cert.LruRefIdeal.Read.val_main_v250 (F := Ideal) x0 x1 x2 x3 x4 x5 x6 x7

structure Cut18 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v77 : W (Proc.devRef .tc main_v77) = Cert.LruRefIdeal.Read.val_main_v88 (F := Ideal) x0 x1 x2 x3 x4 x7
  v81 : W (Proc.devRef .tc main_v81) = Cert.LruRefIdeal.Read.val_main_v92 (F := Ideal) x0 x1 x2 x3 x4 x5 x6 x7
  v90 : W (Proc.devRef .tc main_v90) = Cert.LruRefIdeal.Read.val_main_v101 (F := Ideal) x0 x1 x2 x3 x4 x7
  v94 : W (Proc.devRef .tc main_v94) = Cert.LruRefIdeal.Read.val_main_v105 (F := Ideal) x0 x1 x2 x3 x4 x5 x6 x7
  v103 : W (Proc.devRef .tc main_v103) = Cert.LruRefIdeal.Read.val_main_v114 (F := Ideal) x0 x1 x2 x3 x4 x7
  v107 : W (Proc.devRef .tc main_v107) = Cert.LruRefIdeal.Read.val_main_v118 (F := Ideal) x0 x1 x2 x3 x4 x5 x6 x7
  v116 : W (Proc.devRef .tc main_v116) = Cert.LruRefIdeal.Read.val_main_v127 (F := Ideal) x0 x1 x2 x3 x4 x7
  v120 : W (Proc.devRef .tc main_v120) = Cert.LruRefIdeal.Read.val_main_v131 (F := Ideal) x0 x1 x2 x3 x4 x5 x6 x7
  v129 : W (Proc.devRef .tc main_v129) = Cert.LruRefIdeal.Read.val_main_v140 (F := Ideal) x0 x1 x2 x3 x4 x7
  v133 : W (Proc.devRef .tc main_v133) = Cert.LruRefIdeal.Read.val_main_v144 (F := Ideal) x0 x1 x2 x3 x4 x5 x6 x7
  v142 : W (Proc.devRef .tc main_v142) = Cert.LruRefIdeal.Read.val_main_v153 (F := Ideal) x0 x1 x2 x3 x4 x7
  v146 : W (Proc.devRef .tc main_v146) = Cert.LruRefIdeal.Read.val_main_v157 (F := Ideal) x0 x1 x2 x3 x4 x5 x6 x7
  v155 : W (Proc.devRef .tc main_v155) = Cert.LruRefIdeal.Read.val_main_v166 (F := Ideal) x0 x1 x2 x3 x4 x7
  v159 : W (Proc.devRef .tc main_v159) = Cert.LruRefIdeal.Read.val_main_v170 (F := Ideal) x0 x1 x2 x3 x4 x5 x6 x7
  v168 : W (Proc.devRef .tc main_v168) = Cert.LruRefIdeal.Read.val_main_v179 (F := Ideal) x0 x1 x2 x3 x4 x7
  v172 : W (Proc.devRef .tc main_v172) = Cert.LruRefIdeal.Read.val_main_v183 (F := Ideal) x0 x1 x2 x3 x4 x5 x6 x7
  v181 : W (Proc.devRef .tc main_v181) = Cert.LruRefIdeal.Read.val_main_v192 (F := Ideal) x0 x1 x2 x3 x4 x7
  v185 : W (Proc.devRef .tc main_v185) = Cert.LruRefIdeal.Read.val_main_v196 (F := Ideal) x0 x1 x2 x3 x4 x5 x6 x7
  v256 : W (Proc.devRef .tc main_v256) = Cert.LruRefIdeal.Read.val_main_v270 (F := Ideal) x0 x1 x2 x3 x4 x5 x6 x7

structure Cut19 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v77 : W (Proc.devRef .tc main_v77) = Cert.LruRefIdeal.Read.val_main_v88 (F := Ideal) x0 x1 x2 x3 x4 x7
  v81 : W (Proc.devRef .tc main_v81) = Cert.LruRefIdeal.Read.val_main_v92 (F := Ideal) x0 x1 x2 x3 x4 x5 x6 x7
  v90 : W (Proc.devRef .tc main_v90) = Cert.LruRefIdeal.Read.val_main_v101 (F := Ideal) x0 x1 x2 x3 x4 x7
  v94 : W (Proc.devRef .tc main_v94) = Cert.LruRefIdeal.Read.val_main_v105 (F := Ideal) x0 x1 x2 x3 x4 x5 x6 x7
  v103 : W (Proc.devRef .tc main_v103) = Cert.LruRefIdeal.Read.val_main_v114 (F := Ideal) x0 x1 x2 x3 x4 x7
  v107 : W (Proc.devRef .tc main_v107) = Cert.LruRefIdeal.Read.val_main_v118 (F := Ideal) x0 x1 x2 x3 x4 x5 x6 x7
  v116 : W (Proc.devRef .tc main_v116) = Cert.LruRefIdeal.Read.val_main_v127 (F := Ideal) x0 x1 x2 x3 x4 x7
  v120 : W (Proc.devRef .tc main_v120) = Cert.LruRefIdeal.Read.val_main_v131 (F := Ideal) x0 x1 x2 x3 x4 x5 x6 x7
  v129 : W (Proc.devRef .tc main_v129) = Cert.LruRefIdeal.Read.val_main_v140 (F := Ideal) x0 x1 x2 x3 x4 x7
  v133 : W (Proc.devRef .tc main_v133) = Cert.LruRefIdeal.Read.val_main_v144 (F := Ideal) x0 x1 x2 x3 x4 x5 x6 x7
  v142 : W (Proc.devRef .tc main_v142) = Cert.LruRefIdeal.Read.val_main_v153 (F := Ideal) x0 x1 x2 x3 x4 x7
  v146 : W (Proc.devRef .tc main_v146) = Cert.LruRefIdeal.Read.val_main_v157 (F := Ideal) x0 x1 x2 x3 x4 x5 x6 x7
  v155 : W (Proc.devRef .tc main_v155) = Cert.LruRefIdeal.Read.val_main_v166 (F := Ideal) x0 x1 x2 x3 x4 x7
  v159 : W (Proc.devRef .tc main_v159) = Cert.LruRefIdeal.Read.val_main_v170 (F := Ideal) x0 x1 x2 x3 x4 x5 x6 x7
  v274 : W (Proc.devRef .tc main_v274) = Cert.LruRefIdeal.Read.val_main_v290 (F := Ideal) x0 x1 x2 x3 x4 x5 x6 x7

structure Cut20 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v77 : W (Proc.devRef .tc main_v77) = Cert.LruRefIdeal.Read.val_main_v88 (F := Ideal) x0 x1 x2 x3 x4 x7
  v81 : W (Proc.devRef .tc main_v81) = Cert.LruRefIdeal.Read.val_main_v92 (F := Ideal) x0 x1 x2 x3 x4 x5 x6 x7
  v90 : W (Proc.devRef .tc main_v90) = Cert.LruRefIdeal.Read.val_main_v101 (F := Ideal) x0 x1 x2 x3 x4 x7
  v94 : W (Proc.devRef .tc main_v94) = Cert.LruRefIdeal.Read.val_main_v105 (F := Ideal) x0 x1 x2 x3 x4 x5 x6 x7
  v103 : W (Proc.devRef .tc main_v103) = Cert.LruRefIdeal.Read.val_main_v114 (F := Ideal) x0 x1 x2 x3 x4 x7
  v107 : W (Proc.devRef .tc main_v107) = Cert.LruRefIdeal.Read.val_main_v118 (F := Ideal) x0 x1 x2 x3 x4 x5 x6 x7
  v116 : W (Proc.devRef .tc main_v116) = Cert.LruRefIdeal.Read.val_main_v127 (F := Ideal) x0 x1 x2 x3 x4 x7
  v120 : W (Proc.devRef .tc main_v120) = Cert.LruRefIdeal.Read.val_main_v131 (F := Ideal) x0 x1 x2 x3 x4 x5 x6 x7
  v129 : W (Proc.devRef .tc main_v129) = Cert.LruRefIdeal.Read.val_main_v140 (F := Ideal) x0 x1 x2 x3 x4 x7
  v133 : W (Proc.devRef .tc main_v133) = Cert.LruRefIdeal.Read.val_main_v144 (F := Ideal) x0 x1 x2 x3 x4 x5 x6 x7
  v292 : W (Proc.devRef .tc main_v292) = Cert.LruRefIdeal.Read.val_main_v310 (F := Ideal) x0 x1 x2 x3 x4 x5 x6 x7

structure Cut21 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v77 : W (Proc.devRef .tc main_v77) = Cert.LruRefIdeal.Read.val_main_v88 (F := Ideal) x0 x1 x2 x3 x4 x7
  v81 : W (Proc.devRef .tc main_v81) = Cert.LruRefIdeal.Read.val_main_v92 (F := Ideal) x0 x1 x2 x3 x4 x5 x6 x7
  v90 : W (Proc.devRef .tc main_v90) = Cert.LruRefIdeal.Read.val_main_v101 (F := Ideal) x0 x1 x2 x3 x4 x7
  v94 : W (Proc.devRef .tc main_v94) = Cert.LruRefIdeal.Read.val_main_v105 (F := Ideal) x0 x1 x2 x3 x4 x5 x6 x7
  v103 : W (Proc.devRef .tc main_v103) = Cert.LruRefIdeal.Read.val_main_v114 (F := Ideal) x0 x1 x2 x3 x4 x7
  v107 : W (Proc.devRef .tc main_v107) = Cert.LruRefIdeal.Read.val_main_v118 (F := Ideal) x0 x1 x2 x3 x4 x5 x6 x7
  v310 : W (Proc.devRef .tc main_v310) = Cert.LruRefIdeal.Read.val_main_v330 (F := Ideal) x0 x1 x2 x3 x4 x5 x6 x7

structure Cut22 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v77 : W (Proc.devRef .tc main_v77) = Cert.LruRefIdeal.Read.val_main_v88 (F := Ideal) x0 x1 x2 x3 x4 x7
  v81 : W (Proc.devRef .tc main_v81) = Cert.LruRefIdeal.Read.val_main_v92 (F := Ideal) x0 x1 x2 x3 x4 x5 x6 x7
  v328 : W (Proc.devRef .tc main_v328) = Cert.LruRefIdeal.Read.val_main_v350 (F := Ideal) x0 x1 x2 x3 x4 x5 x6 x7

structure Cut23 (W : Valuation τ sig (Elt Ideal)) (x0 : FVec Ideal S4096x3072 .f32) (x1 : FVec Ideal S4x256 .f32) (x2 : FVec Ideal S256 .f32) (x3 : FVec Ideal S4x64x64 .f32) (x4 : FVec Ideal S4x64 .f32)
    (x5 : FVec Ideal S4x64x64 .f32) (x6 : FVec Ideal S4x64 .f32) (x7 : FVec Ideal S256 .f32) : Prop where
  v337 : W (Proc.devRef .tc main_v337) = Cert.LruRefIdeal.Read.val_main_v360 (F := Ideal) x0 x1 x2 x3 x4 x5 x6 x7

set_option maxHeartbeats 1600000 in
theorem cut1 (h : Cut0 W x0 x1 x2 x3 x4 x5 x6 x7) : Cut1 (after ((line.drop 0).take 20) W) x0 x1 x2 x3 x4 x5 x6 x7 where
  arg1 := by after_reads_simp; exact h.arg1
  arg3 := by after_reads_simp; exact h.arg3
  arg4 := by after_reads_simp; exact h.arg4
  arg5 := by after_reads_simp; exact h.arg5
  arg6 := by after_reads_simp; exact h.arg6
  arg7 := by after_reads_simp; exact h.arg7
  v2 := by after_reads_simp [cat_eq, StableHlo.unaryIndexed_result', StableHlo.binaryIndexed_result']; try simp only [h.arg0]; rfl
  v18 := by after_reads_simp [cat_eq, StableHlo.unaryIndexed_result', StableHlo.binaryIndexed_result']; try simp only [h.arg0, h.arg1, h.arg2]; rfl

set_option maxHeartbeats 1600000 in
theorem cut2 (h : Cut1 W x0 x1 x2 x3 x4 x5 x6 x7) : Cut2 (after ((line.drop 20).take 21) W) x0 x1 x2 x3 x4 x5 x6 x7 where
  arg5 := by after_reads_simp; exact h.arg5
  arg6 := by after_reads_simp; exact h.arg6
  arg7 := by after_reads_simp; exact h.arg7
  v32 := by after_reads_simp [cat_eq, StableHlo.unaryIndexed_result', StableHlo.binaryIndexed_result']; try simp only [h.arg1, h.v2, h.v18]; rfl
  v39 := by after_reads_simp [cat_eq, StableHlo.unaryIndexed_result', StableHlo.binaryIndexed_result']; try simp only [h.arg1, h.arg3, h.arg4, h.v2, h.v18]; rfl

set_option maxHeartbeats 1600000 in
theorem cut3 (h : Cut2 W x0 x1 x2 x3 x4 x5 x6 x7) : Cut3 (after ((line.drop 41).take 12) W) x0 x1 x2 x3 x4 x5 x6 x7 where
  arg5 := by after_reads_simp; exact h.arg5
  arg6 := by after_reads_simp; exact h.arg6
  v32 := by after_reads_simp; exact h.v32
  v47 := by after_reads_simp [cat_eq, StableHlo.unaryIndexed_result', StableHlo.binaryIndexed_result']; try simp only [h.v39]; rfl
  v48 := by after_reads_simp [cat_eq, StableHlo.unaryIndexed_result', StableHlo.binaryIndexed_result']; try simp only [h.arg7]; rfl

set_option maxHeartbeats 1600000 in
theorem cut4 (h : Cut3 W x0 x1 x2 x3 x4 x5 x6 x7) : Cut4 (after ((line.drop 53).take 21) W) x0 x1 x2 x3 x4 x5 x6 x7 where
  v32 := by after_reads_simp; exact h.v32
  v52 := by after_reads_simp [cat_eq, StableHlo.unaryIndexed_result', StableHlo.binaryIndexed_result']; try simp only [h.v47, h.v48]; rfl
  v55 := by after_reads_simp [cat_eq, StableHlo.unaryIndexed_result', StableHlo.binaryIndexed_result']; try simp only [h.arg5, h.v32]; rfl
  v56 := by after_reads_simp [cat_eq, StableHlo.unaryIndexed_result', StableHlo.binaryIndexed_result']; try simp only [h.arg6]; rfl

set_option maxHeartbeats 1600000 in
theorem cut5 (h : Cut4 W x0 x1 x2 x3 x4 x5 x6 x7) : Cut5 (after ((line.drop 74).take 21) W) x0 x1 x2 x3 x4 x5 x6 x7 where
  v73 := by after_reads_simp [cat_eq, StableHlo.unaryIndexed_result', StableHlo.binaryIndexed_result']; try simp only [h.v32, h.v52, h.v55, h.v56]; rfl
  v74 := by after_reads_simp [cat_eq, StableHlo.unaryIndexed_result', StableHlo.binaryIndexed_result']; try simp only [h.v52]; rfl

set_option maxHeartbeats 1600000 in
theorem cut6 (h : Cut5 W x0 x1 x2 x3 x4 x5 x6 x7) : Cut6 (after ((line.drop 95).take 14) W) x0 x1 x2 x3 x4 x5 x6 x7 where
  v77 := by after_reads_simp [cat_eq, StableHlo.unaryIndexed_result', StableHlo.binaryIndexed_result']; try simp only [h.v74]; rfl
  v81 := by after_reads_simp [cat_eq, StableHlo.unaryIndexed_result', StableHlo.binaryIndexed_result']; try simp only [h.v73]; rfl
  v87 := by after_reads_simp [cat_eq, StableHlo.unaryIndexed_result', StableHlo.binaryIndexed_result']; try simp only [h.v74]; rfl
  v88 := by after_reads_simp [cat_eq, StableHlo.unaryIndexed_result', StableHlo.binaryIndexed_result']; try simp only [h.v73, h.v74]; rfl

set_option maxHeartbeats 1600000 in
theorem cut7 (h : Cut6 W x0 x1 x2 x3 x4 x5 x6 x7) : Cut7 (after ((line.drop 109).take 13) W) x0 x1 x2 x3 x4 x5 x6 x7 where
  v77 := by after_reads_simp; exact h.v77
  v81 := by after_reads_simp; exact h.v81
  v90 := by after_reads_simp [cat_eq, StableHlo.unaryIndexed_result', StableHlo.binaryIndexed_result']; try simp only [h.v87]; rfl
  v94 := by after_reads_simp [cat_eq, StableHlo.unaryIndexed_result', StableHlo.binaryIndexed_result']; try simp only [h.v88]; rfl
  v100 := by after_reads_simp [cat_eq, StableHlo.unaryIndexed_result', StableHlo.binaryIndexed_result']; try simp only [h.v87]; rfl
  v101 := by after_reads_simp [cat_eq, StableHlo.unaryIndexed_result', StableHlo.binaryIndexed_result']; try simp only [h.v87, h.v88]; rfl

set_option maxHeartbeats 1600000 in
theorem cut8 (h : Cut7 W x0 x1 x2 x3 x4 x5 x6 x7) : Cut8 (after ((line.drop 122).take 13) W) x0 x1 x2 x3 x4 x5 x6 x7 where
  v77 := by after_reads_simp; exact h.v77
  v81 := by after_reads_simp; exact h.v81
  v90 := by after_reads_simp; exact h.v90
  v94 := by after_reads_simp; exact h.v94
  v103 := by after_reads_simp [cat_eq, StableHlo.unaryIndexed_result', StableHlo.binaryIndexed_result']; try simp only [h.v100]; rfl
  v107 := by after_reads_simp [cat_eq, StableHlo.unaryIndexed_result', StableHlo.binaryIndexed_result']; try simp only [h.v101]; rfl
  v113 := by after_reads_simp [cat_eq, StableHlo.unaryIndexed_result', StableHlo.binaryIndexed_result']; try simp only [h.v100]; rfl
  v114 := by after_reads_simp [cat_eq, StableHlo.unaryIndexed_result', StableHlo.binaryIndexed_result']; try simp only [h.v100, h.v101]; rfl

set_option maxHeartbeats 1600000 in
theorem cut9 (h : Cut8 W x0 x1 x2 x3 x4 x5 x6 x7) : Cut9 (after ((line.drop 135).take 13) W) x0 x1 x2 x3 x4 x5 x6 x7 where
  v77 := by after_reads_simp; exact h.v77
  v81 := by after_reads_simp; exact h.v81
  v90 := by after_reads_simp; exact h.v90
  v94 := by after_reads_simp; exact h.v94
  v103 := by after_reads_simp; exact h.v103
  v107 := by after_reads_simp; exact h.v107
  v116 := by after_reads_simp [cat_eq, StableHlo.unaryIndexed_result', StableHlo.binaryIndexed_result']; try simp only [h.v113]; rfl
  v120 := by after_reads_simp [cat_eq, StableHlo.unaryIndexed_result', StableHlo.binaryIndexed_result']; try simp only [h.v114]; rfl
  v126 := by after_reads_simp [cat_eq, StableHlo.unaryIndexed_result', StableHlo.binaryIndexed_result']; try simp only [h.v113]; rfl
  v127 := by after_reads_simp [cat_eq, StableHlo.unaryIndexed_result', StableHlo.binaryIndexed_result']; try simp only [h.v113, h.v114]; rfl

set_option maxHeartbeats 1600000 in
theorem cut10 (h : Cut9 W x0 x1 x2 x3 x4 x5 x6 x7) : Cut10 (after ((line.drop 148).take 13) W) x0 x1 x2 x3 x4 x5 x6 x7 where
  v77 := by after_reads_simp; exact h.v77
  v81 := by after_reads_simp; exact h.v81
  v90 := by after_reads_simp; exact h.v90
  v94 := by after_reads_simp; exact h.v94
  v103 := by after_reads_simp; exact h.v103
  v107 := by after_reads_simp; exact h.v107
  v116 := by after_reads_simp; exact h.v116
  v120 := by after_reads_simp; exact h.v120
  v129 := by after_reads_simp [cat_eq, StableHlo.unaryIndexed_result', StableHlo.binaryIndexed_result']; try simp only [h.v126]; rfl
  v133 := by after_reads_simp [cat_eq, StableHlo.unaryIndexed_result', StableHlo.binaryIndexed_result']; try simp only [h.v127]; rfl
  v139 := by after_reads_simp [cat_eq, StableHlo.unaryIndexed_result', StableHlo.binaryIndexed_result']; try simp only [h.v126]; rfl
  v140 := by after_reads_simp [cat_eq, StableHlo.unaryIndexed_result', StableHlo.binaryIndexed_result']; try simp only [h.v126, h.v127]; rfl

set_option maxHeartbeats 1600000 in
theorem cut11 (h : Cut10 W x0 x1 x2 x3 x4 x5 x6 x7) : Cut11 (after ((line.drop 161).take 13) W) x0 x1 x2 x3 x4 x5 x6 x7 where
  v77 := by after_reads_simp; exact h.v77
  v81 := by after_reads_simp; exact h.v81
  v90 := by after_reads_simp; exact h.v90
  v94 := by after_reads_simp; exact h.v94
  v103 := by after_reads_simp; exact h.v103
  v107 := by after_reads_simp; exact h.v107
  v116 := by after_reads_simp; exact h.v116
  v120 := by after_reads_simp; exact h.v120
  v129 := by after_reads_simp; exact h.v129
  v133 := by after_reads_simp; exact h.v133
  v142 := by after_reads_simp [cat_eq, StableHlo.unaryIndexed_result', StableHlo.binaryIndexed_result']; try simp only [h.v139]; rfl
  v146 := by after_reads_simp [cat_eq, StableHlo.unaryIndexed_result', StableHlo.binaryIndexed_result']; try simp only [h.v140]; rfl
  v152 := by after_reads_simp [cat_eq, StableHlo.unaryIndexed_result', StableHlo.binaryIndexed_result']; try simp only [h.v139]; rfl
  v153 := by after_reads_simp [cat_eq, StableHlo.unaryIndexed_result', StableHlo.binaryIndexed_result']; try simp only [h.v139, h.v140]; rfl

set_option maxHeartbeats 1600000 in
theorem cut12 (h : Cut11 W x0 x1 x2 x3 x4 x5 x6 x7) : Cut12 (after ((line.drop 174).take 13) W) x0 x1 x2 x3 x4 x5 x6 x7 where
  v77 := by after_reads_simp; exact h.v77
  v81 := by after_reads_simp; exact h.v81
  v90 := by after_reads_simp; exact h.v90
  v94 := by after_reads_simp; exact h.v94
  v103 := by after_reads_simp; exact h.v103
  v107 := by after_reads_simp; exact h.v107
  v116 := by after_reads_simp; exact h.v116
  v120 := by after_reads_simp; exact h.v120
  v129 := by after_reads_simp; exact h.v129
  v133 := by after_reads_simp; exact h.v133
  v142 := by after_reads_simp; exact h.v142
  v146 := by after_reads_simp; exact h.v146
  v155 := by after_reads_simp [cat_eq, StableHlo.unaryIndexed_result', StableHlo.binaryIndexed_result']; try simp only [h.v152]; rfl
  v159 := by after_reads_simp [cat_eq, StableHlo.unaryIndexed_result', StableHlo.binaryIndexed_result']; try simp only [h.v153]; rfl
  v165 := by after_reads_simp [cat_eq, StableHlo.unaryIndexed_result', StableHlo.binaryIndexed_result']; try simp only [h.v152]; rfl
  v166 := by after_reads_simp [cat_eq, StableHlo.unaryIndexed_result', StableHlo.binaryIndexed_result']; try simp only [h.v152, h.v153]; rfl

set_option maxHeartbeats 1600000 in
theorem cut13 (h : Cut12 W x0 x1 x2 x3 x4 x5 x6 x7) : Cut13 (after ((line.drop 187).take 13) W) x0 x1 x2 x3 x4 x5 x6 x7 where
  v77 := by after_reads_simp; exact h.v77
  v81 := by after_reads_simp; exact h.v81
  v90 := by after_reads_simp; exact h.v90
  v94 := by after_reads_simp; exact h.v94
  v103 := by after_reads_simp; exact h.v103
  v107 := by after_reads_simp; exact h.v107
  v116 := by after_reads_simp; exact h.v116
  v120 := by after_reads_simp; exact h.v120
  v129 := by after_reads_simp; exact h.v129
  v133 := by after_reads_simp; exact h.v133
  v142 := by after_reads_simp; exact h.v142
  v146 := by after_reads_simp; exact h.v146
  v155 := by after_reads_simp; exact h.v155
  v159 := by after_reads_simp; exact h.v159
  v168 := by after_reads_simp [cat_eq, StableHlo.unaryIndexed_result', StableHlo.binaryIndexed_result']; try simp only [h.v165]; rfl
  v172 := by after_reads_simp [cat_eq, StableHlo.unaryIndexed_result', StableHlo.binaryIndexed_result']; try simp only [h.v166]; rfl
  v178 := by after_reads_simp [cat_eq, StableHlo.unaryIndexed_result', StableHlo.binaryIndexed_result']; try simp only [h.v165]; rfl
  v179 := by after_reads_simp [cat_eq, StableHlo.unaryIndexed_result', StableHlo.binaryIndexed_result']; try simp only [h.v165, h.v166]; rfl

set_option maxHeartbeats 1600000 in
theorem cut14 (h : Cut13 W x0 x1 x2 x3 x4 x5 x6 x7) : Cut14 (after ((line.drop 200).take 13) W) x0 x1 x2 x3 x4 x5 x6 x7 where
  v77 := by after_reads_simp; exact h.v77
  v81 := by after_reads_simp; exact h.v81
  v90 := by after_reads_simp; exact h.v90
  v94 := by after_reads_simp; exact h.v94
  v103 := by after_reads_simp; exact h.v103
  v107 := by after_reads_simp; exact h.v107
  v116 := by after_reads_simp; exact h.v116
  v120 := by after_reads_simp; exact h.v120
  v129 := by after_reads_simp; exact h.v129
  v133 := by after_reads_simp; exact h.v133
  v142 := by after_reads_simp; exact h.v142
  v146 := by after_reads_simp; exact h.v146
  v155 := by after_reads_simp; exact h.v155
  v159 := by after_reads_simp; exact h.v159
  v168 := by after_reads_simp; exact h.v168
  v172 := by after_reads_simp; exact h.v172
  v181 := by after_reads_simp [cat_eq, StableHlo.unaryIndexed_result', StableHlo.binaryIndexed_result']; try simp only [h.v178]; rfl
  v185 := by after_reads_simp [cat_eq, StableHlo.unaryIndexed_result', StableHlo.binaryIndexed_result']; try simp only [h.v179]; rfl
  v191 := by after_reads_simp [cat_eq, StableHlo.unaryIndexed_result', StableHlo.binaryIndexed_result']; try simp only [h.v178]; rfl
  v192 := by after_reads_simp [cat_eq, StableHlo.unaryIndexed_result', StableHlo.binaryIndexed_result']; try simp only [h.v178, h.v179]; rfl

set_option maxHeartbeats 1600000 in
theorem cut15 (h : Cut14 W x0 x1 x2 x3 x4 x5 x6 x7) : Cut15 (after ((line.drop 213).take 13) W) x0 x1 x2 x3 x4 x5 x6 x7 where
  v77 := by after_reads_simp; exact h.v77
  v81 := by after_reads_simp; exact h.v81
  v90 := by after_reads_simp; exact h.v90
  v94 := by after_reads_simp; exact h.v94
  v103 := by after_reads_simp; exact h.v103
  v107 := by after_reads_simp; exact h.v107
  v116 := by after_reads_simp; exact h.v116
  v120 := by after_reads_simp; exact h.v120
  v129 := by after_reads_simp; exact h.v129
  v133 := by after_reads_simp; exact h.v133
  v142 := by after_reads_simp; exact h.v142
  v146 := by after_reads_simp; exact h.v146
  v155 := by after_reads_simp; exact h.v155
  v159 := by after_reads_simp; exact h.v159
  v168 := by after_reads_simp; exact h.v168
  v172 := by after_reads_simp; exact h.v172
  v181 := by after_reads_simp; exact h.v181
  v185 := by after_reads_simp; exact h.v185
  v194 := by after_reads_simp [cat_eq, StableHlo.unaryIndexed_result', StableHlo.binaryIndexed_result']; try simp only [h.v191]; rfl
  v198 := by after_reads_simp [cat_eq, StableHlo.unaryIndexed_result', StableHlo.binaryIndexed_result']; try simp only [h.v192]; rfl
  v204 := by after_reads_simp [cat_eq, StableHlo.unaryIndexed_result', StableHlo.binaryIndexed_result']; try simp only [h.v191]; rfl
  v205 := by after_reads_simp [cat_eq, StableHlo.unaryIndexed_result', StableHlo.binaryIndexed_result']; try simp only [h.v191, h.v192]; rfl

set_option maxHeartbeats 1600000 in
theorem cut16 (h : Cut15 W x0 x1 x2 x3 x4 x5 x6 x7) : Cut16 (after ((line.drop 226).take 13) W) x0 x1 x2 x3 x4 x5 x6 x7 where
  v77 := by after_reads_simp; exact h.v77
  v81 := by after_reads_simp; exact h.v81
  v90 := by after_reads_simp; exact h.v90
  v94 := by after_reads_simp; exact h.v94
  v103 := by after_reads_simp; exact h.v103
  v107 := by after_reads_simp; exact h.v107
  v116 := by after_reads_simp; exact h.v116
  v120 := by after_reads_simp; exact h.v120
  v129 := by after_reads_simp; exact h.v129
  v133 := by after_reads_simp; exact h.v133
  v142 := by after_reads_simp; exact h.v142
  v146 := by after_reads_simp; exact h.v146
  v155 := by after_reads_simp; exact h.v155
  v159 := by after_reads_simp; exact h.v159
  v168 := by after_reads_simp; exact h.v168
  v172 := by after_reads_simp; exact h.v172
  v181 := by after_reads_simp; exact h.v181
  v185 := by after_reads_simp; exact h.v185
  v194 := by after_reads_simp; exact h.v194
  v198 := by after_reads_simp; exact h.v198
  v207 := by after_reads_simp [cat_eq, StableHlo.unaryIndexed_result', StableHlo.binaryIndexed_result']; try simp only [h.v204]; rfl
  v211 := by after_reads_simp [cat_eq, StableHlo.unaryIndexed_result', StableHlo.binaryIndexed_result']; try simp only [h.v205]; rfl
  v217 := by after_reads_simp [cat_eq, StableHlo.unaryIndexed_result', StableHlo.binaryIndexed_result']; try simp only [h.v204]; rfl
  v218 := by after_reads_simp [cat_eq, StableHlo.unaryIndexed_result', StableHlo.binaryIndexed_result']; try simp only [h.v204, h.v205]; rfl

set_option maxHeartbeats 1600000 in
theorem cut17 (h : Cut16 W x0 x1 x2 x3 x4 x5 x6 x7) : Cut17 (after ((line.drop 239).take 21) W) x0 x1 x2 x3 x4 x5 x6 x7 where
  v77 := by after_reads_simp; exact h.v77
  v81 := by after_reads_simp; exact h.v81
  v90 := by after_reads_simp; exact h.v90
  v94 := by after_reads_simp; exact h.v94
  v103 := by after_reads_simp; exact h.v103
  v107 := by after_reads_simp; exact h.v107
  v116 := by after_reads_simp; exact h.v116
  v120 := by after_reads_simp; exact h.v120
  v129 := by after_reads_simp; exact h.v129
  v133 := by after_reads_simp; exact h.v133
  v142 := by after_reads_simp; exact h.v142
  v146 := by after_reads_simp; exact h.v146
  v155 := by after_reads_simp; exact h.v155
  v159 := by after_reads_simp; exact h.v159
  v168 := by after_reads_simp; exact h.v168
  v172 := by after_reads_simp; exact h.v172
  v181 := by after_reads_simp; exact h.v181
  v185 := by after_reads_simp; exact h.v185
  v194 := by after_reads_simp; exact h.v194
  v198 := by after_reads_simp; exact h.v198
  v207 := by after_reads_simp; exact h.v207
  v211 := by after_reads_simp; exact h.v211
  v238 := by after_reads_simp [cat_eq, StableHlo.unaryIndexed_result', StableHlo.binaryIndexed_result']; try simp only [h.v217, h.v218]; rfl

set_option maxHeartbeats 1600000 in
theorem cut18 (h : Cut17 W x0 x1 x2 x3 x4 x5 x6 x7) : Cut18 (after ((line.drop 260).take 20) W) x0 x1 x2 x3 x4 x5 x6 x7 where
  v77 := by after_reads_simp; exact h.v77
  v81 := by after_reads_simp; exact h.v81
  v90 := by after_reads_simp; exact h.v90
  v94 := by after_reads_simp; exact h.v94
  v103 := by after_reads_simp; exact h.v103
  v107 := by after_reads_simp; exact h.v107
  v116 := by after_reads_simp; exact h.v116
  v120 := by after_reads_simp; exact h.v120
  v129 := by after_reads_simp; exact h.v129
  v133 := by after_reads_simp; exact h.v133
  v142 := by after_reads_simp; exact h.v142
  v146 := by after_reads_simp; exact h.v146
  v155 := by after_reads_simp; exact h.v155
  v159 := by after_reads_simp; exact h.v159
  v168 := by after_reads_simp; exact h.v168
  v172 := by after_reads_simp; exact h.v172
  v181 := by after_reads_simp; exact h.v181
  v185 := by after_reads_simp; exact h.v185
  v256 := by after_reads_simp [cat_eq, StableHlo.unaryIndexed_result', StableHlo.binaryIndexed_result']; try simp only [h.v194, h.v198, h.v207, h.v211, h.v238]; rfl

set_option maxHeartbeats 1600000 in
theorem cut19 (h : Cut18 W x0 x1 x2 x3 x4 x5 x6 x7) : Cut19 (after ((line.drop 280).take 20) W) x0 x1 x2 x3 x4 x5 x6 x7 where
  v77 := by after_reads_simp; exact h.v77
  v81 := by after_reads_simp; exact h.v81
  v90 := by after_reads_simp; exact h.v90
  v94 := by after_reads_simp; exact h.v94
  v103 := by after_reads_simp; exact h.v103
  v107 := by after_reads_simp; exact h.v107
  v116 := by after_reads_simp; exact h.v116
  v120 := by after_reads_simp; exact h.v120
  v129 := by after_reads_simp; exact h.v129
  v133 := by after_reads_simp; exact h.v133
  v142 := by after_reads_simp; exact h.v142
  v146 := by after_reads_simp; exact h.v146
  v155 := by after_reads_simp; exact h.v155
  v159 := by after_reads_simp; exact h.v159
  v274 := by after_reads_simp [cat_eq, StableHlo.unaryIndexed_result', StableHlo.binaryIndexed_result']; try simp only [h.v168, h.v172, h.v181, h.v185, h.v256]; rfl

set_option maxHeartbeats 1600000 in
theorem cut20 (h : Cut19 W x0 x1 x2 x3 x4 x5 x6 x7) : Cut20 (after ((line.drop 300).take 20) W) x0 x1 x2 x3 x4 x5 x6 x7 where
  v77 := by after_reads_simp; exact h.v77
  v81 := by after_reads_simp; exact h.v81
  v90 := by after_reads_simp; exact h.v90
  v94 := by after_reads_simp; exact h.v94
  v103 := by after_reads_simp; exact h.v103
  v107 := by after_reads_simp; exact h.v107
  v116 := by after_reads_simp; exact h.v116
  v120 := by after_reads_simp; exact h.v120
  v129 := by after_reads_simp; exact h.v129
  v133 := by after_reads_simp; exact h.v133
  v292 := by after_reads_simp [cat_eq, StableHlo.unaryIndexed_result', StableHlo.binaryIndexed_result']; try simp only [h.v142, h.v146, h.v155, h.v159, h.v274]; rfl

set_option maxHeartbeats 1600000 in
theorem cut21 (h : Cut20 W x0 x1 x2 x3 x4 x5 x6 x7) : Cut21 (after ((line.drop 320).take 20) W) x0 x1 x2 x3 x4 x5 x6 x7 where
  v77 := by after_reads_simp; exact h.v77
  v81 := by after_reads_simp; exact h.v81
  v90 := by after_reads_simp; exact h.v90
  v94 := by after_reads_simp; exact h.v94
  v103 := by after_reads_simp; exact h.v103
  v107 := by after_reads_simp; exact h.v107
  v310 := by after_reads_simp [cat_eq, StableHlo.unaryIndexed_result', StableHlo.binaryIndexed_result']; try simp only [h.v116, h.v120, h.v129, h.v133, h.v292]; rfl

set_option maxHeartbeats 1600000 in
theorem cut22 (h : Cut21 W x0 x1 x2 x3 x4 x5 x6 x7) : Cut22 (after ((line.drop 340).take 20) W) x0 x1 x2 x3 x4 x5 x6 x7 where
  v77 := by after_reads_simp; exact h.v77
  v81 := by after_reads_simp; exact h.v81
  v328 := by after_reads_simp [cat_eq, StableHlo.unaryIndexed_result', StableHlo.binaryIndexed_result']; try simp only [h.v90, h.v94, h.v103, h.v107, h.v310]; rfl

set_option maxHeartbeats 1600000 in
theorem cut23 (h : Cut22 W x0 x1 x2 x3 x4 x5 x6 x7) : Cut23 (after ((line.drop 360).take 10) W) x0 x1 x2 x3 x4 x5 x6 x7 where
  v337 := by after_reads_simp [cat_eq, StableHlo.unaryIndexed_result', StableHlo.binaryIndexed_result']; try simp only [h.v77, h.v81, h.v328]; rfl

/-- A line of operations runs piece by piece. -/
theorem after_both (l₁ l₂ : List (HloOp τ sig (Elt Ideal))) (U : Valuation τ sig (Elt Ideal)) : after (l₁ ++ l₂) U = after l₂ (after l₁ U) := by
  induction l₁ generalizing U with
  | nil => rfl
  | cons op l ih => exact ih _
theorem after_drop (l : List (HloOp τ sig (Elt Ideal))) (a b n : ℕ) (h : a + b = n) (U : Valuation τ sig (Elt Ideal)) :
    after (l.drop a) U = after (l.drop n) (after ((l.drop a).take b) U) := by
  subst h
  rw [← after_both, ← List.drop_drop, List.take_append_drop]

theorem cut_last (h : Cut23 W x0 x1 x2 x3 x4 x5 x6 x7) : after (line.drop 370) W (Proc.devRef .tc main_v337) = Cert.LruRefIdeal.Read.val_main_v360 (F := Ideal) x0 x1 x2 x3 x4 x5 x6 x7 := by
  after_reads_simp; exact h.v337
/-- The state the host saves is the reference's. -/
theorem state : V m c main_v337 = Cert.LruRefIdeal.Read.val_main_v360 (F := Ideal) (X0 m c) (X1 m c) (X2 m c) (X3 m c) (X4 m c) (X5 m c) (X6 m c) (X7 m c) := by
  have c0 : Cut0 (fun b => m (c, b)) (X0 m c) (X1 m c) (X2 m c) (X3 m c) (X4 m c) (X5 m c) (X6 m c) (X7 m c) := ⟨rfl, rfl, rfl, rfl, rfl, rfl, rfl, rfl⟩
  show after (line.drop 0) (fun b => m (c, b)) (Proc.devRef .tc main_v337) = _
  rw [after_drop line 0 20 20 rfl, after_drop line 20 21 41 rfl, after_drop line 41 12 53 rfl, after_drop line 53 21 74 rfl, after_drop line 74 21 95 rfl, after_drop line 95 14 109 rfl, after_drop line 109 13 122 rfl, after_drop line 122 13 135 rfl, after_drop line 135 13 148 rfl, after_drop line 148 13 161 rfl, after_drop line 161 13 174 rfl, after_drop line 174 13 187 rfl, after_drop line 187 13 200 rfl, after_drop line 200 13 213 rfl, after_drop line 213 13 226 rfl, after_drop line 226 13 239 rfl, after_drop line 239 21 260 rfl, after_drop line 260 20 280 rfl, after_drop line 280 20 300 rfl, after_drop line 300 20 320 rfl, after_drop line 320 20 340 rfl, after_drop line 340 20 360 rfl, after_drop line 360 10 370 rfl]
  exact cut_last (cut23 (cut22 (cut21 (cut20 (cut19 (cut18 (cut17 (cut16 (cut15 (cut14 (cut13 (cut12 (cut11 (cut10 (cut9 (cut8 (cut7 (cut6 (cut5 (cut4 (cut3 (cut2 (cut1 c0)))))))))))))))))))))))

end Cert.LruIdeal.Value
end
-- ==== Proof.LruGood.lean ====
module

public import proofs.«01_k».proof.Pre_lru_domain
public import proofs.«01_k».proof.Proof.LruWin
public import proofs.«01_k».proof.Proof.LruState
public import proofs.«01_k».proof.Proof.LruRefSide
public import proofs.«01_k».proof.Proof.Gen.LruRefIdeal.Run
public import Idealize.ShloMosaic.Lib.ReduceAll
public import Idealize.ShloMosaic.Lib.StableHlo.RunRead
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Common

/-! What the kernel's windows read. -/

namespace Cert.LruIdeal.Value
open Cert.LruIdeal Cert.LruIdeal.Gen Cert.LruIdeal.Block

variable {m : (ℓ : Loc nD τ sig) → Buf (Elt Ideal) ℓ}

variable {c : Dev nD}

open LruMath (grp pos Dat Q ln e2 e10 qr)
open Cert.LruRefIdeal.Read (Args Holds)

/-! ### What the precondition says -/

instance pre_facts : Cert.Pre_lru_domain.Facts where
  bcast_S_S4096x3072 := by decide
  reducesTo_S4096x3072_S_d0_1 := by decide
  h_S_ := by decide
  bcast_S_S4x256 := by decide
  reducesTo_S4x256_S_d0_1 := by decide
  bcast_S_S256 := by decide
  reducesTo_S256_S_d0 := by decide
  bcast_S_S4x64x64 := by decide
  reducesTo_S4x64x64_S_d0_1_2 := by decide
  bcast_S_S4x64 := by decide
  reducesTo_S4x64_S_d0_1 := by decide
  bcast_S_S4096x256 := by decide
  reducesTo_S4096x256_S_d0_1 := by decide
  slices_S4096x3072_S4096x256_0_2048 := by decide
  bcast_S_S3x256 := by decide
  concatenates_S3x256_S4096x256_S4099x256_d0 := by decide
  slices_S4099x256_S4096x256_0_0 := by decide
  slices_S4x256_S1x256_0_0 := by decide
  shapeCasts_S1x256_S256 := by decide
  bcast_S256_S1x256_1 := by decide
  bcast_S1x256_S4096x256_0_1 := by decide
  slices_S4099x256_S4096x256_1_0 := by decide
  slices_S4x256_S1x256_1_0 := by decide
  slices_S4099x256_S4096x256_2_0 := by decide
  slices_S4x256_S1x256_2_0 := by decide
  slices_S4099x256_S4096x256_3_0 := by decide
  slices_S4x256_S1x256_3_0 := by decide
  shapeCasts_S4096x256_S4096x4x64 := by decide
  transposes_S4x64x4096_S4096x4x64_2_0_1 := by decide
  bcast_S4x64_S1x4x64_1_2 := by decide
  bcast_S1x4x64_S4096x4x64_0_1_2 := by decide
  bcast_S_S4096x4x64 := by decide
  shapeCasts_S4096x4x64_S4096x256 := by decide
  dot_S4x64x64_S4096x4x64_S4x64x4096_1_2_2_0_0_1_wf := by decide

theorem pre_of (hpre : Cert.Pre_lru_domain.fn (F := Ideal) (X0 m c) (X1 m c) (X2 m c) (X3 m c) (X4 m c) (X5 m c) (X6 m c) (X7 m c) (X8 m c) (X9 m c) (X10 m c) = fun _ => 1#1) :
    Fin' m c ∧ ∀ i, Ideal.cmp .ole (Cert.LruRefIdeal.Read.val_main_v76 (F := Ideal) (X0 m c) (X1 m c) (X2 m c) (X3 m c) (X4 m c) (X7 m c) i) (Ideal.ofBits .f32 0xBCF5C28F#32) = 1#1 := by
  have : Subsingleton Cert.Pre_lru_domain.S_.Idx := ⟨fun a b => funext fun k => Fin.elim0 k⟩
  have h := congrFun hpre (fun a => Fin.elim0 a)
  unfold Cert.Pre_lru_domain.fn Cert.Pre_lru_domain.fn_part1 Cert.Pre_lru_domain.fn_part2 Cert.Pre_lru_domain.fn_part3 Cert.Pre_lru_domain.fn_part4 Cert.Pre_lru_domain.fn_part5 at h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  obtain ⟨-, h0⟩ := IntOp.andi_eq_one.1 h
  exact ⟨⟨fun i => IsReal.of_lt (Host.reduce_andi_all _ _ _ _ _ h0 i), fun i => IsReal.of_lt (Host.reduce_andi_all _ _ _ _ _ h1 i),
    fun i => IsReal.of_lt (Host.reduce_andi_all _ _ _ _ _ h2 i), fun i => IsReal.of_lt (Host.reduce_andi_all _ _ _ _ _ h3 i),
    fun i => IsReal.of_lt (Host.reduce_andi_all _ _ _ _ _ h4 i), fun i => IsReal.of_lt (Host.reduce_andi_all _ _ _ _ _ h5 i),
    fun i => IsReal.of_lt (Host.reduce_andi_all _ _ _ _ _ h6 i), fun i => IsReal.of_lt (Host.reduce_andi_all _ _ _ _ _ h7 i),
    fun i => IsReal.of_lt (Host.reduce_andi_all _ _ _ _ _ h8 i), fun i => IsReal.of_lt (Host.reduce_andi_all _ _ _ _ _ h9 i)⟩,
    fun i => Host.reduce_andi_all _ _ _ _ _ h10 i⟩

theorem dom_of (hpre : Cert.Pre_lru_domain.fn (F := Ideal) (X0 m c) (X1 m c) (X2 m c) (X3 m c) (X4 m c) (X5 m c) (X6 m c) (X7 m c) (X8 m c) (X9 m c) (X10 m c) = fun _ => 1#1) :
    (dat m c).Dom := fun l t ht => by
  have h := (pre_of hpre).2 (ix2 ⟨t, ht⟩ l)
  have e := Args.x22_v (args_of (pre_of hpre).1) (⟨t, ht⟩, l)
  change Cert.LruRefIdeal.Read.val_main_v76 (F := Ideal) (X0 m c) (X1 m c) (X2 m c) (X3 m c) (X4 m c) (X7 m c) (ix2 ⟨t, ht⟩ l) = (((dat m c).x2 l t : ℝ) : EReal) at e
  rw [e, LruMath.bits_c3] at h
  have h' : ((((dat m c).x2 l t : ℝ) : EReal) ≤ ((LruMath.c3 : ℝ) : EReal)) := by
    by_contra hn
    rw [show Ideal.cmp .ole (((dat m c).x2 l t : ℝ) : EReal) ((LruMath.c3 : ℝ) : EReal) = BitVec.ofBool (decide ((((dat m c).x2 l t : ℝ) : EReal) ≤ ((LruMath.c3 : ℝ) : EReal))) from rfl, decide_eq_false hn] at h
    exact absurd h (by decide)
  exact EReal.coe_le_coe_iff.1 h'

/-! ### Every step's blocks hold the backward pass -/

theorem pay15_at (i : grid0.Coords) (x : A) (y) : (k0_pay15 (F := Ideal) i x y : EReal) = x y * k0_pay14 (F := Ideal) i := rfl
theorem pay16_at (i : grid0.Coords) (x : A) (y) : (k0_pay16 (F := Ideal) i x y : EReal) = x y * k0_pay14 (F := Ideal) i := by rw [eq_ix2 y]; pointwise [k0_pay16]

variable (hf : Fin' m c) (hd : (dat m c).Dom) (t : Fin cfg0.N)
include hf hd
theorem holds : Holds (dat m c) (X0 m c) (X1 m c) (X2 m c) (X3 m c) (X4 m c) (X5 m c) (X6 m c) (X7 m c) (X8 m c) (X9 m c) := { args_of hf with dom := hd }
theorem h_at (r : Fin 4096) (l : Fin 256) : (V m c main_v337 (ix2 r l) : EReal) = (((dat m c).h l r.val : ℝ) : EReal) :=
  (congrFun (state m c) (ix2 r l)).trans ((holds hf hd).h_v (r, l))
omit hf hd in
/-- The rows before a block, where there are any. -/
theorem before {x : A} {f : Fin 256 → ℕ → ℝ} (h : ∀ (r : Fin 512) (l : Fin 256), (x (ix2 r l) : EReal) = ((f l (row' t r).val : ℝ) : EReal)) (r : Fin 512) (l : Fin 256) :
    (x (ix2 r l) * k0_pay14 (F := Ideal) (grid0.coords t) : EReal) = ((LruMath.dn 512 f l (base t + r.val) : ℝ) : EReal) := by
  rw [keep]
  unfold LruMath.dn
  have ht : t.val < 8 := lt_of_lt_of_eq t.isLt N_0
  by_cases h7 : t.val = 7
  · rw [if_pos h7, mul_zero, if_neg (by unfold base; omega)]; rfl
  · rw [if_neg h7, mul_one, if_pos (by unfold base; omega), h r l]
    exact congrArg (fun n => ((f l n : ℝ) : EReal)) (by show 512 * (6 - t.val) + r.val = base t + r.val - 512; unfold base; omega)
theorem f_xb : Bk (base t) (iblk m c 0 t : A) (dat m c).xb := fun p => (read0 m c t p.1 p.2).trans (ext_eq (fun t => X0 m c (ix2 t (cx p.2))) (row t p.1) (hf.z _))
theorem f_xp : Bk (base t) (k0_pay15 (F := Ideal) (grid0.coords t) (iblk m c 1 t) : A) (LruMath.dn 512 (dat m c).xb) := fun p => (pay15_at _ _ _).trans (before t (f := (dat m c).xb) (fun r l => (read1 m c t r l).trans (ext_eq (fun t => X0 m c (ix2 t (cx l))) (row' t r) (hf.z _))) p.1 p.2)
theorem f_hp : Bk (base t) (k0_pay16 (F := Ideal) (grid0.coords t) (iblk m c 4 t) : A) (LruMath.dn 512 (dat m c).h) := fun p => (pay16_at _ _ _).trans (before t (f := (dat m c).h) (fun r l => (read4 m c t r l).trans (h_at hf hd _ _)) p.1 p.2)
theorem f_gate : Bk (base t) (iblk m c 2 t : A) (dat m c).gate := fun p => (read2 m c t p.1 p.2).trans (ext_eq (fun t => X0 m c (ix2 t (cg p.2))) (row t p.1) (hf.z _))
theorem f_h0 : Bk (base t) (iblk m c 3 t : A) (dat m c).h := fun p => (read3 m c t p.1 p.2).trans (h_at hf hd _ _)
theorem f_ct : Bk (base t) (iblk m c 5 t : A) (dat m c).ct := fun p => (read5 m c t p.1 p.2).trans (ext_eq (fun t => X9 m c (ix2 t p.2)) (row t p.1) (hf.ct _))
theorem f_wa : Diag (iblk m c 8 t) fun k l => (dat m c).wa (grp l) (pos k) (pos l) := fun k l => by
  refine (read8 m c t k l).trans ?_
  split
  · exact real_eq (hf.wa _)
  · rfl
theorem f_wx : Diag (iblk m c 10 t) fun k l => (dat m c).wx (grp l) (pos k) (pos l) := fun k l => by
  refine (read10 m c t k l).trans ?_
  split
  · exact real_eq (hf.wx _)
  · rfl
theorem f_cb : Rw (iblk m c 7 t) (dat m c).cb := fun l => (read7 m c t l).trans (real_eq (hf.cb _))
theorem f_ba : Rw (iblk m c 9 t) (dat m c).ba := fun l => (read9 m c t l).trans (real_eq (hf.ba _))
theorem f_bx : Rw (iblk m c 11 t) (dat m c).bx := fun l => (read11 m c t l).trans (real_eq (hf.bx _))
theorem f_lam : Rw (iblk m c 12 t) (dat m c).lam := fun l => (read12 m c t l).trans (real_eq (hf.lam _))
theorem f_gain : Rw (iblk m c 13 t) (dat m c).gain := fun l => (read13 m c t l).trans (real_eq (hf.gain _))
omit hf hd in
theorem inp_xp (gf af : R) (nx : A) : (inp m c t gf af nx).xp = k0_pay15 (F := Ideal) (grid0.coords t) (iblk m c 1 t) := by
  delta In.xp; dsimp only [inp]
omit hf hd in
theorem inp_hp (gf af : R) (nx : A) : (inp m c t gf af nx).hp = k0_pay16 (F := Ideal) (grid0.coords t) (iblk m c 4 t) := by
  delta In.hp; dsimp only [inp]
theorem good_of (gf af : R) (nx : A) (hg : Rw gf fun l => (dat m c).g l (base t + 512)) (ha : Rw af fun l => aN (dat m c) l (base t + 512))
    (hn : Bk (base t) nx (LruMath.up 512 (dat m c).dxc)) : Good (dat m c) (base t) (inp m c t gf af nx) := by
  refine Good.mk ?_ hd ?_ ?_ ?_ ?_ ?_ ?_ ?_ ?_ ?_ ?_ ?_ ?_ ?_ ?_ ?_ hg ha hn
  · unfold base; omega
  · dsimp only [inp]; exact f_xb hf hd t
  · rw [inp_xp]; exact f_xp hf hd t
  · rw [inp_hp]; exact f_hp hf hd t
  · dsimp only [inp]; exact f_gate hf hd t
  · dsimp only [inp]; exact f_h0 hf hd t
  · dsimp only [inp]; exact f_ct hf hd t
  · dsimp only [inp]; exact fun j l => (read6 m c t j l).trans (real_eq (hf.cw _))
  · dsimp only [inp]; exact f_cb hf hd t
  · dsimp only [inp]; exact f_wa hf hd t
  · dsimp only [inp]; exact f_ba hf hd t
  · dsimp only [inp]; exact f_wx hf hd t
  · dsimp only [inp]; exact f_bx hf hd t
  · dsimp only [inp]; exact f_lam hf hd t
  · dsimp only [inp]; exact f_gain hf hd t
  · dsimp only [inp]; exact read14 m c t

/-! ### What is carried from one step to the next -/

omit hf hd in
theorem row0_at (x : FVec Ideal S8x256 .f32) (l : Fin 256) : (row0 x (ix2 0 l) : EReal) = x (ix2 0 l) :=
  congrArg x (by funext a; refine Fin.ext ?_; fin_cases a <;> simp [Rect.emb, Rect.unit])
omit hf hd in
theorem pay124_at (x : A) (l : Fin 256) : (row0 (k0_pay124 x) (ix2 0 l) : EReal) = x (ix2 0 l) := by rw [row0_at]; pointwise [k0_pay124]
omit hf hd in
theorem pay125_at (x : A) (l : Fin 256) : (row0 (k0_pay125 x) (ix2 0 l) : EReal) = x (ix2 0 l) := by rw [row0_at]; pointwise [k0_pay125]
omit hf hd in
theorem pay1_at (x : A) (r : Fin 512) (l : Fin 256) : (k0_pay1 x (ix2 r l) : EReal) = x (ix2 r l) := by pointwise [k0_pay1]
omit hf hd in
theorem zero10 (l : Fin 256) : (row0 (k0_pay10 (F := Ideal)) (ix2 0 l) : EReal) = 0 := by rw [row0_at]; pointwise [k0_pay10]
omit hf hd in
theorem zero12 (l : Fin 256) : (row0 (k0_pay12 (k0_pay11 (F := Ideal))) (ix2 0 l) : EReal) = 0 := by rw [row0_at]; pointwise [k0_pay12, k0_pay11]
omit hf hd in
theorem zero13 (r : Fin 512) (l : Fin 256) : (k0_pay13 (F := Ideal) (ix2 r l) : EReal) = 0 := by pointwise [k0_pay13]

/-- What step `n` leaves for the next: the state's gradient and the factors of its first row, and its block of the convolution's gradient. -/
structure Carried (m : (ℓ : Loc nD τ sig) → Buf (Elt Ideal) ℓ) (c : Dev nD) (t : Fin cfg0.N) : Prop where
  g : Rw (row0 (outsAt0 m c t.val t.isLt).2.2.2.2.2.2.2.2.2.1) fun l => (dat m c).g l (base t)
  a : Rw (row0 (outsAt0 m c t.val t.isLt).2.2.2.2.2.2.2.2.2.2.1) fun l => (dat m c).a l (base t)
  x : Bk (base t) (outsAt0 m c t.val t.isLt).2.2.2.2.2.2.2.2.2.2.2 (dat m c).dxc

theorem goodA (h : t.val % 8 = 0) : Good (dat m c) (base t) (inA m c t) := by
  have ht : t.val < 8 := lt_of_lt_of_eq t.isLt N_0
  have hb : base t = 3584 := by unfold base; omega
  refine good_of hf hd t _ _ _ (fun l => (zero10 l).trans ?_) (fun l => (zero12 l).trans ?_) (fun p => (zero13 p.1 p.2).trans ?_)
  · show (0 : EReal) = (((dat m c).g l (base t + 512) : ℝ) : EReal)
    rw [hb, show (dat m c).g l (3584 + 512) = 0 from Cert.Recurrence.back_ge _ _ (by norm_num)]; rfl
  · show (0 : EReal) = ((aN (dat m c) l (base t + 512) : ℝ) : EReal)
    rw [hb, show aN (dat m c) l (3584 + 512) = 0 from if_neg (by norm_num)]; rfl
  · show (0 : EReal) = ((LruMath.up 512 (dat m c).dxc p.2 (base t + p.1.val) : ℝ) : EReal)
    rw [show LruMath.up 512 (dat m c).dxc p.2 (base t + p.1.val) = 0 from if_neg (by omega)]; rfl
theorem goodB (h : ¬t.val % 8 = 0) (C : Carried m c ⟨t.val - 1, lt_of_le_of_lt (Nat.sub_le _ _) t.isLt⟩) : Good (dat m c) (base t) (inB m c t) := by
  have ht : t.val < 8 := lt_of_lt_of_eq t.isLt N_0
  have hb : base ⟨t.val - 1, lt_of_le_of_lt (Nat.sub_le _ _) t.isLt⟩ = base t + 512 := by unfold base; show 512 * (7 - (t.val - 1)) = _; omega
  have hl : base t + 512 < 4096 := by unfold base; omega
  refine good_of hf hd t _ _ _ (fun l => (C.g l).trans ?_) (fun l => (C.a l).trans ?_) (fun p => (C.x p).trans ?_)
  · exact congrArg (fun n => (((dat m c).g l n : ℝ) : EReal)) hb
  · show (((dat m c).a l (base ⟨t.val - 1, lt_of_le_of_lt (Nat.sub_le _ _) t.isLt⟩) : ℝ) : EReal) = ((aN (dat m c) l (base t + 512) : ℝ) : EReal)
    rw [hb, show aN (dat m c) l (base t + 512) = (dat m c).a l (base t + 512) from if_pos hl]
  · show (((dat m c).dxc p.2 (base ⟨t.val - 1, lt_of_le_of_lt (Nat.sub_le _ _) t.isLt⟩ + p.1.val) : ℝ) : EReal) = ((LruMath.up 512 (dat m c).dxc p.2 (base t + p.1.val) : ℝ) : EReal)
    have hr := p.1.isLt
    rw [hb, show LruMath.up 512 (dat m c).dxc p.2 (base t + p.1.val) = (dat m c).dxc p.2 (base t + p.1.val + 512) from if_pos (by unfold base at *; omega), add_right_comm]
omit hf hd in
theorem carry_of {n : In} (G : Good (dat m c) (base t) n) (hg : (outsAt0 m c t.val t.isLt).2.2.2.2.2.2.2.2.2.1 = k0_pay124 n.g) (ha : (outsAt0 m c t.val t.isLt).2.2.2.2.2.2.2.2.2.2.1 = k0_pay125 n.a)
    (hx : (outsAt0 m c t.val t.isLt).2.2.2.2.2.2.2.2.2.2.2 = k0_pay1 n.dxc) : Carried m c t where
  g l := by rw [hg]; exact (pay124_at _ l).trans (G.g (0, l))
  a l := by rw [ha]; exact (pay125_at _ l).trans (G.a (0, l))
  x p := by rw [hx]; exact (pay1_at _ p.1 p.2).trans (G.dxc p)
theorem carried : ∀ (n : ℕ) (hn : n < cfg0.N), Carried m c ⟨n, hn⟩ := fun n => by
  induction n with
  | zero =>
    intro hn
    obtain ⟨-, -, -, -, -, -, -, -, -, hg, ha, hx⟩ := outsA m c ⟨0, hn⟩ rfl
    exact carry_of ⟨0, hn⟩ (goodA hf hd ⟨0, hn⟩ rfl) hg ha hx
  | succ n ih =>
    intro hn
    by_cases h : (n + 1) % 8 = 0
    · obtain ⟨-, -, -, -, -, -, -, -, -, hg, ha, hx⟩ := outsA m c ⟨n + 1, hn⟩ h
      exact carry_of ⟨n + 1, hn⟩ (goodA hf hd ⟨n + 1, hn⟩ h) hg ha hx
    · obtain ⟨-, -, -, -, -, -, -, -, -, hg, ha, hx⟩ := outsB m c ⟨n + 1, hn⟩ h
      exact carry_of ⟨n + 1, hn⟩ (goodB hf hd ⟨n + 1, hn⟩ h (ih (Nat.lt_of_succ_lt hn))) hg ha hx
theorem goodB' (h : ¬t.val % 8 = 0) : Good (dat m c) (base t) (inB m c t) := goodB hf hd t h (carried hf hd _ _)

end Cert.LruIdeal.Value
end
-- ==== Proof.LruKernel.lean ====
module

public import proofs.«01_k».proof.Pre_lru_domain
public import proofs.«01_k».proof.Proof.LruGood
public import proofs.«01_k».proof.Proof.LruRefSide
public import proofs.«01_k».proof.Proof.Gen.LruRefIdeal.Run
public import Idealize.ShloMosaic.Lib.ReduceAll
public import Idealize.ShloMosaic.Lib.StableHlo.RunRead
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Common

/-! What the kernel's windows read. -/

namespace Cert.LruIdeal.Value
open Cert.LruIdeal Cert.LruIdeal.Gen Cert.LruIdeal.Block

variable {m : (ℓ : Loc nD τ sig) → Buf (Elt Ideal) ℓ}

variable {c : Dev nD}

open LruMath (grp pos Dat Q ln e2 e10 qr)
open Cert.SguRefIdeal.Read (at_mul)

/-! ### One step's part of each sum -/

theorem pay117_at (x : A) (old : R) (l : Fin 256) : (k0_pay117 x old (ix2 0 l) : EReal)
    = old (ix2 0 l) + shapeCast S1x256 (multiReduction .add [0] S256 x 0x00000000#32 reduces_S512x256_S256 (.inl rfl) rfl) shapeCasts_S256_S1x256 (ix2 0 l) :=
  congrArg (fun z : EReal => z + _) (same_row old l)
theorem pay118_at (x old : W) (k l : Fin 256) : (k0_pay118 x old (ix2 k l) : EReal) = old (ix2 k l) + x (ix2 k l) := congrArg (fun z : EReal => z + _) (same_w old k l)
theorem pay120_at (x old : W) (k l : Fin 256) : (k0_pay120 x old (ix2 k l) : EReal) = old (ix2 k l) + x (ix2 k l) := congrArg (fun z : EReal => z + _) (same_w old k l)
theorem pay119_at (x old : R) (l : Fin 256) : (k0_pay119 x old (ix2 0 l) : EReal) = old (ix2 0 l) + x (ix2 0 l) := congrArg (fun z : EReal => z + _) (same_row old l)
theorem pay121_at (x old : R) (l : Fin 256) : (k0_pay121 x old (ix2 0 l) : EReal) = old (ix2 0 l) + x (ix2 0 l) := congrArg (fun z : EReal => z + _) (same_row old l)
theorem pay122_at (x old : R) (l : Fin 256) : (k0_pay122 x old (ix2 0 l) : EReal) = old (ix2 0 l) + x (ix2 0 l) := congrArg (fun z : EReal => z + _) (same_row old l)
theorem pay123_at (x old : R) (l : Fin 256) : (k0_pay123 x old (ix2 0 l) : EReal) = old (ix2 0 l) + x (ix2 0 l) := congrArg (fun z : EReal => z + _) (same_row old l)
theorem zero2 (j : Fin 4) (l : Fin 256) : (k0_pay2 (F := Ideal) (ix2 j l) : EReal) = 0 := by pointwise [k0_pay2]
theorem zero3 (l : Fin 256) : (k0_pay3 (F := Ideal) (ix2 0 l) : EReal) = 0 := by pointwise [k0_pay3]
theorem zero4 (k : Fin 256) (l : Fin 256) : (k0_pay4 (F := Ideal) (ix2 k l) : EReal) = 0 := by pointwise [k0_pay4]
theorem zero5 (l : Fin 256) : (k0_pay5 (F := Ideal) (ix2 0 l) : EReal) = 0 := by pointwise [k0_pay5]
theorem zero6 (k : Fin 256) (l : Fin 256) : (k0_pay6 (F := Ideal) (ix2 k l) : EReal) = 0 := by pointwise [k0_pay6]
theorem zero7 (l : Fin 256) : (k0_pay7 (F := Ideal) (ix2 0 l) : EReal) = 0 := by pointwise [k0_pay7]
theorem zero8 (l : Fin 256) : (k0_pay8 (F := Ideal) (ix2 0 l) : EReal) = 0 := by pointwise [k0_pay8]
theorem zero9 (l : Fin 256) : (k0_pay9 (F := Ideal) (ix2 0 l) : EReal) = 0 := by pointwise [k0_pay9]

/-- The rows of all eight steps are the rows of the array. -/
theorem rows_all (F : ℕ → ℝ) : ∑ t : Fin 8, ∑ r : Fin 512, F (512 * (7 - t.val) + r.val) = ∑ n : Fin 4096, F n.val := by
  rw [← Equiv.sum_comp Fin.revPerm]
  refine Fin.sum_mul_add_congr (n := 512) (S := 8) (F := fun t r => F (512 * (7 - (Fin.revPerm t).val) + r.val)) (f := fun n : Fin 4096 => F n.val) fun t r _ => ?_
  refine congrArg F ?_
  rw [Fin.revPerm_apply, Fin.val_rev]
  show _ = t.val * 512 + r.val
  omega
/-- What adds up one block's part at every step holds the sum over all rows after the last. -/
theorem gather (f : (n : ℕ) → n < cfg0.N → EReal) (F : ℕ → ℝ)
    (h0 : ∀ t : Fin cfg0.N, t.val % 8 = 0 → f t.val t.isLt = 0 + ((∑ r : Fin 512, F (base t + r.val) : ℝ) : EReal))
    (hs : ∀ t : Fin cfg0.N, ¬t.val % 8 = 0 → f t.val t.isLt = f (t.val - 1) (lt_of_le_of_lt (Nat.sub_le _ _) t.isLt) + ((∑ r : Fin 512, F (base t + r.val) : ℝ) : EReal)) :
    f t0_7.val t0_7.isLt = ((∑ n : Fin 4096, F n.val : ℝ) : EReal) := by
  have h := Pipeline.eq_sum_fin_of_reset_step_apply_last (fun n hn (_ : Unit) => f n hn) 8 (fun _ => 0) (fun t _ => ((∑ r : Fin 512, F (base t + r.val) : ℝ) : EReal))
    (fun t h _ => h0 t h) (fun t h _ => hs t h) (le_of_eq N_0) t0_7 rfl ()
  refine h.trans ?_
  rw [zero_add, ← coe_sum]
  exact congrArg _ (rows_all F)

theorem tap_at (x : FVec Ideal S4x256 .f32) (j : Fin 4) (h) (l : Fin 256) : (tap x j.val h (ix2 0 l) : EReal) = x (ix2 j l) :=
  congrArg x (by funext a; refine Fin.ext ?_; fin_cases a <;> simp [Rect.emb, Rect.unit])

section
variable {d : Dat} {o : ℕ} {n : In} (G : Good d o n)
include G
/-- One tap's part of the weights' gradient. -/
theorem tap_of {x : A} {f : Q} (hx : Bk o x f) (old : R) (l : Fin 256) :
    (addf (shapeCast S1x256 old shapeCasts_S1x256_S1x256) (shapeCast S1x256 (multiReduction .add [0] S256 (mulf n.dxc x) 0x00000000#32 reduces_S512x256_S256 (.inl rfl) rfl) shapeCasts_S256_S1x256) (ix2 0 l) : EReal)
      = old (ix2 0 l) + ((∑ r : Fin 512, f l (o + r.val) * d.dxc l (o + r.val) : ℝ) : EReal) := by
  refine congrArg₂ (HAdd.hAdd (α := EReal)) (same_row old l) ?_
  refine (at_sum (f := blk o fun l t => d.dxc l t * f l t) (at_mul G.dxc hx) l).trans (congrArg _ (Finset.sum_congr rfl fun r _ => ?_))
  exact mul_comm _ _
theorem taps_at (old : FVec Ideal S4x256 .f32) (L) (j : Fin 4) (l : Fin 256) : (View.canon (taps n old L) (ix2 j l) : EReal)
    = old (ix2 j l) + ((∑ r : Fin 512, LruMath.dn (3 - j.val) d.xb l (o + r.val) * d.dxc l (o + r.val) : ℝ) : EReal) := by
  have e : ∀ (i : ℕ) (h) (hi : i = j.val), (Rect.unit (s := S4x256) ![i, 0] ![1, 256] h).emb (ix2 0 l) = ix2 j l := fun i h hi => by
    funext a; refine Fin.ext ?_; fin_cases a <;> simp [Rect.emb, Rect.unit, hi]
  have no : ∀ (i : ℕ) (h) (w), i ≠ j.val → ix2 j l ∉ (⟨Rect.unit (s := S4x256) ![i, 0] ![1, 256] h, w⟩ : View.Piece (Elt Ideal) S4x256 .f32).1.set := fun i h w hi hm => by
    simp only [Rect.mem_set_unit, Fin.forall_fin_two, Matrix.cons_val_zero, Matrix.cons_val_one] at hm
    exact hi (by have := hm.1; simp at this; omega)
  fin_cases j
  · unfold taps
    rw [← e 0 inb_S4x256_S1x256_0_0 rfl, View.canon_cons_emb, e 0 inb_S4x256_S1x256_0_0 rfl]
    exact (tap_of G G.x3 _ l).trans (congrArg (fun z : EReal => z + _) (tap_at old 0 _ l))
  · unfold taps
    rw [View.canon_cons_of_not_mem _ _ (no 0 _ _ (by decide)), ← e 1 inb_S4x256_S1x256_1_0 rfl, View.canon_cons_emb, e 1 inb_S4x256_S1x256_1_0 rfl]
    exact (tap_of G G.x2' _ l).trans (congrArg (fun z : EReal => z + _) (tap_at old 1 _ l))
  · unfold taps
    rw [View.canon_cons_of_not_mem _ _ (no 0 _ _ (by decide)), View.canon_cons_of_not_mem _ _ (no 1 _ _ (by decide)), ← e 2 inb_S4x256_S1x256_2_0 rfl, View.canon_cons_emb, e 2 inb_S4x256_S1x256_2_0 rfl]
    exact (tap_of G G.x1 _ l).trans (congrArg (fun z : EReal => z + _) (tap_at old 2 _ l))
  · unfold taps
    rw [View.canon_cons_of_not_mem _ _ (no 0 _ _ (by decide)), View.canon_cons_of_not_mem _ _ (no 1 _ _ (by decide)), View.canon_cons_of_not_mem _ _ (no 2 _ _ (by decide)), ← e 3 inb_S4x256_S1x256_3_0 rfl, View.canon_cons_emb, e 3 inb_S4x256_S1x256_3_0 rfl]
    refine (tap_of G G.xb _ l).trans (congrArg₂ (HAdd.hAdd (α := EReal)) (tap_at old 3 _ l) ?_)
    rfl
end

/-! ### The sums over all rows -/

variable (hf : Fin' m c) (hd : (dat m c).Dom)
include hf hd
theorem dcw_all (j : Fin 4) (l : Fin 256) : ((outsAt0 m c t0_7.val t0_7.isLt).2.1 (ix2 j l) : EReal) = (((dat m c).dcw j l : ℝ) : EReal) := by
  refine gather (fun n hn => ((outsAt0 m c n hn).2.1 (ix2 j l) : EReal)) (fun t => LruMath.dn (3 - j.val) (dat m c).xb l t * (dat m c).dxc l t) (fun t h => ?_) (fun t h => ?_)
  · rw [(outsA m c t h).2.1, taps_at (goodA hf hd t h), zero2]
  · rw [(outsB m c t h).2.1, taps_at (goodB' hf hd t h)]
theorem dcb_all (l : Fin 256) : ((outsAt0 m c t0_7.val t0_7.isLt).2.2.1 (ix2 0 l) : EReal) = (((dat m c).dcb l : ℝ) : EReal) := by
  refine gather (fun n hn => ((outsAt0 m c n hn).2.2.1 (ix2 0 l) : EReal)) (fun t => (dat m c).dxc l t) (fun t h => ?_) (fun t h => ?_)
  · rw [(outsA m c t h).2.2.1, pay117_at, zero3]; exact congrArg (fun z : EReal => 0 + z) ((goodA hf hd t h).dcb l)
  · rw [(outsB m c t h).2.2.1, pay117_at]; exact congrArg (fun z : EReal => _ + z) ((goodB' hf hd t h).dcb l)
theorem dwa_all (k l : Fin 256) : ((outsAt0 m c t0_7.val t0_7.isLt).2.2.2.1 (ix2 k l) : EReal) = (((dat m c).dwa k l : ℝ) : EReal) := by
  refine gather (fun n hn => ((outsAt0 m c n hn).2.2.2.1 (ix2 k l) : EReal)) (fun t => (dat m c).ga l t * (dat m c).xc k t) (fun t h => ?_) (fun t h => ?_)
  · rw [(outsA m c t h).2.2.2.1, pay118_at, zero4]; exact congrArg (fun z : EReal => 0 + z) ((goodA hf hd t h).dwa k l)
  · rw [(outsB m c t h).2.2.2.1, pay118_at]; exact congrArg (fun z : EReal => _ + z) ((goodB' hf hd t h).dwa k l)
theorem dba_all (l : Fin 256) : ((outsAt0 m c t0_7.val t0_7.isLt).2.2.2.2.1 (ix2 0 l) : EReal) = (((dat m c).dba l : ℝ) : EReal) := by
  refine gather (fun n hn => ((outsAt0 m c n hn).2.2.2.2.1 (ix2 0 l) : EReal)) (fun t => (dat m c).ga l t) (fun t h => ?_) (fun t h => ?_)
  · rw [(outsA m c t h).2.2.2.2.1, pay119_at, zero5]; exact congrArg (fun z : EReal => 0 + z) ((goodA hf hd t h).dba l)
  · rw [(outsB m c t h).2.2.2.2.1, pay119_at]; exact congrArg (fun z : EReal => _ + z) ((goodB' hf hd t h).dba l)
theorem dwx_all (k l : Fin 256) : ((outsAt0 m c t0_7.val t0_7.isLt).2.2.2.2.2.1 (ix2 k l) : EReal) = (((dat m c).dwx k l : ℝ) : EReal) := by
  refine gather (fun n hn => ((outsAt0 m c n hn).2.2.2.2.2.1 (ix2 k l) : EReal)) (fun t => (dat m c).gx l t * (dat m c).xc k t) (fun t h => ?_) (fun t h => ?_)
  · rw [(outsA m c t h).2.2.2.2.2.1, pay120_at, zero6]; exact congrArg (fun z : EReal => 0 + z) ((goodA hf hd t h).dwx k l)
  · rw [(outsB m c t h).2.2.2.2.2.1, pay120_at]; exact congrArg (fun z : EReal => _ + z) ((goodB' hf hd t h).dwx k l)
theorem dbx_all (l : Fin 256) : ((outsAt0 m c t0_7.val t0_7.isLt).2.2.2.2.2.2.1 (ix2 0 l) : EReal) = (((dat m c).dbx l : ℝ) : EReal) := by
  refine gather (fun n hn => ((outsAt0 m c n hn).2.2.2.2.2.2.1 (ix2 0 l) : EReal)) (fun t => (dat m c).gx l t) (fun t h => ?_) (fun t h => ?_)
  · rw [(outsA m c t h).2.2.2.2.2.2.1, pay121_at, zero7]; exact congrArg (fun z : EReal => 0 + z) ((goodA hf hd t h).dbx l)
  · rw [(outsB m c t h).2.2.2.2.2.2.1, pay121_at]; exact congrArg (fun z : EReal => _ + z) ((goodB' hf hd t h).dbx l)
theorem dgain_all (l : Fin 256) : ((outsAt0 m c t0_7.val t0_7.isLt).2.2.2.2.2.2.2.2.1 (ix2 0 l) : EReal) = (((dat m c).dgain l : ℝ) : EReal) := by
  refine gather (fun n hn => ((outsAt0 m c n hn).2.2.2.2.2.2.2.2.1 (ix2 0 l) : EReal)) (fun t => (dat m c).y l t * SguMath.rs ((dat m c).ms l t) * (dat m c).ct l t) (fun t h => ?_) (fun t h => ?_)
  · rw [(outsA m c t h).2.2.2.2.2.2.2.2.1, pay123_at, zero9]; exact congrArg (fun z : EReal => 0 + z) ((goodA hf hd t h).dgain l)
  · rw [(outsB m c t h).2.2.2.2.2.2.2.2.1, pay123_at]; exact congrArg (fun z : EReal => _ + z) ((goodB' hf hd t h).dgain l)
omit hf hd in
theorem out_sum (d : Dat) (o : ℕ) (l : Fin 256) : -((∑ r : Fin 512, LruMath.m8 * d.r l (o + r.val) * d.dla l (o + r.val)) * LruMath.spd (-d.lam l))
    = ∑ r : Fin 512, -(LruMath.m8 * d.r l (o + r.val) * d.dla l (o + r.val) * LruMath.spd (-d.lam l)) := by
  rw [Finset.sum_neg_distrib, Finset.sum_mul]
omit hf hd in
theorem dlam_sum (d : Dat) (l : Fin 256) : ∑ t : Fin 4096, -(LruMath.m8 * d.r l t.val * d.dla l t.val * LruMath.spd (-d.lam l)) = d.dlam l := by
  rw [Finset.sum_neg_distrib, ← Finset.sum_mul]; rfl
theorem dlam_all (l : Fin 256) : ((outsAt0 m c t0_7.val t0_7.isLt).2.2.2.2.2.2.2.1 (ix2 0 l) : EReal) = (((dat m c).dlam l : ℝ) : EReal) := by
  rw [← dlam_sum]
  refine gather (fun n hn => ((outsAt0 m c n hn).2.2.2.2.2.2.2.1 (ix2 0 l) : EReal)) (fun t => -(LruMath.m8 * (dat m c).r l t * (dat m c).dla l t * LruMath.spd (-(dat m c).lam l))) (fun t h => ?_) (fun t h => ?_)
  · rw [(outsA m c t h).2.2.2.2.2.2.2.1, pay122_at, zero8, ← out_sum]; exact congrArg (fun z : EReal => 0 + z) ((goodA hf hd t h).dlam l)
  · rw [(outsB m c t h).2.2.2.2.2.2.2.1, pay122_at, ← out_sum]; exact congrArg (fun z : EReal => _ + z) ((goodB' hf hd t h).dlam l)

/-! ### The results -/

theorem res16 : (dats m 0 c).arrAt 16 cfg0.N = Cert.LruRefIdeal.Read.val_main_v880 (F := Ideal) (X0 m c) (X1 m c) (X2 m c) (X3 m c) (X4 m c) (X5 m c) (X6 m c) (X7 m c) (X8 m c) (X9 m c) := by
  refine (dats m 0 c).arrAt_eq_of_after_last 16 t0_7 (by decide +kernel) _ fun j => ?_
  blk_simp
  rw [after0_16]
  obtain ⟨z, l, rfl⟩ : ∃ (z : Fin 4) (l : Fin 256), j = ix2 z l := ⟨j 0, j 1, eq_ix2 j⟩
  exact (dcw_all hf hd z l).trans ((holds hf hd).dcw_v z l).symm
theorem res17 : (dats m 0 c).arrAt 17 cfg0.N = Cert.LruRefIdeal.Read.val_main_v889 (F := Ideal) (X0 m c) (X1 m c) (X2 m c) (X3 m c) (X4 m c) (X5 m c) (X6 m c) (X7 m c) (X8 m c) (X9 m c) := by
  refine (dats m 0 c).arrAt_eq_of_after_last 17 t0_7 (by decide +kernel) _ fun j => ?_
  blk_simp
  rw [after0_17]
  obtain ⟨z, l, rfl⟩ : ∃ (z : Fin 1) (l : Fin 256), j = ix2 z l := ⟨j 0, j 1, eq_ix2 j⟩
  obtain rfl : z = 0 := Subsingleton.elim _ _
  exact (dcb_all hf hd l).trans ((holds hf hd).dcb_v l).symm
theorem res18 (k l : Fin 256) (h : grp k = grp l) : ((dats m 0 c).arrAt 18 cfg0.N (ix2 k l) : EReal) = Cert.LruRefIdeal.Read.val_main_v892 (F := Ideal) (X0 m c) (X1 m c) (X2 m c) (X3 m c) (X4 m c) (X5 m c) (X6 m c) (X7 m c) (X8 m c) (X9 m c) (ix2 k l) := by
  have e : (dats m 0 c).arrAt 18 cfg0.N = (outsAt0 m c t0_7.val t0_7.isLt).2.2.2.1 := by
    refine (dats m 0 c).arrAt_eq_of_after_last 18 t0_7 (by decide +kernel) _ fun j => ?_
    blk_simp
    rw [after0_18]
  rw [e]
  exact (dwa_all hf hd k l).trans ((holds hf hd).dwa_v k l h).symm
theorem res20 (k l : Fin 256) (h : grp k = grp l) : ((dats m 0 c).arrAt 20 cfg0.N (ix2 k l) : EReal) = Cert.LruRefIdeal.Read.val_main_v896 (F := Ideal) (X0 m c) (X1 m c) (X2 m c) (X3 m c) (X4 m c) (X5 m c) (X6 m c) (X7 m c) (X8 m c) (X9 m c) (ix2 k l) := by
  have e : (dats m 0 c).arrAt 20 cfg0.N = (outsAt0 m c t0_7.val t0_7.isLt).2.2.2.2.2.1 := by
    refine (dats m 0 c).arrAt_eq_of_after_last 20 t0_7 (by decide +kernel) _ fun j => ?_
    blk_simp
    rw [after0_20]
  rw [e]
  exact (dwx_all hf hd k l).trans ((holds hf hd).dwx_v k l h).symm
theorem res19 : (dats m 0 c).arrAt 19 cfg0.N = Cert.LruRefIdeal.Read.val_main_v893 (F := Ideal) (X0 m c) (X1 m c) (X2 m c) (X3 m c) (X4 m c) (X5 m c) (X6 m c) (X7 m c) (X8 m c) (X9 m c) := by
  refine (dats m 0 c).arrAt_eq_of_after_last 19 t0_7 (by decide +kernel) _ fun j => ?_
  blk_simp
  rw [after0_19]
  obtain ⟨z, l, rfl⟩ : ∃ (z : Fin 1) (l : Fin 256), j = ix2 z l := ⟨j 0, j 1, eq_ix2 j⟩
  obtain rfl : z = 0 := Subsingleton.elim _ _
  exact (dba_all hf hd l).trans ((holds hf hd).dba_v l).symm
theorem res21 : (dats m 0 c).arrAt 21 cfg0.N = Cert.LruRefIdeal.Read.val_main_v897 (F := Ideal) (X0 m c) (X1 m c) (X2 m c) (X3 m c) (X4 m c) (X5 m c) (X6 m c) (X7 m c) (X8 m c) (X9 m c) := by
  refine (dats m 0 c).arrAt_eq_of_after_last 21 t0_7 (by decide +kernel) _ fun j => ?_
  blk_simp
  rw [after0_21]
  obtain ⟨z, l, rfl⟩ : ∃ (z : Fin 1) (l : Fin 256), j = ix2 z l := ⟨j 0, j 1, eq_ix2 j⟩
  obtain rfl : z = 0 := Subsingleton.elim _ _
  exact (dbx_all hf hd l).trans ((holds hf hd).dbx_v l).symm
theorem res22 : (dats m 0 c).arrAt 22 cfg0.N = Cert.LruRefIdeal.Read.val_main_v898 (F := Ideal) (X0 m c) (X1 m c) (X2 m c) (X3 m c) (X4 m c) (X5 m c) (X6 m c) (X7 m c) (X8 m c) (X9 m c) := by
  refine (dats m 0 c).arrAt_eq_of_after_last 22 t0_7 (by decide +kernel) _ fun j => ?_
  blk_simp
  rw [after0_22]
  obtain ⟨z, l, rfl⟩ : ∃ (z : Fin 1) (l : Fin 256), j = ix2 z l := ⟨j 0, j 1, eq_ix2 j⟩
  obtain rfl : z = 0 := Subsingleton.elim _ _
  exact (dlam_all hf hd l).trans ((holds hf hd).dlam_v l).symm
theorem res23 : (dats m 0 c).arrAt 23 cfg0.N = Cert.LruRefIdeal.Read.val_main_v899 (F := Ideal) (X0 m c) (X1 m c) (X2 m c) (X3 m c) (X4 m c) (X5 m c) (X6 m c) (X7 m c) (X9 m c) := by
  refine (dats m 0 c).arrAt_eq_of_after_last 23 t0_7 (by decide +kernel) _ fun j => ?_
  blk_simp
  rw [after0_23]
  obtain ⟨z, l, rfl⟩ : ∃ (z : Fin 1) (l : Fin 256), j = ix2 z l := ⟨j 0, j 1, eq_ix2 j⟩
  obtain rfl : z = 0 := Subsingleton.elim _ _
  exact (dgain_all hf hd l).trans ((holds hf hd).dgain_v l).symm

/-! ### The result `dz` -/

/-- The reference's `dz`. -/
abbrev refDz (m : (ℓ : Loc nD τ sig) → Buf (Elt Ideal) ℓ) (c : Dev nD) : FVec Ideal S4096x3072 .bf16 := Cert.LruRefIdeal.Read.val_main_v888 (F := Ideal) (X0 m c) (X1 m c) (X2 m c) (X3 m c) (X4 m c) (X5 m c) (X6 m c) (X7 m c) (X8 m c) (X9 m c) (X10 m c)
open Cert.LruRefIdeal.Read (val_main_v888 val_main_v887 val_main_v886 val_main_v885 val_main_v884 val_main_v436)
omit hf hd in
theorem dz_out (r : Fin 4096) (l : Fin 3072) (hl : l.val < 2048 ∨ 2560 ≤ l.val) : (refDz m c (ix2 r l) : EReal) = X10 m c (ix2 r l) := by
  obtain ⟨l, _⟩ := l
  pointwise [refDz, val_main_v888, val_main_v887, val_main_v886, val_main_v885]
  by_cases h1 : l < 2048
  · rw [dif_pos h1]
  · have h2 : 2560 ≤ l := hl.resolve_left h1
    rw [dif_neg h1, dif_neg (by omega), dif_neg (by omega)]
    exact congrArg (fun q => X10 m c (ix2 r q)) (Fin.ext (by show 2560 + (l - 2048 - 256 - 256) = l; omega))
theorem dz_xb (r : Fin 4096) (l : Fin 256) : (refDz m c (ix2 r (cx l)) : EReal) = (((dat m c).dxb l r.val : ℝ) : EReal) := by
  have h : (refDz m c (ix2 r (cx l)) : EReal) = (val_main_v884 (F := Ideal) (X0 m c) (X1 m c) (X2 m c) (X3 m c) (X4 m c) (X5 m c) (X6 m c) (X7 m c) (X8 m c) (X9 m c) (ix2 r l) : EReal) := by
    pointwise [refDz, val_main_v888, val_main_v887, cx]
  exact h.trans ((holds hf hd).dxb_v (r, l))
theorem dz_gate (r : Fin 4096) (l : Fin 256) : (refDz m c (ix2 r (cg l)) : EReal) = (((dat m c).dgate l r.val : ℝ) : EReal) := by
  have h : (refDz m c (ix2 r (cg l)) : EReal) = (val_main_v436 (F := Ideal) (X0 m c) (X1 m c) (X2 m c) (X3 m c) (X4 m c) (X5 m c) (X6 m c) (X7 m c) (X8 m c) (X9 m c) (ix2 r l) : EReal) := by
    pointwise [refDz, val_main_v888, val_main_v887, cg]
    rw [dif_neg (by omega), dif_neg (by omega), dif_pos (by omega)]
    exact congrArg (fun q => val_main_v436 (F := Ideal) (X0 m c) (X1 m c) (X2 m c) (X3 m c) (X4 m c) (X5 m c) (X6 m c) (X7 m c) (X8 m c) (X9 m c) (ix2 r q)) (Fin.ext (by show 2304 + l.val - 2048 - 256 = l.val; omega))
  exact h.trans ((holds hf hd).dgate_v (r, l))

variable (t : Fin cfg0.N)
omit hf hd in
/-- The block of `dz` written at one step, as the reference has it. -/
def G15 (m : (ℓ : Loc nD τ sig) → Buf (Elt Ideal) ℓ) (c : Dev nD) (t : Fin cfg0.N) (y : S512x512.Idx) : EReal :=
  refDz m c (ix2 ⟨base t + (y 0).val, base_le t (y 0)⟩ ⟨2048 + (y 1).val, by have h1 : (y 1).val < 512 := (y 1).isLt; omega⟩)
theorem halves_at {n : In} (G : Good (dat m c) (base t) n) (y : S512x512.Idx) : (View.canon (halves n) y : EReal) = G15 m c t y := by
  refine View.canon_apply_of_pieces (Val := Elt Ideal) (e := .bf16) (G15 m c t) _ (fun p hp x => ?_) y ?_
  · simp only [List.mem_cons, List.not_mem_nil, or_false] at hp
    rcases hp with rfl | rfl
    · obtain ⟨r, l, rfl⟩ : ∃ (r : Fin 512) (l : Fin 256), x = ix2 r l := ⟨x 0, x 1, eq_ix2 x⟩
      refine ((G.dgate (r, l)).trans (dz_gate hf hd (row t r) l).symm).trans ?_
      exact congrArg (refDz m c) (congrArg₂ ix2 (Fin.ext (by simp [Rect.emb, Rect.unit, row])) (Fin.ext (by simp [Rect.emb, Rect.unit, cg]; omega)))
    · obtain ⟨r, l, rfl⟩ : ∃ (r : Fin 512) (l : Fin 256), x = ix2 r l := ⟨x 0, x 1, eq_ix2 x⟩
      refine ((G.dxb (r, l)).trans (dz_xb hf hd (row t r) l).symm).trans ?_
      exact congrArg (refDz m c) (congrArg₂ ix2 (Fin.ext (by simp [Rect.emb, Rect.unit, row])) (Fin.ext (by simp [Rect.emb, Rect.unit, cx])))
  · have h0 : (y 0).val < 512 := (y 0).isLt
    have h1 : (y 1).val < 512 := (y 1).isLt
    simp only [List.exists_mem_cons_iff, Rect.mem_set_unit, Fin.forall_fin_two, Matrix.cons_val_zero, Matrix.cons_val_one]
    omega
theorem dz_point (y : S512x512.Idx) : ((outsAt0 m c t.val t.isLt).1 y : EReal) = G15 m c t y := by
  by_cases h : t.val % 8 = 0
  · rw [(outsA m c t h).1]; exact halves_at hf hd t (goodA hf hd t h) y
  · rw [(outsB m c t h).1]; exact halves_at hf hd t (goodB' hf hd t h) y
end Cert.LruIdeal.Value
end
-- ==== Proof.LruDz.lean ====
module

public import proofs.«01_k».proof.Pre_lru_domain
public import proofs.«01_k».proof.Proof.LruKernel
public import proofs.«01_k».proof.Proof.LruRefSide
public import proofs.«01_k».proof.Proof.Gen.LruRefIdeal.Run
public import Idealize.ShloMosaic.Lib.ReduceAll
public import Idealize.ShloMosaic.Lib.StableHlo.RunRead
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Common

/-! What the kernel's windows read. -/

namespace Cert.LruIdeal.Value
open Cert.LruIdeal Cert.LruIdeal.Gen Cert.LruIdeal.Block

variable {m : (ℓ : Loc nD τ sig) → Buf (Elt Ideal) ℓ}

variable {c : Dev nD}

open LruMath (grp pos Dat Q ln e2 e10 qr)
variable (hf : Fin' m c) (hd : (dat m c).Dom)
include hf hd
theorem dz_arr : (dats m 0 c).arrAt 15 cfg0.N = fun i => if 2048 ≤ (i 1 : ℕ) ∧ (i 1 : ℕ) < 2560 then refDz m c i else X10 m c i := by
  refine (dats m 0 c).arrAt_eq_of_coversWhere 15 _ (fun β => β 1 = 4) (by decide +kernel) (fun t hq y => ?_) (fun j => ?_)
  · blk_simp
    rw [after0_15]
    refine (dz_point hf hd t y).trans (congrArg (refDz m c) ?_)
    blk_ext [idx t, base]
  · blk_simp [Pipeline.Window.cell_apply]; omega
theorem res15 : (dats m 0 c).arrAt 15 cfg0.N = refDz m c := by
  rw [dz_arr hf hd]
  funext i
  obtain ⟨r, l, rfl⟩ : ∃ (r : Fin 4096) (l : Fin 3072), i = ix2 r l := ⟨i 0, i 1, eq_ix2 i⟩
  by_cases hi : 2048 ≤ l.val ∧ l.val < 2560
  · exact if_pos hi
  · exact (if_neg hi).trans (dz_out r l (by omega)).symm

end Cert.LruIdeal.Value
end
-- ==== Proof.LruClaim.lean ====
module

public import proofs.«01_k».proof.Defs
public import proofs.«01_k».proof.Proof.LruDz
public import proofs.«01_k».proof.Proof.Gen.Lru.Frame

@[expose] public section

set_option maxRecDepth 16384

noncomputable section

open Idealize.ShloMosaic Idealize.ShloMosaic.TcCoe Idealize.SL.Sem
open Idealize.ShloMosaic.Pipeline (Dat)
open Cert.Common

/-! ## The mask of the diagonal blocks, and the claims -/

namespace Cert.Proof.Lru
open LruMath (grp)

instance mask_facts : Cert.On_lru_blocks.Facts where
  bcast_S_S1x256 := by decide
  bcast_S_S256 := by decide
  bcast_S256_S256x1_0 := by decide
  bcast_S256_S1x256_1 := by decide
  bcast_S256x1_S256x256_0_1 := by decide
  bcast_S1x256_S256x256_0_1 := by decide
  bcast_S_S4096x3072 := by decide
  bcast_S_S4x256 := by decide

/-- The block a lane belongs to, as the mask computes it. -/
abbrev lab : IVec Cert.On_lru_blocks.S256 32 :=
  Cert.On_lru_blocks.fn_floor_divide (F := Ideal) (iotaInDim Cert.On_lru_blocks.S256 32 0) (constantI Cert.On_lru_blocks.S_ 32 64#32)

theorem lab_eq : ∀ k : Fin 256, lab (ix1 k) = BitVec.ofNat 32 (k.val / 64) := by decide +kernel

/-- An entry the mask selects lies in a diagonal block. -/
theorem grp_of (k l : Fin 256) (h : (BitVec.ofBool (decide (lab (ix1 k) = lab (ix1 l))) : BitVec 1) = 1#1) : grp k = grp l := by
  have h' : lab (ix1 k) = lab (ix1 l) := by
    by_contra hne
    rw [decide_eq_false hne] at h
    exact absurd h (by decide)
  rw [lab_eq, lab_eq] at h'
  have := congrArg BitVec.toNat h'
  rw [BitVec.toNat_ofNat, BitVec.toNat_ofNat, Nat.mod_eq_of_lt (by omega), Nat.mod_eq_of_lt (by omega)] at this
  exact Fin.ext this

theorem mask_eq (k l : Fin 256) (A : IVec Cert.On_lru_blocks.S256x256 1)
    (hA : A = cmpi .eq (broadcastInDim Cert.On_lru_blocks.S256x256 ![0, 1] mask_facts.bcast_S256x1_S256x256_0_1 (broadcastInDim Cert.On_lru_blocks.S256x1 ![0] mask_facts.bcast_S256_S256x1_0 lab))
      (broadcastInDim Cert.On_lru_blocks.S256x256 ![0, 1] mask_facts.bcast_S1x256_S256x256_0_1 (broadcastInDim Cert.On_lru_blocks.S1x256 ![1] mask_facts.bcast_S256_S1x256_1 lab)))
    (h : A (ix2 k l) = 1#1) : grp k = grp l := by
  rw [hA] at h
  refine grp_of k l (Eq.trans ?_ h)
  have e1 : broadcastInDim Cert.On_lru_blocks.S256x256 ![0, 1] mask_facts.bcast_S256x1_S256x256_0_1 (broadcastInDim Cert.On_lru_blocks.S256x1 ![0] mask_facts.bcast_S256_S256x1_0 lab) (ix2 k l) = lab (ix1 k) := by
    refine congrArg lab (funext fun a => ?_)
    match a with | 0 => rfl
  have e2 : broadcastInDim Cert.On_lru_blocks.S256x256 ![0, 1] mask_facts.bcast_S1x256_S256x256_0_1 (broadcastInDim Cert.On_lru_blocks.S1x256 ![1] mask_facts.bcast_S256_S1x256_1 lab) (ix2 k l) = lab (ix1 l) := by
    refine congrArg lab (funext fun a => ?_)
    match a with | 0 => rfl
  rw [← e1, ← e2]
  rfl

theorem frame_ref : Cert.quiescent_LruRefIdeal := fun m ρ _ =>
  (θ_run Cert.LruRefIdeal.defs _ _).mono
    (fun r h => ⟨fun c => (h c).2.2.2.2.2.2.2.2.2, Idealize.ShloMosaic.sem_eq_zero_of_no_sems (by decide) r.2⟩)
    (Cert.LruRefIdeal.Value.run (F := Ideal) m ρ)

set_option maxHeartbeats 2000000 in
open Cert.LruIdeal.Value in
theorem algebraic : Cert.algebraic_LruIdeal_LruRefIdeal_on_lru_blocks_pre_lru_domain := by
  intro m g m' g' hpre hagree
  refine ⟨fun c => (Cert.LruIdeal.Gen.dats m 0 c).arrAt 15 Cert.LruIdeal.cfg0.N, fun c => (Cert.LruIdeal.Gen.dats m 0 c).arrAt 16 Cert.LruIdeal.cfg0.N, fun c => (Cert.LruIdeal.Gen.dats m 0 c).arrAt 17 Cert.LruIdeal.cfg0.N, fun c => (Cert.LruIdeal.Gen.dats m 0 c).arrAt 18 Cert.LruIdeal.cfg0.N, fun c => (Cert.LruIdeal.Gen.dats m 0 c).arrAt 19 Cert.LruIdeal.cfg0.N, fun c => (Cert.LruIdeal.Gen.dats m 0 c).arrAt 20 Cert.LruIdeal.cfg0.N, fun c => (Cert.LruIdeal.Gen.dats m 0 c).arrAt 21 Cert.LruIdeal.cfg0.N, fun c => (Cert.LruIdeal.Gen.dats m 0 c).arrAt 22 Cert.LruIdeal.cfg0.N, fun c => (Cert.LruIdeal.Gen.dats m 0 c).arrAt 23 Cert.LruIdeal.cfg0.N, ?_, ?_⟩
  · refine (θ_run Cert.LruIdeal.defs _ _).mono (fun r h c => ?_) (run_blocks m g)
    have hc := h c
    exact ⟨fun i _ => congrFun hc.1 i, fun i _ => congrFun hc.2.1 i, fun i _ => congrFun hc.2.2.1 i, fun i _ => congrFun hc.2.2.2.1 i, fun i _ => congrFun hc.2.2.2.2.1 i, fun i _ => congrFun hc.2.2.2.2.2.1 i, fun i _ => congrFun hc.2.2.2.2.2.2.1 i, fun i _ => congrFun hc.2.2.2.2.2.2.2.1 i, fun i _ => congrFun hc.2.2.2.2.2.2.2.2.1 i, hc.2.2.2.2.2.2.2.2.2⟩
  · refine (θ_run Cert.LruRefIdeal.defs _ _).mono (fun r h c => ?_) (Cert.LruRefIdeal.Value.run (F := Ideal) m' g')
    have hc := h c
    have ha := hagree c
    have hp := hpre c
    have hf := (pre_of hp).1
    have hd := dom_of hp
    obtain ⟨a0, a1, a2, a3, a4, a5, a6, a7, a8, a9, a10⟩ := ha
    refine ⟨fun i hi => ?_, fun i hi => ?_, fun i hi => ?_, fun i hi => ?_, fun i hi => ?_, fun i hi => ?_, fun i hi => ?_, fun i hi => ?_, fun i hi => ?_, hc.2.2.2.2.2.2.2.2.2⟩
    · have e := (res15 hf hd).symm
      unfold refDz X0 X1 X2 X3 X4 X5 X6 X7 X8 X9 X10 at e
      rw [← a0, ← a1, ← a2, ← a3, ← a4, ← a5, ← a6, ← a7, ← a8, ← a9, ← a10] at e
      exact congrFun ((hc.1.trans (Cert.LruRefIdeal.Read.val_main_v888_eq (StableHlo.launchContents m' c))).trans e) i
    · have e := (res16 hf hd).symm
      unfold X0 X1 X2 X3 X4 X5 X6 X7 X8 X9 at e
      rw [← a0, ← a1, ← a2, ← a3, ← a4, ← a5, ← a6, ← a7, ← a8, ← a9] at e
      exact congrFun ((hc.2.1.trans (Cert.LruRefIdeal.Read.val_main_v880_eq (StableHlo.launchContents m' c))).trans e) i
    · have e := (res17 hf hd).symm
      unfold X0 X1 X2 X3 X4 X5 X6 X7 X8 X9 at e
      rw [← a0, ← a1, ← a2, ← a3, ← a4, ← a5, ← a6, ← a7, ← a8, ← a9] at e
      exact congrFun ((hc.2.2.1.trans (Cert.LruRefIdeal.Read.val_main_v889_eq (StableHlo.launchContents m' c))).trans e) i
    · obtain ⟨k, l, rfl⟩ : ∃ (k l : Fin 256), i = ix2 k l := ⟨i 0, i 1, eq_ix2 i⟩
      have e := (res18 hf hd k l (mask_eq k l _ rfl hi)).symm
      unfold X0 X1 X2 X3 X4 X5 X6 X7 X8 X9 at e
      rw [← a0, ← a1, ← a2, ← a3, ← a4, ← a5, ← a6, ← a7, ← a8, ← a9] at e
      exact (congrFun (hc.2.2.2.1.trans (Cert.LruRefIdeal.Read.val_main_v892_eq (StableHlo.launchContents m' c))) (ix2 k l)).trans e
    · have e := (res19 hf hd).symm
      unfold X0 X1 X2 X3 X4 X5 X6 X7 X8 X9 at e
      rw [← a0, ← a1, ← a2, ← a3, ← a4, ← a5, ← a6, ← a7, ← a8, ← a9] at e
      exact congrFun ((hc.2.2.2.2.1.trans (Cert.LruRefIdeal.Read.val_main_v893_eq (StableHlo.launchContents m' c))).trans e) i
    · obtain ⟨k, l, rfl⟩ : ∃ (k l : Fin 256), i = ix2 k l := ⟨i 0, i 1, eq_ix2 i⟩
      have e := (res20 hf hd k l (mask_eq k l _ rfl hi)).symm
      unfold X0 X1 X2 X3 X4 X5 X6 X7 X8 X9 at e
      rw [← a0, ← a1, ← a2, ← a3, ← a4, ← a5, ← a6, ← a7, ← a8, ← a9] at e
      exact (congrFun (hc.2.2.2.2.2.1.trans (Cert.LruRefIdeal.Read.val_main_v896_eq (StableHlo.launchContents m' c))) (ix2 k l)).trans e
    · have e := (res21 hf hd).symm
      unfold X0 X1 X2 X3 X4 X5 X6 X7 X8 X9 at e
      rw [← a0, ← a1, ← a2, ← a3, ← a4, ← a5, ← a6, ← a7, ← a8, ← a9] at e
      exact congrFun ((hc.2.2.2.2.2.2.1.trans (Cert.LruRefIdeal.Read.val_main_v897_eq (StableHlo.launchContents m' c))).trans e) i
    · have e := (res22 hf hd).symm
      unfold X0 X1 X2 X3 X4 X5 X6 X7 X8 X9 at e
      rw [← a0, ← a1, ← a2, ← a3, ← a4, ← a5, ← a6, ← a7, ← a8, ← a9] at e
      exact congrFun ((hc.2.2.2.2.2.2.2.1.trans (Cert.LruRefIdeal.Read.val_main_v898_eq (StableHlo.launchContents m' c))).trans e) i
    · have e := (res23 hf hd).symm
      unfold X0 X1 X2 X3 X4 X5 X6 X7 X9 at e
      rw [← a0, ← a1, ← a2, ← a3, ← a4, ← a5, ← a6, ← a7, ← a9] at e
      exact congrFun ((hc.2.2.2.2.2.2.2.2.1.trans (Cert.LruRefIdeal.Read.val_main_v899_eq (StableHlo.launchContents m' c))).trans e) i

end Cert.Proof.Lru

end
-- ==== Proof.SguFwdRefSide.lean ====
module

public import proofs.«01_k».proof.Proof.SguRefSide
public import proofs.«01_k».proof.Proof.Gen.SguFwdRefIdeal.Read

@[expose] public section

set_option maxRecDepth 16384

noncomputable section

open Idealize.ShloMosaic Idealize.ShloMosaic.TcCoe Idealize.SL.Sem
open Cert.Common

/-! The lines of the forward pass over the reals, read the way those of its gradient are. -/

namespace Cert.SguFwdRefIdeal.Read
open Cert.SguFwdRefIdeal Cert.SguFwdRefIdeal.Gen Idealize.ShloMosaic.StableHlo Cert.SguMath
open Cert.SguRefIdeal.Read (At up uq e2 e4 e41 e40 e3 e31 e30 row ln at_mul at_add at_sub at_rsqrt at_div64 at_num to4 of4 to3 of3 sum4 sum3 keep4 keep3 all41 all31
  bits_64 c_half c_one at_tg causal_entry)

variable {x0 : FVec Ideal S4096x3072 .f32} {x1 : FVec Ideal S4x128x128 .f32} {x2 : FVec Ideal S4x128 .f32} {x3 : FVec Ideal S256 .f32}
variable {U V : Fin 32 → T} {W : Fin 4 → Fin 128 → Fin 128 → ℝ} {B : Fin 4 → Fin 128 → ℝ}

theorem gate_u (hu : At e2 (val_main_v0 (F := Ideal) x0) (up U)) : At e2 (val_main_v14 (F := Ideal) x0) (up fun n g r k => gel (U n g r k)) :=
  at_mul hu (at_mul c_half (at_add c_one (at_tg hu)))

section
variable (hv : At e2 (val_main_v1 (F := Ideal) x0) (up V))
include hv
theorem gate_v : At e4 (val_main_v28 (F := Ideal) x0) (up fun n g r k => gel (V n g r k)) :=
  to4 (f := fun n g r k => gel (V n g r k)) (at_mul hv (at_mul c_half (at_add c_one (at_tg hv))))
theorem centre_v : At e4 (val_main_v34 (F := Ideal) x0) (up fun n => vc (V n)) :=
  at_sub (gate_v hv) (all41 (q := fun n g r => mean (fun g r k => gel (V n g r k)) g r 0) (at_div64 (keep4 (sum4 (gate_v hv))) (at_num bits_64 _)))
theorem spread_v : At e41 (val_main_v39 (F := Ideal) x0) (uq fun n g r => var (V n) g r 0) :=
  at_div64 (keep4 (sum4 (f := fun n g r k => vc (V n) g r k * vc (V n) g r k) (at_mul (centre_v hv) (centre_v hv)))) (at_num bits_64 _)
theorem hat_v : At e4 (val_main_v46 (F := Ideal) x0) (up fun n => vh (V n)) :=
  at_mul (centre_v hv) (all41 (q := fun n g r => rs (var (V n) g r 0))
    (at_rsqrt (at_add (spread_v hv) (at_num bits_eps _)) fun i => var_nonneg _ _ _ _))
end

theorem keeps_entry (g : Fin 4) (r s : Fin 128) : (val_main_v50 (F := Ideal) (ix3 g r s) : EReal) = ((if s ≤ r then 1 else 0 : ℝ) : EReal) := by
  pointwise [val_main_v50, val_main_v49, val_main_v48, val_main_call0_v4, val_main_call0_v2, val_main_call0_v0, val_main_call0_v1, val_main_call0_c, val_main_call0_v3, val_main_call0_v5, val_main_call0_cst, val_main_v47, val_main_cst_12]
  rw [causal_entry]
  split <;> rfl

section
variable (hu : At e2 (val_main_v0 (F := Ideal) x0) (up U)) (hv : At e2 (val_main_v1 (F := Ideal) x0) (up V))
  (hw : ∀ g r s, (x1 (ix3 g r s) : EReal) = ((W g r s : ℝ) : EReal)) (hb : ∀ g r, (x2 (ix2 g r) : EReal) = ((B g r : ℝ) : EReal))
include hv hw
omit hv in
theorem lower_w (g : Fin 4) (r s : Fin 128) : (val_main_v51 (F := Ideal) x1 (ix3 g r s) : EReal) = ((tri W g r s : ℝ) : EReal) := by
  show (x1 _ : EReal) * (val_main_v50 (F := Ideal) _ : EReal) = _
  rw [hw, keeps_entry, ← EReal.coe_mul, tri]; simp
theorem mixed_v : At e4 (val_main_v53 (F := Ideal) x0 x1) (up fun n => mix W (V n)) := fun p => by
  obtain ⟨n, g, r, k⟩ := p
  unfold e4 up; dsimp only
  have h : (val_main_v53 (F := Ideal) x0 x1 (ix4 n r g k) : EReal) = ∑ s, (val_main_v46 (F := Ideal) x0 (ix4 n s g k) : EReal) * (val_main_v51 (F := Ideal) x1 (ix3 g r s) : EReal) := by
    pointwise [val_main_v53, val_main_v52]
  rw [h, mix, coe_sum]
  exact Finset.sum_congr rfl fun s _ => by rw [lower_w hw, mul_comm, EReal.coe_mul]; exact congrArg _ (hat_v hv (n, g, s, k))
include hb
theorem biased_v : At e2 (val_main_v59 (F := Ideal) x0 x1 x2) (up fun n => zz W B (V n)) :=
  of4 (f := fun n => zz W B (V n)) ((at_add (f' := up fun _ g r _ => B g r) (mixed_v hv hw) fun p => by
    obtain ⟨n, g, r, k⟩ := p
    unfold e4; dsimp only
    pointwise [val_main_v57, val_main_v56, val_main_v55, val_main_v54]
    exact hb g r).congr fun i => add_comm _ _)
include hu
theorem gated_v : At e3 (val_main_v61 (F := Ideal) x0 x1 x2) (up fun n => yy W B (U n) (V n)) :=
  to3 (f := fun n => yy W B (U n) (V n)) (at_mul (gate_u hu) (biased_v hv hw hb))
theorem square_v : At e31 (val_main_v66 (F := Ideal) x0 x1 x2) (uq fun n g r => ms W B (U n) (V n) g r 0) :=
  at_div64 (keep3 (sum3 (f := fun n g r k => yy W B (U n) (V n) g r k * yy W B (U n) (V n) g r k) (at_mul (gated_v hu hv hw hb) (gated_v hu hv hw hb)))) (at_num bits_64 _)
theorem normed_v : At e2 (val_main_v72 (F := Ideal) x0 x1 x2) (up fun n g r k => yy W B (U n) (V n) g r k * rs (ms W B (U n) (V n) g r k)) :=
  of3 (f := fun n g r k => yy W B (U n) (V n) g r k * rs (ms W B (U n) (V n) g r k)) (at_mul (gated_v hu hv hw hb)
    (all31 (q := fun n g r => rs (ms W B (U n) (V n) g r 0)) (at_rsqrt (at_add (square_v hu hv hw hb) (at_num bits_eps _)) fun i => ms_nonneg _ _ _ _ _ _ _)))
/-- The result: the normed values times the gain. -/
theorem out_v (n : Fin 32) (g : Fin 4) (r : Fin 128) (k : Fin 64) : (val_main_v76 (F := Ideal) x0 x1 x2 x3 (ix2 (row n r) (ln g k)) : EReal)
    = ((yy W B (U n) (V n) g r k * rs (ms W B (U n) (V n) g r k) : ℝ) : EReal) * (x3 (ix1 (ln g k)) : EReal) := by
  have h : (val_main_v76 (F := Ideal) x0 x1 x2 x3 (ix2 (row n r) (ln g k)) : EReal)
      = (val_main_v72 (F := Ideal) x0 x1 x2 (ix2 (row n r) (ln g k)) : EReal) * (x3 (ix1 (ln g k)) : EReal) := by
    pointwise [val_main_v76, val_main_v75, val_main_v74, val_main_v73]
  rw [h]
  exact congrArg (· * _) (normed_v hu hv hw hb (n, g, r, k))
end
end Cert.SguFwdRefIdeal.Read
end
-- ==== Proof.SguFwdKernel.lean ====
module

public import proofs.«01_k».proof.Pre_sgu_fwd_finite
public import proofs.«01_k».proof.Proof.SguKernel
public import proofs.«01_k».proof.Proof.SguFwdRefSide
public import proofs.«01_k».proof.Proof.Gen.SguFwdIdeal.Value
public import proofs.«01_k».proof.Proof.Gen.SguFwdRefIdeal.Run

@[expose] public section

set_option maxRecDepth 16384

noncomputable section

open Idealize.ShloMosaic Idealize.ShloMosaic.TcCoe Idealize.SL.Sem
open Idealize.ShloMosaic.Pipeline (Dat)
open Cert.Common

/-! The forward kernel: its chunks are the stages the gradient's kernel computes again. -/

namespace Cert.SguFwdIdeal.Value

open Cert.SguFwdIdeal Cert.SguFwdIdeal.Gen Cert.SguIdeal.Chunk
open Cert.SguIdeal.Value (cut cut_entry rw' cu cv lab lab_entry same bits_64 real_eq split_ln)

variable (m : (ℓ : Loc nD τ sig) → Buf (Elt Ideal) ℓ)

abbrev X0 (c : Dev nD) : FVec Ideal S4096x3072 .f32 := m ((c : Thread nD τ).loc main_arg0)
abbrev X1 (c : Dev nD) : FVec Ideal S4x128x128 .f32 := m ((c : Thread nD τ).loc main_arg1)
abbrev X2 (c : Dev nD) : FVec Ideal S4x128 .f32 := m ((c : Thread nD τ).loc main_arg2)
abbrev X3 (c : Dev nD) : FVec Ideal S256 .f32 := m ((c : Thread nD τ).loc main_arg3)

/-- A chunk's result: the gated values over the root of their groups' mean square, times the gain. -/
def fwd (w : FVec Ideal S4x128x128 .f32) (avg : FVec Ideal S256x256 .f32) (b : A) (gain : FVec Ideal S1x256 .f32) (u v : A) : FVec Ideal S128x256 .bf16 :=
  truncf .bf16 (mulf (mulf (yy w avg b u v) (root (ms w avg b u v))) (broadcastTo S128x256 gain broadcasts_S1x256_S128x256)) bitsLt_bf16_f32

abbrev rows (f : (o : ℕ) → (∀ a, (![o, 0] : Fin 2 → ℕ) a + S128x256.size a ≤ S1024x256.size a) → FVec Ideal S128x256 .bf16) : List (View.Piece (Elt Ideal) S1024x256 .bf16) :=
  [⟨Rect.unit ![896, 0] ![128, 256] inb_S1024x256_S128x256_896_0, f 896 inb_S1024x256_S128x256_896_0⟩,
    ⟨Rect.unit ![768, 0] ![128, 256] inb_S1024x256_S128x256_768_0, f 768 inb_S1024x256_S128x256_768_0⟩,
    ⟨Rect.unit ![640, 0] ![128, 256] inb_S1024x256_S128x256_640_0, f 640 inb_S1024x256_S128x256_640_0⟩,
    ⟨Rect.unit ![512, 0] ![128, 256] inb_S1024x256_S128x256_512_0, f 512 inb_S1024x256_S128x256_512_0⟩,
    ⟨Rect.unit ![384, 0] ![128, 256] inb_S1024x256_S128x256_384_0, f 384 inb_S1024x256_S128x256_384_0⟩,
    ⟨Rect.unit ![256, 0] ![128, 256] inb_S1024x256_S128x256_256_0, f 256 inb_S1024x256_S128x256_256_0⟩,
    ⟨Rect.unit ![128, 0] ![128, 256] inb_S1024x256_S128x256_128_0, f 128 inb_S1024x256_S128x256_128_0⟩,
    ⟨Rect.unit ![0, 0] ![128, 256] inb_S1024x256_S128x256_0_0, f 0 inb_S1024x256_S128x256_0_0⟩]

abbrev chunk (c : Dev nD) (t : Fin cfg0.N) (o : ℕ) (h : ∀ a, (![o, 0] : Fin 2 → ℕ) a + S128x256.size a ≤ S1024x256.size a) : FVec Ideal S128x256 .bf16 :=
  fwd (iblk m c 2 t) (k0_pay4 (iblk m c 5 t)) (k0_pay2 (iblk m c 3 t)) (k0_pay3 (iblk m c 4 t)) (cut (iblk m c 0 t) o h) (cut (iblk m c 1 t) o h)

variable (c : Dev nD) (t : Fin cfg0.N)
theorem after : (dats m 0 c).after 6 t = View.canon (rows (chunk m c t)) := by
  rw [after0_6]; unfold_out out0_6
  simp (disch := decide) only [View.ld_unit_lit', r0_0, r0_1, r0_2, r0_3]
  rfl

theorem idx : ∀ t : Fin cfg0.N, win0_0.index t = ![t.val, 10] ∧ win0_1.index t = ![t.val, 11] ∧ win0_2.index t = ![0, 0, 0]
    ∧ win0_3.index t = ![0, 0] ∧ win0_4.index t = ![0, 0] ∧ win0_5.index t = ![0, 0] ∧ win0_6.index t = ![t.val, 0] := (by decide +kernel : ∀ t : Fin grid0.N, _)

/-- The chunk a point works at in its `j`-th round. -/
def ch (t : Fin cfg0.N) (j : Fin 8) : Fin 32 := ⟨t.val * 8 + j.val, by have := lt_of_lt_of_eq t.isLt N_0; omega⟩

theorem read_u (j : Fin 8) (h) (r : Fin 128) (g : Fin 4) (k : Fin 64) : (cut (iblk m c 0 t) (128 * j.val) h (ix2 r (ln g k)) : EReal) = X0 m c (ix2 (rw' (ch t j) r) (cu g k)) := by
  rw [cut_entry _ _ _ _ _ (by omega)]; blk_ext [iblk, idx t, ln, rw', ch, cu]
theorem read_v (j : Fin 8) (h) (r : Fin 128) (g : Fin 4) (k : Fin 64) : (cut (iblk m c 1 t) (128 * j.val) h (ix2 r (ln g k)) : EReal) = X0 m c (ix2 (rw' (ch t j) r) (cv g k)) := by
  rw [cut_entry _ _ _ _ _ (by omega)]; blk_ext [iblk, idx t, ln, rw', ch, cv]
theorem read_w (g : Fin 4) (r s : Fin 128) : (iblk m c 2 t (ix3 g r s) : EReal) = X1 m c (ix3 g r s) := by
  blk_ext [iblk, idx t]
theorem bias (r : Fin 128) (g : Fin 4) (k : Fin 64) : (V m c main_v2 (ix2 r (ln g k)) : EReal) = X2 m c (ix2 g r) := by
  unfold V; simp only [hostOps0, hostOps0_1, hostOps0_2, List.flatten_cons, List.flatten_nil, List.append_nil, List.cons_append, List.nil_append]; entry_read; pointwise; exact congrArg (fun q => X2 m c (ix2 q r)) (Fin.ext (by simp only [ln]; omega))
theorem gains (l : Fin 256) : (V m c main_v3 (ix2 0 l) : EReal) = X3 m c (ix1 l) := by
  unfold V; simp only [hostOps0, hostOps0_1, hostOps0_2, List.flatten_cons, List.flatten_nil, List.append_nil, List.cons_append, List.nil_append]; entry_read; pointwise
theorem pay2 (x : A) (i j) : k0_pay2 x (ix2 i j) = x (ix2 i j) := by pointwise [k0_pay2]
theorem pay3 (x : FVec Ideal S1x256 .f32) (i j) : k0_pay3 x (ix2 i j) = x (ix2 i j) := by pointwise [k0_pay3]
theorem pay4 (x : FVec Ideal S256x256 .f32) (i j) : k0_pay4 x (ix2 i j) = x (ix2 i j) := by pointwise [k0_pay4]
theorem read_b (r : Fin 128) (g : Fin 4) (k : Fin 64) : (k0_pay2 (iblk m c 3 t) (ix2 r (ln g k)) : EReal) = X2 m c (ix2 g r) := by
  rw [pay2]; refine Eq.trans ?_ (bias m c r g k); blk_ext [iblk, idx t]
theorem read_g (l : Fin 256) : (k0_pay3 (iblk m c 4 t) (ix2 0 l) : EReal) = X3 m c (ix1 l) := by
  rw [pay3]; refine Eq.trans ?_ (gains m c l); blk_ext [iblk, idx t]
theorem means (i j : Fin 256) : (V m c main_v13 (ix2 i j) : EReal)
    = Ideal.div (FloatOps.uitofp (F := Ideal) .f32 (IntOp.cmpi .eq (lab (ix1 i)) (lab (ix1 j)))) (Ideal.ofBits .f32 0x42800000#32) := by
  unfold V; simp only [hostOps0, hostOps0_1, hostOps0_2, List.flatten_cons, List.flatten_nil, List.append_nil, List.cons_append, List.nil_append]; entry_read; pointwise; simp only [StableHlo.TRef.ofBuf_toBuf]; rfl
theorem avg : IsAvg (k0_pay4 (iblk m c 5 t)) := fun g g' k k' => by
  have h : (k0_pay4 (iblk m c 5 t) (ix2 (ln g k) (ln g' k')) : EReal) = (V m c main_v13 (ix2 (ln g k) (ln g' k')) : EReal) := by
    rw [pay4]; blk_ext [iblk, idx t]
  rw [h, means, lab_entry, lab_entry, same, bits_64]
  split
  · show Ideal.div ((1 : ℕ) : EReal) _ = _
    rw [div_real _ (by norm_num)]; norm_num
  · show Ideal.div ((0 : ℕ) : EReal) _ = _
    rw [div_real _ (by norm_num)]; norm_num

/-- What the precondition says of the arguments: all but the gain are finite. -/
structure Fin' (c : Dev nD) : Prop where
  z : ∀ i, IsReal (X0 m c i)
  w : ∀ i, IsReal (X1 m c i)
  b : ∀ i, IsReal (X2 m c i)

instance pre_facts : Cert.Pre_sgu_fwd_finite.Facts where
  bcast_S_S4096x3072 := by decide
  reducesTo_S4096x3072_S_d0_1 := by decide
  h_S_ := by decide
  bcast_S_S4x128x128 := by decide
  reducesTo_S4x128x128_S_d0_1_2 := by decide
  bcast_S_S4x128 := by decide
  reducesTo_S4x128_S_d0_1 := by decide

theorem fin_of (hpre : Cert.Pre_sgu_fwd_finite.fn (F := Ideal) (X0 m c) (X1 m c) (X2 m c) (X3 m c) = fun _ => 1#1) : Fin' m c := by
  have : Subsingleton Cert.Pre_sgu_fwd_finite.S_.Idx := ⟨fun a b => funext fun k => Fin.elim0 k⟩
  have h := congrFun hpre (fun a => Fin.elim0 a)
  dsimp only [Cert.Pre_sgu_fwd_finite.fn] at h
  obtain ⟨h, h3⟩ := IntOp.andi_eq_one.1 h
  obtain ⟨h1, h2⟩ := IntOp.andi_eq_one.1 h
  exact ⟨fun i => IsReal.of_lt (Host.reduce_andi_all _ _ _ _ _ h1 i), fun i => IsReal.of_lt (Host.reduce_andi_all _ _ _ _ _ h2 i),
    fun i => IsReal.of_lt (Host.reduce_andi_all _ _ _ _ _ h3 i)⟩

def U (n : Fin 32) : SguMath.T := fun g r k => (X0 m c (ix2 (rw' n r) (cu g k)) : EReal).toReal
def V' (n : Fin 32) : SguMath.T := fun g r k => (X0 m c (ix2 (rw' n r) (cv g k)) : EReal).toReal
def W (g : Fin 4) (r s : Fin 128) : ℝ := (X1 m c (ix3 g r s) : EReal).toReal
def B (g : Fin 4) (r : Fin 128) : ℝ := (X2 m c (ix2 g r) : EReal).toReal

/-- The reference's result. -/
abbrev res (c : Dev nD) : FVec Ideal S4096x256 .bf16 := Cert.SguFwdRefIdeal.Read.val_main_v76 (F := Ideal) (X0 m c) (X1 m c) (X2 m c) (X3 m c)

theorem fwd_entry (w : FVec Ideal S4x128x128 .f32) (av : FVec Ideal S256x256 .f32) (b : A) (gain : FVec Ideal S1x256 .f32) (u v : A) (r : Fin 128) (l : Fin 256) :
    (fwd w av b gain u v (ix2 r l) : EReal) = ((yy w av b u v (ix2 r l) : EReal) * (root (ms w av b u v) (ix2 r l) : EReal)) * (gain (ix2 0 l) : EReal) := by
  pointwise [fwd]

section
open Cert.SguRefIdeal.Read (At up e2)
open Cert.SguFwdRefIdeal.Read (val_main_v0 val_main_v1 val_main_v76 out_v)
variable {m c} (hf : Fin' m c)
include hf
theorem ref_u : At e2 (val_main_v0 (F := Ideal) (X0 m c)) (up (U m c)) := fun p => by
  have h : (val_main_v0 (F := Ideal) (X0 m c) (ix2 (rw' p.1 p.2.2.1) (ln p.2.1 p.2.2.2)) : EReal) = X0 m c (ix2 (rw' p.1 p.2.2.1) (cu p.2.1 p.2.2.2)) := by
    pointwise [val_main_v0]; rfl
  exact h.trans (real_eq (hf.z _))
theorem ref_v : At e2 (val_main_v1 (F := Ideal) (X0 m c)) (up (V' m c)) := fun p => by
  have h : (val_main_v1 (F := Ideal) (X0 m c) (ix2 (rw' p.1 p.2.2.1) (ln p.2.1 p.2.2.2)) : EReal) = X0 m c (ix2 (rw' p.1 p.2.2.1) (cv p.2.1 p.2.2.2)) := by
    pointwise [val_main_v1]; rfl
  exact h.trans (real_eq (hf.z _))
theorem chunk_is (j : Fin 8) (h) (g : Fin 4) (r : Fin 128) (k : Fin 64) : (chunk m c t (128 * j.val) h (ix2 r (ln g k)) : EReal) = res m c (ix2 (rw' (ch t j) r) (ln g k)) := by
  have hw : IsW (iblk m c 2 t) (W m c) := fun g r s => (read_w m c t g r s).trans (real_eq (hf.w _))
  have hb : IsB (k0_pay2 (iblk m c 3 t)) (B m c) := fun g r k => (read_b m c t r g k).trans (real_eq (hf.b _))
  have hu : Is (cut (iblk m c 0 t) (128 * j.val) h) (U m c (ch t j)) := fun g r k => (read_u m c t j h r g k).trans (real_eq (hf.z _))
  have hv : Is (cut (iblk m c 1 t) (128 * j.val) h) (V' m c (ch t j)) := fun g r k => (read_v m c t j h r g k).trans (real_eq (hf.z _))
  refine (fwd_entry _ _ _ _ _ _ r (ln g k)).trans ?_
  rw [is_yy (avg m c t) hw hb hu hv, is_rms (avg m c t) hw hb hu hv, read_g, ← EReal.coe_mul]
  exact (out_v (ref_u hf) (ref_v hf) (fun _ _ _ => real_eq (hf.w _)) (fun _ _ => real_eq (hf.b _)) (ch t j) g r k).symm

omit hf in
/-- The reference's result at a place of a point's block. -/
def G6 (c : Dev nD) (t : Fin cfg0.N) (y : S1024x256.Idx) : EReal :=
  res m c (ix2 ⟨t.val * 1024 + (y 0).val, by have := lt_of_lt_of_eq t.isLt N_0; have h0 : (y 0).val < 1024 := (y 0).isLt; omega⟩ (y 1))

theorem piece (j : Fin 8) (h) (h') (x : S128x256.Idx) :
    (chunk m c t (128 * j.val) h x : EReal) = G6 (m := m) c t ((Rect.unit (s := S1024x256) ![128 * j.val, 0] ![128, 256] h').emb x) := by
  obtain ⟨r, l, rfl⟩ : ∃ (r : Fin 128) (l : Fin 256), x = ix2 r l := ⟨x 0, x 1, eq_ix2 x⟩
  obtain ⟨g, k, rfl⟩ := split_ln l
  refine (chunk_is t hf j h g r k).trans ?_
  exact congrArg (res m c) (congrArg₂ ix2 (Fin.ext (by simp [Rect.emb, Rect.unit, rw', ch]; omega)) (Fin.ext (by simp [Rect.emb, Rect.unit, ln])))
theorem point (y : S1024x256.Idx) : ((dats m 0 c).after 6 t y : EReal) = G6 (m := m) c t y := by
  rw [after]
  refine View.canon_apply_of_pieces (Val := Elt Ideal) (e := .bf16) (G6 (m := m) c t) _ (fun p hp x => ?_) y ?_
  · simp only [List.mem_cons, List.not_mem_nil, or_false] at hp
    rcases hp with rfl | rfl | rfl | rfl | rfl | rfl | rfl | rfl
    · exact piece t hf 7 _ inb_S1024x256_S128x256_896_0 x
    · exact piece t hf 6 _ inb_S1024x256_S128x256_768_0 x
    · exact piece t hf 5 _ inb_S1024x256_S128x256_640_0 x
    · exact piece t hf 4 _ inb_S1024x256_S128x256_512_0 x
    · exact piece t hf 3 _ inb_S1024x256_S128x256_384_0 x
    · exact piece t hf 2 _ inb_S1024x256_S128x256_256_0 x
    · exact piece t hf 1 _ inb_S1024x256_S128x256_128_0 x
    · exact piece t hf 0 _ inb_S1024x256_S128x256_0_0 x
  · have h0 : (y 0).val < 1024 := (y 0).isLt
    have h1 : (y 1).val < 256 := (y 1).isLt
    simp only [List.exists_mem_cons_iff, Rect.mem_set_unit, Fin.forall_fin_two, Matrix.cons_val_zero, Matrix.cons_val_one]
    omega
theorem res6 : (dats m 0 c).arrAt 6 cfg0.N = res m c := by
  refine (dats m 0 c).arrAt_eq_of_covers 6 _ (by decide +kernel) fun t _ y => ?_
  blk_simp
  refine (point t hf y).trans (congrArg (res m c) ?_)
  blk_ext [idx t]
end
end Cert.SguFwdIdeal.Value
end
-- ==== Proof.SguFwdClaim.lean ====
module

public import proofs.«01_k».proof.Defs
public import proofs.«01_k».proof.Proof.SguFwdKernel
public import proofs.«01_k».proof.Proof.Gen.SguFwd.Frame

@[expose] public section

set_option maxRecDepth 16384

noncomputable section

open Idealize.ShloMosaic Idealize.ShloMosaic.TcCoe Idealize.SL.Sem
open Idealize.ShloMosaic.Pipeline (Dat)

/-! The claims about the spatial gate's forward call. -/

namespace Cert.Proof.SguFwd

theorem frame_ref : Cert.quiescent_SguFwdRefIdeal := fun m ρ _ =>
  (θ_run Cert.SguFwdRefIdeal.defs _ _).mono
    (fun r h => ⟨fun c => (h c).2, Idealize.ShloMosaic.sem_eq_zero_of_no_sems (by decide) r.2⟩)
    (Cert.SguFwdRefIdeal.Value.run (F := Ideal) m ρ)

open Cert.SguFwdIdeal.Value in
theorem algebraic : Cert.algebraic_SguFwdIdeal_SguFwdRefIdeal_pre_sgu_fwd_finite := by
  pair_intro
  · run_from Cert.SguFwdIdeal.Value.run_blocks m g
  · run_from Cert.SguFwdRefIdeal.Value.run m' g'
    · have h := (res6 (fin_of m c (hpre c))).symm
      unfold res X0 X1 X2 X3 at h
      rw [← (hagree c).1, ← (hagree c).2.1, ← (hagree c).2.2.1, ← (hagree c).2.2.2] at h
      exact (Cert.SguFwdRefIdeal.Read.val_main_v76_eq m' c).trans h

end Cert.Proof.SguFwd

end
-- ==== Proof.FfnFwdClaim.lean ====
module

public import proofs.«01_k».proof.Defs
public import proofs.«01_k».proof.Proof.Common
public import proofs.«01_k».proof.Proof.Gen.FfnFwd.Frame
public import proofs.«01_k».proof.Proof.Gen.FfnFwdIdeal.Value
public import proofs.«01_k».proof.Proof.Gen.FfnFwdRefIdeal.Run
public import proofs.«01_k».proof.Proof.Gen.FfnFwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Common

/-! The feed-forward layer's forward call: its block of the residual stream and the two products it saves. -/

/-! ## What a point writes, at an index -/

namespace Cert.FfnFwdIdeal.Block

open Cert.FfnFwdIdeal Cert.FfnFwdIdeal.Gen

variable (x : FVec Ideal S512x1024 .f32) (g : FVec Ideal S1x1024 .f32) (wg wu wd : Vec Ideal S4x704x1024 .bf16)

/-- The product of a block's normed rows with shard `s` of a weight. -/
def gv (w : Vec Ideal S4x704x1024 .bf16) (s : Fin 4) (r : Fin 512) (f : Fin 704) : EReal :=
  ∑ l : Fin 1024, (x (ix2 r l) * (R fun k => x (ix2 r k)) * g (ix2 0 l)) * w (ix3 s f l)

/-- What shard `s` adds to the block. -/
def partOf (s : Fin 4) (r : Fin 512) (l : Fin 1024) : EReal :=
  ∑ f : Fin 704, gv x g wg s r f * sgm (gv x g wg s r f) * gv x g wu s r f * wd (ix3 s f l)

theorem stream_at (r : Fin 512) (l : Fin 1024) :
    (out0_5 (F := Ideal) x g wg wu wd (ix2 r l) : EReal)
      = x (ix2 r l) + ((1 / 2 : ℝ) : EReal) * ∑ s : Fin 4, partOf x g wg wu wd s r l := by
  unfold_out out0_5
  simp (disch := decide) only [View.canon_cons_unit_lit', View.ld_unit_lit', r0_0, r0_1]
  pointwise [k0_pay1, k0_pay2, k0_pay3, k0_pay4, k0_pay7, k0_pay8, k0_pay9, k0_pay12, k0_pay13, k0_pay14, k0_pay15, k0_pay18, k0_pay19, k0_pay20, k0_pay23]
  simp only [div_1024, rms_of, bits_half]
  rw [Fin.sum_univ_four]
  rfl

theorem ix_piece {x : S1x512x704.Idx} {r : Fin 512} {f : Fin 704} (h1 : r.val = (x 1).val) (h2 : f.val = (x 2).val) :
    x = ix3 (0 : Fin 1) r f := by
  funext a
  match a with
  | ⟨0, _⟩ => exact Subsingleton.elim (α := Fin 1) _ _
  | ⟨1, _⟩ => exact Fin.ext h1.symm
  | ⟨2, _⟩ => exact Fin.ext h2.symm

theorem gate_at (s : Fin 4) (r : Fin 512) (f : Fin 704) :
    (out0_6 (F := Ideal) x g wg wu wd (ix3 s r f) : EReal) = gv x g wg s r f := by
  unfold_out out0_6
  simp (disch := decide) only [View.ld_unit_lit', r0_0, r0_1]
  canon_tiles y h
  case piece0 =>
    obtain rfl : s = 3 := Fin.ext (by have : s.val = 3 + (y 0).val := h0; show s.val = 3; omega)
    obtain rfl := ix_piece h1 h2
    pointwise [k0_pay2, k0_pay19, k0_pay21]
    simp only [div_1024, rms_of]
    rfl
  case piece1 =>
    obtain rfl : s = 2 := Fin.ext (by have : s.val = 2 + (y 0).val := h0; show s.val = 2; omega)
    obtain rfl := ix_piece h1 h2
    pointwise [k0_pay2, k0_pay13, k0_pay16]
    simp only [div_1024, rms_of]
    rfl
  case piece2 =>
    obtain rfl : s = 1 := Fin.ext (by have : s.val = 1 + (y 0).val := h0; show s.val = 1; omega)
    obtain rfl := ix_piece h1 h2
    pointwise [k0_pay2, k0_pay8, k0_pay10]
    simp only [div_1024, rms_of]
    rfl
  case piece3 =>
    obtain rfl : s = 0 := Fin.ext (by have : s.val = (y 0).val := h0; show s.val = 0; omega)
    obtain rfl := ix_piece h1 h2
    pointwise [k0_pay2, k0_pay3, k0_pay5]
    simp only [div_1024, rms_of]
    rfl

theorem other_at (s : Fin 4) (r : Fin 512) (f : Fin 704) :
    (out0_7 (F := Ideal) x g wg wu wd (ix3 s r f) : EReal) = gv x g wu s r f := by
  unfold_out out0_7
  simp (disch := decide) only [View.ld_unit_lit', r0_0, r0_1]
  canon_tiles y h
  case piece0 =>
    obtain rfl : s = 3 := Fin.ext (by have : s.val = 3 + (y 0).val := h0; show s.val = 3; omega)
    obtain rfl := ix_piece h1 h2
    pointwise [k0_pay2, k0_pay20, k0_pay22]
    simp only [div_1024, rms_of]
    rfl
  case piece1 =>
    obtain rfl : s = 2 := Fin.ext (by have : s.val = 2 + (y 0).val := h0; show s.val = 2; omega)
    obtain rfl := ix_piece h1 h2
    pointwise [k0_pay2, k0_pay14, k0_pay15, k0_pay17]
    simp only [div_1024, rms_of]
    rfl
  case piece2 =>
    obtain rfl : s = 1 := Fin.ext (by have : s.val = 1 + (y 0).val := h0; show s.val = 1; omega)
    obtain rfl := ix_piece h1 h2
    pointwise [k0_pay2, k0_pay9, k0_pay11]
    simp only [div_1024, rms_of]
    rfl
  case piece3 =>
    obtain rfl : s = 0 := Fin.ext (by have : s.val = (y 0).val := h0; show s.val = 0; omega)
    obtain rfl := ix_piece h1 h2
    pointwise [k0_pay2, k0_pay4, k0_pay6]
    simp only [div_1024, rms_of]
    rfl

end Cert.FfnFwdIdeal.Block

/-! ## The reference's terms at an index -/

namespace Cert.FfnFwdRefIdeal.Entry

open Cert.FfnFwdRefIdeal Cert.FfnFwdRefIdeal.Gen Cert.FfnFwdRefIdeal.Read

variable (h : FVec Ideal S4096x1024 .f32) (gain : FVec Ideal S1024 .f32) (wg wu : FVec Ideal S1024x2816 .f32)
  (wd : FVec Ideal S2816x1024 .f32)

/-- A product of the normed rows. -/
def prod (w : FVec Ideal S1024x2816 .f32) (r : Fin 4096) (n : Fin 2816) : EReal :=
  ∑ l : Fin 1024, (h (ix2 r l) * (R fun k => h (ix2 r k)) * gain (ix1 l)) * w (ix2 l n)

theorem stream_at (r : Fin 4096) (l : Fin 1024) :
    (val_main_v33 (F := Ideal) h gain wg wu wd (ix2 r l) : EReal)
      = h (ix2 r l) + ((1 / 2 : ℝ) : EReal) * ∑ n : Fin 2816,
          prod h gain wg r n * sgm (prod h gain wg r n) * prod h gain wu r n * wd (ix2 n l) := by
  pointwise [val_main_v33, val_main_v32, val_main_v31, val_main_cst_5, val_main_v30, val_main_v29, val_main_v28, val_main_v27, val_main_call0_v5, val_main_call0_v4, val_main_call0_cst_0, val_main_call0_v3, val_main_call0_v2, val_main_call0_cst, val_main_call0_v1, val_main_call0_v0, val_main_v26, val_main_v12, val_main_v11, val_main_v10, val_main_v9, val_main_v8, val_main_v7, val_main_v6, val_main_v5, val_main_cst_1, val_main_v4, val_main_v3, val_main_cst_0, val_main_v2, val_main_v1, val_main_cst, val_main_v0, val_main_v25, val_main_v24, val_main_v23, val_main_v22, val_main_v21, val_main_v20, val_main_v19, val_main_v18, val_main_cst_4, val_main_v17, val_main_v16, val_main_cst_3, val_main_v15, val_main_v14, val_main_cst_2, val_main_v13]
  simp only [div_1024, rms_of, bits_half]
  rfl

theorem gate_at (r : Fin 4096) (s : Fin 4) (f : Fin 704) :
    (val_main_v37 (F := Ideal) h gain wg (ix3 s r f) : EReal) = prod h gain wg r ⟨s.val * 704 + f.val, by omega⟩ := by
  pointwise [val_main_v37, val_main_v36, val_main_v35, val_main_v34, val_main_v12, val_main_v11, val_main_v10, val_main_v9, val_main_v8, val_main_v7, val_main_v6, val_main_v5, val_main_cst_1, val_main_v4, val_main_v3, val_main_cst_0, val_main_v2, val_main_v1, val_main_cst, val_main_v0]
  simp only [div_1024, rms_of]
  rfl

theorem other_at (r : Fin 4096) (s : Fin 4) (f : Fin 704) :
    (val_main_v41 (F := Ideal) h gain wu (ix3 s r f) : EReal) = prod h gain wu r ⟨s.val * 704 + f.val, by omega⟩ := by
  pointwise [val_main_v41, val_main_v40, val_main_v39, val_main_v38, val_main_v12, val_main_v11, val_main_v10, val_main_v9, val_main_v8, val_main_v7, val_main_v6, val_main_v5, val_main_cst_1, val_main_v4, val_main_v3, val_main_cst_0, val_main_v2, val_main_v1, val_main_cst, val_main_v0]
  simp only [div_1024, rms_of]
  rfl

end Cert.FfnFwdRefIdeal.Entry

/-! ## From the blocks of the run to the arrays -/

namespace Cert.FfnFwdIdeal.Value

open Cert.FfnFwdIdeal Cert.FfnFwdIdeal.Gen
open Cert.FfnFwdRefIdeal.Entry (prod)
open Cert.FfnFwdRefIdeal.Read

variable (m : (ℓ : Loc nD τ sig) → Buf (Elt Ideal) ℓ)

theorem idx : ∀ t : Fin cfg0.N, win0_0.index t = ![t.val, 0] ∧ win0_1.index t = ![0, 0] ∧ win0_2.index t = ![0, 0, 0]
    ∧ win0_3.index t = ![0, 0, 0] ∧ win0_4.index t = ![0, 0, 0] ∧ win0_5.index t = ![t.val, 0] ∧ win0_6.index t = ![0, t.val, 0]
    ∧ win0_7.index t = ![0, t.val, 0] :=
  (by decide +kernel : ∀ t : Fin grid0.N, _)

abbrev X0 (c : Dev nD) : FVec Ideal S4096x1024 .f32 := m ((c : Thread nD τ).loc main_arg0)
abbrev X1 (c : Dev nD) : FVec Ideal S1024 .f32 := m ((c : Thread nD τ).loc main_arg1)
abbrev X2 (c : Dev nD) : FVec Ideal S1024x2816 .f32 := m ((c : Thread nD τ).loc main_arg2)
abbrev X3 (c : Dev nD) : FVec Ideal S1024x2816 .f32 := m ((c : Thread nD τ).loc main_arg3)
abbrev X4 (c : Dev nD) : FVec Ideal S2816x1024 .f32 := m ((c : Thread nD τ).loc main_arg4)

/-- Row `r` of point `t`'s block is row `t * 512 + r` of the array. -/
def row (t : Fin cfg0.N) (r : Fin 512) : Fin 4096 := ⟨t.val * 512 + r.val, by have := lt_of_lt_of_eq t.isLt N_0; omega⟩

/-- Column `f` of shard `s`. -/
def col (s : Fin 4) (f : Fin 704) : Fin 2816 := ⟨s.val * 704 + f.val, by omega⟩

variable (c : Dev nD) (t : Fin cfg0.N)

theorem read0 (r : Fin 512) (k : Fin 1024) : iblk m c 0 t (ix2 r k) = X0 m c (ix2 (row t r) k) := by
  blk_ext [iblk, V, idx t, row]
theorem read1 (k : Fin 1024) : iblk m c 1 t (ix2 (0 : Fin 1) k) = X1 m c (ix1 k) := by
  blk_simp [iblk, idx t]
  entry_read
  pointwise
  blk_ext [idx t]
theorem read2 (s : Fin 4) (f : Fin 704) (l : Fin 1024) : iblk m c 2 t (ix3 s f l) = X2 m c (ix2 l (col s f)) := by
  blk_simp [iblk, idx t]
  entry_read
  pointwise
  blk_ext [idx t, col]
theorem read3 (s : Fin 4) (f : Fin 704) (l : Fin 1024) : iblk m c 3 t (ix3 s f l) = X3 m c (ix2 l (col s f)) := by
  blk_simp [iblk, idx t]
  entry_read
  pointwise
  blk_ext [idx t, col]
theorem read4 (s : Fin 4) (f : Fin 704) (l : Fin 1024) : iblk m c 4 t (ix3 s f l) = X4 m c (ix2 (col s f) l) := by
  blk_simp [iblk, idx t]
  entry_read
  pointwise
  blk_ext [idx t, col]

theorem gate_block (s : Fin 4) (r : Fin 512) (f : Fin 704) :
    Block.gv (iblk m c 0 t) (iblk m c 1 t) (iblk m c 2 t) s r f = prod (X0 m c) (X1 m c) (X2 m c) (row t r) (col s f) := by
  unfold Block.gv prod
  simp only [read0, read1, read2]
theorem other_block (s : Fin 4) (r : Fin 512) (f : Fin 704) :
    Block.gv (iblk m c 0 t) (iblk m c 1 t) (iblk m c 3 t) s r f = prod (X0 m c) (X1 m c) (X3 m c) (row t r) (col s f) := by
  unfold Block.gv prod
  simp only [read0, read1, read3]

theorem stream_block (r : Fin 512) (l : Fin 1024) :
    (out0_5 (F := Ideal) (iblk m c 0 t) (iblk m c 1 t) (iblk m c 2 t) (iblk m c 3 t) (iblk m c 4 t) (ix2 r l) : EReal)
      = val_main_v33 (F := Ideal) (X0 m c) (X1 m c) (X2 m c) (X3 m c) (X4 m c) (ix2 (row t r) l) := by
  refine (Block.stream_at _ _ _ _ _ r l).trans (Eq.trans ?_ (Cert.FfnFwdRefIdeal.Entry.stream_at _ _ _ _ _ (row t r) l).symm)
  rw [read0]
  refine congrArg (X0 m c (ix2 (row t r) l) + ((1 / 2 : ℝ) : EReal) * ·) (Fin.sum_mul_add_congr fun s f hl => ?_)
  rw [gate_block, other_block, read4]
  rfl

theorem final5 :
    (dats m 0 c).arrAt 5 cfg0.N = val_main_v33 (F := Ideal) (X0 m c) (X1 m c) (X2 m c) (X3 m c) (X4 m c) := by
  refine (dats m 0 c).arrAt_eq_of_covers 5 _ (by decide +kernel) fun t hf y => ?_
  blk_simp
  rw [after0_5, eq_ix2 y]
  refine (stream_block m c t (y 0) (y 1)).trans (congrArg _ ?_)
  blk_ext [idx t, row]

theorem final6 : (dats m 0 c).arrAt 6 cfg0.N = val_main_v37 (F := Ideal) (X0 m c) (X1 m c) (X2 m c) := by
  refine (dats m 0 c).arrAt_eq_of_covers 6 _ (by decide +kernel) fun t hf y => ?_
  blk_simp
  rw [after0_6, eq_ix3 y]
  refine (Block.gate_at _ _ _ _ _ (y 0) (y 1) (y 2)).trans ((gate_block m c t _ _ _).trans ((Cert.FfnFwdRefIdeal.Entry.gate_at _ _ _ (row t (y 1)) (y 0) (y 2)).symm.trans (congrArg _ ?_)))
  blk_ext [idx t, row]

theorem final7 : (dats m 0 c).arrAt 7 cfg0.N = val_main_v41 (F := Ideal) (X0 m c) (X1 m c) (X3 m c) := by
  refine (dats m 0 c).arrAt_eq_of_covers 7 _ (by decide +kernel) fun t hf y => ?_
  blk_simp
  rw [after0_7, eq_ix3 y]
  refine (Block.other_at _ _ _ _ _ (y 0) (y 1) (y 2)).trans ((other_block m c t _ _ _).trans ((Cert.FfnFwdRefIdeal.Entry.other_at _ _ _ (row t (y 1)) (y 0) (y 2)).symm.trans (congrArg _ ?_)))
  blk_ext [idx t, row]

end Cert.FfnFwdIdeal.Value

/-! ## The claims -/

namespace Cert.Proof.FfnFwd

theorem frame_ref : Cert.quiescent_FfnFwdRefIdeal := fun m ρ _ =>
  (θ_run Cert.FfnFwdRefIdeal.defs _ _).mono
    (fun r h => ⟨fun c => (h c).2.2.2, Idealize.ShloMosaic.sem_eq_zero_of_no_sems (by decide) r.2⟩)
    (Cert.FfnFwdRefIdeal.Value.run (F := Ideal) m ρ)

open Cert.FfnFwdIdeal.Value in
theorem algebraic : Cert.algebraic_FfnFwdIdeal_FfnFwdRefIdeal := by
  pair_intro
  · run_from Cert.FfnFwdIdeal.Value.run_blocks m g
  · run_from Cert.FfnFwdRefIdeal.Value.run m' g'
    · exact (Cert.FfnFwdRefIdeal.Read.val_main_v33_eq _ _ _ _ _).trans (final5 m c).symm
    · exact (Cert.FfnFwdRefIdeal.Read.val_main_v37_eq _ _ _).trans (final6 m c).symm
    · exact (Cert.FfnFwdRefIdeal.Read.val_main_v41_eq _ _ _).trans (final7 m c).symm

end Cert.Proof.FfnFwd

end
-- ==== Proof.ProjFwdClaim.lean ====
module

public import proofs.«01_k».proof.Defs
public import proofs.«01_k».proof.Proof.Common
public import proofs.«01_k».proof.Proof.Gen.ProjFwd.Frame
public import proofs.«01_k».proof.Proof.Gen.ProjFwdIdeal.Value
public import proofs.«01_k».proof.Proof.Gen.ProjFwdRefIdeal.Run
public import proofs.«01_k».proof.Proof.Gen.ProjFwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Common

/-! The input projection's forward call: the normed rows times the four shards of the weight. -/

namespace Cert.ProjFwdIdeal.Block

open Cert.ProjFwdIdeal Cert.ProjFwdIdeal.Gen

variable (x : FVec Ideal S512x1024 .f32) (g : FVec Ideal S1x1024 .f32) (w : Vec Ideal S4x1024x768 .bf16)

/-- Column `n` of shard `s`. -/
def col (s : Fin 4) (n : Fin 768) : Fin 3072 := ⟨s.val * 768 + n.val, by omega⟩

/-- A normed row times a column of a shard. -/
def zv (s : Fin 4) (r : Fin 512) (n : Fin 768) : EReal :=
  ∑ l : Fin 1024, (x (ix2 r l) * (R fun k => x (ix2 r k)) * g (ix2 0 l)) * w (ix3 s l n)

theorem z_at (s : Fin 4) (r : Fin 512) (n : Fin 768) : (out0_3 (F := Ideal) x g w (ix2 r (col s n)) : EReal) = zv x g w s r n := by
  unfold out0_3
  simp (disch := decide) only [View.ld_unit_lit', r0_0, r0_1]
  have hn := n.isLt
  canon_tiles y h
  case piece0 =>
    have e1 : s.val * 768 + n.val = 2304 + (y 1).val := h1
    have b : (y 1).val < 768 := (y 1).isLt
    obtain rfl : s = 3 := Fin.ext (by show s.val = 3; omega)
    obtain rfl : y = ix2 r n := by rw [eq_ix2 y]; exact congrArg₂ ix2 (Fin.ext h0.symm) (Fin.ext (by have : (3 : Fin 4).val = 3 := rfl; show (y 1).val = n.val; omega))
    pointwise [k0_pay1, k0_pay2]
    simp only [div_1024, rms_of]
    rfl
  case piece1 =>
    have e1 : s.val * 768 + n.val = 1536 + (y 1).val := h1
    have b : (y 1).val < 768 := (y 1).isLt
    obtain rfl : s = 2 := Fin.ext (by show s.val = 2; omega)
    obtain rfl : y = ix2 r n := by rw [eq_ix2 y]; exact congrArg₂ ix2 (Fin.ext h0.symm) (Fin.ext (by have : (2 : Fin 4).val = 2 := rfl; show (y 1).val = n.val; omega))
    pointwise [k0_pay5, k0_pay2]
    simp only [div_1024, rms_of]
    rfl
  case piece2 =>
    have e1 : s.val * 768 + n.val = 768 + (y 1).val := h1
    have b : (y 1).val < 768 := (y 1).isLt
    obtain rfl : s = 1 := Fin.ext (by show s.val = 1; omega)
    obtain rfl : y = ix2 r n := by rw [eq_ix2 y]; exact congrArg₂ ix2 (Fin.ext h0.symm) (Fin.ext (by have : (1 : Fin 4).val = 1 := rfl; show (y 1).val = n.val; omega))
    pointwise [k0_pay4, k0_pay2]
    simp only [div_1024, rms_of]
    rfl
  case piece3 =>
    have e1 : s.val * 768 + n.val = (y 1).val := h1
    have b : (y 1).val < 768 := (y 1).isLt
    obtain rfl : s = 0 := Fin.ext (by show s.val = 0; omega)
    obtain rfl : y = ix2 r n := by rw [eq_ix2 y]; exact congrArg₂ ix2 (Fin.ext h0.symm) (Fin.ext (by have : (0 : Fin 4).val = 0 := rfl; show (y 1).val = n.val; omega))
    pointwise [k0_pay3, k0_pay2]
    simp only [div_1024, rms_of]
    rfl

end Cert.ProjFwdIdeal.Block

namespace Cert.ProjFwdRefIdeal.Entry

open Cert.ProjFwdRefIdeal Cert.ProjFwdRefIdeal.Gen Cert.ProjFwdRefIdeal.Read

theorem z_at (h : FVec Ideal S4096x1024 .f32) (gain : FVec Ideal S1024 .f32) (w : FVec Ideal S1024x3072 .f32) (r : Fin 4096) (n : Fin 3072) :
    (val_main_v13 (F := Ideal) h gain w (ix2 r n) : EReal)
      = ∑ l : Fin 1024, (h (ix2 r l) * (R fun k => h (ix2 r k)) * gain (ix1 l)) * w (ix2 l n) := by
  pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  simp only [div_1024, rms_of]

end Cert.ProjFwdRefIdeal.Entry

namespace Cert.ProjFwdIdeal.Value

open Cert.ProjFwdIdeal Cert.ProjFwdIdeal.Gen
open Cert.ProjFwdRefIdeal.Read Block

variable (m : (ℓ : Loc nD τ sig) → Buf (Elt Ideal) ℓ)

theorem idx : ∀ t : Fin cfg0.N, win0_0.index t = ![t.val, 0] ∧ win0_1.index t = ![0, 0] ∧ win0_2.index t = ![0, 0, 0]
    ∧ win0_3.index t = ![t.val, 0] :=
  (by decide +kernel : ∀ t : Fin grid0.N, _)

abbrev X0 (c : Dev nD) : FVec Ideal S4096x1024 .f32 := m ((c : Thread nD τ).loc main_arg0)
abbrev X1 (c : Dev nD) : FVec Ideal S1024 .f32 := m ((c : Thread nD τ).loc main_arg1)
abbrev X2 (c : Dev nD) : FVec Ideal S1024x3072 .f32 := m ((c : Thread nD τ).loc main_arg2)

/-- Row `r` of point `t`'s block is row `t * 512 + r` of the array. -/
def row (t : Fin cfg0.N) (r : Fin 512) : Fin 4096 := ⟨t.val * 512 + r.val, by have := lt_of_lt_of_eq t.isLt N_0; omega⟩

variable (c : Dev nD) (t : Fin cfg0.N)

theorem read0 (r : Fin 512) (k : Fin 1024) : iblk m c 0 t (ix2 r k) = X0 m c (ix2 (row t r) k) := by
  blk_ext [iblk, V, idx t, row]
theorem read1 (k : Fin 1024) : iblk m c 1 t (ix2 (0 : Fin 1) k) = X1 m c (ix1 k) := by
  blk_simp [iblk, idx t]
  entry_read
  pointwise
  blk_ext [idx t]
theorem read2 (s : Fin 4) (l : Fin 1024) (n : Fin 768) : iblk m c 2 t (ix3 s l n) = X2 m c (ix2 l (col s n)) := by
  blk_simp [iblk, idx t]
  entry_read
  pointwise
  blk_ext [idx t, col]

theorem z_block (r : Fin 512) (n : Fin 3072) :
    (out0_3 (F := Ideal) (iblk m c 0 t) (iblk m c 1 t) (iblk m c 2 t) (ix2 r n) : EReal)
      = val_main_v13 (F := Ideal) (X0 m c) (X1 m c) (X2 m c) (ix2 (row t r) n) := by
  obtain ⟨s, k, rfl⟩ : ∃ (s : Fin 4) (k : Fin 768), n = col s k :=
    ⟨⟨n.val / 768, by omega⟩, ⟨n.val % 768, by omega⟩, Fin.ext (by simp only [col]; omega)⟩
  refine (Block.z_at _ _ _ s r k).trans (Eq.trans ?_ (Cert.ProjFwdRefIdeal.Entry.z_at _ _ _ (row t r) _).symm)
  unfold zv
  simp only [read0, read1, read2]

theorem final3 : (dats m 0 c).arrAt 3 cfg0.N = val_main_v13 (F := Ideal) (X0 m c) (X1 m c) (X2 m c) := by
  refine (dats m 0 c).arrAt_eq_of_covers 3 _ (by decide +kernel) fun t hf y => ?_
  blk_simp
  rw [after0_3, eq_ix2 y]
  refine (z_block m c t (y 0) (y 1)).trans (congrArg _ ?_)
  blk_ext [idx t, row]

end Cert.ProjFwdIdeal.Value

/-! ## The claims -/

namespace Cert.Proof.ProjFwd

theorem frame_ref : Cert.quiescent_ProjFwdRefIdeal := fun m ρ _ =>
  (θ_run Cert.ProjFwdRefIdeal.defs _ _).mono
    (fun r h => ⟨fun c => (h c).2, Idealize.ShloMosaic.sem_eq_zero_of_no_sems (by decide) r.2⟩)
    (Cert.ProjFwdRefIdeal.Value.run (F := Ideal) m ρ)

open Cert.ProjFwdIdeal.Value in
theorem algebraic : Cert.algebraic_ProjFwdIdeal_ProjFwdRefIdeal := by
  pair_intro
  · run_from Cert.ProjFwdIdeal.Value.run_blocks m g
  · run_from Cert.ProjFwdRefIdeal.Value.run m' g'
    · exact (Cert.ProjFwdRefIdeal.Read.val_main_v13_eq _ _ _).trans (final3 m c).symm

end Cert.Proof.ProjFwd

end
-- ==== Proof.lean ====
module

public import proofs.«01_k».proof.Proof.LossClaim
public import proofs.«01_k».proof.Proof.ProjClaim
public import proofs.«01_k».proof.Proof.FfnClaim
public import proofs.«01_k».proof.Proof.FfnWClaim
public import proofs.«01_k».proof.Proof.BoundsClaim
public import proofs.«01_k».proof.Proof.SguClaim
public import proofs.«01_k».proof.Proof.LruClaim
public import proofs.«01_k».proof.Proof.SguFwdClaim
public import proofs.«01_k».proof.Proof.FfnFwdClaim
public import proofs.«01_k».proof.Proof.ProjFwdClaim

@[expose] public section

namespace Cert.Proof

theorem claim : Cert.Claim :=
  ⟨Cert.Loss.Gen.facts,
    Cert.LossIdeal.Gen.facts,
    Cert.LossRefIdeal.Gen.facts,
    Cert.Proj.Gen.facts,
    Cert.ProjIdeal.Gen.facts,
    Cert.ProjRefIdeal.Gen.facts,
    Cert.Ffn.Gen.facts,
    Cert.FfnIdeal.Gen.facts,
    Cert.FfnRefIdeal.Gen.facts,
    Cert.FfnW.Gen.facts,
    Cert.FfnWIdeal.Gen.facts,
    Cert.FfnWRefIdeal.Gen.facts,
    Cert.Bounds.Gen.facts,
    Cert.BoundsIdeal.Gen.facts,
    Cert.BoundsRefIdeal.Gen.facts,
    Cert.Sgu.Gen.facts,
    Cert.SguIdeal.Gen.facts,
    Cert.SguRefIdeal.Gen.facts,
    Cert.Lru.Gen.facts,
    Cert.LruIdeal.Gen.facts,
    Cert.LruRefIdeal.Gen.facts,
    Cert.SguFwd.Gen.facts,
    Cert.SguFwdIdeal.Gen.facts,
    Cert.SguFwdRefIdeal.Gen.facts,
    Cert.FfnFwd.Gen.facts,
    Cert.FfnFwdIdeal.Gen.facts,
    Cert.FfnFwdRefIdeal.Gen.facts,
    Cert.ProjFwd.Gen.facts,
    Cert.ProjFwdIdeal.Gen.facts,
    Cert.ProjFwdRefIdeal.Gen.facts,
    Cert.FfnIdeal.Value.pre_facts,
    Cert.BoundsIdeal.Value.pre_facts,
    Cert.SguIdeal.Value.pre_facts,
    Cert.LruIdeal.Value.pre_facts,
    Cert.SguFwdIdeal.Value.pre_facts,
    Cert.Proof.Lru.mask_facts,
    fun m ρ _ => Cert.Loss.Gen.frame m ρ,
    fun m ρ _ => Cert.LossIdeal.Gen.frame m ρ,
    Cert.Proof.Loss.frame_ref,
    fun m ρ _ => Cert.Proj.Gen.frame m ρ,
    fun m ρ _ => Cert.ProjIdeal.Gen.frame m ρ,
    Cert.Proof.Proj.frame_ref,
    fun m ρ _ => Cert.Ffn.Gen.frame m ρ,
    fun m ρ _ => Cert.FfnIdeal.Gen.frame m ρ,
    fun m ρ _ => Cert.FfnIdeal.Gen.frame m ρ,
    Cert.Proof.Ffn.frame_ref,
    fun m ρ _ => Cert.Proof.Ffn.frame_ref m ρ trivial,
    fun m ρ _ => Cert.FfnW.Gen.frame m ρ,
    fun m ρ _ => Cert.FfnWIdeal.Gen.frame m ρ,
    Cert.Proof.FfnW.frame_ref,
    fun m ρ _ => Cert.Bounds.Gen.frame m ρ,
    fun m ρ _ => Cert.BoundsIdeal.Gen.frame m ρ,
    fun m ρ _ => Cert.BoundsIdeal.Gen.frame m ρ,
    Cert.Proof.Bounds.frame_ref,
    fun m ρ _ => Cert.Proof.Bounds.frame_ref m ρ trivial,
    fun m ρ _ => Cert.Sgu.Gen.frame m ρ,
    fun m ρ _ => Cert.SguIdeal.Gen.frame m ρ,
    fun m ρ _ => Cert.SguIdeal.Gen.frame m ρ,
    Cert.Proof.Sgu.frame_ref,
    fun m ρ _ => Cert.Proof.Sgu.frame_ref m ρ trivial,
    fun m ρ _ => Cert.Lru.Gen.frame m ρ,
    fun m ρ _ => Cert.LruIdeal.Gen.frame m ρ,
    fun m ρ _ => Cert.LruIdeal.Gen.frame m ρ,
    Cert.Proof.Lru.frame_ref,
    fun m ρ _ => Cert.Proof.Lru.frame_ref m ρ trivial,
    fun m ρ _ => Cert.SguFwd.Gen.frame m ρ,
    fun m ρ _ => Cert.SguFwdIdeal.Gen.frame m ρ,
    fun m ρ _ => Cert.SguFwdIdeal.Gen.frame m ρ,
    Cert.Proof.SguFwd.frame_ref,
    fun m ρ _ => Cert.Proof.SguFwd.frame_ref m ρ trivial,
    fun m ρ _ => Cert.FfnFwd.Gen.frame m ρ,
    fun m ρ _ => Cert.FfnFwdIdeal.Gen.frame m ρ,
    Cert.Proof.FfnFwd.frame_ref,
    fun m ρ _ => Cert.ProjFwd.Gen.frame m ρ,
    fun m ρ _ => Cert.ProjFwdIdeal.Gen.frame m ρ,
    Cert.Proof.ProjFwd.frame_ref,
    trivial,
    Cert.Proof.Loss.algebraic,
    trivial,
    Cert.Proof.Proj.algebraic,
    trivial,
    Cert.Proof.Ffn.algebraic,
    trivial,
    Cert.Proof.FfnW.algebraic,
    trivial,
    Cert.Proof.Bounds.algebraic,
    trivial,
    Cert.Proof.Sgu.algebraic,
    trivial,
    Cert.Proof.Lru.algebraic,
    trivial,
    Cert.Proof.SguFwd.algebraic,
    trivial,
    Cert.Proof.FfnFwd.algebraic,
    trivial,
    Cert.Proof.ProjFwd.algebraic⟩

end Cert.Proof

end
